-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WInDx (m : (ℓ : Loc Cert.WInDx.nD Cert.WInDx.τ Cert.WInDx.sig) → Buf (Elt Bits) ℓ) : Prop :=
  True

def Pre_WInDxIdeal (m : (ℓ : Loc Cert.WInDxIdeal.nD Cert.WInDxIdeal.τ Cert.WInDxIdeal.sig) → Buf (Elt Ideal) ℓ) : Prop :=
  True

def Pre_WInDxRefIdeal (m : (ℓ : Loc Cert.WInDxRefIdeal.nD Cert.WInDxRefIdeal.τ Cert.WInDxRefIdeal.sig) → Buf (Elt Ideal) ℓ) : Prop :=
  True

def Pre_WInDw (m : (ℓ : Loc Cert.WInDw.nD Cert.WInDw.τ Cert.WInDw.sig) → Buf (Elt Bits) ℓ) : Prop :=
  True

def Pre_WInDwIdeal (m : (ℓ : Loc Cert.WInDwIdeal.nD Cert.WInDwIdeal.τ Cert.WInDwIdeal.sig) → Buf (Elt Ideal) ℓ) : Prop :=
  True

def Pre_WInDwRefIdeal (m : (ℓ : Loc Cert.WInDwRefIdeal.nD Cert.WInDwRefIdeal.τ Cert.WInDwRefIdeal.sig) → Buf (Elt Ideal) ℓ) : Prop :=
  True

def Pre_Mlp1Dx (m : (ℓ : Loc Cert.Mlp1Dx.nD Cert.Mlp1Dx.τ Cert.Mlp1Dx.sig) → Buf (Elt Bits) ℓ) : Prop :=
  True

def Pre_Mlp1DxIdeal (m : (ℓ : Loc Cert.Mlp1DxIdeal.nD Cert.Mlp1DxIdeal.τ Cert.Mlp1DxIdeal.sig) → Buf (Elt Ideal) ℓ) : Prop :=
  True

def Pre_Mlp1DxRefIdeal (m : (ℓ : Loc Cert.Mlp1DxRefIdeal.nD Cert.Mlp1DxRefIdeal.τ Cert.Mlp1DxRefIdeal.sig) → Buf (Elt Ideal) ℓ) : Prop :=
  True

def Pre_Mlp1Dw (m : (ℓ : Loc Cert.Mlp1Dw.nD Cert.Mlp1Dw.τ Cert.Mlp1Dw.sig) → Buf (Elt Bits) ℓ) : Prop :=
  True

def Pre_Mlp1DwIdeal (m : (ℓ : Loc Cert.Mlp1DwIdeal.nD Cert.Mlp1DwIdeal.τ Cert.Mlp1DwIdeal.sig) → Buf (Elt Ideal) ℓ) : Prop :=
  True

def Pre_Mlp1DwRefIdeal (m : (ℓ : Loc Cert.Mlp1DwRefIdeal.nD Cert.Mlp1DwRefIdeal.τ Cert.Mlp1DwRefIdeal.sig) → Buf (Elt Ideal) ℓ) : Prop :=
  True

def Pre_Mlp2Dx (m : (ℓ : Loc Cert.Mlp2Dx.nD Cert.Mlp2Dx.τ Cert.Mlp2Dx.sig) → Buf (Elt Bits) ℓ) : Prop :=
  True

def Pre_Mlp2DxIdeal (m : (ℓ : Loc Cert.Mlp2DxIdeal.nD Cert.Mlp2DxIdeal.τ Cert.Mlp2DxIdeal.sig) → Buf (Elt Ideal) ℓ) : Prop :=
  True

def Pre_Mlp2DxRefIdeal (m : (ℓ : Loc Cert.Mlp2DxRefIdeal.nD Cert.Mlp2DxRefIdeal.τ Cert.Mlp2DxRefIdeal.sig) → Buf (Elt Ideal) ℓ) : Prop :=
  True

def Pre_Mlp2Dw (m : (ℓ : Loc Cert.Mlp2Dw.nD Cert.Mlp2Dw.τ Cert.Mlp2Dw.sig) → Buf (Elt Bits) ℓ) : Prop :=
  True

def Pre_Mlp2DwIdeal (m : (ℓ : Loc Cert.Mlp2DwIdeal.nD Cert.Mlp2DwIdeal.τ Cert.Mlp2DwIdeal.sig) → Buf (Elt Ideal) ℓ) : Prop :=
  True

def Pre_Mlp2DwRefIdeal (m : (ℓ : Loc Cert.Mlp2DwRefIdeal.nD Cert.Mlp2DwRefIdeal.τ Cert.Mlp2DwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ConvProjDx (m : (ℓ : Loc Cert.ConvProjDx.nD Cert.ConvProjDx.τ Cert.ConvProjDx.sig) → Buf (Elt Bits) ℓ) : Prop :=
  True

def Pre_ConvProjDxIdeal (m : (ℓ : Loc Cert.ConvProjDxIdeal.nD Cert.ConvProjDxIdeal.τ Cert.ConvProjDxIdeal.sig) → Buf (Elt Ideal) ℓ) : Prop :=
  True

def Pre_ConvProjDxRefIdeal (m : (ℓ : Loc Cert.ConvProjDxRefIdeal.nD Cert.ConvProjDxRefIdeal.τ Cert.ConvProjDxRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Mlp2Fwd (m : (ℓ : Loc Cert.Mlp2Fwd.nD Cert.Mlp2Fwd.τ Cert.Mlp2Fwd.sig) → Buf (Elt Bits) ℓ) : Prop :=
  True

def Pre_Mlp2FwdIdeal (m : (ℓ : Loc Cert.Mlp2FwdIdeal.nD Cert.Mlp2FwdIdeal.τ Cert.Mlp2FwdIdeal.sig) → Buf (Elt Ideal) ℓ) : Prop :=
  True

def Pre_Mlp2FwdRefIdeal (m : (ℓ : Loc Cert.Mlp2FwdRefIdeal.nD Cert.Mlp2FwdRefIdeal.τ Cert.Mlp2FwdRefIdeal.sig) → Buf (Elt Ideal) ℓ) : Prop :=
  True

def Pre_Mlp1Fwd (m : (ℓ : Loc Cert.Mlp1Fwd.nD Cert.Mlp1Fwd.τ Cert.Mlp1Fwd.sig) → Buf (Elt Bits) ℓ) : Prop :=
  True

def Pre_Mlp1FwdIdeal (m : (ℓ : Loc Cert.Mlp1FwdIdeal.nD Cert.Mlp1FwdIdeal.τ Cert.Mlp1FwdIdeal.sig) → Buf (Elt Ideal) ℓ) : Prop :=
  True

def Pre_Mlp1FwdRefIdeal (m : (ℓ : Loc Cert.Mlp1FwdRefIdeal.nD Cert.Mlp1FwdRefIdeal.τ Cert.Mlp1FwdRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Resid2Bwd (m : (ℓ : Loc Cert.Resid2Bwd.nD Cert.Resid2Bwd.τ Cert.Resid2Bwd.sig) → Buf (Elt Bits) ℓ) : Prop :=
  True

def Pre_Resid2BwdIdeal (m : (ℓ : Loc Cert.Resid2BwdIdeal.nD Cert.Resid2BwdIdeal.τ Cert.Resid2BwdIdeal.sig) → Buf (Elt Ideal) ℓ) : Prop :=
  True

def Pre_Resid2BwdRefIdeal (m : (ℓ : Loc Cert.Resid2BwdRefIdeal.nD Cert.Resid2BwdRefIdeal.τ Cert.Resid2BwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_ConvLnBwd (m : (ℓ : Loc Cert.ConvLnBwd.nD Cert.ConvLnBwd.τ Cert.ConvLnBwd.sig) → Buf (Elt Bits) ℓ) : Prop :=
  True

def Pre_ConvLnBwdIdeal (m : (ℓ : Loc Cert.ConvLnBwdIdeal.nD Cert.ConvLnBwdIdeal.τ Cert.ConvLnBwdIdeal.sig) → Buf (Elt Ideal) ℓ) : Prop :=
  True

def Pre_ConvLnBwdRefIdeal (m : (ℓ : Loc Cert.ConvLnBwdRefIdeal.nD Cert.ConvLnBwdRefIdeal.τ Cert.ConvLnBwdRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvLnFwd (m : (ℓ : Loc Cert.ConvLnFwd.nD Cert.ConvLnFwd.τ Cert.ConvLnFwd.sig) → Buf (Elt Bits) ℓ) : Prop :=
  True

def Pre_ConvLnFwdIdeal (m : (ℓ : Loc Cert.ConvLnFwdIdeal.nD Cert.ConvLnFwdIdeal.τ Cert.ConvLnFwdIdeal.sig) → Buf (Elt Ideal) ℓ) : Prop :=
  True

def Pre_ConvLnFwdRefIdeal (m : (ℓ : Loc Cert.ConvLnFwdRefIdeal.nD Cert.ConvLnFwdRefIdeal.τ Cert.ConvLnFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WInDx [hWInDx : Cert.WInDx.Facts] : Prop :=
  ∀ (m : (ℓ : Loc Cert.WInDx.nD Cert.WInDx.τ Cert.WInDx.sig) → Buf (Elt Bits) ℓ) (g : Dev Cert.WInDx.nD → PrngReg), Pre_WInDx m →
    θ_run (Cert.WInDx.defs (F := Bits)) (onTc (τ := Cert.WInDx.τ) (Cert.WInDx.main (F := Bits))) ⟨m, fun _ => 0, g⟩ (fun r => (∀ c : Dev Cert.WInDx.nD,
      r.2.mem ((c.tc : Thread Cert.WInDx.nD Cert.WInDx.τ).loc Cert.WInDx.main_arg0) = m ((c.tc : Thread Cert.WInDx.nD Cert.WInDx.τ).loc Cert.WInDx.main_arg0)
      ∧ r.2.mem ((c.tc : Thread Cert.WInDx.nD Cert.WInDx.τ).loc Cert.WInDx.main_arg1) = m ((c.tc : Thread Cert.WInDx.nD Cert.WInDx.τ).loc Cert.WInDx.main_arg1))
      ∧ r.2.sem = fun _ => 0)

def quiescent_WInDxIdeal [hWInDxIdeal : Cert.WInDxIdeal.Facts] : Prop :=
  ∀ (m : (ℓ : Loc Cert.WInDxIdeal.nD Cert.WInDxIdeal.τ Cert.WInDxIdeal.sig) → Buf (Elt Ideal) ℓ) (g : Dev Cert.WInDxIdeal.nD → PrngReg), Pre_WInDxIdeal m →
    θ_run (Cert.WInDxIdeal.defs (F := Ideal)) (onTc (τ := Cert.WInDxIdeal.τ) (Cert.WInDxIdeal.main (F := Ideal))) ⟨m, fun _ => 0, g⟩ (fun r => (∀ c : Dev Cert.WInDxIdeal.nD,
      r.2.mem ((c.tc : Thread Cert.WInDxIdeal.nD Cert.WInDxIdeal.τ).loc Cert.WInDxIdeal.main_arg0) = m ((c.tc : Thread Cert.WInDxIdeal.nD Cert.WInDxIdeal.τ).loc Cert.WInDxIdeal.main_arg0)
      ∧ r.2.mem ((c.tc : Thread Cert.WInDxIdeal.nD Cert.WInDxIdeal.τ).loc Cert.WInDxIdeal.main_arg1) = m ((c.tc : Thread Cert.WInDxIdeal.nD Cert.WInDxIdeal.τ).loc Cert.WInDxIdeal.main_arg1))
      ∧ r.2.sem = fun _ => 0)

def quiescent_WInDxRefIdeal [hWInDxRefIdeal : Cert.WInDxRefIdeal.Facts] : Prop :=
  ∀ (m : (ℓ : Loc Cert.WInDxRefIdeal.nD Cert.WInDxRefIdeal.τ Cert.WInDxRefIdeal.sig) → Buf (Elt Ideal) ℓ) (g : Dev Cert.WInDxRefIdeal.nD → PrngReg), Pre_WInDxRefIdeal m →
    θ_run (Cert.WInDxRefIdeal.defs (F := Ideal)) (onTc (τ := Cert.WInDxRefIdeal.τ) (Cert.WInDxRefIdeal.main (F := Ideal))) ⟨m, fun _ => 0, g⟩ (fun r => (∀ c : Dev Cert.WInDxRefIdeal.nD,
      r.2.mem ((c.tc : Thread Cert.WInDxRefIdeal.nD Cert.WInDxRefIdeal.τ).loc Cert.WInDxRefIdeal.main_arg0) = m ((c.tc : Thread Cert.WInDxRefIdeal.nD Cert.WInDxRefIdeal.τ).loc Cert.WInDxRefIdeal.main_arg0)
      ∧ r.2.mem ((c.tc : Thread Cert.WInDxRefIdeal.nD Cert.WInDxRefIdeal.τ).loc Cert.WInDxRefIdeal.main_arg1) = m ((c.tc : Thread Cert.WInDxRefIdeal.nD Cert.WInDxRefIdeal.τ).loc Cert.WInDxRefIdeal.main_arg1))
      ∧ r.2.sem = fun _ => 0)

def quiescent_WInDw [hWInDw : Cert.WInDw.Facts] : Prop :=
  ∀ (m : (ℓ : Loc Cert.WInDw.nD Cert.WInDw.τ Cert.WInDw.sig) → Buf (Elt Bits) ℓ) (g : Dev Cert.WInDw.nD → PrngReg), Pre_WInDw m →
    θ_run (Cert.WInDw.defs (F := Bits)) (onTc (τ := Cert.WInDw.τ) (Cert.WInDw.main (F := Bits))) ⟨m, fun _ => 0, g⟩ (fun r => (∀ c : Dev Cert.WInDw.nD,
      r.2.mem ((c.tc : Thread Cert.WInDw.nD Cert.WInDw.τ).loc Cert.WInDw.main_arg0) = m ((c.tc : Thread Cert.WInDw.nD Cert.WInDw.τ).loc Cert.WInDw.main_arg0)
      ∧ r.2.mem ((c.tc : Thread Cert.WInDw.nD Cert.WInDw.τ).loc Cert.WInDw.main_arg1) = m ((c.tc : Thread Cert.WInDw.nD Cert.WInDw.τ).loc Cert.WInDw.main_arg1))
      ∧ r.2.sem = fun _ => 0)

def quiescent_WInDwIdeal [hWInDwIdeal : Cert.WInDwIdeal.Facts] : Prop :=
  ∀ (m : (ℓ : Loc Cert.WInDwIdeal.nD Cert.WInDwIdeal.τ Cert.WInDwIdeal.sig) → Buf (Elt Ideal) ℓ) (g : Dev Cert.WInDwIdeal.nD → PrngReg), Pre_WInDwIdeal m →
    θ_run (Cert.WInDwIdeal.defs (F := Ideal)) (onTc (τ := Cert.WInDwIdeal.τ) (Cert.WInDwIdeal.main (F := Ideal))) ⟨m, fun _ => 0, g⟩ (fun r => (∀ c : Dev Cert.WInDwIdeal.nD,
      r.2.mem ((c.tc : Thread Cert.WInDwIdeal.nD Cert.WInDwIdeal.τ).loc Cert.WInDwIdeal.main_arg0) = m ((c.tc : Thread Cert.WInDwIdeal.nD Cert.WInDwIdeal.τ).loc Cert.WInDwIdeal.main_arg0)
      ∧ r.2.mem ((c.tc : Thread Cert.WInDwIdeal.nD Cert.WInDwIdeal.τ).loc Cert.WInDwIdeal.main_arg1) = m ((c.tc : Thread Cert.WInDwIdeal.nD Cert.WInDwIdeal.τ).loc Cert.WInDwIdeal.main_arg1))
      ∧ r.2.sem = fun _ => 0)

def quiescent_WInDwRefIdeal [hWInDwRefIdeal : Cert.WInDwRefIdeal.Facts] : Prop :=
  ∀ (m : (ℓ : Loc Cert.WInDwRefIdeal.nD Cert.WInDwRefIdeal.τ Cert.WInDwRefIdeal.sig) → Buf (Elt Ideal) ℓ) (g : Dev Cert.WInDwRefIdeal.nD → PrngReg), Pre_WInDwRefIdeal m →
    θ_run (Cert.WInDwRefIdeal.defs (F := Ideal)) (onTc (τ := Cert.WInDwRefIdeal.τ) (Cert.WInDwRefIdeal.main (F := Ideal))) ⟨m, fun _ => 0, g⟩ (fun r => (∀ c : Dev Cert.WInDwRefIdeal.nD,
      r.2.mem ((c.tc : Thread Cert.WInDwRefIdeal.nD Cert.WInDwRefIdeal.τ).loc Cert.WInDwRefIdeal.main_arg0) = m ((c.tc : Thread Cert.WInDwRefIdeal.nD Cert.WInDwRefIdeal.τ).loc Cert.WInDwRefIdeal.main_arg0)
      ∧ r.2.mem ((c.tc : Thread Cert.WInDwRefIdeal.nD Cert.WInDwRefIdeal.τ).loc Cert.WInDwRefIdeal.main_arg1) = m ((c.tc : Thread Cert.WInDwRefIdeal.nD Cert.WInDwRefIdeal.τ).loc Cert.WInDwRefIdeal.main_arg1))
      ∧ r.2.sem = fun _ => 0)

def quiescent_Mlp1Dx [hMlp1Dx : Cert.Mlp1Dx.Facts] : Prop :=
  ∀ (m : (ℓ : Loc Cert.Mlp1Dx.nD Cert.Mlp1Dx.τ Cert.Mlp1Dx.sig) → Buf (Elt Bits) ℓ) (g : Dev Cert.Mlp1Dx.nD → PrngReg), Pre_Mlp1Dx m →
    θ_run (Cert.Mlp1Dx.defs (F := Bits)) (onTc (τ := Cert.Mlp1Dx.τ) (Cert.Mlp1Dx.main (F := Bits))) ⟨m, fun _ => 0, g⟩ (fun r => (∀ c : Dev Cert.Mlp1Dx.nD,
      r.2.mem ((c.tc : Thread Cert.Mlp1Dx.nD Cert.Mlp1Dx.τ).loc Cert.Mlp1Dx.main_arg0) = m ((c.tc : Thread Cert.Mlp1Dx.nD Cert.Mlp1Dx.τ).loc Cert.Mlp1Dx.main_arg0)
      ∧ r.2.mem ((c.tc : Thread Cert.Mlp1Dx.nD Cert.Mlp1Dx.τ).loc Cert.Mlp1Dx.main_arg1) = m ((c.tc : Thread Cert.Mlp1Dx.nD Cert.Mlp1Dx.τ).loc Cert.Mlp1Dx.main_arg1))
      ∧ r.2.sem = fun _ => 0)

def quiescent_Mlp1DxIdeal [hMlp1DxIdeal : Cert.Mlp1DxIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg), Pre_Mlp1DxIdeal m →
    θ_run (Cert.Mlp1DxIdeal.defs (F := Ideal)) (onTc (τ := Cert.Mlp1DxIdeal.τ) (Cert.Mlp1DxIdeal.main (F := Ideal))) ⟨m, fun _ => 0, g⟩ (fun r => (∀ c : Dev Cert.Mlp1DxIdeal.nD,
      r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
      ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1))
      ∧ r.2.sem = fun _ => 0)

def quiescent_Mlp1DxRefIdeal [hMlp1DxRefIdeal : Cert.Mlp1DxRefIdeal.Facts] : Prop :=
  ∀ (m : (ℓ : Loc Cert.Mlp1DxRefIdeal.nD Cert.Mlp1DxRefIdeal.τ Cert.Mlp1DxRefIdeal.sig) → Buf (Elt Ideal) ℓ) (g : Dev Cert.Mlp1DxRefIdeal.nD → PrngReg), Pre_Mlp1DxRefIdeal m →
    θ_run (Cert.Mlp1DxRefIdeal.defs (F := Ideal)) (onTc (τ := Cert.Mlp1DxRefIdeal.τ) (Cert.Mlp1DxRefIdeal.main (F := Ideal))) ⟨m, fun _ => 0, g⟩ (fun r => (∀ c : Dev Cert.Mlp1DxRefIdeal.nD,
      r.2.mem ((c.tc : Thread Cert.Mlp1DxRefIdeal.nD Cert.Mlp1DxRefIdeal.τ).loc Cert.Mlp1DxRefIdeal.main_arg0) = m ((c.tc : Thread Cert.Mlp1DxRefIdeal.nD Cert.Mlp1DxRefIdeal.τ).loc Cert.Mlp1DxRefIdeal.main_arg0)
      ∧ r.2.mem ((c.tc : Thread Cert.Mlp1DxRefIdeal.nD Cert.Mlp1DxRefIdeal.τ).loc Cert.Mlp1DxRefIdeal.main_arg1) = m ((c.tc : Thread Cert.Mlp1DxRefIdeal.nD Cert.Mlp1DxRefIdeal.τ).loc Cert.Mlp1DxRefIdeal.main_arg1))
      ∧ r.2.sem = fun _ => 0)

def quiescent_Mlp1Dw [hMlp1Dw : Cert.Mlp1Dw.Facts] : Prop :=
  ∀ (m : (ℓ : Loc Cert.Mlp1Dw.nD Cert.Mlp1Dw.τ Cert.Mlp1Dw.sig) → Buf (Elt Bits) ℓ) (g : Dev Cert.Mlp1Dw.nD → PrngReg), Pre_Mlp1Dw m →
    θ_run (Cert.Mlp1Dw.defs (F := Bits)) (onTc (τ := Cert.Mlp1Dw.τ) (Cert.Mlp1Dw.main (F := Bits))) ⟨m, fun _ => 0, g⟩ (fun r => (∀ c : Dev Cert.Mlp1Dw.nD,
      r.2.mem ((c.tc : Thread Cert.Mlp1Dw.nD Cert.Mlp1Dw.τ).loc Cert.Mlp1Dw.main_arg0) = m ((c.tc : Thread Cert.Mlp1Dw.nD Cert.Mlp1Dw.τ).loc Cert.Mlp1Dw.main_arg0)
      ∧ r.2.mem ((c.tc : Thread Cert.Mlp1Dw.nD Cert.Mlp1Dw.τ).loc Cert.Mlp1Dw.main_arg1) = m ((c.tc : Thread Cert.Mlp1Dw.nD Cert.Mlp1Dw.τ).loc Cert.Mlp1Dw.main_arg1))
      ∧ r.2.sem = fun _ => 0)

def quiescent_Mlp1DwIdeal [hMlp1DwIdeal : Cert.Mlp1DwIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg), Pre_Mlp1DwIdeal m →
    θ_run (Cert.Mlp1DwIdeal.defs (F := Ideal)) (onTc (τ := Cert.Mlp1DwIdeal.τ) (Cert.Mlp1DwIdeal.main (F := Ideal))) ⟨m, fun _ => 0, g⟩ (fun r => (∀ c : Dev Cert.Mlp1DwIdeal.nD,
      r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
      ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1))
      ∧ r.2.sem = fun _ => 0)

def quiescent_Mlp1DwRefIdeal [hMlp1DwRefIdeal : Cert.Mlp1DwRefIdeal.Facts] : Prop :=
  ∀ (m : (ℓ : Loc Cert.Mlp1DwRefIdeal.nD Cert.Mlp1DwRefIdeal.τ Cert.Mlp1DwRefIdeal.sig) → Buf (Elt Ideal) ℓ) (g : Dev Cert.Mlp1DwRefIdeal.nD → PrngReg), Pre_Mlp1DwRefIdeal m →
    θ_run (Cert.Mlp1DwRefIdeal.defs (F := Ideal)) (onTc (τ := Cert.Mlp1DwRefIdeal.τ) (Cert.Mlp1DwRefIdeal.main (F := Ideal))) ⟨m, fun _ => 0, g⟩ (fun r => (∀ c : Dev Cert.Mlp1DwRefIdeal.nD,
      r.2.mem ((c.tc : Thread Cert.Mlp1DwRefIdeal.nD Cert.Mlp1DwRefIdeal.τ).loc Cert.Mlp1DwRefIdeal.main_arg0) = m ((c.tc : Thread Cert.Mlp1DwRefIdeal.nD Cert.Mlp1DwRefIdeal.τ).loc Cert.Mlp1DwRefIdeal.main_arg0)
      ∧ r.2.mem ((c.tc : Thread Cert.Mlp1DwRefIdeal.nD Cert.Mlp1DwRefIdeal.τ).loc Cert.Mlp1DwRefIdeal.main_arg1) = m ((c.tc : Thread Cert.Mlp1DwRefIdeal.nD Cert.Mlp1DwRefIdeal.τ).loc Cert.Mlp1DwRefIdeal.main_arg1))
      ∧ r.2.sem = fun _ => 0)

def quiescent_Mlp2Dx [hMlp2Dx : Cert.Mlp2Dx.Facts] : Prop :=
  ∀ (m : (ℓ : Loc Cert.Mlp2Dx.nD Cert.Mlp2Dx.τ Cert.Mlp2Dx.sig) → Buf (Elt Bits) ℓ) (g : Dev Cert.Mlp2Dx.nD → PrngReg), Pre_Mlp2Dx m →
    θ_run (Cert.Mlp2Dx.defs (F := Bits)) (onTc (τ := Cert.Mlp2Dx.τ) (Cert.Mlp2Dx.main (F := Bits))) ⟨m, fun _ => 0, g⟩ (fun r => (∀ c : Dev Cert.Mlp2Dx.nD,
      r.2.mem ((c.tc : Thread Cert.Mlp2Dx.nD Cert.Mlp2Dx.τ).loc Cert.Mlp2Dx.main_arg0) = m ((c.tc : Thread Cert.Mlp2Dx.nD Cert.Mlp2Dx.τ).loc Cert.Mlp2Dx.main_arg0)
      ∧ r.2.mem ((c.tc : Thread Cert.Mlp2Dx.nD Cert.Mlp2Dx.τ).loc Cert.Mlp2Dx.main_arg1) = m ((c.tc : Thread Cert.Mlp2Dx.nD Cert.Mlp2Dx.τ).loc Cert.Mlp2Dx.main_arg1)
      ∧ r.2.mem ((c.tc : Thread Cert.Mlp2Dx.nD Cert.Mlp2Dx.τ).loc Cert.Mlp2Dx.main_arg2) = m ((c.tc : Thread Cert.Mlp2Dx.nD Cert.Mlp2Dx.τ).loc Cert.Mlp2Dx.main_arg2))
      ∧ r.2.sem = fun _ => 0)

def quiescent_Mlp2DxIdeal [hMlp2DxIdeal : Cert.Mlp2DxIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg), Pre_Mlp2DxIdeal m →
    θ_run (Cert.Mlp2DxIdeal.defs (F := Ideal)) (onTc (τ := Cert.Mlp2DxIdeal.τ) (Cert.Mlp2DxIdeal.main (F := Ideal))) ⟨m, fun _ => 0, g⟩ (fun r => (∀ c : Dev Cert.Mlp2DxIdeal.nD,
      r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
      ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
      ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2))
      ∧ r.2.sem = fun _ => 0)

def quiescent_Mlp2DxRefIdeal [hMlp2DxRefIdeal : Cert.Mlp2DxRefIdeal.Facts] : Prop :=
  ∀ (m : (ℓ : Loc Cert.Mlp2DxRefIdeal.nD Cert.Mlp2DxRefIdeal.τ Cert.Mlp2DxRefIdeal.sig) → Buf (Elt Ideal) ℓ) (g : Dev Cert.Mlp2DxRefIdeal.nD → PrngReg), Pre_Mlp2DxRefIdeal m →
    θ_run (Cert.Mlp2DxRefIdeal.defs (F := Ideal)) (onTc (τ := Cert.Mlp2DxRefIdeal.τ) (Cert.Mlp2DxRefIdeal.main (F := Ideal))) ⟨m, fun _ => 0, g⟩ (fun r => (∀ c : Dev Cert.Mlp2DxRefIdeal.nD,
      r.2.mem ((c.tc : Thread Cert.Mlp2DxRefIdeal.nD Cert.Mlp2DxRefIdeal.τ).loc Cert.Mlp2DxRefIdeal.main_arg0) = m ((c.tc : Thread Cert.Mlp2DxRefIdeal.nD Cert.Mlp2DxRefIdeal.τ).loc Cert.Mlp2DxRefIdeal.main_arg0)
      ∧ r.2.mem ((c.tc : Thread Cert.Mlp2DxRefIdeal.nD Cert.Mlp2DxRefIdeal.τ).loc Cert.Mlp2DxRefIdeal.main_arg1) = m ((c.tc : Thread Cert.Mlp2DxRefIdeal.nD Cert.Mlp2DxRefIdeal.τ).loc Cert.Mlp2DxRefIdeal.main_arg1)
      ∧ r.2.mem ((c.tc : Thread Cert.Mlp2DxRefIdeal.nD Cert.Mlp2DxRefIdeal.τ).loc Cert.Mlp2DxRefIdeal.main_arg2) = m ((c.tc : Thread Cert.Mlp2DxRefIdeal.nD Cert.Mlp2DxRefIdeal.τ).loc Cert.Mlp2DxRefIdeal.main_arg2))
      ∧ r.2.sem = fun _ => 0)

def quiescent_Mlp2Dw [hMlp2Dw : Cert.Mlp2Dw.Facts] : Prop :=
  ∀ (m : (ℓ : Loc Cert.Mlp2Dw.nD Cert.Mlp2Dw.τ Cert.Mlp2Dw.sig) → Buf (Elt Bits) ℓ) (g : Dev Cert.Mlp2Dw.nD → PrngReg), Pre_Mlp2Dw m →
    θ_run (Cert.Mlp2Dw.defs (F := Bits)) (onTc (τ := Cert.Mlp2Dw.τ) (Cert.Mlp2Dw.main (F := Bits))) ⟨m, fun _ => 0, g⟩ (fun r => (∀ c : Dev Cert.Mlp2Dw.nD,
      r.2.mem ((c.tc : Thread Cert.Mlp2Dw.nD Cert.Mlp2Dw.τ).loc Cert.Mlp2Dw.main_arg0) = m ((c.tc : Thread Cert.Mlp2Dw.nD Cert.Mlp2Dw.τ).loc Cert.Mlp2Dw.main_arg0)
      ∧ r.2.mem ((c.tc : Thread Cert.Mlp2Dw.nD Cert.Mlp2Dw.τ).loc Cert.Mlp2Dw.main_arg1) = m ((c.tc : Thread Cert.Mlp2Dw.nD Cert.Mlp2Dw.τ).loc Cert.Mlp2Dw.main_arg1))
      ∧ r.2.sem = fun _ => 0)

def quiescent_Mlp2DwIdeal [hMlp2DwIdeal : Cert.Mlp2DwIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg), Pre_Mlp2DwIdeal m →
    θ_run (Cert.Mlp2DwIdeal.defs (F := Ideal)) (onTc (τ := Cert.Mlp2DwIdeal.τ) (Cert.Mlp2DwIdeal.main (F := Ideal))) ⟨m, fun _ => 0, g⟩ (fun r => (∀ c : Dev Cert.Mlp2DwIdeal.nD,
      r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
      ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1))
      ∧ r.2.sem = fun _ => 0)

def quiescent_Mlp2DwRefIdeal [hMlp2DwRefIdeal : Cert.Mlp2DwRefIdeal.Facts] : Prop :=
  ∀ (m : (ℓ : Loc Cert.Mlp2DwRefIdeal.nD Cert.Mlp2DwRefIdeal.τ Cert.Mlp2DwRefIdeal.sig) → Buf (Elt Ideal) ℓ) (g : Dev Cert.Mlp2DwRefIdeal.nD → PrngReg), Pre_Mlp2DwRefIdeal m →
    θ_run (Cert.Mlp2DwRefIdeal.defs (F := Ideal)) (onTc (τ := Cert.Mlp2DwRefIdeal.τ) (Cert.Mlp2DwRefIdeal.main (F := Ideal))) ⟨m, fun _ => 0, g⟩ (fun r => (∀ c : Dev Cert.Mlp2DwRefIdeal.nD,
      r.2.mem ((c.tc : Thread Cert.Mlp2DwRefIdeal.nD Cert.Mlp2DwRefIdeal.τ).loc Cert.Mlp2DwRefIdeal.main_arg0) = m ((c.tc : Thread Cert.Mlp2DwRefIdeal.nD Cert.Mlp2DwRefIdeal.τ).loc Cert.Mlp2DwRefIdeal.main_arg0)
      ∧ r.2.mem ((c.tc : Thread Cert.Mlp2DwRefIdeal.nD Cert.Mlp2DwRefIdeal.τ).loc Cert.Mlp2DwRefIdeal.main_arg1) = m ((c.tc : Thread Cert.Mlp2DwRefIdeal.nD Cert.Mlp2DwRefIdeal.τ).loc Cert.Mlp2DwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ConvProjDx [hConvProjDx : Cert.ConvProjDx.Facts] : Prop :=
  ∀ (m : (ℓ : Loc Cert.ConvProjDx.nD Cert.ConvProjDx.τ Cert.ConvProjDx.sig) → Buf (Elt Bits) ℓ) (g : Dev Cert.ConvProjDx.nD → PrngReg), Pre_ConvProjDx m →
    θ_run (Cert.ConvProjDx.defs (F := Bits)) (onTc (τ := Cert.ConvProjDx.τ) (Cert.ConvProjDx.main (F := Bits))) ⟨m, fun _ => 0, g⟩ (fun r => (∀ c : Dev Cert.ConvProjDx.nD,
      r.2.mem ((c.tc : Thread Cert.ConvProjDx.nD Cert.ConvProjDx.τ).loc Cert.ConvProjDx.main_arg0) = m ((c.tc : Thread Cert.ConvProjDx.nD Cert.ConvProjDx.τ).loc Cert.ConvProjDx.main_arg0)
      ∧ r.2.mem ((c.tc : Thread Cert.ConvProjDx.nD Cert.ConvProjDx.τ).loc Cert.ConvProjDx.main_arg1) = m ((c.tc : Thread Cert.ConvProjDx.nD Cert.ConvProjDx.τ).loc Cert.ConvProjDx.main_arg1))
      ∧ r.2.sem = fun _ => 0)

def quiescent_ConvProjDxIdeal [hConvProjDxIdeal : Cert.ConvProjDxIdeal.Facts] : Prop :=
  ∀ (m : (ℓ : Loc Cert.ConvProjDxIdeal.nD Cert.ConvProjDxIdeal.τ Cert.ConvProjDxIdeal.sig) → Buf (Elt Ideal) ℓ) (g : Dev Cert.ConvProjDxIdeal.nD → PrngReg), Pre_ConvProjDxIdeal m →
    θ_run (Cert.ConvProjDxIdeal.defs (F := Ideal)) (onTc (τ := Cert.ConvProjDxIdeal.τ) (Cert.ConvProjDxIdeal.main (F := Ideal))) ⟨m, fun _ => 0, g⟩ (fun r => (∀ c : Dev Cert.ConvProjDxIdeal.nD,
      r.2.mem ((c.tc : Thread Cert.ConvProjDxIdeal.nD Cert.ConvProjDxIdeal.τ).loc Cert.ConvProjDxIdeal.main_arg0) = m ((c.tc : Thread Cert.ConvProjDxIdeal.nD Cert.ConvProjDxIdeal.τ).loc Cert.ConvProjDxIdeal.main_arg0)
      ∧ r.2.mem ((c.tc : Thread Cert.ConvProjDxIdeal.nD Cert.ConvProjDxIdeal.τ).loc Cert.ConvProjDxIdeal.main_arg1) = m ((c.tc : Thread Cert.ConvProjDxIdeal.nD Cert.ConvProjDxIdeal.τ).loc Cert.ConvProjDxIdeal.main_arg1))
      ∧ r.2.sem = fun _ => 0)

def quiescent_ConvProjDxRefIdeal [hConvProjDxRefIdeal : Cert.ConvProjDxRefIdeal.Facts] : Prop :=
  ∀ (m : (ℓ : Loc Cert.ConvProjDxRefIdeal.nD Cert.ConvProjDxRefIdeal.τ Cert.ConvProjDxRefIdeal.sig) → Buf (Elt Ideal) ℓ) (g : Dev Cert.ConvProjDxRefIdeal.nD → PrngReg), Pre_ConvProjDxRefIdeal m →
    θ_run (Cert.ConvProjDxRefIdeal.defs (F := Ideal)) (onTc (τ := Cert.ConvProjDxRefIdeal.τ) (Cert.ConvProjDxRefIdeal.main (F := Ideal))) ⟨m, fun _ => 0, g⟩ (fun r => (∀ c : Dev Cert.ConvProjDxRefIdeal.nD,
      r.2.mem ((c.tc : Thread Cert.ConvProjDxRefIdeal.nD Cert.ConvProjDxRefIdeal.τ).loc Cert.ConvProjDxRefIdeal.main_arg0) = m ((c.tc : Thread Cert.ConvProjDxRefIdeal.nD Cert.ConvProjDxRefIdeal.τ).loc Cert.ConvProjDxRefIdeal.main_arg0)
      ∧ r.2.mem ((c.tc : Thread Cert.ConvProjDxRefIdeal.nD Cert.ConvProjDxRefIdeal.τ).loc Cert.ConvProjDxRefIdeal.main_arg1) = m ((c.tc : Thread Cert.ConvProjDxRefIdeal.nD Cert.ConvProjDxRefIdeal.τ).loc Cert.ConvProjDxRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_Mlp2Fwd [hMlp2Fwd : Cert.Mlp2Fwd.Facts] : Prop :=
  ∀ (m : (ℓ : Loc Cert.Mlp2Fwd.nD Cert.Mlp2Fwd.τ Cert.Mlp2Fwd.sig) → Buf (Elt Bits) ℓ) (g : Dev Cert.Mlp2Fwd.nD → PrngReg), Pre_Mlp2Fwd m →
    θ_run (Cert.Mlp2Fwd.defs (F := Bits)) (onTc (τ := Cert.Mlp2Fwd.τ) (Cert.Mlp2Fwd.main (F := Bits))) ⟨m, fun _ => 0, g⟩ (fun r => (∀ c : Dev Cert.Mlp2Fwd.nD,
      r.2.mem ((c.tc : Thread Cert.Mlp2Fwd.nD Cert.Mlp2Fwd.τ).loc Cert.Mlp2Fwd.main_arg0) = m ((c.tc : Thread Cert.Mlp2Fwd.nD Cert.Mlp2Fwd.τ).loc Cert.Mlp2Fwd.main_arg0)
      ∧ r.2.mem ((c.tc : Thread Cert.Mlp2Fwd.nD Cert.Mlp2Fwd.τ).loc Cert.Mlp2Fwd.main_arg1) = m ((c.tc : Thread Cert.Mlp2Fwd.nD Cert.Mlp2Fwd.τ).loc Cert.Mlp2Fwd.main_arg1)
      ∧ r.2.mem ((c.tc : Thread Cert.Mlp2Fwd.nD Cert.Mlp2Fwd.τ).loc Cert.Mlp2Fwd.main_arg2) = m ((c.tc : Thread Cert.Mlp2Fwd.nD Cert.Mlp2Fwd.τ).loc Cert.Mlp2Fwd.main_arg2)
      ∧ r.2.mem ((c.tc : Thread Cert.Mlp2Fwd.nD Cert.Mlp2Fwd.τ).loc Cert.Mlp2Fwd.main_arg3) = m ((c.tc : Thread Cert.Mlp2Fwd.nD Cert.Mlp2Fwd.τ).loc Cert.Mlp2Fwd.main_arg3))
      ∧ r.2.sem = fun _ => 0)

def quiescent_Mlp2FwdIdeal [hMlp2FwdIdeal : Cert.Mlp2FwdIdeal.Facts] : Prop :=
  ∀ (m : (ℓ : Loc Cert.Mlp2FwdIdeal.nD Cert.Mlp2FwdIdeal.τ Cert.Mlp2FwdIdeal.sig) → Buf (Elt Ideal) ℓ) (g : Dev Cert.Mlp2FwdIdeal.nD → PrngReg), Pre_Mlp2FwdIdeal m →
    θ_run (Cert.Mlp2FwdIdeal.defs (F := Ideal)) (onTc (τ := Cert.Mlp2FwdIdeal.τ) (Cert.Mlp2FwdIdeal.main (F := Ideal))) ⟨m, fun _ => 0, g⟩ (fun r => (∀ c : Dev Cert.Mlp2FwdIdeal.nD,
      r.2.mem ((c.tc : Thread Cert.Mlp2FwdIdeal.nD Cert.Mlp2FwdIdeal.τ).loc Cert.Mlp2FwdIdeal.main_arg0) = m ((c.tc : Thread Cert.Mlp2FwdIdeal.nD Cert.Mlp2FwdIdeal.τ).loc Cert.Mlp2FwdIdeal.main_arg0)
      ∧ r.2.mem ((c.tc : Thread Cert.Mlp2FwdIdeal.nD Cert.Mlp2FwdIdeal.τ).loc Cert.Mlp2FwdIdeal.main_arg1) = m ((c.tc : Thread Cert.Mlp2FwdIdeal.nD Cert.Mlp2FwdIdeal.τ).loc Cert.Mlp2FwdIdeal.main_arg1)
      ∧ r.2.mem ((c.tc : Thread Cert.Mlp2FwdIdeal.nD Cert.Mlp2FwdIdeal.τ).loc Cert.Mlp2FwdIdeal.main_arg2) = m ((c.tc : Thread Cert.Mlp2FwdIdeal.nD Cert.Mlp2FwdIdeal.τ).loc Cert.Mlp2FwdIdeal.main_arg2)
      ∧ r.2.mem ((c.tc : Thread Cert.Mlp2FwdIdeal.nD Cert.Mlp2FwdIdeal.τ).loc Cert.Mlp2FwdIdeal.main_arg3) = m ((c.tc : Thread Cert.Mlp2FwdIdeal.nD Cert.Mlp2FwdIdeal.τ).loc Cert.Mlp2FwdIdeal.main_arg3))
      ∧ r.2.sem = fun _ => 0)

def quiescent_Mlp2FwdRefIdeal [hMlp2FwdRefIdeal : Cert.Mlp2FwdRefIdeal.Facts] : Prop :=
  ∀ (m : (ℓ : Loc Cert.Mlp2FwdRefIdeal.nD Cert.Mlp2FwdRefIdeal.τ Cert.Mlp2FwdRefIdeal.sig) → Buf (Elt Ideal) ℓ) (g : Dev Cert.Mlp2FwdRefIdeal.nD → PrngReg), Pre_Mlp2FwdRefIdeal m →
    θ_run (Cert.Mlp2FwdRefIdeal.defs (F := Ideal)) (onTc (τ := Cert.Mlp2FwdRefIdeal.τ) (Cert.Mlp2FwdRefIdeal.main (F := Ideal))) ⟨m, fun _ => 0, g⟩ (fun r => (∀ c : Dev Cert.Mlp2FwdRefIdeal.nD,
      r.2.mem ((c.tc : Thread Cert.Mlp2FwdRefIdeal.nD Cert.Mlp2FwdRefIdeal.τ).loc Cert.Mlp2FwdRefIdeal.main_arg0) = m ((c.tc : Thread Cert.Mlp2FwdRefIdeal.nD Cert.Mlp2FwdRefIdeal.τ).loc Cert.Mlp2FwdRefIdeal.main_arg0)
      ∧ r.2.mem ((c.tc : Thread Cert.Mlp2FwdRefIdeal.nD Cert.Mlp2FwdRefIdeal.τ).loc Cert.Mlp2FwdRefIdeal.main_arg1) = m ((c.tc : Thread Cert.Mlp2FwdRefIdeal.nD Cert.Mlp2FwdRefIdeal.τ).loc Cert.Mlp2FwdRefIdeal.main_arg1)
      ∧ r.2.mem ((c.tc : Thread Cert.Mlp2FwdRefIdeal.nD Cert.Mlp2FwdRefIdeal.τ).loc Cert.Mlp2FwdRefIdeal.main_arg2) = m ((c.tc : Thread Cert.Mlp2FwdRefIdeal.nD Cert.Mlp2FwdRefIdeal.τ).loc Cert.Mlp2FwdRefIdeal.main_arg2)
      ∧ r.2.mem ((c.tc : Thread Cert.Mlp2FwdRefIdeal.nD Cert.Mlp2FwdRefIdeal.τ).loc Cert.Mlp2FwdRefIdeal.main_arg3) = m ((c.tc : Thread Cert.Mlp2FwdRefIdeal.nD Cert.Mlp2FwdRefIdeal.τ).loc Cert.Mlp2FwdRefIdeal.main_arg3))
      ∧ r.2.sem = fun _ => 0)

def quiescent_Mlp1Fwd [hMlp1Fwd : Cert.Mlp1Fwd.Facts] : Prop :=
  ∀ (m : (ℓ : Loc Cert.Mlp1Fwd.nD Cert.Mlp1Fwd.τ Cert.Mlp1Fwd.sig) → Buf (Elt Bits) ℓ) (g : Dev Cert.Mlp1Fwd.nD → PrngReg), Pre_Mlp1Fwd m →
    θ_run (Cert.Mlp1Fwd.defs (F := Bits)) (onTc (τ := Cert.Mlp1Fwd.τ) (Cert.Mlp1Fwd.main (F := Bits))) ⟨m, fun _ => 0, g⟩ (fun r => (∀ c : Dev Cert.Mlp1Fwd.nD,
      r.2.mem ((c.tc : Thread Cert.Mlp1Fwd.nD Cert.Mlp1Fwd.τ).loc Cert.Mlp1Fwd.main_arg0) = m ((c.tc : Thread Cert.Mlp1Fwd.nD Cert.Mlp1Fwd.τ).loc Cert.Mlp1Fwd.main_arg0)
      ∧ r.2.mem ((c.tc : Thread Cert.Mlp1Fwd.nD Cert.Mlp1Fwd.τ).loc Cert.Mlp1Fwd.main_arg1) = m ((c.tc : Thread Cert.Mlp1Fwd.nD Cert.Mlp1Fwd.τ).loc Cert.Mlp1Fwd.main_arg1))
      ∧ r.2.sem = fun _ => 0)

def quiescent_Mlp1FwdIdeal [hMlp1FwdIdeal : Cert.Mlp1FwdIdeal.Facts] : Prop :=
  ∀ (m : (ℓ : Loc Cert.Mlp1FwdIdeal.nD Cert.Mlp1FwdIdeal.τ Cert.Mlp1FwdIdeal.sig) → Buf (Elt Ideal) ℓ) (g : Dev Cert.Mlp1FwdIdeal.nD → PrngReg), Pre_Mlp1FwdIdeal m →
    θ_run (Cert.Mlp1FwdIdeal.defs (F := Ideal)) (onTc (τ := Cert.Mlp1FwdIdeal.τ) (Cert.Mlp1FwdIdeal.main (F := Ideal))) ⟨m, fun _ => 0, g⟩ (fun r => (∀ c : Dev Cert.Mlp1FwdIdeal.nD,
      r.2.mem ((c.tc : Thread Cert.Mlp1FwdIdeal.nD Cert.Mlp1FwdIdeal.τ).loc Cert.Mlp1FwdIdeal.main_arg0) = m ((c.tc : Thread Cert.Mlp1FwdIdeal.nD Cert.Mlp1FwdIdeal.τ).loc Cert.Mlp1FwdIdeal.main_arg0)
      ∧ r.2.mem ((c.tc : Thread Cert.Mlp1FwdIdeal.nD Cert.Mlp1FwdIdeal.τ).loc Cert.Mlp1FwdIdeal.main_arg1) = m ((c.tc : Thread Cert.Mlp1FwdIdeal.nD Cert.Mlp1FwdIdeal.τ).loc Cert.Mlp1FwdIdeal.main_arg1))
      ∧ r.2.sem = fun _ => 0)

def quiescent_Mlp1FwdRefIdeal [hMlp1FwdRefIdeal : Cert.Mlp1FwdRefIdeal.Facts] : Prop :=
  ∀ (m : (ℓ : Loc Cert.Mlp1FwdRefIdeal.nD Cert.Mlp1FwdRefIdeal.τ Cert.Mlp1FwdRefIdeal.sig) → Buf (Elt Ideal) ℓ) (g : Dev Cert.Mlp1FwdRefIdeal.nD → PrngReg), Pre_Mlp1FwdRefIdeal m →
    θ_run (Cert.Mlp1FwdRefIdeal.defs (F := Ideal)) (onTc (τ := Cert.Mlp1FwdRefIdeal.τ) (Cert.Mlp1FwdRefIdeal.main (F := Ideal))) ⟨m, fun _ => 0, g⟩ (fun r => (∀ c : Dev Cert.Mlp1FwdRefIdeal.nD,
      r.2.mem ((c.tc : Thread Cert.Mlp1FwdRefIdeal.nD Cert.Mlp1FwdRefIdeal.τ).loc Cert.Mlp1FwdRefIdeal.main_arg0) = m ((c.tc : Thread Cert.Mlp1FwdRefIdeal.nD Cert.Mlp1FwdRefIdeal.τ).loc Cert.Mlp1FwdRefIdeal.main_arg0)
      ∧ r.2.mem ((c.tc : Thread Cert.Mlp1FwdRefIdeal.nD Cert.Mlp1FwdRefIdeal.τ).loc Cert.Mlp1FwdRefIdeal.main_arg1) = m ((c.tc : Thread Cert.Mlp1FwdRefIdeal.nD Cert.Mlp1FwdRefIdeal.τ).loc Cert.Mlp1FwdRefIdeal.main_arg1))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1)
      ∧ r.2.mem ((c.tc : Thread Cert.ModDw.nD Cert.ModDw.τ).loc Cert.ModDw.main_arg2) = m ((c.tc : Thread Cert.ModDw.nD Cert.ModDw.τ).loc Cert.ModDw.main_arg2))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
      ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1)
      ∧ r.2.mem ((c.tc : Thread Cert.ModDwRefIdeal.nD Cert.ModDwRefIdeal.τ).loc Cert.ModDwRefIdeal.main_arg2) = m ((c.tc : Thread Cert.ModDwRefIdeal.nD Cert.ModDwRefIdeal.τ).loc Cert.ModDwRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6)
      ∧ r.2.mem ((c.tc : Thread Cert.AdamInRefIdeal.nD Cert.AdamInRefIdeal.τ).loc Cert.AdamInRefIdeal.main_arg7) = m ((c.tc : Thread Cert.AdamInRefIdeal.nD Cert.AdamInRefIdeal.τ).loc Cert.AdamInRefIdeal.main_arg7))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4)
      ∧ r.2.mem ((c.tc : Thread Cert.AdamProj.nD Cert.AdamProj.τ).loc Cert.AdamProj.main_arg5) = m ((c.tc : Thread Cert.AdamProj.nD Cert.AdamProj.τ).loc Cert.AdamProj.main_arg5)
      ∧ r.2.mem ((c.tc : Thread Cert.AdamProj.nD Cert.AdamProj.τ).loc Cert.AdamProj.main_arg6) = m ((c.tc : Thread Cert.AdamProj.nD Cert.AdamProj.τ).loc Cert.AdamProj.main_arg6)
      ∧ r.2.mem ((c.tc : Thread Cert.AdamProj.nD Cert.AdamProj.τ).loc Cert.AdamProj.main_arg7) = m ((c.tc : Thread Cert.AdamProj.nD Cert.AdamProj.τ).loc Cert.AdamProj.main_arg7))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
      ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5)
      ∧ r.2.mem ((c.tc : Thread Cert.AdamProjIdeal.nD Cert.AdamProjIdeal.τ).loc Cert.AdamProjIdeal.main_arg6) = m ((c.tc : Thread Cert.AdamProjIdeal.nD Cert.AdamProjIdeal.τ).loc Cert.AdamProjIdeal.main_arg6)
      ∧ r.2.mem ((c.tc : Thread Cert.AdamProjIdeal.nD Cert.AdamProjIdeal.τ).loc Cert.AdamProjIdeal.main_arg7) = m ((c.tc : Thread Cert.AdamProjIdeal.nD Cert.AdamProjIdeal.τ).loc Cert.AdamProjIdeal.main_arg7))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4)
      ∧ r.2.mem ((c.tc : Thread Cert.AdamProjRefIdeal.nD Cert.AdamProjRefIdeal.τ).loc Cert.AdamProjRefIdeal.main_arg5) = m ((c.tc : Thread Cert.AdamProjRefIdeal.nD Cert.AdamProjRefIdeal.τ).loc Cert.AdamProjRefIdeal.main_arg5)
      ∧ r.2.mem ((c.tc : Thread Cert.AdamProjRefIdeal.nD Cert.AdamProjRefIdeal.τ).loc Cert.AdamProjRefIdeal.main_arg6) = m ((c.tc : Thread Cert.AdamProjRefIdeal.nD Cert.AdamProjRefIdeal.τ).loc Cert.AdamProjRefIdeal.main_arg6)
      ∧ r.2.mem ((c.tc : Thread Cert.AdamProjRefIdeal.nD Cert.AdamProjRefIdeal.τ).loc Cert.AdamProjRefIdeal.main_arg7) = m ((c.tc : Thread Cert.AdamProjRefIdeal.nD Cert.AdamProjRefIdeal.τ).loc Cert.AdamProjRefIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6)
      ∧ r.2.mem ((c.tc : Thread Cert.AdamOutRefIdeal.nD Cert.AdamOutRefIdeal.τ).loc Cert.AdamOutRefIdeal.main_arg7) = m ((c.tc : Thread Cert.AdamOutRefIdeal.nD Cert.AdamOutRefIdeal.τ).loc Cert.AdamOutRefIdeal.main_arg7))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3)
      ∧ r.2.mem ((c.tc : Thread Cert.AdamMlp.nD Cert.AdamMlp.τ).loc Cert.AdamMlp.main_arg4) = m ((c.tc : Thread Cert.AdamMlp.nD Cert.AdamMlp.τ).loc Cert.AdamMlp.main_arg4)
      ∧ r.2.mem ((c.tc : Thread Cert.AdamMlp.nD Cert.AdamMlp.τ).loc Cert.AdamMlp.main_arg5) = m ((c.tc : Thread Cert.AdamMlp.nD Cert.AdamMlp.τ).loc Cert.AdamMlp.main_arg5)
      ∧ r.2.mem ((c.tc : Thread Cert.AdamMlp.nD Cert.AdamMlp.τ).loc Cert.AdamMlp.main_arg6) = m ((c.tc : Thread Cert.AdamMlp.nD Cert.AdamMlp.τ).loc Cert.AdamMlp.main_arg6)
      ∧ r.2.mem ((c.tc : Thread Cert.AdamMlp.nD Cert.AdamMlp.τ).loc Cert.AdamMlp.main_arg7) = m ((c.tc : Thread Cert.AdamMlp.nD Cert.AdamMlp.τ).loc Cert.AdamMlp.main_arg7))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
      ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
      ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
      ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
      ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3)
      ∧ r.2.mem ((c.tc : Thread Cert.AdamMlpRefIdeal.nD Cert.AdamMlpRefIdeal.τ).loc Cert.AdamMlpRefIdeal.main_arg4) = m ((c.tc : Thread Cert.AdamMlpRefIdeal.nD Cert.AdamMlpRefIdeal.τ).loc Cert.AdamMlpRefIdeal.main_arg4)
      ∧ r.2.mem ((c.tc : Thread Cert.AdamMlpRefIdeal.nD Cert.AdamMlpRefIdeal.τ).loc Cert.AdamMlpRefIdeal.main_arg5) = m ((c.tc : Thread Cert.AdamMlpRefIdeal.nD Cert.AdamMlpRefIdeal.τ).loc Cert.AdamMlpRefIdeal.main_arg5)
      ∧ r.2.mem ((c.tc : Thread Cert.AdamMlpRefIdeal.nD Cert.AdamMlpRefIdeal.τ).loc Cert.AdamMlpRefIdeal.main_arg6) = m ((c.tc : Thread Cert.AdamMlpRefIdeal.nD Cert.AdamMlpRefIdeal.τ).loc Cert.AdamMlpRefIdeal.main_arg6)
      ∧ r.2.mem ((c.tc : Thread Cert.AdamMlpRefIdeal.nD Cert.AdamMlpRefIdeal.τ).loc Cert.AdamMlpRefIdeal.main_arg7) = m ((c.tc : Thread Cert.AdamMlpRefIdeal.nD Cert.AdamMlpRefIdeal.τ).loc Cert.AdamMlpRefIdeal.main_arg7))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_Resid2Bwd [hResid2Bwd : Cert.Resid2Bwd.Facts] : Prop :=
  ∀ (m : (ℓ : Loc Cert.Resid2Bwd.nD Cert.Resid2Bwd.τ Cert.Resid2Bwd.sig) → Buf (Elt Bits) ℓ) (g : Dev Cert.Resid2Bwd.nD → PrngReg), Pre_Resid2Bwd m →
    θ_run (Cert.Resid2Bwd.defs (F := Bits)) (onTc (τ := Cert.Resid2Bwd.τ) (Cert.Resid2Bwd.main (F := Bits))) ⟨m, fun _ => 0, g⟩ (fun r => (∀ c : Dev Cert.Resid2Bwd.nD,
      r.2.mem ((c.tc : Thread Cert.Resid2Bwd.nD Cert.Resid2Bwd.τ).loc Cert.Resid2Bwd.main_arg0) = m ((c.tc : Thread Cert.Resid2Bwd.nD Cert.Resid2Bwd.τ).loc Cert.Resid2Bwd.main_arg0)
      ∧ r.2.mem ((c.tc : Thread Cert.Resid2Bwd.nD Cert.Resid2Bwd.τ).loc Cert.Resid2Bwd.main_arg1) = m ((c.tc : Thread Cert.Resid2Bwd.nD Cert.Resid2Bwd.τ).loc Cert.Resid2Bwd.main_arg1)
      ∧ r.2.mem ((c.tc : Thread Cert.Resid2Bwd.nD Cert.Resid2Bwd.τ).loc Cert.Resid2Bwd.main_arg2) = m ((c.tc : Thread Cert.Resid2Bwd.nD Cert.Resid2Bwd.τ).loc Cert.Resid2Bwd.main_arg2))
      ∧ r.2.sem = fun _ => 0)

def quiescent_Resid2BwdIdeal [hResid2BwdIdeal : Cert.Resid2BwdIdeal.Facts] : Prop :=
  ∀ (m : (ℓ : Loc Cert.Resid2BwdIdeal.nD Cert.Resid2BwdIdeal.τ Cert.Resid2BwdIdeal.sig) → Buf (Elt Ideal) ℓ) (g : Dev Cert.Resid2BwdIdeal.nD → PrngReg), Pre_Resid2BwdIdeal m →
    θ_run (Cert.Resid2BwdIdeal.defs (F := Ideal)) (onTc (τ := Cert.Resid2BwdIdeal.τ) (Cert.Resid2BwdIdeal.main (F := Ideal))) ⟨m, fun _ => 0, g⟩ (fun r => (∀ c : Dev Cert.Resid2BwdIdeal.nD,
      r.2.mem ((c.tc : Thread Cert.Resid2BwdIdeal.nD Cert.Resid2BwdIdeal.τ).loc Cert.Resid2BwdIdeal.main_arg0) = m ((c.tc : Thread Cert.Resid2BwdIdeal.nD Cert.Resid2BwdIdeal.τ).loc Cert.Resid2BwdIdeal.main_arg0)
      ∧ r.2.mem ((c.tc : Thread Cert.Resid2BwdIdeal.nD Cert.Resid2BwdIdeal.τ).loc Cert.Resid2BwdIdeal.main_arg1) = m ((c.tc : Thread Cert.Resid2BwdIdeal.nD Cert.Resid2BwdIdeal.τ).loc Cert.Resid2BwdIdeal.main_arg1)
      ∧ r.2.mem ((c.tc : Thread Cert.Resid2BwdIdeal.nD Cert.Resid2BwdIdeal.τ).loc Cert.Resid2BwdIdeal.main_arg2) = m ((c.tc : Thread Cert.Resid2BwdIdeal.nD Cert.Resid2BwdIdeal.τ).loc Cert.Resid2BwdIdeal.main_arg2))
      ∧ r.2.sem = fun _ => 0)

def quiescent_Resid2BwdRefIdeal [hResid2BwdRefIdeal : Cert.Resid2BwdRefIdeal.Facts] : Prop :=
  ∀ (m : (ℓ : Loc Cert.Resid2BwdRefIdeal.nD Cert.Resid2BwdRefIdeal.τ Cert.Resid2BwdRefIdeal.sig) → Buf (Elt Ideal) ℓ) (g : Dev Cert.Resid2BwdRefIdeal.nD → PrngReg), Pre_Resid2BwdRefIdeal m →
    θ_run (Cert.Resid2BwdRefIdeal.defs (F := Ideal)) (onTc (τ := Cert.Resid2BwdRefIdeal.τ) (Cert.Resid2BwdRefIdeal.main (F := Ideal))) ⟨m, fun _ => 0, g⟩ (fun r => (∀ c : Dev Cert.Resid2BwdRefIdeal.nD,
      r.2.mem ((c.tc : Thread Cert.Resid2BwdRefIdeal.nD Cert.Resid2BwdRefIdeal.τ).loc Cert.Resid2BwdRefIdeal.main_arg0) = m ((c.tc : Thread Cert.Resid2BwdRefIdeal.nD Cert.Resid2BwdRefIdeal.τ).loc Cert.Resid2BwdRefIdeal.main_arg0)
      ∧ r.2.mem ((c.tc : Thread Cert.Resid2BwdRefIdeal.nD Cert.Resid2BwdRefIdeal.τ).loc Cert.Resid2BwdRefIdeal.main_arg1) = m ((c.tc : Thread Cert.Resid2BwdRefIdeal.nD Cert.Resid2BwdRefIdeal.τ).loc Cert.Resid2BwdRefIdeal.main_arg1)
      ∧ r.2.mem ((c.tc : Thread Cert.Resid2BwdRefIdeal.nD Cert.Resid2BwdRefIdeal.τ).loc Cert.Resid2BwdRefIdeal.main_arg2) = m ((c.tc : Thread Cert.Resid2BwdRefIdeal.nD Cert.Resid2BwdRefIdeal.τ).loc Cert.Resid2BwdRefIdeal.main_arg2))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6)
      ∧ r.2.mem ((c.tc : Thread Cert.Norm2Bwd.nD Cert.Norm2Bwd.τ).loc Cert.Norm2Bwd.main_arg7) = m ((c.tc : Thread Cert.Norm2Bwd.nD Cert.Norm2Bwd.τ).loc Cert.Norm2Bwd.main_arg7))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
      ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6)
      ∧ r.2.mem ((c.tc : Thread Cert.Norm2BwdRefIdeal.nD Cert.Norm2BwdRefIdeal.τ).loc Cert.Norm2BwdRefIdeal.main_arg7) = m ((c.tc : Thread Cert.Norm2BwdRefIdeal.nD Cert.Norm2BwdRefIdeal.τ).loc Cert.Norm2BwdRefIdeal.main_arg7))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_ConvLnBwd [hConvLnBwd : Cert.ConvLnBwd.Facts] : Prop :=
  ∀ (m : (ℓ : Loc Cert.ConvLnBwd.nD Cert.ConvLnBwd.τ Cert.ConvLnBwd.sig) → Buf (Elt Bits) ℓ) (g : Dev Cert.ConvLnBwd.nD → PrngReg), Pre_ConvLnBwd m →
    θ_run (Cert.ConvLnBwd.defs (F := Bits)) (onTc (τ := Cert.ConvLnBwd.τ) (Cert.ConvLnBwd.main (F := Bits))) ⟨m, fun _ => 0, g⟩ (fun r => (∀ c : Dev Cert.ConvLnBwd.nD,
      r.2.mem ((c.tc : Thread Cert.ConvLnBwd.nD Cert.ConvLnBwd.τ).loc Cert.ConvLnBwd.main_arg0) = m ((c.tc : Thread Cert.ConvLnBwd.nD Cert.ConvLnBwd.τ).loc Cert.ConvLnBwd.main_arg0)
      ∧ r.2.mem ((c.tc : Thread Cert.ConvLnBwd.nD Cert.ConvLnBwd.τ).loc Cert.ConvLnBwd.main_arg1) = m ((c.tc : Thread Cert.ConvLnBwd.nD Cert.ConvLnBwd.τ).loc Cert.ConvLnBwd.main_arg1)
      ∧ r.2.mem ((c.tc : Thread Cert.ConvLnBwd.nD Cert.ConvLnBwd.τ).loc Cert.ConvLnBwd.main_arg2) = m ((c.tc : Thread Cert.ConvLnBwd.nD Cert.ConvLnBwd.τ).loc Cert.ConvLnBwd.main_arg2)
      ∧ r.2.mem ((c.tc : Thread Cert.ConvLnBwd.nD Cert.ConvLnBwd.τ).loc Cert.ConvLnBwd.main_arg3) = m ((c.tc : Thread Cert.ConvLnBwd.nD Cert.ConvLnBwd.τ).loc Cert.ConvLnBwd.main_arg3))
      ∧ r.2.sem = fun _ => 0)

def quiescent_ConvLnBwdIdeal [hConvLnBwdIdeal : Cert.ConvLnBwdIdeal.Facts] : Prop :=
  ∀ (m : (ℓ : Loc Cert.ConvLnBwdIdeal.nD Cert.ConvLnBwdIdeal.τ Cert.ConvLnBwdIdeal.sig) → Buf (Elt Ideal) ℓ) (g : Dev Cert.ConvLnBwdIdeal.nD → PrngReg), Pre_ConvLnBwdIdeal m →
    θ_run (Cert.ConvLnBwdIdeal.defs (F := Ideal)) (onTc (τ := Cert.ConvLnBwdIdeal.τ) (Cert.ConvLnBwdIdeal.main (F := Ideal))) ⟨m, fun _ => 0, g⟩ (fun r => (∀ c : Dev Cert.ConvLnBwdIdeal.nD,
      r.2.mem ((c.tc : Thread Cert.ConvLnBwdIdeal.nD Cert.ConvLnBwdIdeal.τ).loc Cert.ConvLnBwdIdeal.main_arg0) = m ((c.tc : Thread Cert.ConvLnBwdIdeal.nD Cert.ConvLnBwdIdeal.τ).loc Cert.ConvLnBwdIdeal.main_arg0)
      ∧ r.2.mem ((c.tc : Thread Cert.ConvLnBwdIdeal.nD Cert.ConvLnBwdIdeal.τ).loc Cert.ConvLnBwdIdeal.main_arg1) = m ((c.tc : Thread Cert.ConvLnBwdIdeal.nD Cert.ConvLnBwdIdeal.τ).loc Cert.ConvLnBwdIdeal.main_arg1)
      ∧ r.2.mem ((c.tc : Thread Cert.ConvLnBwdIdeal.nD Cert.ConvLnBwdIdeal.τ).loc Cert.ConvLnBwdIdeal.main_arg2) = m ((c.tc : Thread Cert.ConvLnBwdIdeal.nD Cert.ConvLnBwdIdeal.τ).loc Cert.ConvLnBwdIdeal.main_arg2)
      ∧ r.2.mem ((c.tc : Thread Cert.ConvLnBwdIdeal.nD Cert.ConvLnBwdIdeal.τ).loc Cert.ConvLnBwdIdeal.main_arg3) = m ((c.tc : Thread Cert.ConvLnBwdIdeal.nD Cert.ConvLnBwdIdeal.τ).loc Cert.ConvLnBwdIdeal.main_arg3))
      ∧ r.2.sem = fun _ => 0)

def quiescent_ConvLnBwdRefIdeal [hConvLnBwdRefIdeal : Cert.ConvLnBwdRefIdeal.Facts] : Prop :=
  ∀ (m : (ℓ : Loc Cert.ConvLnBwdRefIdeal.nD Cert.ConvLnBwdRefIdeal.τ Cert.ConvLnBwdRefIdeal.sig) → Buf (Elt Ideal) ℓ) (g : Dev Cert.ConvLnBwdRefIdeal.nD → PrngReg), Pre_ConvLnBwdRefIdeal m →
    θ_run (Cert.ConvLnBwdRefIdeal.defs (F := Ideal)) (onTc (τ := Cert.ConvLnBwdRefIdeal.τ) (Cert.ConvLnBwdRefIdeal.main (F := Ideal))) ⟨m, fun _ => 0, g⟩ (fun r => (∀ c : Dev Cert.ConvLnBwdRefIdeal.nD,
      r.2.mem ((c.tc : Thread Cert.ConvLnBwdRefIdeal.nD Cert.ConvLnBwdRefIdeal.τ).loc Cert.ConvLnBwdRefIdeal.main_arg0) = m ((c.tc : Thread Cert.ConvLnBwdRefIdeal.nD Cert.ConvLnBwdRefIdeal.τ).loc Cert.ConvLnBwdRefIdeal.main_arg0)
      ∧ r.2.mem ((c.tc : Thread Cert.ConvLnBwdRefIdeal.nD Cert.ConvLnBwdRefIdeal.τ).loc Cert.ConvLnBwdRefIdeal.main_arg1) = m ((c.tc : Thread Cert.ConvLnBwdRefIdeal.nD Cert.ConvLnBwdRefIdeal.τ).loc Cert.ConvLnBwdRefIdeal.main_arg1)
      ∧ r.2.mem ((c.tc : Thread Cert.ConvLnBwdRefIdeal.nD Cert.ConvLnBwdRefIdeal.τ).loc Cert.ConvLnBwdRefIdeal.main_arg2) = m ((c.tc : Thread Cert.ConvLnBwdRefIdeal.nD Cert.ConvLnBwdRefIdeal.τ).loc Cert.ConvLnBwdRefIdeal.main_arg2)
      ∧ r.2.mem ((c.tc : Thread Cert.ConvLnBwdRefIdeal.nD Cert.ConvLnBwdRefIdeal.τ).loc Cert.ConvLnBwdRefIdeal.main_arg3) = m ((c.tc : Thread Cert.ConvLnBwdRefIdeal.nD Cert.ConvLnBwdRefIdeal.τ).loc Cert.ConvLnBwdRefIdeal.main_arg3))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_ConvLnFwd [hConvLnFwd : Cert.ConvLnFwd.Facts] : Prop :=
  ∀ (m : (ℓ : Loc Cert.ConvLnFwd.nD Cert.ConvLnFwd.τ Cert.ConvLnFwd.sig) → Buf (Elt Bits) ℓ) (g : Dev Cert.ConvLnFwd.nD → PrngReg), Pre_ConvLnFwd m →
    θ_run (Cert.ConvLnFwd.defs (F := Bits)) (onTc (τ := Cert.ConvLnFwd.τ) (Cert.ConvLnFwd.main (F := Bits))) ⟨m, fun _ => 0, g⟩ (fun r => (∀ c : Dev Cert.ConvLnFwd.nD,
      r.2.mem ((c.tc : Thread Cert.ConvLnFwd.nD Cert.ConvLnFwd.τ).loc Cert.ConvLnFwd.main_arg0) = m ((c.tc : Thread Cert.ConvLnFwd.nD Cert.ConvLnFwd.τ).loc Cert.ConvLnFwd.main_arg0)
      ∧ r.2.mem ((c.tc : Thread Cert.ConvLnFwd.nD Cert.ConvLnFwd.τ).loc Cert.ConvLnFwd.main_arg1) = m ((c.tc : Thread Cert.ConvLnFwd.nD Cert.ConvLnFwd.τ).loc Cert.ConvLnFwd.main_arg1)
      ∧ r.2.mem ((c.tc : Thread Cert.ConvLnFwd.nD Cert.ConvLnFwd.τ).loc Cert.ConvLnFwd.main_arg2) = m ((c.tc : Thread Cert.ConvLnFwd.nD Cert.ConvLnFwd.τ).loc Cert.ConvLnFwd.main_arg2))
      ∧ r.2.sem = fun _ => 0)

def quiescent_ConvLnFwdIdeal [hConvLnFwdIdeal : Cert.ConvLnFwdIdeal.Facts] : Prop :=
  ∀ (m : (ℓ : Loc Cert.ConvLnFwdIdeal.nD Cert.ConvLnFwdIdeal.τ Cert.ConvLnFwdIdeal.sig) → Buf (Elt Ideal) ℓ) (g : Dev Cert.ConvLnFwdIdeal.nD → PrngReg), Pre_ConvLnFwdIdeal m →
    θ_run (Cert.ConvLnFwdIdeal.defs (F := Ideal)) (onTc (τ := Cert.ConvLnFwdIdeal.τ) (Cert.ConvLnFwdIdeal.main (F := Ideal))) ⟨m, fun _ => 0, g⟩ (fun r => (∀ c : Dev Cert.ConvLnFwdIdeal.nD,
      r.2.mem ((c.tc : Thread Cert.ConvLnFwdIdeal.nD Cert.ConvLnFwdIdeal.τ).loc Cert.ConvLnFwdIdeal.main_arg0) = m ((c.tc : Thread Cert.ConvLnFwdIdeal.nD Cert.ConvLnFwdIdeal.τ).loc Cert.ConvLnFwdIdeal.main_arg0)
      ∧ r.2.mem ((c.tc : Thread Cert.ConvLnFwdIdeal.nD Cert.ConvLnFwdIdeal.τ).loc Cert.ConvLnFwdIdeal.main_arg1) = m ((c.tc : Thread Cert.ConvLnFwdIdeal.nD Cert.ConvLnFwdIdeal.τ).loc Cert.ConvLnFwdIdeal.main_arg1)
      ∧ r.2.mem ((c.tc : Thread Cert.ConvLnFwdIdeal.nD Cert.ConvLnFwdIdeal.τ).loc Cert.ConvLnFwdIdeal.main_arg2) = m ((c.tc : Thread Cert.ConvLnFwdIdeal.nD Cert.ConvLnFwdIdeal.τ).loc Cert.ConvLnFwdIdeal.main_arg2))
      ∧ r.2.sem = fun _ => 0)

def quiescent_ConvLnFwdRefIdeal [hConvLnFwdRefIdeal : Cert.ConvLnFwdRefIdeal.Facts] : Prop :=
  ∀ (m : (ℓ : Loc Cert.ConvLnFwdRefIdeal.nD Cert.ConvLnFwdRefIdeal.τ Cert.ConvLnFwdRefIdeal.sig) → Buf (Elt Ideal) ℓ) (g : Dev Cert.ConvLnFwdRefIdeal.nD → PrngReg), Pre_ConvLnFwdRefIdeal m →
    θ_run (Cert.ConvLnFwdRefIdeal.defs (F := Ideal)) (onTc (τ := Cert.ConvLnFwdRefIdeal.τ) (Cert.ConvLnFwdRefIdeal.main (F := Ideal))) ⟨m, fun _ => 0, g⟩ (fun r => (∀ c : Dev Cert.ConvLnFwdRefIdeal.nD,
      r.2.mem ((c.tc : Thread Cert.ConvLnFwdRefIdeal.nD Cert.ConvLnFwdRefIdeal.τ).loc Cert.ConvLnFwdRefIdeal.main_arg0) = m ((c.tc : Thread Cert.ConvLnFwdRefIdeal.nD Cert.ConvLnFwdRefIdeal.τ).loc Cert.ConvLnFwdRefIdeal.main_arg0)
      ∧ r.2.mem ((c.tc : Thread Cert.ConvLnFwdRefIdeal.nD Cert.ConvLnFwdRefIdeal.τ).loc Cert.ConvLnFwdRefIdeal.main_arg1) = m ((c.tc : Thread Cert.ConvLnFwdRefIdeal.nD Cert.ConvLnFwdRefIdeal.τ).loc Cert.ConvLnFwdRefIdeal.main_arg1)
      ∧ r.2.mem ((c.tc : Thread Cert.ConvLnFwdRefIdeal.nD Cert.ConvLnFwdRefIdeal.τ).loc Cert.ConvLnFwdRefIdeal.main_arg2) = m ((c.tc : Thread Cert.ConvLnFwdRefIdeal.nD Cert.ConvLnFwdRefIdeal.τ).loc Cert.ConvLnFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v586) = v0 c
          ∧ r.2.mem ((c.tc : Thread Cert.ReferenceIdeal.nD Cert.ReferenceIdeal.τ).loc Cert.ReferenceIdeal.main_v587) = v1 c
          ∧ r.2.mem ((c.tc : Thread Cert.ReferenceIdeal.nD Cert.ReferenceIdeal.τ).loc Cert.ReferenceIdeal.main_v588) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_WInDx_WInDxIdeal : Prop :=
  True

def algebraic_WInDxIdeal_WInDxRefIdeal [hWInDxIdeal : Cert.WInDxIdeal.Facts] [hWInDxRefIdeal : Cert.WInDxRefIdeal.Facts] : Prop :=
  ∀ (m : (ℓ : Loc Cert.WInDxIdeal.nD Cert.WInDxIdeal.τ Cert.WInDxIdeal.sig) → Buf (Elt Ideal) ℓ) (g : Dev Cert.WInDxIdeal.nD → PrngReg)
    (m' : (ℓ : Loc Cert.WInDxRefIdeal.nD Cert.WInDxRefIdeal.τ Cert.WInDxRefIdeal.sig) → Buf (Elt Ideal) ℓ) (g' : Dev Cert.WInDxRefIdeal.nD → PrngReg), Pre_WInDxIdeal m →
    (∀ c : Dev Cert.WInDxIdeal.nD,
      m' ((c.tc : Thread Cert.WInDxRefIdeal.nD Cert.WInDxRefIdeal.τ).loc Cert.WInDxRefIdeal.main_arg0) = m ((c.tc : Thread Cert.WInDxIdeal.nD Cert.WInDxIdeal.τ).loc Cert.WInDxIdeal.main_arg0)
      ∧ m' ((c.tc : Thread Cert.WInDxRefIdeal.nD Cert.WInDxRefIdeal.τ).loc Cert.WInDxRefIdeal.main_arg1) = m ((c.tc : Thread Cert.WInDxIdeal.nD Cert.WInDxIdeal.τ).loc Cert.WInDxIdeal.main_arg1)) →
    ∃ (v0 : (c : Dev Cert.WInDxIdeal.nD) → Buf (Elt Ideal) ((c.tc : Thread Cert.WInDxIdeal.nD Cert.WInDxIdeal.τ).loc Cert.WInDxIdeal.main_v0)),
      θ_run (Cert.WInDxIdeal.defs (F := Ideal)) (onTc (τ := Cert.WInDxIdeal.τ) (Cert.WInDxIdeal.main (F := Ideal))) ⟨m, fun _ => 0, g⟩ (fun r => ∀ c : Dev Cert.WInDxIdeal.nD,
          r.2.mem ((c.tc : Thread Cert.WInDxIdeal.nD Cert.WInDxIdeal.τ).loc Cert.WInDxIdeal.main_v0) = v0 c
          ∧ r.2.mem ((c.tc : Thread Cert.WInDxIdeal.nD Cert.WInDxIdeal.τ).loc Cert.WInDxIdeal.main_arg0) = m ((c.tc : Thread Cert.WInDxIdeal.nD Cert.WInDxIdeal.τ).loc Cert.WInDxIdeal.main_arg0)
          ∧ r.2.mem ((c.tc : Thread Cert.WInDxIdeal.nD Cert.WInDxIdeal.τ).loc Cert.WInDxIdeal.main_arg1) = m ((c.tc : Thread Cert.WInDxIdeal.nD Cert.WInDxIdeal.τ).loc Cert.WInDxIdeal.main_arg1))
      ∧ θ_run (Cert.WInDxRefIdeal.defs (F := Ideal)) (onTc (τ := Cert.WInDxRefIdeal.τ) (Cert.WInDxRefIdeal.main (F := Ideal))) ⟨m', fun _ => 0, g'⟩ (fun r => ∀ c : Dev Cert.WInDxRefIdeal.nD,
          r.2.mem ((c.tc : Thread Cert.WInDxRefIdeal.nD Cert.WInDxRefIdeal.τ).loc Cert.WInDxRefIdeal.main_v4) = v0 c
          ∧ r.2.mem ((c.tc : Thread Cert.WInDxRefIdeal.nD Cert.WInDxRefIdeal.τ).loc Cert.WInDxRefIdeal.main_arg0) = m' ((c.tc : Thread Cert.WInDxRefIdeal.nD Cert.WInDxRefIdeal.τ).loc Cert.WInDxRefIdeal.main_arg0)
          ∧ r.2.mem ((c.tc : Thread Cert.WInDxRefIdeal.nD Cert.WInDxRefIdeal.τ).loc Cert.WInDxRefIdeal.main_arg1) = m' ((c.tc : Thread Cert.WInDxRefIdeal.nD Cert.WInDxRefIdeal.τ).loc Cert.WInDxRefIdeal.main_arg1))

def preserves_WInDw_WInDwIdeal : Prop :=
  True

def algebraic_WInDwIdeal_WInDwRefIdeal [hWInDwIdeal : Cert.WInDwIdeal.Facts] [hWInDwRefIdeal : Cert.WInDwRefIdeal.Facts] : Prop :=
  ∀ (m : (ℓ : Loc Cert.WInDwIdeal.nD Cert.WInDwIdeal.τ Cert.WInDwIdeal.sig) → Buf (Elt Ideal) ℓ) (g : Dev Cert.WInDwIdeal.nD → PrngReg)
    (m' : (ℓ : Loc Cert.WInDwRefIdeal.nD Cert.WInDwRefIdeal.τ Cert.WInDwRefIdeal.sig) → Buf (Elt Ideal) ℓ) (g' : Dev Cert.WInDwRefIdeal.nD → PrngReg), Pre_WInDwIdeal m →
    (∀ c : Dev Cert.WInDwIdeal.nD,
      m' ((c.tc : Thread Cert.WInDwRefIdeal.nD Cert.WInDwRefIdeal.τ).loc Cert.WInDwRefIdeal.main_arg0) = m ((c.tc : Thread Cert.WInDwIdeal.nD Cert.WInDwIdeal.τ).loc Cert.WInDwIdeal.main_arg0)
      ∧ m' ((c.tc : Thread Cert.WInDwRefIdeal.nD Cert.WInDwRefIdeal.τ).loc Cert.WInDwRefIdeal.main_arg1) = m ((c.tc : Thread Cert.WInDwIdeal.nD Cert.WInDwIdeal.τ).loc Cert.WInDwIdeal.main_arg1)) →
    ∃ (v0 : (c : Dev Cert.WInDwIdeal.nD) → Buf (Elt Ideal) ((c.tc : Thread Cert.WInDwIdeal.nD Cert.WInDwIdeal.τ).loc Cert.WInDwIdeal.main_v0)),
      θ_run (Cert.WInDwIdeal.defs (F := Ideal)) (onTc (τ := Cert.WInDwIdeal.τ) (Cert.WInDwIdeal.main (F := Ideal))) ⟨m, fun _ => 0, g⟩ (fun r => ∀ c : Dev Cert.WInDwIdeal.nD,
          r.2.mem ((c.tc : Thread Cert.WInDwIdeal.nD Cert.WInDwIdeal.τ).loc Cert.WInDwIdeal.main_v0) = v0 c
          ∧ r.2.mem ((c.tc : Thread Cert.WInDwIdeal.nD Cert.WInDwIdeal.τ).loc Cert.WInDwIdeal.main_arg0) = m ((c.tc : Thread Cert.WInDwIdeal.nD Cert.WInDwIdeal.τ).loc Cert.WInDwIdeal.main_arg0)
          ∧ r.2.mem ((c.tc : Thread Cert.WInDwIdeal.nD Cert.WInDwIdeal.τ).loc Cert.WInDwIdeal.main_arg1) = m ((c.tc : Thread Cert.WInDwIdeal.nD Cert.WInDwIdeal.τ).loc Cert.WInDwIdeal.main_arg1))
      ∧ θ_run (Cert.WInDwRefIdeal.defs (F := Ideal)) (onTc (τ := Cert.WInDwRefIdeal.τ) (Cert.WInDwRefIdeal.main (F := Ideal))) ⟨m', fun _ => 0, g'⟩ (fun r => ∀ c : Dev Cert.WInDwRefIdeal.nD,
          r.2.mem ((c.tc : Thread Cert.WInDwRefIdeal.nD Cert.WInDwRefIdeal.τ).loc Cert.WInDwRefIdeal.main_v5) = v0 c
          ∧ r.2.mem ((c.tc : Thread Cert.WInDwRefIdeal.nD Cert.WInDwRefIdeal.τ).loc Cert.WInDwRefIdeal.main_arg0) = m' ((c.tc : Thread Cert.WInDwRefIdeal.nD Cert.WInDwRefIdeal.τ).loc Cert.WInDwRefIdeal.main_arg0)
          ∧ r.2.mem ((c.tc : Thread Cert.WInDwRefIdeal.nD Cert.WInDwRefIdeal.τ).loc Cert.WInDwRefIdeal.main_arg1) = m' ((c.tc : Thread Cert.WInDwRefIdeal.nD Cert.WInDwRefIdeal.τ).loc Cert.WInDwRefIdeal.main_arg1))

def preserves_Mlp1Dx_Mlp1DxIdeal : Prop :=
  True

def algebraic_Mlp1DxIdeal_Mlp1DxRefIdeal [hMlp1DxIdeal : Cert.Mlp1DxIdeal.Facts] [hMlp1DxRefIdeal : Cert.Mlp1DxRefIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg)
    (m' : (ℓ : Loc Cert.Mlp1DxRefIdeal.nD Cert.Mlp1DxRefIdeal.τ Cert.Mlp1DxRefIdeal.sig) → Buf (Elt Ideal) ℓ) (g' : Dev Cert.Mlp1DxRefIdeal.nD → PrngReg), Pre_Mlp1DxIdeal m →
    (∀ c : Dev Cert.Mlp1DxIdeal.nD,
      m' ((c.tc : Thread Cert.Mlp1DxRefIdeal.nD Cert.Mlp1DxRefIdeal.τ).loc Cert.Mlp1DxRefIdeal.main_arg0) = m ((c.tc : Thread Cert.Mlp1DxIdeal.nD Cert.Mlp1DxIdeal.τ).loc Cert.Mlp1DxIdeal.main_arg0)
      ∧ m' ((c.tc : Thread Cert.Mlp1DxRefIdeal.nD Cert.Mlp1DxRefIdeal.τ).loc Cert.Mlp1DxRefIdeal.main_arg1) = m ((c.tc : Thread Cert.Mlp1DxIdeal.nD Cert.Mlp1DxIdeal.τ).loc Cert.Mlp1DxIdeal.main_arg1)) →
    ∃ (v0 : (c : Dev Cert.Mlp1DxIdeal.nD) → Buf (Elt Ideal) ((c.tc : Thread Cert.Mlp1DxIdeal.nD Cert.Mlp1DxIdeal.τ).loc Cert.Mlp1DxIdeal.main_v0)),
      θ_run (Cert.Mlp1DxIdeal.defs (F := Ideal)) (onTc (τ := Cert.Mlp1DxIdeal.τ) (Cert.Mlp1DxIdeal.main (F := Ideal))) ⟨m, fun _ => 0, g⟩ (fun r => ∀ c : Dev Cert.Mlp1DxIdeal.nD,
          r.2.mem ((c.tc : Thread Cert.Mlp1DxIdeal.nD Cert.Mlp1DxIdeal.τ).loc Cert.Mlp1DxIdeal.main_v0) = v0 c
          ∧ r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
          ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1))
      ∧ θ_run (Cert.Mlp1DxRefIdeal.defs (F := Ideal)) (onTc (τ := Cert.Mlp1DxRefIdeal.τ) (Cert.Mlp1DxRefIdeal.main (F := Ideal))) ⟨m', fun _ => 0, g'⟩ (fun r => ∀ c : Dev Cert.Mlp1DxRefIdeal.nD,
          r.2.mem ((c.tc : Thread Cert.Mlp1DxRefIdeal.nD Cert.Mlp1DxRefIdeal.τ).loc Cert.Mlp1DxRefIdeal.main_v4) = v0 c
          ∧ r.2.mem ((c.tc : Thread Cert.Mlp1DxRefIdeal.nD Cert.Mlp1DxRefIdeal.τ).loc Cert.Mlp1DxRefIdeal.main_arg0) = m' ((c.tc : Thread Cert.Mlp1DxRefIdeal.nD Cert.Mlp1DxRefIdeal.τ).loc Cert.Mlp1DxRefIdeal.main_arg0)
          ∧ r.2.mem ((c.tc : Thread Cert.Mlp1DxRefIdeal.nD Cert.Mlp1DxRefIdeal.τ).loc Cert.Mlp1DxRefIdeal.main_arg1) = m' ((c.tc : Thread Cert.Mlp1DxRefIdeal.nD Cert.Mlp1DxRefIdeal.τ).loc Cert.Mlp1DxRefIdeal.main_arg1))

def preserves_Mlp1Dw_Mlp1DwIdeal : Prop :=
  True

def algebraic_Mlp1DwIdeal_Mlp1DwRefIdeal [hMlp1DwIdeal : Cert.Mlp1DwIdeal.Facts] [hMlp1DwRefIdeal : Cert.Mlp1DwRefIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg)
    (m' : (ℓ : Loc Cert.Mlp1DwRefIdeal.nD Cert.Mlp1DwRefIdeal.τ Cert.Mlp1DwRefIdeal.sig) → Buf (Elt Ideal) ℓ) (g' : Dev Cert.Mlp1DwRefIdeal.nD → PrngReg), Pre_Mlp1DwIdeal m →
    (∀ c : Dev Cert.Mlp1DwIdeal.nD,
      m' ((c.tc : Thread Cert.Mlp1DwRefIdeal.nD Cert.Mlp1DwRefIdeal.τ).loc Cert.Mlp1DwRefIdeal.main_arg0) = m ((c.tc : Thread Cert.Mlp1DwIdeal.nD Cert.Mlp1DwIdeal.τ).loc Cert.Mlp1DwIdeal.main_arg0)
      ∧ m' ((c.tc : Thread Cert.Mlp1DwRefIdeal.nD Cert.Mlp1DwRefIdeal.τ).loc Cert.Mlp1DwRefIdeal.main_arg1) = m ((c.tc : Thread Cert.Mlp1DwIdeal.nD Cert.Mlp1DwIdeal.τ).loc Cert.Mlp1DwIdeal.main_arg1)) →
    ∃ (v0 : (c : Dev Cert.Mlp1DwIdeal.nD) → Buf (Elt Ideal) ((c.tc : Thread Cert.Mlp1DwIdeal.nD Cert.Mlp1DwIdeal.τ).loc Cert.Mlp1DwIdeal.main_v0)),
      θ_run (Cert.Mlp1DwIdeal.defs (F := Ideal)) (onTc (τ := Cert.Mlp1DwIdeal.τ) (Cert.Mlp1DwIdeal.main (F := Ideal))) ⟨m, fun _ => 0, g⟩ (fun r => ∀ c : Dev Cert.Mlp1DwIdeal.nD,
          r.2.mem ((c.tc : Thread Cert.Mlp1DwIdeal.nD Cert.Mlp1DwIdeal.τ).loc Cert.Mlp1DwIdeal.main_v0) = v0 c
          ∧ r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
          ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1))
      ∧ θ_run (Cert.Mlp1DwRefIdeal.defs (F := Ideal)) (onTc (τ := Cert.Mlp1DwRefIdeal.τ) (Cert.Mlp1DwRefIdeal.main (F := Ideal))) ⟨m', fun _ => 0, g'⟩ (fun r => ∀ c : Dev Cert.Mlp1DwRefIdeal.nD,
          r.2.mem ((c.tc : Thread Cert.Mlp1DwRefIdeal.nD Cert.Mlp1DwRefIdeal.τ).loc Cert.Mlp1DwRefIdeal.main_v5) = v0 c
          ∧ r.2.mem ((c.tc : Thread Cert.Mlp1DwRefIdeal.nD Cert.Mlp1DwRefIdeal.τ).loc Cert.Mlp1DwRefIdeal.main_arg0) = m' ((c.tc : Thread Cert.Mlp1DwRefIdeal.nD Cert.Mlp1DwRefIdeal.τ).loc Cert.Mlp1DwRefIdeal.main_arg0)
          ∧ r.2.mem ((c.tc : Thread Cert.Mlp1DwRefIdeal.nD Cert.Mlp1DwRefIdeal.τ).loc Cert.Mlp1DwRefIdeal.main_arg1) = m' ((c.tc : Thread Cert.Mlp1DwRefIdeal.nD Cert.Mlp1DwRefIdeal.τ).loc Cert.Mlp1DwRefIdeal.main_arg1))

def preserves_Mlp2Dx_Mlp2DxIdeal : Prop :=
  True

def algebraic_Mlp2DxIdeal_Mlp2DxRefIdeal [hMlp2DxIdeal : Cert.Mlp2DxIdeal.Facts] [hMlp2DxRefIdeal : Cert.Mlp2DxRefIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg)
    (m' : (ℓ : Loc Cert.Mlp2DxRefIdeal.nD Cert.Mlp2DxRefIdeal.τ Cert.Mlp2DxRefIdeal.sig) → Buf (Elt Ideal) ℓ) (g' : Dev Cert.Mlp2DxRefIdeal.nD → PrngReg), Pre_Mlp2DxIdeal m →
    (∀ c : Dev Cert.Mlp2DxIdeal.nD,
      m' ((c.tc : Thread Cert.Mlp2DxRefIdeal.nD Cert.Mlp2DxRefIdeal.τ).loc Cert.Mlp2DxRefIdeal.main_arg0) = m ((c.tc : Thread Cert.Mlp2DxIdeal.nD Cert.Mlp2DxIdeal.τ).loc Cert.Mlp2DxIdeal.main_arg0)
      ∧ m' ((c.tc : Thread Cert.Mlp2DxRefIdeal.nD Cert.Mlp2DxRefIdeal.τ).loc Cert.Mlp2DxRefIdeal.main_arg1) = m ((c.tc : Thread Cert.Mlp2DxIdeal.nD Cert.Mlp2DxIdeal.τ).loc Cert.Mlp2DxIdeal.main_arg1)
      ∧ m' ((c.tc : Thread Cert.Mlp2DxRefIdeal.nD Cert.Mlp2DxRefIdeal.τ).loc Cert.Mlp2DxRefIdeal.main_arg2) = m ((c.tc : Thread Cert.Mlp2DxIdeal.nD Cert.Mlp2DxIdeal.τ).loc Cert.Mlp2DxIdeal.main_arg2)) →
    ∃ (v0 : (c : Dev Cert.Mlp2DxIdeal.nD) → Buf (Elt Ideal) ((c.tc : Thread Cert.Mlp2DxIdeal.nD Cert.Mlp2DxIdeal.τ).loc Cert.Mlp2DxIdeal.main_v0)),
      θ_run (Cert.Mlp2DxIdeal.defs (F := Ideal)) (onTc (τ := Cert.Mlp2DxIdeal.τ) (Cert.Mlp2DxIdeal.main (F := Ideal))) ⟨m, fun _ => 0, g⟩ (fun r => ∀ c : Dev Cert.Mlp2DxIdeal.nD,
          r.2.mem ((c.tc : Thread Cert.Mlp2DxIdeal.nD Cert.Mlp2DxIdeal.τ).loc Cert.Mlp2DxIdeal.main_v0) = v0 c
          ∧ r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
          ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
          ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2))
      ∧ θ_run (Cert.Mlp2DxRefIdeal.defs (F := Ideal)) (onTc (τ := Cert.Mlp2DxRefIdeal.τ) (Cert.Mlp2DxRefIdeal.main (F := Ideal))) ⟨m', fun _ => 0, g'⟩ (fun r => ∀ c : Dev Cert.Mlp2DxRefIdeal.nD,
          r.2.mem ((c.tc : Thread Cert.Mlp2DxRefIdeal.nD Cert.Mlp2DxRefIdeal.τ).loc Cert.Mlp2DxRefIdeal.main_v14) = v0 c
          ∧ r.2.mem ((c.tc : Thread Cert.Mlp2DxRefIdeal.nD Cert.Mlp2DxRefIdeal.τ).loc Cert.Mlp2DxRefIdeal.main_arg0) = m' ((c.tc : Thread Cert.Mlp2DxRefIdeal.nD Cert.Mlp2DxRefIdeal.τ).loc Cert.Mlp2DxRefIdeal.main_arg0)
          ∧ r.2.mem ((c.tc : Thread Cert.Mlp2DxRefIdeal.nD Cert.Mlp2DxRefIdeal.τ).loc Cert.Mlp2DxRefIdeal.main_arg1) = m' ((c.tc : Thread Cert.Mlp2DxRefIdeal.nD Cert.Mlp2DxRefIdeal.τ).loc Cert.Mlp2DxRefIdeal.main_arg1)
          ∧ r.2.mem ((c.tc : Thread Cert.Mlp2DxRefIdeal.nD Cert.Mlp2DxRefIdeal.τ).loc Cert.Mlp2DxRefIdeal.main_arg2) = m' ((c.tc : Thread Cert.Mlp2DxRefIdeal.nD Cert.Mlp2DxRefIdeal.τ).loc Cert.Mlp2DxRefIdeal.main_arg2))

def preserves_Mlp2Dw_Mlp2DwIdeal : Prop :=
  True

def algebraic_Mlp2DwIdeal_Mlp2DwRefIdeal [hMlp2DwIdeal : Cert.Mlp2DwIdeal.Facts] [hMlp2DwRefIdeal : Cert.Mlp2DwRefIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg)
    (m' : (ℓ : Loc Cert.Mlp2DwRefIdeal.nD Cert.Mlp2DwRefIdeal.τ Cert.Mlp2DwRefIdeal.sig) → Buf (Elt Ideal) ℓ) (g' : Dev Cert.Mlp2DwRefIdeal.nD → PrngReg), Pre_Mlp2DwIdeal m →
    (∀ c : Dev Cert.Mlp2DwIdeal.nD,
      m' ((c.tc : Thread Cert.Mlp2DwRefIdeal.nD Cert.Mlp2DwRefIdeal.τ).loc Cert.Mlp2DwRefIdeal.main_arg0) = m ((c.tc : Thread Cert.Mlp2DwIdeal.nD Cert.Mlp2DwIdeal.τ).loc Cert.Mlp2DwIdeal.main_arg0)
      ∧ m' ((c.tc : Thread Cert.Mlp2DwRefIdeal.nD Cert.Mlp2DwRefIdeal.τ).loc Cert.Mlp2DwRefIdeal.main_arg1) = m ((c.tc : Thread Cert.Mlp2DwIdeal.nD Cert.Mlp2DwIdeal.τ).loc Cert.Mlp2DwIdeal.main_arg1)) →
    ∃ (v0 : (c : Dev Cert.Mlp2DwIdeal.nD) → Buf (Elt Ideal) ((c.tc : Thread Cert.Mlp2DwIdeal.nD Cert.Mlp2DwIdeal.τ).loc Cert.Mlp2DwIdeal.main_v0)),
      θ_run (Cert.Mlp2DwIdeal.defs (F := Ideal)) (onTc (τ := Cert.Mlp2DwIdeal.τ) (Cert.Mlp2DwIdeal.main (F := Ideal))) ⟨m, fun _ => 0, g⟩ (fun r => ∀ c : Dev Cert.Mlp2DwIdeal.nD,
          r.2.mem ((c.tc : Thread Cert.Mlp2DwIdeal.nD Cert.Mlp2DwIdeal.τ).loc Cert.Mlp2DwIdeal.main_v0) = v0 c
          ∧ r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
          ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1))
      ∧ θ_run (Cert.Mlp2DwRefIdeal.defs (F := Ideal)) (onTc (τ := Cert.Mlp2DwRefIdeal.τ) (Cert.Mlp2DwRefIdeal.main (F := Ideal))) ⟨m', fun _ => 0, g'⟩ (fun r => ∀ c : Dev Cert.Mlp2DwRefIdeal.nD,
          r.2.mem ((c.tc : Thread Cert.Mlp2DwRefIdeal.nD Cert.Mlp2DwRefIdeal.τ).loc Cert.Mlp2DwRefIdeal.main_v5) = v0 c
          ∧ r.2.mem ((c.tc : Thread Cert.Mlp2DwRefIdeal.nD Cert.Mlp2DwRefIdeal.τ).loc Cert.Mlp2DwRefIdeal.main_arg0) = m' ((c.tc : Thread Cert.Mlp2DwRefIdeal.nD Cert.Mlp2DwRefIdeal.τ).loc Cert.Mlp2DwRefIdeal.main_arg0)
          ∧ r.2.mem ((c.tc : Thread Cert.Mlp2DwRefIdeal.nD Cert.Mlp2DwRefIdeal.τ).loc Cert.Mlp2DwRefIdeal.main_arg1) = m' ((c.tc : Thread Cert.Mlp2DwRefIdeal.nD Cert.Mlp2DwRefIdeal.τ).loc Cert.Mlp2DwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ConvProjDx_ConvProjDxIdeal : Prop :=
  True

def algebraic_ConvProjDxIdeal_ConvProjDxRefIdeal [hConvProjDxIdeal : Cert.ConvProjDxIdeal.Facts] [hConvProjDxRefIdeal : Cert.ConvProjDxRefIdeal.Facts] : Prop :=
  ∀ (m : (ℓ : Loc Cert.ConvProjDxIdeal.nD Cert.ConvProjDxIdeal.τ Cert.ConvProjDxIdeal.sig) → Buf (Elt Ideal) ℓ) (g : Dev Cert.ConvProjDxIdeal.nD → PrngReg)
    (m' : (ℓ : Loc Cert.ConvProjDxRefIdeal.nD Cert.ConvProjDxRefIdeal.τ Cert.ConvProjDxRefIdeal.sig) → Buf (Elt Ideal) ℓ) (g' : Dev Cert.ConvProjDxRefIdeal.nD → PrngReg), Pre_ConvProjDxIdeal m →
    (∀ c : Dev Cert.ConvProjDxIdeal.nD,
      m' ((c.tc : Thread Cert.ConvProjDxRefIdeal.nD Cert.ConvProjDxRefIdeal.τ).loc Cert.ConvProjDxRefIdeal.main_arg0) = m ((c.tc : Thread Cert.ConvProjDxIdeal.nD Cert.ConvProjDxIdeal.τ).loc Cert.ConvProjDxIdeal.main_arg0)
      ∧ m' ((c.tc : Thread Cert.ConvProjDxRefIdeal.nD Cert.ConvProjDxRefIdeal.τ).loc Cert.ConvProjDxRefIdeal.main_arg1) = m ((c.tc : Thread Cert.ConvProjDxIdeal.nD Cert.ConvProjDxIdeal.τ).loc Cert.ConvProjDxIdeal.main_arg1)) →
    ∃ (v0 : (c : Dev Cert.ConvProjDxIdeal.nD) → Buf (Elt Ideal) ((c.tc : Thread Cert.ConvProjDxIdeal.nD Cert.ConvProjDxIdeal.τ).loc Cert.ConvProjDxIdeal.main_v0)),
      θ_run (Cert.ConvProjDxIdeal.defs (F := Ideal)) (onTc (τ := Cert.ConvProjDxIdeal.τ) (Cert.ConvProjDxIdeal.main (F := Ideal))) ⟨m, fun _ => 0, g⟩ (fun r => ∀ c : Dev Cert.ConvProjDxIdeal.nD,
          r.2.mem ((c.tc : Thread Cert.ConvProjDxIdeal.nD Cert.ConvProjDxIdeal.τ).loc Cert.ConvProjDxIdeal.main_v0) = v0 c
          ∧ r.2.mem ((c.tc : Thread Cert.ConvProjDxIdeal.nD Cert.ConvProjDxIdeal.τ).loc Cert.ConvProjDxIdeal.main_arg0) = m ((c.tc : Thread Cert.ConvProjDxIdeal.nD Cert.ConvProjDxIdeal.τ).loc Cert.ConvProjDxIdeal.main_arg0)
          ∧ r.2.mem ((c.tc : Thread Cert.ConvProjDxIdeal.nD Cert.ConvProjDxIdeal.τ).loc Cert.ConvProjDxIdeal.main_arg1) = m ((c.tc : Thread Cert.ConvProjDxIdeal.nD Cert.ConvProjDxIdeal.τ).loc Cert.ConvProjDxIdeal.main_arg1))
      ∧ θ_run (Cert.ConvProjDxRefIdeal.defs (F := Ideal)) (onTc (τ := Cert.ConvProjDxRefIdeal.τ) (Cert.ConvProjDxRefIdeal.main (F := Ideal))) ⟨m', fun _ => 0, g'⟩ (fun r => ∀ c : Dev Cert.ConvProjDxRefIdeal.nD,
          r.2.mem ((c.tc : Thread Cert.ConvProjDxRefIdeal.nD Cert.ConvProjDxRefIdeal.τ).loc Cert.ConvProjDxRefIdeal.main_v4) = v0 c
          ∧ r.2.mem ((c.tc : Thread Cert.ConvProjDxRefIdeal.nD Cert.ConvProjDxRefIdeal.τ).loc Cert.ConvProjDxRefIdeal.main_arg0) = m' ((c.tc : Thread Cert.ConvProjDxRefIdeal.nD Cert.ConvProjDxRefIdeal.τ).loc Cert.ConvProjDxRefIdeal.main_arg0)
          ∧ r.2.mem ((c.tc : Thread Cert.ConvProjDxRefIdeal.nD Cert.ConvProjDxRefIdeal.τ).loc Cert.ConvProjDxRefIdeal.main_arg1) = m' ((c.tc : Thread Cert.ConvProjDxRefIdeal.nD Cert.ConvProjDxRefIdeal.τ).loc Cert.ConvProjDxRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v5) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v2) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_v7) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_Mlp2Fwd_Mlp2FwdIdeal : Prop :=
  True

def algebraic_Mlp2FwdIdeal_Mlp2FwdRefIdeal [hMlp2FwdIdeal : Cert.Mlp2FwdIdeal.Facts] [hMlp2FwdRefIdeal : Cert.Mlp2FwdRefIdeal.Facts] : Prop :=
  ∀ (m : (ℓ : Loc Cert.Mlp2FwdIdeal.nD Cert.Mlp2FwdIdeal.τ Cert.Mlp2FwdIdeal.sig) → Buf (Elt Ideal) ℓ) (g : Dev Cert.Mlp2FwdIdeal.nD → PrngReg)
    (m' : (ℓ : Loc Cert.Mlp2FwdRefIdeal.nD Cert.Mlp2FwdRefIdeal.τ Cert.Mlp2FwdRefIdeal.sig) → Buf (Elt Ideal) ℓ) (g' : Dev Cert.Mlp2FwdRefIdeal.nD → PrngReg), Pre_Mlp2FwdIdeal m →
    (∀ c : Dev Cert.Mlp2FwdIdeal.nD,
      m' ((c.tc : Thread Cert.Mlp2FwdRefIdeal.nD Cert.Mlp2FwdRefIdeal.τ).loc Cert.Mlp2FwdRefIdeal.main_arg0) = m ((c.tc : Thread Cert.Mlp2FwdIdeal.nD Cert.Mlp2FwdIdeal.τ).loc Cert.Mlp2FwdIdeal.main_arg0)
      ∧ m' ((c.tc : Thread Cert.Mlp2FwdRefIdeal.nD Cert.Mlp2FwdRefIdeal.τ).loc Cert.Mlp2FwdRefIdeal.main_arg1) = m ((c.tc : Thread Cert.Mlp2FwdIdeal.nD Cert.Mlp2FwdIdeal.τ).loc Cert.Mlp2FwdIdeal.main_arg1)
      ∧ m' ((c.tc : Thread Cert.Mlp2FwdRefIdeal.nD Cert.Mlp2FwdRefIdeal.τ).loc Cert.Mlp2FwdRefIdeal.main_arg2) = m ((c.tc : Thread Cert.Mlp2FwdIdeal.nD Cert.Mlp2FwdIdeal.τ).loc Cert.Mlp2FwdIdeal.main_arg2)
      ∧ m' ((c.tc : Thread Cert.Mlp2FwdRefIdeal.nD Cert.Mlp2FwdRefIdeal.τ).loc Cert.Mlp2FwdRefIdeal.main_arg3) = m ((c.tc : Thread Cert.Mlp2FwdIdeal.nD Cert.Mlp2FwdIdeal.τ).loc Cert.Mlp2FwdIdeal.main_arg3)) →
    ∃ (v0 : (c : Dev Cert.Mlp2FwdIdeal.nD) → Buf (Elt Ideal) ((c.tc : Thread Cert.Mlp2FwdIdeal.nD Cert.Mlp2FwdIdeal.τ).loc Cert.Mlp2FwdIdeal.main_v0_0)) (v1 : (c : Dev Cert.Mlp2FwdIdeal.nD) → Buf (Elt Ideal) ((c.tc : Thread Cert.Mlp2FwdIdeal.nD Cert.Mlp2FwdIdeal.τ).loc Cert.Mlp2FwdIdeal.main_v0_1)),
      θ_run (Cert.Mlp2FwdIdeal.defs (F := Ideal)) (onTc (τ := Cert.Mlp2FwdIdeal.τ) (Cert.Mlp2FwdIdeal.main (F := Ideal))) ⟨m, fun _ => 0, g⟩ (fun r => ∀ c : Dev Cert.Mlp2FwdIdeal.nD,
          r.2.mem ((c.tc : Thread Cert.Mlp2FwdIdeal.nD Cert.Mlp2FwdIdeal.τ).loc Cert.Mlp2FwdIdeal.main_v0_0) = v0 c
          ∧ r.2.mem ((c.tc : Thread Cert.Mlp2FwdIdeal.nD Cert.Mlp2FwdIdeal.τ).loc Cert.Mlp2FwdIdeal.main_v0_1) = v1 c
          ∧ r.2.mem ((c.tc : Thread Cert.Mlp2FwdIdeal.nD Cert.Mlp2FwdIdeal.τ).loc Cert.Mlp2FwdIdeal.main_arg0) = m ((c.tc : Thread Cert.Mlp2FwdIdeal.nD Cert.Mlp2FwdIdeal.τ).loc Cert.Mlp2FwdIdeal.main_arg0)
          ∧ r.2.mem ((c.tc : Thread Cert.Mlp2FwdIdeal.nD Cert.Mlp2FwdIdeal.τ).loc Cert.Mlp2FwdIdeal.main_arg1) = m ((c.tc : Thread Cert.Mlp2FwdIdeal.nD Cert.Mlp2FwdIdeal.τ).loc Cert.Mlp2FwdIdeal.main_arg1)
          ∧ r.2.mem ((c.tc : Thread Cert.Mlp2FwdIdeal.nD Cert.Mlp2FwdIdeal.τ).loc Cert.Mlp2FwdIdeal.main_arg2) = m ((c.tc : Thread Cert.Mlp2FwdIdeal.nD Cert.Mlp2FwdIdeal.τ).loc Cert.Mlp2FwdIdeal.main_arg2)
          ∧ r.2.mem ((c.tc : Thread Cert.Mlp2FwdIdeal.nD Cert.Mlp2FwdIdeal.τ).loc Cert.Mlp2FwdIdeal.main_arg3) = m ((c.tc : Thread Cert.Mlp2FwdIdeal.nD Cert.Mlp2FwdIdeal.τ).loc Cert.Mlp2FwdIdeal.main_arg3))
      ∧ θ_run (Cert.Mlp2FwdRefIdeal.defs (F := Ideal)) (onTc (τ := Cert.Mlp2FwdRefIdeal.τ) (Cert.Mlp2FwdRefIdeal.main (F := Ideal))) ⟨m', fun _ => 0, g'⟩ (fun r => ∀ c : Dev Cert.Mlp2FwdRefIdeal.nD,
          r.2.mem ((c.tc : Thread Cert.Mlp2FwdRefIdeal.nD Cert.Mlp2FwdRefIdeal.τ).loc Cert.Mlp2FwdRefIdeal.main_v2) = v0 c
          ∧ r.2.mem ((c.tc : Thread Cert.Mlp2FwdRefIdeal.nD Cert.Mlp2FwdRefIdeal.τ).loc Cert.Mlp2FwdRefIdeal.main_v7) = v1 c
          ∧ r.2.mem ((c.tc : Thread Cert.Mlp2FwdRefIdeal.nD Cert.Mlp2FwdRefIdeal.τ).loc Cert.Mlp2FwdRefIdeal.main_arg0) = m' ((c.tc : Thread Cert.Mlp2FwdRefIdeal.nD Cert.Mlp2FwdRefIdeal.τ).loc Cert.Mlp2FwdRefIdeal.main_arg0)
          ∧ r.2.mem ((c.tc : Thread Cert.Mlp2FwdRefIdeal.nD Cert.Mlp2FwdRefIdeal.τ).loc Cert.Mlp2FwdRefIdeal.main_arg1) = m' ((c.tc : Thread Cert.Mlp2FwdRefIdeal.nD Cert.Mlp2FwdRefIdeal.τ).loc Cert.Mlp2FwdRefIdeal.main_arg1)
          ∧ r.2.mem ((c.tc : Thread Cert.Mlp2FwdRefIdeal.nD Cert.Mlp2FwdRefIdeal.τ).loc Cert.Mlp2FwdRefIdeal.main_arg2) = m' ((c.tc : Thread Cert.Mlp2FwdRefIdeal.nD Cert.Mlp2FwdRefIdeal.τ).loc Cert.Mlp2FwdRefIdeal.main_arg2)
          ∧ r.2.mem ((c.tc : Thread Cert.Mlp2FwdRefIdeal.nD Cert.Mlp2FwdRefIdeal.τ).loc Cert.Mlp2FwdRefIdeal.main_arg3) = m' ((c.tc : Thread Cert.Mlp2FwdRefIdeal.nD Cert.Mlp2FwdRefIdeal.τ).loc Cert.Mlp2FwdRefIdeal.main_arg3))

def preserves_Mlp1Fwd_Mlp1FwdIdeal : Prop :=
  True

def algebraic_Mlp1FwdIdeal_Mlp1FwdRefIdeal [hMlp1FwdIdeal : Cert.Mlp1FwdIdeal.Facts] [hMlp1FwdRefIdeal : Cert.Mlp1FwdRefIdeal.Facts] : Prop :=
  ∀ (m : (ℓ : Loc Cert.Mlp1FwdIdeal.nD Cert.Mlp1FwdIdeal.τ Cert.Mlp1FwdIdeal.sig) → Buf (Elt Ideal) ℓ) (g : Dev Cert.Mlp1FwdIdeal.nD → PrngReg)
    (m' : (ℓ : Loc Cert.Mlp1FwdRefIdeal.nD Cert.Mlp1FwdRefIdeal.τ Cert.Mlp1FwdRefIdeal.sig) → Buf (Elt Ideal) ℓ) (g' : Dev Cert.Mlp1FwdRefIdeal.nD → PrngReg), Pre_Mlp1FwdIdeal m →
    (∀ c : Dev Cert.Mlp1FwdIdeal.nD,
      m' ((c.tc : Thread Cert.Mlp1FwdRefIdeal.nD Cert.Mlp1FwdRefIdeal.τ).loc Cert.Mlp1FwdRefIdeal.main_arg0) = m ((c.tc : Thread Cert.Mlp1FwdIdeal.nD Cert.Mlp1FwdIdeal.τ).loc Cert.Mlp1FwdIdeal.main_arg0)
      ∧ m' ((c.tc : Thread Cert.Mlp1FwdRefIdeal.nD Cert.Mlp1FwdRefIdeal.τ).loc Cert.Mlp1FwdRefIdeal.main_arg1) = m ((c.tc : Thread Cert.Mlp1FwdIdeal.nD Cert.Mlp1FwdIdeal.τ).loc Cert.Mlp1FwdIdeal.main_arg1)) →
    ∃ (v0 : (c : Dev Cert.Mlp1FwdIdeal.nD) → Buf (Elt Ideal) ((c.tc : Thread Cert.Mlp1FwdIdeal.nD Cert.Mlp1FwdIdeal.τ).loc Cert.Mlp1FwdIdeal.main_v0_0)) (v1 : (c : Dev Cert.Mlp1FwdIdeal.nD) → Buf (Elt Ideal) ((c.tc : Thread Cert.Mlp1FwdIdeal.nD Cert.Mlp1FwdIdeal.τ).loc Cert.Mlp1FwdIdeal.main_v0_1)),
      θ_run (Cert.Mlp1FwdIdeal.defs (F := Ideal)) (onTc (τ := Cert.Mlp1FwdIdeal.τ) (Cert.Mlp1FwdIdeal.main (F := Ideal))) ⟨m, fun _ => 0, g⟩ (fun r => ∀ c : Dev Cert.Mlp1FwdIdeal.nD,
          r.2.mem ((c.tc : Thread Cert.Mlp1FwdIdeal.nD Cert.Mlp1FwdIdeal.τ).loc Cert.Mlp1FwdIdeal.main_v0_0) = v0 c
          ∧ r.2.mem ((c.tc : Thread Cert.Mlp1FwdIdeal.nD Cert.Mlp1FwdIdeal.τ).loc Cert.Mlp1FwdIdeal.main_v0_1) = v1 c
          ∧ r.2.mem ((c.tc : Thread Cert.Mlp1FwdIdeal.nD Cert.Mlp1FwdIdeal.τ).loc Cert.Mlp1FwdIdeal.main_arg0) = m ((c.tc : Thread Cert.Mlp1FwdIdeal.nD Cert.Mlp1FwdIdeal.τ).loc Cert.Mlp1FwdIdeal.main_arg0)
          ∧ r.2.mem ((c.tc : Thread Cert.Mlp1FwdIdeal.nD Cert.Mlp1FwdIdeal.τ).loc Cert.Mlp1FwdIdeal.main_arg1) = m ((c.tc : Thread Cert.Mlp1FwdIdeal.nD Cert.Mlp1FwdIdeal.τ).loc Cert.Mlp1FwdIdeal.main_arg1))
      ∧ θ_run (Cert.Mlp1FwdRefIdeal.defs (F := Ideal)) (onTc (τ := Cert.Mlp1FwdRefIdeal.τ) (Cert.Mlp1FwdRefIdeal.main (F := Ideal))) ⟨m', fun _ => 0, g'⟩ (fun r => ∀ c : Dev Cert.Mlp1FwdRefIdeal.nD,
          r.2.mem ((c.tc : Thread Cert.Mlp1FwdRefIdeal.nD Cert.Mlp1FwdRefIdeal.τ).loc Cert.Mlp1FwdRefIdeal.main_v2) = v0 c
          ∧ r.2.mem ((c.tc : Thread Cert.Mlp1FwdRefIdeal.nD Cert.Mlp1FwdRefIdeal.τ).loc Cert.Mlp1FwdRefIdeal.main_v5) = v1 c
          ∧ r.2.mem ((c.tc : Thread Cert.Mlp1FwdRefIdeal.nD Cert.Mlp1FwdRefIdeal.τ).loc Cert.Mlp1FwdRefIdeal.main_arg0) = m' ((c.tc : Thread Cert.Mlp1FwdRefIdeal.nD Cert.Mlp1FwdRefIdeal.τ).loc Cert.Mlp1FwdRefIdeal.main_arg0)
          ∧ r.2.mem ((c.tc : Thread Cert.Mlp1FwdRefIdeal.nD Cert.Mlp1FwdRefIdeal.τ).loc Cert.Mlp1FwdRefIdeal.main_arg1) = m' ((c.tc : Thread Cert.Mlp1FwdRefIdeal.nD Cert.Mlp1FwdRefIdeal.τ).loc Cert.Mlp1FwdRefIdeal.main_arg1))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)) →
    ∃ (v0 : (c : Dev Cert.ModFwdIdeal.nD) → Buf (Elt Ideal) ((c.tc : Thread Cert.ModFwdIdeal.nD Cert.ModFwdIdeal.τ).loc Cert.ModFwdIdeal.main_v0)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v0) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v2) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)
      ∧ m' ((c.tc : Thread Cert.ModDwRefIdeal.nD Cert.ModDwRefIdeal.τ).loc Cert.ModDwRefIdeal.main_arg2) = m ((c.tc : Thread Cert.ModDwIdeal.nD Cert.ModDwIdeal.τ).loc Cert.ModDwIdeal.main_arg2)) →
    ∃ (v0 : (c : Dev Cert.ModDwIdeal.nD) → Buf (Elt Ideal) ((c.tc : Thread Cert.ModDwIdeal.nD Cert.ModDwIdeal.τ).loc Cert.ModDwIdeal.main_v0)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v0) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1)
          ∧ r.2.mem ((c.tc : Thread Cert.ModDwIdeal.nD Cert.ModDwIdeal.τ).loc Cert.ModDwIdeal.main_arg2) = m ((c.tc : Thread Cert.ModDwIdeal.nD Cert.ModDwIdeal.τ).loc Cert.ModDwIdeal.main_arg2))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v8) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1)
          ∧ r.2.mem ((c.tc : Thread Cert.ModDwRefIdeal.nD Cert.ModDwRefIdeal.τ).loc Cert.ModDwRefIdeal.main_arg2) = m' ((c.tc : Thread Cert.ModDwRefIdeal.nD Cert.ModDwRefIdeal.τ).loc Cert.ModDwRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)
      ∧ m' ((c.tc : Thread Cert.AdamInRefIdeal.nD Cert.AdamInRefIdeal.τ).loc Cert.AdamInRefIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v34) = v0 c
          ∧ r.2.mem ((c.tc : Thread Cert.AdamInRefIdeal.nD Cert.AdamInRefIdeal.τ).loc Cert.AdamInRefIdeal.main_v39) = v1 c
          ∧ r.2.mem ((c.tc : Thread Cert.AdamInRefIdeal.nD Cert.AdamInRefIdeal.τ).loc Cert.AdamInRefIdeal.main_v44) = v2 c
          ∧ r.2.mem ((c.tc : Thread Cert.AdamInRefIdeal.nD Cert.AdamInRefIdeal.τ).loc Cert.AdamInRefIdeal.main_v49) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6)
          ∧ r.2.mem ((c.tc : Thread Cert.AdamInRefIdeal.nD Cert.AdamInRefIdeal.τ).loc Cert.AdamInRefIdeal.main_arg7) = m' ((c.tc : Thread Cert.AdamInRefIdeal.nD Cert.AdamInRefIdeal.τ).loc Cert.AdamInRefIdeal.main_arg7))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)
      ∧ m' ((c.tc : Thread Cert.AdamProjRefIdeal.nD Cert.AdamProjRefIdeal.τ).loc Cert.AdamProjRefIdeal.main_arg5) = m ((c.tc : Thread Cert.AdamProjIdeal.nD Cert.AdamProjIdeal.τ).loc Cert.AdamProjIdeal.main_arg5)
      ∧ m' ((c.tc : Thread Cert.AdamProjRefIdeal.nD Cert.AdamProjRefIdeal.τ).loc Cert.AdamProjRefIdeal.main_arg6) = m ((c.tc : Thread Cert.AdamProjIdeal.nD Cert.AdamProjIdeal.τ).loc Cert.AdamProjIdeal.main_arg6)
      ∧ m' ((c.tc : Thread Cert.AdamProjRefIdeal.nD Cert.AdamProjRefIdeal.τ).loc Cert.AdamProjRefIdeal.main_arg7) = m ((c.tc : Thread Cert.AdamProjIdeal.nD Cert.AdamProjIdeal.τ).loc Cert.AdamProjIdeal.main_arg7)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
          ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5)
          ∧ r.2.mem ((c.tc : Thread Cert.AdamProjIdeal.nD Cert.AdamProjIdeal.τ).loc Cert.AdamProjIdeal.main_arg6) = m ((c.tc : Thread Cert.AdamProjIdeal.nD Cert.AdamProjIdeal.τ).loc Cert.AdamProjIdeal.main_arg6)
          ∧ r.2.mem ((c.tc : Thread Cert.AdamProjIdeal.nD Cert.AdamProjIdeal.τ).loc Cert.AdamProjIdeal.main_arg7) = m ((c.tc : Thread Cert.AdamProjIdeal.nD Cert.AdamProjIdeal.τ).loc Cert.AdamProjIdeal.main_arg7))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v34) = v0 c
          ∧ r.2.mem ((c.tc : Thread Cert.AdamProjRefIdeal.nD Cert.AdamProjRefIdeal.τ).loc Cert.AdamProjRefIdeal.main_v39) = v1 c
          ∧ r.2.mem ((c.tc : Thread Cert.AdamProjRefIdeal.nD Cert.AdamProjRefIdeal.τ).loc Cert.AdamProjRefIdeal.main_v44) = v2 c
          ∧ r.2.mem ((c.tc : Thread Cert.AdamProjRefIdeal.nD Cert.AdamProjRefIdeal.τ).loc Cert.AdamProjRefIdeal.main_v49) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4)
          ∧ r.2.mem ((c.tc : Thread Cert.AdamProjRefIdeal.nD Cert.AdamProjRefIdeal.τ).loc Cert.AdamProjRefIdeal.main_arg5) = m' ((c.tc : Thread Cert.AdamProjRefIdeal.nD Cert.AdamProjRefIdeal.τ).loc Cert.AdamProjRefIdeal.main_arg5)
          ∧ r.2.mem ((c.tc : Thread Cert.AdamProjRefIdeal.nD Cert.AdamProjRefIdeal.τ).loc Cert.AdamProjRefIdeal.main_arg6) = m' ((c.tc : Thread Cert.AdamProjRefIdeal.nD Cert.AdamProjRefIdeal.τ).loc Cert.AdamProjRefIdeal.main_arg6)
          ∧ r.2.mem ((c.tc : Thread Cert.AdamProjRefIdeal.nD Cert.AdamProjRefIdeal.τ).loc Cert.AdamProjRefIdeal.main_arg7) = m' ((c.tc : Thread Cert.AdamProjRefIdeal.nD Cert.AdamProjRefIdeal.τ).loc Cert.AdamProjRefIdeal.main_arg7))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)
      ∧ m' ((c.tc : Thread Cert.AdamOutRefIdeal.nD Cert.AdamOutRefIdeal.τ).loc Cert.AdamOutRefIdeal.main_arg7) = m ((c.tc : Thread Cert.AdamOutIdeal.nD Cert.AdamOutIdeal.τ).loc Cert.AdamOutIdeal.main_arg7)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v34) = v0 c
          ∧ r.2.mem ((c.tc : Thread Cert.AdamOutRefIdeal.nD Cert.AdamOutRefIdeal.τ).loc Cert.AdamOutRefIdeal.main_v39) = v1 c
          ∧ r.2.mem ((c.tc : Thread Cert.AdamOutRefIdeal.nD Cert.AdamOutRefIdeal.τ).loc Cert.AdamOutRefIdeal.main_v44) = v2 c
          ∧ r.2.mem ((c.tc : Thread Cert.AdamOutRefIdeal.nD Cert.AdamOutRefIdeal.τ).loc Cert.AdamOutRefIdeal.main_v49) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6)
          ∧ r.2.mem ((c.tc : Thread Cert.AdamOutRefIdeal.nD Cert.AdamOutRefIdeal.τ).loc Cert.AdamOutRefIdeal.main_arg7) = m' ((c.tc : Thread Cert.AdamOutRefIdeal.nD Cert.AdamOutRefIdeal.τ).loc Cert.AdamOutRefIdeal.main_arg7))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)
      ∧ m' ((c.tc : Thread Cert.AdamMlpRefIdeal.nD Cert.AdamMlpRefIdeal.τ).loc Cert.AdamMlpRefIdeal.main_arg4) = m ((c.tc : Thread Cert.AdamMlpIdeal.nD Cert.AdamMlpIdeal.τ).loc Cert.AdamMlpIdeal.main_arg4)
      ∧ m' ((c.tc : Thread Cert.AdamMlpRefIdeal.nD Cert.AdamMlpRefIdeal.τ).loc Cert.AdamMlpRefIdeal.main_arg5) = m ((c.tc : Thread Cert.AdamMlpIdeal.nD Cert.AdamMlpIdeal.τ).loc Cert.AdamMlpIdeal.main_arg5)
      ∧ m' ((c.tc : Thread Cert.AdamMlpRefIdeal.nD Cert.AdamMlpRefIdeal.τ).loc Cert.AdamMlpRefIdeal.main_arg6) = m ((c.tc : Thread Cert.AdamMlpIdeal.nD Cert.AdamMlpIdeal.τ).loc Cert.AdamMlpIdeal.main_arg6)
      ∧ m' ((c.tc : Thread Cert.AdamMlpRefIdeal.nD Cert.AdamMlpRefIdeal.τ).loc Cert.AdamMlpRefIdeal.main_arg7) = m ((c.tc : Thread Cert.AdamMlpIdeal.nD Cert.AdamMlpIdeal.τ).loc Cert.AdamMlpIdeal.main_arg7)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)) (v3 : (c : Dev Cert.AdamMlpIdeal.nD) → Buf (Elt Ideal) ((c.tc : Thread Cert.AdamMlpIdeal.nD Cert.AdamMlpIdeal.τ).loc Cert.AdamMlpIdeal.main_v0_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_v0_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
          ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
          ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
          ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
          ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v34) = v0 c
          ∧ r.2.mem ((c.tc : Thread Cert.AdamMlpRefIdeal.nD Cert.AdamMlpRefIdeal.τ).loc Cert.AdamMlpRefIdeal.main_v39) = v1 c
          ∧ r.2.mem ((c.tc : Thread Cert.AdamMlpRefIdeal.nD Cert.AdamMlpRefIdeal.τ).loc Cert.AdamMlpRefIdeal.main_v44) = v2 c
          ∧ r.2.mem ((c.tc : Thread Cert.AdamMlpRefIdeal.nD Cert.AdamMlpRefIdeal.τ).loc Cert.AdamMlpRefIdeal.main_v49) = v3 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3)
          ∧ r.2.mem ((c.tc : Thread Cert.AdamMlpRefIdeal.nD Cert.AdamMlpRefIdeal.τ).loc Cert.AdamMlpRefIdeal.main_arg4) = m' ((c.tc : Thread Cert.AdamMlpRefIdeal.nD Cert.AdamMlpRefIdeal.τ).loc Cert.AdamMlpRefIdeal.main_arg4)
          ∧ r.2.mem ((c.tc : Thread Cert.AdamMlpRefIdeal.nD Cert.AdamMlpRefIdeal.τ).loc Cert.AdamMlpRefIdeal.main_arg5) = m' ((c.tc : Thread Cert.AdamMlpRefIdeal.nD Cert.AdamMlpRefIdeal.τ).loc Cert.AdamMlpRefIdeal.main_arg5)
          ∧ r.2.mem ((c.tc : Thread Cert.AdamMlpRefIdeal.nD Cert.AdamMlpRefIdeal.τ).loc Cert.AdamMlpRefIdeal.main_arg6) = m' ((c.tc : Thread Cert.AdamMlpRefIdeal.nD Cert.AdamMlpRefIdeal.τ).loc Cert.AdamMlpRefIdeal.main_arg6)
          ∧ r.2.mem ((c.tc : Thread Cert.AdamMlpRefIdeal.nD Cert.AdamMlpRefIdeal.τ).loc Cert.AdamMlpRefIdeal.main_arg7) = m' ((c.tc : Thread Cert.AdamMlpRefIdeal.nD Cert.AdamMlpRefIdeal.τ).loc Cert.AdamMlpRefIdeal.main_arg7))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v23) = v0 c
          ∧ r.2.mem ((c.tc : Thread Cert.AdamModRefIdeal.nD Cert.AdamModRefIdeal.τ).loc Cert.AdamModRefIdeal.main_v4) = v1 c
          ∧ r.2.mem ((c.tc : Thread Cert.AdamModRefIdeal.nD Cert.AdamModRefIdeal.τ).loc Cert.AdamModRefIdeal.main_v10) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v18) = v0 c
          ∧ r.2.mem ((c.tc : Thread Cert.LossHeadRefIdeal.nD Cert.LossHeadRefIdeal.τ).loc Cert.LossHeadRefIdeal.main_v19) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_Resid2Bwd_Resid2BwdIdeal : Prop :=
  True

def algebraic_Resid2BwdIdeal_Resid2BwdRefIdeal [hResid2BwdIdeal : Cert.Resid2BwdIdeal.Facts] [hResid2BwdRefIdeal : Cert.Resid2BwdRefIdeal.Facts] : Prop :=
  ∀ (m : (ℓ : Loc Cert.Resid2BwdIdeal.nD Cert.Resid2BwdIdeal.τ Cert.Resid2BwdIdeal.sig) → Buf (Elt Ideal) ℓ) (g : Dev Cert.Resid2BwdIdeal.nD → PrngReg)
    (m' : (ℓ : Loc Cert.Resid2BwdRefIdeal.nD Cert.Resid2BwdRefIdeal.τ Cert.Resid2BwdRefIdeal.sig) → Buf (Elt Ideal) ℓ) (g' : Dev Cert.Resid2BwdRefIdeal.nD → PrngReg), Pre_Resid2BwdIdeal m →
    (∀ c : Dev Cert.Resid2BwdIdeal.nD,
      m' ((c.tc : Thread Cert.Resid2BwdRefIdeal.nD Cert.Resid2BwdRefIdeal.τ).loc Cert.Resid2BwdRefIdeal.main_arg0) = m ((c.tc : Thread Cert.Resid2BwdIdeal.nD Cert.Resid2BwdIdeal.τ).loc Cert.Resid2BwdIdeal.main_arg0)
      ∧ m' ((c.tc : Thread Cert.Resid2BwdRefIdeal.nD Cert.Resid2BwdRefIdeal.τ).loc Cert.Resid2BwdRefIdeal.main_arg1) = m ((c.tc : Thread Cert.Resid2BwdIdeal.nD Cert.Resid2BwdIdeal.τ).loc Cert.Resid2BwdIdeal.main_arg1)
      ∧ m' ((c.tc : Thread Cert.Resid2BwdRefIdeal.nD Cert.Resid2BwdRefIdeal.τ).loc Cert.Resid2BwdRefIdeal.main_arg2) = m ((c.tc : Thread Cert.Resid2BwdIdeal.nD Cert.Resid2BwdIdeal.τ).loc Cert.Resid2BwdIdeal.main_arg2)) →
    ∃ (v0 : (c : Dev Cert.Resid2BwdIdeal.nD) → Buf (Elt Ideal) ((c.tc : Thread Cert.Resid2BwdIdeal.nD Cert.Resid2BwdIdeal.τ).loc Cert.Resid2BwdIdeal.main_v0_0)) (v1 : (c : Dev Cert.Resid2BwdIdeal.nD) → Buf (Elt Ideal) ((c.tc : Thread Cert.Resid2BwdIdeal.nD Cert.Resid2BwdIdeal.τ).loc Cert.Resid2BwdIdeal.main_v0_1)),
      θ_run (Cert.Resid2BwdIdeal.defs (F := Ideal)) (onTc (τ := Cert.Resid2BwdIdeal.τ) (Cert.Resid2BwdIdeal.main (F := Ideal))) ⟨m, fun _ => 0, g⟩ (fun r => ∀ c : Dev Cert.Resid2BwdIdeal.nD,
          r.2.mem ((c.tc : Thread Cert.Resid2BwdIdeal.nD Cert.Resid2BwdIdeal.τ).loc Cert.Resid2BwdIdeal.main_v0_0) = v0 c
          ∧ r.2.mem ((c.tc : Thread Cert.Resid2BwdIdeal.nD Cert.Resid2BwdIdeal.τ).loc Cert.Resid2BwdIdeal.main_v0_1) = v1 c
          ∧ r.2.mem ((c.tc : Thread Cert.Resid2BwdIdeal.nD Cert.Resid2BwdIdeal.τ).loc Cert.Resid2BwdIdeal.main_arg0) = m ((c.tc : Thread Cert.Resid2BwdIdeal.nD Cert.Resid2BwdIdeal.τ).loc Cert.Resid2BwdIdeal.main_arg0)
          ∧ r.2.mem ((c.tc : Thread Cert.Resid2BwdIdeal.nD Cert.Resid2BwdIdeal.τ).loc Cert.Resid2BwdIdeal.main_arg1) = m ((c.tc : Thread Cert.Resid2BwdIdeal.nD Cert.Resid2BwdIdeal.τ).loc Cert.Resid2BwdIdeal.main_arg1)
          ∧ r.2.mem ((c.tc : Thread Cert.Resid2BwdIdeal.nD Cert.Resid2BwdIdeal.τ).loc Cert.Resid2BwdIdeal.main_arg2) = m ((c.tc : Thread Cert.Resid2BwdIdeal.nD Cert.Resid2BwdIdeal.τ).loc Cert.Resid2BwdIdeal.main_arg2))
      ∧ θ_run (Cert.Resid2BwdRefIdeal.defs (F := Ideal)) (onTc (τ := Cert.Resid2BwdRefIdeal.τ) (Cert.Resid2BwdRefIdeal.main (F := Ideal))) ⟨m', fun _ => 0, g'⟩ (fun r => ∀ c : Dev Cert.Resid2BwdRefIdeal.nD,
          r.2.mem ((c.tc : Thread Cert.Resid2BwdRefIdeal.nD Cert.Resid2BwdRefIdeal.τ).loc Cert.Resid2BwdRefIdeal.main_v7) = v0 c
          ∧ r.2.mem ((c.tc : Thread Cert.Resid2BwdRefIdeal.nD Cert.Resid2BwdRefIdeal.τ).loc Cert.Resid2BwdRefIdeal.main_v6) = v1 c
          ∧ r.2.mem ((c.tc : Thread Cert.Resid2BwdRefIdeal.nD Cert.Resid2BwdRefIdeal.τ).loc Cert.Resid2BwdRefIdeal.main_arg0) = m' ((c.tc : Thread Cert.Resid2BwdRefIdeal.nD Cert.Resid2BwdRefIdeal.τ).loc Cert.Resid2BwdRefIdeal.main_arg0)
          ∧ r.2.mem ((c.tc : Thread Cert.Resid2BwdRefIdeal.nD Cert.Resid2BwdRefIdeal.τ).loc Cert.Resid2BwdRefIdeal.main_arg1) = m' ((c.tc : Thread Cert.Resid2BwdRefIdeal.nD Cert.Resid2BwdRefIdeal.τ).loc Cert.Resid2BwdRefIdeal.main_arg1)
          ∧ r.2.mem ((c.tc : Thread Cert.Resid2BwdRefIdeal.nD Cert.Resid2BwdRefIdeal.τ).loc Cert.Resid2BwdRefIdeal.main_arg2) = m' ((c.tc : Thread Cert.Resid2BwdRefIdeal.nD Cert.Resid2BwdRefIdeal.τ).loc Cert.Resid2BwdRefIdeal.main_arg2))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)
      ∧ m' ((c.tc : Thread Cert.Norm2BwdRefIdeal.nD Cert.Norm2BwdRefIdeal.τ).loc Cert.Norm2BwdRefIdeal.main_arg7) = m ((c.tc : Thread Cert.Norm2BwdIdeal.nD Cert.Norm2BwdIdeal.τ).loc Cert.Norm2BwdIdeal.main_arg7)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)) (v3 : (c : Dev Cert.Norm2BwdIdeal.nD) → Buf (Elt Ideal) ((c.tc : Thread Cert.Norm2BwdIdeal.nD Cert.Norm2BwdIdeal.τ).loc Cert.Norm2BwdIdeal.main_v0_3)) (v4 : (c : Dev Cert.Norm2BwdIdeal.nD) → Buf (Elt Ideal) ((c.tc : Thread Cert.Norm2BwdIdeal.nD Cert.Norm2BwdIdeal.τ).loc Cert.Norm2BwdIdeal.main_v0_4)) (v5 : (c : Dev Cert.Norm2BwdIdeal.nD) → Buf (Elt Ideal) ((c.tc : Thread Cert.Norm2BwdIdeal.nD Cert.Norm2BwdIdeal.τ).loc Cert.Norm2BwdIdeal.main_v0_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_v0_3) = v3 c
          ∧ r.2.mem ((c.tc : Thread Cert.Norm2BwdIdeal.nD Cert.Norm2BwdIdeal.τ).loc Cert.Norm2BwdIdeal.main_v0_4) = v4 c
          ∧ r.2.mem ((c.tc : Thread Cert.Norm2BwdIdeal.nD Cert.Norm2BwdIdeal.τ).loc Cert.Norm2BwdIdeal.main_v0_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
          ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v51) = v0 c
          ∧ r.2.mem ((c.tc : Thread Cert.Norm2BwdRefIdeal.nD Cert.Norm2BwdRefIdeal.τ).loc Cert.Norm2BwdRefIdeal.main_v58) = v1 c
          ∧ r.2.mem ((c.tc : Thread Cert.Norm2BwdRefIdeal.nD Cert.Norm2BwdRefIdeal.τ).loc Cert.Norm2BwdRefIdeal.main_v57) = v2 c
          ∧ r.2.mem ((c.tc : Thread Cert.Norm2BwdRefIdeal.nD Cert.Norm2BwdRefIdeal.τ).loc Cert.Norm2BwdRefIdeal.main_v34) = v3 c
          ∧ r.2.mem ((c.tc : Thread Cert.Norm2BwdRefIdeal.nD Cert.Norm2BwdRefIdeal.τ).loc Cert.Norm2BwdRefIdeal.main_v29) = v4 c
          ∧ r.2.mem ((c.tc : Thread Cert.Norm2BwdRefIdeal.nD Cert.Norm2BwdRefIdeal.τ).loc Cert.Norm2BwdRefIdeal.main_v26) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6)
          ∧ r.2.mem ((c.tc : Thread Cert.Norm2BwdRefIdeal.nD Cert.Norm2BwdRefIdeal.τ).loc Cert.Norm2BwdRefIdeal.main_arg7) = m' ((c.tc : Thread Cert.Norm2BwdRefIdeal.nD Cert.Norm2BwdRefIdeal.τ).loc Cert.Norm2BwdRefIdeal.main_arg7))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v44) = v0 c
          ∧ r.2.mem ((c.tc : Thread Cert.MergeBwdRefIdeal.nD Cert.MergeBwdRefIdeal.τ).loc Cert.MergeBwdRefIdeal.main_v45) = v1 c
          ∧ r.2.mem ((c.tc : Thread Cert.MergeBwdRefIdeal.nD Cert.MergeBwdRefIdeal.τ).loc Cert.MergeBwdRefIdeal.main_v46) = v2 c
          ∧ r.2.mem ((c.tc : Thread Cert.MergeBwdRefIdeal.nD Cert.MergeBwdRefIdeal.τ).loc Cert.MergeBwdRefIdeal.main_v47) = v3 c
          ∧ r.2.mem ((c.tc : Thread Cert.MergeBwdRefIdeal.nD Cert.MergeBwdRefIdeal.τ).loc Cert.MergeBwdRefIdeal.main_v43) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_ConvLnBwd_ConvLnBwdIdeal : Prop :=
  True

def algebraic_ConvLnBwdIdeal_ConvLnBwdRefIdeal [hConvLnBwdIdeal : Cert.ConvLnBwdIdeal.Facts] [hConvLnBwdRefIdeal : Cert.ConvLnBwdRefIdeal.Facts] : Prop :=
  ∀ (m : (ℓ : Loc Cert.ConvLnBwdIdeal.nD Cert.ConvLnBwdIdeal.τ Cert.ConvLnBwdIdeal.sig) → Buf (Elt Ideal) ℓ) (g : Dev Cert.ConvLnBwdIdeal.nD → PrngReg)
    (m' : (ℓ : Loc Cert.ConvLnBwdRefIdeal.nD Cert.ConvLnBwdRefIdeal.τ Cert.ConvLnBwdRefIdeal.sig) → Buf (Elt Ideal) ℓ) (g' : Dev Cert.ConvLnBwdRefIdeal.nD → PrngReg), Pre_ConvLnBwdIdeal m →
    (∀ c : Dev Cert.ConvLnBwdIdeal.nD,
      m' ((c.tc : Thread Cert.ConvLnBwdRefIdeal.nD Cert.ConvLnBwdRefIdeal.τ).loc Cert.ConvLnBwdRefIdeal.main_arg0) = m ((c.tc : Thread Cert.ConvLnBwdIdeal.nD Cert.ConvLnBwdIdeal.τ).loc Cert.ConvLnBwdIdeal.main_arg0)
      ∧ m' ((c.tc : Thread Cert.ConvLnBwdRefIdeal.nD Cert.ConvLnBwdRefIdeal.τ).loc Cert.ConvLnBwdRefIdeal.main_arg1) = m ((c.tc : Thread Cert.ConvLnBwdIdeal.nD Cert.ConvLnBwdIdeal.τ).loc Cert.ConvLnBwdIdeal.main_arg1)
      ∧ m' ((c.tc : Thread Cert.ConvLnBwdRefIdeal.nD Cert.ConvLnBwdRefIdeal.τ).loc Cert.ConvLnBwdRefIdeal.main_arg2) = m ((c.tc : Thread Cert.ConvLnBwdIdeal.nD Cert.ConvLnBwdIdeal.τ).loc Cert.ConvLnBwdIdeal.main_arg2)
      ∧ m' ((c.tc : Thread Cert.ConvLnBwdRefIdeal.nD Cert.ConvLnBwdRefIdeal.τ).loc Cert.ConvLnBwdRefIdeal.main_arg3) = m ((c.tc : Thread Cert.ConvLnBwdIdeal.nD Cert.ConvLnBwdIdeal.τ).loc Cert.ConvLnBwdIdeal.main_arg3)) →
    ∃ (v0 : (c : Dev Cert.ConvLnBwdIdeal.nD) → Buf (Elt Ideal) ((c.tc : Thread Cert.ConvLnBwdIdeal.nD Cert.ConvLnBwdIdeal.τ).loc Cert.ConvLnBwdIdeal.main_v0_0)) (v1 : (c : Dev Cert.ConvLnBwdIdeal.nD) → Buf (Elt Ideal) ((c.tc : Thread Cert.ConvLnBwdIdeal.nD Cert.ConvLnBwdIdeal.τ).loc Cert.ConvLnBwdIdeal.main_v0_1)) (v2 : (c : Dev Cert.ConvLnBwdIdeal.nD) → Buf (Elt Ideal) ((c.tc : Thread Cert.ConvLnBwdIdeal.nD Cert.ConvLnBwdIdeal.τ).loc Cert.ConvLnBwdIdeal.main_v0_2)),
      θ_run (Cert.ConvLnBwdIdeal.defs (F := Ideal)) (onTc (τ := Cert.ConvLnBwdIdeal.τ) (Cert.ConvLnBwdIdeal.main (F := Ideal))) ⟨m, fun _ => 0, g⟩ (fun r => ∀ c : Dev Cert.ConvLnBwdIdeal.nD,
          r.2.mem ((c.tc : Thread Cert.ConvLnBwdIdeal.nD Cert.ConvLnBwdIdeal.τ).loc Cert.ConvLnBwdIdeal.main_v0_0) = v0 c
          ∧ r.2.mem ((c.tc : Thread Cert.ConvLnBwdIdeal.nD Cert.ConvLnBwdIdeal.τ).loc Cert.ConvLnBwdIdeal.main_v0_1) = v1 c
          ∧ r.2.mem ((c.tc : Thread Cert.ConvLnBwdIdeal.nD Cert.ConvLnBwdIdeal.τ).loc Cert.ConvLnBwdIdeal.main_v0_2) = v2 c
          ∧ r.2.mem ((c.tc : Thread Cert.ConvLnBwdIdeal.nD Cert.ConvLnBwdIdeal.τ).loc Cert.ConvLnBwdIdeal.main_arg0) = m ((c.tc : Thread Cert.ConvLnBwdIdeal.nD Cert.ConvLnBwdIdeal.τ).loc Cert.ConvLnBwdIdeal.main_arg0)
          ∧ r.2.mem ((c.tc : Thread Cert.ConvLnBwdIdeal.nD Cert.ConvLnBwdIdeal.τ).loc Cert.ConvLnBwdIdeal.main_arg1) = m ((c.tc : Thread Cert.ConvLnBwdIdeal.nD Cert.ConvLnBwdIdeal.τ).loc Cert.ConvLnBwdIdeal.main_arg1)
          ∧ r.2.mem ((c.tc : Thread Cert.ConvLnBwdIdeal.nD Cert.ConvLnBwdIdeal.τ).loc Cert.ConvLnBwdIdeal.main_arg2) = m ((c.tc : Thread Cert.ConvLnBwdIdeal.nD Cert.ConvLnBwdIdeal.τ).loc Cert.ConvLnBwdIdeal.main_arg2)
          ∧ r.2.mem ((c.tc : Thread Cert.ConvLnBwdIdeal.nD Cert.ConvLnBwdIdeal.τ).loc Cert.ConvLnBwdIdeal.main_arg3) = m ((c.tc : Thread Cert.ConvLnBwdIdeal.nD Cert.ConvLnBwdIdeal.τ).loc Cert.ConvLnBwdIdeal.main_arg3))
      ∧ θ_run (Cert.ConvLnBwdRefIdeal.defs (F := Ideal)) (onTc (τ := Cert.ConvLnBwdRefIdeal.τ) (Cert.ConvLnBwdRefIdeal.main (F := Ideal))) ⟨m', fun _ => 0, g'⟩ (fun r => ∀ c : Dev Cert.ConvLnBwdRefIdeal.nD,
          r.2.mem ((c.tc : Thread Cert.ConvLnBwdRefIdeal.nD Cert.ConvLnBwdRefIdeal.τ).loc Cert.ConvLnBwdRefIdeal.main_v59) = v0 c
          ∧ r.2.mem ((c.tc : Thread Cert.ConvLnBwdRefIdeal.nD Cert.ConvLnBwdRefIdeal.τ).loc Cert.ConvLnBwdRefIdeal.main_v33) = v1 c
          ∧ r.2.mem ((c.tc : Thread Cert.ConvLnBwdRefIdeal.nD Cert.ConvLnBwdRefIdeal.τ).loc Cert.ConvLnBwdRefIdeal.main_v30) = v2 c
          ∧ r.2.mem ((c.tc : Thread Cert.ConvLnBwdRefIdeal.nD Cert.ConvLnBwdRefIdeal.τ).loc Cert.ConvLnBwdRefIdeal.main_arg0) = m' ((c.tc : Thread Cert.ConvLnBwdRefIdeal.nD Cert.ConvLnBwdRefIdeal.τ).loc Cert.ConvLnBwdRefIdeal.main_arg0)
          ∧ r.2.mem ((c.tc : Thread Cert.ConvLnBwdRefIdeal.nD Cert.ConvLnBwdRefIdeal.τ).loc Cert.ConvLnBwdRefIdeal.main_arg1) = m' ((c.tc : Thread Cert.ConvLnBwdRefIdeal.nD Cert.ConvLnBwdRefIdeal.τ).loc Cert.ConvLnBwdRefIdeal.main_arg1)
          ∧ r.2.mem ((c.tc : Thread Cert.ConvLnBwdRefIdeal.nD Cert.ConvLnBwdRefIdeal.τ).loc Cert.ConvLnBwdRefIdeal.main_arg2) = m' ((c.tc : Thread Cert.ConvLnBwdRefIdeal.nD Cert.ConvLnBwdRefIdeal.τ).loc Cert.ConvLnBwdRefIdeal.main_arg2)
          ∧ r.2.mem ((c.tc : Thread Cert.ConvLnBwdRefIdeal.nD Cert.ConvLnBwdRefIdeal.τ).loc Cert.ConvLnBwdRefIdeal.main_arg3) = m' ((c.tc : Thread Cert.ConvLnBwdRefIdeal.nD Cert.ConvLnBwdRefIdeal.τ).loc Cert.ConvLnBwdRefIdeal.main_arg3))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)
      ∧ m' ((c.tc : Thread Cert.Norm1BwdRefIdeal.nD Cert.Norm1BwdRefIdeal.τ).loc Cert.Norm1BwdRefIdeal.main_arg5) = m ((c.tc : Thread Cert.Norm1BwdIdeal.nD Cert.Norm1BwdIdeal.τ).loc Cert.Norm1BwdIdeal.main_arg5)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v48) = v0 c
          ∧ r.2.mem ((c.tc : Thread Cert.Norm1BwdRefIdeal.nD Cert.Norm1BwdRefIdeal.τ).loc Cert.Norm1BwdRefIdeal.main_v31) = v1 c
          ∧ r.2.mem ((c.tc : Thread Cert.Norm1BwdRefIdeal.nD Cert.Norm1BwdRefIdeal.τ).loc Cert.Norm1BwdRefIdeal.main_v26) = v2 c
          ∧ r.2.mem ((c.tc : Thread Cert.Norm1BwdRefIdeal.nD Cert.Norm1BwdRefIdeal.τ).loc Cert.Norm1BwdRefIdeal.main_v23) = v3 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4)
          ∧ r.2.mem ((c.tc : Thread Cert.Norm1BwdRefIdeal.nD Cert.Norm1BwdRefIdeal.τ).loc Cert.Norm1BwdRefIdeal.main_arg5) = m' ((c.tc : Thread Cert.Norm1BwdRefIdeal.nD Cert.Norm1BwdRefIdeal.τ).loc Cert.Norm1BwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v20) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_ConvLnFwd_ConvLnFwdIdeal : Prop :=
  True

def algebraic_ConvLnFwdIdeal_ConvLnFwdRefIdeal [hConvLnFwdIdeal : Cert.ConvLnFwdIdeal.Facts] [hConvLnFwdRefIdeal : Cert.ConvLnFwdRefIdeal.Facts] : Prop :=
  ∀ (m : (ℓ : Loc Cert.ConvLnFwdIdeal.nD Cert.ConvLnFwdIdeal.τ Cert.ConvLnFwdIdeal.sig) → Buf (Elt Ideal) ℓ) (g : Dev Cert.ConvLnFwdIdeal.nD → PrngReg)
    (m' : (ℓ : Loc Cert.ConvLnFwdRefIdeal.nD Cert.ConvLnFwdRefIdeal.τ Cert.ConvLnFwdRefIdeal.sig) → Buf (Elt Ideal) ℓ) (g' : Dev Cert.ConvLnFwdRefIdeal.nD → PrngReg), Pre_ConvLnFwdIdeal m →
    (∀ c : Dev Cert.ConvLnFwdIdeal.nD,
      m' ((c.tc : Thread Cert.ConvLnFwdRefIdeal.nD Cert.ConvLnFwdRefIdeal.τ).loc Cert.ConvLnFwdRefIdeal.main_arg0) = m ((c.tc : Thread Cert.ConvLnFwdIdeal.nD Cert.ConvLnFwdIdeal.τ).loc Cert.ConvLnFwdIdeal.main_arg0)
      ∧ m' ((c.tc : Thread Cert.ConvLnFwdRefIdeal.nD Cert.ConvLnFwdRefIdeal.τ).loc Cert.ConvLnFwdRefIdeal.main_arg1) = m ((c.tc : Thread Cert.ConvLnFwdIdeal.nD Cert.ConvLnFwdIdeal.τ).loc Cert.ConvLnFwdIdeal.main_arg1)
      ∧ m' ((c.tc : Thread Cert.ConvLnFwdRefIdeal.nD Cert.ConvLnFwdRefIdeal.τ).loc Cert.ConvLnFwdRefIdeal.main_arg2) = m ((c.tc : Thread Cert.ConvLnFwdIdeal.nD Cert.ConvLnFwdIdeal.τ).loc Cert.ConvLnFwdIdeal.main_arg2)) →
    ∃ (v0 : (c : Dev Cert.ConvLnFwdIdeal.nD) → Buf (Elt Ideal) ((c.tc : Thread Cert.ConvLnFwdIdeal.nD Cert.ConvLnFwdIdeal.τ).loc Cert.ConvLnFwdIdeal.main_v0)),
      θ_run (Cert.ConvLnFwdIdeal.defs (F := Ideal)) (onTc (τ := Cert.ConvLnFwdIdeal.τ) (Cert.ConvLnFwdIdeal.main (F := Ideal))) ⟨m, fun _ => 0, g⟩ (fun r => ∀ c : Dev Cert.ConvLnFwdIdeal.nD,
          r.2.mem ((c.tc : Thread Cert.ConvLnFwdIdeal.nD Cert.ConvLnFwdIdeal.τ).loc Cert.ConvLnFwdIdeal.main_v0) = v0 c
          ∧ r.2.mem ((c.tc : Thread Cert.ConvLnFwdIdeal.nD Cert.ConvLnFwdIdeal.τ).loc Cert.ConvLnFwdIdeal.main_arg0) = m ((c.tc : Thread Cert.ConvLnFwdIdeal.nD Cert.ConvLnFwdIdeal.τ).loc Cert.ConvLnFwdIdeal.main_arg0)
          ∧ r.2.mem ((c.tc : Thread Cert.ConvLnFwdIdeal.nD Cert.ConvLnFwdIdeal.τ).loc Cert.ConvLnFwdIdeal.main_arg1) = m ((c.tc : Thread Cert.ConvLnFwdIdeal.nD Cert.ConvLnFwdIdeal.τ).loc Cert.ConvLnFwdIdeal.main_arg1)
          ∧ r.2.mem ((c.tc : Thread Cert.ConvLnFwdIdeal.nD Cert.ConvLnFwdIdeal.τ).loc Cert.ConvLnFwdIdeal.main_arg2) = m ((c.tc : Thread Cert.ConvLnFwdIdeal.nD Cert.ConvLnFwdIdeal.τ).loc Cert.ConvLnFwdIdeal.main_arg2))
      ∧ θ_run (Cert.ConvLnFwdRefIdeal.defs (F := Ideal)) (onTc (τ := Cert.ConvLnFwdRefIdeal.τ) (Cert.ConvLnFwdRefIdeal.main (F := Ideal))) ⟨m', fun _ => 0, g'⟩ (fun r => ∀ c : Dev Cert.ConvLnFwdRefIdeal.nD,
          r.2.mem ((c.tc : Thread Cert.ConvLnFwdRefIdeal.nD Cert.ConvLnFwdRefIdeal.τ).loc Cert.ConvLnFwdRefIdeal.main_v27) = v0 c
          ∧ r.2.mem ((c.tc : Thread Cert.ConvLnFwdRefIdeal.nD Cert.ConvLnFwdRefIdeal.τ).loc Cert.ConvLnFwdRefIdeal.main_arg0) = m' ((c.tc : Thread Cert.ConvLnFwdRefIdeal.nD Cert.ConvLnFwdRefIdeal.τ).loc Cert.ConvLnFwdRefIdeal.main_arg0)
          ∧ r.2.mem ((c.tc : Thread Cert.ConvLnFwdRefIdeal.nD Cert.ConvLnFwdRefIdeal.τ).loc Cert.ConvLnFwdRefIdeal.main_arg1) = m' ((c.tc : Thread Cert.ConvLnFwdRefIdeal.nD Cert.ConvLnFwdRefIdeal.τ).loc Cert.ConvLnFwdRefIdeal.main_arg1)
          ∧ r.2.mem ((c.tc : Thread Cert.ConvLnFwdRefIdeal.nD Cert.ConvLnFwdRefIdeal.τ).loc Cert.ConvLnFwdRefIdeal.main_arg2) = m' ((c.tc : Thread Cert.ConvLnFwdRefIdeal.nD Cert.ConvLnFwdRefIdeal.τ).loc Cert.ConvLnFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v232) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)) →
    ∃ (v0 : (c : Dev Cert.SmallIdeal.nD) → Buf (Elt Ideal) ((c.tc : Thread Cert.SmallIdeal.nD Cert.SmallIdeal.τ).loc Cert.SmallIdeal.main_v21)) (v1 : (c : Dev Cert.SmallIdeal.nD) → Buf (Elt Ideal) ((c.tc : Thread Cert.SmallIdeal.nD Cert.SmallIdeal.τ).loc Cert.SmallIdeal.main_v67)) (v2 : (c : Dev Cert.SmallIdeal.nD) → Buf (Elt Ideal) ((c.tc : Thread Cert.SmallIdeal.nD Cert.SmallIdeal.τ).loc Cert.SmallIdeal.main_v24)) (v3 : (c : Dev Cert.SmallIdeal.nD) → Buf (Elt Ideal) ((c.tc : Thread Cert.SmallIdeal.nD Cert.SmallIdeal.τ).loc Cert.SmallIdeal.main_v27)) (v4 : (c : Dev Cert.SmallIdeal.nD) → Buf (Elt Ideal) ((c.tc : Thread Cert.SmallIdeal.nD Cert.SmallIdeal.τ).loc Cert.SmallIdeal.main_v55)) (v5 : (c : Dev Cert.SmallIdeal.nD) → Buf (Elt Ideal) ((c.tc : Thread Cert.SmallIdeal.nD Cert.SmallIdeal.τ).loc Cert.SmallIdeal.main_v56)) (v6 : (c : Dev Cert.SmallIdeal.nD) → Buf (Elt Ideal) ((c.tc : Thread Cert.SmallIdeal.nD Cert.SmallIdeal.τ).loc Cert.SmallIdeal.main_v57)) (v7 : (c : Dev Cert.SmallIdeal.nD) → Buf (Elt Ideal) ((c.tc : Thread Cert.SmallIdeal.nD Cert.SmallIdeal.τ).loc Cert.SmallIdeal.main_v58)) (v8 : (c : Dev Cert.SmallIdeal.nD) → Buf (Elt Ideal) ((c.tc : Thread Cert.SmallIdeal.nD Cert.SmallIdeal.τ).loc Cert.SmallIdeal.main_v59)) (v9 : (c : Dev Cert.SmallIdeal.nD) → Buf (Elt Ideal) ((c.tc : Thread Cert.SmallIdeal.nD Cert.SmallIdeal.τ).loc Cert.SmallIdeal.main_v60)) (v10 : (c : Dev Cert.SmallIdeal.nD) → Buf (Elt Ideal) ((c.tc : Thread Cert.SmallIdeal.nD Cert.SmallIdeal.τ).loc Cert.SmallIdeal.main_v61)) (v11 : (c : Dev Cert.SmallIdeal.nD) → Buf (Elt Ideal) ((c.tc : Thread Cert.SmallIdeal.nD Cert.SmallIdeal.τ).loc Cert.SmallIdeal.main_v62)) (v12 : (c : Dev Cert.SmallIdeal.nD) → Buf (Elt Ideal) ((c.tc : Thread Cert.SmallIdeal.nD Cert.SmallIdeal.τ).loc Cert.SmallIdeal.main_v63)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v21) = v0 c
          ∧ r.2.mem ((c.tc : Thread Cert.SmallIdeal.nD Cert.SmallIdeal.τ).loc Cert.SmallIdeal.main_v67) = v1 c
          ∧ r.2.mem ((c.tc : Thread Cert.SmallIdeal.nD Cert.SmallIdeal.τ).loc Cert.SmallIdeal.main_v24) = v2 c
          ∧ r.2.mem ((c.tc : Thread Cert.SmallIdeal.nD Cert.SmallIdeal.τ).loc Cert.SmallIdeal.main_v27) = v3 c
          ∧ r.2.mem ((c.tc : Thread Cert.SmallIdeal.nD Cert.SmallIdeal.τ).loc Cert.SmallIdeal.main_v55) = v4 c
          ∧ r.2.mem ((c.tc : Thread Cert.SmallIdeal.nD Cert.SmallIdeal.τ).loc Cert.SmallIdeal.main_v56) = v5 c
          ∧ r.2.mem ((c.tc : Thread Cert.SmallIdeal.nD Cert.SmallIdeal.τ).loc Cert.SmallIdeal.main_v57) = v6 c
          ∧ r.2.mem ((c.tc : Thread Cert.SmallIdeal.nD Cert.SmallIdeal.τ).loc Cert.SmallIdeal.main_v58) = v7 c
          ∧ r.2.mem ((c.tc : Thread Cert.SmallIdeal.nD Cert.SmallIdeal.τ).loc Cert.SmallIdeal.main_v59) = v8 c
          ∧ r.2.mem ((c.tc : Thread Cert.SmallIdeal.nD Cert.SmallIdeal.τ).loc Cert.SmallIdeal.main_v60) = v9 c
          ∧ r.2.mem ((c.tc : Thread Cert.SmallIdeal.nD Cert.SmallIdeal.τ).loc Cert.SmallIdeal.main_v61) = v10 c
          ∧ r.2.mem ((c.tc : Thread Cert.SmallIdeal.nD Cert.SmallIdeal.τ).loc Cert.SmallIdeal.main_v62) = v11 c
          ∧ r.2.mem ((c.tc : Thread Cert.SmallIdeal.nD Cert.SmallIdeal.τ).loc Cert.SmallIdeal.main_v63) = v12 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v1) = v0 c
          ∧ r.2.mem ((c.tc : Thread Cert.SmallRefIdeal.nD Cert.SmallRefIdeal.τ).loc Cert.SmallRefIdeal.main_v3) = v1 c
          ∧ r.2.mem ((c.tc : Thread Cert.SmallRefIdeal.nD Cert.SmallRefIdeal.τ).loc Cert.SmallRefIdeal.main_v4) = v2 c
          ∧ r.2.mem ((c.tc : Thread Cert.SmallRefIdeal.nD Cert.SmallRefIdeal.τ).loc Cert.SmallRefIdeal.main_v5) = v3 c
          ∧ r.2.mem ((c.tc : Thread Cert.SmallRefIdeal.nD Cert.SmallRefIdeal.τ).loc Cert.SmallRefIdeal.main_v7) = v4 c
          ∧ r.2.mem ((c.tc : Thread Cert.SmallRefIdeal.nD Cert.SmallRefIdeal.τ).loc Cert.SmallRefIdeal.main_v9) = v5 c
          ∧ r.2.mem ((c.tc : Thread Cert.SmallRefIdeal.nD Cert.SmallRefIdeal.τ).loc Cert.SmallRefIdeal.main_v11) = v6 c
          ∧ r.2.mem ((c.tc : Thread Cert.SmallRefIdeal.nD Cert.SmallRefIdeal.τ).loc Cert.SmallRefIdeal.main_v13) = v7 c
          ∧ r.2.mem ((c.tc : Thread Cert.SmallRefIdeal.nD Cert.SmallRefIdeal.τ).loc Cert.SmallRefIdeal.main_v15) = v8 c
          ∧ r.2.mem ((c.tc : Thread Cert.SmallRefIdeal.nD Cert.SmallRefIdeal.τ).loc Cert.SmallRefIdeal.main_v17) = v9 c
          ∧ r.2.mem ((c.tc : Thread Cert.SmallRefIdeal.nD Cert.SmallRefIdeal.τ).loc Cert.SmallRefIdeal.main_v19) = v10 c
          ∧ r.2.mem ((c.tc : Thread Cert.SmallRefIdeal.nD Cert.SmallRefIdeal.τ).loc Cert.SmallRefIdeal.main_v21) = v11 c
          ∧ r.2.mem ((c.tc : Thread Cert.SmallRefIdeal.nD Cert.SmallRefIdeal.τ).loc Cert.SmallRefIdeal.main_v23) = v12 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12))

def Claim : Prop :=
  ∃ (hKernel : Cert.Kernel.Facts) (hKernelIdeal : Cert.KernelIdeal.Facts) (hReferenceIdeal : Cert.ReferenceIdeal.Facts) (hWInDx : Cert.WInDx.Facts) (hWInDxIdeal : Cert.WInDxIdeal.Facts) (hWInDxRefIdeal : Cert.WInDxRefIdeal.Facts) (hWInDw : Cert.WInDw.Facts) (hWInDwIdeal : Cert.WInDwIdeal.Facts) (hWInDwRefIdeal : Cert.WInDwRefIdeal.Facts) (hMlp1Dx : Cert.Mlp1Dx.Facts) (hMlp1DxIdeal : Cert.Mlp1DxIdeal.Facts) (hMlp1DxRefIdeal : Cert.Mlp1DxRefIdeal.Facts) (hMlp1Dw : Cert.Mlp1Dw.Facts) (hMlp1DwIdeal : Cert.Mlp1DwIdeal.Facts) (hMlp1DwRefIdeal : Cert.Mlp1DwRefIdeal.Facts) (hMlp2Dx : Cert.Mlp2Dx.Facts) (hMlp2DxIdeal : Cert.Mlp2DxIdeal.Facts) (hMlp2DxRefIdeal : Cert.Mlp2DxRefIdeal.Facts) (hMlp2Dw : Cert.Mlp2Dw.Facts) (hMlp2DwIdeal : Cert.Mlp2DwIdeal.Facts) (hMlp2DwRefIdeal : Cert.Mlp2DwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hProjDw : Cert.ProjDw.Facts) (hProjDwIdeal : Cert.ProjDwIdeal.Facts) (hProjDwRefIdeal : Cert.ProjDwRefIdeal.Facts) (hConvProjDx : Cert.ConvProjDx.Facts) (hConvProjDxIdeal : Cert.ConvProjDxIdeal.Facts) (hConvProjDxRefIdeal : Cert.ConvProjDxRefIdeal.Facts) (hProjDx : Cert.ProjDx.Facts) (hProjDxIdeal : Cert.ProjDxIdeal.Facts) (hProjDxRefIdeal : Cert.ProjDxRefIdeal.Facts) (hWIn : Cert.WIn.Facts) (hWInIdeal : Cert.WInIdeal.Facts) (hWInRefIdeal : Cert.WInRefIdeal.Facts) (hProj : Cert.Proj.Facts) (hProjIdeal : Cert.ProjIdeal.Facts) (hProjRefIdeal : Cert.ProjRefIdeal.Facts) (hOutFwd : Cert.OutFwd.Facts) (hOutFwdIdeal : Cert.OutFwdIdeal.Facts) (hOutFwdRefIdeal : Cert.OutFwdRefIdeal.Facts) (hMlp2Fwd : Cert.Mlp2Fwd.Facts) (hMlp2FwdIdeal : Cert.Mlp2FwdIdeal.Facts) (hMlp2FwdRefIdeal : Cert.Mlp2FwdRefIdeal.Facts) (hMlp1Fwd : Cert.Mlp1Fwd.Facts) (hMlp1FwdIdeal : Cert.Mlp1FwdIdeal.Facts) (hMlp1FwdRefIdeal : Cert.Mlp1FwdRefIdeal.Facts) (hModFwd : Cert.ModFwd.Facts) (hModFwdIdeal : Cert.ModFwdIdeal.Facts) (hModFwdRefIdeal : Cert.ModFwdRefIdeal.Facts) (hModDw : Cert.ModDw.Facts) (hModDwIdeal : Cert.ModDwIdeal.Facts) (hModDwRefIdeal : Cert.ModDwRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamOut : Cert.AdamOut.Facts) (hAdamOutIdeal : Cert.AdamOutIdeal.Facts) (hAdamOutRefIdeal : Cert.AdamOutRefIdeal.Facts) (hAdamMlp : Cert.AdamMlp.Facts) (hAdamMlpIdeal : Cert.AdamMlpIdeal.Facts) (hAdamMlpRefIdeal : Cert.AdamMlpRefIdeal.Facts) (hAdamMod : Cert.AdamMod.Facts) (hAdamModIdeal : Cert.AdamModIdeal.Facts) (hAdamModRefIdeal : Cert.AdamModRefIdeal.Facts) (hAdamSmall : Cert.AdamSmall.Facts) (hAdamSmallIdeal : Cert.AdamSmallIdeal.Facts) (hAdamSmallRefIdeal : Cert.AdamSmallRefIdeal.Facts) (hLossHead : Cert.LossHead.Facts) (hLossHeadIdeal : Cert.LossHeadIdeal.Facts) (hLossHeadRefIdeal : Cert.LossHeadRefIdeal.Facts) (hResid2Bwd : Cert.Resid2Bwd.Facts) (hResid2BwdIdeal : Cert.Resid2BwdIdeal.Facts) (hResid2BwdRefIdeal : Cert.Resid2BwdRefIdeal.Facts) (hNorm2Bwd : Cert.Norm2Bwd.Facts) (hNorm2BwdIdeal : Cert.Norm2BwdIdeal.Facts) (hNorm2BwdRefIdeal : Cert.Norm2BwdRefIdeal.Facts) (hMergeBwd : Cert.MergeBwd.Facts) (hMergeBwdIdeal : Cert.MergeBwdIdeal.Facts) (hMergeBwdRefIdeal : Cert.MergeBwdRefIdeal.Facts) (hConvLnBwd : Cert.ConvLnBwd.Facts) (hConvLnBwdIdeal : Cert.ConvLnBwdIdeal.Facts) (hConvLnBwdRefIdeal : Cert.ConvLnBwdRefIdeal.Facts) (hNorm1Bwd : Cert.Norm1Bwd.Facts) (hNorm1BwdIdeal : Cert.Norm1BwdIdeal.Facts) (hNorm1BwdRefIdeal : Cert.Norm1BwdRefIdeal.Facts) (hNormFwd : Cert.NormFwd.Facts) (hNormFwdIdeal : Cert.NormFwdIdeal.Facts) (hNormFwdRefIdeal : Cert.NormFwdRefIdeal.Facts) (hConvLnFwd : Cert.ConvLnFwd.Facts) (hConvLnFwdIdeal : Cert.ConvLnFwdIdeal.Facts) (hConvLnFwdRefIdeal : Cert.ConvLnFwdRefIdeal.Facts) (hMergeFwd : Cert.MergeFwd.Facts) (hMergeFwdIdeal : Cert.MergeFwdIdeal.Facts) (hMergeFwdRefIdeal : Cert.MergeFwdRefIdeal.Facts) (hConvFwd : Cert.ConvFwd.Facts) (hConvFwdIdeal : Cert.ConvFwdIdeal.Facts) (hConvFwdRefIdeal : Cert.ConvFwdRefIdeal.Facts) (hSumSmall : Cert.SumSmall.Facts) (hSumSmallIdeal : Cert.SumSmallIdeal.Facts) (hSumSmallRefIdeal : Cert.SumSmallRefIdeal.Facts) (hSmall : Cert.Small.Facts) (hSmallIdeal : Cert.SmallIdeal.Facts) (hSmallRefIdeal : Cert.SmallRefIdeal.Facts),
    quiescent_Kernel (hKernel := hKernel)
    ∧ quiescent_KernelIdeal (hKernelIdeal := hKernelIdeal)
    ∧ quiescent_ReferenceIdeal (hReferenceIdeal := hReferenceIdeal)
    ∧ quiescent_WInDx (hWInDx := hWInDx)
    ∧ quiescent_WInDxIdeal (hWInDxIdeal := hWInDxIdeal)
    ∧ quiescent_WInDxRefIdeal (hWInDxRefIdeal := hWInDxRefIdeal)
    ∧ quiescent_WInDw (hWInDw := hWInDw)
    ∧ quiescent_WInDwIdeal (hWInDwIdeal := hWInDwIdeal)
    ∧ quiescent_WInDwRefIdeal (hWInDwRefIdeal := hWInDwRefIdeal)
    ∧ quiescent_Mlp1Dx (hMlp1Dx := hMlp1Dx)
    ∧ quiescent_Mlp1DxIdeal (hMlp1DxIdeal := hMlp1DxIdeal)
    ∧ quiescent_Mlp1DxRefIdeal (hMlp1DxRefIdeal := hMlp1DxRefIdeal)
    ∧ quiescent_Mlp1Dw (hMlp1Dw := hMlp1Dw)
    ∧ quiescent_Mlp1DwIdeal (hMlp1DwIdeal := hMlp1DwIdeal)
    ∧ quiescent_Mlp1DwRefIdeal (hMlp1DwRefIdeal := hMlp1DwRefIdeal)
    ∧ quiescent_Mlp2Dx (hMlp2Dx := hMlp2Dx)
    ∧ quiescent_Mlp2DxIdeal (hMlp2DxIdeal := hMlp2DxIdeal)
    ∧ quiescent_Mlp2DxRefIdeal (hMlp2DxRefIdeal := hMlp2DxRefIdeal)
    ∧ quiescent_Mlp2Dw (hMlp2Dw := hMlp2Dw)
    ∧ quiescent_Mlp2DwIdeal (hMlp2DwIdeal := hMlp2DwIdeal)
    ∧ quiescent_Mlp2DwRefIdeal (hMlp2DwRefIdeal := hMlp2DwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ConvProjDx (hConvProjDx := hConvProjDx)
    ∧ quiescent_ConvProjDxIdeal (hConvProjDxIdeal := hConvProjDxIdeal)
    ∧ quiescent_ConvProjDxRefIdeal (hConvProjDxRefIdeal := hConvProjDxRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_WIn (hWIn := hWIn)
    ∧ quiescent_WInIdeal (hWInIdeal := hWInIdeal)
    ∧ quiescent_WInRefIdeal (hWInRefIdeal := hWInRefIdeal)
    ∧ quiescent_Proj (hProj := hProj)
    ∧ quiescent_ProjIdeal (hProjIdeal := hProjIdeal)
    ∧ quiescent_ProjRefIdeal (hProjRefIdeal := hProjRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Mlp2Fwd (hMlp2Fwd := hMlp2Fwd)
    ∧ quiescent_Mlp2FwdIdeal (hMlp2FwdIdeal := hMlp2FwdIdeal)
    ∧ quiescent_Mlp2FwdRefIdeal (hMlp2FwdRefIdeal := hMlp2FwdRefIdeal)
    ∧ quiescent_Mlp1Fwd (hMlp1Fwd := hMlp1Fwd)
    ∧ quiescent_Mlp1FwdIdeal (hMlp1FwdIdeal := hMlp1FwdIdeal)
    ∧ quiescent_Mlp1FwdRefIdeal (hMlp1FwdRefIdeal := hMlp1FwdRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Resid2Bwd (hResid2Bwd := hResid2Bwd)
    ∧ quiescent_Resid2BwdIdeal (hResid2BwdIdeal := hResid2BwdIdeal)
    ∧ quiescent_Resid2BwdRefIdeal (hResid2BwdRefIdeal := hResid2BwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_ConvLnBwd (hConvLnBwd := hConvLnBwd)
    ∧ quiescent_ConvLnBwdIdeal (hConvLnBwdIdeal := hConvLnBwdIdeal)
    ∧ quiescent_ConvLnBwdRefIdeal (hConvLnBwdRefIdeal := hConvLnBwdRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvLnFwd (hConvLnFwd := hConvLnFwd)
    ∧ quiescent_ConvLnFwdIdeal (hConvLnFwdIdeal := hConvLnFwdIdeal)
    ∧ quiescent_ConvLnFwdRefIdeal (hConvLnFwdRefIdeal := hConvLnFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Small (hSmall := hSmall)
    ∧ quiescent_SmallIdeal (hSmallIdeal := hSmallIdeal)
    ∧ quiescent_SmallRefIdeal (hSmallRefIdeal := hSmallRefIdeal)
    ∧ preserves_Kernel_KernelIdeal
    ∧ algebraic_KernelIdeal_ReferenceIdeal (hKernelIdeal := hKernelIdeal) (hReferenceIdeal := hReferenceIdeal)
    ∧ preserves_WInDx_WInDxIdeal
    ∧ algebraic_WInDxIdeal_WInDxRefIdeal (hWInDxIdeal := hWInDxIdeal) (hWInDxRefIdeal := hWInDxRefIdeal)
    ∧ preserves_WInDw_WInDwIdeal
    ∧ algebraic_WInDwIdeal_WInDwRefIdeal (hWInDwIdeal := hWInDwIdeal) (hWInDwRefIdeal := hWInDwRefIdeal)
    ∧ preserves_Mlp1Dx_Mlp1DxIdeal
    ∧ algebraic_Mlp1DxIdeal_Mlp1DxRefIdeal (hMlp1DxIdeal := hMlp1DxIdeal) (hMlp1DxRefIdeal := hMlp1DxRefIdeal)
    ∧ preserves_Mlp1Dw_Mlp1DwIdeal
    ∧ algebraic_Mlp1DwIdeal_Mlp1DwRefIdeal (hMlp1DwIdeal := hMlp1DwIdeal) (hMlp1DwRefIdeal := hMlp1DwRefIdeal)
    ∧ preserves_Mlp2Dx_Mlp2DxIdeal
    ∧ algebraic_Mlp2DxIdeal_Mlp2DxRefIdeal (hMlp2DxIdeal := hMlp2DxIdeal) (hMlp2DxRefIdeal := hMlp2DxRefIdeal)
    ∧ preserves_Mlp2Dw_Mlp2DwIdeal
    ∧ algebraic_Mlp2DwIdeal_Mlp2DwRefIdeal (hMlp2DwIdeal := hMlp2DwIdeal) (hMlp2DwRefIdeal := hMlp2DwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_ProjDw_ProjDwIdeal
    ∧ algebraic_ProjDwIdeal_ProjDwRefIdeal (hProjDwIdeal := hProjDwIdeal) (hProjDwRefIdeal := hProjDwRefIdeal)
    ∧ preserves_ConvProjDx_ConvProjDxIdeal
    ∧ algebraic_ConvProjDxIdeal_ConvProjDxRefIdeal (hConvProjDxIdeal := hConvProjDxIdeal) (hConvProjDxRefIdeal := hConvProjDxRefIdeal)
    ∧ preserves_ProjDx_ProjDxIdeal
    ∧ algebraic_ProjDxIdeal_ProjDxRefIdeal (hProjDxIdeal := hProjDxIdeal) (hProjDxRefIdeal := hProjDxRefIdeal)
    ∧ preserves_WIn_WInIdeal
    ∧ algebraic_WInIdeal_WInRefIdeal (hWInIdeal := hWInIdeal) (hWInRefIdeal := hWInRefIdeal)
    ∧ preserves_Proj_ProjIdeal
    ∧ algebraic_ProjIdeal_ProjRefIdeal (hProjIdeal := hProjIdeal) (hProjRefIdeal := hProjRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Mlp2Fwd_Mlp2FwdIdeal
    ∧ algebraic_Mlp2FwdIdeal_Mlp2FwdRefIdeal (hMlp2FwdIdeal := hMlp2FwdIdeal) (hMlp2FwdRefIdeal := hMlp2FwdRefIdeal)
    ∧ preserves_Mlp1Fwd_Mlp1FwdIdeal
    ∧ algebraic_Mlp1FwdIdeal_Mlp1FwdRefIdeal (hMlp1FwdIdeal := hMlp1FwdIdeal) (hMlp1FwdRefIdeal := hMlp1FwdRefIdeal)
    ∧ preserves_ModFwd_ModFwdIdeal
    ∧ algebraic_ModFwdIdeal_ModFwdRefIdeal (hModFwdIdeal := hModFwdIdeal) (hModFwdRefIdeal := hModFwdRefIdeal)
    ∧ preserves_ModDw_ModDwIdeal
    ∧ algebraic_ModDwIdeal_ModDwRefIdeal (hModDwIdeal := hModDwIdeal) (hModDwRefIdeal := hModDwRefIdeal)
    ∧ preserves_AdamIn_AdamInIdeal
    ∧ algebraic_AdamInIdeal_AdamInRefIdeal (hAdamInIdeal := hAdamInIdeal) (hAdamInRefIdeal := hAdamInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamMod_AdamModIdeal
    ∧ algebraic_AdamModIdeal_AdamModRefIdeal (hAdamModIdeal := hAdamModIdeal) (hAdamModRefIdeal := hAdamModRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_LossHead_LossHeadIdeal
    ∧ algebraic_LossHeadIdeal_LossHeadRefIdeal (hLossHeadIdeal := hLossHeadIdeal) (hLossHeadRefIdeal := hLossHeadRefIdeal)
    ∧ preserves_Resid2Bwd_Resid2BwdIdeal
    ∧ algebraic_Resid2BwdIdeal_Resid2BwdRefIdeal (hResid2BwdIdeal := hResid2BwdIdeal) (hResid2BwdRefIdeal := hResid2BwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_ConvLnBwd_ConvLnBwdIdeal
    ∧ algebraic_ConvLnBwdIdeal_ConvLnBwdRefIdeal (hConvLnBwdIdeal := hConvLnBwdIdeal) (hConvLnBwdRefIdeal := hConvLnBwdRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvLnFwd_ConvLnFwdIdeal
    ∧ algebraic_ConvLnFwdIdeal_ConvLnFwdRefIdeal (hConvLnFwdIdeal := hConvLnFwdIdeal) (hConvLnFwdRefIdeal := hConvLnFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Small_SmallIdeal
    ∧ algebraic_SmallIdeal_SmallRefIdeal (hSmallIdeal := hSmallIdeal) (hSmallRefIdeal := hSmallRefIdeal)
-- ==== Kernel.lean ====
abbrev S4096x7680 : Shape := ⟨2, ![4096, 7680]⟩
abbrev S4096x512 : Shape := ⟨2, ![4096, 512]⟩
abbrev S31x512 : Shape := ⟨2, ![31, 512]⟩
abbrev S_ : Shape := ⟨0, ![]⟩
abbrev S32x512 : Shape := ⟨2, ![32, 512]⟩
abbrev S4096x1024 : Shape := ⟨2, ![4096, 1024]⟩
abbrev S1x512 : Shape := ⟨2, ![1, 512]⟩
abbrev S512x512 : Shape := ⟨2, ![512, 512]⟩
abbrev S512x1024 : Shape := ⟨2, ![512, 1024]⟩
abbrev S544x512 : Shape := ⟨2, ![544, 512]⟩
abbrev S512 : Shape := ⟨1, ![512]⟩

abbrev nBuf : Space → Nat
  | .hbm => 9
  | .vmem => 17
  | .smem => 0
  | _ => 0

abbrev bufTy : (tb : Table) → Fin (tcTables nBuf tb) → BufTy
  | .hbm, ⟨0, _⟩ => ⟨S4096x7680, .f32⟩
  | .hbm, ⟨1, _⟩ => ⟨S4096x512, .f32⟩
  | .hbm, ⟨2, _⟩ => ⟨S31x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S4096x1024, .bf16⟩
  | .hbm, ⟨7, _⟩ => ⟨S32x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S512x512, .f32⟩
  | .local _ .vmem, ⟨9, _⟩ => ⟨S512x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S512x1024, .bf16⟩
  | .local _ .vmem, ⟨14, _⟩ => ⟨S512x1024, .bf16⟩
  | .local _ .vmem, ⟨15, _⟩ => ⟨S32x512, .f32⟩
  | .local _ .vmem, ⟨16, _⟩ => ⟨S1x512, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x7680 : Shape := ⟨2, ![4096, 7680]⟩
abbrev S4096x512 : Shape := ⟨2, ![4096, 512]⟩
abbrev S31x512 : Shape := ⟨2, ![31, 512]⟩
abbrev S_ : Shape := ⟨0, ![]⟩
abbrev S512 : Shape := ⟨1, ![512]⟩
abbrev S30x512 : Shape := ⟨2, ![30, 512]⟩
abbrev S4126x512 : Shape := ⟨2, ![4126, 512]⟩
abbrev S1x512 : Shape := ⟨2, ![1, 512]⟩
abbrev S4096x1024 : Shape := ⟨2, ![4096, 1024]⟩
abbrev S32x512 : Shape := ⟨2, ![32, 512]⟩

abbrev nBuf : Space → Nat
  | .hbm => 727
  | .vmem => 0
  | .smem => 0
  | _ => 0

abbrev hbmTy0_0 (i : Nat) : BufTy := match i % 128 with
  | 0 => ⟨S4096x7680, .f32⟩
  | 1 => ⟨S4096x512, .f32⟩
  | 2 => ⟨S31x512, .f32⟩
  | 3 => ⟨S4096x512, .f32⟩
  | 4 => ⟨S4096x512, .f32⟩
  | 5 => ⟨S_, .f32⟩
  | 6 => ⟨S512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S30x512, .f32⟩
  | 22 => ⟨S4126x512, .f32⟩
  | 23 => ⟨S_, .f32⟩
  | 24 => ⟨S30x512, .f32⟩
  | 25 => ⟨S1x512, .f32⟩
  | 26 => ⟨S512, .f32⟩
  | 27 => ⟨S4096x512, .f32⟩
  | 28 => ⟨S1x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S4096x512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S1x512, .f32⟩
  | 112 => ⟨S512, .f32⟩
  | 113 => ⟨S4096x512, .f32⟩
  | 114 => ⟨S1x512, .f32⟩
  | 115 => ⟨S4096x512, .f32⟩
  | 116 => ⟨S4096x512, .f32⟩
  | 117 => ⟨S4096x512, .f32⟩
  | 118 => ⟨S1x512, .f32⟩
  | 119 => ⟨S512, .f32⟩
  | 120 => ⟨S4096x512, .f32⟩
  | 121 => ⟨S1x512, .f32⟩
  | 122 => ⟨S4096x512, .f32⟩
  | 123 => ⟨S4096x512, .f32⟩
  | 124 => ⟨S4096x512, .f32⟩
  | 125 => ⟨S1x512, .f32⟩
  | 126 => ⟨S512, .f32⟩
  | 127 => ⟨S4096x512, .f32⟩
  | _ => ⟨S4096x7680, .f32⟩

abbrev hbmTy0_1 (i : Nat) : BufTy := match i % 128 with
  | 0 => ⟨S1x512, .f32⟩
  | 1 => ⟨S4096x512, .f32⟩
  | 2 => ⟨S4096x512, .f32⟩
  | 3 => ⟨S4096x512, .f32⟩
  | 4 => ⟨S1x512, .f32⟩
  | 5 => ⟨S512, .f32⟩
  | 6 => ⟨S4096x512, .f32⟩
  | 7 => ⟨S1x512, .f32⟩
  | 8 => ⟨S4096x512, .f32⟩
  | 9 => ⟨S4096x512, .f32⟩
  | 10 => ⟨S4096x512, .f32⟩
  | 11 => ⟨S1x512, .f32⟩
  | 12 => ⟨S512, .f32⟩
  | 13 => ⟨S4096x512, .f32⟩
  | 14 => ⟨S1x512, .f32⟩
  | 15 => ⟨S4096x512, .f32⟩
  | 16 => ⟨S4096x512, .f32⟩
  | 17 => ⟨S4096x512, .f32⟩
  | 18 => ⟨S1x512, .f32⟩
  | 19 => ⟨S512, .f32⟩
  | 20 => ⟨S4096x512, .f32⟩
  | 21 => ⟨S1x512, .f32⟩
  | 22 => ⟨S4096x512, .f32⟩
  | 23 => ⟨S4096x512, .f32⟩
  | 24 => ⟨S4096x512, .f32⟩
  | 25 => ⟨S1x512, .f32⟩
  | 26 => ⟨S512, .f32⟩
  | 27 => ⟨S4096x512, .f32⟩
  | 28 => ⟨S1x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S4096x512, .f32⟩
  | 35 => ⟨S1x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S4096x512, .f32⟩
  | 49 => ⟨S1x512, .f32⟩
  | 50 => ⟨S4096x512, .f32⟩
  | 51 => ⟨S4096x512, .f32⟩
  | 52 => ⟨S4096x512, .f32⟩
  | 53 => ⟨S1x512, .f32⟩
  | 54 => ⟨S512, .f32⟩
  | 55 => ⟨S4096x512, .f32⟩
  | 56 => ⟨S1x512, .f32⟩
  | 57 => ⟨S4096x512, .f32⟩
  | 58 => ⟨S4096x512, .f32⟩
  | 59 => ⟨S4096x512, .f32⟩
  | 60 => ⟨S1x512, .f32⟩
  | 61 => ⟨S512, .f32⟩
  | 62 => ⟨S4096x512, .f32⟩
  | 63 => ⟨S1x512, .f32⟩
  | 64 => ⟨S4096x512, .f32⟩
  | 65 => ⟨S4096x512, .f32⟩
  | 66 => ⟨S4096x512, .f32⟩
  | 67 => ⟨S1x512, .f32⟩
  | 68 => ⟨S512, .f32⟩
  | 69 => ⟨S4096x512, .f32⟩
  | 70 => ⟨S1x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S4096x512, .f32⟩
  | 77 => ⟨S1x512, .f32⟩
  | 78 => ⟨S4096x512, .f32⟩
  | 79 => ⟨S4096x512, .f32⟩
  | 80 => ⟨S4096x512, .f32⟩
  | 81 => ⟨S1x512, .f32⟩
  | 82 => ⟨S512, .f32⟩
  | 83 => ⟨S4096x512, .f32⟩
  | 84 => ⟨S1x512, .f32⟩
  | 85 => ⟨S4096x512, .f32⟩
  | 86 => ⟨S4096x512, .f32⟩
  | 87 => ⟨S4096x512, .f32⟩
  | 88 => ⟨S1x512, .f32⟩
  | 89 => ⟨S512, .f32⟩
  | 90 => ⟨S4096x512, .f32⟩
  | 91 => ⟨S1x512, .f32⟩
  | 92 => ⟨S4096x512, .f32⟩
  | 93 => ⟨S4096x512, .f32⟩
  | 94 => ⟨S4096x512, .f32⟩
  | 95 => ⟨S1x512, .f32⟩
  | 96 => ⟨S512, .f32⟩
  | 97 => ⟨S4096x512, .f32⟩
  | 98 => ⟨S1x512, .f32⟩
  | 99 => ⟨S4096x512, .f32⟩
  | 100 => ⟨S4096x512, .f32⟩
  | 101 => ⟨S4096x512, .f32⟩
  | 102 => ⟨S1x512, .f32⟩
  | 103 => ⟨S512, .f32⟩
  | 104 => ⟨S4096x512, .f32⟩
  | 105 => ⟨S1x512, .f32⟩
  | 106 => ⟨S4096x512, .f32⟩
  | 107 => ⟨S4096x512, .f32⟩
  | 108 => ⟨S4096x512, .f32⟩
  | 109 => ⟨S1x512, .f32⟩
  | 110 => ⟨S512, .f32⟩
  | 111 => ⟨S4096x512, .f32⟩
  | 112 => ⟨S1x512, .f32⟩
  | 113 => ⟨S4096x512, .f32⟩
  | 114 => ⟨S4096x512, .f32⟩
  | 115 => ⟨S4096x512, .f32⟩
  | 116 => ⟨S1x512, .f32⟩
  | 117 => ⟨S4096x512, .f32⟩
  | 118 => ⟨S4096x512, .f32⟩
  | 119 => ⟨S4096x512, .f32⟩
  | 120 => ⟨S_, .f32⟩
  | 121 => ⟨S512, .f32⟩
  | 122 => ⟨S1x512, .f32⟩
  | 123 => ⟨S_, .f32⟩
  | 124 => ⟨S512, .f32⟩
  | 125 => ⟨S4096x512, .f32⟩
  | 126 => ⟨S4096x512, .f32⟩
  | 127 => ⟨S4096x512, .f32⟩
  | _ => ⟨S4096x7680, .f32⟩

abbrev hbmTy0_2 (i : Nat) : BufTy := match i % 128 with
  | 0 => ⟨S_, .f32⟩
  | 1 => ⟨S512, .f32⟩
  | 2 => ⟨S1x512, .f32⟩
  | 3 => ⟨S_, .f32⟩
  | 4 => ⟨S512, .f32⟩
  | 5 => ⟨S_, .f32⟩
  | 6 => ⟨S4126x512, .f32⟩
  | 7 => ⟨S1x512, .f32⟩
  | 8 => ⟨S_, .f32⟩
  | 9 => ⟨S31x512, .f32⟩
  | 10 => ⟨S4096x512, .f32⟩
  | 11 => ⟨S4096x512, .f32⟩
  | 12 => ⟨S4096x512, .f32⟩
  | 13 => ⟨S_, .f32⟩
  | 14 => ⟨S512, .f32⟩
  | 15 => ⟨S1x512, .f32⟩
  | 16 => ⟨S_, .f32⟩
  | 17 => ⟨S512, .f32⟩
  | 18 => ⟨S_, .f32⟩
  | 19 => ⟨S4126x512, .f32⟩
  | 20 => ⟨S4126x512, .f32⟩
  | 21 => ⟨S1x512, .f32⟩
  | 22 => ⟨S_, .f32⟩
  | 23 => ⟨S31x512, .f32⟩
  | 24 => ⟨S31x512, .f32⟩
  | 25 => ⟨S4096x512, .f32⟩
  | 26 => ⟨S4096x512, .f32⟩
  | 27 => ⟨S4096x512, .f32⟩
  | 28 => ⟨S_, .f32⟩
  | 29 => ⟨S512, .f32⟩
  | 30 => ⟨S1x512, .f32⟩
  | 31 => ⟨S_, .f32⟩
  | 32 => ⟨S512, .f32⟩
  | 33 => ⟨S_, .f32⟩
  | 34 => ⟨S4126x512, .f32⟩
  | 35 => ⟨S4126x512, .f32⟩
  | 36 => ⟨S1x512, .f32⟩
  | 37 => ⟨S_, .f32⟩
  | 38 => ⟨S31x512, .f32⟩
  | 39 => ⟨S31x512, .f32⟩
  | 40 => ⟨S4096x512, .f32⟩
  | 41 => ⟨S4096x512, .f32⟩
  | 42 => ⟨S4096x512, .f32⟩
  | 43 => ⟨S_, .f32⟩
  | 44 => ⟨S512, .f32⟩
  | 45 => ⟨S1x512, .f32⟩
  | 46 => ⟨S_, .f32⟩
  | 47 => ⟨S512, .f32⟩
  | 48 => ⟨S_, .f32⟩
  | 49 => ⟨S4126x512, .f32⟩
  | 50 => ⟨S4126x512, .f32⟩
  | 51 => ⟨S1x512, .f32⟩
  | 52 => ⟨S_, .f32⟩
  | 53 => ⟨S31x512, .f32⟩
  | 54 => ⟨S31x512, .f32⟩
  | 55 => ⟨S4096x512, .f32⟩
  | 56 => ⟨S4096x512, .f32⟩
  | 57 => ⟨S4096x512, .f32⟩
  | 58 => ⟨S_, .f32⟩
  | 59 => ⟨S512, .f32⟩
  | 60 => ⟨S1x512, .f32⟩
  | 61 => ⟨S_, .f32⟩
  | 62 => ⟨S512, .f32⟩
  | 63 => ⟨S_, .f32⟩
  | 64 => ⟨S4126x512, .f32⟩
  | 65 => ⟨S4126x512, .f32⟩
  | 66 => ⟨S1x512, .f32⟩
  | 67 => ⟨S_, .f32⟩
  | 68 => ⟨S31x512, .f32⟩
  | 69 => ⟨S31x512, .f32⟩
  | 70 => ⟨S4096x512, .f32⟩
  | 71 => ⟨S4096x512, .f32⟩
  | 72 => ⟨S4096x512, .f32⟩
  | 73 => ⟨S_, .f32⟩
  | 74 => ⟨S512, .f32⟩
  | 75 => ⟨S1x512, .f32⟩
  | 76 => ⟨S_, .f32⟩
  | 77 => ⟨S512, .f32⟩
  | 78 => ⟨S_, .f32⟩
  | 79 => ⟨S4126x512, .f32⟩
  | 80 => ⟨S4126x512, .f32⟩
  | 81 => ⟨S1x512, .f32⟩
  | 82 => ⟨S_, .f32⟩
  | 83 => ⟨S31x512, .f32⟩
  | 84 => ⟨S31x512, .f32⟩
  | 85 => ⟨S4096x512, .f32⟩
  | 86 => ⟨S4096x512, .f32⟩
  | 87 => ⟨S4096x512, .f32⟩
  | 88 => ⟨S_, .f32⟩
  | 89 => ⟨S512, .f32⟩
  | 90 => ⟨S1x512, .f32⟩
  | 91 => ⟨S_, .f32⟩
  | 92 => ⟨S512, .f32⟩
  | 93 => ⟨S_, .f32⟩
  | 94 => ⟨S4126x512, .f32⟩
  | 95 => ⟨S4126x512, .f32⟩
  | 96 => ⟨S1x512, .f32⟩
  | 97 => ⟨S_, .f32⟩
  | 98 => ⟨S31x512, .f32⟩
  | 99 => ⟨S31x512, .f32⟩
  | 100 => ⟨S4096x512, .f32⟩
  | 101 => ⟨S4096x512, .f32⟩
  | 102 => ⟨S4096x512, .f32⟩
  | 103 => ⟨S_, .f32⟩
  | 104 => ⟨S512, .f32⟩
  | 105 => ⟨S1x512, .f32⟩
  | 106 => ⟨S_, .f32⟩
  | 107 => ⟨S512, .f32⟩
  | 108 => ⟨S_, .f32⟩
  | 109 => ⟨S4126x512, .f32⟩
  | 110 => ⟨S4126x512, .f32⟩
  | 111 => ⟨S1x512, .f32⟩
  | 112 => ⟨S_, .f32⟩
  | 113 => ⟨S31x512, .f32⟩
  | 114 => ⟨S31x512, .f32⟩
  | 115 => ⟨S4096x512, .f32⟩
  | 116 => ⟨S4096x512, .f32⟩
  | 117 => ⟨S4096x512, .f32⟩
  | 118 => ⟨S_, .f32⟩
  | 119 => ⟨S512, .f32⟩
  | 120 => ⟨S1x512, .f32⟩
  | 121 => ⟨S_, .f32⟩
  | 122 => ⟨S512, .f32⟩
  | 123 => ⟨S_, .f32⟩
  | 124 => ⟨S4126x512, .f32⟩
  | 125 => ⟨S4126x512, .f32⟩
  | 126 => ⟨S1x512, .f32⟩
  | 127 => ⟨S_, .f32⟩
  | _ => ⟨S4096x7680, .f32⟩

abbrev hbmTy0_3 (i : Nat) : BufTy := match i % 128 with
  | 0 => ⟨S31x512, .f32⟩
  | 1 => ⟨S31x512, .f32⟩
  | 2 => ⟨S4096x512, .f32⟩
  | 3 => ⟨S4096x512, .f32⟩
  | 4 => ⟨S4096x512, .f32⟩
  | 5 => ⟨S_, .f32⟩
  | 6 => ⟨S512, .f32⟩
  | 7 => ⟨S1x512, .f32⟩
  | 8 => ⟨S_, .f32⟩
  | 9 => ⟨S512, .f32⟩
  | 10 => ⟨S_, .f32⟩
  | 11 => ⟨S4126x512, .f32⟩
  | 12 => ⟨S4126x512, .f32⟩
  | 13 => ⟨S1x512, .f32⟩
  | 14 => ⟨S_, .f32⟩
  | 15 => ⟨S31x512, .f32⟩
  | 16 => ⟨S31x512, .f32⟩
  | 17 => ⟨S4096x512, .f32⟩
  | 18 => ⟨S4096x512, .f32⟩
  | 19 => ⟨S4096x512, .f32⟩
  | 20 => ⟨S_, .f32⟩
  | 21 => ⟨S512, .f32⟩
  | 22 => ⟨S1x512, .f32⟩
  | 23 => ⟨S_, .f32⟩
  | 24 => ⟨S512, .f32⟩
  | 25 => ⟨S_, .f32⟩
  | 26 => ⟨S4126x512, .f32⟩
  | 27 => ⟨S4126x512, .f32⟩
  | 28 => ⟨S1x512, .f32⟩
  | 29 => ⟨S_, .f32⟩
  | 30 => ⟨S31x512, .f32⟩
  | 31 => ⟨S31x512, .f32⟩
  | 32 => ⟨S4096x512, .f32⟩
  | 33 => ⟨S4096x512, .f32⟩
  | 34 => ⟨S4096x512, .f32⟩
  | 35 => ⟨S_, .f32⟩
  | 36 => ⟨S512, .f32⟩
  | 37 => ⟨S1x512, .f32⟩
  | 38 => ⟨S_, .f32⟩
  | 39 => ⟨S512, .f32⟩
  | 40 => ⟨S_, .f32⟩
  | 41 => ⟨S4126x512, .f32⟩
  | 42 => ⟨S4126x512, .f32⟩
  | 43 => ⟨S1x512, .f32⟩
  | 44 => ⟨S_, .f32⟩
  | 45 => ⟨S31x512, .f32⟩
  | 46 => ⟨S31x512, .f32⟩
  | 47 => ⟨S4096x512, .f32⟩
  | 48 => ⟨S4096x512, .f32⟩
  | 49 => ⟨S4096x512, .f32⟩
  | 50 => ⟨S_, .f32⟩
  | 51 => ⟨S512, .f32⟩
  | 52 => ⟨S1x512, .f32⟩
  | 53 => ⟨S_, .f32⟩
  | 54 => ⟨S512, .f32⟩
  | 55 => ⟨S_, .f32⟩
  | 56 => ⟨S4126x512, .f32⟩
  | 57 => ⟨S4126x512, .f32⟩
  | 58 => ⟨S1x512, .f32⟩
  | 59 => ⟨S_, .f32⟩
  | 60 => ⟨S31x512, .f32⟩
  | 61 => ⟨S31x512, .f32⟩
  | 62 => ⟨S4096x512, .f32⟩
  | 63 => ⟨S4096x512, .f32⟩
  | 64 => ⟨S4096x512, .f32⟩
  | 65 => ⟨S_, .f32⟩
  | 66 => ⟨S512, .f32⟩
  | 67 => ⟨S1x512, .f32⟩
  | 68 => ⟨S_, .f32⟩
  | 69 => ⟨S512, .f32⟩
  | 70 => ⟨S_, .f32⟩
  | 71 => ⟨S4126x512, .f32⟩
  | 72 => ⟨S4126x512, .f32⟩
  | 73 => ⟨S1x512, .f32⟩
  | 74 => ⟨S_, .f32⟩
  | 75 => ⟨S31x512, .f32⟩
  | 76 => ⟨S31x512, .f32⟩
  | 77 => ⟨S4096x512, .f32⟩
  | 78 => ⟨S4096x512, .f32⟩
  | 79 => ⟨S4096x512, .f32⟩
  | 80 => ⟨S_, .f32⟩
  | 81 => ⟨S512, .f32⟩
  | 82 => ⟨S1x512, .f32⟩
  | 83 => ⟨S_, .f32⟩
  | 84 => ⟨S512, .f32⟩
  | 85 => ⟨S_, .f32⟩
  | 86 => ⟨S4126x512, .f32⟩
  | 87 => ⟨S4126x512, .f32⟩
  | 88 => ⟨S1x512, .f32⟩
  | 89 => ⟨S_, .f32⟩
  | 90 => ⟨S31x512, .f32⟩
  | 91 => ⟨S31x512, .f32⟩
  | 92 => ⟨S4096x512, .f32⟩
  | 93 => ⟨S4096x512, .f32⟩
  | 94 => ⟨S4096x512, .f32⟩
  | 95 => ⟨S_, .f32⟩
  | 96 => ⟨S512, .f32⟩
  | 97 => ⟨S1x512, .f32⟩
  | 98 => ⟨S_, .f32⟩
  | 99 => ⟨S512, .f32⟩
  | 100 => ⟨S_, .f32⟩
  | 101 => ⟨S4126x512, .f32⟩
  | 102 => ⟨S4126x512, .f32⟩
  | 103 => ⟨S1x512, .f32⟩
  | 104 => ⟨S_, .f32⟩
  | 105 => ⟨S31x512, .f32⟩
  | 106 => ⟨S31x512, .f32⟩
  | 107 => ⟨S4096x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S_, .f32⟩
  | 114 => ⟨S512, .f32⟩
  | 115 => ⟨S_, .f32⟩
  | 116 => ⟨S4126x512, .f32⟩
  | 117 => ⟨S4126x512, .f32⟩
  | 118 => ⟨S1x512, .f32⟩
  | 119 => ⟨S_, .f32⟩
  | 120 => ⟨S31x512, .f32⟩
  | 121 => ⟨S31x512, .f32⟩
  | 122 => ⟨S4096x512, .f32⟩
  | 123 => ⟨S4096x512, .f32⟩
  | 124 => ⟨S4096x512, .f32⟩
  | 125 => ⟨S_, .f32⟩
  | 126 => ⟨S512, .f32⟩
  | 127 => ⟨S1x512, .f32⟩
  | _ => ⟨S4096x7680, .f32⟩

abbrev hbmTy0_4 (i : Nat) : BufTy := match i % 128 with
  | 0 => ⟨S_, .f32⟩
  | 1 => ⟨S512, .f32⟩
  | 2 => ⟨S_, .f32⟩
  | 3 => ⟨S4126x512, .f32⟩
  | 4 => ⟨S4126x512, .f32⟩
  | 5 => ⟨S1x512, .f32⟩
  | 6 => ⟨S_, .f32⟩
  | 7 => ⟨S31x512, .f32⟩
  | 8 => ⟨S31x512, .f32⟩
  | 9 => ⟨S4096x512, .f32⟩
  | 10 => ⟨S4096x512, .f32⟩
  | 11 => ⟨S4096x512, .f32⟩
  | 12 => ⟨S_, .f32⟩
  | 13 => ⟨S512, .f32⟩
  | 14 => ⟨S1x512, .f32⟩
  | 15 => ⟨S_, .f32⟩
  | 16 => ⟨S512, .f32⟩
  | 17 => ⟨S_, .f32⟩
  | 18 => ⟨S4126x512, .f32⟩
  | 19 => ⟨S4126x512, .f32⟩
  | 20 => ⟨S1x512, .f32⟩
  | 21 => ⟨S_, .f32⟩
  | 22 => ⟨S31x512, .f32⟩
  | 23 => ⟨S31x512, .f32⟩
  | 24 => ⟨S4096x512, .f32⟩
  | 25 => ⟨S4096x512, .f32⟩
  | 26 => ⟨S4096x512, .f32⟩
  | 27 => ⟨S_, .f32⟩
  | 28 => ⟨S512, .f32⟩
  | 29 => ⟨S1x512, .f32⟩
  | 30 => ⟨S_, .f32⟩
  | 31 => ⟨S512, .f32⟩
  | 32 => ⟨S_, .f32⟩
  | 33 => ⟨S4126x512, .f32⟩
  | 34 => ⟨S4126x512, .f32⟩
  | 35 => ⟨S1x512, .f32⟩
  | 36 => ⟨S_, .f32⟩
  | 37 => ⟨S31x512, .f32⟩
  | 38 => ⟨S31x512, .f32⟩
  | 39 => ⟨S4096x512, .f32⟩
  | 40 => ⟨S4096x512, .f32⟩
  | 41 => ⟨S4096x512, .f32⟩
  | 42 => ⟨S_, .f32⟩
  | 43 => ⟨S512, .f32⟩
  | 44 => ⟨S1x512, .f32⟩
  | 45 => ⟨S_, .f32⟩
  | 46 => ⟨S512, .f32⟩
  | 47 => ⟨S_, .f32⟩
  | 48 => ⟨S4126x512, .f32⟩
  | 49 => ⟨S4126x512, .f32⟩
  | 50 => ⟨S1x512, .f32⟩
  | 51 => ⟨S_, .f32⟩
  | 52 => ⟨S31x512, .f32⟩
  | 53 => ⟨S31x512, .f32⟩
  | 54 => ⟨S4096x512, .f32⟩
  | 55 => ⟨S4096x512, .f32⟩
  | 56 => ⟨S4096x512, .f32⟩
  | 57 => ⟨S_, .f32⟩
  | 58 => ⟨S512, .f32⟩
  | 59 => ⟨S1x512, .f32⟩
  | 60 => ⟨S_, .f32⟩
  | 61 => ⟨S512, .f32⟩
  | 62 => ⟨S_, .f32⟩
  | 63 => ⟨S4126x512, .f32⟩
  | 64 => ⟨S4126x512, .f32⟩
  | 65 => ⟨S1x512, .f32⟩
  | 66 => ⟨S_, .f32⟩
  | 67 => ⟨S31x512, .f32⟩
  | 68 => ⟨S31x512, .f32⟩
  | 69 => ⟨S4096x512, .f32⟩
  | 70 => ⟨S4096x512, .f32⟩
  | 71 => ⟨S4096x512, .f32⟩
  | 72 => ⟨S_, .f32⟩
  | 73 => ⟨S512, .f32⟩
  | 74 => ⟨S1x512, .f32⟩
  | 75 => ⟨S_, .f32⟩
  | 76 => ⟨S512, .f32⟩
  | 77 => ⟨S_, .f32⟩
  | 78 => ⟨S4126x512, .f32⟩
  | 79 => ⟨S4126x512, .f32⟩
  | 80 => ⟨S1x512, .f32⟩
  | 81 => ⟨S_, .f32⟩
  | 82 => ⟨S31x512, .f32⟩
  | 83 => ⟨S31x512, .f32⟩
  | 84 => ⟨S4096x512, .f32⟩
  | 85 => ⟨S4096x512, .f32⟩
  | 86 => ⟨S4096x512, .f32⟩
  | 87 => ⟨S_, .f32⟩
  | 88 => ⟨S512, .f32⟩
  | 89 => ⟨S1x512, .f32⟩
  | 90 => ⟨S_, .f32⟩
  | 91 => ⟨S512, .f32⟩
  | 92 => ⟨S_, .f32⟩
  | 93 => ⟨S4126x512, .f32⟩
  | 94 => ⟨S4126x512, .f32⟩
  | 95 => ⟨S1x512, .f32⟩
  | 96 => ⟨S_, .f32⟩
  | 97 => ⟨S31x512, .f32⟩
  | 98 => ⟨S31x512, .f32⟩
  | 99 => ⟨S4096x512, .f32⟩
  | 100 => ⟨S4096x512, .f32⟩
  | 101 => ⟨S4096x512, .f32⟩
  | 102 => ⟨S_, .f32⟩
  | 103 => ⟨S512, .f32⟩
  | 104 => ⟨S1x512, .f32⟩
  | 105 => ⟨S_, .f32⟩
  | 106 => ⟨S512, .f32⟩
  | 107 => ⟨S_, .f32⟩
  | 108 => ⟨S4126x512, .f32⟩
  | 109 => ⟨S4126x512, .f32⟩
  | 110 => ⟨S1x512, .f32⟩
  | 111 => ⟨S_, .f32⟩
  | 112 => ⟨S31x512, .f32⟩
  | 113 => ⟨S31x512, .f32⟩
  | 114 => ⟨S4096x512, .f32⟩
  | 115 => ⟨S4096x512, .f32⟩
  | 116 => ⟨S4096x512, .f32⟩
  | 117 => ⟨S_, .f32⟩
  | 118 => ⟨S512, .f32⟩
  | 119 => ⟨S1x512, .f32⟩
  | 120 => ⟨S_, .f32⟩
  | 121 => ⟨S512, .f32⟩
  | 122 => ⟨S_, .f32⟩
  | 123 => ⟨S4126x512, .f32⟩
  | 124 => ⟨S4126x512, .f32⟩
  | 125 => ⟨S1x512, .f32⟩
  | 126 => ⟨S_, .f32⟩
  | 127 => ⟨S31x512, .f32⟩
  | _ => ⟨S4096x7680, .f32⟩

abbrev hbmTy0_5 (i : Nat) : BufTy := match i % 128 with
  | 0 => ⟨S31x512, .f32⟩
  | 1 => ⟨S4096x512, .f32⟩
  | 2 => ⟨S4096x512, .f32⟩
  | 3 => ⟨S4096x512, .f32⟩
  | 4 => ⟨S_, .f32⟩
  | 5 => ⟨S512, .f32⟩
  | 6 => ⟨S1x512, .f32⟩
  | 7 => ⟨S_, .f32⟩
  | 8 => ⟨S512, .f32⟩
  | 9 => ⟨S_, .f32⟩
  | 10 => ⟨S4126x512, .f32⟩
  | 11 => ⟨S4126x512, .f32⟩
  | 12 => ⟨S1x512, .f32⟩
  | 13 => ⟨S_, .f32⟩
  | 14 => ⟨S31x512, .f32⟩
  | 15 => ⟨S31x512, .f32⟩
  | 16 => ⟨S4096x512, .f32⟩
  | 17 => ⟨S4096x512, .f32⟩
  | 18 => ⟨S4096x512, .f32⟩
  | 19 => ⟨S_, .f32⟩
  | 20 => ⟨S512, .f32⟩
  | 21 => ⟨S1x512, .f32⟩
  | 22 => ⟨S_, .f32⟩
  | 23 => ⟨S512, .f32⟩
  | 24 => ⟨S_, .f32⟩
  | 25 => ⟨S4126x512, .f32⟩
  | 26 => ⟨S4126x512, .f32⟩
  | 27 => ⟨S1x512, .f32⟩
  | 28 => ⟨S_, .f32⟩
  | 29 => ⟨S31x512, .f32⟩
  | 30 => ⟨S31x512, .f32⟩
  | 31 => ⟨S4096x512, .f32⟩
  | 32 => ⟨S4096x512, .f32⟩
  | 33 => ⟨S4096x512, .f32⟩
  | 34 => ⟨S_, .f32⟩
  | 35 => ⟨S512, .f32⟩
  | 36 => ⟨S1x512, .f32⟩
  | 37 => ⟨S_, .f32⟩
  | 38 => ⟨S512, .f32⟩
  | 39 => ⟨S_, .f32⟩
  | 40 => ⟨S4126x512, .f32⟩
  | 41 => ⟨S4126x512, .f32⟩
  | 42 => ⟨S1x512, .f32⟩
  | 43 => ⟨S_, .f32⟩
  | 44 => ⟨S31x512, .f32⟩
  | 45 => ⟨S31x512, .f32⟩
  | 46 => ⟨S4096x512, .f32⟩
  | 47 => ⟨S4096x512, .f32⟩
  | 48 => ⟨S4096x512, .f32⟩
  | 49 => ⟨S_, .f32⟩
  | 50 => ⟨S512, .f32⟩
  | 51 => ⟨S1x512, .f32⟩
  | 52 => ⟨S_, .f32⟩
  | 53 => ⟨S512, .f32⟩
  | 54 => ⟨S_, .f32⟩
  | 55 => ⟨S4126x512, .f32⟩
  | 56 => ⟨S4126x512, .f32⟩
  | 57 => ⟨S1x512, .f32⟩
  | 58 => ⟨S_, .f32⟩
  | 59 => ⟨S31x512, .f32⟩
  | 60 => ⟨S31x512, .f32⟩
  | 61 => ⟨S4096x512, .f32⟩
  | 62 => ⟨S4096x512, .f32⟩
  | 63 => ⟨S4096x512, .f32⟩
  | 64 => ⟨S_, .f32⟩
  | 65 => ⟨S512, .f32⟩
  | 66 => ⟨S1x512, .f32⟩
  | 67 => ⟨S_, .f32⟩
  | 68 => ⟨S512, .f32⟩
  | 69 => ⟨S_, .f32⟩
  | 70 => ⟨S4126x512, .f32⟩
  | 71 => ⟨S4126x512, .f32⟩
  | 72 => ⟨S1x512, .f32⟩
  | 73 => ⟨S_, .f32⟩
  | 74 => ⟨S31x512, .f32⟩
  | 75 => ⟨S31x512, .f32⟩
  | 76 => ⟨S30x512, .f32⟩
  | 77 => ⟨S4096x512, .f32⟩
  | 78 => ⟨S4096x512, .f32⟩
  | 79 => ⟨S4096x512, .f32⟩
  | 80 => ⟨S4096x512, .f32⟩
  | 81 => ⟨S4096x1024, .f32⟩
  | 82 => ⟨S4096x1024, .bf16⟩
  | 83 => ⟨S_, .i32⟩
  | 84 => ⟨S_, .f32⟩
  | 85 => ⟨S32x512, .f32⟩
  | 86 => ⟨S1x512, .f32⟩
  | _ => ⟨S4096x7680, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x7680, .f32⟩

abbrev bufTy : (tb : Table) → Fin (tcTables nBuf tb) → BufTy
  | .hbm, ⟨i, _⟩ => hbmTy i
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_6 : Ref sig .tc := ⟨.hbm, 248, rfl⟩
abbrev main_v238 : Ref sig .tc := ⟨.hbm, 249, rfl⟩
abbrev main_v239 : Ref sig .tc := ⟨.hbm, 250, rfl⟩
abbrev main_cst_7 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_cst_10 : Ref sig .tc := ⟨.hbm, 261, rfl⟩
abbrev main_v247 : Ref sig .tc := ⟨.hbm, 262, rfl⟩
abbrev main_v248 : Ref sig .tc := ⟨.hbm, 263, rfl⟩
abbrev main_cst_11 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_cst_12 : Ref sig .tc := ⟨.hbm, 269, rfl⟩
abbrev main_v253 : Ref sig .tc := ⟨.hbm, 270, rfl⟩
abbrev main_v254 : Ref sig .tc := ⟨.hbm, 271, rfl⟩
abbrev main_cst_13 : Ref sig .tc := ⟨.hbm, 272, rfl⟩
abbrev main_v255 : Ref sig .tc := ⟨.hbm, 273, rfl⟩
abbrev main_cst_14 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_cst_16 : Ref sig .tc := ⟨.hbm, 284, rfl⟩
abbrev main_v264 : Ref sig .tc := ⟨.hbm, 285, rfl⟩
abbrev main_v265 : Ref sig .tc := ⟨.hbm, 286, rfl⟩
abbrev main_cst_17 : Ref sig .tc := ⟨.hbm, 287, rfl⟩
abbrev main_v266 : Ref sig .tc := ⟨.hbm, 288, rfl⟩
abbrev main_cst_18 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_cst_20 : Ref sig .tc := ⟨.hbm, 299, rfl⟩
abbrev main_v275 : Ref sig .tc := ⟨.hbm, 300, rfl⟩
abbrev main_v276 : Ref sig .tc := ⟨.hbm, 301, rfl⟩
abbrev main_cst_21 : Ref sig .tc := ⟨.hbm, 302, rfl⟩
abbrev main_v277 : Ref sig .tc := ⟨.hbm, 303, rfl⟩
abbrev main_cst_22 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_cst_24 : Ref sig .tc := ⟨.hbm, 314, rfl⟩
abbrev main_v286 : Ref sig .tc := ⟨.hbm, 315, rfl⟩
abbrev main_v287 : Ref sig .tc := ⟨.hbm, 316, rfl⟩
abbrev main_cst_25 : Ref sig .tc := ⟨.hbm, 317, rfl⟩
abbrev main_v288 : Ref sig .tc := ⟨.hbm, 318, rfl⟩
abbrev main_cst_26 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_cst_28 : Ref sig .tc := ⟨.hbm, 329, rfl⟩
abbrev main_v297 : Ref sig .tc := ⟨.hbm, 330, rfl⟩
abbrev main_v298 : Ref sig .tc := ⟨.hbm, 331, rfl⟩
abbrev main_cst_29 : Ref sig .tc := ⟨.hbm, 332, rfl⟩
abbrev main_v299 : Ref sig .tc := ⟨.hbm, 333, rfl⟩
abbrev main_cst_30 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_cst_32 : Ref sig .tc := ⟨.hbm, 344, rfl⟩
abbrev main_v308 : Ref sig .tc := ⟨.hbm, 345, rfl⟩
abbrev main_v309 : Ref sig .tc := ⟨.hbm, 346, rfl⟩
abbrev main_cst_33 : Ref sig .tc := ⟨.hbm, 347, rfl⟩
abbrev main_v310 : Ref sig .tc := ⟨.hbm, 348, rfl⟩
abbrev main_cst_34 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_36 : Ref sig .tc := ⟨.hbm, 359, rfl⟩
abbrev main_v319 : Ref sig .tc := ⟨.hbm, 360, rfl⟩
abbrev main_v320 : Ref sig .tc := ⟨.hbm, 361, rfl⟩
abbrev main_cst_37 : Ref sig .tc := ⟨.hbm, 362, rfl⟩
abbrev main_v321 : Ref sig .tc := ⟨.hbm, 363, rfl⟩
abbrev main_cst_38 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_cst_40 : Ref sig .tc := ⟨.hbm, 374, rfl⟩
abbrev main_v330 : Ref sig .tc := ⟨.hbm, 375, rfl⟩
abbrev main_v331 : Ref sig .tc := ⟨.hbm, 376, rfl⟩
abbrev main_cst_41 : Ref sig .tc := ⟨.hbm, 377, rfl⟩
abbrev main_v332 : Ref sig .tc := ⟨.hbm, 378, rfl⟩
abbrev main_cst_42 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_cst_44 : Ref sig .tc := ⟨.hbm, 389, rfl⟩
abbrev main_v341 : Ref sig .tc := ⟨.hbm, 390, rfl⟩
abbrev main_v342 : Ref sig .tc := ⟨.hbm, 391, rfl⟩
abbrev main_cst_45 : Ref sig .tc := ⟨.hbm, 392, rfl⟩
abbrev main_v343 : Ref sig .tc := ⟨.hbm, 393, rfl⟩
abbrev main_cst_46 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_48 : Ref sig .tc := ⟨.hbm, 404, rfl⟩
abbrev main_v352 : Ref sig .tc := ⟨.hbm, 405, rfl⟩
abbrev main_v353 : Ref sig .tc := ⟨.hbm, 406, rfl⟩
abbrev main_cst_49 : Ref sig .tc := ⟨.hbm, 407, rfl⟩
abbrev main_v354 : Ref sig .tc := ⟨.hbm, 408, rfl⟩
abbrev main_cst_50 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_cst_52 : Ref sig .tc := ⟨.hbm, 419, rfl⟩
abbrev main_v363 : Ref sig .tc := ⟨.hbm, 420, rfl⟩
abbrev main_v364 : Ref sig .tc := ⟨.hbm, 421, rfl⟩
abbrev main_cst_53 : Ref sig .tc := ⟨.hbm, 422, rfl⟩
abbrev main_v365 : Ref sig .tc := ⟨.hbm, 423, rfl⟩
abbrev main_cst_54 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_56 : Ref sig .tc := ⟨.hbm, 434, rfl⟩
abbrev main_v374 : Ref sig .tc := ⟨.hbm, 435, rfl⟩
abbrev main_v375 : Ref sig .tc := ⟨.hbm, 436, rfl⟩
abbrev main_cst_57 : Ref sig .tc := ⟨.hbm, 437, rfl⟩
abbrev main_v376 : Ref sig .tc := ⟨.hbm, 438, rfl⟩
abbrev main_cst_58 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_60 : Ref sig .tc := ⟨.hbm, 449, rfl⟩
abbrev main_v385 : Ref sig .tc := ⟨.hbm, 450, rfl⟩
abbrev main_v386 : Ref sig .tc := ⟨.hbm, 451, rfl⟩
abbrev main_cst_61 : Ref sig .tc := ⟨.hbm, 452, rfl⟩
abbrev main_v387 : Ref sig .tc := ⟨.hbm, 453, rfl⟩
abbrev main_cst_62 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_cst_64 : Ref sig .tc := ⟨.hbm, 464, rfl⟩
abbrev main_v396 : Ref sig .tc := ⟨.hbm, 465, rfl⟩
abbrev main_v397 : Ref sig .tc := ⟨.hbm, 466, rfl⟩
abbrev main_cst_65 : Ref sig .tc := ⟨.hbm, 467, rfl⟩
abbrev main_v398 : Ref sig .tc := ⟨.hbm, 468, rfl⟩
abbrev main_cst_66 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_v403 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_cst_68 : Ref sig .tc := ⟨.hbm, 479, rfl⟩
abbrev main_v407 : Ref sig .tc := ⟨.hbm, 480, rfl⟩
abbrev main_v408 : Ref sig .tc := ⟨.hbm, 481, rfl⟩
abbrev main_cst_69 : Ref sig .tc := ⟨.hbm, 482, rfl⟩
abbrev main_v409 : Ref sig .tc := ⟨.hbm, 483, rfl⟩
abbrev main_cst_70 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_cst_72 : Ref sig .tc := ⟨.hbm, 494, rfl⟩
abbrev main_v418 : Ref sig .tc := ⟨.hbm, 495, rfl⟩
abbrev main_v419 : Ref sig .tc := ⟨.hbm, 496, rfl⟩
abbrev main_cst_73 : Ref sig .tc := ⟨.hbm, 497, rfl⟩
abbrev main_v420 : Ref sig .tc := ⟨.hbm, 498, rfl⟩
abbrev main_cst_74 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_cst_76 : Ref sig .tc := ⟨.hbm, 509, rfl⟩
abbrev main_v429 : Ref sig .tc := ⟨.hbm, 510, rfl⟩
abbrev main_v430 : Ref sig .tc := ⟨.hbm, 511, rfl⟩
abbrev main_cst_77 : Ref sig .tc := ⟨.hbm, 512, rfl⟩
abbrev main_v431 : Ref sig .tc := ⟨.hbm, 513, rfl⟩
abbrev main_cst_78 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_v436 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_cst_80 : Ref sig .tc := ⟨.hbm, 524, rfl⟩
abbrev main_v440 : Ref sig .tc := ⟨.hbm, 525, rfl⟩
abbrev main_v441 : Ref sig .tc := ⟨.hbm, 526, rfl⟩
abbrev main_cst_81 : Ref sig .tc := ⟨.hbm, 527, rfl⟩
abbrev main_v442 : Ref sig .tc := ⟨.hbm, 528, rfl⟩
abbrev main_cst_82 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_cst_84 : Ref sig .tc := ⟨.hbm, 539, rfl⟩
abbrev main_v451 : Ref sig .tc := ⟨.hbm, 540, rfl⟩
abbrev main_v452 : Ref sig .tc := ⟨.hbm, 541, rfl⟩
abbrev main_cst_85 : Ref sig .tc := ⟨.hbm, 542, rfl⟩
abbrev main_v453 : Ref sig .tc := ⟨.hbm, 543, rfl⟩
abbrev main_cst_86 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_v458 : Ref sig .tc := ⟨.hbm, 550, rfl⟩
abbrev main_v459 : Ref sig .tc := ⟨.hbm, 551, rfl⟩
abbrev main_v460 : Ref sig .tc := ⟨.hbm, 552, rfl⟩
abbrev main_v461 : Ref sig .tc := ⟨.hbm, 553, rfl⟩
abbrev main_cst_88 : Ref sig .tc := ⟨.hbm, 554, rfl⟩
abbrev main_v462 : Ref sig .tc := ⟨.hbm, 555, rfl⟩
abbrev main_v463 : Ref sig .tc := ⟨.hbm, 556, rfl⟩
abbrev main_cst_89 : Ref sig .tc := ⟨.hbm, 557, rfl⟩
abbrev main_v464 : Ref sig .tc := ⟨.hbm, 558, rfl⟩
abbrev main_cst_90 : Ref sig .tc := ⟨.hbm, 559, rfl⟩
abbrev main_v465 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_v469 : Ref sig .tc := ⟨.hbm, 565, rfl⟩
abbrev main_v470 : Ref sig .tc := ⟨.hbm, 566, rfl⟩
abbrev main_v471 : Ref sig .tc := ⟨.hbm, 567, rfl⟩
abbrev main_v472 : Ref sig .tc := ⟨.hbm, 568, rfl⟩
abbrev main_cst_92 : Ref sig .tc := ⟨.hbm, 569, rfl⟩
abbrev main_v473 : Ref sig .tc := ⟨.hbm, 570, rfl⟩
abbrev main_v474 : Ref sig .tc := ⟨.hbm, 571, rfl⟩
abbrev main_cst_93 : Ref sig .tc := ⟨.hbm, 572, rfl⟩
abbrev main_v475 : Ref sig .tc := ⟨.hbm, 573, rfl⟩
abbrev main_cst_94 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_v480 : Ref sig .tc := ⟨.hbm, 580, rfl⟩
abbrev main_v481 : Ref sig .tc := ⟨.hbm, 581, rfl⟩
abbrev main_v482 : Ref sig .tc := ⟨.hbm, 582, rfl⟩
abbrev main_v483 : Ref sig .tc := ⟨.hbm, 583, rfl⟩
abbrev main_cst_96 : Ref sig .tc := ⟨.hbm, 584, rfl⟩
abbrev main_v484 : Ref sig .tc := ⟨.hbm, 585, rfl⟩
abbrev main_v485 : Ref sig .tc := ⟨.hbm, 586, rfl⟩
abbrev main_cst_97 : Ref sig .tc := ⟨.hbm, 587, rfl⟩
abbrev main_v486 : Ref sig .tc := ⟨.hbm, 588, rfl⟩
abbrev main_cst_98 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_v491 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_cst_100 : Ref sig .tc := ⟨.hbm, 599, rfl⟩
abbrev main_v495 : Ref sig .tc := ⟨.hbm, 600, rfl⟩
abbrev main_v496 : Ref sig .tc := ⟨.hbm, 601, rfl⟩
abbrev main_cst_101 : Ref sig .tc := ⟨.hbm, 602, rfl⟩
abbrev main_v497 : Ref sig .tc := ⟨.hbm, 603, rfl⟩
abbrev main_cst_102 : Ref sig .tc := ⟨.hbm, 604, rfl⟩
abbrev main_v498 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_v502 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_cst_104 : Ref sig .tc := ⟨.hbm, 614, rfl⟩
abbrev main_v506 : Ref sig .tc := ⟨.hbm, 615, rfl⟩
abbrev main_v507 : Ref sig .tc := ⟨.hbm, 616, rfl⟩
abbrev main_cst_105 : Ref sig .tc := ⟨.hbm, 617, rfl⟩
abbrev main_v508 : Ref sig .tc := ⟨.hbm, 618, rfl⟩
abbrev main_cst_106 : Ref sig .tc := ⟨.hbm, 619, rfl⟩
abbrev main_v509 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_v513 : Ref sig .tc := ⟨.hbm, 625, rfl⟩
abbrev main_v514 : Ref sig .tc := ⟨.hbm, 626, rfl⟩
abbrev main_v515 : Ref sig .tc := ⟨.hbm, 627, rfl⟩
abbrev main_v516 : Ref sig .tc := ⟨.hbm, 628, rfl⟩
abbrev main_cst_108 : Ref sig .tc := ⟨.hbm, 629, rfl⟩
abbrev main_v517 : Ref sig .tc := ⟨.hbm, 630, rfl⟩
abbrev main_v518 : Ref sig .tc := ⟨.hbm, 631, rfl⟩
abbrev main_cst_109 : Ref sig .tc := ⟨.hbm, 632, rfl⟩
abbrev main_v519 : Ref sig .tc := ⟨.hbm, 633, rfl⟩
abbrev main_cst_110 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_v524 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_cst_112 : Ref sig .tc := ⟨.hbm, 644, rfl⟩
abbrev main_v528 : Ref sig .tc := ⟨.hbm, 645, rfl⟩
abbrev main_v529 : Ref sig .tc := ⟨.hbm, 646, rfl⟩
abbrev main_cst_113 : Ref sig .tc := ⟨.hbm, 647, rfl⟩
abbrev main_v530 : Ref sig .tc := ⟨.hbm, 648, rfl⟩
abbrev main_cst_114 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_v535 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_cst_116 : Ref sig .tc := ⟨.hbm, 659, rfl⟩
abbrev main_v539 : Ref sig .tc := ⟨.hbm, 660, rfl⟩
abbrev main_v540 : Ref sig .tc := ⟨.hbm, 661, rfl⟩
abbrev main_cst_117 : Ref sig .tc := ⟨.hbm, 662, rfl⟩
abbrev main_v541 : Ref sig .tc := ⟨.hbm, 663, rfl⟩
abbrev main_cst_118 : Ref sig .tc := ⟨.hbm, 664, rfl⟩
abbrev main_v542 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_v546 : Ref sig .tc := ⟨.hbm, 670, rfl⟩
abbrev main_v547 : Ref sig .tc := ⟨.hbm, 671, rfl⟩
abbrev main_v548 : Ref sig .tc := ⟨.hbm, 672, rfl⟩
abbrev main_v549 : Ref sig .tc := ⟨.hbm, 673, rfl⟩
abbrev main_cst_120 : Ref sig .tc := ⟨.hbm, 674, rfl⟩
abbrev main_v550 : Ref sig .tc := ⟨.hbm, 675, rfl⟩
abbrev main_v551 : Ref sig .tc := ⟨.hbm, 676, rfl⟩
abbrev main_cst_121 : Ref sig .tc := ⟨.hbm, 677, rfl⟩
abbrev main_v552 : Ref sig .tc := ⟨.hbm, 678, rfl⟩
abbrev main_cst_122 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_cst_124 : Ref sig .tc := ⟨.hbm, 689, rfl⟩
abbrev main_v561 : Ref sig .tc := ⟨.hbm, 690, rfl⟩
abbrev main_v562 : Ref sig .tc := ⟨.hbm, 691, rfl⟩
abbrev main_cst_125 : Ref sig .tc := ⟨.hbm, 692, rfl⟩
abbrev main_v563 : Ref sig .tc := ⟨.hbm, 693, rfl⟩
abbrev main_cst_126 : Ref sig .tc := ⟨.hbm, 694, rfl⟩
abbrev main_v564 : Ref sig .tc := ⟨.hbm, 695, rfl⟩
abbrev main_v565 : Ref sig .tc := ⟨.hbm, 696, rfl⟩
abbrev main_v566 : Ref sig .tc := ⟨.hbm, 697, rfl⟩
abbrev main_cst_127 : Ref sig .tc := ⟨.hbm, 698, rfl⟩
abbrev main_v567 : Ref sig .tc := ⟨.hbm, 699, rfl⟩
abbrev main_v568 : Ref sig .tc := ⟨.hbm, 700, rfl⟩
abbrev main_v569 : Ref sig .tc := ⟨.hbm, 701, rfl⟩
abbrev main_v570 : Ref sig .tc := ⟨.hbm, 702, rfl⟩
abbrev main_v571 : Ref sig .tc := ⟨.hbm, 703, rfl⟩
abbrev main_cst_128 : Ref sig .tc := ⟨.hbm, 704, rfl⟩
abbrev main_v572 : Ref sig .tc := ⟨.hbm, 705, rfl⟩
abbrev main_v573 : Ref sig .tc := ⟨.hbm, 706, rfl⟩
abbrev main_cst_129 : Ref sig .tc := ⟨.hbm, 707, rfl⟩
abbrev main_v574 : Ref sig .tc := ⟨.hbm, 708, rfl⟩
abbrev main_cst_130 : Ref sig .tc := ⟨.hbm, 709, rfl⟩
abbrev main_v575 : Ref sig .tc := ⟨.hbm, 710, rfl⟩
abbrev main_v576 : Ref sig .tc := ⟨.hbm, 711, rfl⟩
abbrev main_v577 : Ref sig .tc := ⟨.hbm, 712, rfl⟩
abbrev main_cst_131 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_c : Ref sig .tc := ⟨.hbm, 723, rfl⟩
abbrev main_call0_v0 : Ref sig .tc := ⟨.hbm, 724, rfl⟩
abbrev main_v587 : Ref sig .tc := ⟨.hbm, 725, rfl⟩
abbrev main_v588 : Ref sig .tc := ⟨.hbm, 726, rfl⟩

abbrev nD : Nat := 1
abbrev τ : Topo := Topo.v7x

variable {F : FTy → Type} [FloatOps F]
-- ==== WInDx.lean ====
abbrev S4096x7680 : Shape := ⟨2, ![4096, 7680]⟩
abbrev S1024x7680 : Shape := ⟨2, ![1024, 7680]⟩
abbrev S4096x1024 : Shape := ⟨2, ![4096, 1024]⟩
abbrev S1024x1920 : Shape := ⟨2, ![1024, 1920]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x7680, .bf16⟩
  | .hbm, ⟨1, _⟩ => ⟨S1024x7680, .bf16⟩
  | .hbm, ⟨2, _⟩ => ⟨S4096x1024, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | _, _ => ⟨S4096x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDxRefIdeal.lean ====
abbrev S4096x7680 : Shape := ⟨2, ![4096, 7680]⟩
abbrev S1024x7680 : Shape := ⟨2, ![1024, 7680]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x7680, .bf16⟩
  | .hbm, ⟨1, _⟩ => ⟨S1024x7680, .bf16⟩
  | .hbm, ⟨2, _⟩ => ⟨S4096x7680, .f32⟩
  | .hbm, ⟨3, _⟩ => ⟨S1024x7680, .f32⟩
  | .hbm, ⟨4, _⟩ => ⟨S_, .f32⟩
  | .hbm, ⟨5, _⟩ => ⟨S4096x1024, .f32⟩
  | .hbm, ⟨6, _⟩ => ⟨S4096x7680, .f32⟩
  | .hbm, ⟨7, _⟩ => ⟨S4096x1024, .f32⟩
  | _, _ => ⟨S4096x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WInDw.lean ====
abbrev S4096x1024 : Shape := ⟨2, ![4096, 1024]⟩
abbrev S4096x7680 : Shape := ⟨2, ![4096, 7680]⟩
abbrev S1024x7680 : Shape := ⟨2, ![1024, 7680]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x7680, .bf16⟩
  | .hbm, ⟨2, _⟩ => ⟨S1024x7680, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDwRefIdeal.lean ====
abbrev S4096x1024 : Shape := ⟨2, ![4096, 1024]⟩
abbrev S4096x7680 : Shape := ⟨2, ![4096, 7680]⟩
abbrev S_ : Shape := ⟨0, ![]⟩
abbrev S1024x7680 : Shape := ⟨2, ![1024, 7680]⟩
abbrev S7680x1024 : Shape := ⟨2, ![7680, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x7680, .bf16⟩
  | .hbm, ⟨2, _⟩ => ⟨S4096x1024, .f32⟩
  | .hbm, ⟨3, _⟩ => ⟨S4096x7680, .f32⟩
  | .hbm, ⟨4, _⟩ => ⟨S_, .f32⟩
  | .hbm, ⟨5, _⟩ => ⟨S1024x7680, .f32⟩
  | .hbm, ⟨6, _⟩ => ⟨S4096x7680, .f32⟩
  | .hbm, ⟨7, _⟩ => ⟨S7680x1024, .f32⟩
  | .hbm, ⟨8, _⟩ => ⟨S1024x7680, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mlp1Dx.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DxRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x4096, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mlp1Dw.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mlp2Dx.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Mlp2DxRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Mlp2Dw.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2DwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDw.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvProjDx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvProjDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WIn.lean ====
abbrev S4096x1024 : Shape := ⟨2, ![4096, 1024]⟩
abbrev S1024x7680 : Shape := ⟨2, ![1024, 7680]⟩
abbrev S4096x7680 : Shape := ⟨2, ![4096, 7680]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x7680, .bf16⟩
  | .hbm, ⟨2, _⟩ => ⟨S4096x7680, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S4096x1024 : Shape := ⟨2, ![4096, 1024]⟩
abbrev S1024x7680 : Shape := ⟨2, ![1024, 7680]⟩
abbrev S4096x7680 : Shape := ⟨2, ![4096, 7680]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7680, .bf16⟩
  | .hbm, ⟨2, _⟩ => ⟨S4096x1024, .f32⟩
  | .hbm, ⟨3, _⟩ => ⟨S1024x7680, .f32⟩
  | .hbm, ⟨4, _⟩ => ⟨S4096x7680, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proj.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutFwdRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Mlp2Fwd.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Mlp2FwdRefIdeal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Mlp1Fwd.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Mlp1FwdRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ModFwd.lean ====
abbrev S8x1024 : Shape := ⟨2, ![8, 1024]⟩
abbrev S2x1024x1536 : Shape := ⟨3, ![2, 1024, 1536]⟩
abbrev S8x1536 : Shape := ⟨2, ![8, 1536]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S8x1536, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S8x768, .f32⟩
  | .local _ .vmem, ⟨4, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModFwdRefIdeal.lean ====
abbrev S8x1024 : Shape := ⟨2, ![8, 1024]⟩
abbrev S2x1024x1536 : Shape := ⟨3, ![2, 1024, 1536]⟩
abbrev S1x1024x1536 : Shape := ⟨3, ![1, 1024, 1536]⟩
abbrev S1024x1536 : Shape := ⟨2, ![1024, 1536]⟩
abbrev S8x1536 : Shape := ⟨2, ![8, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S1x1024x1536, .f32⟩
  | .hbm, ⟨3, _⟩ => ⟨S1024x1536, .f32⟩
  | .hbm, ⟨4, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ModDw.lean ====
abbrev S8x1024 : Shape := ⟨2, ![8, 1024]⟩
abbrev S8x1536 : Shape := ⟨2, ![8, 1536]⟩
abbrev S2x1024x1536 : Shape := ⟨3, ![2, 1024, 1536]⟩
abbrev S8x768 : Shape := ⟨2, ![8, 768]⟩
abbrev S1x1024x768 : Shape := ⟨3, ![1, 1024, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S2x1024x1536, .f32⟩
  | .hbm, ⟨3, _⟩ => ⟨S2x1024x1536, .f32⟩
  | .local _ .vmem, ⟨0, _⟩ => ⟨S8x1024, .f32⟩
  | .local _ .vmem, ⟨1, _⟩ => ⟨S8x768, .f32⟩
  | .local _ .vmem, ⟨2, _⟩ => ⟨S8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDwRefIdeal.lean ====
abbrev S8x1024 : Shape := ⟨2, ![8, 1024]⟩
abbrev S8x1536 : Shape := ⟨2, ![8, 1536]⟩
abbrev S2x1024x1536 : Shape := ⟨3, ![2, 1024, 1536]⟩
abbrev S1x1024x1536 : Shape := ⟨3, ![1, 1024, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S2x1024x1536, .f32⟩
  | .hbm, ⟨3, _⟩ => ⟨S1x1024x1536, .f32⟩
  | .hbm, ⟨4, _⟩ => ⟨S1024x1536, .f32⟩
  | .hbm, ⟨5, _⟩ => ⟨S_, .f32⟩
  | .hbm, ⟨6, _⟩ => ⟨S1024x1536, .f32⟩
  | .hbm, ⟨7, _⟩ => ⟨S8x1536, .f32⟩
  | .hbm, ⟨8, _⟩ => ⟨S1536x1024, .f32⟩
  | .hbm, ⟨9, _⟩ => ⟨S1024x1536, .f32⟩
  | .hbm, ⟨10, _⟩ => ⟨S1x1024x1536, .f32⟩
  | .hbm, ⟨11, _⟩ => ⟨S1x1024x1536, .f32⟩
  | .hbm, ⟨12, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AdamIn.lean ====
abbrev S2x1024x1920 : Shape := ⟨3, ![2, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1920, .f32⟩
  | .hbm, ⟨1, _⟩ => ⟨S1024x1920, .f32⟩
  | .hbm, ⟨2, _⟩ => ⟨S2x1024x1920, .f32⟩
  | .hbm, ⟨3, _⟩ => ⟨S2x1024x1920, .f32⟩
  | .hbm, ⟨4, _⟩ => ⟨S2x1024x1920, .f32⟩
  | .hbm, ⟨5, _⟩ => ⟨S2x1024x1920, .f32⟩
  | .hbm, ⟨6, _⟩ => ⟨S2x1024x1920, .f32⟩
  | .hbm, ⟨7, _⟩ => ⟨S2x1024x1920, .f32⟩
  | .hbm, ⟨8, _⟩ => ⟨S2x1024x1920, .f32⟩
  | .hbm, ⟨9, _⟩ => ⟨S2x1024x1920, .f32⟩
  | .hbm, ⟨10, _⟩ => ⟨S2x1024x1920, .f32⟩
  | .hbm, ⟨11, _⟩ => ⟨S2x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S2x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2x1024x1920 : Shape := ⟨3, ![2, 1024, 1920]⟩
abbrev S1024x1920 : Shape := ⟨2, ![1024, 1920]⟩
abbrev S1x1024x1920 : Shape := ⟨3, ![1, 1024, 1920]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x1024x1920, .f32⟩
  | .hbm, ⟨1, _⟩ => ⟨S1024x1920, .f32⟩
  | .hbm, ⟨2, _⟩ => ⟨S2x1024x1920, .f32⟩
  | .hbm, ⟨3, _⟩ => ⟨S2x1024x1920, .f32⟩
  | .hbm, ⟨4, _⟩ => ⟨S2x1024x1920, .f32⟩
  | .hbm, ⟨5, _⟩ => ⟨S2x1024x1920, .f32⟩
  | .hbm, ⟨6, _⟩ => ⟨S2x1024x1920, .f32⟩
  | .hbm, ⟨7, _⟩ => ⟨S2x1024x1920, .f32⟩
  | .hbm, ⟨8, _⟩ => ⟨S1x1024x1920, .f32⟩
  | .hbm, ⟨9, _⟩ => ⟨S1024x1920, .f32⟩
  | .hbm, ⟨10, _⟩ => ⟨S1x1024x1920, .f32⟩
  | .hbm, ⟨11, _⟩ => ⟨S1024x1920, .f32⟩
  | .hbm, ⟨12, _⟩ => ⟨S1x1024x1920, .f32⟩
  | .hbm, ⟨13, _⟩ => ⟨S1024x1920, .f32⟩
  | .hbm, ⟨14, _⟩ => ⟨S_, .f32⟩
  | .hbm, ⟨15, _⟩ => ⟨S1024x1920, .f32⟩
  | .hbm, ⟨16, _⟩ => ⟨S1024x1920, .f32⟩
  | .hbm, ⟨17, _⟩ => ⟨S_, .f32⟩
  | .hbm, ⟨18, _⟩ => ⟨S1024x1920, .f32⟩
  | .hbm, ⟨19, _⟩ => ⟨S1024x1920, .f32⟩
  | .hbm, ⟨20, _⟩ => ⟨S1024x1920, .f32⟩
  | .hbm, ⟨21, _⟩ => ⟨S_, .f32⟩
  | .hbm, ⟨22, _⟩ => ⟨S1024x1920, .f32⟩
  | .hbm, ⟨23, _⟩ => ⟨S1024x1920, .f32⟩
  | .hbm, ⟨24, _⟩ => ⟨S1024x1920, .f32⟩
  | .hbm, ⟨25, _⟩ => ⟨S_, .f32⟩
  | .hbm, ⟨26, _⟩ => ⟨S1024x1920, .f32⟩
  | .hbm, ⟨27, _⟩ => ⟨S1024x1920, .f32⟩
  | .hbm, ⟨28, _⟩ => ⟨S1024x1920, .f32⟩
  | .hbm, ⟨29, _⟩ => ⟨S_, .f32⟩
  | .hbm, ⟨30, _⟩ => ⟨S1024x1920, .f32⟩
  | .hbm, ⟨31, _⟩ => ⟨S1024x1920, .f32⟩
  | .hbm, ⟨32, _⟩ => ⟨S_, .f32⟩
  | .hbm, ⟨33, _⟩ => ⟨S1024x1920, .f32⟩
  | .hbm, ⟨34, _⟩ => ⟨S1024x1920, .f32⟩
  | .hbm, ⟨35, _⟩ => ⟨S1024x1920, .f32⟩
  | .hbm, ⟨36, _⟩ => ⟨S_, .f32⟩
  | .hbm, ⟨37, _⟩ => ⟨S1024x1920, .f32⟩
  | .hbm, ⟨38, _⟩ => ⟨S1024x1920, .f32⟩
  | .hbm, ⟨39, _⟩ => ⟨S1024x1920, .f32⟩
  | .hbm, ⟨40, _⟩ => ⟨S_, .f32⟩
  | .hbm, ⟨41, _⟩ => ⟨S1024x1920, .f32⟩
  | .hbm, ⟨42, _⟩ => ⟨S1024x1920, .f32⟩
  | .hbm, ⟨43, _⟩ => ⟨S1024x1920, .f32⟩
  | .hbm, ⟨44, _⟩ => ⟨S_, .f32⟩
  | .hbm, ⟨45, _⟩ => ⟨S1024x1920, .f32⟩
  | .hbm, ⟨46, _⟩ => ⟨S1024x1920, .f32⟩
  | .hbm, ⟨47, _⟩ => ⟨S1x1024x1920, .f32⟩
  | .hbm, ⟨48, _⟩ => ⟨S1024x1920, .f32⟩
  | .hbm, ⟨49, _⟩ => ⟨S1x1024x1920, .f32⟩
  | .hbm, ⟨50, _⟩ => ⟨S1x1024x1920, .f32⟩
  | .hbm, ⟨51, _⟩ => ⟨S2x1024x1920, .f32⟩
  | .hbm, ⟨52, _⟩ => ⟨S1x1024x1920, .f32⟩
  | .hbm, ⟨53, _⟩ => ⟨S1024x1920, .f32⟩
  | .hbm, ⟨54, _⟩ => ⟨S1x1024x1920, .f32⟩
  | .hbm, ⟨55, _⟩ => ⟨S1x1024x1920, .f32⟩
  | .hbm, ⟨56, _⟩ => ⟨S2x1024x1920, .f32⟩
  | .hbm, ⟨57, _⟩ => ⟨S1x1024x1920, .f32⟩
  | .hbm, ⟨58, _⟩ => ⟨S1024x1920, .f32⟩
  | .hbm, ⟨59, _⟩ => ⟨S1x1024x1920, .f32⟩
  | .hbm, ⟨60, _⟩ => ⟨S1x1024x1920, .f32⟩
  | .hbm, ⟨61, _⟩ => ⟨S2x1024x1920, .f32⟩
  | .hbm, ⟨62, _⟩ => ⟨S1x1024x1920, .f32⟩
  | .hbm, ⟨63, _⟩ => ⟨S1024x1920, .f32⟩
  | .hbm, ⟨64, _⟩ => ⟨S1x1024x1920, .f32⟩
  | .hbm, ⟨65, _⟩ => ⟨S1x1024x1920, .f32⟩
  | .hbm, ⟨66, _⟩ => ⟨S2x1024x1920, .f32⟩
  | _, _ => ⟨S2x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamProj.lean ====
abbrev S2x512x256 : Shape := ⟨3, ![2, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 12
  | .vmem => 16
  | .smem => 0
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjRefIdeal.lean ====
abbrev S2x512x256 : Shape := ⟨3, ![2, 512, 256]⟩
abbrev S512x256 : Shape := ⟨2, ![512, 256]⟩
abbrev S1x512x256 : Shape := ⟨3, ![1, 512, 256]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S1x512x256, .f32⟩
  | .hbm, ⟨9, _⟩ => ⟨S512x256, .f32⟩
  | .hbm, ⟨10, _⟩ => ⟨S1x512x256, .f32⟩
  | .hbm, ⟨11, _⟩ => ⟨S512x256, .f32⟩
  | .hbm, ⟨12, _⟩ => ⟨S1x512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S1x512x256, .f32⟩
  | .hbm, ⟨48, _⟩ => ⟨S512x256, .f32⟩
  | .hbm, ⟨49, _⟩ => ⟨S1x512x256, .f32⟩
  | .hbm, ⟨50, _⟩ => ⟨S1x512x256, .f32⟩
  | .hbm, ⟨51, _⟩ => ⟨S2x512x256, .f32⟩
  | .hbm, ⟨52, _⟩ => ⟨S1x512x256, .f32⟩
  | .hbm, ⟨53, _⟩ => ⟨S512x256, .f32⟩
  | .hbm, ⟨54, _⟩ => ⟨S1x512x256, .f32⟩
  | .hbm, ⟨55, _⟩ => ⟨S1x512x256, .f32⟩
  | .hbm, ⟨56, _⟩ => ⟨S2x512x256, .f32⟩
  | .hbm, ⟨57, _⟩ => ⟨S1x512x256, .f32⟩
  | .hbm, ⟨58, _⟩ => ⟨S512x256, .f32⟩
  | .hbm, ⟨59, _⟩ => ⟨S1x512x256, .f32⟩
  | .hbm, ⟨60, _⟩ => ⟨S1x512x256, .f32⟩
  | .hbm, ⟨61, _⟩ => ⟨S2x512x256, .f32⟩
  | .hbm, ⟨62, _⟩ => ⟨S1x512x256, .f32⟩
  | .hbm, ⟨63, _⟩ => ⟨S512x256, .f32⟩
  | .hbm, ⟨64, _⟩ => ⟨S1x512x256, .f32⟩
  | .hbm, ⟨65, _⟩ => ⟨S1x512x256, .f32⟩
  | .hbm, ⟨66, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamOut.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S1x256x1024, .f32⟩
  | .hbm, ⟨48, _⟩ => ⟨S256x1024, .f32⟩
  | .hbm, ⟨49, _⟩ => ⟨S1x256x1024, .f32⟩
  | .hbm, ⟨50, _⟩ => ⟨S1x256x1024, .f32⟩
  | .hbm, ⟨51, _⟩ => ⟨S2x256x1024, .f32⟩
  | .hbm, ⟨52, _⟩ => ⟨S1x256x1024, .f32⟩
  | .hbm, ⟨53, _⟩ => ⟨S256x1024, .f32⟩
  | .hbm, ⟨54, _⟩ => ⟨S1x256x1024, .f32⟩
  | .hbm, ⟨55, _⟩ => ⟨S1x256x1024, .f32⟩
  | .hbm, ⟨56, _⟩ => ⟨S2x256x1024, .f32⟩
  | .hbm, ⟨57, _⟩ => ⟨S1x256x1024, .f32⟩
  | .hbm, ⟨58, _⟩ => ⟨S256x1024, .f32⟩
  | .hbm, ⟨59, _⟩ => ⟨S1x256x1024, .f32⟩
  | .hbm, ⟨60, _⟩ => ⟨S1x256x1024, .f32⟩
  | .hbm, ⟨61, _⟩ => ⟨S2x256x1024, .f32⟩
  | .hbm, ⟨62, _⟩ => ⟨S1x256x1024, .f32⟩
  | .hbm, ⟨63, _⟩ => ⟨S256x1024, .f32⟩
  | .hbm, ⟨64, _⟩ => ⟨S1x256x1024, .f32⟩
  | .hbm, ⟨65, _⟩ => ⟨S1x256x1024, .f32⟩
  | .hbm, ⟨66, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamMlp.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpRefIdeal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1x1024x1024, .f32⟩
  | .hbm, ⟨48, _⟩ => ⟨S1024x1024, .f32⟩
  | .hbm, ⟨49, _⟩ => ⟨S1x1024x1024, .f32⟩
  | .hbm, ⟨50, _⟩ => ⟨S1x1024x1024, .f32⟩
  | .hbm, ⟨51, _⟩ => ⟨S2x1024x1024, .f32⟩
  | .hbm, ⟨52, _⟩ => ⟨S1x1024x1024, .f32⟩
  | .hbm, ⟨53, _⟩ => ⟨S1024x1024, .f32⟩
  | .hbm, ⟨54, _⟩ => ⟨S1x1024x1024, .f32⟩
  | .hbm, ⟨55, _⟩ => ⟨S1x1024x1024, .f32⟩
  | .hbm, ⟨56, _⟩ => ⟨S2x1024x1024, .f32⟩
  | .hbm, ⟨57, _⟩ => ⟨S1x1024x1024, .f32⟩
  | .hbm, ⟨58, _⟩ => ⟨S1024x1024, .f32⟩
  | .hbm, ⟨59, _⟩ => ⟨S1x1024x1024, .f32⟩
  | .hbm, ⟨60, _⟩ => ⟨S1x1024x1024, .f32⟩
  | .hbm, ⟨61, _⟩ => ⟨S2x1024x1024, .f32⟩
  | .hbm, ⟨62, _⟩ => ⟨S1x1024x1024, .f32⟩
  | .hbm, ⟨63, _⟩ => ⟨S1024x1024, .f32⟩
  | .hbm, ⟨64, _⟩ => ⟨S1x1024x1024, .f32⟩
  | .hbm, ⟨65, _⟩ => ⟨S1x1024x1024, .f32⟩
  | .hbm, ⟨66, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamMod.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S280x128 : Shape := ⟨2, ![280, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S280x128, .f32⟩
  | .hbm, ⟨5, _⟩ => ⟨S280x128, .f32⟩
  | .hbm, ⟨6, _⟩ => ⟨S280x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S280x128 : Shape := ⟨2, ![280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S_, .f32⟩
  | .hbm, ⟨5, _⟩ => ⟨S280x128, .f32⟩
  | .hbm, ⟨6, _⟩ => ⟨S280x128, .f32⟩
  | .hbm, ⟨7, _⟩ => ⟨S_, .f32⟩
  | .hbm, ⟨8, _⟩ => ⟨S280x128, .f32⟩
  | .hbm, ⟨9, _⟩ => ⟨S280x128, .f32⟩
  | .hbm, ⟨10, _⟩ => ⟨S280x128, .f32⟩
  | .hbm, ⟨11, _⟩ => ⟨S_, .f32⟩
  | .hbm, ⟨12, _⟩ => ⟨S280x128, .f32⟩
  | .hbm, ⟨13, _⟩ => ⟨S280x128, .f32⟩
  | .hbm, ⟨14, _⟩ => ⟨S280x128, .f32⟩
  | .hbm, ⟨15, _⟩ => ⟨S_, .f32⟩
  | .hbm, ⟨16, _⟩ => ⟨S280x128, .f32⟩
  | .hbm, ⟨17, _⟩ => ⟨S280x128, .f32⟩
  | .hbm, ⟨18, _⟩ => ⟨S280x128, .f32⟩
  | .hbm, ⟨19, _⟩ => ⟨S_, .f32⟩
  | .hbm, ⟨20, _⟩ => ⟨S280x128, .f32⟩
  | .hbm, ⟨21, _⟩ => ⟨S280x128, .f32⟩
  | .hbm, ⟨22, _⟩ => ⟨S_, .f32⟩
  | .hbm, ⟨23, _⟩ => ⟨S280x128, .f32⟩
  | .hbm, ⟨24, _⟩ => ⟨S280x128, .f32⟩
  | .hbm, ⟨25, _⟩ => ⟨S280x128, .f32⟩
  | .hbm, ⟨26, _⟩ => ⟨S_, .f32⟩
  | .hbm, ⟨27, _⟩ => ⟨S280x128, .f32⟩
  | .hbm, ⟨28, _⟩ => ⟨S280x128, .f32⟩
  | .hbm, ⟨29, _⟩ => ⟨S280x128, .f32⟩
  | .hbm, ⟨30, _⟩ => ⟨S_, .f32⟩
  | .hbm, ⟨31, _⟩ => ⟨S280x128, .f32⟩
  | .hbm, ⟨32, _⟩ => ⟨S280x128, .f32⟩
  | .hbm, ⟨33, _⟩ => ⟨S280x128, .f32⟩
  | .hbm, ⟨34, _⟩ => ⟨S_, .f32⟩
  | .hbm, ⟨35, _⟩ => ⟨S280x128, .f32⟩
  | .hbm, ⟨36, _⟩ => ⟨S280x128, .f32⟩
  | _, _ => ⟨S280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LossHead.lean ====
abbrev S4096x1024 : Shape := ⟨2, ![4096, 1024]⟩
abbrev S1x128 : Shape := ⟨2, ![1, 128]⟩
abbrev S512x1024 : Shape := ⟨2, ![512, 1024]⟩
abbrev S1024 : Shape := ⟨1, ![1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_7 : BitVec 32 := 0#32
  let v28 : BitVec 1 := Scalar.cmpi .ne v27 c0_i32_7
  v28

def k0_cond2 (i : grid0.Coords) : BitVec 1 :=
  let arg0 : BitVec 32 := BitVec.ofNat 32 (i 0).val
  let c0_i32_8 : BitVec 32 := 0#32
  let v29 : BitVec 1 := Scalar.cmpi .sgt arg0 c0_i32_8
  let v30 : BitVec 32 := Scalar.extui v29
  let c0_i32_9 : BitVec 32 := 0#32
  let v31 : BitVec 1 := Scalar.cmpi .ne v30 c0_i32_9
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x1024 : Shape := ⟨2, ![4096, 1024]⟩
abbrev S4096x8x128 : Shape := ⟨3, ![4096, 8, 128]⟩
abbrev S_ : Shape := ⟨0, ![]⟩
abbrev S128 : Shape := ⟨1, ![128]⟩
abbrev S4096 : Shape := ⟨1, ![4096]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S_, .f32⟩
  | .hbm, ⟨6, _⟩ => ⟨S128, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1024, .f32⟩
  | .hbm, ⟨29, _⟩ => ⟨S4096x1024, .f32⟩
  | .hbm, ⟨30, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Resid2Bwd.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32 : BitVec 32 := 0#32
  let v10 : BitVec 1 := Scalar.cmpi .eq arg0 c0_i32
  let v_true : BitVec 1 := 1#1
  let v13 : BitVec 1 := Scalar.xori v10 v_true
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Resid2BwdRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Norm2Bwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_28 : BitVec 32 := 0#32
  let v67 : BitVec 1 := Scalar.cmpi .ne v66 c0_i32_28
  v67

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v68 : BitVec 1 := Scalar.xori v65 v_true
  let v69 : BitVec 32 := Scalar.extui v68
  let c0_i32_29 : BitVec 32 := 0#32
  let v70 : BitVec 1 := Scalar.cmpi .ne v69 c0_i32_29
  v70

def k0_cond3 (i : grid0.Coords) : BitVec 1 :=
  let arg0 : BitVec 32 := BitVec.ofNat 32 (i 0).val
  let c0_i32 : BitVec 32 := 0#32
  let v65 : BitVec 1 := Scalar.cmpi .eq arg0 c0_i32
  let v71 : BitVec 32 := Scalar.extui v65
  let c0_i32_30 : BitVec 32 := 0#32
  let v72 : BitVec 1 := Scalar.cmpi .ne v71 c0_i32_30
  v72

def k0_cond4 (i : grid0.Coords) : BitVec 1 :=
  let arg0 : BitVec 32 := BitVec.ofNat 32 (i 0).val
  let c0_i32 : BitVec 32 := 0#32
  let v65 : BitVec 1 := Scalar.cmpi .eq arg0 c0_i32
  let true_31 : BitVec 1 := 1#1
  let v73 : BitVec 1 := Scalar.xori v65 true_31
  let v74 : BitVec 32 := Scalar.extui v73
  let c0_i32_32 : BitVec 32 := 0#32
  let v75 : BitVec 1 := Scalar.cmpi .ne v74 c0_i32_32
  v75

def k0_cond5 (i : grid0.Coords) : BitVec 1 :=
  let arg0 : BitVec 32 := BitVec.ofNat 32 (i 0).val
  let c0_i32 : BitVec 32 := 0#32
  let v65 : BitVec 1 := Scalar.cmpi .eq arg0 c0_i32
  let v76 : BitVec 32 := Scalar.extui v65
  let c0_i32_33 : BitVec 32 := 0#32
  let v77 : BitVec 1 := Scalar.cmpi .ne v76 c0_i32_33
  v77

def k0_cond6 (i : grid0.Coords) : BitVec 1 :=
  let arg0 : BitVec 32 := BitVec.ofNat 32 (i 0).val
  let c0_i32 : BitVec 32 := 0#32
  let v65 : BitVec 1 := Scalar.cmpi .eq arg0 c0_i32
  let true_34 : BitVec 1 := 1#1
  let v78 : BitVec 1 := Scalar.xori v65 true_34
  let v79 : BitVec 32 := Scalar.extui v78
  let c0_i32_35 : BitVec 32 := 0#32
  let v80 : BitVec 1 := Scalar.cmpi .ne v79 c0_i32_35
  v80

def k0_cond7 (i : grid0.Coords) : BitVec 1 :=
  let arg0 : BitVec 32 := BitVec.ofNat 32 (i 0).val
  let c0_i32 : BitVec 32 := 0#32
  let v65 : BitVec 1 := Scalar.cmpi .eq arg0 c0_i32
  let v81 : BitVec 32 := Scalar.extui v65
  let c0_i32_36 : BitVec 32 := 0#32
  let v82 : BitVec 1 := Scalar.cmpi .ne v81 c0_i32_36
  v82

def k0_cond8 (i : grid0.Coords) : BitVec 1 :=
  let arg0 : BitVec 32 := BitVec.ofNat 32 (i 0).val
  let c0_i32 : BitVec 32 := 0#32
  let v65 : BitVec 1 := Scalar.cmpi .eq arg0 c0_i32
  let true_37 : BitVec 1 := 1#1
  let v83 : BitVec 1 := Scalar.xori v65 true_37
  let v84 : BitVec 32 := Scalar.extui v83
  let c0_i32_38 : BitVec 32 := 0#32
  let v85 : BitVec 1 := Scalar.cmpi .ne v84 c0_i32_38
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Norm2BwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== MergeBwd.lean ====
abbrev S4096x7680 : Shape := ⟨2, ![4096, 7680]⟩
abbrev S4096x1024 : Shape := ⟨2, ![4096, 1024]⟩
abbrev S1x3072 : Shape := ⟨2, ![1, 3072]⟩
abbrev S4096x3072 : Shape := ⟨2, ![4096, 3072]⟩
abbrev S512x1536 : Shape := ⟨2, ![512, 1536]⟩
abbrev S512x1024 : Shape := ⟨2, ![512, 1024]⟩
abbrev S512x3072 : Shape := ⟨2, ![512, 3072]⟩
abbrev S512x2048 : Shape := ⟨2, ![512, 2048]⟩
abbrev S3072 : Shape := ⟨1, ![3072]⟩

abbrev nBuf : Space → Nat
  | .hbm => 11
  | .vmem => 22
  | .smem => 0
  | _ => 0

abbrev bufTy : (tb : Table) → Fin (tcTables nBuf tb) → BufTy
  | .hbm, ⟨0, _⟩ => ⟨S4096x7680, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x3072, .f32⟩
  | .hbm, ⟨5, _⟩ => ⟨S4096x1024, .f32⟩
  | .hbm, ⟨6, _⟩ => ⟨S4096x3072, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x3072, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x3072, .f32⟩
  | .local _ .vmem, ⟨11, _⟩ => ⟨S512x1024, .f32⟩
  | .local _ .vmem, ⟨12, _⟩ => ⟨S512x1024, .f32⟩
  | .local _ .vmem, ⟨13, _⟩ => ⟨S512x3072, .bf16⟩
  | .local _ .vmem, ⟨14, _⟩ => ⟨S512x3072, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x3072, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_25 : BitVec 32 := 0#32
  let v48 : BitVec 1 := Scalar.cmpi .ne v47 c0_i32_25
  v48

def k0_cond2 (i : grid0.Coords) : BitVec 1 :=
  let arg0 : BitVec 32 := BitVec.ofNat 32 (i 0).val
  let c0_i32 : BitVec 32 := 0#32
  let v46 : BitVec 1 := Scalar.cmpi .eq arg0 c0_i32
  let v_true : BitVec 1 := 1#1
  let v49 : BitVec 1 := Scalar.xori v46 v_true
  let v50 : BitVec 32 := Scalar.extui v49
  let c0_i32_26 : BitVec 32 := 0#32
  let v51 : BitVec 1 := Scalar.cmpi .ne v50 c0_i32_26
  v51

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeBwdRefIdeal.lean ====
abbrev S4096x7680 : Shape := ⟨2, ![4096, 7680]⟩
abbrev S4096x1024 : Shape := ⟨2, ![4096, 1024]⟩
abbrev S1x3072 : Shape := ⟨2, ![1, 3072]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S3072 : Shape := ⟨1, ![3072]⟩

abbrev nBuf : Space → Nat
  | .hbm => 61
  | .vmem => 0
  | .smem => 0
  | _ => 0

abbrev bufTy : (tb : Table) → Fin (tcTables nBuf tb) → BufTy
  | .hbm, ⟨0, _⟩ => ⟨S4096x7680, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x3072, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S_, .f32⟩
  | .hbm, ⟨39, _⟩ => ⟨S4096x3x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S_, .f32⟩
  | .hbm, ⟨44, _⟩ => ⟨S4096x3x1024, .f32⟩
  | .hbm, ⟨45, _⟩ => ⟨S4096x3x1024, .f32⟩
  | .hbm, ⟨46, _⟩ => ⟨S4096x1024, .f32⟩
  | .hbm, ⟨47, _⟩ => ⟨S4096x1024, .f32⟩
  | .hbm, ⟨48, _⟩ => ⟨S4096x1x1024, .f32⟩
  | .hbm, ⟨49, _⟩ => ⟨S_, .f32⟩
  | .hbm, ⟨50, _⟩ => ⟨S4096x3x1024, .f32⟩
  | .hbm, ⟨51, _⟩ => ⟨S4096x3x1024, .f32⟩
  | .hbm, ⟨52, _⟩ => ⟨S4096x3072, .f32⟩
  | .hbm, ⟨53, _⟩ => ⟨S4096x3072, .f32⟩
  | .hbm, ⟨54, _⟩ => ⟨S_, .f32⟩
  | .hbm, ⟨55, _⟩ => ⟨S3072, .f32⟩
  | .hbm, ⟨56, _⟩ => ⟨S1x3072, .f32⟩
  | .hbm, ⟨57, _⟩ => ⟨S4096x3072, .bf16⟩
  | .hbm, ⟨58, _⟩ => ⟨S4096x1024, .bf16⟩
  | .hbm, ⟨59, _⟩ => ⟨S4096x1024, .bf16⟩
  | .hbm, ⟨60, _⟩ => ⟨S4096x1024, .bf16⟩
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== ConvLnBwd.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S1x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v76 : BitVec 32 := Scalar.extui v75
  let c0_i32_27 : BitVec 32 := 0#32
  let v77 : BitVec 1 := Scalar.cmpi .ne v76 c0_i32_27
  v77

def k0_cond2 (i : grid0.Coords) : BitVec 1 :=
  let arg0 : BitVec 32 := BitVec.ofNat 32 (i 0).val
  let c0_i32 : BitVec 32 := 0#32
  let v75 : BitVec 1 := Scalar.cmpi .eq arg0 c0_i32
  let v_true : BitVec 1 := 1#1
  let v78 : BitVec 1 := Scalar.xori v75 v_true
  let v79 : BitVec 32 := Scalar.extui v78
  let c0_i32_28 : BitVec 32 := 0#32
  let v80 : BitVec 1 := Scalar.cmpi .ne v79 c0_i32_28
  v80

def k0_cond3 (i : grid0.Coords) : BitVec 1 :=
  let arg0 : BitVec 32 := BitVec.ofNat 32 (i 0).val
  let c0_i32 : BitVec 32 := 0#32
  let v75 : BitVec 1 := Scalar.cmpi .eq arg0 c0_i32
  let v81 : BitVec 32 := Scalar.extui v75
  let c0_i32_29 : BitVec 32 := 0#32
  let v82 : BitVec 1 := Scalar.cmpi .ne v81 c0_i32_29
  v82

def k0_cond4 (i : grid0.Coords) : BitVec 1 :=
  let arg0 : BitVec 32 := BitVec.ofNat 32 (i 0).val
  let c0_i32 : BitVec 32 := 0#32
  let v75 : BitVec 1 := Scalar.cmpi .eq arg0 c0_i32
  let true_30 : BitVec 1 := 1#1
  let v83 : BitVec 1 := Scalar.xori v75 true_30
  let v84 : BitVec 32 := Scalar.extui v83
  let c0_i32_31 : BitVec 32 := 0#32
  let v85 : BitVec 1 := Scalar.cmpi .ne v84 c0_i32_31
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvLnBwdRefIdeal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 95
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S4096x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x512, .f32⟩
  | .hbm, ⟨69, _⟩ => ⟨S4096x512, .f32⟩
  | .hbm, ⟨70, _⟩ => ⟨S4096x1, .f32⟩
  | .hbm, ⟨71, _⟩ => ⟨S4096x512, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x512, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x512, .f32⟩
  | .hbm, ⟨94, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Norm1Bwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v55 : BitVec 1 := Scalar.xori v52 v_true
  let v56 : BitVec 32 := Scalar.extui v55
  let c0_i32_22 : BitVec 32 := 0#32
  let v57 : BitVec 1 := Scalar.cmpi .ne v56 c0_i32_22
  v57

def k0_cond3 (i : grid0.Coords) : BitVec 1 :=
  let arg0 : BitVec 32 := BitVec.ofNat 32 (i 0).val
  let c0_i32 : BitVec 32 := 0#32
  let v52 : BitVec 1 := Scalar.cmpi .eq arg0 c0_i32
  let v58 : BitVec 32 := Scalar.extui v52
  let c0_i32_23 : BitVec 32 := 0#32
  let v59 : BitVec 1 := Scalar.cmpi .ne v58 c0_i32_23
  v59

def k0_cond4 (i : grid0.Coords) : BitVec 1 :=
  let arg0 : BitVec 32 := BitVec.ofNat 32 (i 0).val
  let c0_i32 : BitVec 32 := 0#32
  let v52 : BitVec 1 := Scalar.cmpi .eq arg0 c0_i32
  let true_24 : BitVec 1 := 1#1
  let v60 : BitVec 1 := Scalar.xori v52 true_24
  let v61 : BitVec 32 := Scalar.extui v60
  let c0_i32_25 : BitVec 32 := 0#32
  let v62 : BitVec 1 := Scalar.cmpi .ne v61 c0_i32_25
  v62

def k0_cond5 (i : grid0.Coords) : BitVec 1 :=
  let arg0 : BitVec 32 := BitVec.ofNat 32 (i 0).val
  let c0_i32 : BitVec 32 := 0#32
  let v52 : BitVec 1 := Scalar.cmpi .eq arg0 c0_i32
  let v63 : BitVec 32 := Scalar.extui v52
  let c0_i32_26 : BitVec 32 := 0#32
  let v64 : BitVec 1 := Scalar.cmpi .ne v63 c0_i32_26
  v64

def k0_cond6 (i : grid0.Coords) : BitVec 1 :=
  let arg0 : BitVec 32 := BitVec.ofNat 32 (i 0).val
  let c0_i32 : BitVec 32 := 0#32
  let v52 : BitVec 1 := Scalar.cmpi .eq arg0 c0_i32
  let true_27 : BitVec 1 := 1#1
  let v65 : BitVec 1 := Scalar.xori v52 true_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm1BwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== ConvLnFwd.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvLnFwdRefIdeal.lean ====
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== MergeFwd.lean ====
abbrev S4096x7680 : Shape := ⟨2, ![4096, 7680]⟩
abbrev S4096x1024 : Shape := ⟨2, ![4096, 1024]⟩
abbrev S1x3072 : Shape := ⟨2, ![1, 3072]⟩
abbrev S512x1536 : Shape := ⟨2, ![512, 1536]⟩
abbrev S512x1024 : Shape := ⟨2, ![512, 1024]⟩
abbrev S512x3072 : Shape := ⟨2, ![512, 3072]⟩

abbrev nBuf : Space → Nat
  | .hbm => 6
  | .vmem => 13
  | .smem => 0
  | _ => 0

abbrev bufTy : (tb : Table) → Fin (tcTables nBuf tb) → BufTy
  | .hbm, ⟨0, _⟩ => ⟨S4096x7680, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x3072, .f32⟩
  | .hbm, ⟨5, _⟩ => ⟨S4096x1024, .bf16⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x3072, .f32⟩
  | .local _ .vmem, ⟨11, _⟩ => ⟨S512x1024, .bf16⟩
  | .local _ .vmem, ⟨12, _⟩ => ⟨S512x1024, .bf16⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S4096x7680 : Shape := ⟨2, ![4096, 7680]⟩
abbrev S4096x1024 : Shape := ⟨2, ![4096, 1024]⟩
abbrev S1x3072 : Shape := ⟨2, ![1, 3072]⟩
abbrev S4096x3072 : Shape := ⟨2, ![4096, 3072]⟩
abbrev S3072 : Shape := ⟨1, ![3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x7680, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x3072, .f32⟩
  | .hbm, ⟨5, _⟩ => ⟨S4096x3072, .f32⟩
  | .hbm, ⟨6, _⟩ => ⟨S3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== ConvFwd.lean ====
abbrev S4096x7680 : Shape := ⟨2, ![4096, 7680]⟩
abbrev S31x512 : Shape := ⟨2, ![31, 512]⟩
abbrev S1x512 : Shape := ⟨2, ![1, 512]⟩
abbrev S_ : Shape := ⟨0, ![]⟩
abbrev S32x512 : Shape := ⟨2, ![32, 512]⟩
abbrev S4096x512 : Shape := ⟨2, ![4096, 512]⟩
abbrev S512x512 : Shape := ⟨2, ![512, 512]⟩
abbrev S544x512 : Shape := ⟨2, ![544, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x7680, .f32⟩
  | .hbm, ⟨1, _⟩ => ⟨S31x512, .f32⟩
  | .hbm, ⟨2, _⟩ => ⟨S1x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S4096x7680 : Shape := ⟨2, ![4096, 7680]⟩
abbrev S31x512 : Shape := ⟨2, ![31, 512]⟩
abbrev S1x512 : Shape := ⟨2, ![1, 512]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S512 : Shape := ⟨1, ![512]⟩

abbrev nBuf : Space → Nat
  | .hbm => 240
  | .vmem => 0
  | .smem => 0
  | _ => 0

abbrev hbmTy0_0 (i : Nat) : BufTy := match i % 128 with
  | 0 => ⟨S4096x7680, .f32⟩
  | 1 => ⟨S31x512, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S4096x512, .f32⟩
  | 14 => ⟨S_, .f32⟩
  | 15 => ⟨S30x512, .f32⟩
  | 16 => ⟨S4126x512, .f32⟩
  | 17 => ⟨S1x512, .f32⟩
  | 18 => ⟨S512, .f32⟩
  | 19 => ⟨S4096x512, .f32⟩
  | 20 => ⟨S1x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S1x512, .f32⟩
  | 27 => ⟨S512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S1x512, .f32⟩
  | 111 => ⟨S512, .f32⟩
  | 112 => ⟨S4096x512, .f32⟩
  | 113 => ⟨S1x512, .f32⟩
  | 114 => ⟨S4096x512, .f32⟩
  | 115 => ⟨S4096x512, .f32⟩
  | 116 => ⟨S4096x512, .f32⟩
  | 117 => ⟨S1x512, .f32⟩
  | 118 => ⟨S512, .f32⟩
  | 119 => ⟨S4096x512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S512, .f32⟩
  | 126 => ⟨S4096x512, .f32⟩
  | 127 => ⟨S1x512, .f32⟩
  | _ => ⟨S4096x7680, .f32⟩

abbrev hbmTy0_1 (i : Nat) : BufTy := match i % 128 with
  | 0 => ⟨S4096x512, .f32⟩
  | 1 => ⟨S4096x512, .f32⟩
  | 2 => ⟨S4096x512, .f32⟩
  | 3 => ⟨S1x512, .f32⟩
  | 4 => ⟨S512, .f32⟩
  | 5 => ⟨S4096x512, .f32⟩
  | 6 => ⟨S1x512, .f32⟩
  | 7 => ⟨S4096x512, .f32⟩
  | 8 => ⟨S4096x512, .f32⟩
  | 9 => ⟨S4096x512, .f32⟩
  | 10 => ⟨S1x512, .f32⟩
  | 11 => ⟨S512, .f32⟩
  | 12 => ⟨S4096x512, .f32⟩
  | 13 => ⟨S1x512, .f32⟩
  | 14 => ⟨S4096x512, .f32⟩
  | 15 => ⟨S4096x512, .f32⟩
  | 16 => ⟨S4096x512, .f32⟩
  | 17 => ⟨S1x512, .f32⟩
  | 18 => ⟨S512, .f32⟩
  | 19 => ⟨S4096x512, .f32⟩
  | 20 => ⟨S1x512, .f32⟩
  | 21 => ⟨S4096x512, .f32⟩
  | 22 => ⟨S4096x512, .f32⟩
  | 23 => ⟨S4096x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S1x512, .f32⟩
  | 46 => ⟨S512, .f32⟩
  | 47 => ⟨S4096x512, .f32⟩
  | 48 => ⟨S1x512, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S4096x512, .f32⟩
  | 55 => ⟨S1x512, .f32⟩
  | 56 => ⟨S4096x512, .f32⟩
  | 57 => ⟨S4096x512, .f32⟩
  | 58 => ⟨S4096x512, .f32⟩
  | 59 => ⟨S1x512, .f32⟩
  | 60 => ⟨S512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S1x512, .f32⟩
  | 67 => ⟨S512, .f32⟩
  | 68 => ⟨S4096x512, .f32⟩
  | 69 => ⟨S1x512, .f32⟩
  | 70 => ⟨S4096x512, .f32⟩
  | 71 => ⟨S4096x512, .f32⟩
  | 72 => ⟨S4096x512, .f32⟩
  | 73 => ⟨S1x512, .f32⟩
  | 74 => ⟨S512, .f32⟩
  | 75 => ⟨S4096x512, .f32⟩
  | 76 => ⟨S1x512, .f32⟩
  | 77 => ⟨S4096x512, .f32⟩
  | 78 => ⟨S4096x512, .f32⟩
  | 79 => ⟨S4096x512, .f32⟩
  | 80 => ⟨S1x512, .f32⟩
  | 81 => ⟨S512, .f32⟩
  | 82 => ⟨S4096x512, .f32⟩
  | 83 => ⟨S1x512, .f32⟩
  | 84 => ⟨S4096x512, .f32⟩
  | 85 => ⟨S4096x512, .f32⟩
  | 86 => ⟨S4096x512, .f32⟩
  | 87 => ⟨S1x512, .f32⟩
  | 88 => ⟨S512, .f32⟩
  | 89 => ⟨S4096x512, .f32⟩
  | 90 => ⟨S1x512, .f32⟩
  | 91 => ⟨S4096x512, .f32⟩
  | 92 => ⟨S4096x512, .f32⟩
  | 93 => ⟨S4096x512, .f32⟩
  | 94 => ⟨S1x512, .f32⟩
  | 95 => ⟨S512, .f32⟩
  | 96 => ⟨S4096x512, .f32⟩
  | 97 => ⟨S1x512, .f32⟩
  | 98 => ⟨S4096x512, .f32⟩
  | 99 => ⟨S4096x512, .f32⟩
  | 100 => ⟨S4096x512, .f32⟩
  | 101 => ⟨S1x512, .f32⟩
  | 102 => ⟨S512, .f32⟩
  | 103 => ⟨S4096x512, .f32⟩
  | 104 => ⟨S1x512, .f32⟩
  | 105 => ⟨S4096x512, .f32⟩
  | 106 => ⟨S4096x512, .f32⟩
  | 107 => ⟨S4096x512, .f32⟩
  | 108 => ⟨S512, .f32⟩
  | 109 => ⟨S1x512, .f32⟩
  | 110 => ⟨S4096x512, .f32⟩
  | 111 => ⟨S4096x512, .f32⟩
  | _ => ⟨S4096x7680, .f32⟩

abbrev hbmTy (i : Nat) : BufTy := match i / 128 with
  | 0 => hbmTy0_0 i
  | 1 => hbmTy0_1 i
  | _ => ⟨S4096x7680, .f32⟩

abbrev bufTy : (tb : Table) → Fin (tcTables nBuf tb) → BufTy
  | .hbm, ⟨i, _⟩ => hbmTy i
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩

abbrev nD : Nat := 1
abbrev τ : Topo := Topo.v7x

variable {F : FTy → Type} [FloatOps F]
-- ==== SumSmall.lean ====
abbrev S8x464x128 : Shape := ⟨3, ![8, 464, 128]⟩
abbrev S464x128 : Shape := ⟨2, ![464, 128]⟩
abbrev S1x464x128 : Shape := ⟨3, ![1, 464, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .local _ .vmem, ⟨0, _⟩ => ⟨S8x464x128, .f32⟩
  | .local _ .vmem, ⟨1, _⟩ => ⟨S464x128, .f32⟩
  | _, _ => ⟨S8x464x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x464x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S464x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x464x128 : Shape := ⟨3, ![8, 464, 128]⟩
abbrev S_ : Shape := ⟨0, ![]⟩
abbrev S464x128 : Shape := ⟨2, ![464, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x464x128, .f32⟩
  | .hbm, ⟨1, _⟩ => ⟨S_, .f32⟩
  | .hbm, ⟨2, _⟩ => ⟨S464x128, .f32⟩
  | _, _ => ⟨S8x464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Small.lean ====
abbrev S8x1x128 : Shape := ⟨3, ![8, 1, 128]⟩
abbrev S8x2x1x6144 : Shape := ⟨4, ![8, 2, 1, 6144]⟩
abbrev S8x2x512 : Shape := ⟨3, ![8, 2, 512]⟩
abbrev S8x2x31x512 : Shape := ⟨4, ![8, 2, 31, 512]⟩
abbrev S8x2x1x1024 : Shape := ⟨4, ![8, 2, 1, 1024]⟩
abbrev S8x2x1x3072 : Shape := ⟨4, ![8, 2, 1, 3072]⟩
abbrev S8x2x1x512 : Shape := ⟨4, ![8, 2, 1, 512]⟩
abbrev S8x2x1x128 : Shape := ⟨4, ![8, 2, 1, 128]⟩
abbrev S8x2x1x64 : Shape := ⟨4, ![8, 2, 1, 64]⟩
abbrev S8x128 : Shape := ⟨2, ![8, 128]⟩
abbrev S8x12288 : Shape := ⟨2, ![8, 12288]⟩
abbrev S8x1024 : Shape := ⟨2, ![8, 1024]⟩
abbrev S8x31744 : Shape := ⟨2, ![8, 31744]⟩
abbrev S8x2048 : Shape := ⟨2, ![8, 2048]⟩
abbrev S8x6144 : Shape := ⟨2, ![8, 6144]⟩
abbrev S8x256 : Shape := ⟨2, ![8, 256]⟩
abbrev S8x59008 : Shape := ⟨2, ![8, 59008]⟩
abbrev S_ : Shape := ⟨0, ![]⟩
abbrev S8x59392 : Shape := ⟨2, ![8, 59392]⟩
abbrev S8x464x128 : Shape := ⟨3, ![8, 464, 128]⟩
abbrev S464x128 : Shape := ⟨2, ![464, 128]⟩
abbrev S1x464x128 : Shape := ⟨3, ![1, 464, 128]⟩
abbrev S59392 : Shape := ⟨1, ![59392]⟩
abbrev S128 : Shape := ⟨1, ![128]⟩
abbrev S1x128 : Shape := ⟨2, ![1, 128]⟩
abbrev S1024 : Shape := ⟨1, ![1024]⟩
abbrev S2x512 : Shape := ⟨2, ![2, 512]⟩
abbrev S31744 : Shape := ⟨1, ![31744]⟩
abbrev S2x31x512 : Shape := ⟨3, ![2, 31, 512]⟩
abbrev S2048 : Shape := ⟨1, ![2048]⟩
abbrev S2x1x1024 : Shape := ⟨3, ![2, 1, 1024]⟩
abbrev S6144 : Shape := ⟨1, ![6144]⟩
abbrev S2x1x3072 : Shape := ⟨3, ![2, 1, 3072]⟩
abbrev S2x1x512 : Shape := ⟨3, ![2, 1, 512]⟩
abbrev S256 : Shape := ⟨1, ![256]⟩
abbrev S2x1x128 : Shape := ⟨3, ![2, 1, 128]⟩
abbrev S2x1x64 : Shape := ⟨3, ![2, 1, 64]⟩
abbrev S2x1024 : Shape := ⟨2, ![2, 1024]⟩
abbrev S2x3072 : Shape := ⟨2, ![2, 3072]⟩
abbrev S2x128 : Shape := ⟨2, ![2, 128]⟩
abbrev S2x64 : Shape := ⟨2, ![2, 64]⟩
abbrev S12288 : Shape := ⟨1, ![12288]⟩
abbrev S2x1x6144 : Shape := ⟨3, ![2, 1, 6144]⟩
abbrev S2x6144 : Shape := ⟨2, ![2, 6144]⟩

abbrev nBuf : Space → Nat
  | .hbm => 85
  | .vmem => 2
  | .smem => 0
  | _ => 0

abbrev bufTy : (tb : Table) → Fin (tcTables nBuf tb) → BufTy
  | .hbm, ⟨0, _⟩ => ⟨S8x1x128, .f32⟩
  | .hbm, ⟨1, _⟩ => ⟨S8x2x1x6144, .f32⟩
  | .hbm, ⟨2, _⟩ => ⟨S8x2x512, .f32⟩
  | .hbm, ⟨3, _⟩ => ⟨S8x2x31x512, .f32⟩
  | .hbm, ⟨4, _⟩ => ⟨S8x2x1x1024, .f32⟩
  | .hbm, ⟨5, _⟩ => ⟨S8x2x1x3072, .f32⟩
  | .hbm, ⟨6, _⟩ => ⟨S8x2x1x512, .f32⟩
  | .hbm, ⟨7, _⟩ => ⟨S8x2x1x512, .f32⟩
  | .hbm, ⟨8, _⟩ => ⟨S8x2x1x512, .f32⟩
  | .hbm, ⟨9, _⟩ => ⟨S8x2x1x128, .f32⟩
  | .hbm, ⟨10, _⟩ => ⟨S8x2x1x64, .f32⟩
  | .hbm, ⟨11, _⟩ => ⟨S8x2x1x64, .f32⟩
  | .hbm, ⟨12, _⟩ => ⟨S8x2x1x1024, .f32⟩
  | .hbm, ⟨13, _⟩ => ⟨S8x128, .f32⟩
  | .hbm, ⟨14, _⟩ => ⟨S8x12288, .f32⟩
  | .hbm, ⟨15, _⟩ => ⟨S8x1024, .f32⟩
  | .hbm, ⟨16, _⟩ => ⟨S8x31744, .f32⟩
  | .hbm, ⟨17, _⟩ => ⟨S8x2048, .f32⟩
  | .hbm, ⟨18, _⟩ => ⟨S8x6144, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x256, .f32⟩
  | .hbm, ⟨23, _⟩ => ⟨S8x128, .f32⟩
  | .hbm, ⟨24, _⟩ => ⟨S8x128, .f32⟩
  | .hbm, ⟨25, _⟩ => ⟨S8x2048, .f32⟩
  | .hbm, ⟨26, _⟩ => ⟨S8x59008, .f32⟩
  | .hbm, ⟨27, _⟩ => ⟨S_, .i32⟩
  | .hbm, ⟨28, _⟩ => ⟨S_, .f32⟩
  | .hbm, ⟨29, _⟩ => ⟨S8x59392, .f32⟩
  | .hbm, ⟨30, _⟩ => ⟨S8x464x128, .f32⟩
  | .hbm, ⟨31, _⟩ => ⟨S464x128, .f32⟩
  | .hbm, ⟨32, _⟩ => ⟨S59392, .f32⟩
  | .hbm, ⟨33, _⟩ => ⟨S128, .f32⟩
  | .hbm, ⟨34, _⟩ => ⟨S1x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S59392, .f32⟩
  | .hbm, ⟨40, _⟩ => ⟨S1024, .f32⟩
  | .hbm, ⟨41, _⟩ => ⟨S2x512, .f32⟩
  | .hbm, ⟨42, _⟩ => ⟨S59392, .f32⟩
  | .hbm, ⟨43, _⟩ => ⟨S31744, .f32⟩
  | .hbm, ⟨44, _⟩ => ⟨S2x31x512, .f32⟩
  | .hbm, ⟨45, _⟩ => ⟨S59392, .f32⟩
  | .hbm, ⟨46, _⟩ => ⟨S2048, .f32⟩
  | .hbm, ⟨47, _⟩ => ⟨S2x1x1024, .f32⟩
  | .hbm, ⟨48, _⟩ => ⟨S59392, .f32⟩
  | .hbm, ⟨49, _⟩ => ⟨S6144, .f32⟩
  | .hbm, ⟨50, _⟩ => ⟨S2x1x3072, .f32⟩
  | .hbm, ⟨51, _⟩ => ⟨S59392, .f32⟩
  | .hbm, ⟨52, _⟩ => ⟨S1024, .f32⟩
  | .hbm, ⟨53, _⟩ => ⟨S2x1x512, .f32⟩
  | .hbm, ⟨54, _⟩ => ⟨S59392, .f32⟩
  | .hbm, ⟨55, _⟩ => ⟨S1024, .f32⟩
  | .hbm, ⟨56, _⟩ => ⟨S2x1x512, .f32⟩
  | .hbm, ⟨57, _⟩ => ⟨S59392, .f32⟩
  | .hbm, ⟨58, _⟩ => ⟨S1024, .f32⟩
  | .hbm, ⟨59, _⟩ => ⟨S2x1x512, .f32⟩
  | .hbm, ⟨60, _⟩ => ⟨S59392, .f32⟩
  | .hbm, ⟨61, _⟩ => ⟨S256, .f32⟩
  | .hbm, ⟨62, _⟩ => ⟨S2x1x128, .f32⟩
  | .hbm, ⟨63, _⟩ => ⟨S59392, .f32⟩
  | .hbm, ⟨64, _⟩ => ⟨S128, .f32⟩
  | .hbm, ⟨65, _⟩ => ⟨S2x1x64, .f32⟩
  | .hbm, ⟨66, _⟩ => ⟨S59392, .f32⟩
  | .hbm, ⟨67, _⟩ => ⟨S128, .f32⟩
  | .hbm, ⟨68, _⟩ => ⟨S2x1x64, .f32⟩
  | .hbm, ⟨69, _⟩ => ⟨S59392, .f32⟩
  | .hbm, ⟨70, _⟩ => ⟨S2048, .f32⟩
  | .hbm, ⟨71, _⟩ => ⟨S2x1x1024, .f32⟩
  | .hbm, ⟨72, _⟩ => ⟨S2x1024, .f32⟩
  | .hbm, ⟨73, _⟩ => ⟨S2x3072, .f32⟩
  | .hbm, ⟨74, _⟩ => ⟨S2x512, .f32⟩
  | .hbm, ⟨75, _⟩ => ⟨S2x512, .f32⟩
  | .hbm, ⟨76, _⟩ => ⟨S2x512, .f32⟩
  | .hbm, ⟨77, _⟩ => ⟨S2x128, .f32⟩
  | .hbm, ⟨78, _⟩ => ⟨S2x64, .f32⟩
  | .hbm, ⟨79, _⟩ => ⟨S2x64, .f32⟩
  | .hbm, ⟨80, _⟩ => ⟨S2x1024, .f32⟩
  | .hbm, ⟨81, _⟩ => ⟨S59392, .f32⟩
  | .hbm, ⟨82, _⟩ => ⟨S12288, .f32⟩
  | .hbm, ⟨83, _⟩ => ⟨S2x1x6144, .f32⟩
  | .hbm, ⟨84, _⟩ => ⟨S2x6144, .f32⟩
  | .local _ .vmem, ⟨0, _⟩ => ⟨S8x464x128, .f32⟩
  | .local _ .vmem, ⟨1, _⟩ => ⟨S464x128, .f32⟩
  | _, _ => ⟨S8x1x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x464x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S464x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallRefIdeal.lean ====
abbrev S8x1x128 : Shape := ⟨3, ![8, 1, 128]⟩
abbrev S8x2x1x6144 : Shape := ⟨4, ![8, 2, 1, 6144]⟩
abbrev S8x2x512 : Shape := ⟨3, ![8, 2, 512]⟩
abbrev S8x2x31x512 : Shape := ⟨4, ![8, 2, 31, 512]⟩
abbrev S8x2x1x1024 : Shape := ⟨4, ![8, 2, 1, 1024]⟩
abbrev S8x2x1x3072 : Shape := ⟨4, ![8, 2, 1, 3072]⟩
abbrev S8x2x1x512 : Shape := ⟨4, ![8, 2, 1, 512]⟩
abbrev S8x2x1x128 : Shape := ⟨4, ![8, 2, 1, 128]⟩
abbrev S8x2x1x64 : Shape := ⟨4, ![8, 2, 1, 64]⟩
abbrev S_ : Shape := ⟨0, ![]⟩
abbrev S2x1x6144 : Shape := ⟨3, ![2, 1, 6144]⟩
abbrev S2x6144 : Shape := ⟨2, ![2, 6144]⟩
abbrev S2x512 : Shape := ⟨2, ![2, 512]⟩
abbrev S2x31x512 : Shape := ⟨3, ![2, 31, 512]⟩
abbrev S2x1x1024 : Shape := ⟨3, ![2, 1, 1024]⟩
abbrev S2x1024 : Shape := ⟨2, ![2, 1024]⟩
abbrev S2x1x3072 : Shape := ⟨3, ![2, 1, 3072]⟩
abbrev S2x3072 : Shape := ⟨2, ![2, 3072]⟩
abbrev S2x1x512 : Shape := ⟨3, ![2, 1, 512]⟩
abbrev S2x1x128 : Shape := ⟨3, ![2, 1, 128]⟩
abbrev S2x128 : Shape := ⟨2, ![2, 128]⟩
abbrev S2x1x64 : Shape := ⟨3, ![2, 1, 64]⟩
abbrev S2x64 : Shape := ⟨2, ![2, 64]⟩

abbrev nBuf : Space → Nat
  | .hbm => 51
  | .vmem => 0
  | .smem => 0
  | _ => 0

abbrev bufTy : (tb : Table) → Fin (tcTables nBuf tb) → BufTy
  | .hbm, ⟨0, _⟩ => ⟨S8x1x128, .f32⟩
  | .hbm, ⟨1, _⟩ => ⟨S8x2x1x6144, .f32⟩
  | .hbm, ⟨2, _⟩ => ⟨S8x2x512, .f32⟩
  | .hbm, ⟨3, _⟩ => ⟨S8x2x31x512, .f32⟩
  | .hbm, ⟨4, _⟩ => ⟨S8x2x1x1024, .f32⟩
  | .hbm, ⟨5, _⟩ => ⟨S8x2x1x3072, .f32⟩
  | .hbm, ⟨6, _⟩ => ⟨S8x2x1x512, .f32⟩
  | .hbm, ⟨7, _⟩ => ⟨S8x2x1x512, .f32⟩
  | .hbm, ⟨8, _⟩ => ⟨S8x2x1x512, .f32⟩
  | .hbm, ⟨9, _⟩ => ⟨S8x2x1x128, .f32⟩
  | .hbm, ⟨10, _⟩ => ⟨S8x2x1x64, .f32⟩
  | .hbm, ⟨11, _⟩ => ⟨S8x2x1x64, .f32⟩
  | .hbm, ⟨12, _⟩ => ⟨S8x2x1x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x1x6144, .f32⟩
  | .hbm, ⟨19, _⟩ => ⟨S2x6144, .f32⟩
  | .hbm, ⟨20, _⟩ => ⟨S_, .f32⟩
  | .hbm, ⟨21, _⟩ => ⟨S2x512, .f32⟩
  | .hbm, ⟨22, _⟩ => ⟨S_, .f32⟩
  | .hbm, ⟨23, _⟩ => ⟨S2x31x512, .f32⟩
  | .hbm, ⟨24, _⟩ => ⟨S_, .f32⟩
  | .hbm, ⟨25, _⟩ => ⟨S2x1x1024, .f32⟩
  | .hbm, ⟨26, _⟩ => ⟨S2x1024, .f32⟩
  | .hbm, ⟨27, _⟩ => ⟨S_, .f32⟩
  | .hbm, ⟨28, _⟩ => ⟨S2x1x3072, .f32⟩
  | .hbm, ⟨29, _⟩ => ⟨S2x3072, .f32⟩
  | .hbm, ⟨30, _⟩ => ⟨S_, .f32⟩
  | .hbm, ⟨31, _⟩ => ⟨S2x1x512, .f32⟩
  | .hbm, ⟨32, _⟩ => ⟨S2x512, .f32⟩
  | .hbm, ⟨33, _⟩ => ⟨S_, .f32⟩
  | .hbm, ⟨34, _⟩ => ⟨S2x1x512, .f32⟩
  | .hbm, ⟨35, _⟩ => ⟨S2x512, .f32⟩
  | .hbm, ⟨36, _⟩ => ⟨S_, .f32⟩
  | .hbm, ⟨37, _⟩ => ⟨S2x1x512, .f32⟩
  | .hbm, ⟨38, _⟩ => ⟨S2x512, .f32⟩
  | .hbm, ⟨39, _⟩ => ⟨S_, .f32⟩
  | .hbm, ⟨40, _⟩ => ⟨S2x1x128, .f32⟩
  | .hbm, ⟨41, _⟩ => ⟨S2x128, .f32⟩
  | .hbm, ⟨42, _⟩ => ⟨S_, .f32⟩
  | .hbm, ⟨43, _⟩ => ⟨S2x1x64, .f32⟩
  | .hbm, ⟨44, _⟩ => ⟨S2x64, .f32⟩
  | .hbm, ⟨45, _⟩ => ⟨S_, .f32⟩
  | .hbm, ⟨46, _⟩ => ⟨S2x1x64, .f32⟩
  | .hbm, ⟨47, _⟩ => ⟨S2x64, .f32⟩
  | .hbm, ⟨48, _⟩ => ⟨S_, .f32⟩
  | .hbm, ⟨49, _⟩ => ⟨S2x1x1024, .f32⟩
  | .hbm, ⟨50, _⟩ => ⟨S2x1024, .f32⟩
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_cst_3 : Ref sig .tc := ⟨.hbm, 22, rfl⟩
abbrev main_v5 : Ref sig .tc := ⟨.hbm, 23, rfl⟩
abbrev main_cst_4 : Ref sig .tc := ⟨.hbm, 24, rfl⟩
abbrev main_v6 : Ref sig .tc := ⟨.hbm, 25, rfl⟩
abbrev main_v7 : Ref sig .tc := ⟨.hbm, 26, rfl⟩
abbrev main_cst_5 : Ref sig .tc := ⟨.hbm, 27, rfl⟩
abbrev main_v8 : Ref sig .tc := ⟨.hbm, 28, rfl⟩
abbrev main_v9 : Ref sig .tc := ⟨.hbm, 29, rfl⟩
abbrev main_cst_6 : Ref sig .tc := ⟨.hbm, 30, rfl⟩
abbrev main_v10 : Ref sig .tc := ⟨.hbm, 31, rfl⟩
abbrev main_v11 : Ref sig .tc := ⟨.hbm, 32, rfl⟩
abbrev main_cst_7 : Ref sig .tc := ⟨.hbm, 33, rfl⟩
abbrev main_v12 : Ref sig .tc := ⟨.hbm, 34, rfl⟩
abbrev main_v13 : Ref sig .tc := ⟨.hbm, 35, rfl⟩
abbrev main_cst_8 : Ref sig .tc := ⟨.hbm, 36, rfl⟩
abbrev main_v14 : Ref sig .tc := ⟨.hbm, 37, rfl⟩
abbrev main_v15 : Ref sig .tc := ⟨.hbm, 38, rfl⟩
abbrev main_cst_9 : Ref sig .tc := ⟨.hbm, 39, rfl⟩
abbrev main_v16 : Ref sig .tc := ⟨.hbm, 40, rfl⟩
abbrev main_v17 : Ref sig .tc := ⟨.hbm, 41, rfl⟩
abbrev main_cst_10 : Ref sig .tc := ⟨.hbm, 42, rfl⟩
abbrev main_v18 : Ref sig .tc := ⟨.hbm, 43, rfl⟩
abbrev main_v19 : Ref sig .tc := ⟨.hbm, 44, rfl⟩
abbrev main_cst_11 : Ref sig .tc := ⟨.hbm, 45, rfl⟩
abbrev main_v20 : Ref sig .tc := ⟨.hbm, 46, rfl⟩
abbrev main_v21 : Ref sig .tc := ⟨.hbm, 47, rfl⟩
abbrev main_cst_12 : Ref sig .tc := ⟨.hbm, 48, rfl⟩
abbrev main_v22 : Ref sig .tc := ⟨.hbm, 49, rfl⟩
abbrev main_v23 : Ref sig .tc := ⟨.hbm, 50, rfl⟩

abbrev nD : Nat := 1
abbrev τ : Topo := Topo.v7x

variable {F : FTy → Type} [FloatOps F]
-- ==== Proof.ConvSpec.lean ====
module

public import Idealize.ShloMosaic.Lib.Pipeline.ValueKit
public import Idealize.ShloMosaic.Lib.Pipeline.ReadBack
public import Idealize.ShloMosaic.Lib.Pointwise.Tactic
public import Idealize.ShloMosaic.Lib.Tactic

/-!
The gradient of the gated causal convolution, as functions of whole arrays of extended reals.  No program is named here:
the kernel and the reference are each shown to compute these functions.
-/

@[expose] public section

set_option maxRecDepth 16384

noncomputable section

open Idealize.ShloMosaic

namespace Cert.ConvSpec

/-- An array of two axes. -/
abbrev Arr (a b : ℕ) : Type := (⟨2, ![a, b]⟩ : Shape).Idx → EReal

/-- The gate's argument: the second 512 columns of the projection. -/
def gate (p : Arr 4096 7680) (r : Fin 4096) (c : Fin 512) : EReal := p (ix2 r ⟨512 + c.val, by omega⟩)

/-- The value half: the first 512 columns of the projection. -/
def half (p : Arr 4096 7680) (r : Fin 4096) (c : Fin 512) : EReal := p (ix2 r ⟨c.val, by omega⟩)

/-- The convolution's input with its thirty rows of zeros in front: row `n` is the gated row `n - 30`. -/
def padded (p : Arr 4096 7680) (n : ℕ) (c : Fin 512) : EReal :=
  if h : 30 ≤ n ∧ n - 30 < 4096 then half p ⟨n - 30, h.2⟩ c * Ideal.logistic (gate p ⟨n - 30, h.2⟩ c) else 0

/-- The cotangent, zero past the last row. -/
def after (dc : Arr 4096 512) (n : ℕ) (c : Fin 512) : EReal := if h : n < 4096 then dc (ix2 ⟨n, h⟩ c) else 0

/-- The gradient with respect to the gated input. -/
def du (dc : Arr 4096 512) (w : Arr 31 512) (r : Fin 4096) (c : Fin 512) : EReal :=
  ∑ j : Fin 31, w (ix2 j c) * after dc (r.val + 30 - j.val) c

/-- The gradient with respect to both halves of the projection, side by side. -/
def dag (p : Arr 4096 7680) (dc : Arr 4096 512) (w : Arr 31 512) : Arr 4096 1024 := fun y =>
  if h : (y 1).val < 512 then du dc w (y 0) ⟨(y 1).val, h⟩ * Ideal.logistic (gate p (y 0) ⟨(y 1).val, h⟩)
  else
    let c : Fin 512 := ⟨(y 1).val - 512, by have := (y 1).isLt; simp at this; omega⟩
    du dc w (y 0) c * half p (y 0) c * Ideal.logistic (gate p (y 0) c) * (1 - Ideal.logistic (gate p (y 0) c))

/-- The gradient with respect to the taps; the last of the 32 rows holds no tap. -/
def dw (p : Arr 4096 7680) (dc : Arr 4096 512) : Arr 32 512 := fun y =>
  if (y 0).val < 31 then ∑ s : Fin 4096, dc (ix2 s (y 1)) * padded p (s.val + (y 0).val) (y 1) else 0

/-- The gradient with respect to the bias. -/
def db (dc : Arr 4096 512) : Arr 1 512 := fun y => ∑ s : Fin 4096, dc (ix2 s (y 1))

end Cert.ConvSpec

namespace Idealize.ShloMosaic.View

variable {sig : RefSig} {κ : Kind} {sp : Space} {s : Shape} {e : EltTy} {Val : EltTy → Type}

/-- Stores that are blocks of one function `G`, over earlier stores that hold `G` wherever none of them reaches, leave `G`. -/
theorem canon_append_blocks [∀ e, Nonempty (Val e)] (G : s.Idx → Val e) (L' L : List (Piece Val s e)) (h : PiecesOf G L) (y : s.Idx)
    (hb : (∀ p ∈ L, y ∉ p.1.set) → canon L' y = G y) : canon (L ++ L') y = G y := by
  induction L with
  | nil => exact hb (by simp)
  | cons p L ih =>
    by_cases hy : y ∈ p.1.set
    · exact canon_append_of_piecesOf G L' (p :: L) h y ⟨p, by simp, hy⟩
    · rw [List.cons_append, canon_cons_of_not_mem p _ hy]
      exact ih h.2 fun hn => hb fun q hq => by
        rcases List.mem_cons.mp hq with rfl | hq
        · exact hy
        · exact hn q hq

/-- Stores that are blocks of one function `G`, over contents that hold `G` wherever none of them reaches, leave `G`. -/
theorem read_writes_blocks (v : View sig κ sp s e) (f : v.ty.Contents Val) (G : s.Idx → Val e) (L : List (Piece Val s e))
    (h : PiecesOf G L) (y : s.Idx) (hb : (∀ p ∈ L, y ∉ p.1.set) → v.read Val f y = G y) :
    v.read Val (v.writes Val f L) y = G y := by
  by_cases hy : ∃ p ∈ L, y ∈ p.1.set
  · exact read_writes_apply_of_pieces v f G L h.mem y hy
  · have hn : ∀ p ∈ L, y ∉ p.1.set := fun p hp hm => hy ⟨p, hp, hm⟩
    exact (read_writes_apply_of_forall_not_mem v f y L hn).trans (hb hn)

end Idealize.ShloMosaic.View
-- ==== Proof.ConvRows.lean ====
module

public import proofs.«01_k».proof.Proof.Gen.KernelIdeal.Value
public import proofs.«01_k».proof.Proof.ConvSpec

/-!
What one grid point of the convolution's gradient kernel leaves in the accumulators for the taps and the bias.
-/

@[expose] public section

set_option maxRecDepth 16384

noncomputable section

open Idealize.ShloMosaic Idealize.ShloMosaic.TcCoe Idealize.SL.Sem
open Idealize.ShloMosaic.Pipeline (Dat)

namespace Cert.ConvK
open Cert.KernelIdeal Cert.KernelIdeal.Gen

variable (m : (ℓ : Loc nD τ sig) → Buf (Elt Ideal) ℓ)

/-- The gated rows a point holds: thirty-two from before the block, then the block's own. -/
abbrev ue (c : Dev nD) (t : Fin cfg0.N) : FVec Ideal S544x512 .f32 :=
  k0_pay6 (grid0.coords t) (iblk m c 0 t) (iblk m c 1 t) (iblk m c 2 t) (iblk m c 3 t)

/-- The cotangent's rows a point holds: the block's own, then thirty-two from after it. -/
abbrev de (c : Dev nD) (t : Fin cfg0.N) : FVec Ideal S544x512 .f32 :=
  k0_pay7 (grid0.coords t) (iblk m c 4 t) (iblk m c 5 t)

/-- What a point adds to the taps' accumulator, from its cotangent rows and gated rows. -/
def addRow (d : FVec Ideal S512x512 .f32) (u : FVec Ideal S544x512 .f32) (y : S32x512.Idx) : EReal :=
  if (y 0).val < 31 then ∑ k : Fin 512, d (ix2 k (y 1)) * u (ix2 ⟨(k.val + 2 + (y 0).val) % 544, by omega⟩ (y 1)) else 0

/-- What the taps' accumulator holds after a point that found `z` there. -/
def rowsAfter (z : FVec Ideal S32x512 .f32) (d : FVec Ideal S512x512 .f32) (u : FVec Ideal S544x512 .f32) : FVec Ideal S32x512 .f32 :=
  fun y => z y + addRow d u y

/-- Where row `j`'s rectangle places an element. -/
theorem emb_row (j : ℕ) (inb : ∀ a : Fin 2, (![j, 0] : Fin 2 → ℕ) a + (![1, 512] : Fin 2 → ℕ) a ≤ S32x512.size a) (hj : j < 32)
    (x0 : Fin 1) (x1 : Fin 512) :
    (Rect.unit (s := S32x512) ![j, 0] ![1, 512] inb).emb (ix2 x0 x1) = ix2 ⟨j, hj⟩ x1 := by
  funext a
  match a with
  | ⟨0, _⟩ => exact Fin.ext (by show j + 1 * x0.val = j; omega)
  | ⟨1, _⟩ => exact Fin.ext (by show 0 + 1 * x1.val = x1.val; omega)

/-- The accumulator's row `j` after a point. -/
theorem rowsAfter_row (z : FVec Ideal S32x512 .f32) (d : FVec Ideal S512x512 .f32) (u : FVec Ideal S544x512 .f32) (j : ℕ) (hj : j < 32) (hj' : j < 31)
    (x1 : Fin 512) : rowsAfter z d u (ix2 ⟨j, hj⟩ x1)
      = z (ix2 ⟨j, hj⟩ x1) + ∑ k : Fin 512, d (ix2 k x1) * u (ix2 ⟨(k.val + 2 + j) % 544, by omega⟩ x1) := by
  unfold rowsAfter addRow
  exact congrArg _ (if_pos hj')

theorem rows_B (c : Dev nD) (t : Fin cfg0.N) (h0 : ¬ t.val % 8 = 0) (y : S32x512.Idx) :
    (outsAt0 m c t.val t.isLt).2.1 y = rowsAfter (outsAt0 m c (t.val - 1) (Nat.lt_of_le_of_lt (Nat.sub_le _ _) t.isLt)).2.1 (iblk m c 4 t) (ue m c t) y := by
  rw [outsAt0_B m c t h0]
  dsimp only
  frame_out
  simp only [k0_pay12, ue]
  generalize k0_pay6 (grid0.coords t) (iblk m c 0 t) (iblk m c 1 t) (iblk m c 2 t) (iblk m c 3 t) = u
  generalize (outsAt0 m c (t.val - 1) _).2.1 = z
  generalize iblk m c 4 t = d
  refine View.read_writes_blocks (Val := Elt Ideal) (e := .f32) _ _ (rowsAfter z d u) _ ?_ y ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    all_goals
      intro x
      idx_vars x
      unfold_payloads
      pointwise
      rw [emb_row _ _ (by decide), rowsAfter_row _ _ _ _ _ (by decide)]
      exact congrArg _ (Finset.sum_congr rfl fun k _ => congrArg _ (congrArg u (congrArg (ix2 · x1) (Fin.ext (by
        show (_ : ℕ) = _
        dsimp only
        omega)))))
  · intro hn
    have hy : 31 ≤ (y 0).val := by
      by_contra hlt
      simp only [List.forall_mem_cons, Rect.mem_set_unit, Fin.forall_fin_two] at hn
      have := (y 1).isLt
      simp at hn this
      omega
    rw [Memref.IsWhole.read_unread]
    unfold rowsAfter addRow
    rw [if_neg (by omega), add_zero]

/-- Nothing accumulated yet. -/
def zeros {s : Shape} : FVec Ideal s .f32 := fun _ => 0

theorem zeroRows_row (d : FVec Ideal S512x512 .f32) (u : FVec Ideal S544x512 .f32) (j : ℕ) (hj : j < 32) (hj' : j < 31)
    (x1 : Fin 512) : rowsAfter zeros d u (ix2 ⟨j, hj⟩ x1)
      = ∑ k : Fin 512, d (ix2 k x1) * u (ix2 ⟨(k.val + 2 + j) % 544, by omega⟩ x1) :=
  (rowsAfter_row zeros d u j hj hj' x1).trans (zero_add _)

set_option maxHeartbeats 1000000 in
theorem rows_A (c : Dev nD) (t : Fin cfg0.N) (h0 : t.val % 8 = 0) (y : S32x512.Idx) :
    (outsAt0 m c t.val t.isLt).2.1 y = rowsAfter zeros (iblk m c 4 t) (ue m c t) y := by
  rw [outsAt0_A m c t h0]
  dsimp only
  frame_open
  simp (disch := decide) only [↓ View.readCov_skip, ↓ View.readCov_cons_toLoadRect, ↓ View.readCov_fill]
  frame_out
  simp only [k0_pay12, ue]
  generalize k0_pay6 (grid0.coords t) (iblk m c 0 t) (iblk m c 1 t) (iblk m c 2 t) (iblk m c 3 t) = u
  generalize iblk m c 4 t = d
  refine View.canon_append_blocks (Val := Elt Ideal) (e := .f32) (rowsAfter zeros d u) [_] [_, _, _, _, _, _, _, _, _, _, _, _, _, _, _, _, _, _, _, _, _, _, _, _, _, _, _, _, _, _, _] ?_ y ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    all_goals
      intro x
      idx_vars x
      unfold_payloads
      pointwise
      rw [emb_row _ _ (by decide), zeroRows_row _ _ _ _ (by decide)]
      exact (Finset.sum_congr rfl fun k _ => congrArg _ (congrArg u (congrArg (ix2 · x1) (Fin.ext (by
        show (_ : ℕ) = _
        dsimp only
        omega)))))
  · intro hn
    have hy : 31 ≤ (y 0).val := by
      by_contra hlt
      simp only [List.forall_mem_cons, Rect.mem_set_unit, Fin.forall_fin_two] at hn
      have := (y 1).isLt
      simp at hn this
      omega
    rw [View.canon_unit_zero (by funext a; fin_cases a <;> rfl)]
    unfold_payloads
    idx_vars y
    pointwise [rowsAfter, addRow, zeros]
    rw [if_neg (by simpa using hy)]

end Cert.ConvK
-- ==== Proof.ConvDag.lean ====
module

public import proofs.«01_k».proof.Proof.Gen.KernelIdeal.Value
public import proofs.«01_k».proof.Proof.ConvSpec

/-!
What one grid point of the convolution's gradient kernel leaves in the block of the projection's gradient and in the bias's accumulator.
-/

@[expose] public section

set_option maxRecDepth 16384

noncomputable section

open Idealize.ShloMosaic Idealize.ShloMosaic.TcCoe Idealize.SL.Sem
open Idealize.ShloMosaic.Pipeline (Dat)

namespace Cert.ConvK
open Cert.KernelIdeal Cert.KernelIdeal.Gen

variable (m : (ℓ : Loc nD τ sig) → Buf (Elt Ideal) ℓ)

/-- The gated rows a point holds: thirty-two from before the block, then the block's own. -/
abbrev ueX (c : Dev nD) (t : Fin cfg0.N) : FVec Ideal S544x512 .f32 :=
  k0_pay6 (grid0.coords t) (iblk m c 0 t) (iblk m c 1 t) (iblk m c 2 t) (iblk m c 3 t)

/-- The cotangent's rows a point holds: the block's own, then thirty-two from after it. -/
abbrev deX (c : Dev nD) (t : Fin cfg0.N) : FVec Ideal S544x512 .f32 :=
  k0_pay7 (grid0.coords t) (iblk m c 4 t) (iblk m c 5 t)

/-- The rows of `de`, weighted by the taps. -/
def duB (w : FVec Ideal S32x512 .f32) (e : FVec Ideal S544x512 .f32) (r q : Fin 512) : EReal :=
  ∑ j : Fin 31, w (ix2 ⟨j.val, by omega⟩ q) * e (ix2 ⟨(r.val + 30 - j.val) % 544, by omega⟩ q)

/-- The block of the projection's gradient: the two halves side by side. -/
def dagB (a g : FVec Ideal S512x512 .f32) (w : FVec Ideal S32x512 .f32) (e : FVec Ideal S544x512 .f32) : FVec Ideal S512x1024 .bf16 := fun y =>
  if h : (y 1).val < 512 then duB w e (y 0) ⟨(y 1).val, h⟩ * Ideal.logistic (g (ix2 (y 0) ⟨(y 1).val, h⟩))
  else
    let q : Fin 512 := ⟨(y 1).val - 512, by have := (y 1).isLt; simp at this; omega⟩
    duB w e (y 0) q * a (ix2 (y 0) q) * Ideal.logistic (g (ix2 (y 0) q)) * (1 - Ideal.logistic (g (ix2 (y 0) q)))

theorem emb_lo (inb : ∀ a : Fin 2, (![0, 0] : Fin 2 → ℕ) a + (![512, 512] : Fin 2 → ℕ) a ≤ S512x1024.size a) (x0 x1 : Fin 512) :
    (Rect.unit (s := S512x1024) ![0, 0] ![512, 512] inb).emb (ix2 x0 x1) = ix2 x0 ⟨x1.val, by omega⟩ := by
  funext a
  match a with
  | ⟨0, _⟩ => exact Fin.ext (by show 0 + 1 * x0.val = x0.val; omega)
  | ⟨1, _⟩ => exact Fin.ext (by show 0 + 1 * x1.val = x1.val; omega)

theorem emb_hi (inb : ∀ a : Fin 2, (![0, 512] : Fin 2 → ℕ) a + (![512, 512] : Fin 2 → ℕ) a ≤ S512x1024.size a) (x0 x1 : Fin 512) :
    (Rect.unit (s := S512x1024) ![0, 512] ![512, 512] inb).emb (ix2 x0 x1) = ix2 x0 ⟨512 + x1.val, by omega⟩ := by
  funext a
  match a with
  | ⟨0, _⟩ => exact Fin.ext (by show 0 + 1 * x0.val = x0.val; omega)
  | ⟨1, _⟩ => exact Fin.ext (by show 512 + 1 * x1.val = 512 + x1.val; omega)

theorem dagB_lo (a g : FVec Ideal S512x512 .f32) (w : FVec Ideal S32x512 .f32) (e : FVec Ideal S544x512 .f32) (x0 x1 : Fin 512) :
    dagB a g w e (ix2 x0 ⟨x1.val, by omega⟩) = duB w e x0 x1 * Ideal.logistic (g (ix2 x0 x1)) :=
  dif_pos x1.isLt

theorem dagB_hi (a g : FVec Ideal S512x512 .f32) (w : FVec Ideal S32x512 .f32) (e : FVec Ideal S544x512 .f32) (x0 x1 : Fin 512) :
    dagB a g w e (ix2 x0 ⟨512 + x1.val, by omega⟩)
      = duB w e x0 x1 * a (ix2 x0 x1) * Ideal.logistic (g (ix2 x0 x1)) * (1 - Ideal.logistic (g (ix2 x0 x1))) := by
  have hq : (⟨512 + x1.val - 512, by omega⟩ : Fin 512) = x1 := Fin.ext (by show 512 + x1.val - 512 = x1.val; omega)
  refine (dif_neg (show ¬ 512 + x1.val < 512 by omega)).trans ?_
  show duB w e x0 ⟨512 + x1.val - 512, _⟩ * a (ix2 x0 ⟨512 + x1.val - 512, _⟩) * Ideal.logistic (g (ix2 x0 ⟨512 + x1.val - 512, _⟩))
    * (1 - Ideal.logistic (g (ix2 x0 ⟨512 + x1.val - 512, _⟩))) = _
  rw [hq]

set_option maxHeartbeats 1000000 in
/-- The block of the projection's gradient after a point: its place does not change what is computed there. -/
theorem dag_point (c : Dev nD) (t : Fin cfg0.N) (y : S512x1024.Idx) :
    (outsAt0 m c t.val t.isLt).1 y = dagB (iblk m c 0 t) (iblk m c 1 t) (iblk m c 6 t) (deX m c t) y := by
  by_cases h0 : t.val % 8 = 0
  all_goals
    first | rw [outsAt0_A m c t h0] | rw [outsAt0_B m c t h0]
    dsimp only
    frame_out
    simp only [k0_pay10, deX]
    generalize k0_pay7 (grid0.coords t) (iblk m c 4 t) (iblk m c 5 t) = e
    generalize iblk m c 0 t = a
    generalize iblk m c 1 t = g
    generalize iblk m c 6 t = w
    generalize hD : k0_pay64 (F := Ideal) _ _ _ _ _ = D
    have hdu : ∀ x0 x1, D (ix2 x0 x1) = duB w e x0 x1 := by
      intro x0 x1
      rw [← hD]
      unfold_payloads
      pointwise
      simp only [duB, Fin.sum_univ_castSucc, Finset.univ_eq_empty, Finset.sum_empty, zero_add]
      iterate 30 refine congrArg₂ (· + ·) ?_ ?_
      all_goals
        refine congrArg₂ (· * ·) (congrArg w (congrArg (ix2 · x1) (Fin.ext rfl))) (congrArg e (congrArg (ix2 · x1) (Fin.ext ?_)))
        simp only [Fin.val_castSucc, Fin.val_last]
        omega
    clear hD
    refine View.canon_append_blocks (Val := Elt Ideal) (e := .bf16) (dagB a g w e) [] [_, _] ?_ y ?_
    · refine ⟨?_, ?_, trivial⟩
      · intro x
        idx_vars x
        refine Eq.trans ?_ (congrArg (dagB a g w e) (emb_hi _ x0 x1)).symm
        rw [dagB_hi, ← hdu]
        unfold_payloads
        pointwise
      · intro x
        idx_vars x
        refine Eq.trans ?_ (congrArg (dagB a g w e) (emb_lo _ x0 x1)).symm
        rw [dagB_lo, ← hdu]
        unfold_payloads
        pointwise
    · intro hn
      exfalso
      simp only [List.forall_mem_cons, Rect.mem_set_unit, Fin.forall_fin_two] at hn
      have h1 : (y 1).val < 1024 := (y 1).isLt
      have h2 : (y 0).val < 512 := (y 0).isLt
      simp at hn
      omega

/-- The cotangent's block at a point. -/
abbrev dB (c : Dev nD) (t : Fin cfg0.N) : FVec Ideal S512x512 .f32 := iblk m c 4 t

theorem db_A (c : Dev nD) (t : Fin cfg0.N) (h0 : t.val % 8 = 0) (y : S1x512.Idx) :
    (outsAt0 m c t.val t.isLt).2.2 y = ∑ k : Fin 512, dB m c t (ix2 k (y 1)) := by
  rw [outsAt0_A m c t h0]
  dsimp only
  frame_out
  unfold_payloads
  idx_vars y
  pointwise

theorem db_B (c : Dev nD) (t : Fin cfg0.N) (h0 : ¬ t.val % 8 = 0) (y : S1x512.Idx) :
    (outsAt0 m c t.val t.isLt).2.2 y = (outsAt0 m c (t.val - 1) (Nat.lt_of_le_of_lt (Nat.sub_le _ _) t.isLt)).2.2 y + ∑ k : Fin 512, dB m c t (ix2 k (y 1)) := by
  rw [outsAt0_B m c t h0]
  dsimp only
  frame_out
  unfold_payloads
  idx_vars y
  pointwise

end Cert.ConvK
-- ==== Proof.ConvArrays.lean ====
module

public import proofs.«01_k».proof.Proof.Gen.KernelIdeal.Value
public import proofs.«01_k».proof.Proof.ConvRows
public import proofs.«01_k».proof.Proof.ConvDag

/-!
The convolution's gradient kernel leaves the gradient of the convolution in its three results.
-/

@[expose] public section

set_option maxRecDepth 16384

noncomputable section

open Idealize.ShloMosaic Idealize.ShloMosaic.TcCoe Idealize.SL.Sem
open Idealize.ShloMosaic.Pipeline (Dat)

namespace Cert.ConvK
open Cert.KernelIdeal Cert.KernelIdeal.Gen

variable (m : (ℓ : Loc nD τ sig) → Buf (Elt Ideal) ℓ)

abbrev pA (c : Dev nD) : ConvSpec.Arr 4096 7680 := m ((c : Thread nD τ).loc main_arg0)
abbrev dA (c : Dev nD) : ConvSpec.Arr 4096 512 := m ((c : Thread nD τ).loc main_arg1)
abbrev wA (c : Dev nD) : ConvSpec.Arr 31 512 := m ((c : Thread nD τ).loc main_arg2)

theorem lt8 (t : Fin cfg0.N) : t.val < 8 := lt_of_lt_of_eq t.isLt (show cfg0.N = 8 from N_0)

/-- Which block each window stages at a point. -/
theorem idx : ∀ t : Fin cfg0.N, win0_0.index t = ![t.val, 0] ∧ win0_1.index t = ![t.val, 1] ∧ win0_2.index t = ![16 * t.val - 1, 0]
    ∧ win0_3.index t = ![16 * t.val - 1, 1] ∧ win0_4.index t = ![t.val, 0] ∧ win0_5.index t = ![min (16 * (t.val + 1)) 127, 0]
    ∧ win0_6.index t = ![0, 0] ∧ win0_7.index t = ![t.val, 0] ∧ win0_8.index t = ![0, 0] ∧ win0_9.index t = ![0, 0] := by
  decide +kernel

theorem blk0 (c : Dev nD) (t : Fin cfg0.N) (r q : Fin 512) : (iblk m c 0 t : FVec Ideal S512x512 .f32) (ix2 r q)
    = ConvSpec.half (pA m c) ⟨512 * t.val + r.val, by have := lt8 t; omega⟩ q := by
  blk_point [iblk, V, idx t]
theorem blk1 (c : Dev nD) (t : Fin cfg0.N) (r q : Fin 512) : (iblk m c 1 t : FVec Ideal S512x512 .f32) (ix2 r q)
    = ConvSpec.gate (pA m c) ⟨512 * t.val + r.val, by have := lt8 t; omega⟩ q := by
  blk_point [iblk, V, idx t]
theorem blk2 (c : Dev nD) (t : Fin cfg0.N) (r : Fin 32) (q : Fin 512) (h : 0 < t.val) : (iblk m c 2 t : FVec Ideal S32x512 .f32) (ix2 r q)
    = ConvSpec.half (pA m c) ⟨512 * t.val + r.val - 32, by have := lt8 t; omega⟩ q := by
  blk_point [iblk, V, idx t]
theorem blk4 (c : Dev nD) (t : Fin cfg0.N) (r q : Fin 512) : (iblk m c 4 t : FVec Ideal S512x512 .f32) (ix2 r q)
    = dA m c (ix2 ⟨512 * t.val + r.val, by have := lt8 t; omega⟩ q) := by
  blk_point [iblk, V, idx t]
theorem blk5 (c : Dev nD) (t : Fin cfg0.N) (r : Fin 32) (q : Fin 512) (h : t.val < 7) : (iblk m c 5 t : FVec Ideal S32x512 .f32) (ix2 r q)
    = dA m c (ix2 ⟨512 * t.val + 512 + r.val, by have := lt8 t; omega⟩ q) := by
  blk_point [iblk, V, idx t]
theorem blk3 (c : Dev nD) (t : Fin cfg0.N) (r : Fin 32) (q : Fin 512) (h : 0 < t.val) : (iblk m c 3 t : FVec Ideal S32x512 .f32) (ix2 r q)
    = ConvSpec.gate (pA m c) ⟨512 * t.val + r.val - 32, by have := lt8 t; omega⟩ q := by
  blk_point [iblk, V, idx t]

theorem V_main_v0 (c : Dev nD) : (V m c main_v0 : FVec Ideal S32x512 .f32)
    = pad S32x512 ![0, 0] ![1, 0] ![0, 0] (wA m c : FVec Ideal S31x512 .f32) (sitofp (F := Ideal) .f32 (constantI S_ 32 0#32)) pads_S31x512_S32x512_010_000 h_S_ := by
  entry_read
  rfl

theorem blk6 (c : Dev nD) (t : Fin cfg0.N) (j : Fin 31) (q : Fin 512) : (iblk m c 6 t : FVec Ideal S32x512 .f32) (ix2 ⟨j.val, by omega⟩ q)
    = wA m c (ix2 j q) := by
  have hb : (iblk m c 6 t : FVec Ideal S32x512 .f32) (ix2 ⟨j.val, by omega⟩ q) = (V m c main_v0 : FVec Ideal S32x512 .f32) (ix2 ⟨j.val, by omega⟩ q) := by
    blk_simp [iblk, idx t]
    blk_ext [idx t]
  rw [hb, V_main_v0]
  pointwise

theorem isPos : ∀ t : Fin cfg0.N, (Scalar.cmpi CmpIPredicate.sgt (BitVec.ofNat 32 (grid0.coords t 0).val) 0#32 = 1) ↔ 0 < t.val := by
  decide +kernel

theorem isNotLast : ∀ t : Fin cfg0.N, (Scalar.cmpi CmpIPredicate.slt (BitVec.ofNat 32 (grid0.coords t 0).val) 7#32 = 1) ↔ t.val < 7 := by
  decide +kernel

theorem ue_at (c : Dev nD) (t : Fin cfg0.N) (n : Fin 544) (hn : 2 ≤ n.val) (q : Fin 512) :
    ue m c t (ix2 n q) = ConvSpec.padded (pA m c) (512 * t.val + n.val - 2) q := by
  have ht := lt8 t
  unfold ue
  unfold_payloads
  pointwise
  unfold Scalar.select
  by_cases h : n.val < 32
  · rw [dif_pos h]
    by_cases hp : 0 < t.val
    · rw [if_pos ((isPos t).mpr hp), ConvSpec.padded, dif_pos (by omega), blk2 m c t _ q hp, blk3 m c t _ q hp]
      have e : 512 * t.val + n.val - 32 = 512 * t.val + n.val - 2 - 30 := by omega
      simp only [e]
    · rw [if_neg (fun e => hp ((isPos t).mp e)), ConvSpec.padded, dif_neg (by omega)]
  · rw [dif_neg h, ConvSpec.padded, dif_pos (by omega), blk0, blk1]
    have e : 512 * t.val + (n.val - 32) = 512 * t.val + n.val - 2 - 30 := by omega
    simp only [e]

theorem de_at (c : Dev nD) (t : Fin cfg0.N) (n : Fin 544) (q : Fin 512) :
    de m c t (ix2 n q) = ConvSpec.after (dA m c) (512 * t.val + n.val) q := by
  have ht := lt8 t
  unfold de
  unfold_payloads
  pointwise
  unfold Scalar.select
  by_cases h : n.val < 512
  · rw [dif_pos h, ConvSpec.after, dif_pos (by omega), blk4]
  · rw [dif_neg h]
    by_cases hp : t.val < 7
    · rw [if_pos ((isNotLast t).mpr hp), ConvSpec.after, dif_pos (by omega), blk5 m c t _ q hp]
      have e : 512 * t.val + 512 + (n.val - 512) = 512 * t.val + n.val := by omega
      simp only [e]
    · rw [if_neg (fun e => hp ((isNotLast t).mp e)), ConvSpec.after, dif_neg (by omega)]

theorem du_at (c : Dev nD) (t : Fin cfg0.N) (r q : Fin 512) :
    duB (iblk m c 6 t) (de m c t) r q = ConvSpec.du (dA m c) (wA m c) ⟨512 * t.val + r.val, by have := lt8 t; omega⟩ q := by
  unfold duB ConvSpec.du
  refine Finset.sum_congr rfl fun j _ => ?_
  rw [blk6, de_at]
  refine congrArg _ (congrArg (ConvSpec.after (dA m c) · q) ?_)
  dsimp only
  omega

theorem dag_block (c : Dev nD) (t : Fin cfg0.N) (y : S512x1024.Idx) :
    dagB (iblk m c 0 t) (iblk m c 1 t) (iblk m c 6 t) (de m c t) y
      = ConvSpec.dag (pA m c) (dA m c) (wA m c) (ix2 ⟨512 * t.val + (y 0).val, by have := lt8 t; have : (y 0).val < 512 := (y 0).isLt; omega⟩ (⟨(y 1).val, (y 1).isLt⟩ : Fin 1024)) := by
  idx_vars y
  unfold dagB ConvSpec.dag
  by_cases h : y1.val < 512
  · refine (dif_pos h).trans (Eq.trans ?_ (dif_pos h).symm)
    show duB (iblk m c 6 t) (de m c t) y0 ⟨y1.val, h⟩ * Ideal.logistic ((iblk m c 1 t : FVec Ideal S512x512 .f32) (ix2 y0 ⟨y1.val, h⟩)) = _
    rw [du_at, blk1]
    rfl
  · refine (dif_neg h).trans (Eq.trans ?_ (dif_neg h).symm)
    have h1 : y1.val - 512 < 512 := by omega
    show duB (iblk m c 6 t) (de m c t) y0 ⟨y1.val - 512, h1⟩ * (iblk m c 0 t : FVec Ideal S512x512 .f32) (ix2 y0 ⟨y1.val - 512, h1⟩)
      * Ideal.logistic ((iblk m c 1 t : FVec Ideal S512x512 .f32) (ix2 y0 ⟨y1.val - 512, h1⟩))
      * (1 - Ideal.logistic ((iblk m c 1 t : FVec Ideal S512x512 .f32) (ix2 y0 ⟨y1.val - 512, h1⟩))) = _
    rw [du_at, blk0, blk1]
    rfl

/-- The gradient of the two halves. -/
theorem arr7 (c : Dev nD) : (dats m 0 c).arrAt 7 cfg0.N = ConvSpec.dag (pA m c) (dA m c) (wA m c) := by
  refine (dats m 0 c).arrAt_eq_of_covers 7 _ (by decide +kernel) fun t hf y => ?_
  blk_simp [idx t]
  rw [after0_7, dag_point]
  refine (dag_block m c t y).trans (congrArg (ConvSpec.dag (pA m c) (dA m c) (wA m c)) ?_)
  have := lt8 t
  blk_ext [idx t]

/-- What a point adds to the taps' accumulator. -/
theorem addRow_at (c : Dev nD) (t : Fin cfg0.N) (j : Fin 32) (q : Fin 512) (h : j.val < 31) :
    addRow (iblk m c 4 t) (ue m c t) (ix2 j q) = ∑ k : Fin 512, dA m c (ix2 ⟨512 * t.val + k.val, by have := lt8 t; omega⟩ q)
      * ConvSpec.padded (pA m c) (512 * t.val + k.val + j.val) q := by
  refine (if_pos h).trans (Finset.sum_congr rfl fun k _ => ?_)
  refine congrArg₂ (· * ·) (blk4 m c t k q) ((ue_at m c t _ (by show 2 ≤ (k.val + 2 + j.val) % 544; omega) q).trans
    (congrArg (ConvSpec.padded (pA m c) · q) ?_))
  show 512 * t.val + (k.val + 2 + j.val) % 544 - 2 = _
  omega

/-- The last point. -/
theorem last_eq : (t0_7 : Fin cfg0.N).val + 1 = cfg0.N := rfl

theorem sum8 (c : Dev nD) (y : S32x512.Idx) : (outsAt0 m c t0_7.val t0_7.isLt).2.1 y = ConvSpec.dw (pA m c) (dA m c) y := by
  rw [Pipeline.eq_sum_fin_of_reset_step_apply_last (N := cfg0.N) (fun n h => (outsAt0 m c n h).2.1) 8 (fun _ => 0)
    (fun t y => addRow (iblk m c 4 t) (ue m c t) y)
    (fun t h i => (rows_A m c t h i).trans rfl) (fun t h i => (rows_B m c t h i).trans rfl)
    (le_of_eq N_0) t0_7 last_eq y]
  rw [zero_add]
  idx_vars y
  by_cases h : y0.val < 31
  · refine Eq.trans ?_ (if_pos h).symm
    rw [Finset.sum_congr rfl fun t _ => addRow_at m c t y0 y1 h]
    refine Fin.sum_mul_add_congr (fun t k hl => ?_) rfl
    have e : 512 * t.val + k.val = t.val * 512 + k.val := by omega
    simp only [e]
    rfl
  · refine Eq.trans ?_ (if_neg h).symm
    exact Finset.sum_eq_zero fun t _ => if_neg h

theorem arr8 (c : Dev nD) : (dats m 0 c).arrAt 8 cfg0.N = ConvSpec.dw (pA m c) (dA m c) := by
  refine (dats m 0 c).arrAt_eq_of_after_last 8 t0_7 (by decide +kernel) _ fun j => ?_
  blk_simp
  rw [after0_8]
  exact sum8 m c j

theorem arr9 (c : Dev nD) : (dats m 0 c).arrAt 9 cfg0.N = ConvSpec.db (dA m c) := by
  refine (dats m 0 c).arrAt_eq_of_after_last 9 t0_7 (by decide +kernel) _ fun j => ?_
  blk_simp
  rw [after0_9]
  rw [Pipeline.eq_sum_fin_of_reset_step_apply_last (N := cfg0.N) (fun n h => (outsAt0 m c n h).2.2) 8 (fun _ => 0)
    (fun t y => ∑ k : Fin 512, dB m c t (ix2 k (y 1)))
    (fun t h i => (db_A m c t h i).trans (zero_add _).symm) (fun t h i => db_B m c t h i)
    (le_of_eq N_0) t0_7 last_eq j]
  rw [zero_add]
  idx_vars j
  show ∑ t : Fin cfg0.N, ∑ k : Fin 512, dB m c t (ix2 k j1) = ∑ s : Fin 4096, dA m c (ix2 s j1)
  refine Fin.sum_mul_add_congr (fun t k hl => (blk4 m c t k j1).trans ?_) rfl
  have e : 512 * t.val + k.val = t.val * 512 + k.val := by omega
  simp only [e]

end Cert.ConvK
-- ==== Proof.ConvRef.lean ====
module

public import proofs.«01_k».proof.Proof.Gen.ReferenceIdeal.Run
public import proofs.«01_k».proof.Proof.ConvSpec
public import Idealize.ShloMosaic.Lib.Pipeline.ValueKit
public import Idealize.ShloMosaic.Lib.Tactic.CleanTypes

/-!
The reference's three results are the gradient of the convolution.
-/

@[expose] public section

set_option maxRecDepth 16384

noncomputable section

open Idealize.ShloMosaic Idealize.ShloMosaic.TcCoe Idealize.SL.Sem
open Idealize.ShloMosaic.Pipeline (Dat)

namespace Cert.ConvR
open Cert.ReferenceIdeal Cert.ReferenceIdeal.Value

variable (m : (ℓ : Loc nD τ sig) → Buf (Elt Ideal) ℓ)

abbrev pA (c : Dev nD) : ConvSpec.Arr 4096 7680 := m ((c : Thread nD τ).loc main_arg0)
abbrev dA (c : Dev nD) : ConvSpec.Arr 4096 512 := m ((c : Thread nD τ).loc main_arg1)
abbrev wA (c : Dev nD) : ConvSpec.Arr 31 512 := m ((c : Thread nD τ).loc main_arg2)

theorem at0 (c : Dev nD) (r : Fin 4096) (q : Fin 512) : res_main_v0 (StableHlo.launchContents m c) (ix2 r q) = ConvSpec.half (pA m c) r q := by
  unfold res_main_v0
  clean_types
  pointwise
  rfl

theorem at8 (c : Dev nD) (r : Fin 4096) (q : Fin 512) : res_main_v8 (StableHlo.launchContents m c) (ix2 r q) = Ideal.logistic (ConvSpec.gate (pA m c) r q) := by
  unfold res_main_v8
  clean_types
  pointwise
  rfl

theorem at14 (c : Dev nD) (n : Fin 4126) (q : Fin 512) : res_main_v14 (StableHlo.launchContents m c) (ix2 n q) = ConvSpec.padded (pA m c) n.val q := by
  unfold res_main_v14
  clean_types
  pointwise [at0 m c, at8 m c]
  unfold ConvSpec.padded
  by_cases h : n.val < 30
  · rw [dif_pos h, dif_neg (by omega)]
  · rw [dif_neg h, dif_pos (by omega)]

/-- One tap's gradient. -/
def tap (p : ConvSpec.Arr 4096 7680) (dc : ConvSpec.Arr 4096 512) (j : ℕ) (q : Fin 512) : EReal :=
  ∑ s : Fin 4096, dc (ix2 s q) * ConvSpec.padded p (j + s.val) q

set_option maxHeartbeats 2000000 in
/-- The taps' gradients: row `j` holds tap `j`'s. -/
theorem taps (c : Dev nD) (j : Fin 31) (q : Fin 512) : (addf (F := Ideal) (res_main_v568 (StableHlo.launchContents m c)) (pad S31x512 ![0, 0] ![30, 0] ![0, 0] (broadcastInDim S1x512 ![1] Gen.bcast_S512_S1x512_1 (Host.reduceAdd (shapeCast _ (Host.reduceAdd (mulf (res_main_v237 (StableHlo.launchContents m c)) (res_main_v18 (StableHlo.launchContents m c))) (constant S_ .f32 0x00000000#32) Gen.reducesTo_S4096x512_S512_d0 Gen.h_S_) Gen.shapeCasts_S512_S1x512) (constant S_ .f32 0x00000000#32) Gen.reducesTo_S1x512_S512_d0 Gen.h_S_)) (constant S_ .f32 0x00000000#32) Gen.pads_S1x512_S31x512_0300_000 Gen.h_S_) : FVec Ideal S31x512 .f32) (ix2 j q)
    = tap (pA m c) (dA m c) j.val q := by
  unfold res_main_v568 res_main_v458 res_main_v348
  clean_types
  pointwise [res_main_v237, res_main_v18, res_main_v26, res_main_v33, res_main_v40, res_main_v47, res_main_v54, res_main_v61, res_main_v68, res_main_v75, res_main_v82, res_main_v89, res_main_v96, res_main_v103, res_main_v110, res_main_v117, res_main_v124, res_main_v131, res_main_v138, res_main_v145, res_main_v152, res_main_v159, res_main_v166, res_main_v173, res_main_v180, res_main_v187, res_main_v194, res_main_v201, res_main_v208, res_main_v215, res_main_v222, res_main_v229, at14 m c]
  unfold tap
  simp only [Finset.univ_unique, Finset.sum_singleton]
  fin_vals j with hj
  all_goals simp only [hj]
  all_goals simp

/-- A padded row of weighted cotangents, with or without the pad. -/
theorem leaf (W : FVec Ideal S31x512 .f32) (dc : ConvSpec.Arr 4096 512) (j n r : ℕ) (hj : j < 31) (hn : n = r + 30) (q : Fin 512) (jf : Fin 31) (hjf : jf.val = j) :
    (if h : j ≤ n ∧ n - j < 4096 then W (ix2 ⟨j, hj⟩ q) * dc (ix2 ⟨n - j, h.2⟩ q) else 0)
      = W (ix2 jf q) * ConvSpec.after dc (r + 30 - jf.val) q := by
  subst hjf hn
  unfold ConvSpec.after
  by_cases h : r + 30 - jf.val < 4096
  · rw [dif_pos ⟨by omega, h⟩, dif_pos h]
  · rw [dif_neg (fun e => h e.2), dif_neg h, mul_zero]

theorem leaf0 (W : FVec Ideal S31x512 .f32) (dc : ConvSpec.Arr 4096 512) (n r : ℕ) (hn : n = r + 30) (q : Fin 512) (jf : Fin 31) (hjf : jf.val = 0) :
    (if h : n < 4096 then W (ix2 0 q) * dc (ix2 ⟨n, h⟩ q) else 0)
      = W (ix2 jf q) * ConvSpec.after dc (r + 30 - jf.val) q := by
  have := leaf W dc 0 n r (by omega) hn q jf hjf
  rw [← this]
  by_cases h : n < 4096
  · rw [dif_pos h, dif_pos ⟨by omega, h⟩]
    rfl
  · rw [dif_neg h, dif_neg (fun e => h e.2)]

theorem at576 (c : Dev nD) (n : Fin 4126) (r : Fin 4096) (hn : n.val = r.val + 30) (q : Fin 512) :
    (res_main_v576 (StableHlo.launchContents m c) : FVec Ideal S4126x512 .f32) (ix2 n q) = ConvSpec.du (dA m c) (wA m c) r q := by
  unfold res_main_v576 res_main_v433
  clean_types
  pointwise [res_main_v237, res_main_v19, res_main_v27, res_main_v34, res_main_v41, res_main_v48, res_main_v55, res_main_v62, res_main_v69, res_main_v76, res_main_v83, res_main_v90, res_main_v97, res_main_v104, res_main_v111, res_main_v118, res_main_v125, res_main_v132, res_main_v139, res_main_v146, res_main_v153, res_main_v160, res_main_v167, res_main_v174, res_main_v181, res_main_v188, res_main_v195, res_main_v202, res_main_v209, res_main_v216, res_main_v223, res_main_v230]
  unfold ConvSpec.du
  rw [← Equiv.sum_comp Fin.revPerm]
  simp only [Fin.sum_univ_castSucc, Finset.univ_eq_empty, Finset.sum_empty, zero_add]
  iterate 30 refine congrArg₂ (· + ·) ?_ ?_
  all_goals first
    | exact leaf (wA m c) (dA m c) _ n.val r.val (by decide) hn q _ rfl
    | exact leaf0 (wA m c) (dA m c) n.val r.val hn q _ rfl

theorem at581 (c : Dev nD) (r : Fin 4096) (q : Fin 512) :
    (res_main_v581 (StableHlo.launchContents m c) : FVec Ideal S4096x512 .f32) (ix2 r q) = ConvSpec.du (dA m c) (wA m c) r q := by
  unfold res_main_v581
  clean_types
  pointwise
  exact at576 m c _ r (by show 30 + r.val = r.val + 30; omega) q

/-- The gradient of the two halves. -/
theorem val586 (c : Dev nD) : (truncf (F := Ideal) .bf16 (concatenate S4096x1024 1 [⟨S4096x512, (mulf (res_main_v581 (StableHlo.launchContents m c)) (res_main_v8 (StableHlo.launchContents m c)))⟩, ⟨S4096x512, (mulf (mulf (res_main_v0 (StableHlo.launchContents m c)) (res_main_v581 (StableHlo.launchContents m c))) (mulf (res_main_v8 (StableHlo.launchContents m c)) (subf (broadcastInDim S4096x512 ![] Gen.bcast_S_S4096x512 (constant S_ .f32 0x3F800000#32)) (res_main_v8 (StableHlo.launchContents m c)))))⟩] Gen.concatenates_S4096x512_S4096x512_S4096x1024_d1) Gen.bitsLt_bf16_f32 : FVec Ideal S4096x1024 .bf16)
    = ConvSpec.dag (pA m c) (dA m c) (wA m c) := by
  funext y
  clean_types
  idx_vars y
  pointwise [at581 m c, at8 m c, at0 m c]
  by_cases h : y1.val < 512
  · refine (dif_pos h).trans (Eq.trans ?_ (dif_pos h).symm)
    rfl
  · refine (dif_neg h).trans (Eq.trans ?_ (dif_neg h).symm)
    show _ * _ * (_ * _) = _ * _ * _ * _
    rw [← mul_assoc]
    exact congrArg (· * _) (congrArg (· * _) (mul_comm _ _))

/-- Thirty-one rows of taps' gradients with a row of zeros below. -/
theorem padTaps (c : Dev nD) (T : FVec Ideal S31x512 .f32) (ht : ∀ j q, T (ix2 j q) = tap (pA m c) (dA m c) j.val q) :
    (pad S32x512 ![0, 0] ![1, 0] ![0, 0] T (sitofp (F := Ideal) .f32 (constantI S_ 32 0#32)) Gen.pads_S31x512_S32x512_010_000 Gen.h_S_ : FVec Ideal S32x512 .f32)
      = ConvSpec.dw (pA m c) (dA m c) := by
  funext y
  idx_vars y
  pointwise
  by_cases h : y0.val < 31
  · refine (dif_pos h).trans (Eq.trans ?_ (if_pos h).symm)
    rw [ht ⟨y0.val, h⟩ y1]
    unfold tap
    simp only [Nat.add_comm y0.val]
    rfl
  · refine (dif_neg h).trans (Eq.trans ?_ (if_neg h).symm)
    simp [FloatOps.sitofp]

/-- The gradient of the taps. -/
theorem val587 (c : Dev nD) : (pad S32x512 ![0, 0] ![1, 0] ![0, 0] (addf (F := Ideal) (res_main_v568 (StableHlo.launchContents m c)) (pad S31x512 ![0, 0] ![30, 0] ![0, 0] (broadcastInDim S1x512 ![1] Gen.bcast_S512_S1x512_1 (Host.reduceAdd (shapeCast _ (Host.reduceAdd (mulf (res_main_v237 (StableHlo.launchContents m c)) (res_main_v18 (StableHlo.launchContents m c))) (constant S_ .f32 0x00000000#32) Gen.reducesTo_S4096x512_S512_d0 Gen.h_S_) Gen.shapeCasts_S512_S1x512) (constant S_ .f32 0x00000000#32) Gen.reducesTo_S1x512_S512_d0 Gen.h_S_)) (constant S_ .f32 0x00000000#32) Gen.pads_S1x512_S31x512_0300_000 Gen.h_S_)) (sitofp (F := Ideal) .f32 (constantI S_ 32 0#32)) Gen.pads_S31x512_S32x512_010_000 Gen.h_S_ : FVec Ideal S32x512 .f32)
    = ConvSpec.dw (pA m c) (dA m c) :=
  padTaps m c _ (taps m c)

/-- The gradient of the bias. -/
theorem val588 (c : Dev nD) : (broadcastInDim S1x512 ![1] Gen.bcast_S512_S1x512_1 (Host.reduceAdd (F := Ideal) (shapeCast _ (Host.reduceAdd (F := Ideal) ((StableHlo.launchContents m c) (Proc.devRef .tc main_arg1)) (constant S_ .f32 0x00000000#32) Gen.reducesTo_S4096x512_S512_d0 Gen.h_S_) Gen.shapeCasts_S512_S1x512) (constant S_ .f32 0x00000000#32) Gen.reducesTo_S1x512_S512_d0 Gen.h_S_) : FVec Ideal S1x512 .f32)
    = ConvSpec.db (dA m c) := by
  funext y
  clean_types
  idx_vars y
  pointwise
  simp only [Finset.univ_unique, Finset.sum_singleton]
  rfl

end Cert.ConvR
-- ==== Proof.Conv.lean ====
module

public import proofs.«01_k».proof.Defs
public import proofs.«01_k».proof.Proof.ConvArrays
public import proofs.«01_k».proof.Proof.ConvRef
public import Idealize.ShloMosaic.Adequacy

/-!
The claims about the convolution's gradient: the reference's frame, and the equality of the results.
-/

@[expose] public section

set_option maxRecDepth 16384

noncomputable section

open Idealize.ShloMosaic Idealize.ShloMosaic.TcCoe Idealize.SL.Sem

namespace Cert.Proof.Conv

/-- The reference runs, keeps its arguments, and holds no semaphore. -/
theorem frameR : Cert.quiescent_ReferenceIdeal := fun m ρ _ =>
  (θ_run _ _ _).mono (fun r h => ⟨fun c => ⟨(h c).2.2.2.1, (h c).2.2.2.2.1, (h c).2.2.2.2.2⟩,
    Idealize.ShloMosaic.sem_eq_zero_of_no_sems (by decide) r.2⟩) (Cert.ReferenceIdeal.Value.run m ρ)

/-- The kernel and the reference both end with the gradient of the convolution. -/
theorem equal : Cert.algebraic_KernelIdeal_ReferenceIdeal := fun m ρ m' ρ' _ hag =>
  ⟨fun c => ConvSpec.dag (ConvK.pA m c) (ConvK.dA m c) (ConvK.wA m c), fun c => ConvSpec.dw (ConvK.pA m c) (ConvK.dA m c),
    fun c => ConvSpec.db (ConvK.dA m c),
    (θ_run _ _ _).mono (fun _ h c => ⟨(h c).1.trans (ConvK.arr7 m c), (h c).2.1.trans (ConvK.arr8 m c),
      (h c).2.2.1.trans (ConvK.arr9 m c), (h c).2.2.2⟩) (Cert.KernelIdeal.Value.run_blocks m ρ),
    (θ_run _ _ _).mono (fun _ h c => by
      have hp : ConvR.pA m' c = ConvK.pA m c := (hag c).1
      have hd : ConvR.dA m' c = ConvK.dA m c := (hag c).2.1
      have hw : ConvR.wA m' c = ConvK.wA m c := (hag c).2.2
      refine ⟨(h c).1.trans ((ConvR.val586 m' c).trans ?_), (h c).2.1.trans ((ConvR.val587 m' c).trans ?_),
        (h c).2.2.1.trans ((ConvR.val588 m' c).trans ?_), (h c).2.2.2⟩
      · rw [hp, hd, hw]
      · rw [hp, hd]
      · rw [hd]) (Cert.ReferenceIdeal.Value.run m' ρ')⟩

end Cert.Proof.Conv

end
-- ==== Proof.ProductSpec.lean ====
module

public import Idealize.ShloMosaic.Lib.Pipeline.ValueKit
public import Idealize.ShloMosaic.Lib.Pointwise.Tactic
public import Idealize.ShloMosaic.Lib.Tactic
public import Idealize.ShloMosaic.Adequacy

/-!
The three products of two matrices that a linear layer and its gradient take, as functions of whole arrays of extended
reals.  No program is named here: each kernel and its reference are shown to compute one of these.
-/

@[expose] public section

noncomputable section

open Idealize.ShloMosaic

namespace Cert.Product

/-- An array of two axes. -/
abbrev Arr (a b : ℕ) : Type := (⟨2, ![a, b]⟩ : Shape).Idx → EReal

/-- Two indices with equal coordinates read the same element. -/
theorem read {a b : ℕ} (v : Arr a b) {i i' : Fin a} {j j' : Fin b} (hi : i.val = i'.val) (hj : j.val = j'.val) :
    v (ix2 i j) = v (ix2 i' j') := by
  rw [Fin.ext hi, Fin.ext hj]

/-- `a w`: the layer itself. -/
def nn {M K N : ℕ} (a : Arr M K) (w : Arr K N) : Arr M N := fun y => ∑ k : Fin K, a (ix2 (y 0) k) * w (ix2 k (y 1))

/-- `a wᵀ`: the gradient with respect to the layer's input. -/
def nt {M K N : ℕ} (a : Arr M K) (w : Arr N K) : Arr M N := fun y => ∑ k : Fin K, a (ix2 (y 0) k) * w (ix2 (y 1) k)

/-- `aᵀ b`: the gradient with respect to the layer's weight. -/
def tn {M K N : ℕ} (a : Arr K M) (b : Arr K N) : Arr M N := fun y => ∑ k : Fin K, a (ix2 k (y 0)) * b (ix2 k (y 1))

end Cert.Product
-- ==== Proof.WInDx.lean ====
module

public import proofs.«01_k».proof.Defs
public import proofs.«01_k».proof.Proof.Gen.WInDxIdeal.Value
public import proofs.«01_k».proof.Proof.Gen.WInDxRefIdeal.Run
public import proofs.«01_k».proof.Proof.ProductSpec
public import Idealize.ShloMosaic.Lib.Tactic.CleanTypes

/-!
The gradient of the input projection with respect to its input.
-/

@[expose] public section

set_option maxRecDepth 16384

noncomputable section

open Idealize.ShloMosaic Idealize.ShloMosaic.TcCoe Idealize.SL.Sem
open Idealize.ShloMosaic.Pipeline (Dat)

namespace Cert.Proof.WInDx

section
open Cert.WInDxIdeal Cert.WInDxIdeal.Gen

variable (m : (ℓ : Loc nD τ sig) → Buf (Elt Ideal) ℓ)

abbrev aA (c : Dev nD) : Product.Arr 4096 7680 := m ((c : Thread nD τ).loc main_arg0)
abbrev wA (c : Dev nD) : Product.Arr 1024 7680 := m ((c : Thread nD τ).loc main_arg1)

theorem lt (t : Fin cfg0.N) : t.val < 16 := lt_of_lt_of_eq t.isLt (show cfg0.N = 16 from N_0)

/-- Which block each window stages at a point. -/
theorem idx : ∀ t : Fin cfg0.N, win0_0.index t = ![t.val / 4, t.val % 4] ∧ win0_1.index t = ![0, t.val % 4]
    ∧ win0_2.index t = ![t.val / 4, 0] := by
  decide +kernel

theorem blk0 (c : Dev nD) (t : Fin cfg0.N) (r : Fin 1024) (k : Fin 1920) :
    (iblk m c 0 t : FVec Ideal S1024x1920 .bf16) (ix2 r k)
      = aA m c (ix2 ⟨t.val / 4 * 1024 + r.val, by have := lt t; omega⟩ ⟨t.val % 4 * 1920 + k.val, by have := lt t; omega⟩) := by
  blk_point [iblk, V, idx t]
theorem blk1 (c : Dev nD) (t : Fin cfg0.N) (r : Fin 1024) (k : Fin 1920) :
    (iblk m c 1 t : FVec Ideal S1024x1920 .bf16) (ix2 r k)
      = wA m c (ix2 ⟨0 * 1024 + r.val, by have := lt t; omega⟩ ⟨t.val % 4 * 1920 + k.val, by have := lt t; omega⟩) := by
  blk_point [iblk, V, idx t]

/-- What a point adds to its block. -/
def term (c : Dev nD) (t : Fin cfg0.N) : Product.Arr 1024 1024 :=
  Product.nt (M := 1024) (K := 1920) (N := 1024) (iblk m c 0 t) (iblk m c 1 t)

theorem first (c : Dev nD) (t : Fin cfg0.N) (h : t.val % 4 = 0) (y : S1024x1024.Idx) :
    outsAt0 m c t.val t.isLt y = 0 + term m c t y := by
  rw [outsAt0_A m c t h (by omega)]
  frame_out
  unfold_payloads
  unfold term Product.nt
  idx_vars y
  pointwise

theorem next (c : Dev nD) (t : Fin cfg0.N) (h : ¬t.val % 4 = 0) (y : S1024x1024.Idx) :
    outsAt0 m c t.val t.isLt y = outsAt0 m c (t.val - 1) (Nat.lt_of_le_of_lt (Nat.sub_le _ _) t.isLt) y + term m c t y := by
  rw [outsAt0_B m c t h (by omega)]
  frame_out
  unfold_payloads
  unfold term Product.nt
  idx_vars y
  pointwise

/-- The terms of one block's run of points, together. -/
theorem run (c : Dev nD) (t : Fin cfg0.N) (hr : t.val % 4 = 4 - 1) (y : S1024x1024.Idx) :
    ∑ s : Fin 4, term m c ⟨4 * (t.val / 4) + s.val, Pipeline.run_point_lt_of_flush t hr s⟩ y
      = Product.nt (aA m c) (wA m c) (ix2 (⟨t.val / 4 * 1024 + (y 0).val, by have := lt t; have : (y 0).val < 1024 := (y 0).isLt; omega⟩ : Fin 4096)
          (⟨0 * 1024 + (y 1).val, by have := lt t; have : (y 1).val < 1024 := (y 1).isLt; omega⟩ : Fin 1024)) := by
  idx_vars y
  unfold term Product.nt
  refine Fin.sum_mul_add_congr (fun s k hl => congrArg₂ (· * ·) ((blk0 m c _ y0 k).trans (Product.read _ ?_ ?_))
    ((blk1 m c _ y1 k).trans (Product.read _ ?_ ?_))) rfl
  all_goals have := lt t
  all_goals (try dsimp only [ix2]) <;> omega

theorem val (c : Dev nD) : ((dats m 0 c).arrAt 2 cfg0.N : FVec Ideal S4096x1024 .f32) = Product.nt (aA m c) (wA m c) := by
  refine (dats m 0 c).arrAt_eq_of_covers 2 _ (by decide +kernel) fun t hf y => ?_
  have hr : t.val % 4 = 4 - 1 := (flush0_2 t).mp hf
  blk_simp [idx t]
  rw [after0_2, Pipeline.eq_sum_fin_of_reset_step_apply_of_flush (fun n h => outsAt0 m c n h) 4 (fun _ => 0) (term m c)
    (first m c) (next m c) t hr]
  refine (zero_add _).trans ((run m c t hr y).trans (congrArg (Product.nt (aA m c) (wA m c)) ?_))
  have := lt t
  blk_ext [idx t]

end

section
open Cert.WInDxRefIdeal Cert.WInDxRefIdeal.Gen

variable (m : (ℓ : Loc nD τ sig) → Buf (Elt Ideal) ℓ)

abbrev aR (c : Dev nD) : Product.Arr 4096 7680 := m ((c : Thread nD τ).loc main_arg0)
abbrev wR (c : Dev nD) : Product.Arr 1024 7680 := m ((c : Thread nD τ).loc main_arg1)

/-- The reference's product. -/
theorem ref (a : FVec Ideal S4096x7680 .bf16) (w : FVec Ideal S1024x7680 .bf16) :
    (Host.dotGeneral dot_S4096x7680_S1024x7680_S4096x1024_1_1_0_0_n_n none (extf .f32 a bitsLt_bf16_f32)
      (extf .f32 w bitsLt_bf16_f32) : FVec Ideal S4096x1024 .f32) = Product.nt a w := by
  funext y
  unfold Product.nt
  clean_types
  idx_vars y
  pointwise

end

/-- The reference runs, keeps its arguments, and holds no semaphore. -/
theorem frameR : Cert.quiescent_WInDxRefIdeal := fun m ρ _ =>
  (θ_run _ _ _).mono (fun r h => ⟨fun c => (h c).2, Idealize.ShloMosaic.sem_eq_zero_of_no_sems (by decide) r.2⟩)
    (Cert.WInDxRefIdeal.Value.run m ρ)

/-- The kernel and the reference both end with the product. -/
theorem equal : Cert.algebraic_WInDxIdeal_WInDxRefIdeal := fun m ρ m' ρ' _ hag =>
  ⟨fun c => Product.nt (aA m c) (wA m c),
    (θ_run _ _ _).mono (fun _ h c => ⟨(h c).1.trans (val m c), (h c).2⟩) (Cert.WInDxIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nt ha hw)), (h c).2⟩) (Cert.WInDxRefIdeal.Value.run m' ρ')⟩

end Cert.Proof.WInDx

end
-- ==== Proof.WInDw.lean ====
module

public import proofs.«01_k».proof.Defs
public import proofs.«01_k».proof.Proof.Gen.WInDwIdeal.Value
public import proofs.«01_k».proof.Proof.Gen.WInDwRefIdeal.Run
public import proofs.«01_k».proof.Proof.ProductSpec
public import Idealize.ShloMosaic.Lib.Tactic.CleanTypes

/-!
The gradient of the input projection with respect to its weight.
-/

@[expose] public section

set_option maxRecDepth 16384

noncomputable section

open Idealize.ShloMosaic Idealize.ShloMosaic.TcCoe Idealize.SL.Sem
open Idealize.ShloMosaic.Pipeline (Dat)

namespace Cert.Proof.WInDw

section
open Cert.WInDwIdeal Cert.WInDwIdeal.Gen

variable (m : (ℓ : Loc nD τ sig) → Buf (Elt Ideal) ℓ)

abbrev aA (c : Dev nD) : Product.Arr 4096 1024 := m ((c : Thread nD τ).loc main_arg0)
abbrev wA (c : Dev nD) : Product.Arr 4096 7680 := m ((c : Thread nD τ).loc main_arg1)

theorem lt (t : Fin cfg0.N) : t.val < 12 := lt_of_lt_of_eq t.isLt (show cfg0.N = 12 from N_0)

/-- Which block each window stages at a point. -/
theorem idx : ∀ t : Fin cfg0.N, win0_0.index t = ![t.val % 2, 0] ∧ win0_1.index t = ![t.val % 2, t.val / 2]
    ∧ win0_2.index t = ![0, t.val / 2] := by
  decide +kernel

theorem blk0 (c : Dev nD) (t : Fin cfg0.N) (r : Fin 2048) (k : Fin 1024) :
    (iblk m c 0 t : FVec Ideal S2048x1024 .bf16) (ix2 r k)
      = aA m c (ix2 ⟨t.val % 2 * 2048 + r.val, by have := lt t; omega⟩ ⟨0 * 1024 + k.val, by have := lt t; omega⟩) := by
  blk_point [iblk, V, idx t]
theorem blk1 (c : Dev nD) (t : Fin cfg0.N) (r : Fin 2048) (k : Fin 1280) :
    (iblk m c 1 t : FVec Ideal S2048x1280 .bf16) (ix2 r k)
      = wA m c (ix2 ⟨t.val % 2 * 2048 + r.val, by have := lt t; omega⟩ ⟨t.val / 2 * 1280 + k.val, by have := lt t; omega⟩) := by
  blk_point [iblk, V, idx t]

/-- What a point adds to its block. -/
def term (c : Dev nD) (t : Fin cfg0.N) : Product.Arr 1024 1280 :=
  Product.tn (M := 1024) (K := 2048) (N := 1280) (iblk m c 0 t) (iblk m c 1 t)

theorem first (c : Dev nD) (t : Fin cfg0.N) (h : t.val % 2 = 0) (y : S1024x1280.Idx) :
    outsAt0 m c t.val t.isLt y = 0 + term m c t y := by
  rw [outsAt0_A m c t h (by omega)]
  frame_out
  unfold_payloads
  unfold term Product.tn
  idx_vars y
  pointwise

theorem next (c : Dev nD) (t : Fin cfg0.N) (h : ¬t.val % 2 = 0) (y : S1024x1280.Idx) :
    outsAt0 m c t.val t.isLt y = outsAt0 m c (t.val - 1) (Nat.lt_of_le_of_lt (Nat.sub_le _ _) t.isLt) y + term m c t y := by
  rw [outsAt0_B m c t h (by omega)]
  frame_out
  unfold_payloads
  unfold term Product.tn
  idx_vars y
  pointwise

/-- The terms of one block's run of points, together. -/
theorem run (c : Dev nD) (t : Fin cfg0.N) (hr : t.val % 2 = 2 - 1) (y : S1024x1280.Idx) :
    ∑ s : Fin 2, term m c ⟨2 * (t.val / 2) + s.val, Pipeline.run_point_lt_of_flush t hr s⟩ y
      = Product.tn (aA m c) (wA m c) (ix2 (⟨0 * 1024 + (y 0).val, by have := lt t; have : (y 0).val < 1024 := (y 0).isLt; omega⟩ : Fin 1024)
          (⟨t.val / 2 * 1280 + (y 1).val, by have := lt t; have : (y 1).val < 1280 := (y 1).isLt; omega⟩ : Fin 7680)) := by
  idx_vars y
  unfold term Product.tn
  refine Fin.sum_mul_add_congr (fun s k hl => congrArg₂ (· * ·) ((blk0 m c _ k y0).trans (Product.read _ ?_ ?_))
    ((blk1 m c _ k y1).trans (Product.read _ ?_ ?_))) rfl
  all_goals have := lt t
  all_goals (try dsimp only [ix2]) <;> omega

theorem val (c : Dev nD) : ((dats m 0 c).arrAt 2 cfg0.N : FVec Ideal S1024x7680 .f32) = Product.tn (aA m c) (wA m c) := by
  refine (dats m 0 c).arrAt_eq_of_covers 2 _ (by decide +kernel) fun t hf y => ?_
  have hr : t.val % 2 = 2 - 1 := (flush0_2 t).mp hf
  blk_simp [idx t]
  rw [after0_2, Pipeline.eq_sum_fin_of_reset_step_apply_of_flush (fun n h => outsAt0 m c n h) 2 (fun _ => 0) (term m c)
    (first m c) (next m c) t hr]
  refine (zero_add _).trans ((run m c t hr y).trans (congrArg (Product.tn (aA m c) (wA m c)) ?_))
  have := lt t
  blk_ext [idx t]

end

section
open Cert.WInDwRefIdeal Cert.WInDwRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 4096 7680 := m ((c : Thread nD τ).loc main_arg1)

/-- The reference's product. -/
theorem ref (a : FVec Ideal S4096x1024 .bf16) (w : FVec Ideal S4096x7680 .bf16) :
    (transpose S1024x7680 [1, 0] (Host.dotGeneral dot_S4096x7680_S4096x1024_S7680x1024_0_0_1_1_n_n none (extf .f32 w bitsLt_bf16_f32)
      (extf .f32 a bitsLt_bf16_f32)) transposes_S7680x1024_S1024x7680_1_0 : FVec Ideal S1024x7680 .f32) = Product.tn a w := by
  funext y
  unfold Product.tn
  clean_types
  idx_vars y
  pointwise
  exact Finset.sum_congr rfl fun _ _ => mul_comm _ _

end

/-- The reference runs, keeps its arguments, and holds no semaphore. -/
theorem frameR : Cert.quiescent_WInDwRefIdeal := fun m ρ _ =>
  (θ_run _ _ _).mono (fun r h => ⟨fun c => (h c).2, Idealize.ShloMosaic.sem_eq_zero_of_no_sems (by decide) r.2⟩)
    (Cert.WInDwRefIdeal.Value.run m ρ)

/-- The kernel and the reference both end with the product. -/
theorem equal : Cert.algebraic_WInDwIdeal_WInDwRefIdeal := fun m ρ m' ρ' _ hag =>
  ⟨fun c => Product.tn (aA m c) (wA m c),
    (θ_run _ _ _).mono (fun _ h c => ⟨(h c).1.trans (val m c), (h c).2⟩) (Cert.WInDwIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.tn ha hw)), (h c).2⟩) (Cert.WInDwRefIdeal.Value.run m' ρ')⟩

end Cert.Proof.WInDw

end
-- ==== Proof.Mlp1Dx.lean ====
module

public import proofs.«01_k».proof.Defs
public import proofs.«01_k».proof.Proof.Gen.Mlp1DxIdeal.Value
public import proofs.«01_k».proof.Proof.Gen.Mlp1DxRefIdeal.Run
public import proofs.«01_k».proof.Proof.ProductSpec
public import Idealize.ShloMosaic.Lib.Tactic.CleanTypes

/-!
The gradient of the first layer of the MLP with respect to its input.
-/

@[expose] public section

set_option maxRecDepth 16384

noncomputable section

open Idealize.ShloMosaic Idealize.ShloMosaic.TcCoe Idealize.SL.Sem
open Idealize.ShloMosaic.Pipeline (Dat)

namespace Cert.Proof.Mlp1Dx

section
open Cert.Mlp1DxIdeal Cert.Mlp1DxIdeal.Gen

variable (m : (ℓ : Loc nD τ sig) → Buf (Elt Ideal) ℓ)

abbrev aA (c : Dev nD) : Product.Arr 4096 4096 := m ((c : Thread nD τ).loc main_arg0)
abbrev wA (c : Dev nD) : Product.Arr 1024 4096 := m ((c : Thread nD τ).loc main_arg1)

theorem lt (t : Fin cfg0.N) : t.val < 8 := lt_of_lt_of_eq t.isLt (show cfg0.N = 8 from N_0)

/-- Which block each window stages at a point. -/
theorem idx : ∀ t : Fin cfg0.N, win0_0.index t = ![t.val / 2, t.val % 2] ∧ win0_1.index t = ![0, t.val % 2]
    ∧ win0_2.index t = ![t.val / 2, 0] := by
  decide +kernel

theorem blk0 (c : Dev nD) (t : Fin cfg0.N) (r : Fin 1024) (k : Fin 2048) :
    (iblk m c 0 t : FVec Ideal S1024x2048 .bf16) (ix2 r k)
      = aA m c (ix2 ⟨t.val / 2 * 1024 + r.val, by have := lt t; omega⟩ ⟨t.val % 2 * 2048 + k.val, by have := lt t; omega⟩) := by
  blk_point [iblk, V, idx t]
theorem blk1 (c : Dev nD) (t : Fin cfg0.N) (r : Fin 1024) (k : Fin 2048) :
    (iblk m c 1 t : FVec Ideal S1024x2048 .bf16) (ix2 r k)
      = wA m c (ix2 ⟨0 * 1024 + r.val, by have := lt t; omega⟩ ⟨t.val % 2 * 2048 + k.val, by have := lt t; omega⟩) := by
  blk_point [iblk, V, idx t]

/-- What a point adds to its block. -/
def term (c : Dev nD) (t : Fin cfg0.N) : Product.Arr 1024 1024 :=
  Product.nt (M := 1024) (K := 2048) (N := 1024) (iblk m c 0 t) (iblk m c 1 t)

theorem first (c : Dev nD) (t : Fin cfg0.N) (h : t.val % 2 = 0) (y : S1024x1024.Idx) :
    outsAt0 m c t.val t.isLt y = 0 + term m c t y := by
  rw [outsAt0_A m c t h (by omega)]
  frame_out
  unfold_payloads
  unfold term Product.nt
  idx_vars y
  pointwise

theorem next (c : Dev nD) (t : Fin cfg0.N) (h : ¬t.val % 2 = 0) (y : S1024x1024.Idx) :
    outsAt0 m c t.val t.isLt y = outsAt0 m c (t.val - 1) (Nat.lt_of_le_of_lt (Nat.sub_le _ _) t.isLt) y + term m c t y := by
  rw [outsAt0_B m c t h (by omega)]
  frame_out
  unfold_payloads
  unfold term Product.nt
  idx_vars y
  pointwise

/-- The terms of one block's run of points, together. -/
theorem run (c : Dev nD) (t : Fin cfg0.N) (hr : t.val % 2 = 2 - 1) (y : S1024x1024.Idx) :
    ∑ s : Fin 2, term m c ⟨2 * (t.val / 2) + s.val, Pipeline.run_point_lt_of_flush t hr s⟩ y
      = Product.nt (aA m c) (wA m c) (ix2 (⟨t.val / 2 * 1024 + (y 0).val, by have := lt t; have : (y 0).val < 1024 := (y 0).isLt; omega⟩ : Fin 4096)
          (⟨0 * 1024 + (y 1).val, by have := lt t; have : (y 1).val < 1024 := (y 1).isLt; omega⟩ : Fin 1024)) := by
  idx_vars y
  unfold term Product.nt
  refine Fin.sum_mul_add_congr (fun s k hl => congrArg₂ (· * ·) ((blk0 m c _ y0 k).trans (Product.read _ ?_ ?_))
    ((blk1 m c _ y1 k).trans (Product.read _ ?_ ?_))) rfl
  all_goals have := lt t
  all_goals (try dsimp only [ix2]) <;> omega

theorem val (c : Dev nD) : ((dats m 0 c).arrAt 2 cfg0.N : FVec Ideal S4096x1024 .f32) = Product.nt (aA m c) (wA m c) := by
  refine (dats m 0 c).arrAt_eq_of_covers 2 _ (by decide +kernel) fun t hf y => ?_
  have hr : t.val % 2 = 2 - 1 := (flush0_2 t).mp hf
  blk_simp [idx t]
  rw [after0_2, Pipeline.eq_sum_fin_of_reset_step_apply_of_flush (fun n h => outsAt0 m c n h) 2 (fun _ => 0) (term m c)
    (first m c) (next m c) t hr]
  refine (zero_add _).trans ((run m c t hr y).trans (congrArg (Product.nt (aA m c) (wA m c)) ?_))
  have := lt t
  blk_ext [idx t]

end

section
open Cert.Mlp1DxRefIdeal Cert.Mlp1DxRefIdeal.Gen

variable (m : (ℓ : Loc nD τ sig) → Buf (Elt Ideal) ℓ)

abbrev aR (c : Dev nD) : Product.Arr 4096 4096 := m ((c : Thread nD τ).loc main_arg0)
abbrev wR (c : Dev nD) : Product.Arr 1024 4096 := m ((c : Thread nD τ).loc main_arg1)

/-- The reference's product. -/
theorem ref (a : FVec Ideal S4096x4096 .bf16) (w : FVec Ideal S1024x4096 .bf16) :
    (Host.dotGeneral dot_S4096x4096_S1024x4096_S4096x1024_1_1_0_0_n_n none (extf .f32 a bitsLt_bf16_f32)
      (extf .f32 w bitsLt_bf16_f32) : FVec Ideal S4096x1024 .f32) = Product.nt a w := by
  funext y
  unfold Product.nt
  clean_types
  idx_vars y
  pointwise

end

/-- The reference runs, keeps its arguments, and holds no semaphore. -/
theorem frameR : Cert.quiescent_Mlp1DxRefIdeal := fun m ρ _ =>
  (θ_run _ _ _).mono (fun r h => ⟨fun c => (h c).2, Idealize.ShloMosaic.sem_eq_zero_of_no_sems (by decide) r.2⟩)
    (Cert.Mlp1DxRefIdeal.Value.run m ρ)

/-- The kernel and the reference both end with the product. -/
theorem equal : Cert.algebraic_Mlp1DxIdeal_Mlp1DxRefIdeal := fun m ρ m' ρ' _ hag =>
  ⟨fun c => Product.nt (aA m c) (wA m c),
    (θ_run _ _ _).mono (fun _ h c => ⟨(h c).1.trans (val m c), (h c).2⟩) (Cert.Mlp1DxIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nt ha hw)), (h c).2⟩) (Cert.Mlp1DxRefIdeal.Value.run m' ρ')⟩

end Cert.Proof.Mlp1Dx

end
-- ==== Proof.Mlp1Dw.lean ====
module

public import proofs.«01_k».proof.Defs
public import proofs.«01_k».proof.Proof.Gen.Mlp1DwIdeal.Value
public import proofs.«01_k».proof.Proof.Gen.Mlp1DwRefIdeal.Run
public import proofs.«01_k».proof.Proof.ProductSpec
public import Idealize.ShloMosaic.Lib.Tactic.CleanTypes

/-!
The gradient of the first layer of the MLP with respect to its weight.
-/

@[expose] public section

set_option maxRecDepth 16384

noncomputable section

open Idealize.ShloMosaic Idealize.ShloMosaic.TcCoe Idealize.SL.Sem
open Idealize.ShloMosaic.Pipeline (Dat)

namespace Cert.Proof.Mlp1Dw

section
open Cert.Mlp1DwIdeal Cert.Mlp1DwIdeal.Gen

variable (m : (ℓ : Loc nD τ sig) → Buf (Elt Ideal) ℓ)

abbrev aA (c : Dev nD) : Product.Arr 4096 1024 := m ((c : Thread nD τ).loc main_arg0)
abbrev wA (c : Dev nD) : Product.Arr 4096 4096 := m ((c : Thread nD τ).loc main_arg1)

theorem lt (t : Fin cfg0.N) : t.val < 8 := lt_of_lt_of_eq t.isLt (show cfg0.N = 8 from N_0)

/-- Which block each window stages at a point. -/
theorem idx : ∀ t : Fin cfg0.N, win0_0.index t = ![t.val % 2, 0] ∧ win0_1.index t = ![t.val % 2, t.val / 2]
    ∧ win0_2.index t = ![0, t.val / 2] := by
  decide +kernel

theorem blk0 (c : Dev nD) (t : Fin cfg0.N) (r : Fin 2048) (k : Fin 1024) :
    (iblk m c 0 t : FVec Ideal S2048x1024 .bf16) (ix2 r k)
      = aA m c (ix2 ⟨t.val % 2 * 2048 + r.val, by have := lt t; omega⟩ ⟨0 * 1024 + k.val, by have := lt t; omega⟩) := by
  blk_point [iblk, V, idx t]
theorem blk1 (c : Dev nD) (t : Fin cfg0.N) (r : Fin 2048) (k : Fin 1024) :
    (iblk m c 1 t : FVec Ideal S2048x1024 .bf16) (ix2 r k)
      = wA m c (ix2 ⟨t.val % 2 * 2048 + r.val, by have := lt t; omega⟩ ⟨t.val / 2 * 1024 + k.val, by have := lt t; omega⟩) := by
  blk_point [iblk, V, idx t]

/-- What a point adds to its block. -/
def term (c : Dev nD) (t : Fin cfg0.N) : Product.Arr 1024 1024 :=
  Product.tn (M := 1024) (K := 2048) (N := 1024) (iblk m c 0 t) (iblk m c 1 t)

theorem first (c : Dev nD) (t : Fin cfg0.N) (h : t.val % 2 = 0) (y : S1024x1024.Idx) :
    outsAt0 m c t.val t.isLt y = 0 + term m c t y := by
  rw [outsAt0_A m c t h (by omega)]
  frame_out
  unfold_payloads
  unfold term Product.tn
  idx_vars y
  pointwise

theorem next (c : Dev nD) (t : Fin cfg0.N) (h : ¬t.val % 2 = 0) (y : S1024x1024.Idx) :
    outsAt0 m c t.val t.isLt y = outsAt0 m c (t.val - 1) (Nat.lt_of_le_of_lt (Nat.sub_le _ _) t.isLt) y + term m c t y := by
  rw [outsAt0_B m c t h (by omega)]
  frame_out
  unfold_payloads
  unfold term Product.tn
  idx_vars y
  pointwise

/-- The terms of one block's run of points, together. -/
theorem run (c : Dev nD) (t : Fin cfg0.N) (hr : t.val % 2 = 2 - 1) (y : S1024x1024.Idx) :
    ∑ s : Fin 2, term m c ⟨2 * (t.val / 2) + s.val, Pipeline.run_point_lt_of_flush t hr s⟩ y
      = Product.tn (aA m c) (wA m c) (ix2 (⟨0 * 1024 + (y 0).val, by have := lt t; have : (y 0).val < 1024 := (y 0).isLt; omega⟩ : Fin 1024)
          (⟨t.val / 2 * 1024 + (y 1).val, by have := lt t; have : (y 1).val < 1024 := (y 1).isLt; omega⟩ : Fin 4096)) := by
  idx_vars y
  unfold term Product.tn
  refine Fin.sum_mul_add_congr (fun s k hl => congrArg₂ (· * ·) ((blk0 m c _ k y0).trans (Product.read _ ?_ ?_))
    ((blk1 m c _ k y1).trans (Product.read _ ?_ ?_))) rfl
  all_goals have := lt t
  all_goals (try dsimp only [ix2]) <;> omega

theorem val (c : Dev nD) : ((dats m 0 c).arrAt 2 cfg0.N : FVec Ideal S1024x4096 .f32) = Product.tn (aA m c) (wA m c) := by
  refine (dats m 0 c).arrAt_eq_of_covers 2 _ (by decide +kernel) fun t hf y => ?_
  have hr : t.val % 2 = 2 - 1 := (flush0_2 t).mp hf
  blk_simp [idx t]
  rw [after0_2, Pipeline.eq_sum_fin_of_reset_step_apply_of_flush (fun n h => outsAt0 m c n h) 2 (fun _ => 0) (term m c)
    (first m c) (next m c) t hr]
  refine (zero_add _).trans ((run m c t hr y).trans (congrArg (Product.tn (aA m c) (wA m c)) ?_))
  have := lt t
  blk_ext [idx t]

end

section
open Cert.Mlp1DwRefIdeal Cert.Mlp1DwRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 4096 4096 := m ((c : Thread nD τ).loc main_arg1)

/-- The reference's product. -/
theorem ref (a : FVec Ideal S4096x1024 .bf16) (w : FVec Ideal S4096x4096 .bf16) :
    (transpose S1024x4096 [1, 0] (Host.dotGeneral dot_S4096x4096_S4096x1024_S4096x1024_0_0_1_1_n_n none (extf .f32 w bitsLt_bf16_f32)
      (extf .f32 a bitsLt_bf16_f32)) transposes_S4096x1024_S1024x4096_1_0 : FVec Ideal S1024x4096 .f32) = Product.tn a w := by
  funext y
  unfold Product.tn
  clean_types
  idx_vars y
  pointwise
  exact Finset.sum_congr rfl fun _ _ => mul_comm _ _

end

/-- The reference runs, keeps its arguments, and holds no semaphore. -/
theorem frameR : Cert.quiescent_Mlp1DwRefIdeal := fun m ρ _ =>
  (θ_run _ _ _).mono (fun r h => ⟨fun c => (h c).2, Idealize.ShloMosaic.sem_eq_zero_of_no_sems (by decide) r.2⟩)
    (Cert.Mlp1DwRefIdeal.Value.run m ρ)

/-- The kernel and the reference both end with the product. -/
theorem equal : Cert.algebraic_Mlp1DwIdeal_Mlp1DwRefIdeal := fun m ρ m' ρ' _ hag =>
  ⟨fun c => Product.tn (aA m c) (wA m c),
    (θ_run _ _ _).mono (fun _ h c => ⟨(h c).1.trans (val m c), (h c).2⟩) (Cert.Mlp1DwIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.tn ha hw)), (h c).2⟩) (Cert.Mlp1DwRefIdeal.Value.run m' ρ')⟩

end Cert.Proof.Mlp1Dw

end
-- ==== Proof.Mlp2Dx.lean ====
module

public import proofs.«01_k».proof.Defs
public import proofs.«01_k».proof.Proof.Gen.Mlp2DxIdeal.Value
public import proofs.«01_k».proof.Proof.Gen.Mlp2DxRefIdeal.Run
public import proofs.«01_k».proof.Proof.ProductSpec
public import Idealize.ShloMosaic.Lib.Tactic.CleanTypes

/-!
The gradient of the second layer of the MLP with respect to the first layer's result: through the product, and through
the squared rectifier.
-/

@[expose] public section

set_option maxRecDepth 16384

noncomputable section

open Idealize.ShloMosaic Idealize.ShloMosaic.TcCoe Idealize.SL.Sem
open Idealize.ShloMosaic.Pipeline (Dat)

namespace Cert.Proof.Mlp2Dx

section
open Cert.Mlp2DxIdeal Cert.Mlp2DxIdeal.Gen

variable (m : (ℓ : Loc nD τ sig) → Buf (Elt Ideal) ℓ)

abbrev aA (c : Dev nD) : Product.Arr 4096 1024 := m ((c : Thread nD τ).loc main_arg0)
abbrev wA (c : Dev nD) : Product.Arr 4096 1024 := m ((c : Thread nD τ).loc main_arg1)

abbrev uA (c : Dev nD) : Product.Arr 4096 4096 := m ((c : Thread nD τ).loc main_arg2)

/-- The product with the slope of the squared rectifier; the constant is 2. -/
def slope {M N : ℕ} (d u : Product.Arr M N) : Product.Arr M N := fun y => d y * (Ideal.ofBits .f32 0x40000000#32 * max (u y) 0)

theorem lt (t : Fin cfg0.N) : t.val < 16 := lt_of_lt_of_eq t.isLt (show cfg0.N = 16 from N_0)

/-- Which block each window stages at a point. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] := by
  decide +kernel

theorem blk0 (c : Dev nD) (t : Fin cfg0.N) (r : Fin 1024) (k : Fin 1024) :
    (iblk m c 0 t : FVec Ideal S1024x1024 .bf16) (ix2 r k)
      = aA m c (ix2 ⟨t.val / 4 * 1024 + r.val, by have := lt t; omega⟩ ⟨0 * 1024 + k.val, by have := lt t; omega⟩) := by
  blk_point [iblk, V, idx t]
theorem blk1 (c : Dev nD) (t : Fin cfg0.N) (r : Fin 1024) (k : Fin 1024) :
    (iblk m c 1 t : FVec Ideal S1024x1024 .bf16) (ix2 r k)
      = wA m c (ix2 ⟨t.val % 4 * 1024 + r.val, by have := lt t; omega⟩ ⟨0 * 1024 + k.val, by have := lt t; omega⟩) := by
  blk_point [iblk, V, idx t]

theorem blk2 (c : Dev nD) (t : Fin cfg0.N) (r k : Fin 1024) :
    (iblk m c 2 t : FVec Ideal S1024x1024 .f32) (ix2 r k)
      = uA m c (ix2 ⟨t.val / 4 * 1024 + r.val, by have := lt t; omega⟩ ⟨t.val % 4 * 1024 + k.val, by have := lt t; omega⟩) := by
  blk_point [iblk, V, idx t]

/-- What a point adds to its block. -/
def term (c : Dev nD) (t : Fin cfg0.N) : Product.Arr 1024 1024 :=
  Product.nt (M := 1024) (K := 1024) (N := 1024) (iblk m c 0 t) (iblk m c 1 t)

theorem point (c : Dev nD) (t : Fin cfg0.N) (y : S1024x1024.Idx) : out0_3 (iblk m c 0 t) (iblk m c 1 t) (iblk m c 2 t) y
    = slope (M := 1024) (N := 1024) (term m c t) (iblk m c 2 t) y := by
  frame_out
  unfold_payloads
  unfold slope term Product.nt
  idx_vars y
  pointwise

/-- A point's block of the whole product. -/
theorem block (c : Dev nD) (t : Fin cfg0.N) (y : S1024x1024.Idx) :
    term m c t y
      = Product.nt (aA m c) (wA m c) (ix2 (⟨t.val / 4 * 1024 + (y 0).val, by have := lt t; have : (y 0).val < 1024 := (y 0).isLt; omega⟩ : Fin 4096)
          (⟨t.val % 4 * 1024 + (y 1).val, by have := lt t; have : (y 1).val < 1024 := (y 1).isLt; omega⟩ : Fin 4096)) := by
  idx_vars y
  unfold term Product.nt
  refine Finset.sum_congr rfl (fun k _ => congrArg₂ (· * ·) ((blk0 m c _ y0 k).trans (Product.read _ ?_ ?_))
    ((blk1 m c _ y1 k).trans (Product.read _ ?_ ?_)))
  all_goals have := lt t
  all_goals (try dsimp only [ix2]) <;> omega

theorem whole (c : Dev nD) (t : Fin cfg0.N) (y : S1024x1024.Idx) :
    slope (M := 1024) (N := 1024) (term m c t) (iblk m c 2 t) y
      = slope (Product.nt (aA m c) (wA m c)) (uA m c) (ix2 (⟨t.val / 4 * 1024 + (y 0).val, by have := lt t; have : (y 0).val < 1024 := (y 0).isLt; omega⟩ : Fin 4096)
          (⟨t.val % 4 * 1024 + (y 1).val, by have := lt t; have : (y 1).val < 1024 := (y 1).isLt; omega⟩ : Fin 4096)) := by
  refine congrArg₂ (· * ·) (block m c t y) (congrArg (Ideal.ofBits .f32 0x40000000#32 * max · 0) ?_)
  idx_vars y
  exact blk2 m c t y0 y1

theorem val (c : Dev nD) : ((dats m 0 c).arrAt 3 cfg0.N : FVec Ideal S4096x4096 .bf16) = slope (Product.nt (aA m c) (wA m c)) (uA m c) := by
  refine (dats m 0 c).arrAt_eq_of_covers 3 _ (by decide +kernel) fun t hf y => ?_
  blk_simp [idx t]
  rw [after0_3]
  refine (point m c t y).trans ((whole m c t y).trans (congrArg (slope (Product.nt (aA m c) (wA m c)) (uA m c)) ?_))
  have := lt t
  blk_ext [idx t]

end

section
open Cert.Mlp2DxRefIdeal Cert.Mlp2DxRefIdeal.Gen

variable (m : (ℓ : Loc nD τ sig) → Buf (Elt Ideal) ℓ)

abbrev aR (c : Dev nD) : Product.Arr 4096 1024 := m ((c : Thread nD τ).loc main_arg0)
abbrev uR (c : Dev nD) : Product.Arr 4096 4096 := m ((c : Thread nD τ).loc main_arg2)
abbrev wR (c : Dev nD) : Product.Arr 4096 1024 := m ((c : Thread nD τ).loc main_arg1)

/-- The reference's product. -/
theorem ref (u : FVec Ideal S4096x4096 .f32) (a : FVec Ideal S4096x1024 .bf16) (w : FVec Ideal S4096x1024 .bf16) :
    (truncf .bf16 (select (cmpf .ogt u (broadcastInDim S4096x4096 ![] bcast_S_S4096x4096 (constant S_ .f32 0x00000000#32)))
      (mulf (Host.dotGeneral dot_S4096x1024_S4096x1024_S4096x4096_1_1_0_0_n_n none (extf .f32 a bitsLt_bf16_f32)
        (extf .f32 w bitsLt_bf16_f32)) (mulf (broadcastInDim S4096x4096 ![] bcast_S_S4096x4096 (constant S_ .f32 0x40000000#32))
          (maximumf u (broadcastInDim S4096x4096 ![] bcast_S_S4096x4096 (constant S_ .f32 0x00000000#32)))))
      (broadcastInDim S4096x4096 ![] bcast_S_S4096x4096 (constant S_ .f32 0x00000000#32))) bitsLt_bf16_f32
      : FVec Ideal S4096x4096 .bf16) = slope (Product.nt a w) u := by
  funext y
  unfold slope Product.nt
  clean_types
  idx_vars y
  pointwise
  by_cases h : 0 < u (ix2 y0 y1)
  · exact if_pos h
  · refine (if_neg h).trans ?_
    rw [max_eq_right (not_lt.mp h), mul_zero, mul_zero]

end

/-- The reference runs, keeps its arguments, and holds no semaphore. -/
theorem frameR : Cert.quiescent_Mlp2DxRefIdeal := fun m ρ _ =>
  (θ_run _ _ _).mono (fun r h => ⟨fun c => (h c).2, Idealize.ShloMosaic.sem_eq_zero_of_no_sems (by decide) r.2⟩)
    (Cert.Mlp2DxRefIdeal.Value.run m ρ)

/-- The kernel and the reference both end with the product. -/
theorem equal : Cert.algebraic_Mlp2DxIdeal_Mlp2DxRefIdeal := fun m ρ m' ρ' _ hag =>
  ⟨fun c => slope (Product.nt (aA m c) (wA m c)) (uA m c),
    (θ_run _ _ _).mono (fun _ h c => ⟨(h c).1.trans (val m c), (h c).2⟩) (Cert.Mlp2DxIdeal.Value.run_blocks m ρ),
    (θ_run _ _ _).mono (fun _ h c => by
      have ha : aR m' c = aA m c := (hag c).1
      have hw : wR m' c = wA m c := (hag c).2.1
      have hu : uR m' c = uA m c := (hag c).2.2
      exact ⟨(h c).1.trans ((ref _ _ _).trans (congrArg₂ slope (congrArg₂ Product.nt ha hw) hu)), (h c).2⟩) (Cert.Mlp2DxRefIdeal.Value.run m' ρ')⟩

end Cert.Proof.Mlp2Dx

end
-- ==== Proof.Mlp2Dw.lean ====
module

public import proofs.«01_k».proof.Defs
public import proofs.«01_k».proof.Proof.Gen.Mlp2DwIdeal.Value
public import proofs.«01_k».proof.Proof.Gen.Mlp2DwRefIdeal.Run
public import proofs.«01_k».proof.Proof.ProductSpec
public import Idealize.ShloMosaic.Lib.Tactic.CleanTypes

/-!
The gradient of the second layer of the MLP with respect to its weight.
-/

@[expose] public section

set_option maxRecDepth 16384

noncomputable section

open Idealize.ShloMosaic Idealize.ShloMosaic.TcCoe Idealize.SL.Sem
open Idealize.ShloMosaic.Pipeline (Dat)

namespace Cert.Proof.Mlp2Dw

section
open Cert.Mlp2DwIdeal Cert.Mlp2DwIdeal.Gen

variable (m : (ℓ : Loc nD τ sig) → Buf (Elt Ideal) ℓ)

abbrev aA (c : Dev nD) : Product.Arr 4096 4096 := m ((c : Thread nD τ).loc main_arg0)
abbrev wA (c : Dev nD) : Product.Arr 4096 1024 := m ((c : Thread nD τ).loc main_arg1)

theorem lt (t : Fin cfg0.N) : t.val < 8 := lt_of_lt_of_eq t.isLt (show cfg0.N = 8 from N_0)

/-- Which block each window stages at a point. -/
theorem idx : ∀ t : Fin cfg0.N, win0_0.index t = ![t.val % 2, t.val / 2] ∧ win0_1.index t = ![t.val % 2, 0]
    ∧ win0_2.index t = ![t.val / 2, 0] := by
  decide +kernel

theorem blk0 (c : Dev nD) (t : Fin cfg0.N) (r : Fin 2048) (k : Fin 1024) :
    (iblk m c 0 t : FVec Ideal S2048x1024 .bf16) (ix2 r k)
      = aA m c (ix2 ⟨t.val % 2 * 2048 + r.val, by have := lt t; omega⟩ ⟨t.val / 2 * 1024 + k.val, by have := lt t; omega⟩) := by
  blk_point [iblk, V, idx t]
theorem blk1 (c : Dev nD) (t : Fin cfg0.N) (r : Fin 2048) (k : Fin 1024) :
    (iblk m c 1 t : FVec Ideal S2048x1024 .bf16) (ix2 r k)
      = wA m c (ix2 ⟨t.val % 2 * 2048 + r.val, by have := lt t; omega⟩ ⟨0 * 1024 + k.val, by have := lt t; omega⟩) := by
  blk_point [iblk, V, idx t]

/-- What a point adds to its block. -/
def term (c : Dev nD) (t : Fin cfg0.N) : Product.Arr 1024 1024 :=
  Product.tn (M := 1024) (K := 2048) (N := 1024) (iblk m c 0 t) (iblk m c 1 t)

theorem first (c : Dev nD) (t : Fin cfg0.N) (h : t.val % 2 = 0) (y : S1024x1024.Idx) :
    outsAt0 m c t.val t.isLt y = 0 + term m c t y := by
  rw [outsAt0_A m c t h (by omega)]
  frame_out
  unfold_payloads
  unfold term Product.tn
  idx_vars y
  pointwise

theorem next (c : Dev nD) (t : Fin cfg0.N) (h : ¬t.val % 2 = 0) (y : S1024x1024.Idx) :
    outsAt0 m c t.val t.isLt y = outsAt0 m c (t.val - 1) (Nat.lt_of_le_of_lt (Nat.sub_le _ _) t.isLt) y + term m c t y := by
  rw [outsAt0_B m c t h (by omega)]
  frame_out
  unfold_payloads
  unfold term Product.tn
  idx_vars y
  pointwise

/-- The terms of one block's run of points, together. -/
theorem run (c : Dev nD) (t : Fin cfg0.N) (hr : t.val % 2 = 2 - 1) (y : S1024x1024.Idx) :
    ∑ s : Fin 2, term m c ⟨2 * (t.val / 2) + s.val, Pipeline.run_point_lt_of_flush t hr s⟩ y
      = Product.tn (aA m c) (wA m c) (ix2 (⟨t.val / 2 * 1024 + (y 0).val, by have := lt t; have : (y 0).val < 1024 := (y 0).isLt; omega⟩ : Fin 4096)
          (⟨0 * 1024 + (y 1).val, by have := lt t; have : (y 1).val < 1024 := (y 1).isLt; omega⟩ : Fin 1024)) := by
  idx_vars y
  unfold term Product.tn
  refine Fin.sum_mul_add_congr (fun s k hl => congrArg₂ (· * ·) ((blk0 m c _ k y0).trans (Product.read _ ?_ ?_))
    ((blk1 m c _ k y1).trans (Product.read _ ?_ ?_))) rfl
  all_goals have := lt t
  all_goals (try dsimp only [ix2]) <;> omega

theorem val (c : Dev nD) : ((dats m 0 c).arrAt 2 cfg0.N : FVec Ideal S4096x1024 .f32) = Product.tn (aA m c) (wA m c) := by
  refine (dats m 0 c).arrAt_eq_of_covers 2 _ (by decide +kernel) fun t hf y => ?_
  have hr : t.val % 2 = 2 - 1 := (flush0_2 t).mp hf
  blk_simp [idx t]
  rw [after0_2, Pipeline.eq_sum_fin_of_reset_step_apply_of_flush (fun n h => outsAt0 m c n h) 2 (fun _ => 0) (term m c)
    (first m c) (next m c) t hr]
  refine (zero_add _).trans ((run m c t hr y).trans (congrArg (Product.tn (aA m c) (wA m c)) ?_))
  have := lt t
  blk_ext [idx t]

end

section
open Cert.Mlp2DwRefIdeal Cert.Mlp2DwRefIdeal.Gen

variable (m : (ℓ : Loc nD τ sig) → Buf (Elt Ideal) ℓ)

abbrev aR (c : Dev nD) : Product.Arr 4096 4096 := m ((c : Thread nD τ).loc main_arg0)
abbrev wR (c : Dev nD) : Product.Arr 4096 1024 := m ((c : Thread nD τ).loc main_arg1)

/-- The reference's product. -/
theorem ref (a : FVec Ideal S4096x4096 .bf16) (w : FVec Ideal S4096x1024 .bf16) :
    (transpose S4096x1024 [1, 0] (Host.dotGeneral dot_S4096x1024_S4096x4096_S1024x4096_0_0_1_1_n_n none (extf .f32 w bitsLt_bf16_f32)
      (extf .f32 a bitsLt_bf16_f32)) transposes_S1024x4096_S4096x1024_1_0 : FVec Ideal S4096x1024 .f32) = Product.tn a w := by
  funext y
  unfold Product.tn
  clean_types
  idx_vars y
  pointwise
  exact Finset.sum_congr rfl fun _ _ => mul_comm _ _

end

/-- The reference runs, keeps its arguments, and holds no semaphore. -/
theorem frameR : Cert.quiescent_Mlp2DwRefIdeal := fun m ρ _ =>
  (θ_run _ _ _).mono (fun r h => ⟨fun c => (h c).2, Idealize.ShloMosaic.sem_eq_zero_of_no_sems (by decide) r.2⟩)
    (Cert.Mlp2DwRefIdeal.Value.run m ρ)

/-- The kernel and the reference both end with the product. -/
theorem equal : Cert.algebraic_Mlp2DwIdeal_Mlp2DwRefIdeal := fun m ρ m' ρ' _ hag =>
  ⟨fun c => Product.tn (aA m c) (wA m c),
    (θ_run _ _ _).mono (fun _ h c => ⟨(h c).1.trans (val m c), (h c).2⟩) (Cert.Mlp2DwIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.tn ha hw)), (h c).2⟩) (Cert.Mlp2DwRefIdeal.Value.run m' ρ')⟩

end Cert.Proof.Mlp2Dw

end
-- ==== Proof.OutDx.lean ====
module

public import proofs.«01_k».proof.Defs
public import proofs.«01_k».proof.Proof.Gen.OutDxIdeal.Value
public import proofs.«01_k».proof.Proof.Gen.OutDxRefIdeal.Run
public import proofs.«01_k».proof.Proof.ProductSpec
public import Idealize.ShloMosaic.Lib.Tactic.CleanTypes

/-!
The gradient of the output projection with respect to its input.
-/

@[expose] public section

set_option maxRecDepth 16384

noncomputable section

open Idealize.ShloMosaic Idealize.ShloMosaic.TcCoe Idealize.SL.Sem
open Idealize.ShloMosaic.Pipeline (Dat)

namespace Cert.Proof.OutDx

section
open Cert.OutDxIdeal Cert.OutDxIdeal.Gen

variable (m : (ℓ : Loc nD τ sig) → Buf (Elt Ideal) ℓ)

abbrev aA (c : Dev nD) : Product.Arr 4096 1024 := m ((c : Thread nD τ).loc main_arg0)
abbrev wA (c : Dev nD) : Product.Arr 1024 1024 := m ((c : Thread nD τ).loc main_arg1)

theorem lt (t : Fin cfg0.N) : t.val < 4 := lt_of_lt_of_eq t.isLt (show cfg0.N = 4 from N_0)

/-- Which block each window stages at a point. -/
theorem idx : ∀ t : Fin cfg0.N, win0_0.index t = ![t.val, 0] ∧ win0_1.index t = ![0, 0]
    ∧ win0_2.index t = ![t.val, 0] := by
  decide +kernel

theorem blk0 (c : Dev nD) (t : Fin cfg0.N) (r : Fin 1024) (k : Fin 1024) :
    (iblk m c 0 t : FVec Ideal S1024x1024 .bf16) (ix2 r k)
      = aA m c (ix2 ⟨t.val * 1024 + r.val, by have := lt t; omega⟩ ⟨0 * 1024 + k.val, by have := lt t; omega⟩) := by
  blk_point [iblk, V, idx t]
theorem blk1 (c : Dev nD) (t : Fin cfg0.N) (r : Fin 1024) (k : Fin 1024) :
    (iblk m c 1 t : FVec Ideal S1024x1024 .bf16) (ix2 r k)
      = wA m c (ix2 ⟨0 * 1024 + r.val, by have := lt t; omega⟩ ⟨0 * 1024 + k.val, by have := lt t; omega⟩) := by
  blk_point [iblk, V, idx t]

/-- What a point adds to its block. -/
def term (c : Dev nD) (t : Fin cfg0.N) : Product.Arr 1024 1024 :=
  Product.nt (M := 1024) (K := 1024) (N := 1024) (iblk m c 0 t) (iblk m c 1 t)

theorem point (c : Dev nD) (t : Fin cfg0.N) (y : S1024x1024.Idx) : out0_2 (iblk m c 0 t) (iblk m c 1 t) y = term m c t y := by
  frame_out
  unfold_payloads
  unfold term Product.nt
  idx_vars y
  pointwise

/-- A point's block of the whole product. -/
theorem block (c : Dev nD) (t : Fin cfg0.N) (y : S1024x1024.Idx) :
    term m c t y
      = Product.nt (aA m c) (wA m c) (ix2 (⟨t.val * 1024 + (y 0).val, by have := lt t; have : (y 0).val < 1024 := (y 0).isLt; omega⟩ : Fin 4096)
          (⟨0 * 1024 + (y 1).val, by have := lt t; have : (y 1).val < 1024 := (y 1).isLt; omega⟩ : Fin 1024)) := by
  idx_vars y
  unfold term Product.nt
  refine Finset.sum_congr rfl (fun k _ => congrArg₂ (· * ·) ((blk0 m c _ y0 k).trans (Product.read _ ?_ ?_))
    ((blk1 m c _ y1 k).trans (Product.read _ ?_ ?_)))
  all_goals have := lt t
  all_goals (try dsimp only [ix2]) <;> omega

theorem val (c : Dev nD) : ((dats m 0 c).arrAt 2 cfg0.N : FVec Ideal S4096x1024 .f32) = Product.nt (aA m c) (wA m c) := by
  refine (dats m 0 c).arrAt_eq_of_covers 2 _ (by decide +kernel) fun t hf y => ?_
  blk_simp [idx t]
  rw [after0_2]
  refine (point m c t y).trans ((block m c t y).trans (congrArg (Product.nt (aA m c) (wA m c)) ?_))
  have := lt t
  blk_ext [idx t]

end

section
open Cert.OutDxRefIdeal Cert.OutDxRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 1024 1024 := m ((c : Thread nD τ).loc main_arg1)

/-- The reference's product. -/
theorem ref (a : FVec Ideal S4096x1024 .bf16) (w : FVec Ideal S1024x1024 .bf16) :
    (Host.dotGeneral dot_S4096x1024_S1024x1024_S4096x1024_1_1_0_0_n_n none (extf .f32 a bitsLt_bf16_f32)
      (extf .f32 w bitsLt_bf16_f32) : FVec Ideal S4096x1024 .f32) = Product.nt a w := by
  funext y
  unfold Product.nt
  clean_types
  idx_vars y
  pointwise

end

/-- The reference runs, keeps its arguments, and holds no semaphore. -/
theorem frameR : Cert.quiescent_OutDxRefIdeal := fun m ρ _ =>
  (θ_run _ _ _).mono (fun r h => ⟨fun c => (h c).2, Idealize.ShloMosaic.sem_eq_zero_of_no_sems (by decide) r.2⟩)
    (Cert.OutDxRefIdeal.Value.run m ρ)

/-- The kernel and the reference both end with the product. -/
theorem equal : Cert.algebraic_OutDxIdeal_OutDxRefIdeal := fun m ρ m' ρ' _ hag =>
  ⟨fun c => Product.nt (aA m c) (wA m c),
    (θ_run _ _ _).mono (fun _ h c => ⟨(h c).1.trans (val m c), (h c).2⟩) (Cert.OutDxIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nt ha hw)), (h c).2⟩) (Cert.OutDxRefIdeal.Value.run m' ρ')⟩

end Cert.Proof.OutDx

end
-- ==== Proof.OutDw.lean ====
module

public import proofs.«01_k».proof.Defs
public import proofs.«01_k».proof.Proof.Gen.OutDwIdeal.Value
public import proofs.«01_k».proof.Proof.Gen.OutDwRefIdeal.Run
public import proofs.«01_k».proof.Proof.ProductSpec
public import Idealize.ShloMosaic.Lib.Tactic.CleanTypes

/-!
The gradient of the output projection with respect to its weight.
-/

@[expose] public section

set_option maxRecDepth 16384

noncomputable section

open Idealize.ShloMosaic Idealize.ShloMosaic.TcCoe Idealize.SL.Sem
open Idealize.ShloMosaic.Pipeline (Dat)

namespace Cert.Proof.OutDw

section
open Cert.OutDwIdeal Cert.OutDwIdeal.Gen

variable (m : (ℓ : Loc nD τ sig) → Buf (Elt Ideal) ℓ)

abbrev aA (c : Dev nD) : Product.Arr 4096 1024 := m ((c : Thread nD τ).loc main_arg0)
abbrev wA (c : Dev nD) : Product.Arr 4096 1024 := m ((c : Thread nD τ).loc main_arg1)

theorem lt (t : Fin cfg0.N) : t.val < 2 := lt_of_lt_of_eq t.isLt (show cfg0.N = 2 from N_0)

/-- Which block each window stages at a point. -/
theorem idx : ∀ t : Fin cfg0.N, win0_0.index t = ![t.val, 0] ∧ win0_1.index t = ![t.val, 0]
    ∧ win0_2.index t = ![0, 0] := by
  decide +kernel

theorem blk0 (c : Dev nD) (t : Fin cfg0.N) (r : Fin 2048) (k : Fin 1024) :
    (iblk m c 0 t : FVec Ideal S2048x1024 .bf16) (ix2 r k)
      = aA m c (ix2 ⟨t.val * 2048 + r.val, by have := lt t; omega⟩ ⟨0 * 1024 + k.val, by have := lt t; omega⟩) := by
  blk_point [iblk, V, idx t]
theorem blk1 (c : Dev nD) (t : Fin cfg0.N) (r : Fin 2048) (k : Fin 1024) :
    (iblk m c 1 t : FVec Ideal S2048x1024 .bf16) (ix2 r k)
      = wA m c (ix2 ⟨t.val * 2048 + r.val, by have := lt t; omega⟩ ⟨0 * 1024 + k.val, by have := lt t; omega⟩) := by
  blk_point [iblk, V, idx t]

/-- What a point adds to its block. -/
def term (c : Dev nD) (t : Fin cfg0.N) : Product.Arr 1024 1024 :=
  Product.tn (M := 1024) (K := 2048) (N := 1024) (iblk m c 0 t) (iblk m c 1 t)

theorem first (c : Dev nD) (t : Fin cfg0.N) (h : t.val % 2 = 0) (y : S1024x1024.Idx) :
    outsAt0 m c t.val t.isLt y = 0 + term m c t y := by
  rw [outsAt0_A m c t h (by omega)]
  frame_out
  unfold_payloads
  unfold term Product.tn
  idx_vars y
  pointwise

theorem next (c : Dev nD) (t : Fin cfg0.N) (h : ¬t.val % 2 = 0) (y : S1024x1024.Idx) :
    outsAt0 m c t.val t.isLt y = outsAt0 m c (t.val - 1) (Nat.lt_of_le_of_lt (Nat.sub_le _ _) t.isLt) y + term m c t y := by
  rw [outsAt0_B m c t h (by omega)]
  frame_out
  unfold_payloads
  unfold term Product.tn
  idx_vars y
  pointwise

/-- The terms of one block's run of points, together. -/
theorem run (c : Dev nD) (t : Fin cfg0.N) (hr : t.val % 2 = 2 - 1) (y : S1024x1024.Idx) :
    ∑ s : Fin 2, term m c ⟨2 * (t.val / 2) + s.val, Pipeline.run_point_lt_of_flush t hr s⟩ y
      = Product.tn (aA m c) (wA m c) (ix2 (⟨0 * 1024 + (y 0).val, by have := lt t; have : (y 0).val < 1024 := (y 0).isLt; omega⟩ : Fin 1024)
          (⟨0 * 1024 + (y 1).val, by have := lt t; have : (y 1).val < 1024 := (y 1).isLt; omega⟩ : Fin 1024)) := by
  idx_vars y
  unfold term Product.tn
  refine Fin.sum_mul_add_congr (fun s k hl => congrArg₂ (· * ·) ((blk0 m c _ k y0).trans (Product.read _ ?_ ?_))
    ((blk1 m c _ k y1).trans (Product.read _ ?_ ?_))) rfl
  all_goals have := lt t
  all_goals (try dsimp only [ix2]) <;> omega

theorem val (c : Dev nD) : ((dats m 0 c).arrAt 2 cfg0.N : FVec Ideal S1024x1024 .f32) = Product.tn (aA m c) (wA m c) := by
  refine (dats m 0 c).arrAt_eq_of_covers 2 _ (by decide +kernel) fun t hf y => ?_
  have hr : t.val % 2 = 2 - 1 := (flush0_2 t).mp hf
  blk_simp [idx t]
  rw [after0_2, Pipeline.eq_sum_fin_of_reset_step_apply_of_flush (fun n h => outsAt0 m c n h) 2 (fun _ => 0) (term m c)
    (first m c) (next m c) t hr]
  refine (zero_add _).trans ((run m c t hr y).trans (congrArg (Product.tn (aA m c) (wA m c)) ?_))
  have := lt t
  blk_ext [idx t]

end

section
open Cert.OutDwRefIdeal Cert.OutDwRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 4096 1024 := m ((c : Thread nD τ).loc main_arg1)

/-- The reference's product. -/
theorem ref (a : FVec Ideal S4096x1024 .bf16) (w : FVec Ideal S4096x1024 .bf16) :
    (transpose S1024x1024 [1, 0] (Host.dotGeneral dot_S4096x1024_S4096x1024_S1024x1024_0_0_1_1_n_n none (extf .f32 w bitsLt_bf16_f32)
      (extf .f32 a bitsLt_bf16_f32)) transposes_S1024x1024_S1024x1024_1_0 : FVec Ideal S1024x1024 .f32) = Product.tn a w := by
  funext y
  unfold Product.tn
  clean_types
  idx_vars y
  pointwise
  exact Finset.sum_congr rfl fun _ _ => mul_comm _ _

end

/-- The reference runs, keeps its arguments, and holds no semaphore. -/
theorem frameR : Cert.quiescent_OutDwRefIdeal := fun m ρ _ =>
  (θ_run _ _ _).mono (fun r h => ⟨fun c => (h c).2, Idealize.ShloMosaic.sem_eq_zero_of_no_sems (by decide) r.2⟩)
    (Cert.OutDwRefIdeal.Value.run m ρ)

/-- The kernel and the reference both end with the product. -/
theorem equal : Cert.algebraic_OutDwIdeal_OutDwRefIdeal := fun m ρ m' ρ' _ hag =>
  ⟨fun c => Product.tn (aA m c) (wA m c),
    (θ_run _ _ _).mono (fun _ h c => ⟨(h c).1.trans (val m c), (h c).2⟩) (Cert.OutDwIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.tn ha hw)), (h c).2⟩) (Cert.OutDwRefIdeal.Value.run m' ρ')⟩

end Cert.Proof.OutDw

end
-- ==== Proof.ProjDw.lean ====
module

public import proofs.«01_k».proof.Defs
public import proofs.«01_k».proof.Proof.Gen.ProjDwIdeal.Value
public import proofs.«01_k».proof.Proof.Gen.ProjDwRefIdeal.Run
public import proofs.«01_k».proof.Proof.ProductSpec
public import Idealize.ShloMosaic.Lib.Tactic.CleanTypes

/-!
The gradient of a branch's projection with respect to its weight.
-/

@[expose] public section

set_option maxRecDepth 16384

noncomputable section

open Idealize.ShloMosaic Idealize.ShloMosaic.TcCoe Idealize.SL.Sem
open Idealize.ShloMosaic.Pipeline (Dat)

namespace Cert.Proof.ProjDw

section
open Cert.ProjDwIdeal Cert.ProjDwIdeal.Gen

variable (m : (ℓ : Loc nD τ sig) → Buf (Elt Ideal) ℓ)

abbrev aA (c : Dev nD) : Product.Arr 4096 512 := m ((c : Thread nD τ).loc main_arg0)
abbrev wA (c : Dev nD) : Product.Arr 4096 1024 := m ((c : Thread nD τ).loc main_arg1)

theorem lt (t : Fin cfg0.N) : t.val < 2 := lt_of_lt_of_eq t.isLt (show cfg0.N = 2 from N_0)

/-- Which block each window stages at a point. -/
theorem idx : ∀ t : Fin cfg0.N, win0_0.index t = ![t.val, 0] ∧ win0_1.index t = ![t.val, 0]
    ∧ win0_2.index t = ![0, 0] := by
  decide +kernel

theorem blk0 (c : Dev nD) (t : Fin cfg0.N) (r : Fin 2048) (k : Fin 512) :
    (iblk m c 0 t : FVec Ideal S2048x512 .bf16) (ix2 r k)
      = aA m c (ix2 ⟨t.val * 2048 + r.val, by have := lt t; omega⟩ ⟨0 * 512 + k.val, by have := lt t; omega⟩) := by
  blk_point [iblk, V, idx t]
theorem blk1 (c : Dev nD) (t : Fin cfg0.N) (r : Fin 2048) (k : Fin 1024) :
    (iblk m c 1 t : FVec Ideal S2048x1024 .bf16) (ix2 r k)
      = wA m c (ix2 ⟨t.val * 2048 + r.val, by have := lt t; omega⟩ ⟨0 * 1024 + k.val, by have := lt t; omega⟩) := by
  blk_point [iblk, V, idx t]

/-- What a point adds to its block. -/
def term (c : Dev nD) (t : Fin cfg0.N) : Product.Arr 512 1024 :=
  Product.tn (M := 512) (K := 2048) (N := 1024) (iblk m c 0 t) (iblk m c 1 t)

theorem first (c : Dev nD) (t : Fin cfg0.N) (h : t.val % 2 = 0) (y : S512x1024.Idx) :
    outsAt0 m c t.val t.isLt y = 0 + term m c t y := by
  rw [outsAt0_A m c t h (by omega)]
  frame_out
  unfold_payloads
  unfold term Product.tn
  idx_vars y
  pointwise

theorem next (c : Dev nD) (t : Fin cfg0.N) (h : ¬t.val % 2 = 0) (y : S512x1024.Idx) :
    outsAt0 m c t.val t.isLt y = outsAt0 m c (t.val - 1) (Nat.lt_of_le_of_lt (Nat.sub_le _ _) t.isLt) y + term m c t y := by
  rw [outsAt0_B m c t h (by omega)]
  frame_out
  unfold_payloads
  unfold term Product.tn
  idx_vars y
  pointwise

/-- The terms of one block's run of points, together. -/
theorem run (c : Dev nD) (t : Fin cfg0.N) (hr : t.val % 2 = 2 - 1) (y : S512x1024.Idx) :
    ∑ s : Fin 2, term m c ⟨2 * (t.val / 2) + s.val, Pipeline.run_point_lt_of_flush t hr s⟩ y
      = Product.tn (aA m c) (wA m c) (ix2 (⟨0 * 512 + (y 0).val, by have := lt t; have : (y 0).val < 512 := (y 0).isLt; omega⟩ : Fin 512)
          (⟨0 * 1024 + (y 1).val, by have := lt t; have : (y 1).val < 1024 := (y 1).isLt; omega⟩ : Fin 1024)) := by
  idx_vars y
  unfold term Product.tn
  refine Fin.sum_mul_add_congr (fun s k hl => congrArg₂ (· * ·) ((blk0 m c _ k y0).trans (Product.read _ ?_ ?_))
    ((blk1 m c _ k y1).trans (Product.read _ ?_ ?_))) rfl
  all_goals have := lt t
  all_goals (try dsimp only [ix2]) <;> omega

theorem val (c : Dev nD) : ((dats m 0 c).arrAt 2 cfg0.N : FVec Ideal S512x1024 .f32) = Product.tn (aA m c) (wA m c) := by
  refine (dats m 0 c).arrAt_eq_of_covers 2 _ (by decide +kernel) fun t hf y => ?_
  have hr : t.val % 2 = 2 - 1 := (flush0_2 t).mp hf
  blk_simp [idx t]
  rw [after0_2, Pipeline.eq_sum_fin_of_reset_step_apply_of_flush (fun n h => outsAt0 m c n h) 2 (fun _ => 0) (term m c)
    (first m c) (next m c) t hr]
  refine (zero_add _).trans ((run m c t hr y).trans (congrArg (Product.tn (aA m c) (wA m c)) ?_))
  have := lt t
  blk_ext [idx t]

end

section
open Cert.ProjDwRefIdeal Cert.ProjDwRefIdeal.Gen

variable (m : (ℓ : Loc nD τ sig) → Buf (Elt Ideal) ℓ)

abbrev aR (c : Dev nD) : Product.Arr 4096 512 := m ((c : Thread nD τ).loc main_arg0)
abbrev wR (c : Dev nD) : Product.Arr 4096 1024 := m ((c : Thread nD τ).loc main_arg1)

/-- The reference's product. -/
theorem ref (a : FVec Ideal S4096x512 .bf16) (w : FVec Ideal S4096x1024 .bf16) :
    (transpose S512x1024 [1, 0] (Host.dotGeneral dot_S4096x1024_S4096x512_S1024x512_0_0_1_1_n_n none (extf .f32 w bitsLt_bf16_f32)
      (extf .f32 a bitsLt_bf16_f32)) transposes_S1024x512_S512x1024_1_0 : FVec Ideal S512x1024 .f32) = Product.tn a w := by
  funext y
  unfold Product.tn
  clean_types
  idx_vars y
  pointwise
  exact Finset.sum_congr rfl fun _ _ => mul_comm _ _

end

/-- The reference runs, keeps its arguments, and holds no semaphore. -/
theorem frameR : Cert.quiescent_ProjDwRefIdeal := fun m ρ _ =>
  (θ_run _ _ _).mono (fun r h => ⟨fun c => (h c).2, Idealize.ShloMosaic.sem_eq_zero_of_no_sems (by decide) r.2⟩)
    (Cert.ProjDwRefIdeal.Value.run m ρ)

/-- The kernel and the reference both end with the product. -/
theorem equal : Cert.algebraic_ProjDwIdeal_ProjDwRefIdeal := fun m ρ m' ρ' _ hag =>
  ⟨fun c => Product.tn (aA m c) (wA m c),
    (θ_run _ _ _).mono (fun _ h c => ⟨(h c).1.trans (val m c), (h c).2⟩) (Cert.ProjDwIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.tn ha hw)), (h c).2⟩) (Cert.ProjDwRefIdeal.Value.run m' ρ')⟩

end Cert.Proof.ProjDw

end
-- ==== Proof.ConvProjDx.lean ====
module

public import proofs.«01_k».proof.Defs
public import proofs.«01_k».proof.Proof.Gen.ConvProjDxIdeal.Value
public import proofs.«01_k».proof.Proof.Gen.ConvProjDxRefIdeal.Run
public import proofs.«01_k».proof.Proof.ProductSpec
public import Idealize.ShloMosaic.Lib.Tactic.CleanTypes

/-!
The gradient of the convolution branch's projection with respect to its input.
-/

@[expose] public section

set_option maxRecDepth 16384

noncomputable section

open Idealize.ShloMosaic Idealize.ShloMosaic.TcCoe Idealize.SL.Sem
open Idealize.ShloMosaic.Pipeline (Dat)

namespace Cert.Proof.ConvProjDx

section
open Cert.ConvProjDxIdeal Cert.ConvProjDxIdeal.Gen

variable (m : (ℓ : Loc nD τ sig) → Buf (Elt Ideal) ℓ)

abbrev aA (c : Dev nD) : Product.Arr 4096 1024 := m ((c : Thread nD τ).loc main_arg0)
abbrev wA (c : Dev nD) : Product.Arr 512 1024 := m ((c : Thread nD τ).loc main_arg1)

theorem lt (t : Fin cfg0.N) : t.val < 4 := lt_of_lt_of_eq t.isLt (show cfg0.N = 4 from N_0)

/-- Which block each window stages at a point. -/
theorem idx : ∀ t : Fin cfg0.N, win0_0.index t = ![t.val, 0] ∧ win0_1.index t = ![0, 0]
    ∧ win0_2.index t = ![t.val, 0] := by
  decide +kernel

theorem blk0 (c : Dev nD) (t : Fin cfg0.N) (r : Fin 1024) (k : Fin 1024) :
    (iblk m c 0 t : FVec Ideal S1024x1024 .bf16) (ix2 r k)
      = aA m c (ix2 ⟨t.val * 1024 + r.val, by have := lt t; omega⟩ ⟨0 * 1024 + k.val, by have := lt t; omega⟩) := by
  blk_point [iblk, V, idx t]
theorem blk1 (c : Dev nD) (t : Fin cfg0.N) (r : Fin 512) (k : Fin 1024) :
    (iblk m c 1 t : FVec Ideal S512x1024 .bf16) (ix2 r k)
      = wA m c (ix2 ⟨0 * 512 + r.val, by have := lt t; omega⟩ ⟨0 * 1024 + k.val, by have := lt t; omega⟩) := by
  blk_point [iblk, V, idx t]

/-- What a point adds to its block. -/
def term (c : Dev nD) (t : Fin cfg0.N) : Product.Arr 1024 512 :=
  Product.nt (M := 1024) (K := 1024) (N := 512) (iblk m c 0 t) (iblk m c 1 t)

theorem point (c : Dev nD) (t : Fin cfg0.N) (y : S1024x512.Idx) : out0_2 (iblk m c 0 t) (iblk m c 1 t) y = term m c t y := by
  frame_out
  unfold_payloads
  unfold term Product.nt
  idx_vars y
  pointwise

/-- A point's block of the whole product. -/
theorem block (c : Dev nD) (t : Fin cfg0.N) (y : S1024x512.Idx) :
    term m c t y
      = Product.nt (aA m c) (wA m c) (ix2 (⟨t.val * 1024 + (y 0).val, by have := lt t; have : (y 0).val < 1024 := (y 0).isLt; omega⟩ : Fin 4096)
          (⟨0 * 512 + (y 1).val, by have := lt t; have : (y 1).val < 512 := (y 1).isLt; omega⟩ : Fin 512)) := by
  idx_vars y
  unfold term Product.nt
  refine Finset.sum_congr rfl (fun k _ => congrArg₂ (· * ·) ((blk0 m c _ y0 k).trans (Product.read _ ?_ ?_))
    ((blk1 m c _ y1 k).trans (Product.read _ ?_ ?_)))
  all_goals have := lt t
  all_goals (try dsimp only [ix2]) <;> omega

theorem val (c : Dev nD) : ((dats m 0 c).arrAt 2 cfg0.N : FVec Ideal S4096x512 .f32) = Product.nt (aA m c) (wA m c) := by
  refine (dats m 0 c).arrAt_eq_of_covers 2 _ (by decide +kernel) fun t hf y => ?_
  blk_simp [idx t]
  rw [after0_2]
  refine (point m c t y).trans ((block m c t y).trans (congrArg (Product.nt (aA m c) (wA m c)) ?_))
  have := lt t
  blk_ext [idx t]

end

section
open Cert.ConvProjDxRefIdeal Cert.ConvProjDxRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 512 1024 := m ((c : Thread nD τ).loc main_arg1)

/-- The reference's product. -/
theorem ref (a : FVec Ideal S4096x1024 .bf16) (w : FVec Ideal S512x1024 .bf16) :
    (Host.dotGeneral dot_S4096x1024_S512x1024_S4096x512_1_1_0_0_n_n none (extf .f32 a bitsLt_bf16_f32)
      (extf .f32 w bitsLt_bf16_f32) : FVec Ideal S4096x512 .f32) = Product.nt a w := by
  funext y
  unfold Product.nt
  clean_types
  idx_vars y
  pointwise

end

/-- The reference runs, keeps its arguments, and holds no semaphore. -/
theorem frameR : Cert.quiescent_ConvProjDxRefIdeal := fun m ρ _ =>
  (θ_run _ _ _).mono (fun r h => ⟨fun c => (h c).2, Idealize.ShloMosaic.sem_eq_zero_of_no_sems (by decide) r.2⟩)
    (Cert.ConvProjDxRefIdeal.Value.run m ρ)

/-- The kernel and the reference both end with the product. -/
theorem equal : Cert.algebraic_ConvProjDxIdeal_ConvProjDxRefIdeal := fun m ρ m' ρ' _ hag =>
  ⟨fun c => Product.nt (aA m c) (wA m c),
    (θ_run _ _ _).mono (fun _ h c => ⟨(h c).1.trans (val m c), (h c).2⟩) (Cert.ConvProjDxIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nt ha hw)), (h c).2⟩) (Cert.ConvProjDxRefIdeal.Value.run m' ρ')⟩

end Cert.Proof.ConvProjDx

end
-- ==== Proof.ProjDx.lean ====
module

public import proofs.«01_k».proof.Defs
public import proofs.«01_k».proof.Proof.Gen.ProjDxIdeal.Value
public import proofs.«01_k».proof.Proof.Gen.ProjDxRefIdeal.Run
public import proofs.«01_k».proof.Proof.ProductSpec
public import Idealize.ShloMosaic.Lib.Tactic.CleanTypes

/-!
The gradient of a recurrent or attention branch's projection with respect to its input.
-/

@[expose] public section

set_option maxRecDepth 16384

noncomputable section

open Idealize.ShloMosaic Idealize.ShloMosaic.TcCoe Idealize.SL.Sem
open Idealize.ShloMosaic.Pipeline (Dat)

namespace Cert.Proof.ProjDx

section
open Cert.ProjDxIdeal Cert.ProjDxIdeal.Gen

variable (m : (ℓ : Loc nD τ sig) → Buf (Elt Ideal) ℓ)

abbrev aA (c : Dev nD) : Product.Arr 4096 1024 := m ((c : Thread nD τ).loc main_arg0)
abbrev wA (c : Dev nD) : Product.Arr 512 1024 := m ((c : Thread nD τ).loc main_arg1)

theorem lt (t : Fin cfg0.N) : t.val < 4 := lt_of_lt_of_eq t.isLt (show cfg0.N = 4 from N_0)

/-- Which block each window stages at a point. -/
theorem idx : ∀ t : Fin cfg0.N, win0_0.index t = ![t.val, 0] ∧ win0_1.index t = ![0, 0]
    ∧ win0_2.index t = ![t.val, 0] := by
  decide +kernel

theorem blk0 (c : Dev nD) (t : Fin cfg0.N) (r : Fin 1024) (k : Fin 1024) :
    (iblk m c 0 t : FVec Ideal S1024x1024 .bf16) (ix2 r k)
      = aA m c (ix2 ⟨t.val * 1024 + r.val, by have := lt t; omega⟩ ⟨0 * 1024 + k.val, by have := lt t; omega⟩) := by
  blk_point [iblk, V, idx t]
theorem blk1 (c : Dev nD) (t : Fin cfg0.N) (r : Fin 512) (k : Fin 1024) :
    (iblk m c 1 t : FVec Ideal S512x1024 .bf16) (ix2 r k)
      = wA m c (ix2 ⟨0 * 512 + r.val, by have := lt t; omega⟩ ⟨0 * 1024 + k.val, by have := lt t; omega⟩) := by
  blk_point [iblk, V, idx t]

/-- What a point adds to its block. -/
def term (c : Dev nD) (t : Fin cfg0.N) : Product.Arr 1024 512 :=
  Product.nt (M := 1024) (K := 1024) (N := 512) (iblk m c 0 t) (iblk m c 1 t)

theorem point (c : Dev nD) (t : Fin cfg0.N) (y : S1024x512.Idx) : out0_2 (iblk m c 0 t) (iblk m c 1 t) y = term m c t y := by
  frame_out
  unfold_payloads
  unfold term Product.nt
  idx_vars y
  pointwise

/-- A point's block of the whole product. -/
theorem block (c : Dev nD) (t : Fin cfg0.N) (y : S1024x512.Idx) :
    term m c t y
      = Product.nt (aA m c) (wA m c) (ix2 (⟨t.val * 1024 + (y 0).val, by have := lt t; have : (y 0).val < 1024 := (y 0).isLt; omega⟩ : Fin 4096)
          (⟨0 * 512 + (y 1).val, by have := lt t; have : (y 1).val < 512 := (y 1).isLt; omega⟩ : Fin 512)) := by
  idx_vars y
  unfold term Product.nt
  refine Finset.sum_congr rfl (fun k _ => congrArg₂ (· * ·) ((blk0 m c _ y0 k).trans (Product.read _ ?_ ?_))
    ((blk1 m c _ y1 k).trans (Product.read _ ?_ ?_)))
  all_goals have := lt t
  all_goals (try dsimp only [ix2]) <;> omega

theorem val (c : Dev nD) : ((dats m 0 c).arrAt 2 cfg0.N : FVec Ideal S4096x512 .bf16) = Product.nt (aA m c) (wA m c) := by
  refine (dats m 0 c).arrAt_eq_of_covers 2 _ (by decide +kernel) fun t hf y => ?_
  blk_simp [idx t]
  rw [after0_2]
  refine (point m c t y).trans ((block m c t y).trans (congrArg (Product.nt (aA m c) (wA m c)) ?_))
  have := lt t
  blk_ext [idx t]

end

section
open Cert.ProjDxRefIdeal Cert.ProjDxRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 512 1024 := m ((c : Thread nD τ).loc main_arg1)

/-- The reference's product. -/
theorem ref (a : FVec Ideal S4096x1024 .bf16) (w : FVec Ideal S512x1024 .bf16) :
    (truncf .bf16 (Host.dotGeneral dot_S4096x1024_S512x1024_S4096x512_1_1_0_0_n_n none (extf .f32 a bitsLt_bf16_f32)
      (extf .f32 w bitsLt_bf16_f32)) bitsLt_bf16_f32 : FVec Ideal S4096x512 .bf16) = Product.nt a w := by
  funext y
  unfold Product.nt
  clean_types
  idx_vars y
  pointwise

end

/-- The reference runs, keeps its arguments, and holds no semaphore. -/
theorem frameR : Cert.quiescent_ProjDxRefIdeal := fun m ρ _ =>
  (θ_run _ _ _).mono (fun r h => ⟨fun c => (h c).2, Idealize.ShloMosaic.sem_eq_zero_of_no_sems (by decide) r.2⟩)
    (Cert.ProjDxRefIdeal.Value.run m ρ)

/-- The kernel and the reference both end with the product. -/
theorem equal : Cert.algebraic_ProjDxIdeal_ProjDxRefIdeal := fun m ρ m' ρ' _ hag =>
  ⟨fun c => Product.nt (aA m c) (wA m c),
    (θ_run _ _ _).mono (fun _ h c => ⟨(h c).1.trans (val m c), (h c).2⟩) (Cert.ProjDxIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nt ha hw)), (h c).2⟩) (Cert.ProjDxRefIdeal.Value.run m' ρ')⟩

end Cert.Proof.ProjDx

end
-- ==== Proof.WIn.lean ====
module

public import proofs.«01_k».proof.Defs
public import proofs.«01_k».proof.Proof.Gen.WInIdeal.Value
public import proofs.«01_k».proof.Proof.Gen.WInRefIdeal.Run
public import proofs.«01_k».proof.Proof.ProductSpec
public import Idealize.ShloMosaic.Lib.Tactic.CleanTypes

/-!
The input projection.
-/

@[expose] public section

set_option maxRecDepth 16384

noncomputable section

open Idealize.ShloMosaic Idealize.ShloMosaic.TcCoe Idealize.SL.Sem
open Idealize.ShloMosaic.Pipeline (Dat)

namespace Cert.Proof.WIn

section
open Cert.WInIdeal Cert.WInIdeal.Gen

variable (m : (ℓ : Loc nD τ sig) → Buf (Elt Ideal) ℓ)

abbrev aA (c : Dev nD) : Product.Arr 4096 1024 := m ((c : Thread nD τ).loc main_arg0)
abbrev wA (c : Dev nD) : Product.Arr 1024 7680 := m ((c : Thread nD τ).loc main_arg1)

theorem lt (t : Fin cfg0.N) : t.val < 24 := lt_of_lt_of_eq t.isLt (show cfg0.N = 24 from N_0)

/-- Which block each window stages at a point. -/
theorem idx : ∀ t : Fin cfg0.N, win0_0.index t = ![t.val / 6, 0] ∧ win0_1.index t = ![0, t.val % 6]
    ∧ win0_2.index t = ![t.val / 6, t.val % 6] := by
  decide +kernel

theorem blk0 (c : Dev nD) (t : Fin cfg0.N) (r : Fin 1024) (k : Fin 1024) :
    (iblk m c 0 t : FVec Ideal S1024x1024 .bf16) (ix2 r k)
      = aA m c (ix2 ⟨t.val / 6 * 1024 + r.val, by have := lt t; omega⟩ ⟨0 * 1024 + k.val, by have := lt t; omega⟩) := by
  blk_point [iblk, V, idx t]
theorem blk1 (c : Dev nD) (t : Fin cfg0.N) (r : Fin 1024) (k : Fin 1280) :
    (iblk m c 1 t : FVec Ideal S1024x1280 .bf16) (ix2 r k)
      = wA m c (ix2 ⟨0 * 1024 + r.val, by have := lt t; omega⟩ ⟨t.val % 6 * 1280 + k.val, by have := lt t; omega⟩) := by
  blk_point [iblk, V, idx t]

/-- What a point adds to its block. -/
def term (c : Dev nD) (t : Fin cfg0.N) : Product.Arr 1024 1280 :=
  Product.nn (M := 1024) (K := 1024) (N := 1280) (iblk m c 0 t) (iblk m c 1 t)

theorem point (c : Dev nD) (t : Fin cfg0.N) (y : S1024x1280.Idx) : out0_2 (iblk m c 0 t) (iblk m c 1 t) y = term m c t y := by
  frame_out
  unfold_payloads
  unfold term Product.nn
  idx_vars y
  pointwise

/-- A point's block of the whole product. -/
theorem block (c : Dev nD) (t : Fin cfg0.N) (y : S1024x1280.Idx) :
    term m c t y
      = Product.nn (aA m c) (wA m c) (ix2 (⟨t.val / 6 * 1024 + (y 0).val, by have := lt t; have : (y 0).val < 1024 := (y 0).isLt; omega⟩ : Fin 4096)
          (⟨t.val % 6 * 1280 + (y 1).val, by have := lt t; have : (y 1).val < 1280 := (y 1).isLt; omega⟩ : Fin 7680)) := by
  idx_vars y
  unfold term Product.nn
  refine Finset.sum_congr rfl (fun k _ => congrArg₂ (· * ·) ((blk0 m c _ y0 k).trans (Product.read _ ?_ ?_))
    ((blk1 m c _ k y1).trans (Product.read _ ?_ ?_)))
  all_goals have := lt t
  all_goals (try dsimp only [ix2]) <;> omega

theorem val (c : Dev nD) : ((dats m 0 c).arrAt 2 cfg0.N : FVec Ideal S4096x7680 .f32) = Product.nn (aA m c) (wA m c) := by
  refine (dats m 0 c).arrAt_eq_of_covers 2 _ (by decide +kernel) fun t hf y => ?_
  blk_simp [idx t]
  rw [after0_2]
  refine (point m c t y).trans ((block m c t y).trans (congrArg (Product.nn (aA m c) (wA m c)) ?_))
  have := lt t
  blk_ext [idx t]

end

section
open Cert.WInRefIdeal Cert.WInRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 1024 7680 := m ((c : Thread nD τ).loc main_arg1)

/-- The reference's product. -/
theorem ref (a : FVec Ideal S4096x1024 .bf16) (w : FVec Ideal S1024x7680 .bf16) :
    (Host.dotGeneral dot_S4096x1024_S1024x7680_S4096x7680_1_0_0_1_n_n none (extf .f32 a bitsLt_bf16_f32)
      (extf .f32 w bitsLt_bf16_f32) : FVec Ideal S4096x7680 .f32) = Product.nn a w := by
  funext y
  unfold Product.nn
  clean_types
  idx_vars y
  pointwise

end

/-- The reference runs, keeps its arguments, and holds no semaphore. -/
theorem frameR : Cert.quiescent_WInRefIdeal := fun m ρ _ =>
  (θ_run _ _ _).mono (fun r h => ⟨fun c => (h c).2, Idealize.ShloMosaic.sem_eq_zero_of_no_sems (by decide) r.2⟩)
    (Cert.WInRefIdeal.Value.run m ρ)

/-- The kernel and the reference both end with the product. -/
theorem equal : Cert.algebraic_WInIdeal_WInRefIdeal := fun m ρ m' ρ' _ hag =>
  ⟨fun c => Product.nn (aA m c) (wA m c),
    (θ_run _ _ _).mono (fun _ h c => ⟨(h c).1.trans (val m c), (h c).2⟩) (Cert.WInIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nn ha hw)), (h c).2⟩) (Cert.WInRefIdeal.Value.run m' ρ')⟩

end Cert.Proof.WIn

end
-- ==== Proof.Proj.lean ====
module

public import proofs.«01_k».proof.Defs
public import proofs.«01_k».proof.Proof.Gen.ProjIdeal.Value
public import proofs.«01_k».proof.Proof.Gen.ProjRefIdeal.Run
public import proofs.«01_k».proof.Proof.ProductSpec
public import Idealize.ShloMosaic.Lib.Tactic.CleanTypes

/-!
A branch's projection.
-/

@[expose] public section

set_option maxRecDepth 16384

noncomputable section

open Idealize.ShloMosaic Idealize.ShloMosaic.TcCoe Idealize.SL.Sem
open Idealize.ShloMosaic.Pipeline (Dat)

namespace Cert.Proof.Proj

section
open Cert.ProjIdeal Cert.ProjIdeal.Gen

variable (m : (ℓ : Loc nD τ sig) → Buf (Elt Ideal) ℓ)

abbrev aA (c : Dev nD) : Product.Arr 4096 512 := m ((c : Thread nD τ).loc main_arg0)
abbrev wA (c : Dev nD) : Product.Arr 512 1024 := m ((c : Thread nD τ).loc main_arg1)

theorem lt (t : Fin cfg0.N) : t.val < 4 := lt_of_lt_of_eq t.isLt (show cfg0.N = 4 from N_0)

/-- Which block each window stages at a point. -/
theorem idx : ∀ t : Fin cfg0.N, win0_0.index t = ![t.val, 0] ∧ win0_1.index t = ![0, 0]
    ∧ win0_2.index t = ![t.val, 0] := by
  decide +kernel

theorem blk0 (c : Dev nD) (t : Fin cfg0.N) (r : Fin 1024) (k : Fin 512) :
    (iblk m c 0 t : FVec Ideal S1024x512 .bf16) (ix2 r k)
      = aA m c (ix2 ⟨t.val * 1024 + r.val, by have := lt t; omega⟩ ⟨0 * 512 + k.val, by have := lt t; omega⟩) := by
  blk_point [iblk, V, idx t]
theorem blk1 (c : Dev nD) (t : Fin cfg0.N) (r : Fin 512) (k : Fin 1024) :
    (iblk m c 1 t : FVec Ideal S512x1024 .bf16) (ix2 r k)
      = wA m c (ix2 ⟨0 * 512 + r.val, by have := lt t; omega⟩ ⟨0 * 1024 + k.val, by have := lt t; omega⟩) := by
  blk_point [iblk, V, idx t]

/-- What a point adds to its block. -/
def term (c : Dev nD) (t : Fin cfg0.N) : Product.Arr 1024 1024 :=
  Product.nn (M := 1024) (K := 512) (N := 1024) (iblk m c 0 t) (iblk m c 1 t)

theorem point (c : Dev nD) (t : Fin cfg0.N) (y : S1024x1024.Idx) : out0_2 (iblk m c 0 t) (iblk m c 1 t) y = term m c t y := by
  frame_out
  unfold_payloads
  unfold term Product.nn
  idx_vars y
  pointwise

/-- A point's block of the whole product. -/
theorem block (c : Dev nD) (t : Fin cfg0.N) (y : S1024x1024.Idx) :
    term m c t y
      = Product.nn (aA m c) (wA m c) (ix2 (⟨t.val * 1024 + (y 0).val, by have := lt t; have : (y 0).val < 1024 := (y 0).isLt; omega⟩ : Fin 4096)
          (⟨0 * 1024 + (y 1).val, by have := lt t; have : (y 1).val < 1024 := (y 1).isLt; omega⟩ : Fin 1024)) := by
  idx_vars y
  unfold term Product.nn
  refine Finset.sum_congr rfl (fun k _ => congrArg₂ (· * ·) ((blk0 m c _ y0 k).trans (Product.read _ ?_ ?_))
    ((blk1 m c _ k y1).trans (Product.read _ ?_ ?_)))
  all_goals have := lt t
  all_goals (try dsimp only [ix2]) <;> omega

theorem val (c : Dev nD) : ((dats m 0 c).arrAt 2 cfg0.N : FVec Ideal S4096x1024 .f32) = Product.nn (aA m c) (wA m c) := by
  refine (dats m 0 c).arrAt_eq_of_covers 2 _ (by decide +kernel) fun t hf y => ?_
  blk_simp [idx t]
  rw [after0_2]
  refine (point m c t y).trans ((block m c t y).trans (congrArg (Product.nn (aA m c) (wA m c)) ?_))
  have := lt t
  blk_ext [idx t]

end

section
open Cert.ProjRefIdeal Cert.ProjRefIdeal.Gen

variable (m : (ℓ : Loc nD τ sig) → Buf (Elt Ideal) ℓ)

abbrev aR (c : Dev nD) : Product.Arr 4096 512 := m ((c : Thread nD τ).loc main_arg0)
abbrev wR (c : Dev nD) : Product.Arr 512 1024 := m ((c : Thread nD τ).loc main_arg1)

/-- The reference's product. -/
theorem ref (a : FVec Ideal S4096x512 .bf16) (w : FVec Ideal S512x1024 .bf16) :
    (Host.dotGeneral dot_S4096x512_S512x1024_S4096x1024_1_0_0_1_n_n none (extf .f32 a bitsLt_bf16_f32)
      (extf .f32 w bitsLt_bf16_f32) : FVec Ideal S4096x1024 .f32) = Product.nn a w := by
  funext y
  unfold Product.nn
  clean_types
  idx_vars y
  pointwise

end

/-- The reference runs, keeps its arguments, and holds no semaphore. -/
theorem frameR : Cert.quiescent_ProjRefIdeal := fun m ρ _ =>
  (θ_run _ _ _).mono (fun r h => ⟨fun c => (h c).2, Idealize.ShloMosaic.sem_eq_zero_of_no_sems (by decide) r.2⟩)
    (Cert.ProjRefIdeal.Value.run m ρ)

/-- The kernel and the reference both end with the product. -/
theorem equal : Cert.algebraic_ProjIdeal_ProjRefIdeal := fun m ρ m' ρ' _ hag =>
  ⟨fun c => Product.nn (aA m c) (wA m c),
    (θ_run _ _ _).mono (fun _ h c => ⟨(h c).1.trans (val m c), (h c).2⟩) (Cert.ProjIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nn ha hw)), (h c).2⟩) (Cert.ProjRefIdeal.Value.run m' ρ')⟩

end Cert.Proof.Proj

end
-- ==== Proof.OutFwd.lean ====
module

public import proofs.«01_k».proof.Defs
public import proofs.«01_k».proof.Proof.Gen.OutFwdIdeal.Value
public import proofs.«01_k».proof.Proof.Gen.OutFwdRefIdeal.Run
public import proofs.«01_k».proof.Proof.ProductSpec
public import Idealize.ShloMosaic.Lib.Tactic.CleanTypes

/-!
The output projection, and the residual stream with its gated result added.
-/

@[expose] public section

set_option maxRecDepth 16384

noncomputable section

open Idealize.ShloMosaic Idealize.ShloMosaic.TcCoe Idealize.SL.Sem
open Idealize.ShloMosaic.Pipeline (Dat)

namespace Cert.Proof.OutFwd

section
open Cert.OutFwdIdeal Cert.OutFwdIdeal.Gen

variable (m : (ℓ : Loc nD τ sig) → Buf (Elt Ideal) ℓ)

abbrev aA (c : Dev nD) : Product.Arr 4096 1024 := m ((c : Thread nD τ).loc main_arg0)
abbrev wA (c : Dev nD) : Product.Arr 1024 1024 := m ((c : Thread nD τ).loc main_arg1)

abbrev xA (c : Dev nD) : Product.Arr 4096 1024 := m ((c : Thread nD τ).loc main_arg2)
abbrev gA (c : Dev nD) : Product.Arr 1 1024 := m ((c : Thread nD τ).loc main_arg3)

/-- The residual stream with the gated product added. -/
def gated {M N : ℕ} (x d : Product.Arr M N) (g : Product.Arr 1 N) : Product.Arr M N := fun y => x y + g (ix2 0 (y 1)) * d y

theorem lt (t : Fin cfg0.N) : t.val < 4 := lt_of_lt_of_eq t.isLt (show cfg0.N = 4 from N_0)

/-- Which block each window stages at a point. -/
theorem idx : ∀ t : Fin cfg0.N, win0_0.index t = ![t.val, 0] ∧ win0_1.index t = ![0, 0]
    ∧ win0_2.index t = ![t.val, 0] ∧ win0_3.index t = ![0, 0]
    ∧ win0_5.index t = ![t.val, 0] ∧ win0_4.index t = ![t.val, 0] := by
  decide +kernel

theorem blk0 (c : Dev nD) (t : Fin cfg0.N) (r : Fin 1024) (k : Fin 1024) :
    (iblk m c 0 t : FVec Ideal S1024x1024 .bf16) (ix2 r k)
      = aA m c (ix2 ⟨t.val * 1024 + r.val, by have := lt t; omega⟩ ⟨0 * 1024 + k.val, by have := lt t; omega⟩) := by
  blk_point [iblk, V, idx t]
theorem blk1 (c : Dev nD) (t : Fin cfg0.N) (r : Fin 1024) (k : Fin 1024) :
    (iblk m c 1 t : FVec Ideal S1024x1024 .bf16) (ix2 r k)
      = wA m c (ix2 ⟨0 * 1024 + r.val, by have := lt t; omega⟩ ⟨0 * 1024 + k.val, by have := lt t; omega⟩) := by
  blk_point [iblk, V, idx t]

theorem blk2 (c : Dev nD) (t : Fin cfg0.N) (r : Fin 1024) (k : Fin 1024) :
    (iblk m c 2 t : FVec Ideal S1024x1024 .f32) (ix2 r k)
      = xA m c (ix2 ⟨t.val * 1024 + r.val, by have := lt t; omega⟩ ⟨0 * 1024 + k.val, by have := lt t; omega⟩) := by
  blk_point [iblk, V, idx t]
theorem blk3 (c : Dev nD) (t : Fin cfg0.N) (k : Fin 1024) :
    (iblk m c 3 t : FVec Ideal S1x1024 .f32) (ix2 0 k)
      = gA m c (ix2 0 ⟨0 * 1024 + k.val, by have := lt t; omega⟩) := by
  blk_point [iblk, V, idx t]

/-- What a point adds to its block. -/
def term (c : Dev nD) (t : Fin cfg0.N) : Product.Arr 1024 1024 :=
  Product.nn (M := 1024) (K := 1024) (N := 1024) (iblk m c 0 t) (iblk m c 1 t)

theorem point (c : Dev nD) (t : Fin cfg0.N) (y : S1024x1024.Idx) : out0_4 (iblk m c 0 t) (iblk m c 1 t) (iblk m c 2 t) (iblk m c 3 t) y = term m c t y := by
  frame_out
  unfold_payloads
  unfold term Product.nn
  idx_vars y
  pointwise

/-- A point's block of the whole product. -/
theorem block (c : Dev nD) (t : Fin cfg0.N) (y : S1024x1024.Idx) :
    term m c t y
      = Product.nn (aA m c) (wA m c) (ix2 (⟨t.val * 1024 + (y 0).val, by have := lt t; have : (y 0).val < 1024 := (y 0).isLt; omega⟩ : Fin 4096)
          (⟨0 * 1024 + (y 1).val, by have := lt t; have : (y 1).val < 1024 := (y 1).isLt; omega⟩ : Fin 1024)) := by
  idx_vars y
  unfold term Product.nn
  refine Finset.sum_congr rfl (fun k _ => congrArg₂ (· * ·) ((blk0 m c _ y0 k).trans (Product.read _ ?_ ?_))
    ((blk1 m c _ k y1).trans (Product.read _ ?_ ?_)))
  all_goals have := lt t
  all_goals (try dsimp only [ix2]) <;> omega

theorem val (c : Dev nD) : ((dats m 0 c).arrAt 4 cfg0.N : FVec Ideal S4096x1024 .f32) = Product.nn (aA m c) (wA m c) := by
  refine (dats m 0 c).arrAt_eq_of_covers 4 _ (by decide +kernel) fun t hf y => ?_
  blk_simp [idx t]
  rw [after0_4]
  refine (point m c t y).trans ((block m c t y).trans (congrArg (Product.nn (aA m c) (wA m c)) ?_))
  have := lt t
  blk_ext [idx t]

theorem point5 (c : Dev nD) (t : Fin cfg0.N) (y : S1024x1024.Idx) :
    out0_5 (iblk m c 0 t) (iblk m c 1 t) (iblk m c 2 t) (iblk m c 3 t) y
      = gated (M := 1024) (N := 1024) (iblk m c 2 t) (term m c t) (iblk m c 3 t) y := by
  frame_out
  unfold_payloads
  unfold gated term Product.nn
  idx_vars y
  pointwise

theorem whole (c : Dev nD) (t : Fin cfg0.N) (y : S1024x1024.Idx) :
    gated (M := 1024) (N := 1024) (iblk m c 2 t) (term m c t) (iblk m c 3 t) y
      = gated (xA m c) (Product.nn (aA m c) (wA m c)) (gA m c) (ix2 (⟨t.val * 1024 + (y 0).val, by have := lt t; have : (y 0).val < 1024 := (y 0).isLt; omega⟩ : Fin 4096)
          (⟨0 * 1024 + (y 1).val, by have := lt t; have : (y 1).val < 1024 := (y 1).isLt; omega⟩ : Fin 1024)) := by
  refine congrArg₂ (· + ·) ?_ (congrArg₂ (· * ·) ?_ (block m c t y))
  · idx_vars y
    exact blk2 m c t y0 y1
  · exact blk3 m c t (y 1)

theorem val5 (c : Dev nD) : ((dats m 0 c).arrAt 5 cfg0.N : FVec Ideal S4096x1024 .f32)
    = gated (xA m c) (Product.nn (aA m c) (wA m c)) (gA m c) := by
  refine (dats m 0 c).arrAt_eq_of_covers 5 _ (by decide +kernel) fun t hf y => ?_
  blk_simp [idx t]
  rw [after0_5]
  refine (point5 m c t y).trans ((whole m c t y).trans (congrArg (gated (xA m c) (Product.nn (aA m c) (wA m c)) (gA m c)) ?_))
  have := lt t
  blk_ext [idx t]

end

section
open Cert.OutFwdRefIdeal Cert.OutFwdRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 1024 1024 := m ((c : Thread nD τ).loc main_arg1)

/-- The reference's product. -/
theorem ref (a : FVec Ideal S4096x1024 .bf16) (w : FVec Ideal S1024x1024 .bf16) :
    (Host.dotGeneral dot_S4096x1024_S1024x1024_S4096x1024_1_0_0_1_n_n none (extf .f32 a bitsLt_bf16_f32)
      (extf .f32 w bitsLt_bf16_f32) : FVec Ideal S4096x1024 .f32) = Product.nn a w := by
  funext y
  unfold Product.nn
  clean_types
  idx_vars y
  pointwise

abbrev xR (c : Dev nD) : Product.Arr 4096 1024 := m ((c : Thread nD τ).loc main_arg2)
abbrev gR (c : Dev nD) : Product.Arr 1 1024 := m ((c : Thread nD τ).loc main_arg3)

/-- The reference's new residual stream. -/
theorem ref5 (a : FVec Ideal S4096x1024 .bf16) (w : FVec Ideal S1024x1024 .bf16) (x : FVec Ideal S4096x1024 .f32)
    (g : FVec Ideal S1x1024 .f32) :
    (addf x (mulf (broadcastInDim S4096x1024 ![0, 1] bcast_S1x1024_S4096x1024_0_1
      (broadcastInDim S1x1024 ![1] bcast_S1024_S1x1024_1 (shapeCast _ g shapeCasts_S1x1024_S1024)))
      (Host.dotGeneral dot_S4096x1024_S1024x1024_S4096x1024_1_0_0_1_n_n none (extf .f32 a bitsLt_bf16_f32)
        (extf .f32 w bitsLt_bf16_f32))) : FVec Ideal S4096x1024 .f32) = gated x (Product.nn a w) g := by
  funext y
  unfold gated Product.nn
  clean_types
  idx_vars y
  pointwise

end

/-- The reference runs, keeps its arguments, and holds no semaphore. -/
theorem frameR : Cert.quiescent_OutFwdRefIdeal := fun m ρ _ =>
  (θ_run _ _ _).mono (fun r h => ⟨fun c => (h c).2.2, Idealize.ShloMosaic.sem_eq_zero_of_no_sems (by decide) r.2⟩)
    (Cert.OutFwdRefIdeal.Value.run m ρ)

/-- The kernel and the reference both end with the product and the new residual stream. -/
theorem equal : Cert.algebraic_OutFwdIdeal_OutFwdRefIdeal := fun m ρ m' ρ' _ hag =>
  ⟨fun c => Product.nn (aA m c) (wA m c), fun c => gated (xA m c) (Product.nn (aA m c) (wA m c)) (gA m c),
    (θ_run _ _ _).mono (fun _ h c => ⟨(h c).1.trans (val m c), (h c).2.1.trans (val5 m c), (h c).2.2⟩) (Cert.OutFwdIdeal.Value.run_blocks m ρ),
    (θ_run _ _ _).mono (fun _ h c => by
      have ha : aR m' c = aA m c := (hag c).1
      have hw : wR m' c = wA m c := (hag c).2.1
      have hx : xR m' c = xA m c := (hag c).2.2.1
      have hg : gR m' c = gA m c := (hag c).2.2.2
      refine ⟨(h c).1.trans ((ref _ _).trans (congrArg₂ Product.nn ha hw)),
        (h c).2.1.trans ((ref5 _ _ _ _).trans ?_), (h c).2.2⟩
      exact congr (congrArg₂ gated hx (congrArg₂ Product.nn ha hw)) hg) (Cert.OutFwdRefIdeal.Value.run m' ρ')⟩

end Cert.Proof.OutFwd

end
-- ==== Proof.Mlp2Fwd.lean ====
module

public import proofs.«01_k».proof.Defs
public import proofs.«01_k».proof.Proof.Gen.Mlp2FwdIdeal.Value
public import proofs.«01_k».proof.Proof.Gen.Mlp2FwdRefIdeal.Run
public import proofs.«01_k».proof.Proof.ProductSpec
public import Idealize.ShloMosaic.Lib.Tactic.CleanTypes

/-!
The second layer of the MLP, and the residual stream with its gated result added.
-/

@[expose] public section

set_option maxRecDepth 16384

noncomputable section

open Idealize.ShloMosaic Idealize.ShloMosaic.TcCoe Idealize.SL.Sem
open Idealize.ShloMosaic.Pipeline (Dat)

namespace Cert.Proof.Mlp2Fwd

section
open Cert.Mlp2FwdIdeal Cert.Mlp2FwdIdeal.Gen

variable (m : (ℓ : Loc nD τ sig) → Buf (Elt Ideal) ℓ)

abbrev aA (c : Dev nD) : Product.Arr 4096 4096 := m ((c : Thread nD τ).loc main_arg0)
abbrev wA (c : Dev nD) : Product.Arr 4096 1024 := m ((c : Thread nD τ).loc main_arg1)

abbrev xA (c : Dev nD) : Product.Arr 4096 1024 := m ((c : Thread nD τ).loc main_arg2)
abbrev gA (c : Dev nD) : Product.Arr 1 1024 := m ((c : Thread nD τ).loc main_arg3)

/-- The residual stream with the gated product added. -/
def gated {M N : ℕ} (x d : Product.Arr M N) (g : Product.Arr 1 N) : Product.Arr M N := fun y => x y + g (ix2 0 (y 1)) * d y

theorem lt (t : Fin cfg0.N) : t.val < 8 := lt_of_lt_of_eq t.isLt (show cfg0.N = 8 from N_0)

/-- Which block each window stages at a point. -/
theorem idx : ∀ t : Fin cfg0.N, win0_0.index t = ![t.val / 2, 0] ∧ win0_1.index t = ![0, t.val % 2]
    ∧ win0_2.index t = ![t.val / 2, t.val % 2] ∧ win0_3.index t = ![0, t.val % 2]
    ∧ win0_5.index t = ![t.val / 2, t.val % 2] ∧ win0_4.index t = ![t.val / 2, t.val % 2] := by
  decide +kernel

theorem blk0 (c : Dev nD) (t : Fin cfg0.N) (r : Fin 1024) (k : Fin 4096) :
    (iblk m c 0 t : FVec Ideal S1024x4096 .bf16) (ix2 r k)
      = aA m c (ix2 ⟨t.val / 2 * 1024 + r.val, by have := lt t; omega⟩ ⟨0 * 4096 + k.val, by have := lt t; omega⟩) := by
  blk_point [iblk, V, idx t]
theorem blk1 (c : Dev nD) (t : Fin cfg0.N) (r : Fin 4096) (k : Fin 512) :
    (iblk m c 1 t : FVec Ideal S4096x512 .bf16) (ix2 r k)
      = wA m c (ix2 ⟨0 * 4096 + r.val, by have := lt t; omega⟩ ⟨t.val % 2 * 512 + k.val, by have := lt t; omega⟩) := by
  blk_point [iblk, V, idx t]

theorem blk2 (c : Dev nD) (t : Fin cfg0.N) (r : Fin 1024) (k : Fin 512) :
    (iblk m c 2 t : FVec Ideal S1024x512 .f32) (ix2 r k)
      = xA m c (ix2 ⟨t.val / 2 * 1024 + r.val, by have := lt t; omega⟩ ⟨t.val % 2 * 512 + k.val, by have := lt t; omega⟩) := by
  blk_point [iblk, V, idx t]
theorem blk3 (c : Dev nD) (t : Fin cfg0.N) (k : Fin 512) :
    (iblk m c 3 t : FVec Ideal S1x512 .f32) (ix2 0 k)
      = gA m c (ix2 0 ⟨t.val % 2 * 512 + k.val, by have := lt t; omega⟩) := by
  blk_point [iblk, V, idx t]

/-- What a point adds to its block. -/
def term (c : Dev nD) (t : Fin cfg0.N) : Product.Arr 1024 512 :=
  Product.nn (M := 1024) (K := 4096) (N := 512) (iblk m c 0 t) (iblk m c 1 t)

theorem point (c : Dev nD) (t : Fin cfg0.N) (y : S1024x512.Idx) : out0_4 (iblk m c 0 t) (iblk m c 1 t) (iblk m c 2 t) (iblk m c 3 t) y = term m c t y := by
  frame_out
  unfold_payloads
  unfold term Product.nn
  idx_vars y
  pointwise

/-- A point's block of the whole product. -/
theorem block (c : Dev nD) (t : Fin cfg0.N) (y : S1024x512.Idx) :
    term m c t y
      = Product.nn (aA m c) (wA m c) (ix2 (⟨t.val / 2 * 1024 + (y 0).val, by have := lt t; have : (y 0).val < 1024 := (y 0).isLt; omega⟩ : Fin 4096)
          (⟨t.val % 2 * 512 + (y 1).val, by have := lt t; have : (y 1).val < 512 := (y 1).isLt; omega⟩ : Fin 1024)) := by
  idx_vars y
  unfold term Product.nn
  refine Finset.sum_congr rfl (fun k _ => congrArg₂ (· * ·) ((blk0 m c _ y0 k).trans (Product.read _ ?_ ?_))
    ((blk1 m c _ k y1).trans (Product.read _ ?_ ?_)))
  all_goals have := lt t
  all_goals (try dsimp only [ix2]) <;> omega

theorem val (c : Dev nD) : ((dats m 0 c).arrAt 4 cfg0.N : FVec Ideal S4096x1024 .f32) = Product.nn (aA m c) (wA m c) := by
  refine (dats m 0 c).arrAt_eq_of_covers 4 _ (by decide +kernel) fun t hf y => ?_
  blk_simp [idx t]
  rw [after0_4]
  refine (point m c t y).trans ((block m c t y).trans (congrArg (Product.nn (aA m c) (wA m c)) ?_))
  have := lt t
  blk_ext [idx t]

theorem point5 (c : Dev nD) (t : Fin cfg0.N) (y : S1024x512.Idx) :
    out0_5 (iblk m c 0 t) (iblk m c 1 t) (iblk m c 2 t) (iblk m c 3 t) y
      = gated (M := 1024) (N := 512) (iblk m c 2 t) (term m c t) (iblk m c 3 t) y := by
  frame_out
  unfold_payloads
  unfold gated term Product.nn
  idx_vars y
  pointwise

theorem whole (c : Dev nD) (t : Fin cfg0.N) (y : S1024x512.Idx) :
    gated (M := 1024) (N := 512) (iblk m c 2 t) (term m c t) (iblk m c 3 t) y
      = gated (xA m c) (Product.nn (aA m c) (wA m c)) (gA m c) (ix2 (⟨t.val / 2 * 1024 + (y 0).val, by have := lt t; have : (y 0).val < 1024 := (y 0).isLt; omega⟩ : Fin 4096)
          (⟨t.val % 2 * 512 + (y 1).val, by have := lt t; have : (y 1).val < 512 := (y 1).isLt; omega⟩ : Fin 1024)) := by
  refine congrArg₂ (· + ·) ?_ (congrArg₂ (· * ·) ?_ (block m c t y))
  · idx_vars y
    exact blk2 m c t y0 y1
  · exact blk3 m c t (y 1)

theorem val5 (c : Dev nD) : ((dats m 0 c).arrAt 5 cfg0.N : FVec Ideal S4096x1024 .f32)
    = gated (xA m c) (Product.nn (aA m c) (wA m c)) (gA m c) := by
  refine (dats m 0 c).arrAt_eq_of_covers 5 _ (by decide +kernel) fun t hf y => ?_
  blk_simp [idx t]
  rw [after0_5]
  refine (point5 m c t y).trans ((whole m c t y).trans (congrArg (gated (xA m c) (Product.nn (aA m c) (wA m c)) (gA m c)) ?_))
  have := lt t
  blk_ext [idx t]

end

section
open Cert.Mlp2FwdRefIdeal Cert.Mlp2FwdRefIdeal.Gen

variable (m : (ℓ : Loc nD τ sig) → Buf (Elt Ideal) ℓ)

abbrev aR (c : Dev nD) : Product.Arr 4096 4096 := m ((c : Thread nD τ).loc main_arg0)
abbrev wR (c : Dev nD) : Product.Arr 4096 1024 := m ((c : Thread nD τ).loc main_arg1)

/-- The reference's product. -/
theorem ref (a : FVec Ideal S4096x4096 .bf16) (w : FVec Ideal S4096x1024 .bf16) :
    (Host.dotGeneral dot_S4096x4096_S4096x1024_S4096x1024_1_0_0_1_n_n none (extf .f32 a bitsLt_bf16_f32)
      (extf .f32 w bitsLt_bf16_f32) : FVec Ideal S4096x1024 .f32) = Product.nn a w := by
  funext y
  unfold Product.nn
  clean_types
  idx_vars y
  pointwise

abbrev xR (c : Dev nD) : Product.Arr 4096 1024 := m ((c : Thread nD τ).loc main_arg2)
abbrev gR (c : Dev nD) : Product.Arr 1 1024 := m ((c : Thread nD τ).loc main_arg3)

/-- The reference's new residual stream. -/
theorem ref5 (a : FVec Ideal S4096x4096 .bf16) (w : FVec Ideal S4096x1024 .bf16) (x : FVec Ideal S4096x1024 .f32)
    (g : FVec Ideal S1x1024 .f32) :
    (addf x (mulf (broadcastInDim S4096x1024 ![0, 1] bcast_S1x1024_S4096x1024_0_1
      (broadcastInDim S1x1024 ![1] bcast_S1024_S1x1024_1 (shapeCast _ g shapeCasts_S1x1024_S1024)))
      (Host.dotGeneral dot_S4096x4096_S4096x1024_S4096x1024_1_0_0_1_n_n none (extf .f32 a bitsLt_bf16_f32)
        (extf .f32 w bitsLt_bf16_f32))) : FVec Ideal S4096x1024 .f32) = gated x (Product.nn a w) g := by
  funext y
  unfold gated Product.nn
  clean_types
  idx_vars y
  pointwise

end

/-- The reference runs, keeps its arguments, and holds no semaphore. -/
theorem frameR : Cert.quiescent_Mlp2FwdRefIdeal := fun m ρ _ =>
  (θ_run _ _ _).mono (fun r h => ⟨fun c => (h c).2.2, Idealize.ShloMosaic.sem_eq_zero_of_no_sems (by decide) r.2⟩)
    (Cert.Mlp2FwdRefIdeal.Value.run m ρ)

/-- The kernel and the reference both end with the product and the new residual stream. -/
theorem equal : Cert.algebraic_Mlp2FwdIdeal_Mlp2FwdRefIdeal := fun m ρ m' ρ' _ hag =>
  ⟨fun c => Product.nn (aA m c) (wA m c), fun c => gated (xA m c) (Product.nn (aA m c) (wA m c)) (gA m c),
    (θ_run _ _ _).mono (fun _ h c => ⟨(h c).1.trans (val m c), (h c).2.1.trans (val5 m c), (h c).2.2⟩) (Cert.Mlp2FwdIdeal.Value.run_blocks m ρ),
    (θ_run _ _ _).mono (fun _ h c => by
      have ha : aR m' c = aA m c := (hag c).1
      have hw : wR m' c = wA m c := (hag c).2.1
      have hx : xR m' c = xA m c := (hag c).2.2.1
      have hg : gR m' c = gA m c := (hag c).2.2.2
      refine ⟨(h c).1.trans ((ref _ _).trans (congrArg₂ Product.nn ha hw)),
        (h c).2.1.trans ((ref5 _ _ _ _).trans ?_), (h c).2.2⟩
      exact congr (congrArg₂ gated hx (congrArg₂ Product.nn ha hw)) hg) (Cert.Mlp2FwdRefIdeal.Value.run m' ρ')⟩

end Cert.Proof.Mlp2Fwd

end
-- ==== Proof.Mlp1Fwd.lean ====
module

public import proofs.«01_k».proof.Defs
public import proofs.«01_k».proof.Proof.Gen.Mlp1FwdIdeal.Value
public import proofs.«01_k».proof.Proof.Gen.Mlp1FwdRefIdeal.Run
public import proofs.«01_k».proof.Proof.ProductSpec
public import Idealize.ShloMosaic.Lib.Tactic.CleanTypes

/-!
The first layer of the MLP, with the squared rectifier after it.
-/

@[expose] public section

set_option maxRecDepth 16384

noncomputable section

open Idealize.ShloMosaic Idealize.ShloMosaic.TcCoe Idealize.SL.Sem
open Idealize.ShloMosaic.Pipeline (Dat)

namespace Cert.Proof.Mlp1Fwd

section
open Cert.Mlp1FwdIdeal Cert.Mlp1FwdIdeal.Gen

variable (m : (ℓ : Loc nD τ sig) → Buf (Elt Ideal) ℓ)

abbrev aA (c : Dev nD) : Product.Arr 4096 1024 := m ((c : Thread nD τ).loc main_arg0)
abbrev wA (c : Dev nD) : Product.Arr 1024 4096 := m ((c : Thread nD τ).loc main_arg1)

/-- The squared rectifier. -/
def square {M N : ℕ} (d : Product.Arr M N) : Product.Arr M N := fun y => max (d y) 0 * max (d y) 0

theorem lt (t : Fin cfg0.N) : t.val < 16 := lt_of_lt_of_eq t.isLt (show cfg0.N = 16 from N_0)

/-- Which block each window stages at a point. -/
theorem idx : ∀ t : Fin cfg0.N, win0_0.index t = ![t.val / 4, 0] ∧ win0_1.index t = ![0, t.val % 4]
    ∧ win0_3.index t = ![t.val / 4, t.val % 4] ∧ win0_2.index t = ![t.val / 4, t.val % 4] := by
  decide +kernel

theorem blk0 (c : Dev nD) (t : Fin cfg0.N) (r : Fin 1024) (k : Fin 1024) :
    (iblk m c 0 t : FVec Ideal S1024x1024 .bf16) (ix2 r k)
      = aA m c (ix2 ⟨t.val / 4 * 1024 + r.val, by have := lt t; omega⟩ ⟨0 * 1024 + k.val, by have := lt t; omega⟩) := by
  blk_point [iblk, V, idx t]
theorem blk1 (c : Dev nD) (t : Fin cfg0.N) (r : Fin 1024) (k : Fin 1024) :
    (iblk m c 1 t : FVec Ideal S1024x1024 .bf16) (ix2 r k)
      = wA m c (ix2 ⟨0 * 1024 + r.val, by have := lt t; omega⟩ ⟨t.val % 4 * 1024 + k.val, by have := lt t; omega⟩) := by
  blk_point [iblk, V, idx t]

/-- What a point adds to its block. -/
def term (c : Dev nD) (t : Fin cfg0.N) : Product.Arr 1024 1024 :=
  Product.nn (M := 1024) (K := 1024) (N := 1024) (iblk m c 0 t) (iblk m c 1 t)

theorem point (c : Dev nD) (t : Fin cfg0.N) (y : S1024x1024.Idx) : out0_2 (iblk m c 0 t) (iblk m c 1 t) y = term m c t y := by
  frame_out
  unfold_payloads
  unfold term Product.nn
  idx_vars y
  pointwise

/-- A point's block of the whole product. -/
theorem block (c : Dev nD) (t : Fin cfg0.N) (y : S1024x1024.Idx) :
    term m c t y
      = Product.nn (aA m c) (wA m c) (ix2 (⟨t.val / 4 * 1024 + (y 0).val, by have := lt t; have : (y 0).val < 1024 := (y 0).isLt; omega⟩ : Fin 4096)
          (⟨t.val % 4 * 1024 + (y 1).val, by have := lt t; have : (y 1).val < 1024 := (y 1).isLt; omega⟩ : Fin 4096)) := by
  idx_vars y
  unfold term Product.nn
  refine Finset.sum_congr rfl (fun k _ => congrArg₂ (· * ·) ((blk0 m c _ y0 k).trans (Product.read _ ?_ ?_))
    ((blk1 m c _ k y1).trans (Product.read _ ?_ ?_)))
  all_goals have := lt t
  all_goals (try dsimp only [ix2]) <;> omega

theorem val (c : Dev nD) : ((dats m 0 c).arrAt 2 cfg0.N : FVec Ideal S4096x4096 .f32) = Product.nn (aA m c) (wA m c) := by
  refine (dats m 0 c).arrAt_eq_of_covers 2 _ (by decide +kernel) fun t hf y => ?_
  blk_simp [idx t]
  rw [after0_2]
  refine (point m c t y).trans ((block m c t y).trans (congrArg (Product.nn (aA m c) (wA m c)) ?_))
  have := lt t
  blk_ext [idx t]

theorem point3 (c : Dev nD) (t : Fin cfg0.N) (y : S1024x1024.Idx) :
    out0_3 (iblk m c 0 t) (iblk m c 1 t) y = square (M := 1024) (N := 1024) (term m c t) y := by
  frame_out
  unfold_payloads
  unfold square term Product.nn
  idx_vars y
  pointwise

theorem val3 (c : Dev nD) : ((dats m 0 c).arrAt 3 cfg0.N : FVec Ideal S4096x4096 .bf16) = square (Product.nn (aA m c) (wA m c)) := by
  refine (dats m 0 c).arrAt_eq_of_covers 3 _ (by decide +kernel) fun t hf y => ?_
  blk_simp [idx t]
  rw [after0_3]
  refine (point3 m c t y).trans ((congrArg (fun z : EReal => max z 0 * max z 0) (block m c t y)).trans
    (congrArg (square (Product.nn (aA m c) (wA m c))) ?_))
  have := lt t
  blk_ext [idx t]

end

section
open Cert.Mlp1FwdRefIdeal Cert.Mlp1FwdRefIdeal.Gen

variable (m : (ℓ : Loc nD τ sig) → Buf (Elt Ideal) ℓ)

abbrev aR (c : Dev nD) : Product.Arr 4096 1024 := m ((c : Thread nD τ).loc main_arg0)
abbrev wR (c : Dev nD) : Product.Arr 1024 4096 := m ((c : Thread nD τ).loc main_arg1)

/-- The reference's product. -/
theorem ref (a : FVec Ideal S4096x1024 .bf16) (w : FVec Ideal S1024x4096 .bf16) :
    (Host.dotGeneral dot_S4096x1024_S1024x4096_S4096x4096_1_0_0_1_n_n none (extf .f32 a bitsLt_bf16_f32)
      (extf .f32 w bitsLt_bf16_f32) : FVec Ideal S4096x4096 .f32) = Product.nn a w := by
  funext y
  unfold Product.nn
  clean_types
  idx_vars y
  pointwise

/-- The reference's activation. -/
theorem ref3 (a : FVec Ideal S4096x1024 .bf16) (w : FVec Ideal S1024x4096 .bf16) :
    (truncf .bf16 (mulf (maximumf (Host.dotGeneral dot_S4096x1024_S1024x4096_S4096x4096_1_0_0_1_n_n none (extf .f32 a bitsLt_bf16_f32)
      (extf .f32 w bitsLt_bf16_f32)) (broadcastInDim S4096x4096 ![] bcast_S_S4096x4096 (constant S_ .f32 0x00000000#32)))
      (maximumf (Host.dotGeneral dot_S4096x1024_S1024x4096_S4096x4096_1_0_0_1_n_n none (extf .f32 a bitsLt_bf16_f32)
      (extf .f32 w bitsLt_bf16_f32)) (broadcastInDim S4096x4096 ![] bcast_S_S4096x4096 (constant S_ .f32 0x00000000#32)))) bitsLt_bf16_f32
      : FVec Ideal S4096x4096 .bf16) = square (Product.nn a w) := by
  funext y
  unfold square Product.nn
  clean_types
  idx_vars y
  pointwise

end

/-- The reference runs, keeps its arguments, and holds no semaphore. -/
theorem frameR : Cert.quiescent_Mlp1FwdRefIdeal := fun m ρ _ =>
  (θ_run _ _ _).mono (fun r h => ⟨fun c => (h c).2.2, Idealize.ShloMosaic.sem_eq_zero_of_no_sems (by decide) r.2⟩)
    (Cert.Mlp1FwdRefIdeal.Value.run m ρ)

/-- The kernel and the reference both end with the product and its squared rectifier. -/
theorem equal : Cert.algebraic_Mlp1FwdIdeal_Mlp1FwdRefIdeal := fun m ρ m' ρ' _ hag =>
  ⟨fun c => Product.nn (aA m c) (wA m c), fun c => square (Product.nn (aA m c) (wA m c)),
    (θ_run _ _ _).mono (fun _ h c => ⟨(h c).1.trans (val m c), (h c).2.1.trans (val3 m c), (h c).2.2⟩) (Cert.Mlp1FwdIdeal.Value.run_blocks m ρ),
    (θ_run _ _ _).mono (fun _ h c => by
      have ha : aR m' c = aA m c := (hag c).1
      have hw : wR m' c = wA m c := (hag c).2
      exact ⟨(h c).1.trans ((ref _ _).trans (congrArg₂ Product.nn ha hw)),
        (h c).2.1.trans ((ref3 _ _).trans (congrArg square (congrArg₂ Product.nn ha hw))), (h c).2.2⟩) (Cert.Mlp1FwdRefIdeal.Value.run m' ρ')⟩

end Cert.Proof.Mlp1Fwd

end
-- ==== Proof.AdamSpec.lean ====
module

public import Idealize.ShloMosaic.Lib.Pipeline.ValueKit
public import Idealize.ShloMosaic.Lib.Pointwise.Tactic
public import Idealize.ShloMosaic.Lib.Tactic
public import Idealize.ShloMosaic.Adequacy

/-!
One step of the optimiser on one element, and an array of two layers with its first layer replaced.  No program is named
here: each layered optimiser call and its reference are shown to compute these.
-/

@[expose] public section

noncomputable section

open Idealize.ShloMosaic

namespace Cert.Adam

/-- The new running mean of the gradient: 0.9 of the old one and 0.1 of the gradient. -/
def mean (g m : Ideal .f32) : Ideal .f32 :=
  FloatOps.addf (FloatOps.mulf (Scalar.ofBits .f32 0x3F666666#32) m) (FloatOps.mulf (Scalar.ofBits .f32 0x3DCCCCCD#32) g)

/-- The new running mean of the gradient's square: 0.999 of the old one and 0.001 of the square. -/
def square (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The step: the corrected mean over the root of the corrected square, with the weight decay, times the negated rate. -/
def step (w g m v : Ideal .f32) : Ideal .f32 :=
  FloatOps.mulf (Scalar.ofBits .f32 0xBA83126F#32)
    (FloatOps.addf
      (FloatOps.divf (FloatOps.divf (mean g m) (Scalar.ofBits .f32 0x3F26BD02#32))
        (FloatOps.addf (FloatOps.sqrt (FloatOps.divf (square g v) (Scalar.ofBits .f32 0x3C231ACC#32)))
          (Scalar.ofBits .f32 0x322BCC77#32)))
      (FloatOps.mulf (Scalar.ofBits .f32 0x3C23D70A#32) w))

/-- An array of one layer, and one of two. -/
abbrev One (R C : ℕ) : Type := (⟨2, ![R, C]⟩ : Shape).Idx → Ideal .f32
abbrev Two (R C : ℕ) : Type := (⟨3, ![2, R, C]⟩ : Shape).Idx → Ideal .f32

/-- The first layer of an array of two. -/
def first {R C : ℕ} (x : Two R C) : One R C := fun y => x (ix3 0 (y 0) (y 1))

/-- The array with its first layer replaced. -/
def put {R C : ℕ} (f : One R C) (prev : Two R C) : Two R C := fun i => if (i 0).val = 0 then f (ix2 (i 1) (i 2)) else prev i

def means {R C : ℕ} (g m : One R C) : One R C := fun y => mean (g y) (m y)
def squares {R C : ℕ} (g v : One R C) : One R C := fun y => square (g y) (v y)
def steps {R C : ℕ} (w g m v : One R C) : One R C := fun y => step (w y) (g y) (m y) (v y)

end Cert.Adam
-- ==== Proof.ModFwd.lean ====
module

public import proofs.«01_k».proof.Defs
public import proofs.«01_k».proof.Proof.Gen.ModFwdIdeal.Value
public import proofs.«01_k».proof.Proof.Gen.ModFwdRefIdeal.Run
public import proofs.«01_k».proof.Proof.ProductSpec
public import proofs.«01_k».proof.Proof.AdamSpec
public import Idealize.ShloMosaic.Lib.Tactic.CleanTypes

/-!
The second layer's modulation: the conditioning times its weight.
-/

@[expose] public section

set_option maxRecDepth 16384

noncomputable section

open Idealize.ShloMosaic Idealize.ShloMosaic.TcCoe Idealize.SL.Sem
open Idealize.ShloMosaic.Pipeline (Dat)

namespace Cert.Proof.ModFwd

/-- The second layer of an array of two. -/
def second {R C : ℕ} (x : Adam.Two R C) : Product.Arr R C := fun y => x (ix3 1 (y 0) (y 1))

section
open Cert.ModFwdIdeal Cert.ModFwdIdeal.Gen

variable (m : (ℓ : Loc nD τ sig) → Buf (Elt Ideal) ℓ)

abbrev aA (c : Dev nD) : Product.Arr 8 1024 := m ((c : Thread nD τ).loc main_arg0)
abbrev wA (c : Dev nD) : Adam.Two 1024 1536 := m ((c : Thread nD τ).loc main_arg1)

abbrev b0 (c : Dev nD) (t : Fin cfg0.N) : Product.Arr 8 1024 := iblk m c 0 t
abbrev b1 (c : Dev nD) (t : Fin cfg0.N) : (⟨3, ![1, 1024, 768]⟩ : Shape).Idx → EReal := iblk m c 1 t

theorem lt (t : Fin cfg0.N) : t.val < 2 := lt_of_lt_of_eq t.isLt (show cfg0.N = 2 from N_0)

/-- Which block each window stages at a point. -/
theorem idx : ∀ t : Fin cfg0.N, win0_0.index t = ![0, 0] ∧ win0_1.index t = ![1, 0, t.val] ∧ win0_2.index t = ![0, t.val] := by
  decide +kernel

theorem blk0 (c : Dev nD) (t : Fin cfg0.N) (r : Fin 8) (k : Fin 1024) :
    (iblk m c 0 t : FVec Ideal S8x1024 .f32) (ix2 r k) = aA m c (ix2 ⟨0 * 8 + r.val, by omega⟩ ⟨0 * 1024 + k.val, by omega⟩) := by
  blk_point [iblk, V, idx t]
theorem blk1 (c : Dev nD) (t : Fin cfg0.N) (k : Fin 1024) (n : Fin 768) :
    (iblk m c 1 t : FVec Ideal S1x1024x768 .f32) (ix3 0 k n)
      = second (wA m c) (ix2 ⟨0 * 1024 + k.val, by omega⟩ ⟨t.val * 768 + n.val, by have := lt t; omega⟩) := by
  unfold second
  blk_point [iblk, V, idx t]

/-- What a point writes. -/
theorem point2 (c : Dev nD) (t : Fin cfg0.N) (r : Fin 8) (n : Fin 768) :
    (out0_2 (iblk m c 0 t) (iblk m c 1 t) : FVec Ideal S8x768 .f32) (ix2 r n)
      = ∑ k : Fin 1024, b0 m c t (ix2 r k) * b1 m c t (ix3 0 k n) := by
  frame_out
  unfold_payloads
  pointwise

theorem val2 (c : Dev nD) : ((dats m 0 c).arrAt 2 cfg0.N : Product.Arr 8 1536) = Product.nn (aA m c) (second (wA m c)) := by
  refine (dats m 0 c).arrAt_eq_of_covers 2 _ (by decide +kernel) fun t hf y => ?_
  blk_simp [idx t]
  rw [after0_2]
  have := lt t
  idx_vars y
  refine (point2 m c t y0 y1).trans ((Finset.sum_congr rfl fun k _ => congrArg₂ (fun x y : EReal => x * y)
    ((blk0 m c t y0 k).trans (Product.read _ (i' := y0) (j' := k) ?_ ?_)) ((blk1 m c t k y1).trans (Product.read _ (i' := k) (j' := (⟨t.val * 768 + y1.val, by omega⟩ : Fin 1536)) ?_ rfl))).trans ?_)
  · show 0 * 8 + y0.val = y0.val
    omega
  · show 0 * 1024 + k.val = k.val
    omega
  · show 0 * 1024 + k.val = k.val
    omega
  refine (show _ = Product.nn (aA m c) (second (wA m c)) (ix2 y0 (⟨t.val * 768 + y1.val, by omega⟩ : Fin 1536)) from rfl).trans
    (congrArg (Product.nn (aA m c) (second (wA m c))) ?_)
  blk_ext [idx t]

end

section
open Cert.ModFwdRefIdeal Cert.ModFwdRefIdeal.Gen

variable (m : (ℓ : Loc nD τ sig) → Buf (Elt Ideal) ℓ)

abbrev aR (c : Dev nD) : Product.Arr 8 1024 := m ((c : Thread nD τ).loc main_arg0)
abbrev wR (c : Dev nD) : Adam.Two 1024 1536 := m ((c : Thread nD τ).loc main_arg1)

/-- The reference's product. -/
theorem ref0 (a0 : FVec Ideal S8x1024 .f32) (a1 : FVec Ideal S2x1024x1536 .f32) :
    (Host.dotGeneral dot_S8x1024_S1024x1536_S8x1536_1_0_0_1_n_n none a0 (shapeCast _ (extractStridedSlice S1x1024x1536 ![1, 0, 0] a1 slices_S2x1024x1536_S1x1024x1536_1_0_0) shapeCasts_S1x1024x1536_S1024x1536 : FVec Ideal S1024x1536 .f32) : FVec Ideal S8x1536 .f32)
      = Product.nn a0 (second a1) := by
  funext y
  unfold Product.nn second
  clean_types
  idx_vars y
  pointwise

end

/-- The reference runs, keeps its arguments, and holds no semaphore. -/
theorem frameR : Cert.quiescent_ModFwdRefIdeal := fun m ρ _ =>
  (θ_run _ _ _).mono (fun r h => ⟨fun c => (h c).2, Idealize.ShloMosaic.sem_eq_zero_of_no_sems (by decide) r.2⟩)
    (Cert.ModFwdRefIdeal.Value.run m ρ)

/-- The kernel and the reference both end with the product. -/
theorem equal : Cert.algebraic_ModFwdIdeal_ModFwdRefIdeal := fun m ρ m' ρ' _ hag =>
  ⟨fun c => Product.nn (aA m c) (second (wA m c)),
    (θ_run _ _ _).mono (fun _ h c => ⟨(h c).1.trans (val2 m c), (h c).2⟩) (Cert.ModFwdIdeal.Value.run_blocks m ρ),
    (θ_run _ _ _).mono (fun _ h c => by
      have ha : aR m' c = aA m c := (hag c).1
      have hw : wR m' c = wA m c := (hag c).2
      exact ⟨(h c).1.trans ((ref0 (aR m' c) (wR m' c)).trans (congrArg₂ (fun a w => Product.nn a (second w)) ha hw)), (h c).2⟩) (Cert.ModFwdRefIdeal.Value.run m' ρ')⟩

end Cert.Proof.ModFwd

end
-- ==== Proof.ModDw.lean ====
module

public import proofs.«01_k».proof.Defs
public import proofs.«01_k».proof.Proof.Gen.ModDwIdeal.Value
public import proofs.«01_k».proof.Proof.Gen.ModDwRefIdeal.Run
public import proofs.«01_k».proof.Proof.ProductSpec
public import proofs.«01_k».proof.Proof.AdamSpec
public import Idealize.ShloMosaic.Lib.Tactic.CleanTypes

/-!
The gradient of the second layer's modulation with respect to its weight.
-/

@[expose] public section

set_option maxRecDepth 16384

noncomputable section

open Idealize.ShloMosaic Idealize.ShloMosaic.TcCoe Idealize.SL.Sem
open Idealize.ShloMosaic.Pipeline (Dat)

namespace Cert.Proof.ModDw

/-- The array with its second layer replaced. -/
def put {R C : ℕ} (f : Product.Arr R C) (prev : Adam.Two R C) : Adam.Two R C := fun i => if (i 0).val = 1 then f (ix2 (i 1) (i 2)) else prev i

section
open Cert.ModDwIdeal Cert.ModDwIdeal.Gen

variable (m : (ℓ : Loc nD τ sig) → Buf (Elt Ideal) ℓ)

abbrev aA (c : Dev nD) : Product.Arr 8 1024 := m ((c : Thread nD τ).loc main_arg0)
abbrev wA (c : Dev nD) : Product.Arr 8 1536 := m ((c : Thread nD τ).loc main_arg1)
abbrev pA (c : Dev nD) : Adam.Two 1024 1536 := m ((c : Thread nD τ).loc main_arg2)

abbrev b0 (c : Dev nD) (t : Fin cfg0.N) : Product.Arr 8 1024 := iblk m c 0 t
abbrev b1 (c : Dev nD) (t : Fin cfg0.N) : Product.Arr 8 768 := iblk m c 1 t

theorem lt (t : Fin cfg0.N) : t.val < 2 := lt_of_lt_of_eq t.isLt (show cfg0.N = 2 from N_0)

/-- Which block each window stages at a point. -/
theorem idx : ∀ t : Fin cfg0.N, win0_0.index t = ![0, 0] ∧ win0_1.index t = ![0, t.val] ∧ win0_2.index t = ![1, 0, t.val] := by
  decide +kernel

theorem blk0 (c : Dev nD) (t : Fin cfg0.N) (r : Fin 8) (k : Fin 1024) :
    (iblk m c 0 t : FVec Ideal S8x1024 .f32) (ix2 r k) = aA m c (ix2 ⟨0 * 8 + r.val, by omega⟩ ⟨0 * 1024 + k.val, by omega⟩) := by
  blk_point [iblk, V_main_arg0, idx t]
theorem blk1 (c : Dev nD) (t : Fin cfg0.N) (r : Fin 8) (n : Fin 768) :
    (iblk m c 1 t : FVec Ideal S8x768 .f32) (ix2 r n)
      = wA m c (ix2 ⟨0 * 8 + r.val, by omega⟩ ⟨t.val * 768 + n.val, by have := lt t; omega⟩) := by
  blk_point [iblk, V_main_arg1, idx t]

/-- What a point writes. -/
theorem point2 (c : Dev nD) (t : Fin cfg0.N) (k : Fin 1024) (n : Fin 768) :
    (outsAt0 m c t : FVec Ideal S1x1024x768 .f32) (ix3 0 k n)
      = ∑ r : Fin 8, b0 m c t (ix2 r k) * b1 m c t (ix2 r n) := by
  unfold outsAt0
  frame_out
  unfold_payloads
  pointwise

theorem entry (c : Dev nD) : V m c main_v0 = pA m c := by
  unfold V hostOps0
  after_results_simp
  rfl

theorem val2 (c : Dev nD) : ((dats m 0 c).arrAt 2 cfg0.N : Adam.Two 1024 1536) = put (Product.tn (aA m c) (wA m c)) (pA m c) := by
  refine (dats m 0 c).arrAt_eq_of_coversWhere_of_agree 2 _ (fun β => β (0 : Fin _) = 1) (by decide +kernel)
    (fun t hf y => ?_) (fun j hj => ?_)
  · blk_simp [idx t]
    rw [after0_2]
    have := lt t
    obtain ⟨q, k, n, rfl⟩ : ∃ (q : Fin 1) (k : Fin 1024) (n : Fin 768), y = ix3 q k n := ⟨y 0, y 1, y 2, by funext a; fin_cases a <;> rfl⟩
    obtain rfl : q = 0 := Fin.eq_zero q
    refine (point2 m c t k n).trans ((Finset.sum_congr rfl fun r _ => congrArg₂ (fun x y : EReal => x * y)
      ((blk0 m c t r k).trans (Product.read _ (i' := r) (j' := k) ?_ ?_)) ((blk1 m c t r n).trans (Product.read _ (i' := r) (j' := (⟨t.val * 768 + n.val, by omega⟩ : Fin 1536)) ?_ rfl))).trans ?_)
    · show 0 * 8 + r.val = r.val
      omega
    · show 0 * 1024 + k.val = k.val
      omega
    · show 0 * 8 + r.val = r.val
      omega
    refine (show _ = put (Product.tn (aA m c) (wA m c)) (pA m c) (ix3 1 k (⟨t.val * 768 + n.val, by omega⟩ : Fin 1536)) from rfl).trans
      (congrArg (put (Product.tn (aA m c) (wA m c)) (pA m c)) ?_)
    blk_ext [idx t]
  · blk_simp [Pipeline.Window.cell_apply] at hj
    refine (congrFun (entry m c) _).trans ?_
    have h0 : ¬(j 0).val = 1 := by rwa [Nat.div_one] at hj
    unfold put
    exact (if_neg h0).symm

end

section
open Cert.ModDwRefIdeal Cert.ModDwRefIdeal.Gen

variable (m : (ℓ : Loc nD τ sig) → Buf (Elt Ideal) ℓ)

abbrev aR (c : Dev nD) : Product.Arr 8 1024 := m ((c : Thread nD τ).loc main_arg0)
abbrev wR (c : Dev nD) : Product.Arr 8 1536 := m ((c : Thread nD τ).loc main_arg1)
abbrev pR (c : Dev nD) : Adam.Two 1024 1536 := m ((c : Thread nD τ).loc main_arg2)

/-- The reference's product. -/
theorem ref0 (a0 : FVec Ideal S8x1024 .f32) (a1 : FVec Ideal S8x1536 .f32) :
    (transpose S1024x1536 [1, 0] (Host.dotGeneral dot_S8x1536_S8x1024_S1536x1024_0_0_1_1_n_n none a1 a0) transposes_S1536x1024_S1024x1536_1_0 : FVec Ideal S1024x1536 .f32)
      = Product.tn a0 a1 := by
  funext y
  unfold Product.tn
  clean_types
  idx_vars y
  pointwise
  exact Finset.sum_congr rfl fun _ _ => mul_comm _ _

/-- The two layers the reference stacks. -/
theorem stacked (f : FVec Ideal S1024x1536 .f32) (p : FVec Ideal S2x1024x1536 .f32) :
    (concatenate S2x1024x1536 0 [⟨S1x1024x1536, (broadcastInDim S1x1024x1536 ![1, 2] bcast_S1024x1536_S1x1024x1536_1_2 (shapeCast _ (extractStridedSlice S1x1024x1536 ![0, 0, 0] p slices_S2x1024x1536_S1x1024x1536_0_0_0) shapeCasts_S1x1024x1536_S1024x1536 : FVec Ideal S1024x1536 .f32))⟩,
      ⟨S1x1024x1536, (broadcastInDim S1x1024x1536 ![1, 2] bcast_S1024x1536_S1x1024x1536_1_2 f)⟩] concatenates_S1x1024x1536_S1x1024x1536_S2x1024x1536_d0 : FVec Ideal S2x1024x1536 .f32) = put f p := by
  funext y
  unfold put
  clean_types
  obtain ⟨q, r, k, rfl⟩ : ∃ (q : Fin 2) (r : Fin 1024) (k : Fin 1536), y = ix3 q r k := ⟨y 0, y 1, y 2, by funext a; fin_cases a <;> rfl⟩
  obtain rfl | rfl : q = 0 ∨ q = 1 := by omega
  · pointwise
  · pointwise

end

/-- The reference runs, keeps its arguments, and holds no semaphore. -/
theorem frameR : Cert.quiescent_ModDwRefIdeal := fun m ρ _ =>
  (θ_run _ _ _).mono (fun r h => ⟨fun c => (h c).2, Idealize.ShloMosaic.sem_eq_zero_of_no_sems (by decide) r.2⟩)
    (Cert.ModDwRefIdeal.Value.run m ρ)

/-- The kernel and the reference both end with the gradient behind the first layer's. -/
theorem equal : Cert.algebraic_ModDwIdeal_ModDwRefIdeal := fun m ρ m' ρ' _ hag =>
  ⟨fun c => put (Product.tn (aA m c) (wA m c)) (pA m c),
    (θ_run _ _ _).mono (fun _ h c => ⟨(h c).1.trans (val2 m c), (h c).2⟩) (Cert.ModDwIdeal.Value.run_blocks m ρ),
    (θ_run _ _ _).mono (fun _ h c => by
      have ha : aR m' c = aA m c := (hag c).1
      have hw : wR m' c = wA m c := (hag c).2.1
      have hp : pR m' c = pA m c := (hag c).2.2
      refine ⟨(h c).1.trans ((stacked _ (pR m' c)).trans ((congrArg (put · (pR m' c)) (ref0 (aR m' c) (wR m' c))).trans ?_)), (h c).2⟩
      rw [ha, hw, hp]) (Cert.ModDwRefIdeal.Value.run m' ρ')⟩

end Cert.Proof.ModDw

end
-- ==== Proof.AdamIn.lean ====
module

public import proofs.«01_k».proof.Defs
public import proofs.«01_k».proof.Proof.Gen.AdamInIdeal.Value
public import proofs.«01_k».proof.Proof.Gen.AdamInRefIdeal.Run
public import proofs.«01_k».proof.Proof.ProductSpec
public import proofs.«01_k».proof.Proof.AdamSpec
public import Idealize.ShloMosaic.Lib.Tactic.CleanTypes

/-!
The optimiser step of the first layer of the input projection.
-/

@[expose] public section

set_option maxRecDepth 16384

noncomputable section

open Idealize.ShloMosaic Idealize.ShloMosaic.TcCoe Idealize.SL.Sem
open Idealize.ShloMosaic.Pipeline (Dat)

namespace Cert.Proof.AdamIn

section
open Cert.AdamInIdeal Cert.AdamInIdeal.Gen

variable (m : (ℓ : Loc nD τ sig) → Buf (Elt Ideal) ℓ)

abbrev wA (c : Dev nD) : Adam.Two 1024 1920 := m ((c : Thread nD τ).loc main_arg0)
abbrev gA (c : Dev nD) : Adam.One 1024 1920 := m ((c : Thread nD τ).loc main_arg1)
abbrev mA (c : Dev nD) : Adam.Two 1024 1920 := m ((c : Thread nD τ).loc main_arg2)
abbrev vA (c : Dev nD) : Adam.Two 1024 1920 := m ((c : Thread nD τ).loc main_arg3)
abbrev p4 (c : Dev nD) : Adam.Two 1024 1920 := m ((c : Thread nD τ).loc main_arg4)
abbrev p5 (c : Dev nD) : Adam.Two 1024 1920 := m ((c : Thread nD τ).loc main_arg5)
abbrev p6 (c : Dev nD) : Adam.Two 1024 1920 := m ((c : Thread nD τ).loc main_arg6)
abbrev p7 (c : Dev nD) : Adam.Two 1024 1920 := m ((c : Thread nD τ).loc main_arg7)

theorem lt (t : Fin cfg0.N) : t.val < 4 := lt_of_lt_of_eq t.isLt (show cfg0.N = 4 from N_0)

/-- Which block each window stages at a point. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := by
  decide +kernel

theorem blk0 (c : Dev nD) (t : Fin cfg0.N) (r : Fin 256) (k : Fin 1920) :
    (iblk m c 0 t : FVec Ideal S1x256x1920 .f32) (ix3 0 r k) = Adam.first (wA m c) (ix2 ⟨t.val * 256 + r.val, by have := lt t; omega⟩ k) := by
  unfold Adam.first
  blk_point [iblk, V_main_arg0, idx t]
theorem blk2 (c : Dev nD) (t : Fin cfg0.N) (r : Fin 256) (k : Fin 1920) :
    (iblk m c 2 t : FVec Ideal S1x256x1920 .f32) (ix3 0 r k) = Adam.first (mA m c) (ix2 ⟨t.val * 256 + r.val, by have := lt t; omega⟩ k) := by
  unfold Adam.first
  blk_point [iblk, V_main_arg2, idx t]
theorem blk3 (c : Dev nD) (t : Fin cfg0.N) (r : Fin 256) (k : Fin 1920) :
    (iblk m c 3 t : FVec Ideal S1x256x1920 .f32) (ix3 0 r k) = Adam.first (vA m c) (ix2 ⟨t.val * 256 + r.val, by have := lt t; omega⟩ k) := by
  unfold Adam.first
  blk_point [iblk, V_main_arg3, idx t]
theorem blk1 (c : Dev nD) (t : Fin cfg0.N) (r : Fin 256) (k : Fin 1920) :
    (iblk m c 1 t : FVec Ideal S256x1920 .f32) (ix2 r k) = gA m c (ix2 ⟨t.val * 256 + r.val, by have := lt t; omega⟩ k) := by
  blk_point [iblk, V_main_arg1, idx t]

/-- The gradient itself: a point's block. -/
theorem body4 (c : Dev nD) (t : Fin cfg0.N) (r : Fin 256) (k : Fin 1920) :
    ((outsAt0 m c t).1 : FVec Ideal S1x256x1920 .f32) (ix3 0 r k)
      = ((iblk m c 1 t : FVec Ideal S256x1920 .f32) (ix2 r k)) := by
  unfold outsAt0
  frame_out
  unfold_payloads
  pointwise

theorem entry4 (c : Dev nD) : V m c main_v0_0 = p4 m c := by
  unfold V hostOps0
  after_results_simp
  rfl

theorem val4 (c : Dev nD) : ((dats m 0 c).arrAt 4 cfg0.N : FVec Ideal S2x1024x1920 .f32)
    = Adam.put (gA m c) (p4 m c) := by
  refine (dats m 0 c).arrAt_eq_of_coversWhere_of_agree 4 _ (fun β => β (0 : Fin _) = 0) (by decide +kernel)
    (fun t hf y => ?_) (fun j hj => ?_)
  · blk_simp [idx t]
    rw [after0_4]
    obtain ⟨q, r, k, rfl⟩ : ∃ (q : Fin 1) (r : Fin 256) (k : Fin 1920), y = ix3 q r k := ⟨y 0, y 1, y 2, by funext a; fin_cases a <;> rfl⟩
    obtain rfl : q = 0 := Fin.eq_zero q
    refine (body4 m c t r k).trans ?_
    have e : Adam.put (gA m c) (p4 m c)
        (ix3 0 ⟨t.val * 256 + r.val, by have := lt t; omega⟩ k) = (gA m c) (ix2 ⟨t.val * 256 + r.val, by have := lt t; omega⟩ k) := rfl
    refine Eq.trans (Eq.trans ?_ e.symm) (congrArg (Adam.put (gA m c) (p4 m c)) ?_)
    · exact blk1 m c t r k
    · have := lt t
      blk_ext [idx t]
  · blk_simp [Pipeline.Window.cell_apply] at hj
    refine (congrFun (entry4 m c) _).trans ?_
    have h0 : ¬(j 0).val = 0 := by rwa [Nat.div_one] at hj
    unfold Adam.put
    exact (if_neg h0).symm

/-- The step: a point's block. -/
theorem body5 (c : Dev nD) (t : Fin cfg0.N) (r : Fin 256) (k : Fin 1920) :
    ((outsAt0 m c t).2.1 : FVec Ideal S1x256x1920 .f32) (ix3 0 r k)
      = Adam.step ((iblk m c 0 t : FVec Ideal S1x256x1920 .f32) (ix3 0 r k)) ((iblk m c 1 t : FVec Ideal S256x1920 .f32) (ix2 r k)) ((iblk m c 2 t : FVec Ideal S1x256x1920 .f32) (ix3 0 r k)) ((iblk m c 3 t : FVec Ideal S1x256x1920 .f32) (ix3 0 r k)) := by
  unfold outsAt0
  frame_out
  unfold_payloads
  unfold Adam.step Adam.mean Adam.square
  pointwise

theorem entry5 (c : Dev nD) : V m c main_v0_1 = p5 m c := by
  unfold V hostOps0
  after_results_simp
  rfl

theorem val5 (c : Dev nD) : ((dats m 0 c).arrAt 5 cfg0.N : FVec Ideal S2x1024x1920 .f32)
    = Adam.put (Adam.steps (Adam.first (wA m c)) (gA m c) (Adam.first (mA m c)) (Adam.first (vA m c))) (p5 m c) := by
  refine (dats m 0 c).arrAt_eq_of_coversWhere_of_agree 5 _ (fun β => β (0 : Fin _) = 0) (by decide +kernel)
    (fun t hf y => ?_) (fun j hj => ?_)
  · blk_simp [idx t]
    rw [after0_5]
    obtain ⟨q, r, k, rfl⟩ : ∃ (q : Fin 1) (r : Fin 256) (k : Fin 1920), y = ix3 q r k := ⟨y 0, y 1, y 2, by funext a; fin_cases a <;> rfl⟩
    obtain rfl : q = 0 := Fin.eq_zero q
    refine (body5 m c t r k).trans ?_
    have e : Adam.put (Adam.steps (Adam.first (wA m c)) (gA m c) (Adam.first (mA m c)) (Adam.first (vA m c))) (p5 m c)
        (ix3 0 ⟨t.val * 256 + r.val, by have := lt t; omega⟩ k) = (Adam.steps (Adam.first (wA m c)) (gA m c) (Adam.first (mA m c)) (Adam.first (vA m c))) (ix2 ⟨t.val * 256 + r.val, by have := lt t; omega⟩ k) := rfl
    refine Eq.trans (Eq.trans ?_ e.symm) (congrArg (Adam.put (Adam.steps (Adam.first (wA m c)) (gA m c) (Adam.first (mA m c)) (Adam.first (vA m c))) (p5 m c)) ?_)
    · exact congr (congr (congrArg₂ Adam.step (blk0 m c t r k) (blk1 m c t r k)) (blk2 m c t r k)) (blk3 m c t r k)
    · have := lt t
      blk_ext [idx t]
  · blk_simp [Pipeline.Window.cell_apply] at hj
    refine (congrFun (entry5 m c) _).trans ?_
    have h0 : ¬(j 0).val = 0 := by rwa [Nat.div_one] at hj
    unfold Adam.put
    exact (if_neg h0).symm

/-- The new mean: a point's block. -/
theorem body6 (c : Dev nD) (t : Fin cfg0.N) (r : Fin 256) (k : Fin 1920) :
    ((outsAt0 m c t).2.2.1 : FVec Ideal S1x256x1920 .f32) (ix3 0 r k)
      = Adam.mean ((iblk m c 1 t : FVec Ideal S256x1920 .f32) (ix2 r k)) ((iblk m c 2 t : FVec Ideal S1x256x1920 .f32) (ix3 0 r k)) := by
  unfold outsAt0
  frame_out
  unfold_payloads
  unfold Adam.mean
  pointwise

theorem entry6 (c : Dev nD) : V m c main_v0_2 = p6 m c := by
  unfold V hostOps0
  after_results_simp
  rfl

theorem val6 (c : Dev nD) : ((dats m 0 c).arrAt 6 cfg0.N : FVec Ideal S2x1024x1920 .f32)
    = Adam.put (Adam.means (gA m c) (Adam.first (mA m c))) (p6 m c) := by
  refine (dats m 0 c).arrAt_eq_of_coversWhere_of_agree 6 _ (fun β => β (0 : Fin _) = 0) (by decide +kernel)
    (fun t hf y => ?_) (fun j hj => ?_)
  · blk_simp [idx t]
    rw [after0_6]
    obtain ⟨q, r, k, rfl⟩ : ∃ (q : Fin 1) (r : Fin 256) (k : Fin 1920), y = ix3 q r k := ⟨y 0, y 1, y 2, by funext a; fin_cases a <;> rfl⟩
    obtain rfl : q = 0 := Fin.eq_zero q
    refine (body6 m c t r k).trans ?_
    have e : Adam.put (Adam.means (gA m c) (Adam.first (mA m c))) (p6 m c)
        (ix3 0 ⟨t.val * 256 + r.val, by have := lt t; omega⟩ k) = (Adam.means (gA m c) (Adam.first (mA m c))) (ix2 ⟨t.val * 256 + r.val, by have := lt t; omega⟩ k) := rfl
    refine Eq.trans (Eq.trans ?_ e.symm) (congrArg (Adam.put (Adam.means (gA m c) (Adam.first (mA m c))) (p6 m c)) ?_)
    · exact congrArg₂ Adam.mean (blk1 m c t r k) (blk2 m c t r k)
    · have := lt t
      blk_ext [idx t]
  · blk_simp [Pipeline.Window.cell_apply] at hj
    refine (congrFun (entry6 m c) _).trans ?_
    have h0 : ¬(j 0).val = 0 := by rwa [Nat.div_one] at hj
    unfold Adam.put
    exact (if_neg h0).symm

/-- The new square: a point's block. -/
theorem body7 (c : Dev nD) (t : Fin cfg0.N) (r : Fin 256) (k : Fin 1920) :
    ((outsAt0 m c t).2.2.2 : FVec Ideal S1x256x1920 .f32) (ix3 0 r k)
      = Adam.square ((iblk m c 1 t : FVec Ideal S256x1920 .f32) (ix2 r k)) ((iblk m c 3 t : FVec Ideal S1x256x1920 .f32) (ix3 0 r k)) := by
  unfold outsAt0
  frame_out
  unfold_payloads
  unfold Adam.square
  pointwise

theorem entry7 (c : Dev nD) : V m c main_v0_3 = p7 m c := by
  unfold V hostOps0
  after_results_simp
  rfl

theorem val7 (c : Dev nD) : ((dats m 0 c).arrAt 7 cfg0.N : FVec Ideal S2x1024x1920 .f32)
    = Adam.put (Adam.squares (gA m c) (Adam.first (vA m c))) (p7 m c) := by
  refine (dats m 0 c).arrAt_eq_of_coversWhere_of_agree 7 _ (fun β => β (0 : Fin _) = 0) (by decide +kernel)
    (fun t hf y => ?_) (fun j hj => ?_)
  · blk_simp [idx t]
    rw [after0_7]
    obtain ⟨q, r, k, rfl⟩ : ∃ (q : Fin 1) (r : Fin 256) (k : Fin 1920), y = ix3 q r k := ⟨y 0, y 1, y 2, by funext a; fin_cases a <;> rfl⟩
    obtain rfl : q = 0 := Fin.eq_zero q
    refine (body7 m c t r k).trans ?_
    have e : Adam.put (Adam.squares (gA m c) (Adam.first (vA m c))) (p7 m c)
        (ix3 0 ⟨t.val * 256 + r.val, by have := lt t; omega⟩ k) = (Adam.squares (gA m c) (Adam.first (vA m c))) (ix2 ⟨t.val * 256 + r.val, by have := lt t; omega⟩ k) := rfl
    refine Eq.trans (Eq.trans ?_ e.symm) (congrArg (Adam.put (Adam.squares (gA m c) (Adam.first (vA m c))) (p7 m c)) ?_)
    · exact congrArg₂ Adam.square (blk1 m c t r k) (blk3 m c t r k)
    · have := lt t
      blk_ext [idx t]
  · blk_simp [Pipeline.Window.cell_apply] at hj
    refine (congrFun (entry7 m c) _).trans ?_
    have h0 : ¬(j 0).val = 0 := by rwa [Nat.div_one] at hj
    unfold Adam.put
    exact (if_neg h0).symm

end

section
open Cert.AdamInRefIdeal Cert.AdamInRefIdeal.Gen

variable (m : (ℓ : Loc nD τ sig) → Buf (Elt Ideal) ℓ)

abbrev wR (c : Dev nD) : Adam.Two 1024 1920 := m ((c : Thread nD τ).loc main_arg0)
abbrev gR (c : Dev nD) : Adam.One 1024 1920 := m ((c : Thread nD τ).loc main_arg1)
abbrev mR (c : Dev nD) : Adam.Two 1024 1920 := m ((c : Thread nD τ).loc main_arg2)
abbrev vR (c : Dev nD) : Adam.Two 1024 1920 := m ((c : Thread nD τ).loc main_arg3)
abbrev q4 (c : Dev nD) : Adam.Two 1024 1920 := m ((c : Thread nD τ).loc main_arg4)
abbrev q5 (c : Dev nD) : Adam.Two 1024 1920 := m ((c : Thread nD τ).loc main_arg5)
abbrev q6 (c : Dev nD) : Adam.Two 1024 1920 := m ((c : Thread nD τ).loc main_arg6)
abbrev q7 (c : Dev nD) : Adam.Two 1024 1920 := m ((c : Thread nD τ).loc main_arg7)

/-- The two layers the reference stacks. -/
theorem stacked (f : FVec Ideal S1024x1920 .f32) (p : FVec Ideal S2x1024x1920 .f32) :
    (concatenate S2x1024x1920 0 [⟨S1x1024x1920, (broadcastInDim S1x1024x1920 ![1, 2] bcast_S1024x1920_S1x1024x1920_1_2 (f))⟩,
      ⟨S1x1024x1920, (broadcastInDim S1x1024x1920 ![1, 2] bcast_S1024x1920_S1x1024x1920_1_2 (shapeCast _ (extractStridedSlice S1x1024x1920 ![1, 0, 0] p slices_S2x1024x1920_S1x1024x1920_1_0_0) shapeCasts_S1x1024x1920_S1024x1920 : FVec Ideal S1024x1920 .f32))⟩] concatenates_S1x1024x1920_S1x1024x1920_S2x1024x1920_d0 : FVec Ideal S2x1024x1920 .f32) = Adam.put f p := by
  funext y
  unfold Adam.put
  clean_types
  obtain ⟨q, r, k, rfl⟩ : ∃ (q : Fin 2) (r : Fin 1024) (k : Fin 1920), y = ix3 q r k := ⟨y 0, y 1, y 2, by funext a; fin_cases a <;> rfl⟩
  obtain rfl | rfl : q = 0 ∨ q = 1 := by omega
  · pointwise
  · pointwise

/-- The reference's step, new mean and new square of the first layer. -/
theorem ref6 (g : FVec Ideal S1024x1920 .f32) (m : FVec Ideal S2x1024x1920 .f32) :
    (addf (mulf (broadcastInDim S1024x1920 ![] bcast_S_S1024x1920 (constant S_ .f32 0x3F666666#32)) (shapeCast _ (extractStridedSlice S1x1024x1920 ![0, 0, 0] m slices_S2x1024x1920_S1x1024x1920_0_0_0) shapeCasts_S1x1024x1920_S1024x1920 : FVec Ideal S1024x1920 .f32)) (mulf (broadcastInDim S1024x1920 ![] bcast_S_S1024x1920 (constant S_ .f32 0x3DCCCCCD#32)) g) : FVec Ideal S1024x1920 .f32)
    = Adam.means g (Adam.first m) := by
  funext y
  unfold Adam.means Adam.mean Adam.first
  clean_types
  idx_vars y
  pointwise

theorem ref7 (g : FVec Ideal S1024x1920 .f32) (v : FVec Ideal S2x1024x1920 .f32) :
    (addf (mulf (broadcastInDim S1024x1920 ![] bcast_S_S1024x1920 (constant S_ .f32 0x3F7FBE77#32)) (shapeCast _ (extractStridedSlice S1x1024x1920 ![0, 0, 0] v slices_S2x1024x1920_S1x1024x1920_0_0_0) shapeCasts_S1x1024x1920_S1024x1920 : FVec Ideal S1024x1920 .f32)) (mulf (broadcastInDim S1024x1920 ![] bcast_S_S1024x1920 (constant S_ .f32 0x3A83126F#32)) (mulf g g)) : FVec Ideal S1024x1920 .f32)
    = Adam.squares g (Adam.first v) := by
  funext y
  unfold Adam.squares Adam.square Adam.first
  clean_types
  idx_vars y
  pointwise

theorem ref5 (w : FVec Ideal S2x1024x1920 .f32) (g : FVec Ideal S1024x1920 .f32) (m v : FVec Ideal S2x1024x1920 .f32) :
    (mulf (broadcastInDim S1024x1920 ![] bcast_S_S1024x1920 (constant S_ .f32 0xBA83126F#32)) (addf (Host.divf (Host.divf (addf (mulf (broadcastInDim S1024x1920 ![] bcast_S_S1024x1920 (constant S_ .f32 0x3F666666#32)) (shapeCast _ (extractStridedSlice S1x1024x1920 ![0, 0, 0] m slices_S2x1024x1920_S1x1024x1920_0_0_0) shapeCasts_S1x1024x1920_S1024x1920 : FVec Ideal S1024x1920 .f32)) (mulf (broadcastInDim S1024x1920 ![] bcast_S_S1024x1920 (constant S_ .f32 0x3DCCCCCD#32)) g)) (broadcastInDim S1024x1920 ![] bcast_S_S1024x1920 (constant S_ .f32 0x3F26BD02#32)))
      (addf (Host.sqrt (Host.divf (addf (mulf (broadcastInDim S1024x1920 ![] bcast_S_S1024x1920 (constant S_ .f32 0x3F7FBE77#32)) (shapeCast _ (extractStridedSlice S1x1024x1920 ![0, 0, 0] v slices_S2x1024x1920_S1x1024x1920_0_0_0) shapeCasts_S1x1024x1920_S1024x1920 : FVec Ideal S1024x1920 .f32)) (mulf (broadcastInDim S1024x1920 ![] bcast_S_S1024x1920 (constant S_ .f32 0x3A83126F#32)) (mulf g g))) (broadcastInDim S1024x1920 ![] bcast_S_S1024x1920 (constant S_ .f32 0x3C231ACC#32)))) (broadcastInDim S1024x1920 ![] bcast_S_S1024x1920 (constant S_ .f32 0x322BCC77#32))))
      (mulf (broadcastInDim S1024x1920 ![] bcast_S_S1024x1920 (constant S_ .f32 0x3C23D70A#32)) (shapeCast _ (extractStridedSlice S1x1024x1920 ![0, 0, 0] w slices_S2x1024x1920_S1x1024x1920_0_0_0) shapeCasts_S1x1024x1920_S1024x1920 : FVec Ideal S1024x1920 .f32))) : FVec Ideal S1024x1920 .f32)
    = Adam.steps (Adam.first w) g (Adam.first m) (Adam.first v) := by
  funext y
  unfold Adam.steps Adam.step Adam.mean Adam.square Adam.first
  clean_types
  idx_vars y
  pointwise

end

/-- The reference runs, keeps its arguments, and holds no semaphore. -/
theorem frameR : Cert.quiescent_AdamInRefIdeal := fun m ρ _ =>
  (θ_run _ _ _).mono (fun r h => ⟨fun c => (h c).2.2.2.2, Idealize.ShloMosaic.sem_eq_zero_of_no_sems (by decide) r.2⟩)
    (Cert.AdamInRefIdeal.Value.run m ρ)

/-- The kernel and the reference both end with the first layer's results in front of the second's. -/
theorem equal : Cert.algebraic_AdamInIdeal_AdamInRefIdeal := fun m ρ m' ρ' _ hag =>
  ⟨fun c => Adam.put (gA m c) (p4 m c), fun c => Adam.put (Adam.steps (Adam.first (wA m c)) (gA m c) (Adam.first (mA m c)) (Adam.first (vA m c))) (p5 m c),
    fun c => Adam.put (Adam.means (gA m c) (Adam.first (mA m c))) (p6 m c), fun c => Adam.put (Adam.squares (gA m c) (Adam.first (vA m c))) (p7 m c),
    (θ_run _ _ _).mono (fun _ h c => ⟨(h c).1.trans (val4 m c), (h c).2.1.trans (val5 m c), (h c).2.2.1.trans (val6 m c),
      (h c).2.2.2.1.trans (val7 m c), (h c).2.2.2.2⟩) (Cert.AdamInIdeal.Value.run_blocks m ρ),
    (θ_run _ _ _).mono (fun _ h c => by
      have hw : wR m' c = wA m c := (hag c).1
      have hg : gR m' c = gA m c := (hag c).2.1
      have hm : mR m' c = mA m c := (hag c).2.2.1
      have hv : vR m' c = vA m c := (hag c).2.2.2.1
      have h4 : q4 m' c = p4 m c := (hag c).2.2.2.2.1
      have h5 : q5 m' c = p5 m c := (hag c).2.2.2.2.2.1
      have h6 : q6 m' c = p6 m c := (hag c).2.2.2.2.2.2.1
      have h7 : q7 m' c = p7 m c := (hag c).2.2.2.2.2.2.2
      refine ⟨(h c).1.trans ((stacked (gR m' c) (q4 m' c)).trans ?_),
        (h c).2.1.trans ((stacked _ (q5 m' c)).trans ((congrArg (Adam.put · (q5 m' c)) (ref5 (wR m' c) (gR m' c) (mR m' c) (vR m' c))).trans ?_)),
        (h c).2.2.1.trans ((stacked _ (q6 m' c)).trans ((congrArg (Adam.put · (q6 m' c)) (ref6 (gR m' c) (mR m' c))).trans ?_)),
        (h c).2.2.2.1.trans ((stacked _ (q7 m' c)).trans ((congrArg (Adam.put · (q7 m' c)) (ref7 (gR m' c) (vR m' c))).trans ?_)),
        (h c).2.2.2.2⟩
      · rw [hg, h4]
      · rw [hw, hg, hm, hv, h5]
      · rw [hg, hm, h6]
      · rw [hg, hv, h7]) (Cert.AdamInRefIdeal.Value.run m' ρ')⟩

end Cert.Proof.AdamIn

end
-- ==== Proof.AdamProj.lean ====
module

public import proofs.«01_k».proof.Defs
public import proofs.«01_k».proof.Proof.Gen.AdamProjIdeal.Value
public import proofs.«01_k».proof.Proof.Gen.AdamProjRefIdeal.Run
public import proofs.«01_k».proof.Proof.ProductSpec
public import proofs.«01_k».proof.Proof.AdamSpec
public import Idealize.ShloMosaic.Lib.Tactic.CleanTypes

/-!
The optimiser step of the first layer of the branch projections.
-/

@[expose] public section

set_option maxRecDepth 16384

noncomputable section

open Idealize.ShloMosaic Idealize.ShloMosaic.TcCoe Idealize.SL.Sem
open Idealize.ShloMosaic.Pipeline (Dat)

namespace Cert.Proof.AdamProj

section
open Cert.AdamProjIdeal Cert.AdamProjIdeal.Gen

variable (m : (ℓ : Loc nD τ sig) → Buf (Elt Ideal) ℓ)

abbrev wA (c : Dev nD) : Adam.Two 512 256 := m ((c : Thread nD τ).loc main_arg0)
abbrev gA (c : Dev nD) : Adam.One 512 256 := m ((c : Thread nD τ).loc main_arg1)
abbrev mA (c : Dev nD) : Adam.Two 512 256 := m ((c : Thread nD τ).loc main_arg2)
abbrev vA (c : Dev nD) : Adam.Two 512 256 := m ((c : Thread nD τ).loc main_arg3)
abbrev p4 (c : Dev nD) : Adam.Two 512 256 := m ((c : Thread nD τ).loc main_arg4)
abbrev p5 (c : Dev nD) : Adam.Two 512 256 := m ((c : Thread nD τ).loc main_arg5)
abbrev p6 (c : Dev nD) : Adam.Two 512 256 := m ((c : Thread nD τ).loc main_arg6)
abbrev p7 (c : Dev nD) : Adam.Two 512 256 := m ((c : Thread nD τ).loc main_arg7)

theorem lt (t : Fin cfg0.N) : t.val < 2 := lt_of_lt_of_eq t.isLt (show cfg0.N = 2 from N_0)

/-- Which block each window stages at a point. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := by
  decide +kernel

theorem blk0 (c : Dev nD) (t : Fin cfg0.N) (r : Fin 256) (k : Fin 256) :
    (iblk m c 0 t : FVec Ideal S1x256x256 .f32) (ix3 0 r k) = Adam.first (wA m c) (ix2 ⟨t.val * 256 + r.val, by have := lt t; omega⟩ k) := by
  unfold Adam.first
  blk_point [iblk, V_main_arg0, idx t]
theorem blk2 (c : Dev nD) (t : Fin cfg0.N) (r : Fin 256) (k : Fin 256) :
    (iblk m c 2 t : FVec Ideal S1x256x256 .f32) (ix3 0 r k) = Adam.first (mA m c) (ix2 ⟨t.val * 256 + r.val, by have := lt t; omega⟩ k) := by
  unfold Adam.first
  blk_point [iblk, V_main_arg2, idx t]
theorem blk3 (c : Dev nD) (t : Fin cfg0.N) (r : Fin 256) (k : Fin 256) :
    (iblk m c 3 t : FVec Ideal S1x256x256 .f32) (ix3 0 r k) = Adam.first (vA m c) (ix2 ⟨t.val * 256 + r.val, by have := lt t; omega⟩ k) := by
  unfold Adam.first
  blk_point [iblk, V_main_arg3, idx t]
theorem blk1 (c : Dev nD) (t : Fin cfg0.N) (r : Fin 256) (k : Fin 256) :
    (iblk m c 1 t : FVec Ideal S256x256 .f32) (ix2 r k) = gA m c (ix2 ⟨t.val * 256 + r.val, by have := lt t; omega⟩ k) := by
  blk_point [iblk, V_main_arg1, idx t]

/-- The gradient itself: a point's block. -/
theorem body4 (c : Dev nD) (t : Fin cfg0.N) (r : Fin 256) (k : Fin 256) :
    ((outsAt0 m c t).1 : FVec Ideal S1x256x256 .f32) (ix3 0 r k)
      = ((iblk m c 1 t : FVec Ideal S256x256 .f32) (ix2 r k)) := by
  unfold outsAt0
  frame_out
  unfold_payloads
  pointwise

theorem entry4 (c : Dev nD) : V m c main_v0_0 = p4 m c := by
  unfold V hostOps0
  after_results_simp
  rfl

theorem val4 (c : Dev nD) : ((dats m 0 c).arrAt 4 cfg0.N : FVec Ideal S2x512x256 .f32)
    = Adam.put (gA m c) (p4 m c) := by
  refine (dats m 0 c).arrAt_eq_of_coversWhere_of_agree 4 _ (fun β => β (0 : Fin _) = 0) (by decide +kernel)
    (fun t hf y => ?_) (fun j hj => ?_)
  · blk_simp [idx t]
    rw [after0_4]
    obtain ⟨q, r, k, rfl⟩ : ∃ (q : Fin 1) (r : Fin 256) (k : Fin 256), y = ix3 q r k := ⟨y 0, y 1, y 2, by funext a; fin_cases a <;> rfl⟩
    obtain rfl : q = 0 := Fin.eq_zero q
    refine (body4 m c t r k).trans ?_
    have e : Adam.put (gA m c) (p4 m c)
        (ix3 0 ⟨t.val * 256 + r.val, by have := lt t; omega⟩ k) = (gA m c) (ix2 ⟨t.val * 256 + r.val, by have := lt t; omega⟩ k) := rfl
    refine Eq.trans (Eq.trans ?_ e.symm) (congrArg (Adam.put (gA m c) (p4 m c)) ?_)
    · exact blk1 m c t r k
    · have := lt t
      blk_ext [idx t]
  · blk_simp [Pipeline.Window.cell_apply] at hj
    refine (congrFun (entry4 m c) _).trans ?_
    have h0 : ¬(j 0).val = 0 := by rwa [Nat.div_one] at hj
    unfold Adam.put
    exact (if_neg h0).symm

/-- The step: a point's block. -/
theorem body5 (c : Dev nD) (t : Fin cfg0.N) (r : Fin 256) (k : Fin 256) :
    ((outsAt0 m c t).2.1 : FVec Ideal S1x256x256 .f32) (ix3 0 r k)
      = Adam.step ((iblk m c 0 t : FVec Ideal S1x256x256 .f32) (ix3 0 r k)) ((iblk m c 1 t : FVec Ideal S256x256 .f32) (ix2 r k)) ((iblk m c 2 t : FVec Ideal S1x256x256 .f32) (ix3 0 r k)) ((iblk m c 3 t : FVec Ideal S1x256x256 .f32) (ix3 0 r k)) := by
  unfold outsAt0
  frame_out
  unfold_payloads
  unfold Adam.step Adam.mean Adam.square
  pointwise

theorem entry5 (c : Dev nD) : V m c main_v0_1 = p5 m c := by
  unfold V hostOps0
  after_results_simp
  rfl

theorem val5 (c : Dev nD) : ((dats m 0 c).arrAt 5 cfg0.N : FVec Ideal S2x512x256 .f32)
    = Adam.put (Adam.steps (Adam.first (wA m c)) (gA m c) (Adam.first (mA m c)) (Adam.first (vA m c))) (p5 m c) := by
  refine (dats m 0 c).arrAt_eq_of_coversWhere_of_agree 5 _ (fun β => β (0 : Fin _) = 0) (by decide +kernel)
    (fun t hf y => ?_) (fun j hj => ?_)
  · blk_simp [idx t]
    rw [after0_5]
    obtain ⟨q, r, k, rfl⟩ : ∃ (q : Fin 1) (r : Fin 256) (k : Fin 256), y = ix3 q r k := ⟨y 0, y 1, y 2, by funext a; fin_cases a <;> rfl⟩
    obtain rfl : q = 0 := Fin.eq_zero q
    refine (body5 m c t r k).trans ?_
    have e : Adam.put (Adam.steps (Adam.first (wA m c)) (gA m c) (Adam.first (mA m c)) (Adam.first (vA m c))) (p5 m c)
        (ix3 0 ⟨t.val * 256 + r.val, by have := lt t; omega⟩ k) = (Adam.steps (Adam.first (wA m c)) (gA m c) (Adam.first (mA m c)) (Adam.first (vA m c))) (ix2 ⟨t.val * 256 + r.val, by have := lt t; omega⟩ k) := rfl
    refine Eq.trans (Eq.trans ?_ e.symm) (congrArg (Adam.put (Adam.steps (Adam.first (wA m c)) (gA m c) (Adam.first (mA m c)) (Adam.first (vA m c))) (p5 m c)) ?_)
    · exact congr (congr (congrArg₂ Adam.step (blk0 m c t r k) (blk1 m c t r k)) (blk2 m c t r k)) (blk3 m c t r k)
    · have := lt t
      blk_ext [idx t]
  · blk_simp [Pipeline.Window.cell_apply] at hj
    refine (congrFun (entry5 m c) _).trans ?_
    have h0 : ¬(j 0).val = 0 := by rwa [Nat.div_one] at hj
    unfold Adam.put
    exact (if_neg h0).symm

/-- The new mean: a point's block. -/
theorem body6 (c : Dev nD) (t : Fin cfg0.N) (r : Fin 256) (k : Fin 256) :
    ((outsAt0 m c t).2.2.1 : FVec Ideal S1x256x256 .f32) (ix3 0 r k)
      = Adam.mean ((iblk m c 1 t : FVec Ideal S256x256 .f32) (ix2 r k)) ((iblk m c 2 t : FVec Ideal S1x256x256 .f32) (ix3 0 r k)) := by
  unfold outsAt0
  frame_out
  unfold_payloads
  unfold Adam.mean
  pointwise

theorem entry6 (c : Dev nD) : V m c main_v0_2 = p6 m c := by
  unfold V hostOps0
  after_results_simp
  rfl

theorem val6 (c : Dev nD) : ((dats m 0 c).arrAt 6 cfg0.N : FVec Ideal S2x512x256 .f32)
    = Adam.put (Adam.means (gA m c) (Adam.first (mA m c))) (p6 m c) := by
  refine (dats m 0 c).arrAt_eq_of_coversWhere_of_agree 6 _ (fun β => β (0 : Fin _) = 0) (by decide +kernel)
    (fun t hf y => ?_) (fun j hj => ?_)
  · blk_simp [idx t]
    rw [after0_6]
    obtain ⟨q, r, k, rfl⟩ : ∃ (q : Fin 1) (r : Fin 256) (k : Fin 256), y = ix3 q r k := ⟨y 0, y 1, y 2, by funext a; fin_cases a <;> rfl⟩
    obtain rfl : q = 0 := Fin.eq_zero q
    refine (body6 m c t r k).trans ?_
    have e : Adam.put (Adam.means (gA m c) (Adam.first (mA m c))) (p6 m c)
        (ix3 0 ⟨t.val * 256 + r.val, by have := lt t; omega⟩ k) = (Adam.means (gA m c) (Adam.first (mA m c))) (ix2 ⟨t.val * 256 + r.val, by have := lt t; omega⟩ k) := rfl
    refine Eq.trans (Eq.trans ?_ e.symm) (congrArg (Adam.put (Adam.means (gA m c) (Adam.first (mA m c))) (p6 m c)) ?_)
    · exact congrArg₂ Adam.mean (blk1 m c t r k) (blk2 m c t r k)
    · have := lt t
      blk_ext [idx t]
  · blk_simp [Pipeline.Window.cell_apply] at hj
    refine (congrFun (entry6 m c) _).trans ?_
    have h0 : ¬(j 0).val = 0 := by rwa [Nat.div_one] at hj
    unfold Adam.put
    exact (if_neg h0).symm

/-- The new square: a point's block. -/
theorem body7 (c : Dev nD) (t : Fin cfg0.N) (r : Fin 256) (k : Fin 256) :
    ((outsAt0 m c t).2.2.2 : FVec Ideal S1x256x256 .f32) (ix3 0 r k)
      = Adam.square ((iblk m c 1 t : FVec Ideal S256x256 .f32) (ix2 r k)) ((iblk m c 3 t : FVec Ideal S1x256x256 .f32) (ix3 0 r k)) := by
  unfold outsAt0
  frame_out
  unfold_payloads
  unfold Adam.square
  pointwise

theorem entry7 (c : Dev nD) : V m c main_v0_3 = p7 m c := by
  unfold V hostOps0
  after_results_simp
  rfl

theorem val7 (c : Dev nD) : ((dats m 0 c).arrAt 7 cfg0.N : FVec Ideal S2x512x256 .f32)
    = Adam.put (Adam.squares (gA m c) (Adam.first (vA m c))) (p7 m c) := by
  refine (dats m 0 c).arrAt_eq_of_coversWhere_of_agree 7 _ (fun β => β (0 : Fin _) = 0) (by decide +kernel)
    (fun t hf y => ?_) (fun j hj => ?_)
  · blk_simp [idx t]
    rw [after0_7]
    obtain ⟨q, r, k, rfl⟩ : ∃ (q : Fin 1) (r : Fin 256) (k : Fin 256), y = ix3 q r k := ⟨y 0, y 1, y 2, by funext a; fin_cases a <;> rfl⟩
    obtain rfl : q = 0 := Fin.eq_zero q
    refine (body7 m c t r k).trans ?_
    have e : Adam.put (Adam.squares (gA m c) (Adam.first (vA m c))) (p7 m c)
        (ix3 0 ⟨t.val * 256 + r.val, by have := lt t; omega⟩ k) = (Adam.squares (gA m c) (Adam.first (vA m c))) (ix2 ⟨t.val * 256 + r.val, by have := lt t; omega⟩ k) := rfl
    refine Eq.trans (Eq.trans ?_ e.symm) (congrArg (Adam.put (Adam.squares (gA m c) (Adam.first (vA m c))) (p7 m c)) ?_)
    · exact congrArg₂ Adam.square (blk1 m c t r k) (blk3 m c t r k)
    · have := lt t
      blk_ext [idx t]
  · blk_simp [Pipeline.Window.cell_apply] at hj
    refine (congrFun (entry7 m c) _).trans ?_
    have h0 : ¬(j 0).val = 0 := by rwa [Nat.div_one] at hj
    unfold Adam.put
    exact (if_neg h0).symm

end

section
open Cert.AdamProjRefIdeal Cert.AdamProjRefIdeal.Gen

variable (m : (ℓ : Loc nD τ sig) → Buf (Elt Ideal) ℓ)

abbrev wR (c : Dev nD) : Adam.Two 512 256 := m ((c : Thread nD τ).loc main_arg0)
abbrev gR (c : Dev nD) : Adam.One 512 256 := m ((c : Thread nD τ).loc main_arg1)
abbrev mR (c : Dev nD) : Adam.Two 512 256 := m ((c : Thread nD τ).loc main_arg2)
abbrev vR (c : Dev nD) : Adam.Two 512 256 := m ((c : Thread nD τ).loc main_arg3)
abbrev q4 (c : Dev nD) : Adam.Two 512 256 := m ((c : Thread nD τ).loc main_arg4)
abbrev q5 (c : Dev nD) : Adam.Two 512 256 := m ((c : Thread nD τ).loc main_arg5)
abbrev q6 (c : Dev nD) : Adam.Two 512 256 := m ((c : Thread nD τ).loc main_arg6)
abbrev q7 (c : Dev nD) : Adam.Two 512 256 := m ((c : Thread nD τ).loc main_arg7)

/-- The two layers the reference stacks. -/
theorem stacked (f : FVec Ideal S512x256 .f32) (p : FVec Ideal S2x512x256 .f32) :
    (concatenate S2x512x256 0 [⟨S1x512x256, (broadcastInDim S1x512x256 ![1, 2] bcast_S512x256_S1x512x256_1_2 (f))⟩,
      ⟨S1x512x256, (broadcastInDim S1x512x256 ![1, 2] bcast_S512x256_S1x512x256_1_2 (shapeCast _ (extractStridedSlice S1x512x256 ![1, 0, 0] p slices_S2x512x256_S1x512x256_1_0_0) shapeCasts_S1x512x256_S512x256 : FVec Ideal S512x256 .f32))⟩] concatenates_S1x512x256_S1x512x256_S2x512x256_d0 : FVec Ideal S2x512x256 .f32) = Adam.put f p := by
  funext y
  unfold Adam.put
  clean_types
  obtain ⟨q, r, k, rfl⟩ : ∃ (q : Fin 2) (r : Fin 512) (k : Fin 256), y = ix3 q r k := ⟨y 0, y 1, y 2, by funext a; fin_cases a <;> rfl⟩
  obtain rfl | rfl : q = 0 ∨ q = 1 := by omega
  · pointwise
  · pointwise

/-- The reference's step, new mean and new square of the first layer. -/
theorem ref6 (g : FVec Ideal S512x256 .f32) (m : FVec Ideal S2x512x256 .f32) :
    (addf (mulf (broadcastInDim S512x256 ![] bcast_S_S512x256 (constant S_ .f32 0x3F666666#32)) (shapeCast _ (extractStridedSlice S1x512x256 ![0, 0, 0] m slices_S2x512x256_S1x512x256_0_0_0) shapeCasts_S1x512x256_S512x256 : FVec Ideal S512x256 .f32)) (mulf (broadcastInDim S512x256 ![] bcast_S_S512x256 (constant S_ .f32 0x3DCCCCCD#32)) g) : FVec Ideal S512x256 .f32)
    = Adam.means g (Adam.first m) := by
  funext y
  unfold Adam.means Adam.mean Adam.first
  clean_types
  idx_vars y
  pointwise

theorem ref7 (g : FVec Ideal S512x256 .f32) (v : FVec Ideal S2x512x256 .f32) :
    (addf (mulf (broadcastInDim S512x256 ![] bcast_S_S512x256 (constant S_ .f32 0x3F7FBE77#32)) (shapeCast _ (extractStridedSlice S1x512x256 ![0, 0, 0] v slices_S2x512x256_S1x512x256_0_0_0) shapeCasts_S1x512x256_S512x256 : FVec Ideal S512x256 .f32)) (mulf (broadcastInDim S512x256 ![] bcast_S_S512x256 (constant S_ .f32 0x3A83126F#32)) (mulf g g)) : FVec Ideal S512x256 .f32)
    = Adam.squares g (Adam.first v) := by
  funext y
  unfold Adam.squares Adam.square Adam.first
  clean_types
  idx_vars y
  pointwise

theorem ref5 (w : FVec Ideal S2x512x256 .f32) (g : FVec Ideal S512x256 .f32) (m v : FVec Ideal S2x512x256 .f32) :
    (mulf (broadcastInDim S512x256 ![] bcast_S_S512x256 (constant S_ .f32 0xBA83126F#32)) (addf (Host.divf (Host.divf (addf (mulf (broadcastInDim S512x256 ![] bcast_S_S512x256 (constant S_ .f32 0x3F666666#32)) (shapeCast _ (extractStridedSlice S1x512x256 ![0, 0, 0] m slices_S2x512x256_S1x512x256_0_0_0) shapeCasts_S1x512x256_S512x256 : FVec Ideal S512x256 .f32)) (mulf (broadcastInDim S512x256 ![] bcast_S_S512x256 (constant S_ .f32 0x3DCCCCCD#32)) g)) (broadcastInDim S512x256 ![] bcast_S_S512x256 (constant S_ .f32 0x3F26BD02#32)))
      (addf (Host.sqrt (Host.divf (addf (mulf (broadcastInDim S512x256 ![] bcast_S_S512x256 (constant S_ .f32 0x3F7FBE77#32)) (shapeCast _ (extractStridedSlice S1x512x256 ![0, 0, 0] v slices_S2x512x256_S1x512x256_0_0_0) shapeCasts_S1x512x256_S512x256 : FVec Ideal S512x256 .f32)) (mulf (broadcastInDim S512x256 ![] bcast_S_S512x256 (constant S_ .f32 0x3A83126F#32)) (mulf g g))) (broadcastInDim S512x256 ![] bcast_S_S512x256 (constant S_ .f32 0x3C231ACC#32)))) (broadcastInDim S512x256 ![] bcast_S_S512x256 (constant S_ .f32 0x322BCC77#32))))
      (mulf (broadcastInDim S512x256 ![] bcast_S_S512x256 (constant S_ .f32 0x3C23D70A#32)) (shapeCast _ (extractStridedSlice S1x512x256 ![0, 0, 0] w slices_S2x512x256_S1x512x256_0_0_0) shapeCasts_S1x512x256_S512x256 : FVec Ideal S512x256 .f32))) : FVec Ideal S512x256 .f32)
    = Adam.steps (Adam.first w) g (Adam.first m) (Adam.first v) := by
  funext y
  unfold Adam.steps Adam.step Adam.mean Adam.square Adam.first
  clean_types
  idx_vars y
  pointwise

end

/-- The reference runs, keeps its arguments, and holds no semaphore. -/
theorem frameR : Cert.quiescent_AdamProjRefIdeal := fun m ρ _ =>
  (θ_run _ _ _).mono (fun r h => ⟨fun c => (h c).2.2.2.2, Idealize.ShloMosaic.sem_eq_zero_of_no_sems (by decide) r.2⟩)
    (Cert.AdamProjRefIdeal.Value.run m ρ)

/-- The kernel and the reference both end with the first layer's results in front of the second's. -/
theorem equal : Cert.algebraic_AdamProjIdeal_AdamProjRefIdeal := fun m ρ m' ρ' _ hag =>
  ⟨fun c => Adam.put (gA m c) (p4 m c), fun c => Adam.put (Adam.steps (Adam.first (wA m c)) (gA m c) (Adam.first (mA m c)) (Adam.first (vA m c))) (p5 m c),
    fun c => Adam.put (Adam.means (gA m c) (Adam.first (mA m c))) (p6 m c), fun c => Adam.put (Adam.squares (gA m c) (Adam.first (vA m c))) (p7 m c),
    (θ_run _ _ _).mono (fun _ h c => ⟨(h c).1.trans (val4 m c), (h c).2.1.trans (val5 m c), (h c).2.2.1.trans (val6 m c),
      (h c).2.2.2.1.trans (val7 m c), (h c).2.2.2.2⟩) (Cert.AdamProjIdeal.Value.run_blocks m ρ),
    (θ_run _ _ _).mono (fun _ h c => by
      have hw : wR m' c = wA m c := (hag c).1
      have hg : gR m' c = gA m c := (hag c).2.1
      have hm : mR m' c = mA m c := (hag c).2.2.1
      have hv : vR m' c = vA m c := (hag c).2.2.2.1
      have h4 : q4 m' c = p4 m c := (hag c).2.2.2.2.1
      have h5 : q5 m' c = p5 m c := (hag c).2.2.2.2.2.1
      have h6 : q6 m' c = p6 m c := (hag c).2.2.2.2.2.2.1
      have h7 : q7 m' c = p7 m c := (hag c).2.2.2.2.2.2.2
      refine ⟨(h c).1.trans ((stacked (gR m' c) (q4 m' c)).trans ?_),
        (h c).2.1.trans ((stacked _ (q5 m' c)).trans ((congrArg (Adam.put · (q5 m' c)) (ref5 (wR m' c) (gR m' c) (mR m' c) (vR m' c))).trans ?_)),
        (h c).2.2.1.trans ((stacked _ (q6 m' c)).trans ((congrArg (Adam.put · (q6 m' c)) (ref6 (gR m' c) (mR m' c))).trans ?_)),
        (h c).2.2.2.1.trans ((stacked _ (q7 m' c)).trans ((congrArg (Adam.put · (q7 m' c)) (ref7 (gR m' c) (vR m' c))).trans ?_)),
        (h c).2.2.2.2⟩
      · rw [hg, h4]
      · rw [hw, hg, hm, hv, h5]
      · rw [hg, hm, h6]
      · rw [hg, hv, h7]) (Cert.AdamProjRefIdeal.Value.run m' ρ')⟩

end Cert.Proof.AdamProj

end
-- ==== Proof.AdamOut.lean ====
module

public import proofs.«01_k».proof.Defs
public import proofs.«01_k».proof.Proof.Gen.AdamOutIdeal.Value
public import proofs.«01_k».proof.Proof.Gen.AdamOutRefIdeal.Run
public import proofs.«01_k».proof.Proof.ProductSpec
public import proofs.«01_k».proof.Proof.AdamSpec
public import Idealize.ShloMosaic.Lib.Tactic.CleanTypes

/-!
The optimiser step of the first layer of the output projection.
-/

@[expose] public section

set_option maxRecDepth 16384

noncomputable section

open Idealize.ShloMosaic Idealize.ShloMosaic.TcCoe Idealize.SL.Sem
open Idealize.ShloMosaic.Pipeline (Dat)

namespace Cert.Proof.AdamOut

section
open Cert.AdamOutIdeal Cert.AdamOutIdeal.Gen

variable (m : (ℓ : Loc nD τ sig) → Buf (Elt Ideal) ℓ)

abbrev wA (c : Dev nD) : Adam.Two 256 1024 := m ((c : Thread nD τ).loc main_arg0)
abbrev gA (c : Dev nD) : Adam.One 256 1024 := m ((c : Thread nD τ).loc main_arg1)
abbrev mA (c : Dev nD) : Adam.Two 256 1024 := m ((c : Thread nD τ).loc main_arg2)
abbrev vA (c : Dev nD) : Adam.Two 256 1024 := m ((c : Thread nD τ).loc main_arg3)
abbrev p4 (c : Dev nD) : Adam.Two 256 1024 := m ((c : Thread nD τ).loc main_arg4)
abbrev p5 (c : Dev nD) : Adam.Two 256 1024 := m ((c : Thread nD τ).loc main_arg5)
abbrev p6 (c : Dev nD) : Adam.Two 256 1024 := m ((c : Thread nD τ).loc main_arg6)
abbrev p7 (c : Dev nD) : Adam.Two 256 1024 := m ((c : Thread nD τ).loc main_arg7)

theorem lt (t : Fin cfg0.N) : t.val < 1 := lt_of_lt_of_eq t.isLt (show cfg0.N = 1 from N_0)

/-- Which block each window stages at a point. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := by
  decide +kernel

theorem blk0 (c : Dev nD) (t : Fin cfg0.N) (r : Fin 256) (k : Fin 1024) :
    (iblk m c 0 t : FVec Ideal S1x256x1024 .f32) (ix3 0 r k) = Adam.first (wA m c) (ix2 ⟨t.val * 256 + r.val, by have := lt t; omega⟩ k) := by
  unfold Adam.first
  blk_point [iblk, V_main_arg0, idx t]
theorem blk2 (c : Dev nD) (t : Fin cfg0.N) (r : Fin 256) (k : Fin 1024) :
    (iblk m c 2 t : FVec Ideal S1x256x1024 .f32) (ix3 0 r k) = Adam.first (mA m c) (ix2 ⟨t.val * 256 + r.val, by have := lt t; omega⟩ k) := by
  unfold Adam.first
  blk_point [iblk, V_main_arg2, idx t]
theorem blk3 (c : Dev nD) (t : Fin cfg0.N) (r : Fin 256) (k : Fin 1024) :
    (iblk m c 3 t : FVec Ideal S1x256x1024 .f32) (ix3 0 r k) = Adam.first (vA m c) (ix2 ⟨t.val * 256 + r.val, by have := lt t; omega⟩ k) := by
  unfold Adam.first
  blk_point [iblk, V_main_arg3, idx t]
theorem blk1 (c : Dev nD) (t : Fin cfg0.N) (r : Fin 256) (k : Fin 1024) :
    (iblk m c 1 t : FVec Ideal S256x1024 .f32) (ix2 r k) = gA m c (ix2 ⟨t.val * 256 + r.val, by have := lt t; omega⟩ k) := by
  blk_point [iblk, V_main_arg1, idx t]

/-- The gradient itself: a point's block. -/
theorem body4 (c : Dev nD) (t : Fin cfg0.N) (r : Fin 256) (k : Fin 1024) :
    ((outsAt0 m c t).1 : FVec Ideal S1x256x1024 .f32) (ix3 0 r k)
      = ((iblk m c 1 t : FVec Ideal S256x1024 .f32) (ix2 r k)) := by
  unfold outsAt0
  frame_out
  unfold_payloads
  pointwise

theorem entry4 (c : Dev nD) : V m c main_v0_0 = p4 m c := by
  unfold V hostOps0
  after_results_simp
  rfl

theorem val4 (c : Dev nD) : ((dats m 0 c).arrAt 4 cfg0.N : FVec Ideal S2x256x1024 .f32)
    = Adam.put (gA m c) (p4 m c) := by
  refine (dats m 0 c).arrAt_eq_of_coversWhere_of_agree 4 _ (fun β => β (0 : Fin _) = 0) (by decide +kernel)
    (fun t hf y => ?_) (fun j hj => ?_)
  · blk_simp [idx t]
    rw [after0_4]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body4 m c t r k).trans ?_
    have e : Adam.put (gA m c) (p4 m c)
        (ix3 0 ⟨t.val * 256 + r.val, by have := lt t; omega⟩ k) = (gA m c) (ix2 ⟨t.val * 256 + r.val, by have := lt t; omega⟩ k) := rfl
    refine Eq.trans (Eq.trans ?_ e.symm) (congrArg (Adam.put (gA m c) (p4 m c)) ?_)
    · exact blk1 m c t r k
    · have := lt t
      blk_ext [idx t]
  · blk_simp [Pipeline.Window.cell_apply] at hj
    refine (congrFun (entry4 m c) _).trans ?_
    have h0 : ¬(j 0).val = 0 := by rwa [Nat.div_one] at hj
    unfold Adam.put
    exact (if_neg h0).symm

/-- The step: a point's block. -/
theorem body5 (c : Dev nD) (t : Fin cfg0.N) (r : Fin 256) (k : Fin 1024) :
    ((outsAt0 m c t).2.1 : FVec Ideal S1x256x1024 .f32) (ix3 0 r k)
      = Adam.step ((iblk m c 0 t : FVec Ideal S1x256x1024 .f32) (ix3 0 r k)) ((iblk m c 1 t : FVec Ideal S256x1024 .f32) (ix2 r k)) ((iblk m c 2 t : FVec Ideal S1x256x1024 .f32) (ix3 0 r k)) ((iblk m c 3 t : FVec Ideal S1x256x1024 .f32) (ix3 0 r k)) := by
  unfold outsAt0
  frame_out
  unfold_payloads
  unfold Adam.step Adam.mean Adam.square
  pointwise

theorem entry5 (c : Dev nD) : V m c main_v0_1 = p5 m c := by
  unfold V hostOps0
  after_results_simp
  rfl

theorem val5 (c : Dev nD) : ((dats m 0 c).arrAt 5 cfg0.N : FVec Ideal S2x256x1024 .f32)
    = Adam.put (Adam.steps (Adam.first (wA m c)) (gA m c) (Adam.first (mA m c)) (Adam.first (vA m c))) (p5 m c) := by
  refine (dats m 0 c).arrAt_eq_of_coversWhere_of_agree 5 _ (fun β => β (0 : Fin _) = 0) (by decide +kernel)
    (fun t hf y => ?_) (fun j hj => ?_)
  · blk_simp [idx t]
    rw [after0_5]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body5 m c t r k).trans ?_
    have e : Adam.put (Adam.steps (Adam.first (wA m c)) (gA m c) (Adam.first (mA m c)) (Adam.first (vA m c))) (p5 m c)
        (ix3 0 ⟨t.val * 256 + r.val, by have := lt t; omega⟩ k) = (Adam.steps (Adam.first (wA m c)) (gA m c) (Adam.first (mA m c)) (Adam.first (vA m c))) (ix2 ⟨t.val * 256 + r.val, by have := lt t; omega⟩ k) := rfl
    refine Eq.trans (Eq.trans ?_ e.symm) (congrArg (Adam.put (Adam.steps (Adam.first (wA m c)) (gA m c) (Adam.first (mA m c)) (Adam.first (vA m c))) (p5 m c)) ?_)
    · exact congr (congr (congrArg₂ Adam.step (blk0 m c t r k) (blk1 m c t r k)) (blk2 m c t r k)) (blk3 m c t r k)
    · have := lt t
      blk_ext [idx t]
  · blk_simp [Pipeline.Window.cell_apply] at hj
    refine (congrFun (entry5 m c) _).trans ?_
    have h0 : ¬(j 0).val = 0 := by rwa [Nat.div_one] at hj
    unfold Adam.put
    exact (if_neg h0).symm

/-- The new mean: a point's block. -/
theorem body6 (c : Dev nD) (t : Fin cfg0.N) (r : Fin 256) (k : Fin 1024) :
    ((outsAt0 m c t).2.2.1 : FVec Ideal S1x256x1024 .f32) (ix3 0 r k)
      = Adam.mean ((iblk m c 1 t : FVec Ideal S256x1024 .f32) (ix2 r k)) ((iblk m c 2 t : FVec Ideal S1x256x1024 .f32) (ix3 0 r k)) := by
  unfold outsAt0
  frame_out
  unfold_payloads
  unfold Adam.mean
  pointwise

theorem entry6 (c : Dev nD) : V m c main_v0_2 = p6 m c := by
  unfold V hostOps0
  after_results_simp
  rfl

theorem val6 (c : Dev nD) : ((dats m 0 c).arrAt 6 cfg0.N : FVec Ideal S2x256x1024 .f32)
    = Adam.put (Adam.means (gA m c) (Adam.first (mA m c))) (p6 m c) := by
  refine (dats m 0 c).arrAt_eq_of_coversWhere_of_agree 6 _ (fun β => β (0 : Fin _) = 0) (by decide +kernel)
    (fun t hf y => ?_) (fun j hj => ?_)
  · blk_simp [idx t]
    rw [after0_6]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body6 m c t r k).trans ?_
    have e : Adam.put (Adam.means (gA m c) (Adam.first (mA m c))) (p6 m c)
        (ix3 0 ⟨t.val * 256 + r.val, by have := lt t; omega⟩ k) = (Adam.means (gA m c) (Adam.first (mA m c))) (ix2 ⟨t.val * 256 + r.val, by have := lt t; omega⟩ k) := rfl
    refine Eq.trans (Eq.trans ?_ e.symm) (congrArg (Adam.put (Adam.means (gA m c) (Adam.first (mA m c))) (p6 m c)) ?_)
    · exact congrArg₂ Adam.mean (blk1 m c t r k) (blk2 m c t r k)
    · have := lt t
      blk_ext [idx t]
  · blk_simp [Pipeline.Window.cell_apply] at hj
    refine (congrFun (entry6 m c) _).trans ?_
    have h0 : ¬(j 0).val = 0 := by rwa [Nat.div_one] at hj
    unfold Adam.put
    exact (if_neg h0).symm

/-- The new square: a point's block. -/
theorem body7 (c : Dev nD) (t : Fin cfg0.N) (r : Fin 256) (k : Fin 1024) :
    ((outsAt0 m c t).2.2.2 : FVec Ideal S1x256x1024 .f32) (ix3 0 r k)
      = Adam.square ((iblk m c 1 t : FVec Ideal S256x1024 .f32) (ix2 r k)) ((iblk m c 3 t : FVec Ideal S1x256x1024 .f32) (ix3 0 r k)) := by
  unfold outsAt0
  frame_out
  unfold_payloads
  unfold Adam.square
  pointwise

theorem entry7 (c : Dev nD) : V m c main_v0_3 = p7 m c := by
  unfold V hostOps0
  after_results_simp
  rfl

theorem val7 (c : Dev nD) : ((dats m 0 c).arrAt 7 cfg0.N : FVec Ideal S2x256x1024 .f32)
    = Adam.put (Adam.squares (gA m c) (Adam.first (vA m c))) (p7 m c) := by
  refine (dats m 0 c).arrAt_eq_of_coversWhere_of_agree 7 _ (fun β => β (0 : Fin _) = 0) (by decide +kernel)
    (fun t hf y => ?_) (fun j hj => ?_)
  · blk_simp [idx t]
    rw [after0_7]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body7 m c t r k).trans ?_
    have e : Adam.put (Adam.squares (gA m c) (Adam.first (vA m c))) (p7 m c)
        (ix3 0 ⟨t.val * 256 + r.val, by have := lt t; omega⟩ k) = (Adam.squares (gA m c) (Adam.first (vA m c))) (ix2 ⟨t.val * 256 + r.val, by have := lt t; omega⟩ k) := rfl
    refine Eq.trans (Eq.trans ?_ e.symm) (congrArg (Adam.put (Adam.squares (gA m c) (Adam.first (vA m c))) (p7 m c)) ?_)
    · exact congrArg₂ Adam.square (blk1 m c t r k) (blk3 m c t r k)
    · have := lt t
      blk_ext [idx t]
  · blk_simp [Pipeline.Window.cell_apply] at hj
    refine (congrFun (entry7 m c) _).trans ?_
    have h0 : ¬(j 0).val = 0 := by rwa [Nat.div_one] at hj
    unfold Adam.put
    exact (if_neg h0).symm

end

section
open Cert.AdamOutRefIdeal Cert.AdamOutRefIdeal.Gen

variable (m : (ℓ : Loc nD τ sig) → Buf (Elt Ideal) ℓ)

abbrev wR (c : Dev nD) : Adam.Two 256 1024 := m ((c : Thread nD τ).loc main_arg0)
abbrev gR (c : Dev nD) : Adam.One 256 1024 := m ((c : Thread nD τ).loc main_arg1)
abbrev mR (c : Dev nD) : Adam.Two 256 1024 := m ((c : Thread nD τ).loc main_arg2)
abbrev vR (c : Dev nD) : Adam.Two 256 1024 := m ((c : Thread nD τ).loc main_arg3)
abbrev q4 (c : Dev nD) : Adam.Two 256 1024 := m ((c : Thread nD τ).loc main_arg4)
abbrev q5 (c : Dev nD) : Adam.Two 256 1024 := m ((c : Thread nD τ).loc main_arg5)
abbrev q6 (c : Dev nD) : Adam.Two 256 1024 := m ((c : Thread nD τ).loc main_arg6)
abbrev q7 (c : Dev nD) : Adam.Two 256 1024 := m ((c : Thread nD τ).loc main_arg7)

/-- The two layers the reference stacks. -/
theorem stacked (f : FVec Ideal S256x1024 .f32) (p : FVec Ideal S2x256x1024 .f32) :
    (concatenate S2x256x1024 0 [⟨S1x256x1024, (broadcastInDim S1x256x1024 ![1, 2] bcast_S256x1024_S1x256x1024_1_2 (f))⟩,
      ⟨S1x256x1024, (broadcastInDim S1x256x1024 ![1, 2] bcast_S256x1024_S1x256x1024_1_2 (shapeCast _ (extractStridedSlice S1x256x1024 ![1, 0, 0] p slices_S2x256x1024_S1x256x1024_1_0_0) shapeCasts_S1x256x1024_S256x1024 : FVec Ideal S256x1024 .f32))⟩] concatenates_S1x256x1024_S1x256x1024_S2x256x1024_d0 : FVec Ideal S2x256x1024 .f32) = Adam.put f p := by
  funext y
  unfold Adam.put
  clean_types
  obtain ⟨q, r, k, rfl⟩ : ∃ (q : Fin 2) (r : Fin 256) (k : Fin 1024), y = ix3 q r k := ⟨y 0, y 1, y 2, by funext a; fin_cases a <;> rfl⟩
  obtain rfl | rfl : q = 0 ∨ q = 1 := by omega
  · pointwise
  · pointwise

/-- The reference's step, new mean and new square of the first layer. -/
theorem ref6 (g : FVec Ideal S256x1024 .f32) (m : FVec Ideal S2x256x1024 .f32) :
    (addf (mulf (broadcastInDim S256x1024 ![] bcast_S_S256x1024 (constant S_ .f32 0x3F666666#32)) (shapeCast _ (extractStridedSlice S1x256x1024 ![0, 0, 0] m slices_S2x256x1024_S1x256x1024_0_0_0) shapeCasts_S1x256x1024_S256x1024 : FVec Ideal S256x1024 .f32)) (mulf (broadcastInDim S256x1024 ![] bcast_S_S256x1024 (constant S_ .f32 0x3DCCCCCD#32)) g) : FVec Ideal S256x1024 .f32)
    = Adam.means g (Adam.first m) := by
  funext y
  unfold Adam.means Adam.mean Adam.first
  clean_types
  idx_vars y
  pointwise

theorem ref7 (g : FVec Ideal S256x1024 .f32) (v : FVec Ideal S2x256x1024 .f32) :
    (addf (mulf (broadcastInDim S256x1024 ![] bcast_S_S256x1024 (constant S_ .f32 0x3F7FBE77#32)) (shapeCast _ (extractStridedSlice S1x256x1024 ![0, 0, 0] v slices_S2x256x1024_S1x256x1024_0_0_0) shapeCasts_S1x256x1024_S256x1024 : FVec Ideal S256x1024 .f32)) (mulf (broadcastInDim S256x1024 ![] bcast_S_S256x1024 (constant S_ .f32 0x3A83126F#32)) (mulf g g)) : FVec Ideal S256x1024 .f32)
    = Adam.squares g (Adam.first v) := by
  funext y
  unfold Adam.squares Adam.square Adam.first
  clean_types
  idx_vars y
  pointwise

theorem ref5 (w : FVec Ideal S2x256x1024 .f32) (g : FVec Ideal S256x1024 .f32) (m v : FVec Ideal S2x256x1024 .f32) :
    (mulf (broadcastInDim S256x1024 ![] bcast_S_S256x1024 (constant S_ .f32 0xBA83126F#32)) (addf (Host.divf (Host.divf (addf (mulf (broadcastInDim S256x1024 ![] bcast_S_S256x1024 (constant S_ .f32 0x3F666666#32)) (shapeCast _ (extractStridedSlice S1x256x1024 ![0, 0, 0] m slices_S2x256x1024_S1x256x1024_0_0_0) shapeCasts_S1x256x1024_S256x1024 : FVec Ideal S256x1024 .f32)) (mulf (broadcastInDim S256x1024 ![] bcast_S_S256x1024 (constant S_ .f32 0x3DCCCCCD#32)) g)) (broadcastInDim S256x1024 ![] bcast_S_S256x1024 (constant S_ .f32 0x3F26BD02#32)))
      (addf (Host.sqrt (Host.divf (addf (mulf (broadcastInDim S256x1024 ![] bcast_S_S256x1024 (constant S_ .f32 0x3F7FBE77#32)) (shapeCast _ (extractStridedSlice S1x256x1024 ![0, 0, 0] v slices_S2x256x1024_S1x256x1024_0_0_0) shapeCasts_S1x256x1024_S256x1024 : FVec Ideal S256x1024 .f32)) (mulf (broadcastInDim S256x1024 ![] bcast_S_S256x1024 (constant S_ .f32 0x3A83126F#32)) (mulf g g))) (broadcastInDim S256x1024 ![] bcast_S_S256x1024 (constant S_ .f32 0x3C231ACC#32)))) (broadcastInDim S256x1024 ![] bcast_S_S256x1024 (constant S_ .f32 0x322BCC77#32))))
      (mulf (broadcastInDim S256x1024 ![] bcast_S_S256x1024 (constant S_ .f32 0x3C23D70A#32)) (shapeCast _ (extractStridedSlice S1x256x1024 ![0, 0, 0] w slices_S2x256x1024_S1x256x1024_0_0_0) shapeCasts_S1x256x1024_S256x1024 : FVec Ideal S256x1024 .f32))) : FVec Ideal S256x1024 .f32)
    = Adam.steps (Adam.first w) g (Adam.first m) (Adam.first v) := by
  funext y
  unfold Adam.steps Adam.step Adam.mean Adam.square Adam.first
  clean_types
  idx_vars y
  pointwise

end

/-- The reference runs, keeps its arguments, and holds no semaphore. -/
theorem frameR : Cert.quiescent_AdamOutRefIdeal := fun m ρ _ =>
  (θ_run _ _ _).mono (fun r h => ⟨fun c => (h c).2.2.2.2, Idealize.ShloMosaic.sem_eq_zero_of_no_sems (by decide) r.2⟩)
    (Cert.AdamOutRefIdeal.Value.run m ρ)

/-- The kernel and the reference both end with the first layer's results in front of the second's. -/
theorem equal : Cert.algebraic_AdamOutIdeal_AdamOutRefIdeal := fun m ρ m' ρ' _ hag =>
  ⟨fun c => Adam.put (gA m c) (p4 m c), fun c => Adam.put (Adam.steps (Adam.first (wA m c)) (gA m c) (Adam.first (mA m c)) (Adam.first (vA m c))) (p5 m c),
    fun c => Adam.put (Adam.means (gA m c) (Adam.first (mA m c))) (p6 m c), fun c => Adam.put (Adam.squares (gA m c) (Adam.first (vA m c))) (p7 m c),
    (θ_run _ _ _).mono (fun _ h c => ⟨(h c).1.trans (val4 m c), (h c).2.1.trans (val5 m c), (h c).2.2.1.trans (val6 m c),
      (h c).2.2.2.1.trans (val7 m c), (h c).2.2.2.2⟩) (Cert.AdamOutIdeal.Value.run_blocks m ρ),
    (θ_run _ _ _).mono (fun _ h c => by
      have hw : wR m' c = wA m c := (hag c).1
      have hg : gR m' c = gA m c := (hag c).2.1
      have hm : mR m' c = mA m c := (hag c).2.2.1
      have hv : vR m' c = vA m c := (hag c).2.2.2.1
      have h4 : q4 m' c = p4 m c := (hag c).2.2.2.2.1
      have h5 : q5 m' c = p5 m c := (hag c).2.2.2.2.2.1
      have h6 : q6 m' c = p6 m c := (hag c).2.2.2.2.2.2.1
      have h7 : q7 m' c = p7 m c := (hag c).2.2.2.2.2.2.2
      refine ⟨(h c).1.trans ((stacked (gR m' c) (q4 m' c)).trans ?_),
        (h c).2.1.trans ((stacked _ (q5 m' c)).trans ((congrArg (Adam.put · (q5 m' c)) (ref5 (wR m' c) (gR m' c) (mR m' c) (vR m' c))).trans ?_)),
        (h c).2.2.1.trans ((stacked _ (q6 m' c)).trans ((congrArg (Adam.put · (q6 m' c)) (ref6 (gR m' c) (mR m' c))).trans ?_)),
        (h c).2.2.2.1.trans ((stacked _ (q7 m' c)).trans ((congrArg (Adam.put · (q7 m' c)) (ref7 (gR m' c) (vR m' c))).trans ?_)),
        (h c).2.2.2.2⟩
      · rw [hg, h4]
      · rw [hw, hg, hm, hv, h5]
      · rw [hg, hm, h6]
      · rw [hg, hv, h7]) (Cert.AdamOutRefIdeal.Value.run m' ρ')⟩

end Cert.Proof.AdamOut

end
-- ==== Proof.AdamMlp.lean ====
module

public import proofs.«01_k».proof.Defs
public import proofs.«01_k».proof.Proof.Gen.AdamMlpIdeal.Value
public import proofs.«01_k».proof.Proof.Gen.AdamMlpRefIdeal.Run
public import proofs.«01_k».proof.Proof.ProductSpec
public import proofs.«01_k».proof.Proof.AdamSpec
public import Idealize.ShloMosaic.Lib.Tactic.CleanTypes

/-!
The optimiser step of the first layer of one MLP weight.
-/

@[expose] public section

set_option maxRecDepth 16384

noncomputable section

open Idealize.ShloMosaic Idealize.ShloMosaic.TcCoe Idealize.SL.Sem
open Idealize.ShloMosaic.Pipeline (Dat)

namespace Cert.Proof.AdamMlp

section
open Cert.AdamMlpIdeal Cert.AdamMlpIdeal.Gen

variable (m : (ℓ : Loc nD τ sig) → Buf (Elt Ideal) ℓ)

abbrev wA (c : Dev nD) : Adam.Two 1024 1024 := m ((c : Thread nD τ).loc main_arg0)
abbrev gA (c : Dev nD) : Adam.One 1024 1024 := m ((c : Thread nD τ).loc main_arg1)
abbrev mA (c : Dev nD) : Adam.Two 1024 1024 := m ((c : Thread nD τ).loc main_arg2)
abbrev vA (c : Dev nD) : Adam.Two 1024 1024 := m ((c : Thread nD τ).loc main_arg3)
abbrev p4 (c : Dev nD) : Adam.Two 1024 1024 := m ((c : Thread nD τ).loc main_arg4)
abbrev p5 (c : Dev nD) : Adam.Two 1024 1024 := m ((c : Thread nD τ).loc main_arg5)
abbrev p6 (c : Dev nD) : Adam.Two 1024 1024 := m ((c : Thread nD τ).loc main_arg6)
abbrev p7 (c : Dev nD) : Adam.Two 1024 1024 := m ((c : Thread nD τ).loc main_arg7)

theorem lt (t : Fin cfg0.N) : t.val < 4 := lt_of_lt_of_eq t.isLt (show cfg0.N = 4 from N_0)

/-- Which block each window stages at a point. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] := by
  decide +kernel

theorem blk0 (c : Dev nD) (t : Fin cfg0.N) (r : Fin 256) (k : Fin 1024) :
    (iblk m c 0 t : FVec Ideal S1x256x1024 .f32) (ix3 0 r k) = Adam.first (wA m c) (ix2 ⟨t.val * 256 + r.val, by have := lt t; omega⟩ k) := by
  unfold Adam.first
  blk_point [iblk, V_main_arg0, idx t]
theorem blk2 (c : Dev nD) (t : Fin cfg0.N) (r : Fin 256) (k : Fin 1024) :
    (iblk m c 2 t : FVec Ideal S1x256x1024 .f32) (ix3 0 r k) = Adam.first (mA m c) (ix2 ⟨t.val * 256 + r.val, by have := lt t; omega⟩ k) := by
  unfold Adam.first
  blk_point [iblk, V_main_arg2, idx t]
theorem blk3 (c : Dev nD) (t : Fin cfg0.N) (r : Fin 256) (k : Fin 1024) :
    (iblk m c 3 t : FVec Ideal S1x256x1024 .f32) (ix3 0 r k) = Adam.first (vA m c) (ix2 ⟨t.val * 256 + r.val, by have := lt t; omega⟩ k) := by
  unfold Adam.first
  blk_point [iblk, V_main_arg3, idx t]
theorem blk1 (c : Dev nD) (t : Fin cfg0.N) (r : Fin 256) (k : Fin 1024) :
    (iblk m c 1 t : FVec Ideal S256x1024 .f32) (ix2 r k) = gA m c (ix2 ⟨t.val * 256 + r.val, by have := lt t; omega⟩ k) := by
  blk_point [iblk, V_main_arg1, idx t]

/-- The gradient itself: a point's block. -/
theorem body4 (c : Dev nD) (t : Fin cfg0.N) (r : Fin 256) (k : Fin 1024) :
    ((outsAt0 m c t).1 : FVec Ideal S1x256x1024 .f32) (ix3 0 r k)
      = ((iblk m c 1 t : FVec Ideal S256x1024 .f32) (ix2 r k)) := by
  unfold outsAt0
  frame_out
  unfold_payloads
  pointwise

theorem entry4 (c : Dev nD) : V m c main_v0_0 = p4 m c := by
  unfold V hostOps0
  after_results_simp
  rfl

theorem val4 (c : Dev nD) : ((dats m 0 c).arrAt 4 cfg0.N : FVec Ideal S2x1024x1024 .f32)
    = Adam.put (gA m c) (p4 m c) := by
  refine (dats m 0 c).arrAt_eq_of_coversWhere_of_agree 4 _ (fun β => β (0 : Fin _) = 0) (by decide +kernel)
    (fun t hf y => ?_) (fun j hj => ?_)
  · blk_simp [idx t]
    rw [after0_4]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body4 m c t r k).trans ?_
    have e : Adam.put (gA m c) (p4 m c)
        (ix3 0 ⟨t.val * 256 + r.val, by have := lt t; omega⟩ k) = (gA m c) (ix2 ⟨t.val * 256 + r.val, by have := lt t; omega⟩ k) := rfl
    refine Eq.trans (Eq.trans ?_ e.symm) (congrArg (Adam.put (gA m c) (p4 m c)) ?_)
    · exact blk1 m c t r k
    · have := lt t
      blk_ext [idx t]
  · blk_simp [Pipeline.Window.cell_apply] at hj
    refine (congrFun (entry4 m c) _).trans ?_
    have h0 : ¬(j 0).val = 0 := by rwa [Nat.div_one] at hj
    unfold Adam.put
    exact (if_neg h0).symm

/-- The step: a point's block. -/
theorem body5 (c : Dev nD) (t : Fin cfg0.N) (r : Fin 256) (k : Fin 1024) :
    ((outsAt0 m c t).2.1 : FVec Ideal S1x256x1024 .f32) (ix3 0 r k)
      = Adam.step ((iblk m c 0 t : FVec Ideal S1x256x1024 .f32) (ix3 0 r k)) ((iblk m c 1 t : FVec Ideal S256x1024 .f32) (ix2 r k)) ((iblk m c 2 t : FVec Ideal S1x256x1024 .f32) (ix3 0 r k)) ((iblk m c 3 t : FVec Ideal S1x256x1024 .f32) (ix3 0 r k)) := by
  unfold outsAt0
  frame_out
  unfold_payloads
  unfold Adam.step Adam.mean Adam.square
  pointwise

theorem entry5 (c : Dev nD) : V m c main_v0_1 = p5 m c := by
  unfold V hostOps0
  after_results_simp
  rfl

theorem val5 (c : Dev nD) : ((dats m 0 c).arrAt 5 cfg0.N : FVec Ideal S2x1024x1024 .f32)
    = Adam.put (Adam.steps (Adam.first (wA m c)) (gA m c) (Adam.first (mA m c)) (Adam.first (vA m c))) (p5 m c) := by
  refine (dats m 0 c).arrAt_eq_of_coversWhere_of_agree 5 _ (fun β => β (0 : Fin _) = 0) (by decide +kernel)
    (fun t hf y => ?_) (fun j hj => ?_)
  · blk_simp [idx t]
    rw [after0_5]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body5 m c t r k).trans ?_
    have e : Adam.put (Adam.steps (Adam.first (wA m c)) (gA m c) (Adam.first (mA m c)) (Adam.first (vA m c))) (p5 m c)
        (ix3 0 ⟨t.val * 256 + r.val, by have := lt t; omega⟩ k) = (Adam.steps (Adam.first (wA m c)) (gA m c) (Adam.first (mA m c)) (Adam.first (vA m c))) (ix2 ⟨t.val * 256 + r.val, by have := lt t; omega⟩ k) := rfl
    refine Eq.trans (Eq.trans ?_ e.symm) (congrArg (Adam.put (Adam.steps (Adam.first (wA m c)) (gA m c) (Adam.first (mA m c)) (Adam.first (vA m c))) (p5 m c)) ?_)
    · exact congr (congr (congrArg₂ Adam.step (blk0 m c t r k) (blk1 m c t r k)) (blk2 m c t r k)) (blk3 m c t r k)
    · have := lt t
      blk_ext [idx t]
  · blk_simp [Pipeline.Window.cell_apply] at hj
    refine (congrFun (entry5 m c) _).trans ?_
    have h0 : ¬(j 0).val = 0 := by rwa [Nat.div_one] at hj
    unfold Adam.put
    exact (if_neg h0).symm

/-- The new mean: a point's block. -/
theorem body6 (c : Dev nD) (t : Fin cfg0.N) (r : Fin 256) (k : Fin 1024) :
    ((outsAt0 m c t).2.2.1 : FVec Ideal S1x256x1024 .f32) (ix3 0 r k)
      = Adam.mean ((iblk m c 1 t : FVec Ideal S256x1024 .f32) (ix2 r k)) ((iblk m c 2 t : FVec Ideal S1x256x1024 .f32) (ix3 0 r k)) := by
  unfold outsAt0
  frame_out
  unfold_payloads
  unfold Adam.mean
  pointwise

theorem entry6 (c : Dev nD) : V m c main_v0_2 = p6 m c := by
  unfold V hostOps0
  after_results_simp
  rfl

theorem val6 (c : Dev nD) : ((dats m 0 c).arrAt 6 cfg0.N : FVec Ideal S2x1024x1024 .f32)
    = Adam.put (Adam.means (gA m c) (Adam.first (mA m c))) (p6 m c) := by
  refine (dats m 0 c).arrAt_eq_of_coversWhere_of_agree 6 _ (fun β => β (0 : Fin _) = 0) (by decide +kernel)
    (fun t hf y => ?_) (fun j hj => ?_)
  · blk_simp [idx t]
    rw [after0_6]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body6 m c t r k).trans ?_
    have e : Adam.put (Adam.means (gA m c) (Adam.first (mA m c))) (p6 m c)
        (ix3 0 ⟨t.val * 256 + r.val, by have := lt t; omega⟩ k) = (Adam.means (gA m c) (Adam.first (mA m c))) (ix2 ⟨t.val * 256 + r.val, by have := lt t; omega⟩ k) := rfl
    refine Eq.trans (Eq.trans ?_ e.symm) (congrArg (Adam.put (Adam.means (gA m c) (Adam.first (mA m c))) (p6 m c)) ?_)
    · exact congrArg₂ Adam.mean (blk1 m c t r k) (blk2 m c t r k)
    · have := lt t
      blk_ext [idx t]
  · blk_simp [Pipeline.Window.cell_apply] at hj
    refine (congrFun (entry6 m c) _).trans ?_
    have h0 : ¬(j 0).val = 0 := by rwa [Nat.div_one] at hj
    unfold Adam.put
    exact (if_neg h0).symm

/-- The new square: a point's block. -/
theorem body7 (c : Dev nD) (t : Fin cfg0.N) (r : Fin 256) (k : Fin 1024) :
    ((outsAt0 m c t).2.2.2 : FVec Ideal S1x256x1024 .f32) (ix3 0 r k)
      = Adam.square ((iblk m c 1 t : FVec Ideal S256x1024 .f32) (ix2 r k)) ((iblk m c 3 t : FVec Ideal S1x256x1024 .f32) (ix3 0 r k)) := by
  unfold outsAt0
  frame_out
  unfold_payloads
  unfold Adam.square
  pointwise

theorem entry7 (c : Dev nD) : V m c main_v0_3 = p7 m c := by
  unfold V hostOps0
  after_results_simp
  rfl

theorem val7 (c : Dev nD) : ((dats m 0 c).arrAt 7 cfg0.N : FVec Ideal S2x1024x1024 .f32)
    = Adam.put (Adam.squares (gA m c) (Adam.first (vA m c))) (p7 m c) := by
  refine (dats m 0 c).arrAt_eq_of_coversWhere_of_agree 7 _ (fun β => β (0 : Fin _) = 0) (by decide +kernel)
    (fun t hf y => ?_) (fun j hj => ?_)
  · blk_simp [idx t]
    rw [after0_7]
    obtain ⟨q, r, k, rfl⟩ : ∃ (q : Fin 1) (r : Fin 256) (k : Fin 1024), y = ix3 q r k := ⟨y 0, y 1, y 2, by funext a; fin_cases a <;> rfl⟩
    obtain rfl : q = 0 := Fin.eq_zero q
    refine (body7 m c t r k).trans ?_
    have e : Adam.put (Adam.squares (gA m c) (Adam.first (vA m c))) (p7 m c)
        (ix3 0 ⟨t.val * 256 + r.val, by have := lt t; omega⟩ k) = (Adam.squares (gA m c) (Adam.first (vA m c))) (ix2 ⟨t.val * 256 + r.val, by have := lt t; omega⟩ k) := rfl
    refine Eq.trans (Eq.trans ?_ e.symm) (congrArg (Adam.put (Adam.squares (gA m c) (Adam.first (vA m c))) (p7 m c)) ?_)
    · exact congrArg₂ Adam.square (blk1 m c t r k) (blk3 m c t r k)
    · have := lt t
      blk_ext [idx t]
  · blk_simp [Pipeline.Window.cell_apply] at hj
    refine (congrFun (entry7 m c) _).trans ?_
    have h0 : ¬(j 0).val = 0 := by rwa [Nat.div_one] at hj
    unfold Adam.put
    exact (if_neg h0).symm

end

section
open Cert.AdamMlpRefIdeal Cert.AdamMlpRefIdeal.Gen

variable (m : (ℓ : Loc nD τ sig) → Buf (Elt Ideal) ℓ)

abbrev wR (c : Dev nD) : Adam.Two 1024 1024 := m ((c : Thread nD τ).loc main_arg0)
abbrev gR (c : Dev nD) : Adam.One 1024 1024 := m ((c : Thread nD τ).loc main_arg1)
abbrev mR (c : Dev nD) : Adam.Two 1024 1024 := m ((c : Thread nD τ).loc main_arg2)
abbrev vR (c : Dev nD) : Adam.Two 1024 1024 := m ((c : Thread nD τ).loc main_arg3)
abbrev q4 (c : Dev nD) : Adam.Two 1024 1024 := m ((c : Thread nD τ).loc main_arg4)
abbrev q5 (c : Dev nD) : Adam.Two 1024 1024 := m ((c : Thread nD τ).loc main_arg5)
abbrev q6 (c : Dev nD) : Adam.Two 1024 1024 := m ((c : Thread nD τ).loc main_arg6)
abbrev q7 (c : Dev nD) : Adam.Two 1024 1024 := m ((c : Thread nD τ).loc main_arg7)

/-- The two layers the reference stacks. -/
theorem stacked (f : FVec Ideal S1024x1024 .f32) (p : FVec Ideal S2x1024x1024 .f32) :
    (concatenate S2x1024x1024 0 [⟨S1x1024x1024, (broadcastInDim S1x1024x1024 ![1, 2] bcast_S1024x1024_S1x1024x1024_1_2 (f))⟩,
      ⟨S1x1024x1024, (broadcastInDim S1x1024x1024 ![1, 2] bcast_S1024x1024_S1x1024x1024_1_2 (shapeCast _ (extractStridedSlice S1x1024x1024 ![1, 0, 0] p slices_S2x1024x1024_S1x1024x1024_1_0_0) shapeCasts_S1x1024x1024_S1024x1024 : FVec Ideal S1024x1024 .f32))⟩] concatenates_S1x1024x1024_S1x1024x1024_S2x1024x1024_d0 : FVec Ideal S2x1024x1024 .f32) = Adam.put f p := by
  funext y
  unfold Adam.put
  clean_types
  obtain ⟨q, r, k, rfl⟩ : ∃ (q : Fin 2) (r : Fin 1024) (k : Fin 1024), y = ix3 q r k := ⟨y 0, y 1, y 2, by funext a; fin_cases a <;> rfl⟩
  obtain rfl | rfl : q = 0 ∨ q = 1 := by omega
  · pointwise
  · pointwise

/-- The reference's step, new mean and new square of the first layer. -/
theorem ref6 (g : FVec Ideal S1024x1024 .f32) (m : FVec Ideal S2x1024x1024 .f32) :
    (addf (mulf (broadcastInDim S1024x1024 ![] bcast_S_S1024x1024 (constant S_ .f32 0x3F666666#32)) (shapeCast _ (extractStridedSlice S1x1024x1024 ![0, 0, 0] m slices_S2x1024x1024_S1x1024x1024_0_0_0) shapeCasts_S1x1024x1024_S1024x1024 : FVec Ideal S1024x1024 .f32)) (mulf (broadcastInDim S1024x1024 ![] bcast_S_S1024x1024 (constant S_ .f32 0x3DCCCCCD#32)) g) : FVec Ideal S1024x1024 .f32)
    = Adam.means g (Adam.first m) := by
  funext y
  unfold Adam.means Adam.mean Adam.first
  clean_types
  idx_vars y
  pointwise

theorem ref7 (g : FVec Ideal S1024x1024 .f32) (v : FVec Ideal S2x1024x1024 .f32) :
    (addf (mulf (broadcastInDim S1024x1024 ![] bcast_S_S1024x1024 (constant S_ .f32 0x3F7FBE77#32)) (shapeCast _ (extractStridedSlice S1x1024x1024 ![0, 0, 0] v slices_S2x1024x1024_S1x1024x1024_0_0_0) shapeCasts_S1x1024x1024_S1024x1024 : FVec Ideal S1024x1024 .f32)) (mulf (broadcastInDim S1024x1024 ![] bcast_S_S1024x1024 (constant S_ .f32 0x3A83126F#32)) (mulf g g)) : FVec Ideal S1024x1024 .f32)
    = Adam.squares g (Adam.first v) := by
  funext y
  unfold Adam.squares Adam.square Adam.first
  clean_types
  idx_vars y
  pointwise

theorem ref5 (w : FVec Ideal S2x1024x1024 .f32) (g : FVec Ideal S1024x1024 .f32) (m v : FVec Ideal S2x1024x1024 .f32) :
    (mulf (broadcastInDim S1024x1024 ![] bcast_S_S1024x1024 (constant S_ .f32 0xBA83126F#32)) (addf (Host.divf (Host.divf (addf (mulf (broadcastInDim S1024x1024 ![] bcast_S_S1024x1024 (constant S_ .f32 0x3F666666#32)) (shapeCast _ (extractStridedSlice S1x1024x1024 ![0, 0, 0] m slices_S2x1024x1024_S1x1024x1024_0_0_0) shapeCasts_S1x1024x1024_S1024x1024 : FVec Ideal S1024x1024 .f32)) (mulf (broadcastInDim S1024x1024 ![] bcast_S_S1024x1024 (constant S_ .f32 0x3DCCCCCD#32)) g)) (broadcastInDim S1024x1024 ![] bcast_S_S1024x1024 (constant S_ .f32 0x3F26BD02#32)))
      (addf (Host.sqrt (Host.divf (addf (mulf (broadcastInDim S1024x1024 ![] bcast_S_S1024x1024 (constant S_ .f32 0x3F7FBE77#32)) (shapeCast _ (extractStridedSlice S1x1024x1024 ![0, 0, 0] v slices_S2x1024x1024_S1x1024x1024_0_0_0) shapeCasts_S1x1024x1024_S1024x1024 : FVec Ideal S1024x1024 .f32)) (mulf (broadcastInDim S1024x1024 ![] bcast_S_S1024x1024 (constant S_ .f32 0x3A83126F#32)) (mulf g g))) (broadcastInDim S1024x1024 ![] bcast_S_S1024x1024 (constant S_ .f32 0x3C231ACC#32)))) (broadcastInDim S1024x1024 ![] bcast_S_S1024x1024 (constant S_ .f32 0x322BCC77#32))))
      (mulf (broadcastInDim S1024x1024 ![] bcast_S_S1024x1024 (constant S_ .f32 0x3C23D70A#32)) (shapeCast _ (extractStridedSlice S1x1024x1024 ![0, 0, 0] w slices_S2x1024x1024_S1x1024x1024_0_0_0) shapeCasts_S1x1024x1024_S1024x1024 : FVec Ideal S1024x1024 .f32))) : FVec Ideal S1024x1024 .f32)
    = Adam.steps (Adam.first w) g (Adam.first m) (Adam.first v) := by
  funext y
  unfold Adam.steps Adam.step Adam.mean Adam.square Adam.first
  clean_types
  idx_vars y
  pointwise

end

/-- The reference runs, keeps its arguments, and holds no semaphore. -/
theorem frameR : Cert.quiescent_AdamMlpRefIdeal := fun m ρ _ =>
  (θ_run _ _ _).mono (fun r h => ⟨fun c => (h c).2.2.2.2, Idealize.ShloMosaic.sem_eq_zero_of_no_sems (by decide) r.2⟩)
    (Cert.AdamMlpRefIdeal.Value.run m ρ)

/-- The kernel and the reference both end with the first layer's results in front of the second's. -/
theorem equal : Cert.algebraic_AdamMlpIdeal_AdamMlpRefIdeal := fun m ρ m' ρ' _ hag =>
  ⟨fun c => Adam.put (gA m c) (p4 m c), fun c => Adam.put (Adam.steps (Adam.first (wA m c)) (gA m c) (Adam.first (mA m c)) (Adam.first (vA m c))) (p5 m c),
    fun c => Adam.put (Adam.means (gA m c) (Adam.first (mA m c))) (p6 m c), fun c => Adam.put (Adam.squares (gA m c) (Adam.first (vA m c))) (p7 m c),
    (θ_run _ _ _).mono (fun _ h c => ⟨(h c).1.trans (val4 m c), (h c).2.1.trans (val5 m c), (h c).2.2.1.trans (val6 m c),
      (h c).2.2.2.1.trans (val7 m c), (h c).2.2.2.2⟩) (Cert.AdamMlpIdeal.Value.run_blocks m ρ),
    (θ_run _ _ _).mono (fun _ h c => by
      have hw : wR m' c = wA m c := (hag c).1
      have hg : gR m' c = gA m c := (hag c).2.1
      have hm : mR m' c = mA m c := (hag c).2.2.1
      have hv : vR m' c = vA m c := (hag c).2.2.2.1
      have h4 : q4 m' c = p4 m c := (hag c).2.2.2.2.1
      have h5 : q5 m' c = p5 m c := (hag c).2.2.2.2.2.1
      have h6 : q6 m' c = p6 m c := (hag c).2.2.2.2.2.2.1
      have h7 : q7 m' c = p7 m c := (hag c).2.2.2.2.2.2.2
      refine ⟨(h c).1.trans ((stacked (gR m' c) (q4 m' c)).trans ?_),
        (h c).2.1.trans ((stacked _ (q5 m' c)).trans ((congrArg (Adam.put · (q5 m' c)) (ref5 (wR m' c) (gR m' c) (mR m' c) (vR m' c))).trans ?_)),
        (h c).2.2.1.trans ((stacked _ (q6 m' c)).trans ((congrArg (Adam.put · (q6 m' c)) (ref6 (gR m' c) (mR m' c))).trans ?_)),
        (h c).2.2.2.1.trans ((stacked _ (q7 m' c)).trans ((congrArg (Adam.put · (q7 m' c)) (ref7 (gR m' c) (vR m' c))).trans ?_)),
        (h c).2.2.2.2⟩
      · rw [hg, h4]
      · rw [hw, hg, hm, hv, h5]
      · rw [hg, hm, h6]
      · rw [hg, hv, h7]) (Cert.AdamMlpRefIdeal.Value.run m' ρ')⟩

end Cert.Proof.AdamMlp

end
-- ==== Proof.AdamMod.lean ====
module

public import proofs.«01_k».proof.Defs
public import proofs.«01_k».proof.Proof.Gen.AdamModIdeal.Value
public import proofs.«01_k».proof.Proof.Gen.AdamModRefIdeal.Run
public import proofs.«01_k».proof.Proof.ProductSpec
public import Idealize.ShloMosaic.Lib.Tactic.CleanTypes

/-!
The optimiser step of the modulation weights.
-/

@[expose] public section

set_option maxRecDepth 16384

noncomputable section

open Idealize.ShloMosaic Idealize.ShloMosaic.TcCoe Idealize.SL.Sem
open Idealize.ShloMosaic.Pipeline (Dat)

namespace Cert.Proof.AdamMod

section
open Cert.AdamModRefIdeal Cert.AdamModRefIdeal.Gen

/-- The reference's step, new mean and new square. -/
theorem ref4 (w g m v : FVec Ideal (⟨2, ![2048, 1536]⟩ : Shape) .f32) : (mulf (broadcastInDim S2048x1536 ![] bcast_S_S2048x1536 (constant S_ .f32 0xBA83126F#32)) (addf (Host.divf (Host.divf (addf (mulf (broadcastInDim S2048x1536 ![] bcast_S_S2048x1536 (constant S_ .f32 0x3F666666#32)) m) (mulf (broadcastInDim S2048x1536 ![] bcast_S_S2048x1536 (constant S_ .f32 0x3DCCCCCD#32)) g)) (broadcastInDim S2048x1536 ![] bcast_S_S2048x1536 (constant S_ .f32 0x3F26BD02#32)))
      (addf (Host.sqrt (Host.divf (addf (mulf (broadcastInDim S2048x1536 ![] bcast_S_S2048x1536 (constant S_ .f32 0x3F7FBE77#32)) v) (mulf (broadcastInDim S2048x1536 ![] bcast_S_S2048x1536 (constant S_ .f32 0x3A83126F#32)) (mulf g g))) (broadcastInDim S2048x1536 ![] bcast_S_S2048x1536 (constant S_ .f32 0x3C231ACC#32)))) (broadcastInDim S2048x1536 ![] bcast_S_S2048x1536 (constant S_ .f32 0x322BCC77#32))))
      (mulf (broadcastInDim S2048x1536 ![] bcast_S_S2048x1536 (constant S_ .f32 0x3C23D70A#32)) w)) : FVec Ideal (⟨2, ![2048, 1536]⟩ : Shape) .f32)
    = Cert.AdamModIdeal.Value.G4 (F := Ideal) w g m v := by
  funext y
  clean_types
  pointwise

theorem ref5 (g m : FVec Ideal (⟨2, ![2048, 1536]⟩ : Shape) .f32) : (addf (mulf (broadcastInDim S2048x1536 ![] bcast_S_S2048x1536 (constant S_ .f32 0x3F666666#32)) m) (mulf (broadcastInDim S2048x1536 ![] bcast_S_S2048x1536 (constant S_ .f32 0x3DCCCCCD#32)) g) : FVec Ideal (⟨2, ![2048, 1536]⟩ : Shape) .f32)
    = Cert.AdamModIdeal.Value.G5 (F := Ideal) g m := by
  funext y
  clean_types
  pointwise

theorem ref6 (g v : FVec Ideal (⟨2, ![2048, 1536]⟩ : Shape) .f32) : (addf (mulf (broadcastInDim S2048x1536 ![] bcast_S_S2048x1536 (constant S_ .f32 0x3F7FBE77#32)) v) (mulf (broadcastInDim S2048x1536 ![] bcast_S_S2048x1536 (constant S_ .f32 0x3A83126F#32)) (mulf g g)) : FVec Ideal (⟨2, ![2048, 1536]⟩ : Shape) .f32)
    = Cert.AdamModIdeal.Value.G6 (F := Ideal) g v := by
  funext y
  clean_types
  pointwise

end

/-- The reference runs, keeps its arguments, and holds no semaphore. -/
theorem frameR : Cert.quiescent_AdamModRefIdeal := fun m ρ _ =>
  (θ_run _ _ _).mono (fun r h => ⟨fun c => (h c).2.2.2, Idealize.ShloMosaic.sem_eq_zero_of_no_sems (by decide) r.2⟩)
    (Cert.AdamModRefIdeal.Value.run m ρ)

section
variable (m : (ℓ : Loc Cert.AdamModIdeal.nD Cert.AdamModIdeal.τ Cert.AdamModIdeal.sig) → Buf (Elt Ideal) ℓ)
open Cert.AdamModIdeal
abbrev wA (c : Dev nD) : FVec Ideal (⟨2, ![2048, 1536]⟩ : Shape) .f32 := m ((c : Thread nD τ).loc main_arg0)
abbrev gA (c : Dev nD) : FVec Ideal (⟨2, ![2048, 1536]⟩ : Shape) .f32 := m ((c : Thread nD τ).loc main_arg1)
abbrev mA (c : Dev nD) : FVec Ideal (⟨2, ![2048, 1536]⟩ : Shape) .f32 := m ((c : Thread nD τ).loc main_arg2)
abbrev vA (c : Dev nD) : FVec Ideal (⟨2, ![2048, 1536]⟩ : Shape) .f32 := m ((c : Thread nD τ).loc main_arg3)
end

section
variable (m : (ℓ : Loc Cert.AdamModRefIdeal.nD Cert.AdamModRefIdeal.τ Cert.AdamModRefIdeal.sig) → Buf (Elt Ideal) ℓ)
open Cert.AdamModRefIdeal
abbrev wR (c : Dev nD) : FVec Ideal (⟨2, ![2048, 1536]⟩ : Shape) .f32 := m ((c : Thread nD τ).loc main_arg0)
abbrev gR (c : Dev nD) : FVec Ideal (⟨2, ![2048, 1536]⟩ : Shape) .f32 := m ((c : Thread nD τ).loc main_arg1)
abbrev mR (c : Dev nD) : FVec Ideal (⟨2, ![2048, 1536]⟩ : Shape) .f32 := m ((c : Thread nD τ).loc main_arg2)
abbrev vR (c : Dev nD) : FVec Ideal (⟨2, ![2048, 1536]⟩ : Shape) .f32 := m ((c : Thread nD τ).loc main_arg3)
end

/-- The kernel and the reference both end with the step and the new averages. -/
theorem equal : Cert.algebraic_AdamModIdeal_AdamModRefIdeal := fun m ρ m' ρ' _ hag =>
  ⟨fun c => Cert.AdamModIdeal.Value.G4 (F := Ideal) (wA m c) (gA m c) (mA m c) (vA m c),
    fun c => Cert.AdamModIdeal.Value.G5 (F := Ideal) (gA m c) (mA m c), fun c => Cert.AdamModIdeal.Value.G6 (F := Ideal) (gA m c) (vA m c),
    Cert.AdamModIdeal.Value.run m ρ,
    (θ_run _ _ _).mono (fun _ h c => by
      have hw : wR m' c = wA m c := (hag c).1
      have hg : gR m' c = gA m c := (hag c).2.1
      have hm : mR m' c = mA m c := (hag c).2.2.1
      have hv : vR m' c = vA m c := (hag c).2.2.2
      refine ⟨(h c).1.trans ((ref4 (wR m' c) (gR m' c) (mR m' c) (vR m' c)).trans ?_),
        (h c).2.1.trans ((ref5 (gR m' c) (mR m' c)).trans ?_), (h c).2.2.1.trans ((ref6 (gR m' c) (vR m' c)).trans ?_), (h c).2.2.2⟩
      · rw [hw, hg, hm, hv]
      · rw [hg, hm]
      · rw [hg, hv]) (Cert.AdamModRefIdeal.Value.run m' ρ')⟩

end Cert.Proof.AdamMod

end
-- ==== Proof.AdamSmall.lean ====
module

public import proofs.«01_k».proof.Defs
public import proofs.«01_k».proof.Proof.Gen.AdamSmallIdeal.Value
public import proofs.«01_k».proof.Proof.Gen.AdamSmallRefIdeal.Run
public import proofs.«01_k».proof.Proof.ProductSpec
public import Idealize.ShloMosaic.Lib.Tactic.CleanTypes

/-!
The optimiser step of the small parameters, packed together.
-/

@[expose] public section

set_option maxRecDepth 16384

noncomputable section

open Idealize.ShloMosaic Idealize.ShloMosaic.TcCoe Idealize.SL.Sem
open Idealize.ShloMosaic.Pipeline (Dat)

namespace Cert.Proof.AdamSmall

section
open Cert.AdamSmallRefIdeal Cert.AdamSmallRefIdeal.Gen

/-- The reference's step, new mean and new square. -/
theorem ref4 (w g m v : FVec Ideal (⟨2, ![280, 128]⟩ : Shape) .f32) : (mulf (broadcastInDim S280x128 ![] bcast_S_S280x128 (constant S_ .f32 0xBA83126F#32)) (addf (Host.divf (Host.divf (addf (mulf (broadcastInDim S280x128 ![] bcast_S_S280x128 (constant S_ .f32 0x3F666666#32)) m) (mulf (broadcastInDim S280x128 ![] bcast_S_S280x128 (constant S_ .f32 0x3DCCCCCD#32)) g)) (broadcastInDim S280x128 ![] bcast_S_S280x128 (constant S_ .f32 0x3F26BD02#32)))
      (addf (Host.sqrt (Host.divf (addf (mulf (broadcastInDim S280x128 ![] bcast_S_S280x128 (constant S_ .f32 0x3F7FBE77#32)) v) (mulf (broadcastInDim S280x128 ![] bcast_S_S280x128 (constant S_ .f32 0x3A83126F#32)) (mulf g g))) (broadcastInDim S280x128 ![] bcast_S_S280x128 (constant S_ .f32 0x3C231ACC#32)))) (broadcastInDim S280x128 ![] bcast_S_S280x128 (constant S_ .f32 0x322BCC77#32))))
      (mulf (broadcastInDim S280x128 ![] bcast_S_S280x128 (constant S_ .f32 0x3C23D70A#32)) w)) : FVec Ideal (⟨2, ![280, 128]⟩ : Shape) .f32)
    = Cert.AdamSmallIdeal.Value.G4 (F := Ideal) w g m v := by
  funext y
  clean_types
  pointwise

theorem ref5 (g m : FVec Ideal (⟨2, ![280, 128]⟩ : Shape) .f32) : (addf (mulf (broadcastInDim S280x128 ![] bcast_S_S280x128 (constant S_ .f32 0x3F666666#32)) m) (mulf (broadcastInDim S280x128 ![] bcast_S_S280x128 (constant S_ .f32 0x3DCCCCCD#32)) g) : FVec Ideal (⟨2, ![280, 128]⟩ : Shape) .f32)
    = Cert.AdamSmallIdeal.Value.G5 (F := Ideal) g m := by
  funext y
  clean_types
  pointwise

theorem ref6 (g v : FVec Ideal (⟨2, ![280, 128]⟩ : Shape) .f32) : (addf (mulf (broadcastInDim S280x128 ![] bcast_S_S280x128 (constant S_ .f32 0x3F7FBE77#32)) v) (mulf (broadcastInDim S280x128 ![] bcast_S_S280x128 (constant S_ .f32 0x3A83126F#32)) (mulf g g)) : FVec Ideal (⟨2, ![280, 128]⟩ : Shape) .f32)
    = Cert.AdamSmallIdeal.Value.G6 (F := Ideal) g v := by
  funext y
  clean_types
  pointwise

end

/-- The reference runs, keeps its arguments, and holds no semaphore. -/
theorem frameR : Cert.quiescent_AdamSmallRefIdeal := fun m ρ _ =>
  (θ_run _ _ _).mono (fun r h => ⟨fun c => (h c).2.2.2, Idealize.ShloMosaic.sem_eq_zero_of_no_sems (by decide) r.2⟩)
    (Cert.AdamSmallRefIdeal.Value.run m ρ)

section
variable (m : (ℓ : Loc Cert.AdamSmallIdeal.nD Cert.AdamSmallIdeal.τ Cert.AdamSmallIdeal.sig) → Buf (Elt Ideal) ℓ)
open Cert.AdamSmallIdeal
abbrev wA (c : Dev nD) : FVec Ideal (⟨2, ![280, 128]⟩ : Shape) .f32 := m ((c : Thread nD τ).loc main_arg0)
abbrev gA (c : Dev nD) : FVec Ideal (⟨2, ![280, 128]⟩ : Shape) .f32 := m ((c : Thread nD τ).loc main_arg1)
abbrev mA (c : Dev nD) : FVec Ideal (⟨2, ![280, 128]⟩ : Shape) .f32 := m ((c : Thread nD τ).loc main_arg2)
abbrev vA (c : Dev nD) : FVec Ideal (⟨2, ![280, 128]⟩ : Shape) .f32 := m ((c : Thread nD τ).loc main_arg3)
end

section
variable (m : (ℓ : Loc Cert.AdamSmallRefIdeal.nD Cert.AdamSmallRefIdeal.τ Cert.AdamSmallRefIdeal.sig) → Buf (Elt Ideal) ℓ)
open Cert.AdamSmallRefIdeal
abbrev wR (c : Dev nD) : FVec Ideal (⟨2, ![280, 128]⟩ : Shape) .f32 := m ((c : Thread nD τ).loc main_arg0)
abbrev gR (c : Dev nD) : FVec Ideal (⟨2, ![280, 128]⟩ : Shape) .f32 := m ((c : Thread nD τ).loc main_arg1)
abbrev mR (c : Dev nD) : FVec Ideal (⟨2, ![280, 128]⟩ : Shape) .f32 := m ((c : Thread nD τ).loc main_arg2)
abbrev vR (c : Dev nD) : FVec Ideal (⟨2, ![280, 128]⟩ : Shape) .f32 := m ((c : Thread nD τ).loc main_arg3)
end

/-- The kernel and the reference both end with the step and the new averages. -/
theorem equal : Cert.algebraic_AdamSmallIdeal_AdamSmallRefIdeal := fun m ρ m' ρ' _ hag =>
  ⟨fun c => Cert.AdamSmallIdeal.Value.G4 (F := Ideal) (wA m c) (gA m c) (mA m c) (vA m c),
    fun c => Cert.AdamSmallIdeal.Value.G5 (F := Ideal) (gA m c) (mA m c), fun c => Cert.AdamSmallIdeal.Value.G6 (F := Ideal) (gA m c) (vA m c),
    Cert.AdamSmallIdeal.Value.run m ρ,
    (θ_run _ _ _).mono (fun _ h c => by
      have hw : wR m' c = wA m c := (hag c).1
      have hg : gR m' c = gA m c := (hag c).2.1
      have hm : mR m' c = mA m c := (hag c).2.2.1
      have hv : vR m' c = vA m c := (hag c).2.2.2
      refine ⟨(h c).1.trans ((ref4 (wR m' c) (gR m' c) (mR m' c) (vR m' c)).trans ?_),
        (h c).2.1.trans ((ref5 (gR m' c) (mR m' c)).trans ?_), (h c).2.2.1.trans ((ref6 (gR m' c) (vR m' c)).trans ?_), (h c).2.2.2⟩
      · rw [hw, hg, hm, hv]
      · rw [hg, hm]
      · rw [hg, hv]) (Cert.AdamSmallRefIdeal.Value.run m' ρ')⟩

end Cert.Proof.AdamSmall

end
-- ==== Proof.RowSpec.lean ====
module

public import proofs.«01_k».proof.Defs
public import proofs.«01_k».proof.Proof.ProductSpec

/-!
The row operations: the norms of a row, their gradients, and the gated sum, written index by index.
-/

@[expose] public section

noncomputable section

open Idealize.ShloMosaic

namespace Cert.Row

open Product (Arr)

/-- A row's number of elements, as the float that divides its sum. -/
class Len (n : ℕ) where
  len : Ideal .f32
instance len1024 : Len 1024 := ⟨Scalar.ofBits .f32 0x44800000#32⟩
instance len512 : Len 512 := ⟨Scalar.ofBits .f32 0x44000000#32⟩

variable {M D : ℕ}

/-- The column sums, as one row. -/
def columns (x : Arr M D) : Arr 1 D := fun y => ∑ r : Fin M, x (ix2 r (y 1))

/-- The mean of a row's numbers. -/
def mean [Len D] (x : Fin D → Ideal .f32) : Ideal .f32 := FloatOps.divf (∑ k : Fin D, x k) (Len.len D)

/-- The mean square of a row plus the small constant. -/
def power [Len D] (x : Arr M D) (r : Fin M) : Ideal .f32 :=
  mean (fun k : Fin D => x (ix2 r k) * x (ix2 r k)) + Scalar.ofBits (F := Ideal) .f32 0x358637BD#32

/-- The row's scale: one over the root of its mean square. -/
def scale [Len D] (x : Arr M D) (r : Fin M) : Ideal .f32 := FloatOps.rsqrt (power x r)

/-- A row over the root of its mean square. -/
def unit [Len D] (x : Arr M D) : Arr M D := fun y => x y * scale x (y 0)

/-- The factor of the modulation: one plus the scale. -/
def factor (sc : Arr 1 D) (k : Fin D) : Ideal .f32 := Scalar.ofBits (F := Ideal) .f32 0x3F800000#32 + sc (ix2 0 k)

/-- The norm with its gain, modulated. -/
def modulated [Len D] (x : Arr M D) (g sc sh : Arr 1 D) : Arr M D := fun y =>
  unit x y * g (ix2 0 (y 1)) * factor sc (y 1) + sh (ix2 0 (y 1))

/-- A tile of 512 rows. -/
def tile (X : Arr 4096 D) (t : ℕ) (h : t < 8) : Arr 512 D := fun y =>
  X (ix2 ⟨t * 512 + (y 0).val, by have : (y 0).val < 512 := (y 0).isLt; omega⟩ (y 1))

/-- The column sums of the eight tiles add up to those of the whole array. -/
theorem columns_tiles {n : ℕ} (hn : n = 8) (X : Arr 4096 D) (h : ∀ t : Fin n, t.val < 8) (y : (⟨2, ![1, D]⟩ : Shape).Idx) :
    ∑ t : Fin n, columns (tile X t.val (h t)) y = columns X y := by
  subst hn
  unfold columns tile
  exact Fin.sum_mul_add_congr (fun t k hl => rfl) rfl

/-- The gradient of `modulated` with respect to the norm's result, of the cotangent `dh`. -/
def dUnit (g sc : Arr 1 D) (dh : Arr M D) : Arr M D := fun y => dh y * factor sc (y 1) * g (ix2 0 (y 1))

/-- What a row's mean square gets. -/
def dPower [Len D] (x dn : Arr M D) (r : Fin M) : Ideal .f32 :=
  FloatOps.divf ((∑ k : Fin D, x (ix2 r k) * dn (ix2 r k)) * (Scalar.ofBits (F := Ideal) .f32 0xBF000000#32
    * FloatOps.divf (F := Ideal) (φ := .f32) (scale x r) (power x r))) (Len.len D)

/-- The gradient of the norm with respect to the row: through the product with the scale, and twice through the square. -/
def dRow [Len D] (x dn : Arr M D) : Arr M D := fun y =>
  dn y * scale x (y 0) + (x y * dPower x dn (y 0) + dPower x dn (y 0) * x y)

/-- The gradient with respect to the gain, row by row. -/
def dGain [Len D] (x : Arr M D) (sc : Arr 1 D) (dh : Arr M D) : Arr M D := fun y => unit x y * (dh y * factor sc (y 1))

/-- The gradient with respect to the modulation's scale, row by row. -/
def dScale [Len D] (x : Arr M D) (g : Arr 1 D) (dh : Arr M D) : Arr M D := fun y => unit x y * g (ix2 0 (y 1)) * dh y

/-- The sum of two arrays, and the product. -/
def plus (x y : Arr M D) : Arr M D := fun i => x i + y i
def times (x y : Arr M D) : Arr M D := fun i => x i * y i

/-- Every row times a row of factors. -/
def gated (g : Arr 1 D) (x : Arr M D) : Arr M D := fun y => g (ix2 0 (y 1)) * x y

/-- The logistic function written out is the logistic function. -/
theorem logistic_written (x : EReal) : Ideal.div 1 (1 + Ideal.exp (-x)) = Ideal.logistic x := rfl

/-- Nothing less a value is its negative. -/
theorem zero_less (x : EReal) : 0 - x = -x := by
  rw [sub_eq_add_neg, zero_add]

/-- A row less its mean. -/
def dev [Len D] (x : Arr M D) : Arr M D := fun y => x y - mean (fun k : Fin D => x (ix2 (y 0) k))

/-- A row's variance plus the small constant, and one over its root. -/
def spread [Len D] (x : Arr M D) (r : Fin M) : Ideal .f32 :=
  mean (fun k : Fin D => dev x (ix2 r k) * dev x (ix2 r k)) + Scalar.ofBits (F := Ideal) .f32 0x358637BD#32
def lscale [Len D] (x : Arr M D) (r : Fin M) : Ideal .f32 := FloatOps.rsqrt (spread x r)

/-- The normed row, with gain and offset, and what the activation makes of it. -/
def normed [Len D] (x : Arr M D) (g b : Arr 1 D) : Arr M D := fun y =>
  dev x y * lscale x (y 0) * g (ix2 0 (y 1)) + b (ix2 0 (y 1))
def activated [Len D] (x : Arr M D) (g b : Arr 1 D) : Arr M D := fun y => normed x g b y * Ideal.logistic (normed x g b y)

/-- The gradient of the activation with respect to the normed row, of the cotangent `d`. -/
def dNormed [Len D] (x : Arr M D) (g b : Arr 1 D) (d : Arr M D) : Arr M D := fun y =>
  d y * Ideal.logistic (normed x g b y) + normed x g b y * d y
    * (Ideal.logistic (normed x g b y) * (Scalar.ofBits (F := Ideal) .f32 0x3F800000#32 - Ideal.logistic (normed x g b y)))

/-- The gain's gradient, row by row. -/
def dLnGain [Len D] (x dn : Arr M D) : Arr M D := fun y => dev x y * lscale x (y 0) * dn y

/-- What the row gets directly, and what its variance gets, of the cotangent `e` of the row over its root. -/
def direct [Len D] (x e : Arr M D) : Arr M D := fun y => e y * lscale x (y 0)
def dSpread [Len D] (x e : Arr M D) (r : Fin M) : Ideal .f32 :=
  FloatOps.divf ((∑ k : Fin D, dev x (ix2 r k) * e (ix2 r k)) * (Scalar.ofBits (F := Ideal) .f32 0xBF000000#32
    * FloatOps.divf (F := Ideal) (φ := .f32) (lscale x r) (spread x r))) (Len.len D)
def through [Len D] (x e : Arr M D) : Arr M D := fun y => dSpread x e (y 0) * (Scalar.ofBits (F := Ideal) .f32 0x40000000#32 * dev x y)

/-- The gradient of the layer norm with respect to the row. -/
def dLn [Len D] (x e : Arr M D) : Arr M D := fun y =>
  direct x e y + through x e y
    + FloatOps.divf (F := Ideal) (φ := .f32) ((∑ k : Fin D, -direct x e (ix2 (y 0) k)) + ∑ k : Fin D, -through x e (ix2 (y 0) k)) (Len.len D)

/-- Every column times its factor. -/
def byColumn (x : Arr M D) (g : Arr 1 D) : Arr M D := fun y => x y * g (ix2 0 (y 1))

end Cert.Row

end
-- ==== Proof.LossHead.lean ====
module

public import proofs.«01_k».proof.Defs
public import proofs.«01_k».proof.Proof.Gen.LossHeadIdeal.Value
public import proofs.«01_k».proof.Proof.Gen.LossHeadRefIdeal.Run
public import proofs.«01_k».proof.Proof.RowSpec
public import Idealize.ShloMosaic.Lib.Tactic.CleanTypes

/-!
The loss: the difference's gradient, and the squares added up lane by lane.
-/

@[expose] public section

set_option maxRecDepth 16384

noncomputable section

open Idealize.ShloMosaic Idealize.ShloMosaic.TcCoe Idealize.SL.Sem
open Idealize.ShloMosaic.Pipeline (Dat)

namespace Cert.Proof.LossHead

/-- The difference, the gradient of half the mean square, and the sum of the squares of each lane. -/
def diff {M : ℕ} (y t : Product.Arr M 1024) : Product.Arr M 1024 := fun i => y i - t i
def gradient {M : ℕ} (y t : Product.Arr M 1024) : Product.Arr M 1024 := fun i => diff y t i * Ideal.ofBits .f32 0x3A800000#32
def lanes {M : ℕ} (y t : Product.Arr M 1024) : Product.Arr 1 128 := fun i =>
  Row.columns (Row.times (diff y t) (diff y t)) (ix2 (0 : Fin 1) ⟨0 + (i 1).val, by have : (i 1).val < 128 := (i 1).isLt; omega⟩)
    + Row.columns (Row.times (diff y t) (diff y t)) (ix2 (0 : Fin 1) ⟨128 + (i 1).val, by have : (i 1).val < 128 := (i 1).isLt; omega⟩)
    + Row.columns (Row.times (diff y t) (diff y t)) (ix2 (0 : Fin 1) ⟨256 + (i 1).val, by have : (i 1).val < 128 := (i 1).isLt; omega⟩)
    + Row.columns (Row.times (diff y t) (diff y t)) (ix2 (0 : Fin 1) ⟨384 + (i 1).val, by have : (i 1).val < 128 := (i 1).isLt; omega⟩)
    + Row.columns (Row.times (diff y t) (diff y t)) (ix2 (0 : Fin 1) ⟨512 + (i 1).val, by have : (i 1).val < 128 := (i 1).isLt; omega⟩)
    + Row.columns (Row.times (diff y t) (diff y t)) (ix2 (0 : Fin 1) ⟨640 + (i 1).val, by have : (i 1).val < 128 := (i 1).isLt; omega⟩)
    + Row.columns (Row.times (diff y t) (diff y t)) (ix2 (0 : Fin 1) ⟨768 + (i 1).val, by have : (i 1).val < 128 := (i 1).isLt; omega⟩)
    + Row.columns (Row.times (diff y t) (diff y t)) (ix2 (0 : Fin 1) ⟨896 + (i 1).val, by have : (i 1).val < 128 := (i 1).isLt; omega⟩)

theorem half_bits : Ideal.ofBits .f32 0x3F000000#32 = (((1 : ℝ) / 2 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem width_bits : Ideal.ofBits .f32 0x44800000#32 = ((1024 : ℝ) : EReal) := by
  simp [Ideal.ofBits, Ideal.ieee, -EReal.coe_mul]; norm_num
theorem share_bits : Ideal.ofBits .f32 0x3A800000#32 = (((1 : ℝ) / 1024 : ℝ) : EReal) := by
  simp [Ideal.ofBits, Ideal.ieee, -EReal.coe_mul]; norm_num

/-- Half of twice a number over 1024 is the number times the 1024th part. -/
theorem share (d : EReal) : Ideal.div (Ideal.ofBits .f32 0x3F000000#32) (Ideal.ofBits .f32 0x44800000#32)
    * (Ideal.ofBits .f32 0x40000000#32 * d) = d * Ideal.ofBits .f32 0x3A800000#32 := by
  rw [half_bits, two_bits, width_bits, share_bits, Ideal.div_coe (by norm_num), ← mul_assoc, ← EReal.coe_mul, ← EReal.coe_mul,
    mul_comm (G := EReal) d]
  congr 2
  norm_num

/-- The lanes of the tiles add up to those of the whole array. -/
theorem lanes_tiles {n : ℕ} (hn : n = 8) (Y T : Product.Arr 4096 1024) (h : ∀ t : Fin n, t.val < 8) (i : (⟨2, ![1, 128]⟩ : Shape).Idx) :
    ∑ t : Fin n, lanes (Row.tile Y t.val (h t)) (Row.tile T t.val (h t)) i = lanes Y T i := by
  unfold lanes
  simp only [Finset.sum_add_distrib]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) ?_ ?_) ?_) ?_) ?_) ?_) ?_) ?_
  all_goals exact Row.columns_tiles hn (Row.times (diff Y T) (diff Y T)) h _

section
open Cert.LossHeadIdeal Cert.LossHeadIdeal.Gen

variable (m : (ℓ : Loc nD τ sig) → Buf (Elt Ideal) ℓ)

abbrev k0 (c : Dev nD) : Product.Arr 4096 1024 := m ((c : Thread nD τ).loc main_arg0)
abbrev k1 (c : Dev nD) : Product.Arr 4096 1024 := m ((c : Thread nD τ).loc main_arg1)

theorem lt (t : Fin cfg0.N) : t.val < 8 := lt_of_lt_of_eq t.isLt (show cfg0.N = 8 from N_0)

/-- Which block each window stages at a point. -/
theorem idx : ∀ t : Fin cfg0.N, win0_0.index t = ![t.val, 0] ∧ win0_1.index t = ![t.val, 0]
    ∧ win0_2.index t = ![t.val, 0] ∧ win0_3.index t = ![0, 0] := by
  decide +kernel

theorem blk0 (c : Dev nD) (t : Fin cfg0.N) : (iblk m c 0 t : FVec Ideal S512x1024 .f32) = Row.tile (k0 m c) t.val (lt t) := by
  funext y
  idx_vars y
  have h : (iblk m c 0 t : FVec Ideal S512x1024 .f32) (ix2 y0 y1)
      = k0 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk1 (c : Dev nD) (t : Fin cfg0.N) : (iblk m c 1 t : FVec Ideal S512x1024 .f32) = Row.tile (k1 m c) t.val (lt t) := by
  funext y
  idx_vars y
  have h : (iblk m c 1 t : FVec Ideal S512x1024 .f32) (ix2 y0 y1)
      = k1 m c (ix2 ⟨t.val * 512 + y0.val, by have := lt t; omega⟩ ⟨0 * 1024 + y1.val, by omega⟩) := by
    blk_point [iblk, V, idx t]
  exact h.trans (Product.read _ rfl (by show 0 * 1024 + y1.val = y1.val; omega))

/-- What a point writes. -/
theorem point2 (c : Dev nD) (t : Fin cfg0.N) (y : S512x1024.Idx) :
    (outsAt0 m c t.val t.isLt).1 y = gradient (iblk m c 0 t : Product.Arr 512 1024) (iblk m c 1 t) y := by
  by_cases h : t.val % 8 = 0
  · have := lt t
    rw [outsAt0_A m c t h (by omega)]
    frame_out
    unfold_payloads
    unfold gradient diff
    idx_vars y
    pointwise
  · have := lt t
    rw [outsAt0_B m c t h (by omega)]
    frame_out
    unfold_payloads
    unfold gradient diff
    idx_vars y
    pointwise

theorem val2 (c : Dev nD) : ((dats m 0 c).arrAt 2 cfg0.N : Product.Arr 4096 1024) = gradient (k0 m c) (k1 m c) := by
  refine (dats m 0 c).arrAt_eq_of_covers 2 _ (by decide +kernel) fun t hf y => ?_
  blk_simp [idx t]
  rw [after0_2]
  refine (point2 m c t y).trans ?_
  simp only [blk0 m c t, blk1 m c t]
  have := lt t
  have hy : (y 0).val < 512 := (y 0).isLt
  refine (show _ = (gradient (k0 m c) (k1 m c)) (ix2 (⟨t.val * 512 + (y 0).val, by omega⟩ : Fin 4096) (y 1)) from rfl).trans
    (congrArg (gradient (k0 m c) (k1 m c)) ?_)
  blk_ext [idx t]

/-- The first point sets the lanes, the others add to them. -/
theorem first3 (c : Dev nD) (t : Fin cfg0.N) (h : t.val % 8 = 0) (y : S1x128.Idx) :
    (outsAt0 m c t.val t.isLt).2 y = 0 + lanes (iblk m c 0 t : Product.Arr 512 1024) (iblk m c 1 t) y := by
  have := lt t
  rw [outsAt0_A m c t h (by omega), zero_add]
  frame_out
  unfold_payloads
  unfold lanes Row.columns Row.times diff
  idx_vars y
  pointwise
theorem next3 (c : Dev nD) (t : Fin cfg0.N) (h : ¬t.val % 8 = 0) (y : S1x128.Idx) :
    (outsAt0 m c t.val t.isLt).2 y = (outsAt0 m c (t.val - 1) (Nat.lt_of_le_of_lt (Nat.sub_le _ _) t.isLt)).2 y
      + lanes (iblk m c 0 t : Product.Arr 512 1024) (iblk m c 1 t) y := by
  have := lt t
  rw [outsAt0_B m c t h (by omega)]
  frame_out
  unfold_payloads
  unfold lanes Row.columns Row.times diff
  idx_vars y
  pointwise

theorem val3 (c : Dev nD) : ((dats m 0 c).arrAt 3 cfg0.N : Product.Arr 1 128) = lanes (k0 m c) (k1 m c) := by
  refine (dats m 0 c).arrAt_eq_of_after_last 3 t0_7 (by decide +kernel) _ fun j => ?_
  blk_simp
  rw [after0_3]
  refine (Pipeline.eq_sum_fin_of_reset_step_apply_last (N := cfg0.N) (fun n h => (outsAt0 m c n h).2) 8 (fun _ => 0)
    (fun t y => lanes (iblk m c 0 t : Product.Arr 512 1024) (iblk m c 1 t) y) (fun t h i => first3 m c t h i) (fun t h i => next3 m c t h i)
    (le_of_eq N_0) t0_7 rfl j).trans ((zero_add (M := EReal) _).trans ?_)
  refine Eq.trans (Finset.sum_congr rfl fun t _ => ?_) (lanes_tiles (n := cfg0.N) N_0 (k0 m c) (k1 m c) lt j)
  simp only [blk0 m c t, blk1 m c t]
  all_goals rfl

end

section
open Cert.LossHeadRefIdeal Cert.LossHeadRefIdeal.Gen

variable (m : (ℓ : Loc nD τ sig) → Buf (Elt Ideal) ℓ)

abbrev r0 (c : Dev nD) : Product.Arr 4096 1024 := m ((c : Thread nD τ).loc main_arg0)
abbrev r1 (c : Dev nD) : Product.Arr 4096 1024 := m ((c : Thread nD τ).loc main_arg1)

/-- The reference's gradient. -/
theorem ref0 (a0 a1 : FVec Ideal S4096x1024 .f32) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf a0 a1)) : FVec Ideal S4096x1024 .f32)
      = (gradient a0 a1 : Product.Arr 4096 1024) := by
  funext y
  unfold gradient diff
  clean_types
  idx_vars y
  pointwise
  exact share _

/-- The indices that one lane's sum takes: every row, every group of 128 columns. -/
theorem fiber (h : S4096x8x128.ReducesTo [0, 1] S128) (j : S128.Idx) (i : S4096x8x128.Idx) :
    h.drop i = j ↔ ∃ k : Fin 8 × Fin 4096, (ix3 k.2 k.1 (j 0 : Fin 128) : S4096x8x128.Idx) = i := by
  constructor
  · intro e
    refine ⟨(i 1, i 0), ?_⟩
    funext a; apply Fin.ext
    match a with
    | ⟨0, _⟩ => rfl
    | ⟨1, _⟩ => rfl
    | ⟨2, _⟩ => exact (congrArg Fin.val (congrFun e (0 : Fin 1))).symm
  · rintro ⟨k, rfl⟩
    funext b
    apply Fin.ext
    match b with
    | ⟨0, _⟩ => rfl

theorem lane_sum (h : S4096x8x128.ReducesTo [0, 1] S128) (v : S4096x8x128.Idx → EReal) (a : EReal) (j : S128.Idx) :
    Ideal.hostReduceAdd h v a j = a + ∑ g : Fin 8, ∑ r : Fin 4096, v (ix3 r g (j 0 : Fin 128)) := by
  refine congrArg (a + ·) ((Finset.sum_filter_eq_sum_of_fiber _ (fun k : Fin 8 × Fin 4096 => (ix3 k.2 k.1 (j 0 : Fin 128) : S4096x8x128.Idx))
    (fun _ _ e => Prod.ext (congrFun e 1) (congrFun e 0)) (fiber h j) v).trans ?_)
  simp only [Fintype.sum_prod_type]

/-- The reference's lanes. -/
theorem ref1 (a0 a1 : FVec Ideal S4096x1024 .f32) :
    (broadcastInDim S1x128 ![1] bcast_S128_S1x128_1 (Host.reduceAdd (shapeCast _ (mulf (subf a0 a1) (subf a0 a1)) shapeCasts_S4096x1024_S4096x8x128) (constant S_ .f32 0x00000000#32) reducesTo_S4096x8x128_S128_d0_1 h_S_) : FVec Ideal S1x128 .f32)
      = (lanes a0 a1 : Product.Arr 1 128) := by
  funext y
  unfold lanes Row.columns Row.times diff
  clean_types
  idx_vars y
  pointwise
  rw [lane_sum, zero_add, Fin.sum_univ_eight]
  pointwise

end

/-- The reference runs, keeps its arguments, and holds no semaphore. -/
theorem frameR : Cert.quiescent_LossHeadRefIdeal := fun m ρ _ =>
  (θ_run _ _ _).mono (fun r h => ⟨fun c => (h c).2.2, Idealize.ShloMosaic.sem_eq_zero_of_no_sems (by decide) r.2⟩)
    (Cert.LossHeadRefIdeal.Value.run m ρ)

/-- The kernel and the reference end with the same arrays. -/
theorem equal : Cert.algebraic_LossHeadIdeal_LossHeadRefIdeal := fun m ρ m' ρ' _ hag =>
  ⟨fun c => gradient (k0 m c) (k1 m c), fun c => lanes (k0 m c) (k1 m c),
    (θ_run _ _ _).mono (fun _ h c => ⟨(h c).1.trans (val2 m c), (h c).2.1.trans (val3 m c), (h c).2.2⟩) (Cert.LossHeadIdeal.Value.run_blocks m ρ),
    (θ_run _ _ _).mono (fun _ h c => by
      have h0 : r0 m' c = k0 m c := (hag c).1
      have h1 : r1 m' c = k1 m c := (hag c).2
      refine ⟨(h c).1.trans ((ref0 (r0 m' c) (r1 m' c)).trans ?_), (h c).2.1.trans ((ref1 (r0 m' c) (r1 m' c)).trans ?_), (h c).2.2⟩
      all_goals simp only [h0, h1]) (Cert.LossHeadRefIdeal.Value.run m' ρ')⟩

end Cert.Proof.LossHead

end
-- ==== Proof.Resid2Bwd.lean ====
module

public import proofs.«01_k».proof.Defs
public import proofs.«01_k».proof.Proof.Gen.Resid2BwdIdeal.Value
public import proofs.«01_k».proof.Proof.Gen.Resid2BwdRefIdeal.Run
public import proofs.«01_k».proof.Proof.RowSpec
public import Idealize.ShloMosaic.Lib.Tactic.CleanTypes

/-!
The backward pass of the second residual.
-/

@[expose] public section

set_option maxRecDepth 16384

noncomputable section

open Idealize.ShloMosaic Idealize.ShloMosaic.TcCoe Idealize.SL.Sem
open Idealize.ShloMosaic.Pipeline (Dat)

namespace Cert.Proof.Resid2Bwd

section
open Cert.Resid2BwdIdeal Cert.Resid2BwdIdeal.Gen

variable (m : (ℓ : Loc nD τ sig) → Buf (Elt Ideal) ℓ)

abbrev k0 (c : Dev nD) : Product.Arr 4096 1024 := m ((c : Thread nD τ).loc main_arg0)
abbrev k1 (c : Dev nD) : Product.Arr 1 1024 := m ((c : Thread nD τ).loc main_arg1)
abbrev k2 (c : Dev nD) : Product.Arr 4096 1024 := m ((c : Thread nD τ).loc main_arg2)

theorem lt (t : Fin cfg0.N) : t.val < 8 := lt_of_lt_of_eq t.isLt (show cfg0.N = 8 from N_0)

/-- Which block each window stages at a point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0] := by
  decide +kernel

theorem blk0 (c : Dev nD) (t : Fin cfg0.N) : (iblk m c 0 t : FVec Ideal S512x1024 .f32) = Row.tile (k0 m c) t.val (lt t) := by
  funext y
  idx_vars y
  have h : (iblk m c 0 t : FVec Ideal S512x1024 .f32) (ix2 y0 y1)
      = k0 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk1 (c : Dev nD) (t : Fin cfg0.N) : (iblk m c 1 t : FVec Ideal S1x1024 .f32) = k1 m c := by
  funext y
  idx_vars y
  have h : (iblk m c 1 t : FVec Ideal S1x1024 .f32) (ix2 y0 y1)
      = k1 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk2 (c : Dev nD) (t : Fin cfg0.N) : (iblk m c 2 t : FVec Ideal S512x1024 .f32) = Row.tile (k2 m c) t.val (lt t) := by
  funext y
  idx_vars y
  have h : (iblk m c 2 t : FVec Ideal S512x1024 .f32) (ix2 y0 y1)
      = k2 m c (ix2 ⟨t.val * 512 + y0.val, by have := lt t; omega⟩ ⟨0 * 1024 + y1.val, by omega⟩) := by
    blk_point [iblk, V, idx t]
  exact h.trans (Product.read _ rfl (by show 0 * 1024 + y1.val = y1.val; omega))

/-- What a point writes. -/
theorem point3 (c : Dev nD) (t : Fin cfg0.N) (y : S512x1024.Idx) :
    (outsAt0 m c t.val t.isLt).1 y = (Row.gated (iblk m c 1 t) (iblk m c 2 t) : Product.Arr 512 1024) y := by
  by_cases h : t.val % 8 = 0
  · have := lt t
    rw [outsAt0_A m c t h (by omega)]
    frame_out
    unfold_payloads
    unfold Row.gated
    idx_vars y
    pointwise
  · have := lt t
    rw [outsAt0_B m c t h (by omega)]
    frame_out
    unfold_payloads
    unfold Row.gated
    idx_vars y
    pointwise

theorem val3 (c : Dev nD) : ((dats m 0 c).arrAt 3 cfg0.N : Product.Arr 4096 1024) = Row.gated (k1 m c) (k2 m c) := by
  refine (dats m 0 c).arrAt_eq_of_covers 3 _ (by decide +kernel) fun t hf y => ?_
  blk_simp [idx t]
  rw [after0_3]
  refine (point3 m c t y).trans ?_
  simp only [blk0 m c t, blk1 m c t, blk2 m c t]
  have := lt t
  have hy : (y 0).val < 512 := (y 0).isLt
  refine (show _ = (Row.gated (k1 m c) (k2 m c)) (ix2 (⟨t.val * 512 + (y 0).val, by omega⟩ : Fin 4096) (y 1)) from rfl).trans
    (congrArg (Row.gated (k1 m c) (k2 m c)) ?_)
  blk_ext [idx t]

/-- The first point sets the sums, the others add to them. -/
theorem first4 (c : Dev nD) (t : Fin cfg0.N) (h : t.val % 8 = 0) (y : S1x1024.Idx) :
    (outsAt0 m c t.val t.isLt).2 y = 0 + Row.columns (Row.times (iblk m c 2 t) (iblk m c 0 t) : Product.Arr 512 1024) y := by
  have := lt t
  rw [outsAt0_A m c t h (by omega), zero_add]
  frame_out
  unfold_payloads
  unfold Row.columns Row.times
  idx_vars y
  pointwise
theorem next4 (c : Dev nD) (t : Fin cfg0.N) (h : ¬t.val % 8 = 0) (y : S1x1024.Idx) :
    (outsAt0 m c t.val t.isLt).2 y = (outsAt0 m c (t.val - 1) (Nat.lt_of_le_of_lt (Nat.sub_le _ _) t.isLt)).2 y
      + Row.columns (Row.times (iblk m c 2 t) (iblk m c 0 t) : Product.Arr 512 1024) y := by
  have := lt t
  rw [outsAt0_B m c t h (by omega)]
  frame_out
  unfold_payloads
  unfold Row.columns Row.times
  idx_vars y
  pointwise

theorem val4 (c : Dev nD) : ((dats m 0 c).arrAt 4 cfg0.N : Product.Arr 1 1024) = Row.columns (Row.times (k2 m c) (k0 m c)) := by
  refine (dats m 0 c).arrAt_eq_of_after_last 4 t0_7 (by decide +kernel) _ fun j => ?_
  blk_simp
  rw [after0_4]
  refine (Pipeline.eq_sum_fin_of_reset_step_apply_last (N := cfg0.N) (fun n h => (outsAt0 m c n h).2) 8 (fun _ => 0)
    (fun t y => Row.columns (Row.times (iblk m c 2 t) (iblk m c 0 t) : Product.Arr 512 1024) y) (fun t h i => first4 m c t h i) (fun t h i => next4 m c t h i)
    (le_of_eq N_0) t0_7 rfl j).trans ((zero_add (M := EReal) _).trans ?_)
  refine Eq.trans (Finset.sum_congr rfl fun t _ => ?_) (Row.columns_tiles (n := cfg0.N) N_0 (Row.times (k2 m c) (k0 m c)) lt j)
  simp only [blk0 m c t, blk1 m c t, blk2 m c t]
  all_goals rfl

end

section
open Cert.Resid2BwdRefIdeal Cert.Resid2BwdRefIdeal.Gen

variable (m : (ℓ : Loc nD τ sig) → Buf (Elt Ideal) ℓ)

abbrev r0 (c : Dev nD) : Product.Arr 4096 1024 := m ((c : Thread nD τ).loc main_arg0)
abbrev r1 (c : Dev nD) : Product.Arr 1 1024 := m ((c : Thread nD τ).loc main_arg1)
abbrev r2 (c : Dev nD) : Product.Arr 4096 1024 := m ((c : Thread nD τ).loc main_arg2)

/-- The reference's result 0. -/
theorem ref0 (a0 : FVec Ideal S4096x1024 .f32) (a1 : FVec Ideal S1x1024 .f32) (a2 : FVec Ideal S4096x1024 .f32) :
    (truncf .bf16 (mulf (broadcastInDim S4096x1024 ![0, 1] bcast_S1x1024_S4096x1024_0_1 a1) a2) bitsLt_bf16_f32 : FVec Ideal S4096x1024 .bf16)
      = (Row.gated a1 a2 : Product.Arr 4096 1024) := by
  funext y
  unfold Row.gated
  clean_types
  idx_vars y
  pointwise

/-- The reference's result 1. -/
theorem ref1 (a0 : FVec Ideal S4096x1024 .f32) (a1 : FVec Ideal S1x1024 .f32) (a2 : FVec Ideal S4096x1024 .f32) :
    (shapeCast _ (Host.reduceAdd (mulf a2 a0) (constant S_ .f32 0x00000000#32) reducesTo_S4096x1024_S1024_d0 h_S_) shapeCasts_S1024_S1x1024 : FVec Ideal S1x1024 .f32)
      = (Row.columns (Row.times a2 a0) : Product.Arr 1 1024) := by
  funext y
  unfold Row.columns Row.times
  clean_types
  idx_vars y
  pointwise

end

/-- The reference runs, keeps its arguments, and holds no semaphore. -/
theorem frameR : Cert.quiescent_Resid2BwdRefIdeal := fun m ρ _ =>
  (θ_run _ _ _).mono (fun r h => ⟨fun c => (h c).2.2, Idealize.ShloMosaic.sem_eq_zero_of_no_sems (by decide) r.2⟩)
    (Cert.Resid2BwdRefIdeal.Value.run m ρ)

/-- The kernel and the reference end with the same arrays. -/
theorem equal : Cert.algebraic_Resid2BwdIdeal_Resid2BwdRefIdeal := fun m ρ m' ρ' _ hag =>
  ⟨fun c => Row.gated (k1 m c) (k2 m c), fun c => Row.columns (Row.times (k2 m c) (k0 m c)),
    (θ_run _ _ _).mono (fun _ h c => ⟨(h c).1.trans (val3 m c), (h c).2.1.trans (val4 m c), (h c).2.2⟩) (Cert.Resid2BwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2
      refine ⟨(h c).1.trans ((ref0 (r0 m' c) (r1 m' c) (r2 m' c)).trans ?_), (h c).2.1.trans ((ref1 (r0 m' c) (r1 m' c) (r2 m' c)).trans ?_), (h c).2.2⟩
      all_goals simp only [h0, h1, h2]) (Cert.Resid2BwdRefIdeal.Value.run m' ρ')⟩

end Cert.Proof.Resid2Bwd

end
-- ==== Proof.Norm2Bwd.lean ====
module

public import proofs.«01_k».proof.Defs
public import proofs.«01_k».proof.Proof.Gen.Norm2BwdIdeal.Value
public import proofs.«01_k».proof.Proof.Gen.Norm2BwdRefIdeal.Run
public import proofs.«01_k».proof.Proof.RowSpec
public import Idealize.ShloMosaic.Lib.Tactic.CleanTypes

/-!
The backward pass of the first residual and the second modulated norm.
-/

@[expose] public section

set_option maxRecDepth 16384

noncomputable section

open Idealize.ShloMosaic Idealize.ShloMosaic.TcCoe Idealize.SL.Sem
open Idealize.ShloMosaic.Pipeline (Dat)

namespace Cert.Proof.Norm2Bwd

section
open Cert.Norm2BwdIdeal Cert.Norm2BwdIdeal.Gen

variable (m : (ℓ : Loc nD τ sig) → Buf (Elt Ideal) ℓ)

abbrev k0 (c : Dev nD) : Product.Arr 4096 1024 := m ((c : Thread nD τ).loc main_arg0)
abbrev k1 (c : Dev nD) : Product.Arr 4096 1024 := m ((c : Thread nD τ).loc main_arg1)
abbrev k2 (c : Dev nD) : Product.Arr 1 1024 := m ((c : Thread nD τ).loc main_arg2)
abbrev k3 (c : Dev nD) : Product.Arr 1 1024 := m ((c : Thread nD τ).loc main_arg3)
abbrev k4 (c : Dev nD) : Product.Arr 1 1024 := m ((c : Thread nD τ).loc main_arg4)
abbrev k5 (c : Dev nD) : Product.Arr 1 1024 := m ((c : Thread nD τ).loc main_arg5)
abbrev k6 (c : Dev nD) : Product.Arr 4096 1024 := m ((c : Thread nD τ).loc main_arg6)
abbrev k7 (c : Dev nD) : Product.Arr 4096 1024 := m ((c : Thread nD τ).loc main_arg7)

theorem lt (t : Fin cfg0.N) : t.val < 8 := lt_of_lt_of_eq t.isLt (show cfg0.N = 8 from N_0)

/-- Which block each window stages at a point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0] := by
  decide +kernel

theorem blk0 (c : Dev nD) (t : Fin cfg0.N) : (iblk m c 0 t : FVec Ideal S512x1024 .f32) = Row.tile (k0 m c) t.val (lt t) := by
  funext y
  idx_vars y
  have h : (iblk m c 0 t : FVec Ideal S512x1024 .f32) (ix2 y0 y1)
      = k0 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk1 (c : Dev nD) (t : Fin cfg0.N) : (iblk m c 1 t : FVec Ideal S512x1024 .f32) = Row.tile (k1 m c) t.val (lt t) := by
  funext y
  idx_vars y
  have h : (iblk m c 1 t : FVec Ideal S512x1024 .f32) (ix2 y0 y1)
      = k1 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk2 (c : Dev nD) (t : Fin cfg0.N) : (iblk m c 2 t : FVec Ideal S1x1024 .f32) = k2 m c := by
  funext y
  idx_vars y
  have h : (iblk m c 2 t : FVec Ideal S1x1024 .f32) (ix2 y0 y1)
      = k2 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk3 (c : Dev nD) (t : Fin cfg0.N) : (iblk m c 3 t : FVec Ideal S1x1024 .f32) = k3 m c := by
  funext y
  idx_vars y
  have h : (iblk m c 3 t : FVec Ideal S1x1024 .f32) (ix2 y0 y1)
      = k3 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk4 (c : Dev nD) (t : Fin cfg0.N) : (iblk m c 4 t : FVec Ideal S1x1024 .f32) = k4 m c := by
  funext y
  idx_vars y
  have h : (iblk m c 4 t : FVec Ideal S1x1024 .f32) (ix2 y0 y1)
      = k4 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk5 (c : Dev nD) (t : Fin cfg0.N) : (iblk m c 5 t : FVec Ideal S1x1024 .f32) = k5 m c := by
  funext y
  idx_vars y
  have h : (iblk m c 5 t : FVec Ideal S1x1024 .f32) (ix2 y0 y1)
      = k5 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk6 (c : Dev nD) (t : Fin cfg0.N) : (iblk m c 6 t : FVec Ideal S512x1024 .f32) = Row.tile (k6 m c) t.val (lt t) := by
  funext y
  idx_vars y
  have h : (iblk m c 6 t : FVec Ideal S512x1024 .f32) (ix2 y0 y1)
      = k6 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk7 (c : Dev nD) (t : Fin cfg0.N) : (iblk m c 7 t : FVec Ideal S512x1024 .f32) = Row.tile (k7 m c) t.val (lt t) := by
  funext y
  idx_vars y
  have h : (iblk m c 7 t : FVec Ideal S512x1024 .f32) (ix2 y0 y1)
      = k7 m c (ix2 ⟨t.val * 512 + y0.val, by have := lt t; omega⟩ ⟨0 * 1024 + y1.val, by omega⟩) := by
    blk_point [iblk, V, idx t]
  exact h.trans (Product.read _ rfl (by show 0 * 1024 + y1.val = y1.val; omega))

/-- What a point writes. -/
theorem point8 (c : Dev nD) (t : Fin cfg0.N) (y : S512x1024.Idx) :
    (outsAt0 m c t.val t.isLt).1 y = ((Row.plus (iblk m c 6 t) (Row.dRow (Row.plus (iblk m c 0 t) (Row.gated (iblk m c 2 t) (iblk m c 1 t))) (Row.dUnit (iblk m c 3 t) (iblk m c 4 t) (iblk m c 7 t)))) : Product.Arr 512 1024) y := by
  by_cases h : t.val % 8 = 0
  · have := lt t
    rw [outsAt0_A m c t h (by omega) h (by omega) h (by omega) h (by omega)]
    frame_out
    unfold_payloads
    unfold Row.dRow Row.dPower Row.dUnit Row.scale Row.power Row.mean Row.factor Row.plus Row.gated
    idx_vars y
    simp only [Row.Len.len, Row.len1024]
    pointwise
    simp only [Finset.univ_unique, Finset.sum_singleton, add_assoc]
  · have := lt t
    rw [outsAt0_B m c t h (by omega) h (by omega) h (by omega) h (by omega)]
    frame_out
    unfold_payloads
    unfold Row.dRow Row.dPower Row.dUnit Row.scale Row.power Row.mean Row.factor Row.plus Row.gated
    idx_vars y
    simp only [Row.Len.len, Row.len1024]
    pointwise
    simp only [Finset.univ_unique, Finset.sum_singleton, add_assoc]

theorem val8 (c : Dev nD) : ((dats m 0 c).arrAt 8 cfg0.N : Product.Arr 4096 1024) = (Row.plus (k6 m c) (Row.dRow (Row.plus (k0 m c) (Row.gated (k2 m c) (k1 m c))) (Row.dUnit (k3 m c) (k4 m c) (k7 m c)))) := by
  refine (dats m 0 c).arrAt_eq_of_covers 8 _ (by decide +kernel) fun t hf y => ?_
  blk_simp [idx t]
  rw [after0_8]
  refine (point8 m c t y).trans ?_
  simp only [blk0 m c t, blk1 m c t, blk2 m c t, blk3 m c t, blk4 m c t, blk5 m c t, blk6 m c t, blk7 m c t]
  have := lt t
  have hy : (y 0).val < 512 := (y 0).isLt
  refine (show _ = ((Row.plus (k6 m c) (Row.dRow (Row.plus (k0 m c) (Row.gated (k2 m c) (k1 m c))) (Row.dUnit (k3 m c) (k4 m c) (k7 m c))))) (ix2 (⟨t.val * 512 + (y 0).val, by omega⟩ : Fin 4096) (y 1)) from rfl).trans
    (congrArg ((Row.plus (k6 m c) (Row.dRow (Row.plus (k0 m c) (Row.gated (k2 m c) (k1 m c))) (Row.dUnit (k3 m c) (k4 m c) (k7 m c))))) ?_)
  blk_ext [idx t]

/-- What a point writes. -/
theorem point9 (c : Dev nD) (t : Fin cfg0.N) (y : S512x1024.Idx) :
    (outsAt0 m c t.val t.isLt).2.1 y = (Row.gated (iblk m c 2 t) (Row.plus (iblk m c 6 t) (Row.dRow (Row.plus (iblk m c 0 t) (Row.gated (iblk m c 2 t) (iblk m c 1 t))) (Row.dUnit (iblk m c 3 t) (iblk m c 4 t) (iblk m c 7 t)))) : Product.Arr 512 1024) y := by
  by_cases h : t.val % 8 = 0
  · have := lt t
    rw [outsAt0_A m c t h (by omega) h (by omega) h (by omega) h (by omega)]
    frame_out
    unfold_payloads
    unfold Row.dRow Row.dPower Row.dUnit Row.scale Row.power Row.mean Row.factor Row.plus Row.gated
    idx_vars y
    simp only [Row.Len.len, Row.len1024]
    pointwise
    simp only [Finset.univ_unique, Finset.sum_singleton, add_assoc]
  · have := lt t
    rw [outsAt0_B m c t h (by omega) h (by omega) h (by omega) h (by omega)]
    frame_out
    unfold_payloads
    unfold Row.dRow Row.dPower Row.dUnit Row.scale Row.power Row.mean Row.factor Row.plus Row.gated
    idx_vars y
    simp only [Row.Len.len, Row.len1024]
    pointwise
    simp only [Finset.univ_unique, Finset.sum_singleton, add_assoc]

theorem val9 (c : Dev nD) : ((dats m 0 c).arrAt 9 cfg0.N : Product.Arr 4096 1024) = Row.gated (k2 m c) (Row.plus (k6 m c) (Row.dRow (Row.plus (k0 m c) (Row.gated (k2 m c) (k1 m c))) (Row.dUnit (k3 m c) (k4 m c) (k7 m c)))) := by
  refine (dats m 0 c).arrAt_eq_of_covers 9 _ (by decide +kernel) fun t hf y => ?_
  blk_simp [idx t]
  rw [after0_9]
  refine (point9 m c t y).trans ?_
  simp only [blk0 m c t, blk1 m c t, blk2 m c t, blk3 m c t, blk4 m c t, blk5 m c t, blk6 m c t, blk7 m c t]
  have := lt t
  have hy : (y 0).val < 512 := (y 0).isLt
  refine (show _ = (Row.gated (k2 m c) (Row.plus (k6 m c) (Row.dRow (Row.plus (k0 m c) (Row.gated (k2 m c) (k1 m c))) (Row.dUnit (k3 m c) (k4 m c) (k7 m c))))) (ix2 (⟨t.val * 512 + (y 0).val, by omega⟩ : Fin 4096) (y 1)) from rfl).trans
    (congrArg (Row.gated (k2 m c) (Row.plus (k6 m c) (Row.dRow (Row.plus (k0 m c) (Row.gated (k2 m c) (k1 m c))) (Row.dUnit (k3 m c) (k4 m c) (k7 m c))))) ?_)
  blk_ext [idx t]

/-- The first point sets the sums, the others add to them. -/
theorem first10 (c : Dev nD) (t : Fin cfg0.N) (h : t.val % 8 = 0) (y : S1x1024.Idx) :
    (outsAt0 m c t.val t.isLt).2.2.1 y = 0 + Row.columns (Row.times (Row.plus (iblk m c 6 t) (Row.dRow (Row.plus (iblk m c 0 t) (Row.gated (iblk m c 2 t) (iblk m c 1 t))) (Row.dUnit (iblk m c 3 t) (iblk m c 4 t) (iblk m c 7 t)))) (iblk m c 1 t) : Product.Arr 512 1024) y := by
  have := lt t
  rw [outsAt0_A m c t h (by omega) h (by omega) h (by omega) h (by omega), zero_add]
  frame_out
  unfold_payloads
  unfold Row.columns Row.times Row.dRow Row.dPower Row.dUnit Row.scale Row.power Row.mean Row.factor Row.plus Row.gated
  idx_vars y
  simp only [Row.Len.len, Row.len1024]
  pointwise
  simp only [Finset.univ_unique, Finset.sum_singleton, add_assoc]
theorem next10 (c : Dev nD) (t : Fin cfg0.N) (h : ¬t.val % 8 = 0) (y : S1x1024.Idx) :
    (outsAt0 m c t.val t.isLt).2.2.1 y = (outsAt0 m c (t.val - 1) (Nat.lt_of_le_of_lt (Nat.sub_le _ _) t.isLt)).2.2.1 y
      + Row.columns (Row.times (Row.plus (iblk m c 6 t) (Row.dRow (Row.plus (iblk m c 0 t) (Row.gated (iblk m c 2 t) (iblk m c 1 t))) (Row.dUnit (iblk m c 3 t) (iblk m c 4 t) (iblk m c 7 t)))) (iblk m c 1 t) : Product.Arr 512 1024) y := by
  have := lt t
  rw [outsAt0_B m c t h (by omega) h (by omega) h (by omega) h (by omega)]
  frame_out
  unfold_payloads
  unfold Row.columns Row.times Row.dRow Row.dPower Row.dUnit Row.scale Row.power Row.mean Row.factor Row.plus Row.gated
  idx_vars y
  simp only [Row.Len.len, Row.len1024]
  pointwise
  simp only [Finset.univ_unique, Finset.sum_singleton, add_assoc]

theorem val10 (c : Dev nD) : ((dats m 0 c).arrAt 10 cfg0.N : Product.Arr 1 1024) = Row.columns (Row.times (Row.plus (k6 m c) (Row.dRow (Row.plus (k0 m c) (Row.gated (k2 m c) (k1 m c))) (Row.dUnit (k3 m c) (k4 m c) (k7 m c)))) (k1 m c)) := by
  refine (dats m 0 c).arrAt_eq_of_after_last 10 t0_7 (by decide +kernel) _ fun j => ?_
  blk_simp
  rw [after0_10]
  refine (Pipeline.eq_sum_fin_of_reset_step_apply_last (N := cfg0.N) (fun n h => (outsAt0 m c n h).2.2.1) 8 (fun _ => 0)
    (fun t y => Row.columns (Row.times (Row.plus (iblk m c 6 t) (Row.dRow (Row.plus (iblk m c 0 t) (Row.gated (iblk m c 2 t) (iblk m c 1 t))) (Row.dUnit (iblk m c 3 t) (iblk m c 4 t) (iblk m c 7 t)))) (iblk m c 1 t) : Product.Arr 512 1024) y) (fun t h i => first10 m c t h i) (fun t h i => next10 m c t h i)
    (le_of_eq N_0) t0_7 rfl j).trans ((zero_add (M := EReal) _).trans ?_)
  refine Eq.trans (Finset.sum_congr rfl fun t _ => ?_) (Row.columns_tiles (n := cfg0.N) N_0 (Row.times (Row.plus (k6 m c) (Row.dRow (Row.plus (k0 m c) (Row.gated (k2 m c) (k1 m c))) (Row.dUnit (k3 m c) (k4 m c) (k7 m c)))) (k1 m c)) lt j)
  simp only [blk0 m c t, blk1 m c t, blk2 m c t, blk3 m c t, blk4 m c t, blk5 m c t, blk6 m c t, blk7 m c t]
  all_goals rfl

/-- The first point sets the sums, the others add to them. -/
theorem first11 (c : Dev nD) (t : Fin cfg0.N) (h : t.val % 8 = 0) (y : S1x1024.Idx) :
    (outsAt0 m c t.val t.isLt).2.2.2.1 y = 0 + Row.columns (Row.dGain (Row.plus (iblk m c 0 t) (Row.gated (iblk m c 2 t) (iblk m c 1 t))) (iblk m c 4 t) (iblk m c 7 t) : Product.Arr 512 1024) y := by
  have := lt t
  rw [outsAt0_A m c t h (by omega) h (by omega) h (by omega) h (by omega), zero_add]
  frame_out
  unfold_payloads
  unfold Row.columns Row.dGain Row.unit Row.scale Row.power Row.mean Row.factor Row.plus Row.gated
  idx_vars y
  simp only [Row.Len.len, Row.len1024]
  pointwise
theorem next11 (c : Dev nD) (t : Fin cfg0.N) (h : ¬t.val % 8 = 0) (y : S1x1024.Idx) :
    (outsAt0 m c t.val t.isLt).2.2.2.1 y = (outsAt0 m c (t.val - 1) (Nat.lt_of_le_of_lt (Nat.sub_le _ _) t.isLt)).2.2.2.1 y
      + Row.columns (Row.dGain (Row.plus (iblk m c 0 t) (Row.gated (iblk m c 2 t) (iblk m c 1 t))) (iblk m c 4 t) (iblk m c 7 t) : Product.Arr 512 1024) y := by
  have := lt t
  rw [outsAt0_B m c t h (by omega) h (by omega) h (by omega) h (by omega)]
  frame_out
  unfold_payloads
  unfold Row.columns Row.dGain Row.unit Row.scale Row.power Row.mean Row.factor Row.plus Row.gated
  idx_vars y
  simp only [Row.Len.len, Row.len1024]
  pointwise

theorem val11 (c : Dev nD) : ((dats m 0 c).arrAt 11 cfg0.N : Product.Arr 1 1024) = Row.columns (Row.dGain (Row.plus (k0 m c) (Row.gated (k2 m c) (k1 m c))) (k4 m c) (k7 m c)) := by
  refine (dats m 0 c).arrAt_eq_of_after_last 11 t0_7 (by decide +kernel) _ fun j => ?_
  blk_simp
  rw [after0_11]
  refine (Pipeline.eq_sum_fin_of_reset_step_apply_last (N := cfg0.N) (fun n h => (outsAt0 m c n h).2.2.2.1) 8 (fun _ => 0)
    (fun t y => Row.columns (Row.dGain (Row.plus (iblk m c 0 t) (Row.gated (iblk m c 2 t) (iblk m c 1 t))) (iblk m c 4 t) (iblk m c 7 t) : Product.Arr 512 1024) y) (fun t h i => first11 m c t h i) (fun t h i => next11 m c t h i)
    (le_of_eq N_0) t0_7 rfl j).trans ((zero_add (M := EReal) _).trans ?_)
  refine Eq.trans (Finset.sum_congr rfl fun t _ => ?_) (Row.columns_tiles (n := cfg0.N) N_0 (Row.dGain (Row.plus (k0 m c) (Row.gated (k2 m c) (k1 m c))) (k4 m c) (k7 m c)) lt j)
  simp only [blk0 m c t, blk1 m c t, blk2 m c t, blk3 m c t, blk4 m c t, blk5 m c t, blk6 m c t, blk7 m c t]
  all_goals rfl

/-- The first point sets the sums, the others add to them. -/
theorem first12 (c : Dev nD) (t : Fin cfg0.N) (h : t.val % 8 = 0) (y : S1x1024.Idx) :
    (outsAt0 m c t.val t.isLt).2.2.2.2.1 y = 0 + Row.columns (Row.dScale (Row.plus (iblk m c 0 t) (Row.gated (iblk m c 2 t) (iblk m c 1 t))) (iblk m c 3 t) (iblk m c 7 t) : Product.Arr 512 1024) y := by
  have := lt t
  rw [outsAt0_A m c t h (by omega) h (by omega) h (by omega) h (by omega), zero_add]
  frame_out
  unfold_payloads
  unfold Row.columns Row.dScale Row.unit Row.scale Row.power Row.mean Row.plus Row.gated
  idx_vars y
  simp only [Row.Len.len, Row.len1024]
  pointwise
theorem next12 (c : Dev nD) (t : Fin cfg0.N) (h : ¬t.val % 8 = 0) (y : S1x1024.Idx) :
    (outsAt0 m c t.val t.isLt).2.2.2.2.1 y = (outsAt0 m c (t.val - 1) (Nat.lt_of_le_of_lt (Nat.sub_le _ _) t.isLt)).2.2.2.2.1 y
      + Row.columns (Row.dScale (Row.plus (iblk m c 0 t) (Row.gated (iblk m c 2 t) (iblk m c 1 t))) (iblk m c 3 t) (iblk m c 7 t) : Product.Arr 512 1024) y := by
  have := lt t
  rw [outsAt0_B m c t h (by omega) h (by omega) h (by omega) h (by omega)]
  frame_out
  unfold_payloads
  unfold Row.columns Row.dScale Row.unit Row.scale Row.power Row.mean Row.plus Row.gated
  idx_vars y
  simp only [Row.Len.len, Row.len1024]
  pointwise

theorem val12 (c : Dev nD) : ((dats m 0 c).arrAt 12 cfg0.N : Product.Arr 1 1024) = Row.columns (Row.dScale (Row.plus (k0 m c) (Row.gated (k2 m c) (k1 m c))) (k3 m c) (k7 m c)) := by
  refine (dats m 0 c).arrAt_eq_of_after_last 12 t0_7 (by decide +kernel) _ fun j => ?_
  blk_simp
  rw [after0_12]
  refine (Pipeline.eq_sum_fin_of_reset_step_apply_last (N := cfg0.N) (fun n h => (outsAt0 m c n h).2.2.2.2.1) 8 (fun _ => 0)
    (fun t y => Row.columns (Row.dScale (Row.plus (iblk m c 0 t) (Row.gated (iblk m c 2 t) (iblk m c 1 t))) (iblk m c 3 t) (iblk m c 7 t) : Product.Arr 512 1024) y) (fun t h i => first12 m c t h i) (fun t h i => next12 m c t h i)
    (le_of_eq N_0) t0_7 rfl j).trans ((zero_add (M := EReal) _).trans ?_)
  refine Eq.trans (Finset.sum_congr rfl fun t _ => ?_) (Row.columns_tiles (n := cfg0.N) N_0 (Row.dScale (Row.plus (k0 m c) (Row.gated (k2 m c) (k1 m c))) (k3 m c) (k7 m c)) lt j)
  simp only [blk0 m c t, blk1 m c t, blk2 m c t, blk3 m c t, blk4 m c t, blk5 m c t, blk6 m c t, blk7 m c t]
  all_goals rfl

/-- The first point sets the sums, the others add to them. -/
theorem first13 (c : Dev nD) (t : Fin cfg0.N) (h : t.val % 8 = 0) (y : S1x1024.Idx) :
    (outsAt0 m c t.val t.isLt).2.2.2.2.2 y = 0 + Row.columns ((iblk m c 7 t) : Product.Arr 512 1024) y := by
  have := lt t
  rw [outsAt0_A m c t h (by omega) h (by omega) h (by omega) h (by omega), zero_add]
  frame_out
  unfold_payloads
  unfold Row.columns
  idx_vars y
  pointwise
theorem next13 (c : Dev nD) (t : Fin cfg0.N) (h : ¬t.val % 8 = 0) (y : S1x1024.Idx) :
    (outsAt0 m c t.val t.isLt).2.2.2.2.2 y = (outsAt0 m c (t.val - 1) (Nat.lt_of_le_of_lt (Nat.sub_le _ _) t.isLt)).2.2.2.2.2 y
      + Row.columns ((iblk m c 7 t) : Product.Arr 512 1024) y := by
  have := lt t
  rw [outsAt0_B m c t h (by omega) h (by omega) h (by omega) h (by omega)]
  frame_out
  unfold_payloads
  unfold Row.columns
  idx_vars y
  pointwise

theorem val13 (c : Dev nD) : ((dats m 0 c).arrAt 13 cfg0.N : Product.Arr 1 1024) = Row.columns ((k7 m c)) := by
  refine (dats m 0 c).arrAt_eq_of_after_last 13 t0_7 (by decide +kernel) _ fun j => ?_
  blk_simp
  rw [after0_13]
  refine (Pipeline.eq_sum_fin_of_reset_step_apply_last (N := cfg0.N) (fun n h => (outsAt0 m c n h).2.2.2.2.2) 8 (fun _ => 0)
    (fun t y => Row.columns ((iblk m c 7 t) : Product.Arr 512 1024) y) (fun t h i => first13 m c t h i) (fun t h i => next13 m c t h i)
    (le_of_eq N_0) t0_7 rfl j).trans ((zero_add (M := EReal) _).trans ?_)
  refine Eq.trans (Finset.sum_congr rfl fun t _ => ?_) (Row.columns_tiles (n := cfg0.N) N_0 ((k7 m c)) lt j)
  simp only [blk0 m c t, blk1 m c t, blk2 m c t, blk3 m c t, blk4 m c t, blk5 m c t, blk6 m c t, blk7 m c t]
  all_goals rfl

end

section
open Cert.Norm2BwdRefIdeal Cert.Norm2BwdRefIdeal.Gen

variable (m : (ℓ : Loc nD τ sig) → Buf (Elt Ideal) ℓ)

abbrev r0 (c : Dev nD) : Product.Arr 4096 1024 := m ((c : Thread nD τ).loc main_arg0)
abbrev r1 (c : Dev nD) : Product.Arr 4096 1024 := m ((c : Thread nD τ).loc main_arg1)
abbrev r2 (c : Dev nD) : Product.Arr 1 1024 := m ((c : Thread nD τ).loc main_arg2)
abbrev r3 (c : Dev nD) : Product.Arr 1 1024 := m ((c : Thread nD τ).loc main_arg3)
abbrev r4 (c : Dev nD) : Product.Arr 1 1024 := m ((c : Thread nD τ).loc main_arg4)
abbrev r5 (c : Dev nD) : Product.Arr 1 1024 := m ((c : Thread nD τ).loc main_arg5)
abbrev r6 (c : Dev nD) : Product.Arr 4096 1024 := m ((c : Thread nD τ).loc main_arg6)
abbrev r7 (c : Dev nD) : Product.Arr 4096 1024 := m ((c : Thread nD τ).loc main_arg7)

/-- The reference's result 0. -/
theorem ref0 (a0 : FVec Ideal S4096x1024 .f32) (a1 : FVec Ideal S4096x1024 .f32) (a2 : FVec Ideal S1x1024 .f32) (a3 : FVec Ideal S1x1024 .f32) (a4 : FVec Ideal S1x1024 .f32) (a5 : FVec Ideal S1x1024 .f32) (a6 : FVec Ideal S4096x1024 .f32) (a7 : FVec Ideal S4096x1024 .f32) :
    (addf (addf (addf a6 (mulf (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf (addf a0 (mulf (broadcastInDim S4096x1024 ![0, 1] bcast_S1x1024_S4096x1024_0_1 a2) a1)) (broadcastInDim S4096x1024 ![0] bcast_S4096_S4096x1024_0 (Host.reduceAdd (Host.divf (mulf (shapeCast _ (Host.reduceAdd (mulf (addf a0 (mulf (broadcastInDim S4096x1024 ![0, 1] bcast_S1x1024_S4096x1024_0_1 a2) a1)) (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf a0 (mulf (broadcastInDim S4096x1024 ![0, 1] bcast_S1x1024_S4096x1024_0_1 a2) a1)) (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf a0 (mulf (broadcastInDim S4096x1024 ![0, 1] bcast_S1x1024_S4096x1024_0_1 a2) a1))) : FVec Ideal S4096x1024 .f32)
      = ((Row.plus a6 (Row.dRow (Row.plus a0 (Row.gated a2 a1)) (Row.dUnit a3 a4 a7))) : Product.Arr 4096 1024) := by
  funext y
  unfold Row.dRow Row.dPower Row.dUnit Row.scale Row.power Row.mean Row.factor Row.plus Row.gated
  clean_types
  idx_vars y
  simp only [Row.Len.len, Row.len1024]
  pointwise
  simp only [Finset.univ_unique, Finset.sum_singleton, add_assoc]

/-- The reference's result 1. -/
theorem ref1 (a0 : FVec Ideal S4096x1024 .f32) (a1 : FVec Ideal S4096x1024 .f32) (a2 : FVec Ideal S1x1024 .f32) (a3 : FVec Ideal S1x1024 .f32) (a4 : FVec Ideal S1x1024 .f32) (a5 : FVec Ideal S1x1024 .f32) (a6 : FVec Ideal S4096x1024 .f32) (a7 : FVec Ideal S4096x1024 .f32) :
    (truncf .bf16 (mulf (broadcastInDim S4096x1024 ![0, 1] bcast_S1x1024_S4096x1024_0_1 a2) (shapeCast _ (addf (addf (addf a6 (mulf (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf (addf a0 (mulf (broadcastInDim S4096x1024 ![0, 1] bcast_S1x1024_S4096x1024_0_1 a2) a1)) (broadcastInDim S4096x1024 ![0] bcast_S4096_S4096x1024_0 (Host.reduceAdd (Host.divf (mulf (shapeCast _ (Host.reduceAdd (mulf (addf a0 (mulf (broadcastInDim S4096x1024 ![0, 1] bcast_S1x1024_S4096x1024_0_1 a2) a1)) (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf a0 (mulf (broadcastInDim S4096x1024 ![0, 1] bcast_S1x1024_S4096x1024_0_1 a2) a1)) (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf a0 (mulf (broadcastInDim S4096x1024 ![0, 1] bcast_S1x1024_S4096x1024_0_1 a2) a1)))) shapeCasts_S4096x1024_S4096x1024)) bitsLt_bf16_f32 : FVec Ideal S4096x1024 .bf16)
      = (Row.gated a2 (Row.plus a6 (Row.dRow (Row.plus a0 (Row.gated a2 a1)) (Row.dUnit a3 a4 a7))) : Product.Arr 4096 1024) := by
  funext y
  unfold Row.dRow Row.dPower Row.dUnit Row.scale Row.power Row.mean Row.factor Row.plus Row.gated
  clean_types
  idx_vars y
  simp only [Row.Len.len, Row.len1024]
  pointwise
  simp only [Finset.univ_unique, Finset.sum_singleton, add_assoc]

/-- The reference's result 2. -/
theorem ref2 (a0 : FVec Ideal S4096x1024 .f32) (a1 : FVec Ideal S4096x1024 .f32) (a2 : FVec Ideal S1x1024 .f32) (a3 : FVec Ideal S1x1024 .f32) (a4 : FVec Ideal S1x1024 .f32) (a5 : FVec Ideal S1x1024 .f32) (a6 : FVec Ideal S4096x1024 .f32) (a7 : FVec Ideal S4096x1024 .f32) :
    (shapeCast _ (Host.reduceAdd (mulf (shapeCast _ (addf (addf (addf a6 (mulf (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3)) (broadcastInDim S4096x1024 ![0, 1] bcast_S4096x1_S4096x1024_0_1 (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf (addf a0 (mulf (broadcastInDim S4096x1024 ![0, 1] bcast_S1x1024_S4096x1024_0_1 a2) a1)) (broadcastInDim S4096x1024 ![0] bcast_S4096_S4096x1024_0 (Host.reduceAdd (Host.divf (mulf (shapeCast _ (Host.reduceAdd (mulf (addf a0 (mulf (broadcastInDim S4096x1024 ![0, 1] bcast_S1x1024_S4096x1024_0_1 a2) a1)) (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf a0 (mulf (broadcastInDim S4096x1024 ![0, 1] bcast_S1x1024_S4096x1024_0_1 a2) a1)) (mulf (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4))) (broadcastInDim S4096x1024 ![0, 1] bcast_S1x1024_S4096x1024_0_1 a3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf a0 (mulf (broadcastInDim S4096x1024 ![0, 1] bcast_S1x1024_S4096x1024_0_1 a2) a1)))) shapeCasts_S4096x1024_S4096x1024) a1) (constant S_ .f32 0x00000000#32) reducesTo_S4096x1024_S1024_d0 h_S_) shapeCasts_S1024_S1x1024 : FVec Ideal S1x1024 .f32)
      = (Row.columns (Row.times (Row.plus a6 (Row.dRow (Row.plus a0 (Row.gated a2 a1)) (Row.dUnit a3 a4 a7))) a1) : Product.Arr 1 1024) := by
  funext y
  unfold Row.columns Row.times Row.dRow Row.dPower Row.dUnit Row.scale Row.power Row.mean Row.factor Row.plus Row.gated
  clean_types
  idx_vars y
  simp only [Row.Len.len, Row.len1024]
  pointwise
  simp only [Finset.univ_unique, Finset.sum_singleton, add_assoc]

/-- The reference's result 3. -/
theorem ref3 (a0 : FVec Ideal S4096x1024 .f32) (a1 : FVec Ideal S4096x1024 .f32) (a2 : FVec Ideal S1x1024 .f32) (a3 : FVec Ideal S1x1024 .f32) (a4 : FVec Ideal S1x1024 .f32) (a5 : FVec Ideal S1x1024 .f32) (a6 : FVec Ideal S4096x1024 .f32) (a7 : FVec Ideal S4096x1024 .f32) :
    (shapeCast _ (Host.reduceAdd (mulf (mulf (addf a0 (mulf (broadcastInDim S4096x1024 ![0, 1] bcast_S1x1024_S4096x1024_0_1 a2) a1)) (broadcastInDim S4096x1024 ![0, 1] bcast_S4096x1_S4096x1024_0_1 (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (shapeCast _ a7 shapeCasts_S4096x1024_S4096x1024) (broadcastInDim S4096x1024 ![0, 1] bcast_S1x1024_S4096x1024_0_1 (addf (broadcastInDim S1x1024 ![] bcast_S_S1x1024 (constant S_ .f32 0x3F800000#32)) a4)))) (constant S_ .f32 0x00000000#32) reducesTo_S4096x1024_S1024_d0 h_S_) shapeCasts_S1024_S1x1024 : FVec Ideal S1x1024 .f32)
      = (Row.columns (Row.dGain (Row.plus a0 (Row.gated a2 a1)) a4 a7) : Product.Arr 1 1024) := by
  funext y
  unfold Row.columns Row.dGain Row.unit Row.scale Row.power Row.mean Row.factor Row.plus Row.gated
  clean_types
  idx_vars y
  simp only [Row.Len.len, Row.len1024]
  pointwise

/-- The reference's result 4. -/
theorem ref4 (a0 : FVec Ideal S4096x1024 .f32) (a1 : FVec Ideal S4096x1024 .f32) (a2 : FVec Ideal S1x1024 .f32) (a3 : FVec Ideal S1x1024 .f32) (a4 : FVec Ideal S1x1024 .f32) (a5 : FVec Ideal S1x1024 .f32) (a6 : FVec Ideal S4096x1024 .f32) (a7 : FVec Ideal S4096x1024 .f32) :
    (shapeCast _ (Host.reduceAdd (mulf (mulf (mulf (addf a0 (mulf (broadcastInDim S4096x1024 ![0, 1] bcast_S1x1024_S4096x1024_0_1 a2) a1)) (broadcastInDim S4096x1024 ![0, 1] bcast_S4096x1_S4096x1024_0_1 (Host.rsqrt (addf (Host.divf (broadcastInDim S4096x1 ![0] bcast_S4096_S4096x1_0 (Host.reduceAdd (mulf (addf a0 (mulf (broadcastInDim S4096x1024 ![0, 1] bcast_S1x1024_S4096x1024_0_1 a2) a1)) (addf a0 (mulf (broadcastInDim S4096x1024 ![0, 1] bcast_S1x1024_S4096x1024_0_1 a2) a1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a3)) (shapeCast _ a7 shapeCasts_S4096x1024_S4096x1024)) (constant S_ .f32 0x00000000#32) reducesTo_S4096x1024_S1024_d0 h_S_) shapeCasts_S1024_S1x1024 : FVec Ideal S1x1024 .f32)
      = (Row.columns (Row.dScale (Row.plus a0 (Row.gated a2 a1)) a3 a7) : Product.Arr 1 1024) := by
  funext y
  unfold Row.columns Row.dScale Row.unit Row.scale Row.power Row.mean Row.plus Row.gated
  clean_types
  idx_vars y
  simp only [Row.Len.len, Row.len1024]
  pointwise

/-- The reference's result 5. -/
theorem ref5 (a0 : FVec Ideal S4096x1024 .f32) (a1 : FVec Ideal S4096x1024 .f32) (a2 : FVec Ideal S1x1024 .f32) (a3 : FVec Ideal S1x1024 .f32) (a4 : FVec Ideal S1x1024 .f32) (a5 : FVec Ideal S1x1024 .f32) (a6 : FVec Ideal S4096x1024 .f32) (a7 : FVec Ideal S4096x1024 .f32) :
    (shapeCast _ (Host.reduceAdd a7 (constant S_ .f32 0x00000000#32) reducesTo_S4096x1024_S1024_d0 h_S_) shapeCasts_S1024_S1x1024 : FVec Ideal S1x1024 .f32)
      = (Row.columns (a7) : Product.Arr 1 1024) := by
  funext y
  unfold Row.columns
  clean_types
  idx_vars y
  pointwise

end

/-- The reference runs, keeps its arguments, and holds no semaphore. -/
theorem frameR : Cert.quiescent_Norm2BwdRefIdeal := fun m ρ _ =>
  (θ_run _ _ _).mono (fun r h => ⟨fun c => (h c).2.2.2.2.2.2, Idealize.ShloMosaic.sem_eq_zero_of_no_sems (by decide) r.2⟩)
    (Cert.Norm2BwdRefIdeal.Value.run m ρ)

/-- The kernel and the reference end with the same arrays. -/
theorem equal : Cert.algebraic_Norm2BwdIdeal_Norm2BwdRefIdeal := fun m ρ m' ρ' _ hag =>
  ⟨fun c => (Row.plus (k6 m c) (Row.dRow (Row.plus (k0 m c) (Row.gated (k2 m c) (k1 m c))) (Row.dUnit (k3 m c) (k4 m c) (k7 m c)))), fun c => Row.gated (k2 m c) (Row.plus (k6 m c) (Row.dRow (Row.plus (k0 m c) (Row.gated (k2 m c) (k1 m c))) (Row.dUnit (k3 m c) (k4 m c) (k7 m c)))), fun c => Row.columns (Row.times (Row.plus (k6 m c) (Row.dRow (Row.plus (k0 m c) (Row.gated (k2 m c) (k1 m c))) (Row.dUnit (k3 m c) (k4 m c) (k7 m c)))) (k1 m c)), fun c => Row.columns (Row.dGain (Row.plus (k0 m c) (Row.gated (k2 m c) (k1 m c))) (k4 m c) (k7 m c)), fun c => Row.columns (Row.dScale (Row.plus (k0 m c) (Row.gated (k2 m c) (k1 m c))) (k3 m c) (k7 m c)), fun c => Row.columns ((k7 m c)),
    (θ_run _ _ _).mono (fun _ h c => ⟨(h c).1.trans (val8 m c), (h c).2.1.trans (val9 m c), (h c).2.2.1.trans (val10 m c), (h c).2.2.2.1.trans (val11 m c), (h c).2.2.2.2.1.trans (val12 m c), (h c).2.2.2.2.2.1.trans (val13 m c), (h c).2.2.2.2.2.2⟩) (Cert.Norm2BwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2.1
      have h3 : r3 m' c = k3 m c := (hag c).2.2.2.1
      have h4 : r4 m' c = k4 m c := (hag c).2.2.2.2.1
      have h5 : r5 m' c = k5 m c := (hag c).2.2.2.2.2.1
      have h6 : r6 m' c = k6 m c := (hag c).2.2.2.2.2.2.1
      have h7 : r7 m' c = k7 m c := (hag c).2.2.2.2.2.2.2
      refine ⟨(h c).1.trans ((ref0 (r0 m' c) (r1 m' c) (r2 m' c) (r3 m' c) (r4 m' c) (r5 m' c) (r6 m' c) (r7 m' c)).trans ?_), (h c).2.1.trans ((ref1 (r0 m' c) (r1 m' c) (r2 m' c) (r3 m' c) (r4 m' c) (r5 m' c) (r6 m' c) (r7 m' c)).trans ?_), (h c).2.2.1.trans ((ref2 (r0 m' c) (r1 m' c) (r2 m' c) (r3 m' c) (r4 m' c) (r5 m' c) (r6 m' c) (r7 m' c)).trans ?_), (h c).2.2.2.1.trans ((ref3 (r0 m' c) (r1 m' c) (r2 m' c) (r3 m' c) (r4 m' c) (r5 m' c) (r6 m' c) (r7 m' c)).trans ?_), (h c).2.2.2.2.1.trans ((ref4 (r0 m' c) (r1 m' c) (r2 m' c) (r3 m' c) (r4 m' c) (r5 m' c) (r6 m' c) (r7 m' c)).trans ?_), (h c).2.2.2.2.2.1.trans ((ref5 (r0 m' c) (r1 m' c) (r2 m' c) (r3 m' c) (r4 m' c) (r5 m' c) (r6 m' c) (r7 m' c)).trans ?_), (h c).2.2.2.2.2.2⟩
      all_goals simp only [h0, h1, h2, h3, h4, h5, h6, h7]) (Cert.Norm2BwdRefIdeal.Value.run m' ρ')⟩

end Cert.Proof.Norm2Bwd

end
-- ==== Proof.MergeSpec.lean ====
module

public import proofs.«01_k».proof.Proof.RowSpec

/-!
The merge of the three branches: each branch's result times its gate, the gates being the logistic of their columns and offsets.
-/

@[expose] public section

noncomputable section

open Idealize.ShloMosaic

namespace Cert.Merge

open Product (Arr)

variable {M : ℕ}

/-- The gates' columns of the input projection. -/
def cols (X : Arr M 7680) : Arr M 3072 := fun y =>
  X (ix2 (y 0) ⟨4608 + (y 1).val, by have : (y 1).val < 3072 := (y 1).isLt; omega⟩)

/-- Two halves side by side. -/
def joined (p q : Arr M 1536) : Arr M 3072 := fun y =>
  if h : (y 1).val < 1536 then p (ix2 (y 0) ⟨(y 1).val, h⟩)
  else q (ix2 (y 0) ⟨(y 1).val - 1536, by have : (y 1).val < 3072 := (y 1).isLt; omega⟩)

/-- The gates. -/
def gate (J : Arr M 3072) (g : Arr 1 3072) : Arr M 3072 := fun y => Ideal.logistic (J y + g (ix2 0 (y 1)))

/-- The 1024 columns behind the first `o`. -/
def part (o : ℕ) (ho : o ≤ 2048) (G : Arr M 3072) : Arr M 1024 := fun y =>
  G (ix2 (y 0) ⟨o + (y 1).val, by have : (y 1).val < 1024 := (y 1).isLt; omega⟩)

/-- The merge. -/
def merged (G : Arr M 3072) (a b c : Arr M 1024) : Arr M 1024 := fun y =>
  part 0 (by omega) G y * a y + part 1024 (by omega) G y * b y + part 2048 (by omega) G y * c y

/-- A branch's gradient, of the cotangent `d`. -/
def dBranch (o : ℕ) (ho : o ≤ 2048) (G : Arr M 3072) (d : Arr M 1024) : Arr M 1024 := fun y => part o ho G y * d y

/-- What the gates get: the cotangent times the branch. -/
def dBy (a b c d : Arr M 1024) : Arr M 3072 := fun y =>
  if h : (y 1).val < 1024 then d (ix2 (y 0) ⟨(y 1).val, h⟩) * a (ix2 (y 0) ⟨(y 1).val, h⟩)
  else if h' : (y 1).val < 2048 then
    d (ix2 (y 0) ⟨(y 1).val - 1024, by omega⟩) * b (ix2 (y 0) ⟨(y 1).val - 1024, by omega⟩)
  else d (ix2 (y 0) ⟨(y 1).val - 2048, by have : (y 1).val < 3072 := (y 1).isLt; omega⟩)
    * c (ix2 (y 0) ⟨(y 1).val - 2048, by have : (y 1).val < 3072 := (y 1).isLt; omega⟩)

/-- The gradient with respect to the gates' columns. -/
def dGate (G : Arr M 3072) (e : Arr M 3072) : Arr M 3072 := fun y =>
  e y * (G y * (Scalar.ofBits (F := Ideal) .f32 0x3F800000#32 - G y))

end Cert.Merge

end
-- ==== Proof.MergeBwd.lean ====
module

public import proofs.«01_k».proof.Defs
public import proofs.«01_k».proof.Proof.Gen.MergeBwdIdeal.Value
public import proofs.«01_k».proof.Proof.Gen.MergeBwdRefIdeal.Run
public import proofs.«01_k».proof.Proof.RowSpec
public import proofs.«01_k».proof.Proof.MergeSpec
public import Idealize.ShloMosaic.Lib.Tactic.CleanTypes

/-!
The backward pass of the merge of the three branches.
-/

@[expose] public section

set_option maxRecDepth 16384

noncomputable section

open Idealize.ShloMosaic Idealize.ShloMosaic.TcCoe Idealize.SL.Sem
open Idealize.ShloMosaic.Pipeline (Dat)

namespace Cert.Proof.MergeBwd

section
open Cert.MergeBwdIdeal Cert.MergeBwdIdeal.Gen

variable (m : (ℓ : Loc nD τ sig) → Buf (Elt Ideal) ℓ)

abbrev k0 (c : Dev nD) : Product.Arr 4096 7680 := m ((c : Thread nD τ).loc main_arg0)
abbrev k1 (c : Dev nD) : Product.Arr 4096 1024 := m ((c : Thread nD τ).loc main_arg1)
abbrev k2 (c : Dev nD) : Product.Arr 4096 1024 := m ((c : Thread nD τ).loc main_arg2)
abbrev k3 (c : Dev nD) : Product.Arr 4096 1024 := m ((c : Thread nD τ).loc main_arg3)
abbrev k4 (c : Dev nD) : Product.Arr 1 3072 := m ((c : Thread nD τ).loc main_arg4)
abbrev k5 (c : Dev nD) : Product.Arr 4096 1024 := m ((c : Thread nD τ).loc main_arg5)

theorem lt (t : Fin cfg0.N) : t.val < 8 := lt_of_lt_of_eq t.isLt (show cfg0.N = 8 from N_0)

/-- Which block each window stages at a point. -/
theorem idx : ∀ t : Fin cfg0.N, win0_0.index t = ![t.val, 3]
    ∧ win0_1.index t = ![t.val, 4]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![0, 0] := by
  decide +kernel

theorem blk2 (c : Dev nD) (t : Fin cfg0.N) : (iblk m c 2 t : FVec Ideal S512x1024 .f32) = Row.tile (k1 m c) t.val (lt t) := by
  funext y
  idx_vars y
  have h : (iblk m c 2 t : FVec Ideal S512x1024 .f32) (ix2 y0 y1)
      = k1 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk3 (c : Dev nD) (t : Fin cfg0.N) : (iblk m c 3 t : FVec Ideal S512x1024 .f32) = Row.tile (k2 m c) t.val (lt t) := by
  funext y
  idx_vars y
  have h : (iblk m c 3 t : FVec Ideal S512x1024 .f32) (ix2 y0 y1)
      = k2 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk4 (c : Dev nD) (t : Fin cfg0.N) : (iblk m c 4 t : FVec Ideal S512x1024 .f32) = Row.tile (k3 m c) t.val (lt t) := by
  funext y
  idx_vars y
  have h : (iblk m c 4 t : FVec Ideal S512x1024 .f32) (ix2 y0 y1)
      = k3 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk5 (c : Dev nD) (t : Fin cfg0.N) : (iblk m c 5 t : FVec Ideal S1x3072 .f32) = k4 m c := by
  funext y
  idx_vars y
  have h : (iblk m c 5 t : FVec Ideal S1x3072 .f32) (ix2 y0 y1)
      = k4 m c (ix2 ⟨0 * 1 + y0.val, by omega⟩ ⟨0 * 3072 + y1.val, by omega⟩) := by
    blk_point [iblk, V, idx t]
  exact h.trans (Product.read _ (by show 0 * 1 + y0.val = y0.val; omega) (by show 0 * 3072 + y1.val = y1.val; omega))
theorem blk6 (c : Dev nD) (t : Fin cfg0.N) : (iblk m c 6 t : FVec Ideal S512x1024 .f32) = Row.tile (k5 m c) t.val (lt t) := by
  funext y
  idx_vars y
  have h : (iblk m c 6 t : FVec Ideal S512x1024 .f32) (ix2 y0 y1)
      = k5 m c (ix2 ⟨t.val * 512 + y0.val, by have := lt t; omega⟩ ⟨0 * 1024 + y1.val, by omega⟩) := by
    blk_point [iblk, V, idx t]
  exact h.trans (Product.read _ rfl (by show 0 * 1024 + y1.val = y1.val; omega))

theorem blkJ (c : Dev nD) (t : Fin cfg0.N) : Merge.joined (iblk m c 0 t : Product.Arr 512 1536) (iblk m c 1 t)
    = Row.tile (Merge.cols (k0 m c)) t.val (lt t) := by
  funext y
  idx_vars y
  have h0 : ∀ k : Fin 1536, (iblk m c 0 t : FVec Ideal S512x1536 .f32) (ix2 y0 k)
      = k0 m c (ix2 ⟨t.val * 512 + y0.val, by have := lt t; omega⟩ ⟨3 * 1536 + k.val, by omega⟩) := fun k => by
    blk_point [iblk, V, idx t]
  have h1 : ∀ k : Fin 1536, (iblk m c 1 t : FVec Ideal S512x1536 .f32) (ix2 y0 k)
      = k0 m c (ix2 ⟨t.val * 512 + y0.val, by have := lt t; omega⟩ ⟨4 * 1536 + k.val, by omega⟩) := fun k => by
    blk_point [iblk, V, idx t]
  unfold Merge.joined Row.tile Merge.cols
  by_cases h : y1.val < 1536
  · exact (dif_pos h).trans ((h0 _).trans (Product.read _ rfl (by show 3 * 1536 + y1.val = 4608 + y1.val; omega)))
  · exact (dif_neg h).trans ((h1 _).trans (Product.read _ rfl (by show 4 * 1536 + (y1.val - 1536) = 4608 + y1.val; omega)))

/-- What a point writes. -/
theorem point7 (c : Dev nD) (t : Fin cfg0.N) (y : S512x3072.Idx) :
    (outsAt0 m c t.val t.isLt).1 y = ((Merge.dGate (Merge.gate (Merge.joined (iblk m c 0 t) (iblk m c 1 t)) (iblk m c 5 t)) (Merge.dBy (iblk m c 2 t) (iblk m c 3 t) (iblk m c 4 t) (iblk m c 6 t))) : Product.Arr 512 3072) y := by
  by_cases h : t.val % 8 = 0
  · have := lt t
    rw [outsAt0_A m c t h (by omega)]
    frame_out
    unfold_payloads
    unfold Merge.dGate Merge.dBy Merge.gate Merge.joined
    idx_vars y
    pointwise
    by_cases h1 : y1.val < 1024
    · have h2 : y1.val < 2048 := by omega
      simp only [h1, h2, ↓reduceDIte, zero_add, add_zero]
    · by_cases h2 : y1.val < 2048
      · simp only [h1, h2, ↓reduceDIte, zero_add, add_zero]
      · simp only [h1, h2, ↓reduceDIte, zero_add, add_zero]
  · have := lt t
    rw [outsAt0_B m c t h (by omega)]
    frame_out
    unfold_payloads
    unfold Merge.dGate Merge.dBy Merge.gate Merge.joined
    idx_vars y
    pointwise
    by_cases h1 : y1.val < 1024
    · have h2 : y1.val < 2048 := by omega
      simp only [h1, h2, ↓reduceDIte, zero_add, add_zero]
    · by_cases h2 : y1.val < 2048
      · simp only [h1, h2, ↓reduceDIte, zero_add, add_zero]
      · simp only [h1, h2, ↓reduceDIte, zero_add, add_zero]

theorem val7 (c : Dev nD) : ((dats m 0 c).arrAt 7 cfg0.N : Product.Arr 4096 3072) = (Merge.dGate (Merge.gate (Merge.cols (k0 m c)) (k4 m c)) (Merge.dBy (k1 m c) (k2 m c) (k3 m c) (k5 m c))) := by
  refine (dats m 0 c).arrAt_eq_of_covers 7 _ (by decide +kernel) fun t hf y => ?_
  blk_simp [idx t]
  rw [after0_7]
  refine (point7 m c t y).trans ?_
  simp only [blk2 m c t, blk3 m c t, blk4 m c t, blk5 m c t, blk6 m c t, blkJ m c t]
  have := lt t
  have hy : (y 0).val < 512 := (y 0).isLt
  refine (show _ = ((Merge.dGate (Merge.gate (Merge.cols (k0 m c)) (k4 m c)) (Merge.dBy (k1 m c) (k2 m c) (k3 m c) (k5 m c)))) (ix2 (⟨t.val * 512 + (y 0).val, by omega⟩ : Fin 4096) (y 1)) from rfl).trans
    (congrArg ((Merge.dGate (Merge.gate (Merge.cols (k0 m c)) (k4 m c)) (Merge.dBy (k1 m c) (k2 m c) (k3 m c) (k5 m c)))) ?_)
  blk_ext [idx t]

/-- What a point writes. -/
theorem point8 (c : Dev nD) (t : Fin cfg0.N) (y : S512x1024.Idx) :
    (outsAt0 m c t.val t.isLt).2.1 y = (Merge.dBranch 0 (by omega) (Merge.gate (Merge.joined (iblk m c 0 t) (iblk m c 1 t)) (iblk m c 5 t)) (iblk m c 6 t) : Product.Arr 512 1024) y := by
  by_cases h : t.val % 8 = 0
  · have := lt t
    rw [outsAt0_A m c t h (by omega)]
    frame_out
    unfold_payloads
    unfold Merge.dBranch Merge.part Merge.gate Merge.joined
    idx_vars y
    pointwise
  · have := lt t
    rw [outsAt0_B m c t h (by omega)]
    frame_out
    unfold_payloads
    unfold Merge.dBranch Merge.part Merge.gate Merge.joined
    idx_vars y
    pointwise

theorem val8 (c : Dev nD) : ((dats m 0 c).arrAt 8 cfg0.N : Product.Arr 4096 1024) = Merge.dBranch 0 (by omega) (Merge.gate (Merge.cols (k0 m c)) (k4 m c)) (k5 m c) := by
  refine (dats m 0 c).arrAt_eq_of_covers 8 _ (by decide +kernel) fun t hf y => ?_
  blk_simp [idx t]
  rw [after0_8]
  refine (point8 m c t y).trans ?_
  simp only [blk2 m c t, blk3 m c t, blk4 m c t, blk5 m c t, blk6 m c t, blkJ m c t]
  have := lt t
  have hy : (y 0).val < 512 := (y 0).isLt
  refine (show _ = (Merge.dBranch 0 (by omega) (Merge.gate (Merge.cols (k0 m c)) (k4 m c)) (k5 m c)) (ix2 (⟨t.val * 512 + (y 0).val, by omega⟩ : Fin 4096) (y 1)) from rfl).trans
    (congrArg (Merge.dBranch 0 (by omega) (Merge.gate (Merge.cols (k0 m c)) (k4 m c)) (k5 m c)) ?_)
  blk_ext [idx t]

/-- What a point writes. -/
theorem point9 (c : Dev nD) (t : Fin cfg0.N) (y : S512x1024.Idx) :
    (outsAt0 m c t.val t.isLt).2.2.1 y = (Merge.dBranch 1024 (by omega) (Merge.gate (Merge.joined (iblk m c 0 t) (iblk m c 1 t)) (iblk m c 5 t)) (iblk m c 6 t) : Product.Arr 512 1024) y := by
  by_cases h : t.val % 8 = 0
  · have := lt t
    rw [outsAt0_A m c t h (by omega)]
    frame_out
    unfold_payloads
    unfold Merge.dBranch Merge.part Merge.gate Merge.joined
    idx_vars y
    pointwise
  · have := lt t
    rw [outsAt0_B m c t h (by omega)]
    frame_out
    unfold_payloads
    unfold Merge.dBranch Merge.part Merge.gate Merge.joined
    idx_vars y
    pointwise

theorem val9 (c : Dev nD) : ((dats m 0 c).arrAt 9 cfg0.N : Product.Arr 4096 1024) = Merge.dBranch 1024 (by omega) (Merge.gate (Merge.cols (k0 m c)) (k4 m c)) (k5 m c) := by
  refine (dats m 0 c).arrAt_eq_of_covers 9 _ (by decide +kernel) fun t hf y => ?_
  blk_simp [idx t]
  rw [after0_9]
  refine (point9 m c t y).trans ?_
  simp only [blk2 m c t, blk3 m c t, blk4 m c t, blk5 m c t, blk6 m c t, blkJ m c t]
  have := lt t
  have hy : (y 0).val < 512 := (y 0).isLt
  refine (show _ = (Merge.dBranch 1024 (by omega) (Merge.gate (Merge.cols (k0 m c)) (k4 m c)) (k5 m c)) (ix2 (⟨t.val * 512 + (y 0).val, by omega⟩ : Fin 4096) (y 1)) from rfl).trans
    (congrArg (Merge.dBranch 1024 (by omega) (Merge.gate (Merge.cols (k0 m c)) (k4 m c)) (k5 m c)) ?_)
  blk_ext [idx t]

/-- What a point writes. -/
theorem point10 (c : Dev nD) (t : Fin cfg0.N) (y : S512x1024.Idx) :
    (outsAt0 m c t.val t.isLt).2.2.2.1 y = (Merge.dBranch 2048 (by omega) (Merge.gate (Merge.joined (iblk m c 0 t) (iblk m c 1 t)) (iblk m c 5 t)) (iblk m c 6 t) : Product.Arr 512 1024) y := by
  by_cases h : t.val % 8 = 0
  · have := lt t
    rw [outsAt0_A m c t h (by omega)]
    frame_out
    unfold_payloads
    unfold Merge.dBranch Merge.part Merge.gate Merge.joined
    idx_vars y
    pointwise
  · have := lt t
    rw [outsAt0_B m c t h (by omega)]
    frame_out
    unfold_payloads
    unfold Merge.dBranch Merge.part Merge.gate Merge.joined
    idx_vars y
    pointwise

theorem val10 (c : Dev nD) : ((dats m 0 c).arrAt 10 cfg0.N : Product.Arr 4096 1024) = Merge.dBranch 2048 (by omega) (Merge.gate (Merge.cols (k0 m c)) (k4 m c)) (k5 m c) := by
  refine (dats m 0 c).arrAt_eq_of_covers 10 _ (by decide +kernel) fun t hf y => ?_
  blk_simp [idx t]
  rw [after0_10]
  refine (point10 m c t y).trans ?_
  simp only [blk2 m c t, blk3 m c t, blk4 m c t, blk5 m c t, blk6 m c t, blkJ m c t]
  have := lt t
  have hy : (y 0).val < 512 := (y 0).isLt
  refine (show _ = (Merge.dBranch 2048 (by omega) (Merge.gate (Merge.cols (k0 m c)) (k4 m c)) (k5 m c)) (ix2 (⟨t.val * 512 + (y 0).val, by omega⟩ : Fin 4096) (y 1)) from rfl).trans
    (congrArg (Merge.dBranch 2048 (by omega) (Merge.gate (Merge.cols (k0 m c)) (k4 m c)) (k5 m c)) ?_)
  blk_ext [idx t]

/-- The first point sets the sums, the others add to them. -/
theorem first11 (c : Dev nD) (t : Fin cfg0.N) (h : t.val % 8 = 0) (y : S1x3072.Idx) :
    (outsAt0 m c t.val t.isLt).2.2.2.2 y = 0 + Row.columns ((Merge.dGate (Merge.gate (Merge.joined (iblk m c 0 t) (iblk m c 1 t)) (iblk m c 5 t)) (Merge.dBy (iblk m c 2 t) (iblk m c 3 t) (iblk m c 4 t) (iblk m c 6 t))) : Product.Arr 512 3072) y := by
  have := lt t
  rw [outsAt0_A m c t h (by omega), zero_add]
  frame_out
  unfold_payloads
  unfold Row.columns Merge.dGate Merge.dBy Merge.gate Merge.joined
  idx_vars y
  pointwise
  by_cases h1 : y1.val < 1024
  · have h2 : y1.val < 2048 := by omega
    simp only [h1, h2, ↓reduceDIte, zero_add, add_zero]
  · by_cases h2 : y1.val < 2048
    · simp only [h1, h2, ↓reduceDIte, zero_add, add_zero]
    · simp only [h1, h2, ↓reduceDIte, zero_add, add_zero]
theorem next11 (c : Dev nD) (t : Fin cfg0.N) (h : ¬t.val % 8 = 0) (y : S1x3072.Idx) :
    (outsAt0 m c t.val t.isLt).2.2.2.2 y = (outsAt0 m c (t.val - 1) (Nat.lt_of_le_of_lt (Nat.sub_le _ _) t.isLt)).2.2.2.2 y
      + Row.columns ((Merge.dGate (Merge.gate (Merge.joined (iblk m c 0 t) (iblk m c 1 t)) (iblk m c 5 t)) (Merge.dBy (iblk m c 2 t) (iblk m c 3 t) (iblk m c 4 t) (iblk m c 6 t))) : Product.Arr 512 3072) y := by
  have := lt t
  rw [outsAt0_B m c t h (by omega)]
  frame_out
  unfold_payloads
  unfold Row.columns Merge.dGate Merge.dBy Merge.gate Merge.joined
  idx_vars y
  pointwise
  by_cases h1 : y1.val < 1024
  · have h2 : y1.val < 2048 := by omega
    simp only [h1, h2, ↓reduceDIte, zero_add, add_zero]
  · by_cases h2 : y1.val < 2048
    · simp only [h1, h2, ↓reduceDIte, zero_add, add_zero]
    · simp only [h1, h2, ↓reduceDIte, zero_add, add_zero]

theorem val11 (c : Dev nD) : ((dats m 0 c).arrAt 11 cfg0.N : Product.Arr 1 3072) = Row.columns ((Merge.dGate (Merge.gate (Merge.cols (k0 m c)) (k4 m c)) (Merge.dBy (k1 m c) (k2 m c) (k3 m c) (k5 m c)))) := by
  refine (dats m 0 c).arrAt_eq_of_after_last 11 t0_7 (by decide +kernel) _ fun j => ?_
  blk_simp
  rw [after0_11]
  refine (Pipeline.eq_sum_fin_of_reset_step_apply_last (N := cfg0.N) (fun n h => (outsAt0 m c n h).2.2.2.2) 8 (fun _ => 0)
    (fun t y => Row.columns ((Merge.dGate (Merge.gate (Merge.joined (iblk m c 0 t) (iblk m c 1 t)) (iblk m c 5 t)) (Merge.dBy (iblk m c 2 t) (iblk m c 3 t) (iblk m c 4 t) (iblk m c 6 t))) : Product.Arr 512 3072) y) (fun t h i => first11 m c t h i) (fun t h i => next11 m c t h i)
    (le_of_eq N_0) t0_7 rfl j).trans ((zero_add (M := EReal) _).trans ?_)
  refine Eq.trans (Finset.sum_congr rfl fun t _ => ?_) (Row.columns_tiles (n := cfg0.N) N_0 ((Merge.dGate (Merge.gate (Merge.cols (k0 m c)) (k4 m c)) (Merge.dBy (k1 m c) (k2 m c) (k3 m c) (k5 m c)))) lt j)
  simp only [blk2 m c t, blk3 m c t, blk4 m c t, blk5 m c t, blk6 m c t, blkJ m c t]
  all_goals rfl

end

section
open Cert.MergeBwdRefIdeal Cert.MergeBwdRefIdeal.Gen

variable (m : (ℓ : Loc nD τ sig) → Buf (Elt Ideal) ℓ)

abbrev r0 (c : Dev nD) : Product.Arr 4096 7680 := m ((c : Thread nD τ).loc main_arg0)
abbrev r1 (c : Dev nD) : Product.Arr 4096 1024 := m ((c : Thread nD τ).loc main_arg1)
abbrev r2 (c : Dev nD) : Product.Arr 4096 1024 := m ((c : Thread nD τ).loc main_arg2)
abbrev r3 (c : Dev nD) : Product.Arr 4096 1024 := m ((c : Thread nD τ).loc main_arg3)
abbrev r4 (c : Dev nD) : Product.Arr 1 3072 := m ((c : Thread nD τ).loc main_arg4)
abbrev r5 (c : Dev nD) : Product.Arr 4096 1024 := m ((c : Thread nD τ).loc main_arg5)

/-- The reference's result 0. -/
theorem ref0 (a0 : FVec Ideal S4096x7680 .f32) (a1 : FVec Ideal S4096x1024 .f32) (a2 : FVec Ideal S4096x1024 .f32) (a3 : FVec Ideal S4096x1024 .f32) (a4 : FVec Ideal S1x3072 .f32) (a5 : FVec Ideal S4096x1024 .f32) :
    (truncf .bf16 (mulf (shapeCast _ (addf (addf (pad S4096x3x1024 ![0, 2, 0] ![0, 0, 0] ![0, 0, 0] (broadcastInDim S4096x1x1024 ![0, 2] bcast_S4096x1024_S4096x1x1024_0_2 (mulf (shapeCast _ a5 shapeCasts_S4096x1024_S4096x1024) a3)) (constant S_ .f32 0x00000000#32) pads_S4096x1x1024_S4096x3x1024_000_200_000 h_S_) (pad S4096x3x1024 ![0, 1, 0] ![0, 1, 0] ![0, 0, 0] (broadcastInDim S4096x1x1024 ![0, 2] bcast_S4096x1024_S4096x1x1024_0_2 (mulf (shapeCast _ a5 shapeCasts_S4096x1024_S4096x1024) a2)) (constant S_ .f32 0x00000000#32) pads_S4096x1x1024_S4096x3x1024_000_110_000 h_S_)) (pad S4096x3x1024 ![0, 0, 0] ![0, 2, 0] ![0, 0, 0] (broadcastInDim S4096x1x1024 ![0, 2] bcast_S4096x1024_S4096x1x1024_0_2 (mulf (shapeCast _ a5 shapeCasts_S4096x1024_S4096x1024) a1)) (constant S_ .f32 0x00000000#32) pads_S4096x1x1024_S4096x3x1024_000_020_000 h_S_)) shapeCasts_S4096x3x1024_S4096x3072) (mulf (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 a4)))))) (subf (broadcastInDim S4096x3072 ![] bcast_S_S4096x3072 (constant S_ .f32 0x3F800000#32)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 a4))))))))) bitsLt_bf16_f32 : FVec Ideal S4096x3072 .bf16)
      = ((Merge.dGate (Merge.gate (Merge.cols a0) a4) (Merge.dBy a1 a2 a3 a5)) : Product.Arr 4096 3072) := by
  funext y
  unfold Merge.dGate Merge.dBy Merge.gate Merge.cols
  clean_types
  idx_vars y
  pointwise
  simp only [Row.logistic_written]
  have hb := y1.isLt
  by_cases h1 : y1.val < 1024
  · have h2 : y1.val < 2048 := by omega
    have hq : y1.val / 1024 = 0 := by omega
    have hm : y1.val % 1024 = y1.val := by omega
    have hl : y1.val < 1024 := by omega
    have hz : (0 : ℕ) < 1 := by omega
    simp only [hq, hm, h1, h2, hl, hz, Nat.reduceLeDiff, Nat.reduceSub, Nat.reduceLT, Nat.lt_add_one, le_refl, lt_self_iff_false, zero_lt_one, nonpos_iff_eq_zero, OfNat.ofNat_ne_zero, one_ne_zero, and_true, true_and, and_self, false_and, and_false, ↓reduceDIte, zero_add, add_zero]
  · by_cases h2 : y1.val < 2048
    · have hq : y1.val / 1024 = 1 := by omega
      have hm : y1.val % 1024 = y1.val - 1024 := by omega
      have hl : y1.val - 1024 < 1024 := by omega
      have hz : (0 : ℕ) < 1 := by omega
      simp only [hq, hm, h1, h2, hl, hz, Nat.reduceLeDiff, Nat.reduceSub, Nat.reduceLT, Nat.lt_add_one, le_refl, lt_self_iff_false, zero_lt_one, nonpos_iff_eq_zero, OfNat.ofNat_ne_zero, one_ne_zero, and_true, true_and, and_self, false_and, and_false, ↓reduceDIte, zero_add, add_zero]
    · have hq : y1.val / 1024 = 2 := by omega
      have hm : y1.val % 1024 = y1.val - 2048 := by omega
      have hl : y1.val - 2048 < 1024 := by omega
      have hz : (0 : ℕ) < 1 := by omega
      simp only [hq, hm, h1, h2, hl, hz, Nat.reduceLeDiff, Nat.reduceSub, Nat.reduceLT, Nat.lt_add_one, le_refl, lt_self_iff_false, zero_lt_one, nonpos_iff_eq_zero, OfNat.ofNat_ne_zero, one_ne_zero, and_true, true_and, and_self, false_and, and_false, ↓reduceDIte, zero_add, add_zero]

/-- The reference's result 1. -/
theorem ref1 (a0 : FVec Ideal S4096x7680 .f32) (a1 : FVec Ideal S4096x1024 .f32) (a2 : FVec Ideal S4096x1024 .f32) (a3 : FVec Ideal S4096x1024 .f32) (a4 : FVec Ideal S1x3072 .f32) (a5 : FVec Ideal S4096x1024 .f32) :
    (truncf .bf16 (mulf (shapeCast _ (extractStridedSlice S4096x1x1024 ![0, 0, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 a4)))))) shapeCasts_S4096x3072_S4096x3x1024) slices_S4096x3x1024_S4096x1x1024_0_0_0) shapeCasts_S4096x1x1024_S4096x1024) (shapeCast _ a5 shapeCasts_S4096x1024_S4096x1024)) bitsLt_bf16_f32 : FVec Ideal S4096x1024 .bf16)
      = (Merge.dBranch 0 (by omega) (Merge.gate (Merge.cols a0) a4) a5 : Product.Arr 4096 1024) := by
  funext y
  unfold Merge.dBranch Merge.part Merge.gate Merge.cols
  clean_types
  idx_vars y
  pointwise
  simp only [Row.logistic_written]

/-- The reference's result 2. -/
theorem ref2 (a0 : FVec Ideal S4096x7680 .f32) (a1 : FVec Ideal S4096x1024 .f32) (a2 : FVec Ideal S4096x1024 .f32) (a3 : FVec Ideal S4096x1024 .f32) (a4 : FVec Ideal S1x3072 .f32) (a5 : FVec Ideal S4096x1024 .f32) :
    (truncf .bf16 (mulf (shapeCast _ (extractStridedSlice S4096x1x1024 ![0, 1, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 a4)))))) shapeCasts_S4096x3072_S4096x3x1024) slices_S4096x3x1024_S4096x1x1024_0_1_0) shapeCasts_S4096x1x1024_S4096x1024) (shapeCast _ a5 shapeCasts_S4096x1024_S4096x1024)) bitsLt_bf16_f32 : FVec Ideal S4096x1024 .bf16)
      = (Merge.dBranch 1024 (by omega) (Merge.gate (Merge.cols a0) a4) a5 : Product.Arr 4096 1024) := by
  funext y
  unfold Merge.dBranch Merge.part Merge.gate Merge.cols
  clean_types
  idx_vars y
  pointwise
  simp only [Row.logistic_written]

/-- The reference's result 3. -/
theorem ref3 (a0 : FVec Ideal S4096x7680 .f32) (a1 : FVec Ideal S4096x1024 .f32) (a2 : FVec Ideal S4096x1024 .f32) (a3 : FVec Ideal S4096x1024 .f32) (a4 : FVec Ideal S1x3072 .f32) (a5 : FVec Ideal S4096x1024 .f32) :
    (truncf .bf16 (mulf (shapeCast _ (extractStridedSlice S4096x1x1024 ![0, 2, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 a4)))))) shapeCasts_S4096x3072_S4096x3x1024) slices_S4096x3x1024_S4096x1x1024_0_2_0) shapeCasts_S4096x1x1024_S4096x1024) (shapeCast _ a5 shapeCasts_S4096x1024_S4096x1024)) bitsLt_bf16_f32 : FVec Ideal S4096x1024 .bf16)
      = (Merge.dBranch 2048 (by omega) (Merge.gate (Merge.cols a0) a4) a5 : Product.Arr 4096 1024) := by
  funext y
  unfold Merge.dBranch Merge.part Merge.gate Merge.cols
  clean_types
  idx_vars y
  pointwise
  simp only [Row.logistic_written]

/-- The reference's result 4. -/
theorem ref4 (a0 : FVec Ideal S4096x7680 .f32) (a1 : FVec Ideal S4096x1024 .f32) (a2 : FVec Ideal S4096x1024 .f32) (a3 : FVec Ideal S4096x1024 .f32) (a4 : FVec Ideal S1x3072 .f32) (a5 : FVec Ideal S4096x1024 .f32) :
    (shapeCast _ (Host.reduceAdd (mulf (shapeCast _ (addf (addf (pad S4096x3x1024 ![0, 2, 0] ![0, 0, 0] ![0, 0, 0] (broadcastInDim S4096x1x1024 ![0, 2] bcast_S4096x1024_S4096x1x1024_0_2 (mulf (shapeCast _ a5 shapeCasts_S4096x1024_S4096x1024) a3)) (constant S_ .f32 0x00000000#32) pads_S4096x1x1024_S4096x3x1024_000_200_000 h_S_) (pad S4096x3x1024 ![0, 1, 0] ![0, 1, 0] ![0, 0, 0] (broadcastInDim S4096x1x1024 ![0, 2] bcast_S4096x1024_S4096x1x1024_0_2 (mulf (shapeCast _ a5 shapeCasts_S4096x1024_S4096x1024) a2)) (constant S_ .f32 0x00000000#32) pads_S4096x1x1024_S4096x3x1024_000_110_000 h_S_)) (pad S4096x3x1024 ![0, 0, 0] ![0, 2, 0] ![0, 0, 0] (broadcastInDim S4096x1x1024 ![0, 2] bcast_S4096x1024_S4096x1x1024_0_2 (mulf (shapeCast _ a5 shapeCasts_S4096x1024_S4096x1024) a1)) (constant S_ .f32 0x00000000#32) pads_S4096x1x1024_S4096x3x1024_000_020_000 h_S_)) shapeCasts_S4096x3x1024_S4096x3072) (mulf (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 a4)))))) (subf (broadcastInDim S4096x3072 ![] bcast_S_S4096x3072 (constant S_ .f32 0x3F800000#32)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 a4))))))))) (constant S_ .f32 0x00000000#32) reducesTo_S4096x3072_S3072_d0 h_S_) shapeCasts_S3072_S1x3072 : FVec Ideal S1x3072 .f32)
      = (Row.columns ((Merge.dGate (Merge.gate (Merge.cols a0) a4) (Merge.dBy a1 a2 a3 a5))) : Product.Arr 1 3072) := by
  funext y
  unfold Row.columns Merge.dGate Merge.dBy Merge.gate Merge.cols
  clean_types
  idx_vars y
  pointwise
  simp only [Row.logistic_written]
  have hb := y1.isLt
  by_cases h1 : y1.val < 1024
  · have h2 : y1.val < 2048 := by omega
    have hq : y1.val / 1024 = 0 := by omega
    have hm : y1.val % 1024 = y1.val := by omega
    have hl : y1.val < 1024 := by omega
    have hz : (0 : ℕ) < 1 := by omega
    simp only [hq, hm, h1, h2, hl, hz, Nat.reduceLeDiff, Nat.reduceSub, Nat.reduceLT, Nat.lt_add_one, le_refl, lt_self_iff_false, zero_lt_one, nonpos_iff_eq_zero, OfNat.ofNat_ne_zero, one_ne_zero, and_true, true_and, and_self, false_and, and_false, ↓reduceDIte, zero_add, add_zero]
  · by_cases h2 : y1.val < 2048
    · have hq : y1.val / 1024 = 1 := by omega
      have hm : y1.val % 1024 = y1.val - 1024 := by omega
      have hl : y1.val - 1024 < 1024 := by omega
      have hz : (0 : ℕ) < 1 := by omega
      simp only [hq, hm, h1, h2, hl, hz, Nat.reduceLeDiff, Nat.reduceSub, Nat.reduceLT, Nat.lt_add_one, le_refl, lt_self_iff_false, zero_lt_one, nonpos_iff_eq_zero, OfNat.ofNat_ne_zero, one_ne_zero, and_true, true_and, and_self, false_and, and_false, ↓reduceDIte, zero_add, add_zero]
    · have hq : y1.val / 1024 = 2 := by omega
      have hm : y1.val % 1024 = y1.val - 2048 := by omega
      have hl : y1.val - 2048 < 1024 := by omega
      have hz : (0 : ℕ) < 1 := by omega
      simp only [hq, hm, h1, h2, hl, hz, Nat.reduceLeDiff, Nat.reduceSub, Nat.reduceLT, Nat.lt_add_one, le_refl, lt_self_iff_false, zero_lt_one, nonpos_iff_eq_zero, OfNat.ofNat_ne_zero, one_ne_zero, and_true, true_and, and_self, false_and, and_false, ↓reduceDIte, zero_add, add_zero]

end

/-- The reference runs, keeps its arguments, and holds no semaphore. -/
theorem frameR : Cert.quiescent_MergeBwdRefIdeal := fun m ρ _ =>
  (θ_run _ _ _).mono (fun r h => ⟨fun c => (h c).2.2.2.2.2, Idealize.ShloMosaic.sem_eq_zero_of_no_sems (by decide) r.2⟩)
    (Cert.MergeBwdRefIdeal.Value.run m ρ)

/-- The kernel and the reference end with the same arrays. -/
theorem equal : Cert.algebraic_MergeBwdIdeal_MergeBwdRefIdeal := fun m ρ m' ρ' _ hag =>
  ⟨fun c => (Merge.dGate (Merge.gate (Merge.cols (k0 m c)) (k4 m c)) (Merge.dBy (k1 m c) (k2 m c) (k3 m c) (k5 m c))), fun c => Merge.dBranch 0 (by omega) (Merge.gate (Merge.cols (k0 m c)) (k4 m c)) (k5 m c), fun c => Merge.dBranch 1024 (by omega) (Merge.gate (Merge.cols (k0 m c)) (k4 m c)) (k5 m c), fun c => Merge.dBranch 2048 (by omega) (Merge.gate (Merge.cols (k0 m c)) (k4 m c)) (k5 m c), fun c => Row.columns ((Merge.dGate (Merge.gate (Merge.cols (k0 m c)) (k4 m c)) (Merge.dBy (k1 m c) (k2 m c) (k3 m c) (k5 m c)))),
    (θ_run _ _ _).mono (fun _ h c => ⟨(h c).1.trans (val7 m c), (h c).2.1.trans (val8 m c), (h c).2.2.1.trans (val9 m c), (h c).2.2.2.1.trans (val10 m c), (h c).2.2.2.2.1.trans (val11 m c), (h c).2.2.2.2.2⟩) (Cert.MergeBwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2.1
      have h3 : r3 m' c = k3 m c := (hag c).2.2.2.1
      have h4 : r4 m' c = k4 m c := (hag c).2.2.2.2.1
      have h5 : r5 m' c = k5 m c := (hag c).2.2.2.2.2
      refine ⟨(h c).1.trans ((ref0 (r0 m' c) (r1 m' c) (r2 m' c) (r3 m' c) (r4 m' c) (r5 m' c)).trans ?_), (h c).2.1.trans ((ref1 (r0 m' c) (r1 m' c) (r2 m' c) (r3 m' c) (r4 m' c) (r5 m' c)).trans ?_), (h c).2.2.1.trans ((ref2 (r0 m' c) (r1 m' c) (r2 m' c) (r3 m' c) (r4 m' c) (r5 m' c)).trans ?_), (h c).2.2.2.1.trans ((ref3 (r0 m' c) (r1 m' c) (r2 m' c) (r3 m' c) (r4 m' c) (r5 m' c)).trans ?_), (h c).2.2.2.2.1.trans ((ref4 (r0 m' c) (r1 m' c) (r2 m' c) (r3 m' c) (r4 m' c) (r5 m' c)).trans ?_), (h c).2.2.2.2.2⟩
      all_goals simp only [h0, h1, h2, h3, h4, h5]) (Cert.MergeBwdRefIdeal.Value.run m' ρ')⟩

end Cert.Proof.MergeBwd

end
-- ==== Proof.ConvLnBwd.lean ====
module

public import proofs.«01_k».proof.Defs
public import proofs.«01_k».proof.Proof.Gen.ConvLnBwdIdeal.Value
public import proofs.«01_k».proof.Proof.Gen.ConvLnBwdRefIdeal.Run
public import proofs.«01_k».proof.Proof.RowSpec
public import Idealize.ShloMosaic.Lib.Tactic.CleanTypes

/-!
The backward pass of the convolution's layer norm and activation.
-/

@[expose] public section

set_option maxRecDepth 16384

noncomputable section

open Idealize.ShloMosaic Idealize.ShloMosaic.TcCoe Idealize.SL.Sem
open Idealize.ShloMosaic.Pipeline (Dat)

namespace Cert.Proof.ConvLnBwd

section
open Cert.ConvLnBwdIdeal Cert.ConvLnBwdIdeal.Gen

variable (m : (ℓ : Loc nD τ sig) → Buf (Elt Ideal) ℓ)

abbrev k0 (c : Dev nD) : Product.Arr 4096 512 := m ((c : Thread nD τ).loc main_arg0)
abbrev k1 (c : Dev nD) : Product.Arr 1 512 := m ((c : Thread nD τ).loc main_arg1)
abbrev k2 (c : Dev nD) : Product.Arr 1 512 := m ((c : Thread nD τ).loc main_arg2)
abbrev k3 (c : Dev nD) : Product.Arr 4096 512 := m ((c : Thread nD τ).loc main_arg3)

theorem lt (t : Fin cfg0.N) : t.val < 8 := lt_of_lt_of_eq t.isLt (show cfg0.N = 8 from N_0)

/-- Which block each window stages at a point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, 0]
    ∧ win0_6.index t = ![0, 0] := by
  decide +kernel

theorem blk0 (c : Dev nD) (t : Fin cfg0.N) : (iblk m c 0 t : FVec Ideal S512x512 .f32) = Row.tile (k0 m c) t.val (lt t) := by
  funext y
  idx_vars y
  have h : (iblk m c 0 t : FVec Ideal S512x512 .f32) (ix2 y0 y1)
      = k0 m c (ix2 ⟨t.val * 512 + y0.val, by have := lt t; omega⟩ ⟨0 * 512 + y1.val, by omega⟩) := by
    blk_point [iblk, V, idx t]
  exact h.trans (Product.read _ rfl (by show 0 * 512 + y1.val = y1.val; omega))
theorem blk1 (c : Dev nD) (t : Fin cfg0.N) : (iblk m c 1 t : FVec Ideal S1x512 .f32) = k1 m c := by
  funext y
  idx_vars y
  have h : (iblk m c 1 t : FVec Ideal S1x512 .f32) (ix2 y0 y1)
      = k1 m c (ix2 ⟨0 * 1 + y0.val, by omega⟩ ⟨0 * 512 + y1.val, by omega⟩) := by
    blk_point [iblk, V, idx t]
  exact h.trans (Product.read _ (by show 0 * 1 + y0.val = y0.val; omega) (by show 0 * 512 + y1.val = y1.val; omega))
theorem blk2 (c : Dev nD) (t : Fin cfg0.N) : (iblk m c 2 t : FVec Ideal S1x512 .f32) = k2 m c := by
  funext y
  idx_vars y
  have h : (iblk m c 2 t : FVec Ideal S1x512 .f32) (ix2 y0 y1)
      = k2 m c (ix2 ⟨0 * 1 + y0.val, by omega⟩ ⟨0 * 512 + y1.val, by omega⟩) := by
    blk_point [iblk, V, idx t]
  exact h.trans (Product.read _ (by show 0 * 1 + y0.val = y0.val; omega) (by show 0 * 512 + y1.val = y1.val; omega))
theorem blk3 (c : Dev nD) (t : Fin cfg0.N) : (iblk m c 3 t : FVec Ideal S512x512 .f32) = Row.tile (k3 m c) t.val (lt t) := by
  funext y
  idx_vars y
  have h : (iblk m c 3 t : FVec Ideal S512x512 .f32) (ix2 y0 y1)
      = k3 m c (ix2 ⟨t.val * 512 + y0.val, by have := lt t; omega⟩ ⟨0 * 512 + y1.val, by omega⟩) := by
    blk_point [iblk, V, idx t]
  exact h.trans (Product.read _ rfl (by show 0 * 512 + y1.val = y1.val; omega))

/-- What a point writes. -/
theorem point4 (c : Dev nD) (t : Fin cfg0.N) (y : S512x512.Idx) :
    (outsAt0 m c t.val t.isLt).1 y = (Row.dLn (iblk m c 0 t) (Row.byColumn (Row.dNormed (iblk m c 0 t) (iblk m c 1 t) (iblk m c 2 t) (iblk m c 3 t)) (iblk m c 1 t)) : Product.Arr 512 512) y := by
  by_cases h : t.val % 8 = 0
  · have := lt t
    rw [outsAt0_A m c t h (by omega) h (by omega)]
    frame_out
    unfold_payloads
    unfold Row.dLn Row.direct Row.through Row.dSpread Row.byColumn Row.dNormed Row.normed Row.lscale Row.spread Row.dev Row.mean
    idx_vars y
    simp only [Row.Len.len, Row.len512]
    pointwise
    simp only [Finset.univ_unique, Finset.sum_singleton, Row.zero_less]
  · have := lt t
    rw [outsAt0_B m c t h (by omega) h (by omega)]
    frame_out
    unfold_payloads
    unfold Row.dLn Row.direct Row.through Row.dSpread Row.byColumn Row.dNormed Row.normed Row.lscale Row.spread Row.dev Row.mean
    idx_vars y
    simp only [Row.Len.len, Row.len512]
    pointwise
    simp only [Finset.univ_unique, Finset.sum_singleton, Row.zero_less]

theorem val4 (c : Dev nD) : ((dats m 0 c).arrAt 4 cfg0.N : Product.Arr 4096 512) = Row.dLn (k0 m c) (Row.byColumn (Row.dNormed (k0 m c) (k1 m c) (k2 m c) (k3 m c)) (k1 m c)) := by
  refine (dats m 0 c).arrAt_eq_of_covers 4 _ (by decide +kernel) fun t hf y => ?_
  blk_simp [idx t]
  rw [after0_4]
  refine (point4 m c t y).trans ?_
  simp only [blk0 m c t, blk1 m c t, blk2 m c t, blk3 m c t]
  have := lt t
  have hy : (y 0).val < 512 := (y 0).isLt
  refine (show _ = (Row.dLn (k0 m c) (Row.byColumn (Row.dNormed (k0 m c) (k1 m c) (k2 m c) (k3 m c)) (k1 m c))) (ix2 (⟨t.val * 512 + (y 0).val, by omega⟩ : Fin 4096) (y 1)) from rfl).trans
    (congrArg (Row.dLn (k0 m c) (Row.byColumn (Row.dNormed (k0 m c) (k1 m c) (k2 m c) (k3 m c)) (k1 m c))) ?_)
  blk_ext [idx t]

/-- The first point sets the sums, the others add to them. -/
theorem first5 (c : Dev nD) (t : Fin cfg0.N) (h : t.val % 8 = 0) (y : S1x512.Idx) :
    (outsAt0 m c t.val t.isLt).2.1 y = 0 + Row.columns (Row.dLnGain (iblk m c 0 t) (Row.dNormed (iblk m c 0 t) (iblk m c 1 t) (iblk m c 2 t) (iblk m c 3 t)) : Product.Arr 512 512) y := by
  have := lt t
  rw [outsAt0_A m c t h (by omega) h (by omega), zero_add]
  frame_out
  unfold_payloads
  unfold Row.columns Row.dLnGain Row.dNormed Row.normed Row.lscale Row.spread Row.dev Row.mean
  idx_vars y
  simp only [Row.Len.len, Row.len512]
  pointwise
theorem next5 (c : Dev nD) (t : Fin cfg0.N) (h : ¬t.val % 8 = 0) (y : S1x512.Idx) :
    (outsAt0 m c t.val t.isLt).2.1 y = (outsAt0 m c (t.val - 1) (Nat.lt_of_le_of_lt (Nat.sub_le _ _) t.isLt)).2.1 y
      + Row.columns (Row.dLnGain (iblk m c 0 t) (Row.dNormed (iblk m c 0 t) (iblk m c 1 t) (iblk m c 2 t) (iblk m c 3 t)) : Product.Arr 512 512) y := by
  have := lt t
  rw [outsAt0_B m c t h (by omega) h (by omega)]
  frame_out
  unfold_payloads
  unfold Row.columns Row.dLnGain Row.dNormed Row.normed Row.lscale Row.spread Row.dev Row.mean
  idx_vars y
  simp only [Row.Len.len, Row.len512]
  pointwise

theorem val5 (c : Dev nD) : ((dats m 0 c).arrAt 5 cfg0.N : Product.Arr 1 512) = Row.columns (Row.dLnGain (k0 m c) (Row.dNormed (k0 m c) (k1 m c) (k2 m c) (k3 m c))) := by
  refine (dats m 0 c).arrAt_eq_of_after_last 5 t0_7 (by decide +kernel) _ fun j => ?_
  blk_simp
  rw [after0_5]
  refine (Pipeline.eq_sum_fin_of_reset_step_apply_last (N := cfg0.N) (fun n h => (outsAt0 m c n h).2.1) 8 (fun _ => 0)
    (fun t y => Row.columns (Row.dLnGain (iblk m c 0 t) (Row.dNormed (iblk m c 0 t) (iblk m c 1 t) (iblk m c 2 t) (iblk m c 3 t)) : Product.Arr 512 512) y) (fun t h i => first5 m c t h i) (fun t h i => next5 m c t h i)
    (le_of_eq N_0) t0_7 rfl j).trans ((zero_add (M := EReal) _).trans ?_)
  refine Eq.trans (Finset.sum_congr rfl fun t _ => ?_) (Row.columns_tiles (n := cfg0.N) N_0 (Row.dLnGain (k0 m c) (Row.dNormed (k0 m c) (k1 m c) (k2 m c) (k3 m c))) lt j)
  simp only [blk0 m c t, blk1 m c t, blk2 m c t, blk3 m c t]
  all_goals rfl

/-- The first point sets the sums, the others add to them. -/
theorem first6 (c : Dev nD) (t : Fin cfg0.N) (h : t.val % 8 = 0) (y : S1x512.Idx) :
    (outsAt0 m c t.val t.isLt).2.2 y = 0 + Row.columns ((Row.dNormed (iblk m c 0 t) (iblk m c 1 t) (iblk m c 2 t) (iblk m c 3 t)) : Product.Arr 512 512) y := by
  have := lt t
  rw [outsAt0_A m c t h (by omega) h (by omega), zero_add]
  frame_out
  unfold_payloads
  unfold Row.columns  Row.dNormed Row.normed Row.lscale Row.spread Row.dev Row.mean
  idx_vars y
  simp only [Row.Len.len, Row.len512]
  pointwise
theorem next6 (c : Dev nD) (t : Fin cfg0.N) (h : ¬t.val % 8 = 0) (y : S1x512.Idx) :
    (outsAt0 m c t.val t.isLt).2.2 y = (outsAt0 m c (t.val - 1) (Nat.lt_of_le_of_lt (Nat.sub_le _ _) t.isLt)).2.2 y
      + Row.columns ((Row.dNormed (iblk m c 0 t) (iblk m c 1 t) (iblk m c 2 t) (iblk m c 3 t)) : Product.Arr 512 512) y := by
  have := lt t
  rw [outsAt0_B m c t h (by omega) h (by omega)]
  frame_out
  unfold_payloads
  unfold Row.columns  Row.dNormed Row.normed Row.lscale Row.spread Row.dev Row.mean
  idx_vars y
  simp only [Row.Len.len, Row.len512]
  pointwise

theorem val6 (c : Dev nD) : ((dats m 0 c).arrAt 6 cfg0.N : Product.Arr 1 512) = Row.columns ((Row.dNormed (k0 m c) (k1 m c) (k2 m c) (k3 m c))) := by
  refine (dats m 0 c).arrAt_eq_of_after_last 6 t0_7 (by decide +kernel) _ fun j => ?_
  blk_simp
  rw [after0_6]
  refine (Pipeline.eq_sum_fin_of_reset_step_apply_last (N := cfg0.N) (fun n h => (outsAt0 m c n h).2.2) 8 (fun _ => 0)
    (fun t y => Row.columns ((Row.dNormed (iblk m c 0 t) (iblk m c 1 t) (iblk m c 2 t) (iblk m c 3 t)) : Product.Arr 512 512) y) (fun t h i => first6 m c t h i) (fun t h i => next6 m c t h i)
    (le_of_eq N_0) t0_7 rfl j).trans ((zero_add (M := EReal) _).trans ?_)
  refine Eq.trans (Finset.sum_congr rfl fun t _ => ?_) (Row.columns_tiles (n := cfg0.N) N_0 ((Row.dNormed (k0 m c) (k1 m c) (k2 m c) (k3 m c))) lt j)
  simp only [blk0 m c t, blk1 m c t, blk2 m c t, blk3 m c t]
  all_goals rfl

end

section
open Cert.ConvLnBwdRefIdeal Cert.ConvLnBwdRefIdeal.Gen

variable (m : (ℓ : Loc nD τ sig) → Buf (Elt Ideal) ℓ)

abbrev r0 (c : Dev nD) : Product.Arr 4096 512 := m ((c : Thread nD τ).loc main_arg0)
abbrev r1 (c : Dev nD) : Product.Arr 1 512 := m ((c : Thread nD τ).loc main_arg1)
abbrev r2 (c : Dev nD) : Product.Arr 1 512 := m ((c : Thread nD τ).loc main_arg2)
abbrev r3 (c : Dev nD) : Product.Arr 4096 512 := m ((c : Thread nD τ).loc main_arg3)

/-- The reference's result 0. -/
theorem ref0 (a0 : FVec Ideal S4096x512 .f32) (a1 : FVec Ideal S1x512 .f32) (a2 : FVec Ideal S1x512 .f32) (a3 : FVec Ideal S4096x512 .f32) :
    (addf (addf (mulf (mulf (addf (mulf a3 (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2))))))) (mulf (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)) a3) (mulf (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))))))) (broadcastInDim S4096x512 ![0, 1] bcast_S1x512_S4096x512_0_1 a1)) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (mulf (broadcastInDim S4096x512 ![0] bcast_S4096_S4096x512_0 (Host.reduceAdd (Host.divf (mulf (shapeCast _ (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (mulf (addf (mulf a3 (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2))))))) (mulf (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)) a3) (mulf (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))))))) (broadcastInDim S4096x512 ![0, 1] bcast_S1x512_S4096x512_0_1 a1))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)) (mulf (broadcastInDim S4096x512 ![] bcast_S_S4096x512 (constant S_ .f32 0x40000000#32)) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))))) (broadcastInDim S4096x512 ![0] bcast_S4096_S4096x512_0 (Host.reduceAdd (Host.divf (addf (shapeCast _ (Host.reduceAdd (Host.negf (mulf (mulf (addf (mulf a3 (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2))))))) (mulf (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)) a3) (mulf (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))))))) (broadcastInDim S4096x512 ![0, 1] bcast_S1x512_S4096x512_0_1 a1)) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32))))))) (constant S_ .f32 0x00000000#32) reducesTo_S4096x512_S4096_d1 h_S_) shapeCasts_S4096_S4096x1) (shapeCast _ (Host.reduceAdd (Host.negf (mulf (broadcastInDim S4096x512 ![0] bcast_S4096_S4096x512_0 (Host.reduceAdd (Host.divf (mulf (shapeCast _ (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (mulf (addf (mulf a3 (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2))))))) (mulf (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)) a3) (mulf (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))))))) (broadcastInDim S4096x512 ![0, 1] bcast_S1x512_S4096x512_0_1 a1))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)) (mulf (broadcastInDim S4096x512 ![] bcast_S_S4096x512 (constant S_ .f32 0x40000000#32)) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))))) (constant S_ .f32 0x00000000#32) reducesTo_S4096x512_S4096_d1 h_S_) shapeCasts_S4096_S4096x1)) (broadcastInDim S4096x1 ![] bcast_S_S4096x1 (constant S_ .f32 0x44000000#32))) (constant S_ .f32 0x00000000#32) reducesTo_S4096x1_S4096_d1 h_S_)) : FVec Ideal S4096x512 .f32)
      = (Row.dLn a0 (Row.byColumn (Row.dNormed a0 a1 a2 a3) a1) : Product.Arr 4096 512) := by
  funext y
  unfold Row.dLn Row.direct Row.through Row.dSpread Row.byColumn Row.dNormed Row.normed Row.lscale Row.spread Row.dev Row.mean
  clean_types
  idx_vars y
  simp only [Row.Len.len, Row.len512]
  pointwise
  simp only [Finset.univ_unique, Finset.sum_singleton, Row.logistic_written]

/-- The reference's result 1. -/
theorem ref1 (a0 : FVec Ideal S4096x512 .f32) (a1 : FVec Ideal S1x512 .f32) (a2 : FVec Ideal S1x512 .f32) (a3 : FVec Ideal S4096x512 .f32) :
    (shapeCast _ (Host.reduceAdd (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (addf (mulf a3 (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2))))))) (mulf (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)) a3) (mulf (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2))))))))))) (constant S_ .f32 0x00000000#32) reducesTo_S4096x512_S512_d0 h_S_) shapeCasts_S512_S1x512 : FVec Ideal S1x512 .f32)
      = (Row.columns (Row.dLnGain a0 (Row.dNormed a0 a1 a2 a3)) : Product.Arr 1 512) := by
  funext y
  unfold Row.columns Row.dLnGain Row.dNormed Row.normed Row.lscale Row.spread Row.dev Row.mean
  clean_types
  idx_vars y
  simp only [Row.Len.len, Row.len512]
  pointwise
  simp only [Row.logistic_written]

/-- The reference's result 2. -/
theorem ref2 (a0 : FVec Ideal S4096x512 .f32) (a1 : FVec Ideal S1x512 .f32) (a2 : FVec Ideal S1x512 .f32) (a3 : FVec Ideal S4096x512 .f32) :
    (shapeCast _ (Host.reduceAdd (addf (mulf a3 (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2))))))) (mulf (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)) a3) (mulf (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 a1)) (broadcastInDim S4096x512 ![0, 1] bcast_S1x512_S4096x512_0_1 a2)))))))))) (constant S_ .f32 0x00000000#32) reducesTo_S4096x512_S512_d0 h_S_) shapeCasts_S512_S1x512 : FVec Ideal S1x512 .f32)
      = (Row.columns ((Row.dNormed a0 a1 a2 a3)) : Product.Arr 1 512) := by
  funext y
  unfold Row.columns  Row.dNormed Row.normed Row.lscale Row.spread Row.dev Row.mean
  clean_types
  idx_vars y
  simp only [Row.Len.len, Row.len512]
  pointwise
  simp only [Row.logistic_written]

end

/-- The reference runs, keeps its arguments, and holds no semaphore. -/
theorem frameR : Cert.quiescent_ConvLnBwdRefIdeal := fun m ρ _ =>
  (θ_run _ _ _).mono (fun r h => ⟨fun c => (h c).2.2.2, Idealize.ShloMosaic.sem_eq_zero_of_no_sems (by decide) r.2⟩)
    (Cert.ConvLnBwdRefIdeal.Value.run m ρ)

/-- The kernel and the reference end with the same arrays. -/
theorem equal : Cert.algebraic_ConvLnBwdIdeal_ConvLnBwdRefIdeal := fun m ρ m' ρ' _ hag =>
  ⟨fun c => Row.dLn (k0 m c) (Row.byColumn (Row.dNormed (k0 m c) (k1 m c) (k2 m c) (k3 m c)) (k1 m c)), fun c => Row.columns (Row.dLnGain (k0 m c) (Row.dNormed (k0 m c) (k1 m c) (k2 m c) (k3 m c))), fun c => Row.columns ((Row.dNormed (k0 m c) (k1 m c) (k2 m c) (k3 m c))),
    (θ_run _ _ _).mono (fun _ h c => ⟨(h c).1.trans (val4 m c), (h c).2.1.trans (val5 m c), (h c).2.2.1.trans (val6 m c), (h c).2.2.2⟩) (Cert.ConvLnBwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2.1
      have h3 : r3 m' c = k3 m c := (hag c).2.2.2
      refine ⟨(h c).1.trans ((ref0 (r0 m' c) (r1 m' c) (r2 m' c) (r3 m' c)).trans ?_), (h c).2.1.trans ((ref1 (r0 m' c) (r1 m' c) (r2 m' c) (r3 m' c)).trans ?_), (h c).2.2.1.trans ((ref2 (r0 m' c) (r1 m' c) (r2 m' c) (r3 m' c)).trans ?_), (h c).2.2.2⟩
      all_goals simp only [h0, h1, h2, h3]) (Cert.ConvLnBwdRefIdeal.Value.run m' ρ')⟩

end Cert.Proof.ConvLnBwd

end
-- ==== Proof.Norm1Bwd.lean ====
module

public import proofs.«01_k».proof.Defs
public import proofs.«01_k».proof.Proof.Gen.Norm1BwdIdeal.Value
public import proofs.«01_k».proof.Proof.Gen.Norm1BwdRefIdeal.Run
public import proofs.«01_k».proof.Proof.RowSpec
public import Idealize.ShloMosaic.Lib.Tactic.CleanTypes

/-!
The backward pass of the first modulated norm, with the residual's cotangent added.
-/

@[expose] public section

set_option maxRecDepth 16384

noncomputable section

open Idealize.ShloMosaic Idealize.ShloMosaic.TcCoe Idealize.SL.Sem
open Idealize.ShloMosaic.Pipeline (Dat)

namespace Cert.Proof.Norm1Bwd

section
open Cert.Norm1BwdIdeal Cert.Norm1BwdIdeal.Gen

variable (m : (ℓ : Loc nD τ sig) → Buf (Elt Ideal) ℓ)

abbrev k0 (c : Dev nD) : Product.Arr 4096 1024 := m ((c : Thread nD τ).loc main_arg0)
abbrev k1 (c : Dev nD) : Product.Arr 1 1024 := m ((c : Thread nD τ).loc main_arg1)
abbrev k2 (c : Dev nD) : Product.Arr 1 1024 := m ((c : Thread nD τ).loc main_arg2)
abbrev k3 (c : Dev nD) : Product.Arr 1 1024 := m ((c : Thread nD τ).loc main_arg3)
abbrev k4 (c : Dev nD) : Product.Arr 4096 1024 := m ((c : Thread nD τ).loc main_arg4)
abbrev k5 (c : Dev nD) : Product.Arr 4096 1024 := m ((c : Thread nD τ).loc main_arg5)

theorem lt (t : Fin cfg0.N) : t.val < 8 := lt_of_lt_of_eq t.isLt (show cfg0.N = 8 from N_0)

/-- Which block each window stages at a point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0] := by
  decide +kernel

theorem blk0 (c : Dev nD) (t : Fin cfg0.N) : (iblk m c 0 t : FVec Ideal S512x1024 .f32) = Row.tile (k0 m c) t.val (lt t) := by
  funext y
  idx_vars y
  have h : (iblk m c 0 t : FVec Ideal S512x1024 .f32) (ix2 y0 y1)
      = k0 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk1 (c : Dev nD) (t : Fin cfg0.N) : (iblk m c 1 t : FVec Ideal S1x1024 .f32) = k1 m c := by
  funext y
  idx_vars y
  have h : (iblk m c 1 t : FVec Ideal S1x1024 .f32) (ix2 y0 y1)
      = k1 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk2 (c : Dev nD) (t : Fin cfg0.N) : (iblk m c 2 t : FVec Ideal S1x1024 .f32) = k2 m c := by
  funext y
  idx_vars y
  have h : (iblk m c 2 t : FVec Ideal S1x1024 .f32) (ix2 y0 y1)
      = k2 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk3 (c : Dev nD) (t : Fin cfg0.N) : (iblk m c 3 t : FVec Ideal S1x1024 .f32) = k3 m c := by
  funext y
  idx_vars y
  have h : (iblk m c 3 t : FVec Ideal S1x1024 .f32) (ix2 y0 y1)
      = k3 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk4 (c : Dev nD) (t : Fin cfg0.N) : (iblk m c 4 t : FVec Ideal S512x1024 .f32) = Row.tile (k4 m c) t.val (lt t) := by
  funext y
  idx_vars y
  have h : (iblk m c 4 t : FVec Ideal S512x1024 .f32) (ix2 y0 y1)
      = k4 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk5 (c : Dev nD) (t : Fin cfg0.N) : (iblk m c 5 t : FVec Ideal S512x1024 .f32) = Row.tile (k5 m c) t.val (lt t) := by
  funext y
  idx_vars y
  have h : (iblk m c 5 t : FVec Ideal S512x1024 .f32) (ix2 y0 y1)
      = k5 m c (ix2 ⟨t.val * 512 + y0.val, by have := lt t; omega⟩ ⟨0 * 1024 + y1.val, by omega⟩) := by
    blk_point [iblk, V, idx t]
  exact h.trans (Product.read _ rfl (by show 0 * 1024 + y1.val = y1.val; omega))

/-- What a point writes. -/
theorem point6 (c : Dev nD) (t : Fin cfg0.N) (y : S512x1024.Idx) :
    (outsAt0 m c t.val t.isLt).1 y = (Row.plus (iblk m c 5 t) (Row.dRow (iblk m c 0 t) (Row.dUnit (iblk m c 1 t) (iblk m c 2 t) (iblk m c 4 t))) : Product.Arr 512 1024) y := by
  by_cases h : t.val % 8 = 0
  · have := lt t
    rw [outsAt0_A m c t h (by omega) h (by omega) h (by omega)]
    frame_out
    unfold_payloads
    unfold Row.plus Row.dRow Row.dPower Row.dUnit Row.scale Row.power Row.mean Row.factor
    idx_vars y
    simp only [Row.Len.len, Row.len1024]
    pointwise
    simp only [Finset.univ_unique, Finset.sum_singleton]
    refine (add_comm (G := EReal) _ _).trans ?_
    simp only [add_assoc]
  · have := lt t
    rw [outsAt0_B m c t h (by omega) h (by omega) h (by omega)]
    frame_out
    unfold_payloads
    unfold Row.plus Row.dRow Row.dPower Row.dUnit Row.scale Row.power Row.mean Row.factor
    idx_vars y
    simp only [Row.Len.len, Row.len1024]
    pointwise
    simp only [Finset.univ_unique, Finset.sum_singleton]
    refine (add_comm (G := EReal) _ _).trans ?_
    simp only [add_assoc]

theorem val6 (c : Dev nD) : ((dats m 0 c).arrAt 6 cfg0.N : Product.Arr 4096 1024) = Row.plus (k5 m c) (Row.dRow (k0 m c) (Row.dUnit (k1 m c) (k2 m c) (k4 m c))) := by
  refine (dats m 0 c).arrAt_eq_of_covers 6 _ (by decide +kernel) fun t hf y => ?_
  blk_simp [idx t]
  rw [after0_6]
  refine (point6 m c t y).trans ?_
  simp only [blk0 m c t, blk1 m c t, blk2 m c t, blk3 m c t, blk4 m c t, blk5 m c t]
  have := lt t
  have hy : (y 0).val < 512 := (y 0).isLt
  refine (show _ = (Row.plus (k5 m c) (Row.dRow (k0 m c) (Row.dUnit (k1 m c) (k2 m c) (k4 m c)))) (ix2 (⟨t.val * 512 + (y 0).val, by omega⟩ : Fin 4096) (y 1)) from rfl).trans
    (congrArg (Row.plus (k5 m c) (Row.dRow (k0 m c) (Row.dUnit (k1 m c) (k2 m c) (k4 m c)))) ?_)
  blk_ext [idx t]

/-- The first point sets the sums, the others add to them. -/
theorem first7 (c : Dev nD) (t : Fin cfg0.N) (h : t.val % 8 = 0) (y : S1x1024.Idx) :
    (outsAt0 m c t.val t.isLt).2.1 y = 0 + Row.columns (Row.dGain (iblk m c 0 t) (iblk m c 2 t) (iblk m c 4 t) : Product.Arr 512 1024) y := by
  have := lt t
  rw [outsAt0_A m c t h (by omega) h (by omega) h (by omega), zero_add]
  frame_out
  unfold_payloads
  unfold Row.columns Row.dGain Row.unit Row.scale Row.power Row.mean Row.factor
  idx_vars y
  simp only [Row.Len.len, Row.len1024]
  pointwise
theorem next7 (c : Dev nD) (t : Fin cfg0.N) (h : ¬t.val % 8 = 0) (y : S1x1024.Idx) :
    (outsAt0 m c t.val t.isLt).2.1 y = (outsAt0 m c (t.val - 1) (Nat.lt_of_le_of_lt (Nat.sub_le _ _) t.isLt)).2.1 y
      + Row.columns (Row.dGain (iblk m c 0 t) (iblk m c 2 t) (iblk m c 4 t) : Product.Arr 512 1024) y := by
  have := lt t
  rw [outsAt0_B m c t h (by omega) h (by omega) h (by omega)]
  frame_out
  unfold_payloads
  unfold Row.columns Row.dGain Row.unit Row.scale Row.power Row.mean Row.factor
  idx_vars y
  simp only [Row.Len.len, Row.len1024]
  pointwise

theorem val7 (c : Dev nD) : ((dats m 0 c).arrAt 7 cfg0.N : Product.Arr 1 1024) = Row.columns (Row.dGain (k0 m c) (k2 m c) (k4 m c)) := by
  refine (dats m 0 c).arrAt_eq_of_after_last 7 t0_7 (by decide +kernel) _ fun j => ?_
  blk_simp
  rw [after0_7]
  refine (Pipeline.eq_sum_fin_of_reset_step_apply_last (N := cfg0.N) (fun n h => (outsAt0 m c n h).2.1) 8 (fun _ => 0)
    (fun t y => Row.columns (Row.dGain (iblk m c 0 t) (iblk m c 2 t) (iblk m c 4 t) : Product.Arr 512 1024) y) (fun t h i => first7 m c t h i) (fun t h i => next7 m c t h i)
    (le_of_eq N_0) t0_7 rfl j).trans ((zero_add (M := EReal) _).trans ?_)
  refine Eq.trans (Finset.sum_congr rfl fun t _ => ?_) (Row.columns_tiles (n := cfg0.N) N_0 (Row.dGain (k0 m c) (k2 m c) (k4 m c)) lt j)
  simp only [blk0 m c t, blk1 m c t, blk2 m c t, blk3 m c t, blk4 m c t, blk5 m c t]
  all_goals rfl

/-- The first point sets the sums, the others add to them. -/
theorem first8 (c : Dev nD) (t : Fin cfg0.N) (h : t.val % 8 = 0) (y : S1x1024.Idx) :
    (outsAt0 m c t.val t.isLt).2.2.1 y = 0 + Row.columns (Row.dScale (iblk m c 0 t) (iblk m c 1 t) (iblk m c 4 t) : Product.Arr 512 1024) y := by
  have := lt t
  rw [outsAt0_A m c t h (by omega) h (by omega) h (by omega), zero_add]
  frame_out
  unfold_payloads
  unfold Row.columns Row.dScale Row.unit Row.scale Row.power Row.mean
  idx_vars y
  simp only [Row.Len.len, Row.len1024]
  pointwise
theorem next8 (c : Dev nD) (t : Fin cfg0.N) (h : ¬t.val % 8 = 0) (y : S1x1024.Idx) :
    (outsAt0 m c t.val t.isLt).2.2.1 y = (outsAt0 m c (t.val - 1) (Nat.lt_of_le_of_lt (Nat.sub_le _ _) t.isLt)).2.2.1 y
      + Row.columns (Row.dScale (iblk m c 0 t) (iblk m c 1 t) (iblk m c 4 t) : Product.Arr 512 1024) y := by
  have := lt t
  rw [outsAt0_B m c t h (by omega) h (by omega) h (by omega)]
  frame_out
  unfold_payloads
  unfold Row.columns Row.dScale Row.unit Row.scale Row.power Row.mean
  idx_vars y
  simp only [Row.Len.len, Row.len1024]
  pointwise

theorem val8 (c : Dev nD) : ((dats m 0 c).arrAt 8 cfg0.N : Product.Arr 1 1024) = Row.columns (Row.dScale (k0 m c) (k1 m c) (k4 m c)) := by
  refine (dats m 0 c).arrAt_eq_of_after_last 8 t0_7 (by decide +kernel) _ fun j => ?_
  blk_simp
  rw [after0_8]
  refine (Pipeline.eq_sum_fin_of_reset_step_apply_last (N := cfg0.N) (fun n h => (outsAt0 m c n h).2.2.1) 8 (fun _ => 0)
    (fun t y => Row.columns (Row.dScale (iblk m c 0 t) (iblk m c 1 t) (iblk m c 4 t) : Product.Arr 512 1024) y) (fun t h i => first8 m c t h i) (fun t h i => next8 m c t h i)
    (le_of_eq N_0) t0_7 rfl j).trans ((zero_add (M := EReal) _).trans ?_)
  refine Eq.trans (Finset.sum_congr rfl fun t _ => ?_) (Row.columns_tiles (n := cfg0.N) N_0 (Row.dScale (k0 m c) (k1 m c) (k4 m c)) lt j)
  simp only [blk0 m c t, blk1 m c t, blk2 m c t, blk3 m c t, blk4 m c t, blk5 m c t]
  all_goals rfl

/-- The first point sets the sums, the others add to them. -/
theorem first9 (c : Dev nD) (t : Fin cfg0.N) (h : t.val % 8 = 0) (y : S1x1024.Idx) :
    (outsAt0 m c t.val t.isLt).2.2.2 y = 0 + Row.columns ((iblk m c 4 t) : Product.Arr 512 1024) y := by
  have := lt t
  rw [outsAt0_A m c t h (by omega) h (by omega) h (by omega), zero_add]
  frame_out
  unfold_payloads
  unfold Row.columns
  idx_vars y
  pointwise
theorem next9 (c : Dev nD) (t : Fin cfg0.N) (h : ¬t.val % 8 = 0) (y : S1x1024.Idx) :
    (outsAt0 m c t.val t.isLt).2.2.2 y = (outsAt0 m c (t.val - 1) (Nat.lt_of_le_of_lt (Nat.sub_le _ _) t.isLt)).2.2.2 y
      + Row.columns ((iblk m c 4 t) : Product.Arr 512 1024) y := by
  have := lt t
  rw [outsAt0_B m c t h (by omega) h (by omega) h (by omega)]
  frame_out
  unfold_payloads
  unfold Row.columns
  idx_vars y
  pointwise

theorem val9 (c : Dev nD) : ((dats m 0 c).arrAt 9 cfg0.N : Product.Arr 1 1024) = Row.columns ((k4 m c)) := by
  refine (dats m 0 c).arrAt_eq_of_after_last 9 t0_7 (by decide +kernel) _ fun j => ?_
  blk_simp
  rw [after0_9]
  refine (Pipeline.eq_sum_fin_of_reset_step_apply_last (N := cfg0.N) (fun n h => (outsAt0 m c n h).2.2.2) 8 (fun _ => 0)
    (fun t y => Row.columns ((iblk m c 4 t) : Product.Arr 512 1024) y) (fun t h i => first9 m c t h i) (fun t h i => next9 m c t h i)
    (le_of_eq N_0) t0_7 rfl j).trans ((zero_add (M := EReal) _).trans ?_)
  refine Eq.trans (Finset.sum_congr rfl fun t _ => ?_) (Row.columns_tiles (n := cfg0.N) N_0 ((k4 m c)) lt j)
  simp only [blk0 m c t, blk1 m c t, blk2 m c t, blk3 m c t, blk4 m c t, blk5 m c t]
  all_goals rfl

end

section
open Cert.Norm1BwdRefIdeal Cert.Norm1BwdRefIdeal.Gen

variable (m : (ℓ : Loc nD τ sig) → Buf (Elt Ideal) ℓ)

abbrev r0 (c : Dev nD) : Product.Arr 4096 1024 := m ((c : Thread nD τ).loc main_arg0)
abbrev r1 (c : Dev nD) : Product.Arr 1 1024 := m ((c : Thread nD τ).loc main_arg1)
abbrev r2 (c : Dev nD) : Product.Arr 1 1024 := m ((c : Thread nD τ).loc main_arg2)
abbrev r3 (c : Dev nD) : Product.Arr 1 1024 := m ((c : Thread nD τ).loc main_arg3)
abbrev r4 (c : Dev nD) : Product.Arr 4096 1024 := m ((c : Thread nD τ).loc main_arg4)
abbrev r5 (c : Dev nD) : Product.Arr 4096 1024 := m ((c : Thread nD τ).loc main_arg5)

/-- The reference's result 0. -/
theorem ref0 (a0 : FVec Ideal S4096x1024 .f32) (a1 : FVec Ideal S1x1024 .f32) (a2 : FVec Ideal S1x1024 .f32) (a3 : FVec Ideal S1x1024 .f32) (a4 : FVec Ideal S4096x1024 .f32) (a5 : FVec Ideal S4096x1024 .f32) :
    (addf (addf (addf a5 (mulf (mulf (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1)) (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf a0 (broadcastInDim S4096x1024 ![0] bcast_S4096_S4096x1024_0 (Host.reduceAdd (Host.divf (mulf (shapeCast _ (Host.reduceAdd (mulf a0 (mulf (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a0 (mulf (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) a0) : FVec Ideal S4096x1024 .f32)
      = (Row.plus a5 (Row.dRow a0 (Row.dUnit a1 a2 a4)) : Product.Arr 4096 1024) := by
  funext y
  unfold Row.plus Row.dRow Row.dPower Row.dUnit Row.scale Row.power Row.mean Row.factor
  clean_types
  idx_vars y
  simp only [Row.Len.len, Row.len1024]
  pointwise
  simp only [Finset.univ_unique, Finset.sum_singleton, add_assoc]

/-- The reference's result 1. -/
theorem ref1 (a0 : FVec Ideal S4096x1024 .f32) (a1 : FVec Ideal S1x1024 .f32) (a2 : FVec Ideal S1x1024 .f32) (a3 : FVec Ideal S1x1024 .f32) (a4 : FVec Ideal S4096x1024 .f32) (a5 : FVec Ideal S4096x1024 .f32) :
    (shapeCast _ (Host.reduceAdd (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) a2)))) (constant S_ .f32 0x00000000#32) reducesTo_S4096x1024_S1024_d0 h_S_) shapeCasts_S1024_S1x1024 : FVec Ideal S1x1024 .f32)
      = (Row.columns (Row.dGain a0 a2 a4) : Product.Arr 1 1024) := by
  funext y
  unfold Row.columns Row.dGain Row.unit Row.scale Row.power Row.mean Row.factor
  clean_types
  idx_vars y
  simp only [Row.Len.len, Row.len1024]
  pointwise

/-- The reference's result 2. -/
theorem ref2 (a0 : FVec Ideal S4096x1024 .f32) (a1 : FVec Ideal S1x1024 .f32) (a2 : FVec Ideal S1x1024 .f32) (a3 : FVec Ideal S1x1024 .f32) (a4 : FVec Ideal S4096x1024 .f32) (a5 : FVec Ideal S4096x1024 .f32) :
    (shapeCast _ (Host.reduceAdd (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (shapeCast _ a4 shapeCasts_S4096x1024_S4096x1024)) (constant S_ .f32 0x00000000#32) reducesTo_S4096x1024_S1024_d0 h_S_) shapeCasts_S1024_S1x1024 : FVec Ideal S1x1024 .f32)
      = (Row.columns (Row.dScale a0 a1 a4) : Product.Arr 1 1024) := by
  funext y
  unfold Row.columns Row.dScale Row.unit Row.scale Row.power Row.mean
  clean_types
  idx_vars y
  simp only [Row.Len.len, Row.len1024]
  pointwise

/-- The reference's result 3. -/
theorem ref3 (a0 : FVec Ideal S4096x1024 .f32) (a1 : FVec Ideal S1x1024 .f32) (a2 : FVec Ideal S1x1024 .f32) (a3 : FVec Ideal S1x1024 .f32) (a4 : FVec Ideal S4096x1024 .f32) (a5 : FVec Ideal S4096x1024 .f32) :
    (shapeCast _ (Host.reduceAdd a4 (constant S_ .f32 0x00000000#32) reducesTo_S4096x1024_S1024_d0 h_S_) shapeCasts_S1024_S1x1024 : FVec Ideal S1x1024 .f32)
      = (Row.columns (a4) : Product.Arr 1 1024) := by
  funext y
  unfold Row.columns
  clean_types
  idx_vars y
  pointwise

end

/-- The reference runs, keeps its arguments, and holds no semaphore. -/
theorem frameR : Cert.quiescent_Norm1BwdRefIdeal := fun m ρ _ =>
  (θ_run _ _ _).mono (fun r h => ⟨fun c => (h c).2.2.2.2, Idealize.ShloMosaic.sem_eq_zero_of_no_sems (by decide) r.2⟩)
    (Cert.Norm1BwdRefIdeal.Value.run m ρ)

/-- The kernel and the reference end with the same arrays. -/
theorem equal : Cert.algebraic_Norm1BwdIdeal_Norm1BwdRefIdeal := fun m ρ m' ρ' _ hag =>
  ⟨fun c => Row.plus (k5 m c) (Row.dRow (k0 m c) (Row.dUnit (k1 m c) (k2 m c) (k4 m c))), fun c => Row.columns (Row.dGain (k0 m c) (k2 m c) (k4 m c)), fun c => Row.columns (Row.dScale (k0 m c) (k1 m c) (k4 m c)), fun c => Row.columns ((k4 m c)),
    (θ_run _ _ _).mono (fun _ h c => ⟨(h c).1.trans (val6 m c), (h c).2.1.trans (val7 m c), (h c).2.2.1.trans (val8 m c), (h c).2.2.2.1.trans (val9 m c), (h c).2.2.2.2⟩) (Cert.Norm1BwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2.1
      have h3 : r3 m' c = k3 m c := (hag c).2.2.2.1
      have h4 : r4 m' c = k4 m c := (hag c).2.2.2.2.1
      have h5 : r5 m' c = k5 m c := (hag c).2.2.2.2.2
      refine ⟨(h c).1.trans ((ref0 (r0 m' c) (r1 m' c) (r2 m' c) (r3 m' c) (r4 m' c) (r5 m' c)).trans ?_), (h c).2.1.trans ((ref1 (r0 m' c) (r1 m' c) (r2 m' c) (r3 m' c) (r4 m' c) (r5 m' c)).trans ?_), (h c).2.2.1.trans ((ref2 (r0 m' c) (r1 m' c) (r2 m' c) (r3 m' c) (r4 m' c) (r5 m' c)).trans ?_), (h c).2.2.2.1.trans ((ref3 (r0 m' c) (r1 m' c) (r2 m' c) (r3 m' c) (r4 m' c) (r5 m' c)).trans ?_), (h c).2.2.2.2⟩
      all_goals simp only [h0, h1, h2, h3, h4, h5]) (Cert.Norm1BwdRefIdeal.Value.run m' ρ')⟩

end Cert.Proof.Norm1Bwd

end
-- ==== Proof.NormFwd.lean ====
module

public import proofs.«01_k».proof.Defs
public import proofs.«01_k».proof.Proof.Gen.NormFwdIdeal.Value
public import proofs.«01_k».proof.Proof.Gen.NormFwdRefIdeal.Run
public import proofs.«01_k».proof.Proof.RowSpec
public import Idealize.ShloMosaic.Lib.Tactic.CleanTypes

/-!
The modulated norm.
-/

@[expose] public section

set_option maxRecDepth 16384

noncomputable section

open Idealize.ShloMosaic Idealize.ShloMosaic.TcCoe Idealize.SL.Sem
open Idealize.ShloMosaic.Pipeline (Dat)

namespace Cert.Proof.NormFwd

section
open Cert.NormFwdIdeal Cert.NormFwdIdeal.Gen

variable (m : (ℓ : Loc nD τ sig) → Buf (Elt Ideal) ℓ)

abbrev k0 (c : Dev nD) : Product.Arr 4096 1024 := m ((c : Thread nD τ).loc main_arg0)
abbrev k1 (c : Dev nD) : Product.Arr 1 1024 := m ((c : Thread nD τ).loc main_arg1)
abbrev k2 (c : Dev nD) : Product.Arr 1 1024 := m ((c : Thread nD τ).loc main_arg2)
abbrev k3 (c : Dev nD) : Product.Arr 1 1024 := m ((c : Thread nD τ).loc main_arg3)

theorem lt (t : Fin cfg0.N) : t.val < 8 := lt_of_lt_of_eq t.isLt (show cfg0.N = 8 from N_0)

/-- Which block each window stages at a point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] := by
  decide +kernel

theorem blk0 (c : Dev nD) (t : Fin cfg0.N) : (iblk m c 0 t : FVec Ideal S512x1024 .f32) = Row.tile (k0 m c) t.val (lt t) := by
  funext y
  idx_vars y
  have h : (iblk m c 0 t : FVec Ideal S512x1024 .f32) (ix2 y0 y1)
      = k0 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk1 (c : Dev nD) (t : Fin cfg0.N) : (iblk m c 1 t : FVec Ideal S1x1024 .f32) = k1 m c := by
  funext y
  idx_vars y
  have h : (iblk m c 1 t : FVec Ideal S1x1024 .f32) (ix2 y0 y1)
      = k1 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk2 (c : Dev nD) (t : Fin cfg0.N) : (iblk m c 2 t : FVec Ideal S1x1024 .f32) = k2 m c := by
  funext y
  idx_vars y
  have h : (iblk m c 2 t : FVec Ideal S1x1024 .f32) (ix2 y0 y1)
      = k2 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))
theorem blk3 (c : Dev nD) (t : Fin cfg0.N) : (iblk m c 3 t : FVec Ideal S1x1024 .f32) = k3 m c := by
  funext y
  idx_vars y
  have h : (iblk m c 3 t : FVec Ideal S1x1024 .f32) (ix2 y0 y1)
      = k3 m c (ix2 ⟨0 * 1 + y0.val, by omega⟩ ⟨0 * 1024 + y1.val, by omega⟩) := by
    blk_point [iblk, V, idx t]
  exact h.trans (Product.read _ (by show 0 * 1 + y0.val = y0.val; omega) (by show 0 * 1024 + y1.val = y1.val; omega))

/-- What a point writes. -/
theorem point4 (c : Dev nD) (t : Fin cfg0.N) (y : S512x1024.Idx) :
    out0_4 (iblk m c 0 t) (iblk m c 1 t) (iblk m c 2 t) (iblk m c 3 t) y = (Row.modulated (iblk m c 0 t) (iblk m c 1 t) (iblk m c 2 t) (iblk m c 3 t) : Product.Arr 512 1024) y := by
  frame_out
  unfold_payloads
  unfold Row.modulated Row.unit Row.scale Row.power Row.mean Row.factor
  idx_vars y
  simp only [Row.Len.len, Row.len1024]
  pointwise

theorem val4 (c : Dev nD) : ((dats m 0 c).arrAt 4 cfg0.N : Product.Arr 4096 1024) = Row.modulated (k0 m c) (k1 m c) (k2 m c) (k3 m c) := by
  refine (dats m 0 c).arrAt_eq_of_covers 4 _ (by decide +kernel) fun t hf y => ?_
  blk_simp [idx t]
  rw [after0_4]
  refine (point4 m c t y).trans ?_
  simp only [blk0 m c t, blk1 m c t, blk2 m c t, blk3 m c t]
  have := lt t
  have hy : (y 0).val < 512 := (y 0).isLt
  refine (show _ = (Row.modulated (k0 m c) (k1 m c) (k2 m c) (k3 m c)) (ix2 (⟨t.val * 512 + (y 0).val, by omega⟩ : Fin 4096) (y 1)) from rfl).trans
    (congrArg (Row.modulated (k0 m c) (k1 m c) (k2 m c) (k3 m c)) ?_)
  blk_ext [idx t]

end

section
open Cert.NormFwdRefIdeal Cert.NormFwdRefIdeal.Gen

variable (m : (ℓ : Loc nD τ sig) → Buf (Elt Ideal) ℓ)

abbrev r0 (c : Dev nD) : Product.Arr 4096 1024 := m ((c : Thread nD τ).loc main_arg0)
abbrev r1 (c : Dev nD) : Product.Arr 1 1024 := m ((c : Thread nD τ).loc main_arg1)
abbrev r2 (c : Dev nD) : Product.Arr 1 1024 := m ((c : Thread nD τ).loc main_arg2)
abbrev r3 (c : Dev nD) : Product.Arr 1 1024 := m ((c : Thread nD τ).loc main_arg3)

/-- The reference's result 0. -/
theorem ref0 (a0 : FVec Ideal S4096x1024 .f32) (a1 : FVec Ideal S1x1024 .f32) (a2 : FVec Ideal S1x1024 .f32) (a3 : FVec Ideal S1x1024 .f32) :
    (truncf .bf16 (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ a1 shapeCasts_S1x1024_S1024)))) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) bitsLt_bf16_f32 : FVec Ideal S4096x1024 .bf16)
      = (Row.modulated a0 a1 a2 a3 : Product.Arr 4096 1024) := by
  funext y
  unfold Row.modulated Row.unit Row.scale Row.power Row.mean Row.factor
  clean_types
  idx_vars y
  simp only [Row.Len.len, Row.len1024]
  pointwise

end

/-- The reference runs, keeps its arguments, and holds no semaphore. -/
theorem frameR : Cert.quiescent_NormFwdRefIdeal := fun m ρ _ =>
  (θ_run _ _ _).mono (fun r h => ⟨fun c => (h c).2, Idealize.ShloMosaic.sem_eq_zero_of_no_sems (by decide) r.2⟩)
    (Cert.NormFwdRefIdeal.Value.run m ρ)

/-- The kernel and the reference end with the same arrays. -/
theorem equal : Cert.algebraic_NormFwdIdeal_NormFwdRefIdeal := fun m ρ m' ρ' _ hag =>
  ⟨fun c => Row.modulated (k0 m c) (k1 m c) (k2 m c) (k3 m c),
    (θ_run _ _ _).mono (fun _ h c => ⟨(h c).1.trans (val4 m c), (h c).2⟩) (Cert.NormFwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2.1
      have h3 : r3 m' c = k3 m c := (hag c).2.2.2
      refine ⟨(h c).1.trans ((ref0 (r0 m' c) (r1 m' c) (r2 m' c) (r3 m' c)).trans ?_), (h c).2⟩
      all_goals simp only [h0, h1, h2, h3]) (Cert.NormFwdRefIdeal.Value.run m' ρ')⟩

end Cert.Proof.NormFwd

end
-- ==== Proof.ConvLnFwd.lean ====
module

public import proofs.«01_k».proof.Defs
public import proofs.«01_k».proof.Proof.Gen.ConvLnFwdIdeal.Value
public import proofs.«01_k».proof.Proof.Gen.ConvLnFwdRefIdeal.Run
public import proofs.«01_k».proof.Proof.RowSpec
public import Idealize.ShloMosaic.Lib.Tactic.CleanTypes

/-!
The convolution's layer norm and activation.
-/

@[expose] public section

set_option maxRecDepth 16384

noncomputable section

open Idealize.ShloMosaic Idealize.ShloMosaic.TcCoe Idealize.SL.Sem
open Idealize.ShloMosaic.Pipeline (Dat)

namespace Cert.Proof.ConvLnFwd

section
open Cert.ConvLnFwdIdeal Cert.ConvLnFwdIdeal.Gen

variable (m : (ℓ : Loc nD τ sig) → Buf (Elt Ideal) ℓ)

abbrev k0 (c : Dev nD) : Product.Arr 4096 512 := m ((c : Thread nD τ).loc main_arg0)
abbrev k1 (c : Dev nD) : Product.Arr 1 512 := m ((c : Thread nD τ).loc main_arg1)
abbrev k2 (c : Dev nD) : Product.Arr 1 512 := m ((c : Thread nD τ).loc main_arg2)

theorem lt (t : Fin cfg0.N) : t.val < 8 := lt_of_lt_of_eq t.isLt (show cfg0.N = 8 from N_0)

/-- Which block each window stages at a point. -/
theorem idx : ∀ t : Fin cfg0.N, win0_0.index t = ![t.val, 0]
    ∧ win0_1.index t = ![0, 0]
    ∧ win0_2.index t = ![0, 0]
    ∧ win0_3.index t = ![t.val, 0] := by
  decide +kernel

theorem blk0 (c : Dev nD) (t : Fin cfg0.N) : (iblk m c 0 t : FVec Ideal S512x512 .f32) = Row.tile (k0 m c) t.val (lt t) := by
  funext y
  idx_vars y
  have h : (iblk m c 0 t : FVec Ideal S512x512 .f32) (ix2 y0 y1)
      = k0 m c (ix2 ⟨t.val * 512 + y0.val, by have := lt t; omega⟩ ⟨0 * 512 + y1.val, by omega⟩) := by
    blk_point [iblk, V, idx t]
  exact h.trans (Product.read _ rfl (by show 0 * 512 + y1.val = y1.val; omega))
theorem blk1 (c : Dev nD) (t : Fin cfg0.N) : (iblk m c 1 t : FVec Ideal S1x512 .f32) = k1 m c := by
  funext y
  idx_vars y
  have h : (iblk m c 1 t : FVec Ideal S1x512 .f32) (ix2 y0 y1)
      = k1 m c (ix2 ⟨0 * 1 + y0.val, by omega⟩ ⟨0 * 512 + y1.val, by omega⟩) := by
    blk_point [iblk, V, idx t]
  exact h.trans (Product.read _ (by show 0 * 1 + y0.val = y0.val; omega) (by show 0 * 512 + y1.val = y1.val; omega))
theorem blk2 (c : Dev nD) (t : Fin cfg0.N) : (iblk m c 2 t : FVec Ideal S1x512 .f32) = k2 m c := by
  funext y
  idx_vars y
  have h : (iblk m c 2 t : FVec Ideal S1x512 .f32) (ix2 y0 y1)
      = k2 m c (ix2 ⟨0 * 1 + y0.val, by omega⟩ ⟨0 * 512 + y1.val, by omega⟩) := by
    blk_point [iblk, V, idx t]
  exact h.trans (Product.read _ (by show 0 * 1 + y0.val = y0.val; omega) (by show 0 * 512 + y1.val = y1.val; omega))

/-- What a point writes. -/
theorem point3 (c : Dev nD) (t : Fin cfg0.N) (y : S512x512.Idx) :
    out0_3 (iblk m c 0 t) (iblk m c 1 t) (iblk m c 2 t) y = (Row.activated (iblk m c 0 t) (iblk m c 1 t) (iblk m c 2 t) : Product.Arr 512 512) y := by
  frame_out
  unfold_payloads
  unfold Row.activated Row.normed Row.lscale Row.spread Row.dev Row.mean
  idx_vars y
  simp only [Row.Len.len, Row.len512]
  pointwise

theorem val3 (c : Dev nD) : ((dats m 0 c).arrAt 3 cfg0.N : Product.Arr 4096 512) = Row.activated (k0 m c) (k1 m c) (k2 m c) := by
  refine (dats m 0 c).arrAt_eq_of_covers 3 _ (by decide +kernel) fun t hf y => ?_
  blk_simp [idx t]
  rw [after0_3]
  refine (point3 m c t y).trans ?_
  simp only [blk0 m c t, blk1 m c t, blk2 m c t]
  have := lt t
  have hy : (y 0).val < 512 := (y 0).isLt
  refine (show _ = (Row.activated (k0 m c) (k1 m c) (k2 m c)) (ix2 (⟨t.val * 512 + (y 0).val, by omega⟩ : Fin 4096) (y 1)) from rfl).trans
    (congrArg (Row.activated (k0 m c) (k1 m c) (k2 m c)) ?_)
  blk_ext [idx t]

end

section
open Cert.ConvLnFwdRefIdeal Cert.ConvLnFwdRefIdeal.Gen

variable (m : (ℓ : Loc nD τ sig) → Buf (Elt Ideal) ℓ)

abbrev r0 (c : Dev nD) : Product.Arr 4096 512 := m ((c : Thread nD τ).loc main_arg0)
abbrev r1 (c : Dev nD) : Product.Arr 1 512 := m ((c : Thread nD τ).loc main_arg1)
abbrev r2 (c : Dev nD) : Product.Arr 1 512 := m ((c : Thread nD τ).loc main_arg2)

/-- The reference's result 0. -/
theorem ref0 (a0 : FVec Ideal S4096x512 .f32) (a1 : FVec Ideal S1x512 .f32) (a2 : FVec Ideal S1x512 .f32) :
    (truncf .bf16 (mulf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (broadcastInDim S1x512 ![1] bcast_S512_S1x512_1 (shapeCast _ a1 shapeCasts_S1x512_S512)))) (broadcastInDim S4096x512 ![0, 1] bcast_S1x512_S4096x512_0_1 (broadcastInDim S1x512 ![1] bcast_S512_S1x512_1 (shapeCast _ a2 shapeCasts_S1x512_S512)))) (Host.divf (broadcastInDim S4096x512 ![] bcast_S_S4096x512 (constant S_ .f32 0x3F800000#32)) (addf (broadcastInDim S4096x512 ![] bcast_S_S4096x512 (constant S_ .f32 0x3F800000#32)) (Host.exp (Host.negf (addf (mulf (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.rsqrt (addf (Host.divf (broadcastInDim S4096x1 ![0] bcast_S4096_S4096x1_0 (Host.reduceAdd (mulf (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32))))) (subf a0 (broadcastInDim S4096x512 ![0, 1] bcast_S4096x1_S4096x512_0_1 (Host.divf (broadcastInDim S4096x1 ![0] bcast_S4096_S4096x1_0 (Host.reduceAdd a0 (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (broadcastInDim S1x512 ![1] bcast_S512_S1x512_1 (shapeCast _ a1 shapeCasts_S1x512_S512)))) (broadcastInDim S4096x512 ![0, 1] bcast_S1x512_S4096x512_0_1 (broadcastInDim S1x512 ![1] bcast_S512_S1x512_1 (shapeCast _ a2 shapeCasts_S1x512_S512))))))))) bitsLt_bf16_f32 : FVec Ideal S4096x512 .bf16)
      = (Row.activated a0 a1 a2 : Product.Arr 4096 512) := by
  funext y
  unfold Row.activated Row.normed Row.lscale Row.spread Row.dev Row.mean
  clean_types
  idx_vars y
  simp only [Row.Len.len, Row.len512]
  pointwise
  simp only [Row.logistic_written]

end

/-- The reference runs, keeps its arguments, and holds no semaphore. -/
theorem frameR : Cert.quiescent_ConvLnFwdRefIdeal := fun m ρ _ =>
  (θ_run _ _ _).mono (fun r h => ⟨fun c => (h c).2, Idealize.ShloMosaic.sem_eq_zero_of_no_sems (by decide) r.2⟩)
    (Cert.ConvLnFwdRefIdeal.Value.run m ρ)

/-- The kernel and the reference end with the same arrays. -/
theorem equal : Cert.algebraic_ConvLnFwdIdeal_ConvLnFwdRefIdeal := fun m ρ m' ρ' _ hag =>
  ⟨fun c => Row.activated (k0 m c) (k1 m c) (k2 m c),
    (θ_run _ _ _).mono (fun _ h c => ⟨(h c).1.trans (val3 m c), (h c).2⟩) (Cert.ConvLnFwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2
      refine ⟨(h c).1.trans ((ref0 (r0 m' c) (r1 m' c) (r2 m' c)).trans ?_), (h c).2⟩
      all_goals simp only [h0, h1, h2]) (Cert.ConvLnFwdRefIdeal.Value.run m' ρ')⟩

end Cert.Proof.ConvLnFwd

end
-- ==== Proof.MergeFwd.lean ====
module

public import proofs.«01_k».proof.Defs
public import proofs.«01_k».proof.Proof.Gen.MergeFwdIdeal.Value
public import proofs.«01_k».proof.Proof.Gen.MergeFwdRefIdeal.Run
public import proofs.«01_k».proof.Proof.RowSpec
public import proofs.«01_k».proof.Proof.MergeSpec
public import Idealize.ShloMosaic.Lib.Tactic.CleanTypes

/-!
The merge of the three branches.
-/

@[expose] public section

set_option maxRecDepth 16384

noncomputable section

open Idealize.ShloMosaic Idealize.ShloMosaic.TcCoe Idealize.SL.Sem
open Idealize.ShloMosaic.Pipeline (Dat)

namespace Cert.Proof.MergeFwd

section
open Cert.MergeFwdIdeal Cert.MergeFwdIdeal.Gen

variable (m : (ℓ : Loc nD τ sig) → Buf (Elt Ideal) ℓ)

abbrev k0 (c : Dev nD) : Product.Arr 4096 7680 := m ((c : Thread nD τ).loc main_arg0)
abbrev k1 (c : Dev nD) : Product.Arr 4096 1024 := m ((c : Thread nD τ).loc main_arg1)
abbrev k2 (c : Dev nD) : Product.Arr 4096 1024 := m ((c : Thread nD τ).loc main_arg2)
abbrev k3 (c : Dev nD) : Product.Arr 4096 1024 := m ((c : Thread nD τ).loc main_arg3)
abbrev k4 (c : Dev nD) : Product.Arr 1 3072 := m ((c : Thread nD τ).loc main_arg4)

theorem lt (t : Fin cfg0.N) : t.val < 8 := lt_of_lt_of_eq t.isLt (show cfg0.N = 8 from N_0)

/-- Which block each window stages at a point. -/
theorem idx : ∀ t : Fin cfg0.N, win0_0.index t = ![t.val, 3]
    ∧ win0_1.index t = ![t.val, 4]
    ∧ win0_2.index t = ![t.val, 0]
    ∧ win0_3.index t = ![t.val, 0]
    ∧ win0_4.index t = ![t.val, 0]
    ∧ win0_5.index t = ![0, 0]
    ∧ win0_6.index t = ![t.val, 0] := by
  decide +kernel

theorem blk2 (c : Dev nD) (t : Fin cfg0.N) : (iblk m c 2 t : FVec Ideal S512x1024 .f32) = Row.tile (k1 m c) t.val (lt t) := by
  funext y
  idx_vars y
  have h : (iblk m c 2 t : FVec Ideal S512x1024 .f32) (ix2 y0 y1)
      = k1 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk3 (c : Dev nD) (t : Fin cfg0.N) : (iblk m c 3 t : FVec Ideal S512x1024 .f32) = Row.tile (k2 m c) t.val (lt t) := by
  funext y
  idx_vars y
  have h : (iblk m c 3 t : FVec Ideal S512x1024 .f32) (ix2 y0 y1)
      = k2 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk4 (c : Dev nD) (t : Fin cfg0.N) : (iblk m c 4 t : FVec Ideal S512x1024 .f32) = Row.tile (k3 m c) t.val (lt t) := by
  funext y
  idx_vars y
  have h : (iblk m c 4 t : FVec Ideal S512x1024 .f32) (ix2 y0 y1)
      = k3 m c (ix2 ⟨t.val * 512 + y0.val, by have := lt t; omega⟩ ⟨0 * 1024 + y1.val, by omega⟩) := by
    blk_point [iblk, V, idx t]
  exact h.trans (Product.read _ rfl (by show 0 * 1024 + y1.val = y1.val; omega))
theorem blk5 (c : Dev nD) (t : Fin cfg0.N) : (iblk m c 5 t : FVec Ideal S1x3072 .f32) = k4 m c := by
  funext y
  idx_vars y
  have h : (iblk m c 5 t : FVec Ideal S1x3072 .f32) (ix2 y0 y1)
      = k4 m c (ix2 ⟨0 * 1 + y0.val, by omega⟩ ⟨0 * 3072 + y1.val, by omega⟩) := by
    blk_point [iblk, V, idx t]
  exact h.trans (Product.read _ (by show 0 * 1 + y0.val = y0.val; omega) (by show 0 * 3072 + y1.val = y1.val; omega))

theorem blkJ (c : Dev nD) (t : Fin cfg0.N) : Merge.joined (iblk m c 0 t : Product.Arr 512 1536) (iblk m c 1 t)
    = Row.tile (Merge.cols (k0 m c)) t.val (lt t) := by
  funext y
  idx_vars y
  have h0 : ∀ k : Fin 1536, (iblk m c 0 t : FVec Ideal S512x1536 .f32) (ix2 y0 k)
      = k0 m c (ix2 ⟨t.val * 512 + y0.val, by have := lt t; omega⟩ ⟨3 * 1536 + k.val, by omega⟩) := fun k => by
    blk_point [iblk, V, idx t]
  have h1 : ∀ k : Fin 1536, (iblk m c 1 t : FVec Ideal S512x1536 .f32) (ix2 y0 k)
      = k0 m c (ix2 ⟨t.val * 512 + y0.val, by have := lt t; omega⟩ ⟨4 * 1536 + k.val, by omega⟩) := fun k => by
    blk_point [iblk, V, idx t]
  unfold Merge.joined Row.tile Merge.cols
  by_cases h : y1.val < 1536
  · exact (dif_pos h).trans ((h0 _).trans (Product.read _ rfl (by show 3 * 1536 + y1.val = 4608 + y1.val; omega)))
  · exact (dif_neg h).trans ((h1 _).trans (Product.read _ rfl (by show 4 * 1536 + (y1.val - 1536) = 4608 + y1.val; omega)))

/-- What a point writes. -/
theorem point6 (c : Dev nD) (t : Fin cfg0.N) (y : S512x1024.Idx) :
    out0_6 (iblk m c 0 t) (iblk m c 1 t) (iblk m c 2 t) (iblk m c 3 t) (iblk m c 4 t) (iblk m c 5 t) y = (Merge.merged (Merge.gate (Merge.joined (iblk m c 0 t) (iblk m c 1 t)) (iblk m c 5 t)) (iblk m c 2 t) (iblk m c 3 t) (iblk m c 4 t) : Product.Arr 512 1024) y := by
  frame_out
  unfold_payloads
  unfold Merge.merged Merge.part Merge.gate Merge.joined
  idx_vars y
  pointwise

theorem val6 (c : Dev nD) : ((dats m 0 c).arrAt 6 cfg0.N : Product.Arr 4096 1024) = Merge.merged (Merge.gate (Merge.cols (k0 m c)) (k4 m c)) (k1 m c) (k2 m c) (k3 m c) := by
  refine (dats m 0 c).arrAt_eq_of_covers 6 _ (by decide +kernel) fun t hf y => ?_
  blk_simp [idx t]
  rw [after0_6]
  refine (point6 m c t y).trans ?_
  simp only [blk2 m c t, blk3 m c t, blk4 m c t, blk5 m c t, blkJ m c t]
  have := lt t
  have hy : (y 0).val < 512 := (y 0).isLt
  refine (show _ = (Merge.merged (Merge.gate (Merge.cols (k0 m c)) (k4 m c)) (k1 m c) (k2 m c) (k3 m c)) (ix2 (⟨t.val * 512 + (y 0).val, by omega⟩ : Fin 4096) (y 1)) from rfl).trans
    (congrArg (Merge.merged (Merge.gate (Merge.cols (k0 m c)) (k4 m c)) (k1 m c) (k2 m c) (k3 m c)) ?_)
  blk_ext [idx t]

end

section
open Cert.MergeFwdRefIdeal Cert.MergeFwdRefIdeal.Gen

variable (m : (ℓ : Loc nD τ sig) → Buf (Elt Ideal) ℓ)

abbrev r0 (c : Dev nD) : Product.Arr 4096 7680 := m ((c : Thread nD τ).loc main_arg0)
abbrev r1 (c : Dev nD) : Product.Arr 4096 1024 := m ((c : Thread nD τ).loc main_arg1)
abbrev r2 (c : Dev nD) : Product.Arr 4096 1024 := m ((c : Thread nD τ).loc main_arg2)
abbrev r3 (c : Dev nD) : Product.Arr 4096 1024 := m ((c : Thread nD τ).loc main_arg3)
abbrev r4 (c : Dev nD) : Product.Arr 1 3072 := m ((c : Thread nD τ).loc main_arg4)

/-- The reference's result 0. -/
theorem ref0 (a0 : FVec Ideal S4096x7680 .f32) (a1 : FVec Ideal S4096x1024 .f32) (a2 : FVec Ideal S4096x1024 .f32) (a3 : FVec Ideal S4096x1024 .f32) (a4 : FVec Ideal S1x3072 .f32) :
    (truncf .bf16 (addf (addf (mulf (shapeCast _ (extractStridedSlice S4096x1x1024 ![0, 0, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 (broadcastInDim S1x3072 ![1] bcast_S3072_S1x3072_1 (shapeCast _ a4 shapeCasts_S1x3072_S3072)))))))) shapeCasts_S4096x3072_S4096x3x1024) slices_S4096x3x1024_S4096x1x1024_0_0_0) shapeCasts_S4096x1x1024_S4096x1024) a1) (mulf (shapeCast _ (extractStridedSlice S4096x1x1024 ![0, 1, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 (broadcastInDim S1x3072 ![1] bcast_S3072_S1x3072_1 (shapeCast _ a4 shapeCasts_S1x3072_S3072)))))))) shapeCasts_S4096x3072_S4096x3x1024) slices_S4096x3x1024_S4096x1x1024_0_1_0) shapeCasts_S4096x1x1024_S4096x1024) a2)) (mulf (shapeCast _ (extractStridedSlice S4096x1x1024 ![0, 2, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] a0 slices_S4096x7680_S4096x3072_0_4608) (broadcastInDim S4096x3072 ![0, 1] bcast_S1x3072_S4096x3072_0_1 (broadcastInDim S1x3072 ![1] bcast_S3072_S1x3072_1 (shapeCast _ a4 shapeCasts_S1x3072_S3072)))))))) shapeCasts_S4096x3072_S4096x3x1024) slices_S4096x3x1024_S4096x1x1024_0_2_0) shapeCasts_S4096x1x1024_S4096x1024) a3)) bitsLt_bf16_f32 : FVec Ideal S4096x1024 .bf16)
      = (Merge.merged (Merge.gate (Merge.cols a0) a4) a1 a2 a3 : Product.Arr 4096 1024) := by
  funext y
  unfold Merge.merged Merge.part Merge.gate Merge.cols
  clean_types
  idx_vars y
  pointwise
  simp only [Row.logistic_written]

end

/-- The reference runs, keeps its arguments, and holds no semaphore. -/
theorem frameR : Cert.quiescent_MergeFwdRefIdeal := fun m ρ _ =>
  (θ_run _ _ _).mono (fun r h => ⟨fun c => (h c).2, Idealize.ShloMosaic.sem_eq_zero_of_no_sems (by decide) r.2⟩)
    (Cert.MergeFwdRefIdeal.Value.run m ρ)

/-- The kernel and the reference end with the same arrays. -/
theorem equal : Cert.algebraic_MergeFwdIdeal_MergeFwdRefIdeal := fun m ρ m' ρ' _ hag =>
  ⟨fun c => Merge.merged (Merge.gate (Merge.cols (k0 m c)) (k4 m c)) (k1 m c) (k2 m c) (k3 m c),
    (θ_run _ _ _).mono (fun _ h c => ⟨(h c).1.trans (val6 m c), (h c).2⟩) (Cert.MergeFwdIdeal.Value.run_blocks m ρ),
    (θ_run _ _ _).mono (fun _ h c => by
      have h0 : r0 m' c = k0 m c := (hag c).1
      have h1 : r1 m' c = k1 m c := (hag c).2.1
      have h2 : r2 m' c = k2 m c := (hag c).2.2.1
      have h3 : r3 m' c = k3 m c := (hag c).2.2.2.1
      have h4 : r4 m' c = k4 m c := (hag c).2.2.2.2
      refine ⟨(h c).1.trans ((ref0 (r0 m' c) (r1 m' c) (r2 m' c) (r3 m' c) (r4 m' c)).trans ?_), (h c).2⟩
      all_goals simp only [h0, h1, h2, h3, h4]) (Cert.MergeFwdRefIdeal.Value.run m' ρ')⟩

end Cert.Proof.MergeFwd

end
-- ==== Proof.ConvFwd.lean ====
module

public import proofs.«01_k».proof.Defs
public import proofs.«01_k».proof.Proof.Gen.ConvFwdIdeal.Value
public import proofs.«01_k».proof.Proof.Gen.ConvFwdRefIdeal.Run
public import proofs.«01_k».proof.Proof.ConvSpec
public import Idealize.ShloMosaic.Lib.Tactic.CleanTypes

/-!
The forward gated causal convolution.
-/

@[expose] public section

set_option maxRecDepth 16384

noncomputable section

open Idealize.ShloMosaic Idealize.ShloMosaic.TcCoe Idealize.SL.Sem
open Idealize.ShloMosaic.Pipeline (Dat)

namespace Cert.Proof.ConvFwd

/-- The convolution: thirty-one taps over the gated rows with thirty rows of zeros in front, and the bias. -/
def conv (p : ConvSpec.Arr 4096 7680) (w : ConvSpec.Arr 31 512) (b : ConvSpec.Arr 1 512) : ConvSpec.Arr 4096 512 := fun y =>
  b (ix2 (0 : Fin 1) (y 1)) + ∑ j : Fin 31, w (ix2 j (y 1)) * ConvSpec.padded p ((y 0).val + j.val) (y 1)

section
open Cert.ConvFwdIdeal Cert.ConvFwdIdeal.Gen

variable (m : (ℓ : Loc nD τ sig) → Buf (Elt Ideal) ℓ)

abbrev pA (c : Dev nD) : ConvSpec.Arr 4096 7680 := m ((c : Thread nD τ).loc main_arg0)
abbrev wA (c : Dev nD) : ConvSpec.Arr 31 512 := m ((c : Thread nD τ).loc main_arg1)
abbrev bA (c : Dev nD) : ConvSpec.Arr 1 512 := m ((c : Thread nD τ).loc main_arg2)

theorem lt8 (t : Fin cfg0.N) : t.val < 8 := lt_of_lt_of_eq t.isLt (show cfg0.N = 8 from N_0)

/-- Which block each window stages at a point. -/
theorem idx : ∀ t : Fin cfg0.N, win0_0.index t = ![t.val, 0] ∧ win0_1.index t = ![t.val, 1] ∧ win0_2.index t = ![16 * t.val - 1, 0]
    ∧ win0_3.index t = ![16 * t.val - 1, 1] ∧ win0_4.index t = ![0, 0] ∧ win0_5.index t = ![0, 0] ∧ win0_6.index t = ![t.val, 0] := by
  decide +kernel

theorem blk0 (c : Dev nD) (t : Fin cfg0.N) (r q : Fin 512) : (iblk m c 0 t : FVec Ideal S512x512 .f32) (ix2 r q)
    = ConvSpec.half (pA m c) ⟨512 * t.val + r.val, by have := lt8 t; omega⟩ q := by
  blk_point [iblk, V, idx t]
theorem blk1 (c : Dev nD) (t : Fin cfg0.N) (r q : Fin 512) : (iblk m c 1 t : FVec Ideal S512x512 .f32) (ix2 r q)
    = ConvSpec.gate (pA m c) ⟨512 * t.val + r.val, by have := lt8 t; omega⟩ q := by
  blk_point [iblk, V, idx t]
theorem blk2 (c : Dev nD) (t : Fin cfg0.N) (r : Fin 32) (q : Fin 512) (h : 0 < t.val) : (iblk m c 2 t : FVec Ideal S32x512 .f32) (ix2 r q)
    = ConvSpec.half (pA m c) ⟨512 * t.val + r.val - 32, by have := lt8 t; omega⟩ q := by
  blk_point [iblk, V, idx t]
theorem blk3 (c : Dev nD) (t : Fin cfg0.N) (r : Fin 32) (q : Fin 512) (h : 0 < t.val) : (iblk m c 3 t : FVec Ideal S32x512 .f32) (ix2 r q)
    = ConvSpec.gate (pA m c) ⟨512 * t.val + r.val - 32, by have := lt8 t; omega⟩ q := by
  blk_point [iblk, V, idx t]

theorem V_main_v0 (c : Dev nD) : (V m c main_v0 : FVec Ideal S32x512 .f32)
    = pad S32x512 ![0, 0] ![1, 0] ![0, 0] (wA m c : FVec Ideal S31x512 .f32) (sitofp (F := Ideal) .f32 (constantI S_ 32 0#32)) pads_S31x512_S32x512_010_000 h_S_ := by
  entry_read
  rfl

theorem blk4 (c : Dev nD) (t : Fin cfg0.N) (j : Fin 31) (q : Fin 512) : (iblk m c 4 t : FVec Ideal S32x512 .f32) (ix2 ⟨j.val, by omega⟩ q)
    = wA m c (ix2 j q) := by
  have hb : (iblk m c 4 t : FVec Ideal S32x512 .f32) (ix2 ⟨j.val, by omega⟩ q) = (V m c main_v0 : FVec Ideal S32x512 .f32) (ix2 ⟨j.val, by omega⟩ q) := by
    blk_simp [iblk, idx t]
    blk_ext [idx t]
  rw [hb, V_main_v0]
  pointwise

theorem blk5 (c : Dev nD) (t : Fin cfg0.N) (q : Fin 512) : (iblk m c 5 t : FVec Ideal S1x512 .f32) (ix2 (0 : Fin 1) q)
    = bA m c (ix2 (0 : Fin 1) q) := by
  blk_point [iblk, V, idx t]

theorem isPos : ∀ t : Fin cfg0.N, (Scalar.cmpi CmpIPredicate.sgt (BitVec.ofNat 32 (grid0.coords t 0).val) 0#32 = 1) ↔ 0 < t.val := by
  decide +kernel

/-- The gated rows a point holds: thirty-two from before the block, then the block's own. -/
abbrev ue (c : Dev nD) (t : Fin cfg0.N) : FVec Ideal S544x512 .f32 :=
  k0_pay2 (grid0.coords t) (iblk m c 0 t) (iblk m c 1 t) (iblk m c 2 t) (iblk m c 3 t)

theorem ue_at (c : Dev nD) (t : Fin cfg0.N) (n : Fin 544) (hn : 2 ≤ n.val) (q : Fin 512) :
    ue m c t (ix2 n q) = ConvSpec.padded (pA m c) (512 * t.val + n.val - 2) q := by
  have ht := lt8 t
  unfold ue
  unfold_payloads
  pointwise
  unfold Scalar.select
  by_cases h : n.val < 32
  · rw [dif_pos h]
    by_cases hp : 0 < t.val
    · rw [if_pos ((isPos t).mpr hp), ConvSpec.padded, dif_pos (by omega), blk2 m c t _ q hp, blk3 m c t _ q hp]
      have e : 512 * t.val + n.val - 32 = 512 * t.val + n.val - 2 - 30 := by omega
      simp only [e]
    · rw [if_neg (fun e => hp ((isPos t).mp e)), ConvSpec.padded, dif_neg (by omega)]
  · rw [dif_neg h, ConvSpec.padded, dif_pos (by omega), blk0, blk1]
    have e : 512 * t.val + (n.val - 32) = 512 * t.val + n.val - 2 - 30 := by omega
    simp only [e]

/-- The bias and the taps over the rows `u`. -/
def taps (b : FVec Ideal S1x512 .f32) (w : FVec Ideal S32x512 .f32) (u : FVec Ideal S544x512 .f32) (r q : Fin 512) : EReal :=
  b (ix2 (0 : Fin 1) q) + ∑ j : Fin 31, w (ix2 ⟨j.val, by omega⟩ q) * u (ix2 ⟨(r.val + 2 + j.val) % 544, by omega⟩ q)

set_option maxHeartbeats 1000000 in
/-- What a point writes: the taps over the rows it holds, and the bias. -/
theorem point (c : Dev nD) (t : Fin cfg0.N) (y0 y1 : Fin 512) :
    out0_6 (grid0.coords t) (iblk m c 0 t) (iblk m c 1 t) (iblk m c 2 t) (iblk m c 3 t) (iblk m c 4 t) (iblk m c 5 t) (ix2 y0 y1)
      = taps (iblk m c 5 t) (iblk m c 4 t) (ue m c t) y0 y1 := by
  unfold_out out0_6
  frame_out
  unfold k0_pay3
  simp only [ue]
  generalize k0_pay2 (grid0.coords t) (iblk m c 0 t) (iblk m c 1 t) (iblk m c 2 t) (iblk m c 3 t) = u
  generalize iblk m c 4 t = w
  generalize iblk m c 5 t = b
  unfold_payloads
  pointwise
  simp only [taps, Fin.sum_univ_castSucc, Finset.univ_eq_empty, Finset.sum_empty, zero_add, ← add_assoc]
  iterate 31 refine congrArg₂ (fun a b : EReal => a + b) ?_ ?_
  all_goals first
    | rfl
    | (refine congrArg₂ (fun a b : EReal => a * b) (congrArg w (congrArg (ix2 · y1) (Fin.ext rfl))) (congrArg u (congrArg (ix2 · y1) (Fin.ext ?_)))
       simp only [Fin.val_castSucc, Fin.val_last]
       omega)

/-- A point's block of the whole convolution. -/
theorem block (c : Dev nD) (t : Fin cfg0.N) (y : S512x512.Idx) :
    out0_6 (grid0.coords t) (iblk m c 0 t) (iblk m c 1 t) (iblk m c 2 t) (iblk m c 3 t) (iblk m c 4 t) (iblk m c 5 t) y
      = conv (pA m c) (wA m c) (bA m c) (ix2 (⟨512 * t.val + (y 0).val, by have := lt8 t; have : (y 0).val < 512 := (y 0).isLt; omega⟩ : Fin 4096) (⟨(y 1).val, (y 1).isLt⟩ : Fin 512)) := by
  idx_vars y
  refine (point m c t y0 y1).trans ?_
  unfold taps conv
  refine congrArg₂ (fun a b : EReal => a + b) (blk5 m c t y1) (Finset.sum_congr rfl fun j _ => ?_)
  refine congrArg₂ (fun a b : EReal => a * b) (blk4 m c t j y1) ((ue_at m c t _ (by show 2 ≤ (y0.val + 2 + j.val) % 544; omega) y1).trans
    (congrArg (ConvSpec.padded (pA m c) · y1) ?_))
  show 512 * t.val + (y0.val + 2 + j.val) % 544 - 2 = 512 * t.val + y0.val + j.val
  omega

theorem arr6 (c : Dev nD) : (dats m 0 c).arrAt 6 cfg0.N = conv (pA m c) (wA m c) (bA m c) := by
  refine (dats m 0 c).arrAt_eq_of_covers 6 _ (by decide +kernel) fun t hf y => ?_
  blk_simp [idx t]
  rw [after0_6]
  refine (block m c t y).trans (congrArg (conv (pA m c) (wA m c) (bA m c)) ?_)
  have := lt8 t
  blk_ext [idx t]

end

section
open Cert.ConvFwdRefIdeal Cert.ConvFwdRefIdeal.Gen Cert.ConvFwdRefIdeal.Value

variable (m : (ℓ : Loc nD τ sig) → Buf (Elt Ideal) ℓ)

abbrev pR (c : Dev nD) : ConvSpec.Arr 4096 7680 := m ((c : Thread nD τ).loc main_arg0)
abbrev wR (c : Dev nD) : ConvSpec.Arr 31 512 := m ((c : Thread nD τ).loc main_arg1)
abbrev bR (c : Dev nD) : ConvSpec.Arr 1 512 := m ((c : Thread nD τ).loc main_arg2)

theorem at10 (c : Dev nD) (n : Fin 4126) (q : Fin 512) : (res_main_v10 (StableHlo.launchContents m c) : FVec Ideal S4126x512 .f32) (ix2 n q) = ConvSpec.padded (pR m c) n.val q := by
  unfold res_main_v10
  clean_types
  pointwise
  unfold ConvSpec.padded
  by_cases h : n.val < 30
  · rw [dif_pos h, dif_neg (by omega)]
  · rw [dif_neg h, dif_pos (by omega)]
    rfl

set_option maxHeartbeats 2000000 in
/-- The reference's result. -/
theorem ref (c : Dev nD) : (addf (addf (addf (addf (addf (addf (addf (addf (res_main_v179 (StableHlo.launchContents m c)) (mulf (broadcastInDim S4096x512 ![0, 1] bcast_S1x512_S4096x512_0_1 (broadcastInDim S1x512 ![1] bcast_S512_S1x512_1 (shapeCast _ (extractStridedSlice S1x512 ![24, 0] ((StableHlo.launchContents m c) (Proc.devRef .tc main_arg1)) slices_S31x512_S1x512_24_0) shapeCasts_S1x512_S512))) (extractStridedSlice S4096x512 ![24, 0] (res_main_v10 (StableHlo.launchContents m c)) slices_S4126x512_S4096x512_24_0))) (mulf (broadcastInDim S4096x512 ![0, 1] bcast_S1x512_S4096x512_0_1 (broadcastInDim S1x512 ![1] bcast_S512_S1x512_1 (shapeCast _ (extractStridedSlice S1x512 ![25, 0] ((StableHlo.launchContents m c) (Proc.devRef .tc main_arg1)) slices_S31x512_S1x512_25_0) shapeCasts_S1x512_S512))) (extractStridedSlice S4096x512 ![25, 0] (res_main_v10 (StableHlo.launchContents m c)) slices_S4126x512_S4096x512_25_0))) (mulf (broadcastInDim S4096x512 ![0, 1] bcast_S1x512_S4096x512_0_1 (broadcastInDim S1x512 ![1] bcast_S512_S1x512_1 (shapeCast _ (extractStridedSlice S1x512 ![26, 0] ((StableHlo.launchContents m c) (Proc.devRef .tc main_arg1)) slices_S31x512_S1x512_26_0) shapeCasts_S1x512_S512))) (extractStridedSlice S4096x512 ![26, 0] (res_main_v10 (StableHlo.launchContents m c)) slices_S4126x512_S4096x512_26_0))) (mulf (broadcastInDim S4096x512 ![0, 1] bcast_S1x512_S4096x512_0_1 (broadcastInDim S1x512 ![1] bcast_S512_S1x512_1 (shapeCast _ (extractStridedSlice S1x512 ![27, 0] ((StableHlo.launchContents m c) (Proc.devRef .tc main_arg1)) slices_S31x512_S1x512_27_0) shapeCasts_S1x512_S512))) (extractStridedSlice S4096x512 ![27, 0] (res_main_v10 (StableHlo.launchContents m c)) slices_S4126x512_S4096x512_27_0))) (mulf (broadcastInDim S4096x512 ![0, 1] bcast_S1x512_S4096x512_0_1 (broadcastInDim S1x512 ![1] bcast_S512_S1x512_1 (shapeCast _ (extractStridedSlice S1x512 ![28, 0] ((StableHlo.launchContents m c) (Proc.devRef .tc main_arg1)) slices_S31x512_S1x512_28_0) shapeCasts_S1x512_S512))) (extractStridedSlice S4096x512 ![28, 0] (res_main_v10 (StableHlo.launchContents m c)) slices_S4126x512_S4096x512_28_0))) (mulf (broadcastInDim S4096x512 ![0, 1] bcast_S1x512_S4096x512_0_1 (broadcastInDim S1x512 ![1] bcast_S512_S1x512_1 (shapeCast _ (extractStridedSlice S1x512 ![29, 0] ((StableHlo.launchContents m c) (Proc.devRef .tc main_arg1)) slices_S31x512_S1x512_29_0) shapeCasts_S1x512_S512))) (extractStridedSlice S4096x512 ![29, 0] (res_main_v10 (StableHlo.launchContents m c)) slices_S4126x512_S4096x512_29_0))) (mulf (broadcastInDim S4096x512 ![0, 1] bcast_S1x512_S4096x512_0_1 (broadcastInDim S1x512 ![1] bcast_S512_S1x512_1 (shapeCast _ (extractStridedSlice S1x512 ![30, 0] ((StableHlo.launchContents m c) (Proc.devRef .tc main_arg1)) slices_S31x512_S1x512_30_0) shapeCasts_S1x512_S512))) (extractStridedSlice S4096x512 ![30, 0] (res_main_v10 (StableHlo.launchContents m c)) slices_S4126x512_S4096x512_30_0))) (broadcastInDim S4096x512 ![0, 1] bcast_S1x512_S4096x512_0_1 (broadcastInDim S1x512 ![1] bcast_S512_S1x512_1 (shapeCast _ ((StableHlo.launchContents m c) (Proc.devRef .tc main_arg2)) shapeCasts_S1x512_S512))) : FVec Ideal S4096x512 .f32)
    = conv (pR m c) (wR m c) (bR m c) := by
  funext y
  unfold res_main_v179 res_main_v95
  clean_types
  idx_vars y
  pointwise [at10 m c]
  unfold conv
  refine Eq.trans ?_ (add_comm (G := EReal) _ _)
  simp only [Fin.sum_univ_castSucc, Finset.univ_eq_empty, Finset.sum_empty, zero_add]
  iterate 31 refine congrArg₂ (fun a b : EReal => a + b) ?_ ?_
  all_goals first
    | rfl
    | (refine congrArg₂ (fun a b : EReal => a * b) rfl (congrArg (ConvSpec.padded (pR m c) · y1) ?_)
       show (_ : ℕ) = y0.val + (_ : ℕ)
       simp only [Fin.val_castSucc, Fin.val_last]
       omega)

end

/-- The reference runs, keeps its arguments, and holds no semaphore. -/
theorem frameR : Cert.quiescent_ConvFwdRefIdeal := fun m ρ _ =>
  (θ_run _ _ _).mono (fun r h => ⟨fun c => (h c).2, Idealize.ShloMosaic.sem_eq_zero_of_no_sems (by decide) r.2⟩)
    (Cert.ConvFwdRefIdeal.Value.run m ρ)

/-- The kernel and the reference end with the same array. -/
theorem equal : Cert.algebraic_ConvFwdIdeal_ConvFwdRefIdeal := fun m ρ m' ρ' _ hag =>
  ⟨fun c => conv (pA m c) (wA m c) (bA m c),
    (θ_run _ _ _).mono (fun _ h c => ⟨(h c).1.trans (arr6 m c), (h c).2⟩) (Cert.ConvFwdIdeal.Value.run_blocks m ρ),
    (θ_run _ _ _).mono (fun _ h c => by
      have h0 : pR m' c = pA m c := (hag c).1
      have h1 : wR m' c = wA m c := (hag c).2.1
      have h2 : bR m' c = bA m c := (hag c).2.2
      refine ⟨(h c).1.trans ((ref m' c).trans ?_), (h c).2⟩
      rw [h0, h1, h2]) (Cert.ConvFwdRefIdeal.Value.run m' ρ')⟩

end Cert.Proof.ConvFwd

end
-- ==== Proof.SumSmall.lean ====
module

public import proofs.«01_k».proof.Defs
public import proofs.«01_k».proof.Proof.Gen.SumSmallIdeal.Value
public import proofs.«01_k».proof.Proof.Gen.SumSmallRefIdeal.Run
public import proofs.«01_k».proof.Proof.ProductSpec
public import Idealize.ShloMosaic.Lib.Tactic.CleanTypes

/-!
The sum of eight devices' small gradients.
-/

@[expose] public section

set_option maxRecDepth 16384

noncomputable section

open Idealize.ShloMosaic Idealize.ShloMosaic.TcCoe Idealize.SL.Sem
open Idealize.ShloMosaic.Pipeline (Dat)

namespace Cert.Proof.SumSmall

/-- Eight arrays, and their sum. -/
abbrev Eight : Type := (⟨3, ![8, 464, 128]⟩ : Shape).Idx → EReal
def total (x : Eight) : Product.Arr 464 128 := fun y => ∑ d : Fin 8, x (ix3 d (y 0) (y 1))

section
open Cert.SumSmallIdeal Cert.SumSmallIdeal.Gen

variable (m : (ℓ : Loc nD τ sig) → Buf (Elt Ideal) ℓ)

abbrev xA (c : Dev nD) : Eight := m ((c : Thread nD τ).loc main_arg0)
abbrev b0 (c : Dev nD) (t : Fin cfg0.N) : Eight := iblk m c 0 t

/-- The block each window stages. -/
theorem idx : ∀ t : Fin cfg0.N, win0_0.index t = ![0, 0, 0] ∧ win0_1.index t = ![0, 0] := by
  decide +kernel

theorem blk0 (c : Dev nD) (t : Fin cfg0.N) (d : Fin 8) (r : Fin 464) (k : Fin 128) :
    (iblk m c 0 t : FVec Ideal S8x464x128 .f32) (ix3 d r k) = xA m c (ix3 d r k) := by
  blk_point [iblk, V, idx t]

/-- What the only point writes. -/
theorem point1 (c : Dev nD) (t : Fin cfg0.N) (r : Fin 464) (k : Fin 128) :
    (out0_1 (iblk m c 0 t) : FVec Ideal S464x128 .f32) (ix2 r k)
      = ∑ d : Fin 8, b0 m c t (ix3 d r k) := by
  frame_out
  unfold_payloads
  pointwise
  simp only [Fin.sum_univ_eight]

theorem val1 (c : Dev nD) : ((dats m 0 c).arrAt 1 cfg0.N : Product.Arr 464 128) = total (xA m c) := by
  refine (dats m 0 c).arrAt_eq_of_covers 1 _ (by decide +kernel) fun t hf y => ?_
  blk_simp [idx t]
  rw [after0_1]
  idx_vars y
  have e : ∑ d : Fin 8, b0 m c t (ix3 d y0 y1) = total (xA m c) (ix2 y0 y1) := Finset.sum_congr rfl fun d _ => blk0 m c t d y0 y1
  refine (point1 m c t y0 y1).trans (e.trans ?_)
  refine congrArg (total (xA m c)) ?_
  blk_ext [idx t]

end

section
open Cert.SumSmallRefIdeal Cert.SumSmallRefIdeal.Gen

variable (m : (ℓ : Loc nD τ sig) → Buf (Elt Ideal) ℓ)

abbrev xR (c : Dev nD) : Eight := m ((c : Thread nD τ).loc main_arg0)

/-- The reference's sum. -/
theorem ref0 (a0 : FVec Ideal S8x464x128 .f32) :
    (Host.reduceAdd a0 (constant S_ .f32 0x00000000#32) reducesTo_S8x464x128_S464x128_d0 h_S_ : FVec Ideal S464x128 .f32) = total a0 := by
  funext y
  unfold total
  clean_types
  idx_vars y
  pointwise

end

/-- The reference runs, keeps its arguments, and holds no semaphore. -/
theorem frameR : Cert.quiescent_SumSmallRefIdeal := fun m ρ _ =>
  (θ_run _ _ _).mono (fun r h => ⟨fun c => (h c).2, Idealize.ShloMosaic.sem_eq_zero_of_no_sems (by decide) r.2⟩)
    (Cert.SumSmallRefIdeal.Value.run m ρ)

/-- The kernel and the reference both end with the sum. -/
theorem equal : Cert.algebraic_SumSmallIdeal_SumSmallRefIdeal := fun m ρ m' ρ' _ hag =>
  ⟨fun c => total (xA m c),
    (θ_run _ _ _).mono (fun _ h c => ⟨(h c).1.trans (val1 m c), (h c).2⟩) (Cert.SumSmallIdeal.Value.run_blocks m ρ),
    (θ_run _ _ _).mono (fun _ h c => by
      have hx : xR m' c = xA m c := hag c
      exact ⟨(h c).1.trans ((ref0 _).trans (congrArg total hx)), (h c).2⟩) (Cert.SumSmallRefIdeal.Value.run m' ρ')⟩

end Cert.Proof.SumSmall

end
-- ==== Proof.Small.lean ====
module

public import proofs.«01_k».proof.Defs
public import proofs.«01_k».proof.Proof.Gen.SmallIdeal.Frame
public import proofs.«01_k».proof.Proof.Gen.SmallRefIdeal.Run
public import proofs.«01_k».proof.Proof.ProductSpec
public import Idealize.ShloMosaic.Lib.Tactic.CleanTypes

/-!
The small gradients of eight devices, packed side by side into one row, added up over the devices, and cut apart again; and the loss.
-/

@[expose] public section

set_option maxRecDepth 16384

noncomputable section

open Idealize.ShloMosaic Idealize.ShloMosaic.TcCoe Idealize.SL.Sem
open Idealize.ShloMosaic.Pipeline (Dat)

namespace Cert.Proof.Small

/-- Eight devices' arrays, and their sum. -/
abbrev Eight : Type := (⟨3, ![8, 464, 128]⟩ : Shape).Idx → EReal
def total (x : Eight) : Product.Arr 464 128 := fun y => ∑ d : Fin 8, x (ix3 d (y 0) (y 1))

/-- A parameter's gradient added up over the eight devices, by its form; and the loss. -/
abbrev Rows (n : ℕ) : Type := (⟨4, ![8, 2, 1, n]⟩ : Shape).Idx → EReal
def rows {n : ℕ} (a : Rows n) : Product.Arr 2 n := fun y => ∑ d : Fin 8, a (ix4 d (y 0) (0 : Fin 1) (y 1))
def plain {n : ℕ} (a : (⟨3, ![8, 2, n]⟩ : Shape).Idx → EReal) : Product.Arr 2 n := fun y => ∑ d : Fin 8, a (ix3 d (y 0) (y 1))
def taps (a : (⟨4, ![8, 2, 31, 512]⟩ : Shape).Idx → EReal) : (⟨3, ![2, 31, 512]⟩ : Shape).Idx → EReal := fun y =>
  ∑ d : Fin 8, a (ix4 d (y 0) (y 1) (y 2))
def loss (a : (⟨3, ![8, 1, 128]⟩ : Shape).Idx → EReal) : (⟨0, ![]⟩ : Shape).Idx → EReal := fun _ =>
  Ideal.ofBits .f32 0x3A000000#32 * ∑ k : Fin 128, ∑ d : Fin 8, a (ix3 d (0 : Fin 1) k)

section
open Cert.SmallIdeal Cert.SmallIdeal.Gen

variable (m : (ℓ : Loc nD τ sig) → Buf (Elt Ideal) ℓ)

/-- The thirteen parts side by side, and the packed array: padded to whole rows of 128. -/
def cat (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) : FVec Ideal S8x59008 .f32 :=
  concatenate S8x59008 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1
def packed (x : FVec Ideal S8x59008 .f32) : FVec Ideal S8x464x128 .f32 :=
  shapeCast S8x464x128 (pad S8x59392 ![0, 0] ![0, 384] ![0, 0] x (sitofp .f32 (constantI S_ 32 0#32)) pads_S8x59008_S8x59392_000_03840 h_S_)
    shapeCasts_S8x59392_S8x464x128

/-- The summed array read as one row: the sum over the devices of the parts' row. -/
theorem row_at (x : FVec Ideal S8x59008 .f32) (f : Fin 59392) (hf : f.val < 59008) :
    shapeCast S59392 (total (packed x) : FVec Ideal S464x128 .f32) shapeCasts_S464x128_S59392 (ix1 f) = ∑ d : Fin 8, x (ix2 d ⟨f.val, hf⟩) := by
  unfold packed
  pointwise
  unfold total
  refine Finset.sum_congr rfl fun d _ => ?_
  pointwise
  exact dif_pos hf

/-- The side-by-side array read inside each part. -/
theorem cat_0 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 128) (hf : f.val = 0 + j.val) :
    cat p0 p1 p2 p3 p4 p5 p6 p7 p8 p9 p10 p11 p12 (ix2 d f) = p0 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 0 (by simp) S8x128 p0 rfl rfl 0 (by simp only [List.take_succ_cons, List.take_zero, List.map_cons, List.map_nil]; decide +kernel) (ix2 d j)
    (fun b hb => by fin_cases b <;> first | rfl | exact absurd rfl hb) hf.symm

theorem cat_1 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 12288) (hf : f.val = 128 + j.val) :
    cat p0 p1 p2 p3 p4 p5 p6 p7 p8 p9 p10 p11 p12 (ix2 d f) = p1 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 1 (by simp) S8x12288 p1 rfl rfl 128 (by simp only [List.take_succ_cons, List.take_zero, List.map_cons, List.map_nil]; decide +kernel) (ix2 d j)
    (fun b hb => by fin_cases b <;> first | rfl | exact absurd rfl hb) hf.symm

theorem cat_2 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 1024) (hf : f.val = 12416 + j.val) :
    cat p0 p1 p2 p3 p4 p5 p6 p7 p8 p9 p10 p11 p12 (ix2 d f) = p2 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 2 (by simp) S8x1024 p2 rfl rfl 12416 (by simp only [List.take_succ_cons, List.take_zero, List.map_cons, List.map_nil]; decide +kernel) (ix2 d j)
    (fun b hb => by fin_cases b <;> first | rfl | exact absurd rfl hb) hf.symm

theorem cat_3 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 31744) (hf : f.val = 13440 + j.val) :
    cat p0 p1 p2 p3 p4 p5 p6 p7 p8 p9 p10 p11 p12 (ix2 d f) = p3 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 3 (by simp) S8x31744 p3 rfl rfl 13440 (by simp only [List.take_succ_cons, List.take_zero, List.map_cons, List.map_nil]; decide +kernel) (ix2 d j)
    (fun b hb => by fin_cases b <;> first | rfl | exact absurd rfl hb) hf.symm

theorem cat_4 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 2048) (hf : f.val = 45184 + j.val) :
    cat p0 p1 p2 p3 p4 p5 p6 p7 p8 p9 p10 p11 p12 (ix2 d f) = p4 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 4 (by simp) S8x2048 p4 rfl rfl 45184 (by simp only [List.take_succ_cons, List.take_zero, List.map_cons, List.map_nil]; decide +kernel) (ix2 d j)
    (fun b hb => by fin_cases b <;> first | rfl | exact absurd rfl hb) hf.symm

theorem cat_5 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 6144) (hf : f.val = 47232 + j.val) :
    cat p0 p1 p2 p3 p4 p5 p6 p7 p8 p9 p10 p11 p12 (ix2 d f) = p5 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 5 (by simp) S8x6144 p5 rfl rfl 47232 (by simp only [List.take_succ_cons, List.take_zero, List.map_cons, List.map_nil]; decide +kernel) (ix2 d j)
    (fun b hb => by fin_cases b <;> first | rfl | exact absurd rfl hb) hf.symm

theorem cat_6 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 1024) (hf : f.val = 53376 + j.val) :
    cat p0 p1 p2 p3 p4 p5 p6 p7 p8 p9 p10 p11 p12 (ix2 d f) = p6 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 6 (by simp) S8x1024 p6 rfl rfl 53376 (by simp only [List.take_succ_cons, List.take_zero, List.map_cons, List.map_nil]; decide +kernel) (ix2 d j)
    (fun b hb => by fin_cases b <;> first | rfl | exact absurd rfl hb) hf.symm

theorem cat_7 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 1024) (hf : f.val = 54400 + j.val) :
    cat p0 p1 p2 p3 p4 p5 p6 p7 p8 p9 p10 p11 p12 (ix2 d f) = p7 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 7 (by simp) S8x1024 p7 rfl rfl 54400 (by simp only [List.take_succ_cons, List.take_zero, List.map_cons, List.map_nil]; decide +kernel) (ix2 d j)
    (fun b hb => by fin_cases b <;> first | rfl | exact absurd rfl hb) hf.symm

theorem cat_8 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 1024) (hf : f.val = 55424 + j.val) :
    cat p0 p1 p2 p3 p4 p5 p6 p7 p8 p9 p10 p11 p12 (ix2 d f) = p8 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 8 (by simp) S8x1024 p8 rfl rfl 55424 (by simp only [List.take_succ_cons, List.take_zero, List.map_cons, List.map_nil]; decide +kernel) (ix2 d j)
    (fun b hb => by fin_cases b <;> first | rfl | exact absurd rfl hb) hf.symm

theorem cat_9 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 256) (hf : f.val = 56448 + j.val) :
    cat p0 p1 p2 p3 p4 p5 p6 p7 p8 p9 p10 p11 p12 (ix2 d f) = p9 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 9 (by simp) S8x256 p9 rfl rfl 56448 (by simp only [List.take_succ_cons, List.take_zero, List.map_cons, List.map_nil]; decide +kernel) (ix2 d j)
    (fun b hb => by fin_cases b <;> first | rfl | exact absurd rfl hb) hf.symm

theorem cat_10 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 128) (hf : f.val = 56704 + j.val) :
    cat p0 p1 p2 p3 p4 p5 p6 p7 p8 p9 p10 p11 p12 (ix2 d f) = p10 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 10 (by simp) S8x128 p10 rfl rfl 56704 (by simp only [List.take_succ_cons, List.take_zero, List.map_cons, List.map_nil]; decide +kernel) (ix2 d j)
    (fun b hb => by fin_cases b <;> first | rfl | exact absurd rfl hb) hf.symm

theorem cat_11 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 128) (hf : f.val = 56832 + j.val) :
    cat p0 p1 p2 p3 p4 p5 p6 p7 p8 p9 p10 p11 p12 (ix2 d f) = p11 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 11 (by simp) S8x128 p11 rfl rfl 56832 (by simp only [List.take_succ_cons, List.take_zero, List.map_cons, List.map_nil]; decide +kernel) (ix2 d j)
    (fun b hb => by fin_cases b <;> first | rfl | exact absurd rfl hb) hf.symm

theorem cat_12 (p0 : FVec Ideal S8x128 .f32) (p1 : FVec Ideal S8x12288 .f32) (p2 : FVec Ideal S8x1024 .f32) (p3 : FVec Ideal S8x31744 .f32) (p4 : FVec Ideal S8x2048 .f32) (p5 : FVec Ideal S8x6144 .f32) (p6 : FVec Ideal S8x1024 .f32) (p7 : FVec Ideal S8x1024 .f32) (p8 : FVec Ideal S8x1024 .f32) (p9 : FVec Ideal S8x256 .f32) (p10 : FVec Ideal S8x128 .f32) (p11 : FVec Ideal S8x128 .f32) (p12 : FVec Ideal S8x2048 .f32) (d : Fin 8) (f : Fin 59008) (j : Fin 2048) (hf : f.val = 56960 + j.val) :
    cat p0 p1 p2 p3 p4 p5 p6 p7 p8 p9 p10 p11 p12 (ix2 d f) = p12 (ix2 d j) :=
  concatenate_apply_piece 1 [⟨S8x128, p0⟩, ⟨S8x12288, p1⟩, ⟨S8x1024, p2⟩, ⟨S8x31744, p3⟩, ⟨S8x2048, p4⟩, ⟨S8x6144, p5⟩, ⟨S8x1024, p6⟩, ⟨S8x1024, p7⟩, ⟨S8x1024, p8⟩, ⟨S8x256, p9⟩, ⟨S8x128, p10⟩, ⟨S8x128, p11⟩, ⟨S8x2048, p12⟩] concatenates_S8x128_S8x12288_S8x1024_S8x31744_S8x2048_S8x6144_S8x1024_S8x1024_S8x1024_S8x256_S8x128_S8x128_S8x2048_S8x59008_d1 (ix2 d f) 12 (by simp) S8x2048 p12 rfl rfl 56960 (by simp only [List.take_succ_cons, List.take_zero, List.map_cons, List.map_nil]; decide +kernel) (ix2 d j)
    (fun b hb => by fin_cases b <;> first | rfl | exact absurd rfl hb) hf.symm

/-- What the region finds: the arguments packed. -/
theorem V15 (c : Dev nD) : V m c main_v15 = packed (cat (shapeCast S8x128 (m ((c : Thread nD τ).loc main_arg0) : FVec Ideal S8x1x128 .f32) shapeCasts_S8x1x128_S8x128) (shapeCast S8x12288 (m ((c : Thread nD τ).loc main_arg1) : FVec Ideal S8x2x1x6144 .f32) shapeCasts_S8x2x1x6144_S8x12288) (shapeCast S8x1024 (m ((c : Thread nD τ).loc main_arg2) : FVec Ideal S8x2x512 .f32) shapeCasts_S8x2x512_S8x1024) (shapeCast S8x31744 (m ((c : Thread nD τ).loc main_arg3) : FVec Ideal S8x2x31x512 .f32) shapeCasts_S8x2x31x512_S8x31744) (shapeCast S8x2048 (m ((c : Thread nD τ).loc main_arg4) : FVec Ideal S8x2x1x1024 .f32) shapeCasts_S8x2x1x1024_S8x2048) (shapeCast S8x6144 (m ((c : Thread nD τ).loc main_arg5) : FVec Ideal S8x2x1x3072 .f32) shapeCasts_S8x2x1x3072_S8x6144) (shapeCast S8x1024 (m ((c : Thread nD τ).loc main_arg6) : FVec Ideal S8x2x1x512 .f32) shapeCasts_S8x2x1x512_S8x1024) (shapeCast S8x1024 (m ((c : Thread nD τ).loc main_arg7) : FVec Ideal S8x2x1x512 .f32) shapeCasts_S8x2x1x512_S8x1024) (shapeCast S8x1024 (m ((c : Thread nD τ).loc main_arg8) : FVec Ideal S8x2x1x512 .f32) shapeCasts_S8x2x1x512_S8x1024) (shapeCast S8x256 (m ((c : Thread nD τ).loc main_arg9) : FVec Ideal S8x2x1x128 .f32) shapeCasts_S8x2x1x128_S8x256) (shapeCast S8x128 (m ((c : Thread nD τ).loc main_arg10) : FVec Ideal S8x2x1x64 .f32) shapeCasts_S8x2x1x64_S8x128) (shapeCast S8x128 (m ((c : Thread nD τ).loc main_arg11) : FVec Ideal S8x2x1x64 .f32) shapeCasts_S8x2x1x64_S8x128) (shapeCast S8x2048 (m ((c : Thread nD τ).loc main_arg12) : FVec Ideal S8x2x1x1024 .f32) shapeCasts_S8x2x1x1024_S8x2048)) := by
  show StableHlo.after (hostOps0 ++ (hostOps0_1 ++ (hostOps0_2 ++ []))) (fun b => m (c, b)) (Proc.tc.devRef main_v15) = _
  rw [List.append_nil, StableHlo.after_append, StableHlo.after_append]
  unfold hostOps0 hostOps0_1 hostOps0_2
  after_results_simp
  rfl

/-- Each part cut out of the row, and each argument laid out as a row. -/
theorem cut_0 (x : FVec Ideal S59392 .f32) (k : Fin 128) :
    shapeCast S1x128 (extractStridedSlice S128 ![0] x slices_S59392_S128_0) shapeCasts_S128_S1x128 (ix2 (0 : Fin 1) k) = x (ix1 ⟨0 + k.val, by omega⟩) := by
  pointwise
theorem part_0 (a : FVec Ideal S8x1x128 .f32) (d : Fin 8) (k : Fin 128) :
    shapeCast S8x128 a shapeCasts_S8x1x128_S8x128 (ix2 d k) = a (ix3 d (0 : Fin 1) k) := by
  pointwise

theorem cut_1 (x : FVec Ideal S59392 .f32) (r : Fin 2) (k : Fin 6144) :
    shapeCast S2x6144 (shapeCast S2x1x6144 (extractStridedSlice S12288 ![128] x slices_S59392_S12288_128) shapeCasts_S12288_S2x1x6144) shapeCasts_S2x1x6144_S2x6144 (ix2 r k)
      = x (ix1 ⟨128 + (r.val * 6144 + k.val), by omega⟩) := by
  pointwise
theorem part_1 (a : FVec Ideal S8x2x1x6144 .f32) (d : Fin 8) (r : Fin 2) (k : Fin 6144) :
    shapeCast S8x12288 a shapeCasts_S8x2x1x6144_S8x12288 (ix2 d ⟨r.val * 6144 + k.val, by omega⟩) = a (ix4 d r (0 : Fin 1) k) := by
  pointwise

theorem cut_2 (x : FVec Ideal S59392 .f32) (r : Fin 2) (k : Fin 512) :
    shapeCast S2x512 (extractStridedSlice S1024 ![12416] x slices_S59392_S1024_12416) shapeCasts_S1024_S2x512 (ix2 r k)
      = x (ix1 ⟨12416 + (r.val * 512 + k.val), by omega⟩) := by
  pointwise
theorem part_2 (a : FVec Ideal S8x2x512 .f32) (d : Fin 8) (r : Fin 2) (k : Fin 512) :
    shapeCast S8x1024 a shapeCasts_S8x2x512_S8x1024 (ix2 d ⟨r.val * 512 + k.val, by omega⟩) = a (ix3 d r k) := by
  pointwise

theorem cut_3 (x : FVec Ideal S59392 .f32) (r : Fin 2) (q : Fin 31) (k : Fin 512) :
    shapeCast S2x31x512 (extractStridedSlice S31744 ![13440] x slices_S59392_S31744_13440) shapeCasts_S31744_S2x31x512 (ix3 r q k)
      = x (ix1 ⟨13440 + (r.val * 15872 + q.val * 512 + k.val), by omega⟩) := by
  pointwise
theorem part_3 (a : FVec Ideal S8x2x31x512 .f32) (d : Fin 8) (r : Fin 2) (q : Fin 31) (k : Fin 512) :
    shapeCast S8x31744 a shapeCasts_S8x2x31x512_S8x31744 (ix2 d ⟨r.val * 15872 + q.val * 512 + k.val, by omega⟩) = a (ix4 d r q k) := by
  pointwise

theorem cut_4 (x : FVec Ideal S59392 .f32) (r : Fin 2) (k : Fin 1024) :
    shapeCast S2x1024 (shapeCast S2x1x1024 (extractStridedSlice S2048 ![45184] x slices_S59392_S2048_45184) shapeCasts_S2048_S2x1x1024) shapeCasts_S2x1x1024_S2x1024 (ix2 r k)
      = x (ix1 ⟨45184 + (r.val * 1024 + k.val), by omega⟩) := by
  pointwise
theorem part_4 (a : FVec Ideal S8x2x1x1024 .f32) (d : Fin 8) (r : Fin 2) (k : Fin 1024) :
    shapeCast S8x2048 a shapeCasts_S8x2x1x1024_S8x2048 (ix2 d ⟨r.val * 1024 + k.val, by omega⟩) = a (ix4 d r (0 : Fin 1) k) := by
  pointwise

theorem cut_5 (x : FVec Ideal S59392 .f32) (r : Fin 2) (k : Fin 3072) :
    shapeCast S2x3072 (shapeCast S2x1x3072 (extractStridedSlice S6144 ![47232] x slices_S59392_S6144_47232) shapeCasts_S6144_S2x1x3072) shapeCasts_S2x1x3072_S2x3072 (ix2 r k)
      = x (ix1 ⟨47232 + (r.val * 3072 + k.val), by omega⟩) := by
  pointwise
theorem part_5 (a : FVec Ideal S8x2x1x3072 .f32) (d : Fin 8) (r : Fin 2) (k : Fin 3072) :
    shapeCast S8x6144 a shapeCasts_S8x2x1x3072_S8x6144 (ix2 d ⟨r.val * 3072 + k.val, by omega⟩) = a (ix4 d r (0 : Fin 1) k) := by
  pointwise

theorem cut_6 (x : FVec Ideal S59392 .f32) (r : Fin 2) (k : Fin 512) :
    shapeCast S2x512 (shapeCast S2x1x512 (extractStridedSlice S1024 ![53376] x slices_S59392_S1024_53376) shapeCasts_S1024_S2x1x512) shapeCasts_S2x1x512_S2x512 (ix2 r k)
      = x (ix1 ⟨53376 + (r.val * 512 + k.val), by omega⟩) := by
  pointwise
theorem part_6 (a : FVec Ideal S8x2x1x512 .f32) (d : Fin 8) (r : Fin 2) (k : Fin 512) :
    shapeCast S8x1024 a shapeCasts_S8x2x1x512_S8x1024 (ix2 d ⟨r.val * 512 + k.val, by omega⟩) = a (ix4 d r (0 : Fin 1) k) := by
  pointwise

theorem cut_7 (x : FVec Ideal S59392 .f32) (r : Fin 2) (k : Fin 512) :
    shapeCast S2x512 (shapeCast S2x1x512 (extractStridedSlice S1024 ![54400] x slices_S59392_S1024_54400) shapeCasts_S1024_S2x1x512) shapeCasts_S2x1x512_S2x512 (ix2 r k)
      = x (ix1 ⟨54400 + (r.val * 512 + k.val), by omega⟩) := by
  pointwise
theorem part_7 (a : FVec Ideal S8x2x1x512 .f32) (d : Fin 8) (r : Fin 2) (k : Fin 512) :
    shapeCast S8x1024 a shapeCasts_S8x2x1x512_S8x1024 (ix2 d ⟨r.val * 512 + k.val, by omega⟩) = a (ix4 d r (0 : Fin 1) k) := by
  pointwise

theorem cut_8 (x : FVec Ideal S59392 .f32) (r : Fin 2) (k : Fin 512) :
    shapeCast S2x512 (shapeCast S2x1x512 (extractStridedSlice S1024 ![55424] x slices_S59392_S1024_55424) shapeCasts_S1024_S2x1x512) shapeCasts_S2x1x512_S2x512 (ix2 r k)
      = x (ix1 ⟨55424 + (r.val * 512 + k.val), by omega⟩) := by
  pointwise
theorem part_8 (a : FVec Ideal S8x2x1x512 .f32) (d : Fin 8) (r : Fin 2) (k : Fin 512) :
    shapeCast S8x1024 a shapeCasts_S8x2x1x512_S8x1024 (ix2 d ⟨r.val * 512 + k.val, by omega⟩) = a (ix4 d r (0 : Fin 1) k) := by
  pointwise

theorem cut_9 (x : FVec Ideal S59392 .f32) (r : Fin 2) (k : Fin 128) :
    shapeCast S2x128 (shapeCast S2x1x128 (extractStridedSlice S256 ![56448] x slices_S59392_S256_56448) shapeCasts_S256_S2x1x128) shapeCasts_S2x1x128_S2x128 (ix2 r k)
      = x (ix1 ⟨56448 + (r.val * 128 + k.val), by omega⟩) := by
  pointwise
theorem part_9 (a : FVec Ideal S8x2x1x128 .f32) (d : Fin 8) (r : Fin 2) (k : Fin 128) :
    shapeCast S8x256 a shapeCasts_S8x2x1x128_S8x256 (ix2 d ⟨r.val * 128 + k.val, by omega⟩) = a (ix4 d r (0 : Fin 1) k) := by
  pointwise

theorem cut_10 (x : FVec Ideal S59392 .f32) (r : Fin 2) (k : Fin 64) :
    shapeCast S2x64 (shapeCast S2x1x64 (extractStridedSlice S128 ![56704] x slices_S59392_S128_56704) shapeCasts_S128_S2x1x64) shapeCasts_S2x1x64_S2x64 (ix2 r k)
      = x (ix1 ⟨56704 + (r.val * 64 + k.val), by omega⟩) := by
  pointwise
theorem part_10 (a : FVec Ideal S8x2x1x64 .f32) (d : Fin 8) (r : Fin 2) (k : Fin 64) :
    shapeCast S8x128 a shapeCasts_S8x2x1x64_S8x128 (ix2 d ⟨r.val * 64 + k.val, by omega⟩) = a (ix4 d r (0 : Fin 1) k) := by
  pointwise

theorem cut_11 (x : FVec Ideal S59392 .f32) (r : Fin 2) (k : Fin 64) :
    shapeCast S2x64 (shapeCast S2x1x64 (extractStridedSlice S128 ![56832] x slices_S59392_S128_56832) shapeCasts_S128_S2x1x64) shapeCasts_S2x1x64_S2x64 (ix2 r k)
      = x (ix1 ⟨56832 + (r.val * 64 + k.val), by omega⟩) := by
  pointwise
theorem part_11 (a : FVec Ideal S8x2x1x64 .f32) (d : Fin 8) (r : Fin 2) (k : Fin 64) :
    shapeCast S8x128 a shapeCasts_S8x2x1x64_S8x128 (ix2 d ⟨r.val * 64 + k.val, by omega⟩) = a (ix4 d r (0 : Fin 1) k) := by
  pointwise

theorem cut_12 (x : FVec Ideal S59392 .f32) (r : Fin 2) (k : Fin 1024) :
    shapeCast S2x1024 (shapeCast S2x1x1024 (extractStridedSlice S2048 ![56960] x slices_S59392_S2048_56960) shapeCasts_S2048_S2x1x1024) shapeCasts_S2x1x1024_S2x1024 (ix2 r k)
      = x (ix1 ⟨56960 + (r.val * 1024 + k.val), by omega⟩) := by
  pointwise
theorem part_12 (a : FVec Ideal S8x2x1x1024 .f32) (d : Fin 8) (r : Fin 2) (k : Fin 1024) :
    shapeCast S8x2048 a shapeCasts_S8x2x1x1024_S8x2048 (ix2 d ⟨r.val * 1024 + k.val, by omega⟩) = a (ix4 d r (0 : Fin 1) k) := by
  pointwise

/-- The block that the only point reads. -/
abbrev b0 (c : Dev nD) (t : Fin cfg0.N) : Eight := iblk m c 0 t

/-- The block each window stages. -/
theorem idx : ∀ t : Fin cfg0.N, win0_0.index t = ![0, 0, 0] ∧ win0_1.index t = ![0, 0] := by
  decide +kernel

theorem blk0 (c : Dev nD) (t : Fin cfg0.N) (d : Fin 8) (r : Fin 464) (k : Fin 128) :
    (iblk m c 0 t : FVec Ideal S8x464x128 .f32) (ix3 d r k) = (V m c main_v15 : FVec Ideal S8x464x128 .f32) (ix3 d r k) := by
  blk_point [iblk, idx t]

/-- What the only point writes. -/
theorem point1 (c : Dev nD) (t : Fin cfg0.N) (r : Fin 464) (k : Fin 128) :
    (out0_1 (iblk m c 0 t) : FVec Ideal S464x128 .f32) (ix2 r k)
      = ∑ d : Fin 8, b0 m c t (ix3 d r k) := by
  frame_out
  unfold_payloads
  pointwise
  simp only [Fin.sum_univ_eight]

theorem val1 (c : Dev nD) : ((dats m 0 c).arrAt 1 cfg0.N : Product.Arr 464 128) = total (V m c main_v15) := by
  refine (dats m 0 c).arrAt_eq_of_covers 1 _ (by decide +kernel) fun t hf y => ?_
  blk_simp [idx t]
  rw [after0_1]
  idx_vars y
  have e : ∑ d : Fin 8, b0 m c t (ix3 d y0 y1) = total (V m c main_v15) (ix2 y0 y1) :=
    Finset.sum_congr rfl fun d _ => blk0 m c t d y0 y1
  refine (point1 m c t y0 y1).trans (e.trans ?_)
  refine congrArg (total (V m c main_v15)) ?_
  blk_ext [idx t]

/-- The thirteen arguments side by side, and the summed row. -/
def side (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) : FVec Ideal S8x59008 .f32 :=
  cat (shapeCast S8x128 a0 shapeCasts_S8x1x128_S8x128) (shapeCast S8x12288 a1 shapeCasts_S8x2x1x6144_S8x12288) (shapeCast S8x1024 a2 shapeCasts_S8x2x512_S8x1024) (shapeCast S8x31744 a3 shapeCasts_S8x2x31x512_S8x31744) (shapeCast S8x2048 a4 shapeCasts_S8x2x1x1024_S8x2048) (shapeCast S8x6144 a5 shapeCasts_S8x2x1x3072_S8x6144) (shapeCast S8x1024 a6 shapeCasts_S8x2x1x512_S8x1024) (shapeCast S8x1024 a7 shapeCasts_S8x2x1x512_S8x1024) (shapeCast S8x1024 a8 shapeCasts_S8x2x1x512_S8x1024) (shapeCast S8x256 a9 shapeCasts_S8x2x1x128_S8x256) (shapeCast S8x128 a10 shapeCasts_S8x2x1x64_S8x128) (shapeCast S8x128 a11 shapeCasts_S8x2x1x64_S8x128) (shapeCast S8x2048 a12 shapeCasts_S8x2x1x1024_S8x2048)
abbrev row (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) : FVec Ideal S59392 .f32 :=
  shapeCast S59392 (total (packed (side a0 a1 a2 a3 a4 a5 a6 a7 a8 a9 a10 a11 a12)) : FVec Ideal S464x128 .f32) shapeCasts_S464x128_S59392

theorem region (c : Dev nD) : (Pipeline.withArrays (cfgs 0).spec c (V0 m c) (fun w => (dats m 0 c).arrAt w (cfgs 0).N) (Proc.tc.devRef main_v16) : FVec Ideal S464x128 .f32)
    = total (packed (side (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))) :=
  (Pipeline.withArrays_arr spec0 (by decide) c (V0 m c) (fun w => (dats m 0 c).arrAt w (cfgs 0).N) 1).trans
    ((val1 m c).trans (congrArg total (V15 m c)))

theorem lanes_0 (x : FVec Ideal S59392 .f32) :
    mulf (constant S_ .f32 0x3A000000#32) (Host.reduceAdd (shapeCast S1x128 (extractStridedSlice S128 ![0] x slices_S59392_S128_0) shapeCasts_S128_S1x128)
      (constant S_ .f32 0x00000000#32) reducesTo_S1x128_S_d0_1 h_S_)
      = fun _ => Ideal.ofBits .f32 0x3A000000#32 * ∑ k : Fin 128, x (ix1 ⟨k.val, by omega⟩) := by
  funext y
  pointwise
  simp only [Fin.sum_univ_one]

theorem sum_0 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    mulf (constant S_ .f32 0x3A000000#32) (Host.reduceAdd (shapeCast S1x128 (extractStridedSlice S128 ![0] (row a0 a1 a2 a3 a4 a5 a6 a7 a8 a9 a10 a11 a12) slices_S59392_S128_0) shapeCasts_S128_S1x128)
      (constant S_ .f32 0x00000000#32) reducesTo_S1x128_S_d0_1 h_S_) = loss a0 := by
  refine (lanes_0 _).trans (funext fun _ => congrArg (fun s : EReal => Ideal.ofBits .f32 0x3A000000#32 * s) (Finset.sum_congr rfl fun k _ => ?_))
  refine (row_at _ _ (by simp only []; omega)).trans (Finset.sum_congr rfl fun d _ => ?_)
  exact (cat_0 _ _ _ _ _ _ _ _ _ _ _ _ _ d _ k (by simp)).trans (part_0 a0 d k)

theorem out_0 (c : Dev nD) : Pipeline.afterTail₀ cfgs (dats m) 0 (V0 m) [hostOps1] c main_v21 = loss (m ((c : Thread nD τ).loc main_arg0)) := by
  unfold Pipeline.afterTail₀
  rw [List.flatten_cons, List.flatten_nil, List.append_nil]
  unfold hostOps1
  after_results_simp
  refine Eq.trans ?_ (sum_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_1 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x6144 (shapeCast S2x1x6144 (extractStridedSlice S12288 ![128] (row a0 a1 a2 a3 a4 a5 a6 a7 a8 a9 a10 a11 a12) slices_S59392_S12288_128) shapeCasts_S12288_S2x1x6144) shapeCasts_S2x1x6144_S2x6144 = rows a1 := by
  funext y
  idx_vars y
  refine (cut_1 _ y0 y1).trans ((row_at _ _ (by simp only []; omega)).trans (Finset.sum_congr rfl fun d _ => ?_))
  exact (cat_1 _ _ _ _ _ _ _ _ _ _ _ _ _ d _ ⟨y0.val * 6144 + y1.val, by omega⟩ rfl).trans (part_1 a1 d y0 y1)

theorem out_1 (c : Dev nD) : Pipeline.afterTail₀ cfgs (dats m) 0 (V0 m) [hostOps1] c main_v67 = rows (m ((c : Thread nD τ).loc main_arg1)) := by
  unfold Pipeline.afterTail₀
  rw [List.flatten_cons, List.flatten_nil, List.append_nil]
  unfold hostOps1
  after_results_simp
  refine Eq.trans ?_ (sum_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_2 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x512 (extractStridedSlice S1024 ![12416] (row a0 a1 a2 a3 a4 a5 a6 a7 a8 a9 a10 a11 a12) slices_S59392_S1024_12416) shapeCasts_S1024_S2x512 = plain a2 := by
  funext y
  idx_vars y
  refine (cut_2 _ y0 y1).trans ((row_at _ _ (by simp only []; omega)).trans (Finset.sum_congr rfl fun d _ => ?_))
  exact (cat_2 _ _ _ _ _ _ _ _ _ _ _ _ _ d _ ⟨y0.val * 512 + y1.val, by omega⟩ rfl).trans (part_2 a2 d y0 y1)

theorem out_2 (c : Dev nD) : Pipeline.afterTail₀ cfgs (dats m) 0 (V0 m) [hostOps1] c main_v24 = plain (m ((c : Thread nD τ).loc main_arg2)) := by
  unfold Pipeline.afterTail₀
  rw [List.flatten_cons, List.flatten_nil, List.append_nil]
  unfold hostOps1
  after_results_simp
  refine Eq.trans ?_ (sum_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_3 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x31x512 (extractStridedSlice S31744 ![13440] (row a0 a1 a2 a3 a4 a5 a6 a7 a8 a9 a10 a11 a12) slices_S59392_S31744_13440) shapeCasts_S31744_S2x31x512 = taps a3 := by
  funext y
  idx_vars y
  refine (cut_3 _ y0 y1 y2).trans ((row_at _ _ (by simp only []; omega)).trans (Finset.sum_congr rfl fun d _ => ?_))
  exact (cat_3 _ _ _ _ _ _ _ _ _ _ _ _ _ d _ ⟨y0.val * 15872 + y1.val * 512 + y2.val, by omega⟩ rfl).trans (part_3 a3 d y0 y1 y2)

theorem out_3 (c : Dev nD) : Pipeline.afterTail₀ cfgs (dats m) 0 (V0 m) [hostOps1] c main_v27 = taps (m ((c : Thread nD τ).loc main_arg3)) := by
  unfold Pipeline.afterTail₀
  rw [List.flatten_cons, List.flatten_nil, List.append_nil]
  unfold hostOps1
  after_results_simp
  refine Eq.trans ?_ (sum_3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_4 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x1024 (shapeCast S2x1x1024 (extractStridedSlice S2048 ![45184] (row a0 a1 a2 a3 a4 a5 a6 a7 a8 a9 a10 a11 a12) slices_S59392_S2048_45184) shapeCasts_S2048_S2x1x1024) shapeCasts_S2x1x1024_S2x1024 = rows a4 := by
  funext y
  idx_vars y
  refine (cut_4 _ y0 y1).trans ((row_at _ _ (by simp only []; omega)).trans (Finset.sum_congr rfl fun d _ => ?_))
  exact (cat_4 _ _ _ _ _ _ _ _ _ _ _ _ _ d _ ⟨y0.val * 1024 + y1.val, by omega⟩ rfl).trans (part_4 a4 d y0 y1)

theorem out_4 (c : Dev nD) : Pipeline.afterTail₀ cfgs (dats m) 0 (V0 m) [hostOps1] c main_v55 = rows (m ((c : Thread nD τ).loc main_arg4)) := by
  unfold Pipeline.afterTail₀
  rw [List.flatten_cons, List.flatten_nil, List.append_nil]
  unfold hostOps1
  after_results_simp
  refine Eq.trans ?_ (sum_4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_5 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x3072 (shapeCast S2x1x3072 (extractStridedSlice S6144 ![47232] (row a0 a1 a2 a3 a4 a5 a6 a7 a8 a9 a10 a11 a12) slices_S59392_S6144_47232) shapeCasts_S6144_S2x1x3072) shapeCasts_S2x1x3072_S2x3072 = rows a5 := by
  funext y
  idx_vars y
  refine (cut_5 _ y0 y1).trans ((row_at _ _ (by simp only []; omega)).trans (Finset.sum_congr rfl fun d _ => ?_))
  exact (cat_5 _ _ _ _ _ _ _ _ _ _ _ _ _ d _ ⟨y0.val * 3072 + y1.val, by omega⟩ rfl).trans (part_5 a5 d y0 y1)

theorem out_5 (c : Dev nD) : Pipeline.afterTail₀ cfgs (dats m) 0 (V0 m) [hostOps1] c main_v56 = rows (m ((c : Thread nD τ).loc main_arg5)) := by
  unfold Pipeline.afterTail₀
  rw [List.flatten_cons, List.flatten_nil, List.append_nil]
  unfold hostOps1
  after_results_simp
  refine Eq.trans ?_ (sum_5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_6 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x512 (shapeCast S2x1x512 (extractStridedSlice S1024 ![53376] (row a0 a1 a2 a3 a4 a5 a6 a7 a8 a9 a10 a11 a12) slices_S59392_S1024_53376) shapeCasts_S1024_S2x1x512) shapeCasts_S2x1x512_S2x512 = rows a6 := by
  funext y
  idx_vars y
  refine (cut_6 _ y0 y1).trans ((row_at _ _ (by simp only []; omega)).trans (Finset.sum_congr rfl fun d _ => ?_))
  exact (cat_6 _ _ _ _ _ _ _ _ _ _ _ _ _ d _ ⟨y0.val * 512 + y1.val, by omega⟩ rfl).trans (part_6 a6 d y0 y1)

theorem out_6 (c : Dev nD) : Pipeline.afterTail₀ cfgs (dats m) 0 (V0 m) [hostOps1] c main_v57 = rows (m ((c : Thread nD τ).loc main_arg6)) := by
  unfold Pipeline.afterTail₀
  rw [List.flatten_cons, List.flatten_nil, List.append_nil]
  unfold hostOps1
  after_results_simp
  refine Eq.trans ?_ (sum_6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_7 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x512 (shapeCast S2x1x512 (extractStridedSlice S1024 ![54400] (row a0 a1 a2 a3 a4 a5 a6 a7 a8 a9 a10 a11 a12) slices_S59392_S1024_54400) shapeCasts_S1024_S2x1x512) shapeCasts_S2x1x512_S2x512 = rows a7 := by
  funext y
  idx_vars y
  refine (cut_7 _ y0 y1).trans ((row_at _ _ (by simp only []; omega)).trans (Finset.sum_congr rfl fun d _ => ?_))
  exact (cat_7 _ _ _ _ _ _ _ _ _ _ _ _ _ d _ ⟨y0.val * 512 + y1.val, by omega⟩ rfl).trans (part_7 a7 d y0 y1)

theorem out_7 (c : Dev nD) : Pipeline.afterTail₀ cfgs (dats m) 0 (V0 m) [hostOps1] c main_v58 = rows (m ((c : Thread nD τ).loc main_arg7)) := by
  unfold Pipeline.afterTail₀
  rw [List.flatten_cons, List.flatten_nil, List.append_nil]
  unfold hostOps1
  after_results_simp
  refine Eq.trans ?_ (sum_7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_8 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x512 (shapeCast S2x1x512 (extractStridedSlice S1024 ![55424] (row a0 a1 a2 a3 a4 a5 a6 a7 a8 a9 a10 a11 a12) slices_S59392_S1024_55424) shapeCasts_S1024_S2x1x512) shapeCasts_S2x1x512_S2x512 = rows a8 := by
  funext y
  idx_vars y
  refine (cut_8 _ y0 y1).trans ((row_at _ _ (by simp only []; omega)).trans (Finset.sum_congr rfl fun d _ => ?_))
  exact (cat_8 _ _ _ _ _ _ _ _ _ _ _ _ _ d _ ⟨y0.val * 512 + y1.val, by omega⟩ rfl).trans (part_8 a8 d y0 y1)

theorem out_8 (c : Dev nD) : Pipeline.afterTail₀ cfgs (dats m) 0 (V0 m) [hostOps1] c main_v59 = rows (m ((c : Thread nD τ).loc main_arg8)) := by
  unfold Pipeline.afterTail₀
  rw [List.flatten_cons, List.flatten_nil, List.append_nil]
  unfold hostOps1
  after_results_simp
  refine Eq.trans ?_ (sum_8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_9 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x128 (shapeCast S2x1x128 (extractStridedSlice S256 ![56448] (row a0 a1 a2 a3 a4 a5 a6 a7 a8 a9 a10 a11 a12) slices_S59392_S256_56448) shapeCasts_S256_S2x1x128) shapeCasts_S2x1x128_S2x128 = rows a9 := by
  funext y
  idx_vars y
  refine (cut_9 _ y0 y1).trans ((row_at _ _ (by simp only []; omega)).trans (Finset.sum_congr rfl fun d _ => ?_))
  exact (cat_9 _ _ _ _ _ _ _ _ _ _ _ _ _ d _ ⟨y0.val * 128 + y1.val, by omega⟩ rfl).trans (part_9 a9 d y0 y1)

theorem out_9 (c : Dev nD) : Pipeline.afterTail₀ cfgs (dats m) 0 (V0 m) [hostOps1] c main_v60 = rows (m ((c : Thread nD τ).loc main_arg9)) := by
  unfold Pipeline.afterTail₀
  rw [List.flatten_cons, List.flatten_nil, List.append_nil]
  unfold hostOps1
  after_results_simp
  refine Eq.trans ?_ (sum_9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_10 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x64 (shapeCast S2x1x64 (extractStridedSlice S128 ![56704] (row a0 a1 a2 a3 a4 a5 a6 a7 a8 a9 a10 a11 a12) slices_S59392_S128_56704) shapeCasts_S128_S2x1x64) shapeCasts_S2x1x64_S2x64 = rows a10 := by
  funext y
  idx_vars y
  refine (cut_10 _ y0 y1).trans ((row_at _ _ (by simp only []; omega)).trans (Finset.sum_congr rfl fun d _ => ?_))
  exact (cat_10 _ _ _ _ _ _ _ _ _ _ _ _ _ d _ ⟨y0.val * 64 + y1.val, by omega⟩ rfl).trans (part_10 a10 d y0 y1)

theorem out_10 (c : Dev nD) : Pipeline.afterTail₀ cfgs (dats m) 0 (V0 m) [hostOps1] c main_v61 = rows (m ((c : Thread nD τ).loc main_arg10)) := by
  unfold Pipeline.afterTail₀
  rw [List.flatten_cons, List.flatten_nil, List.append_nil]
  unfold hostOps1
  after_results_simp
  refine Eq.trans ?_ (sum_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_11 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x64 (shapeCast S2x1x64 (extractStridedSlice S128 ![56832] (row a0 a1 a2 a3 a4 a5 a6 a7 a8 a9 a10 a11 a12) slices_S59392_S128_56832) shapeCasts_S128_S2x1x64) shapeCasts_S2x1x64_S2x64 = rows a11 := by
  funext y
  idx_vars y
  refine (cut_11 _ y0 y1).trans ((row_at _ _ (by simp only []; omega)).trans (Finset.sum_congr rfl fun d _ => ?_))
  exact (cat_11 _ _ _ _ _ _ _ _ _ _ _ _ _ d _ ⟨y0.val * 64 + y1.val, by omega⟩ rfl).trans (part_11 a11 d y0 y1)

theorem out_11 (c : Dev nD) : Pipeline.afterTail₀ cfgs (dats m) 0 (V0 m) [hostOps1] c main_v62 = rows (m ((c : Thread nD τ).loc main_arg11)) := by
  unfold Pipeline.afterTail₀
  rw [List.flatten_cons, List.flatten_nil, List.append_nil]
  unfold hostOps1
  after_results_simp
  refine Eq.trans ?_ (sum_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

theorem sum_12 (a0 : FVec Ideal S8x1x128 .f32) (a1 : FVec Ideal S8x2x1x6144 .f32) (a2 : FVec Ideal S8x2x512 .f32) (a3 : FVec Ideal S8x2x31x512 .f32) (a4 : FVec Ideal S8x2x1x1024 .f32) (a5 : FVec Ideal S8x2x1x3072 .f32) (a6 : FVec Ideal S8x2x1x512 .f32) (a7 : FVec Ideal S8x2x1x512 .f32) (a8 : FVec Ideal S8x2x1x512 .f32) (a9 : FVec Ideal S8x2x1x128 .f32) (a10 : FVec Ideal S8x2x1x64 .f32) (a11 : FVec Ideal S8x2x1x64 .f32) (a12 : FVec Ideal S8x2x1x1024 .f32) :
    shapeCast S2x1024 (shapeCast S2x1x1024 (extractStridedSlice S2048 ![56960] (row a0 a1 a2 a3 a4 a5 a6 a7 a8 a9 a10 a11 a12) slices_S59392_S2048_56960) shapeCasts_S2048_S2x1x1024) shapeCasts_S2x1x1024_S2x1024 = rows a12 := by
  funext y
  idx_vars y
  refine (cut_12 _ y0 y1).trans ((row_at _ _ (by simp only []; omega)).trans (Finset.sum_congr rfl fun d _ => ?_))
  exact (cat_12 _ _ _ _ _ _ _ _ _ _ _ _ _ d _ ⟨y0.val * 1024 + y1.val, by omega⟩ rfl).trans (part_12 a12 d y0 y1)

theorem out_12 (c : Dev nD) : Pipeline.afterTail₀ cfgs (dats m) 0 (V0 m) [hostOps1] c main_v63 = rows (m ((c : Thread nD τ).loc main_arg12)) := by
  unfold Pipeline.afterTail₀
  rw [List.flatten_cons, List.flatten_nil, List.append_nil]
  unfold hostOps1
  after_results_simp
  refine Eq.trans ?_ (sum_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  unfold row
  rw [← region m c]
  rfl

end

section
open Cert.SmallRefIdeal Cert.SmallRefIdeal.Gen

theorem ref_0 (a : FVec Ideal S8x1x128 .f32) :
    mulf (constant S_ .f32 0x3A000000#32) (Host.reduceAdd a (constant S_ .f32 0x00000000#32) reducesTo_S8x1x128_S_d0_1_2 h_S_) = loss a := by
  funext y
  unfold loss
  pointwise
  refine congrArg (fun s : EReal => Ideal.ofBits .f32 0x3A000000#32 * s) ?_
  simp only [Fin.sum_univ_one]
  exact Finset.sum_comm

theorem ref_1 (a : FVec Ideal S8x2x1x6144 .f32) :
    shapeCast S2x6144 (Host.reduceAdd a (constant S_ .f32 0x00000000#32) reducesTo_S8x2x1x6144_S2x1x6144_d0 h_S_ : FVec Ideal S2x1x6144 .f32) shapeCasts_S2x1x6144_S2x6144 = rows a := by
  funext y
  unfold rows
  clean_types
  idx_vars y
  pointwise

theorem ref_2 (a : FVec Ideal S8x2x512 .f32) : (Host.reduceAdd a (constant S_ .f32 0x00000000#32) reducesTo_S8x2x512_S2x512_d0 h_S_ : FVec Ideal S2x512 .f32) = plain a := by
  funext y
  unfold plain
  clean_types
  idx_vars y
  pointwise

theorem ref_3 (a : FVec Ideal S8x2x31x512 .f32) : (Host.reduceAdd a (constant S_ .f32 0x00000000#32) reducesTo_S8x2x31x512_S2x31x512_d0 h_S_ : FVec Ideal S2x31x512 .f32) = taps a := by
  funext y
  unfold taps
  clean_types
  idx_vars y
  pointwise

theorem ref_4 (a : FVec Ideal S8x2x1x1024 .f32) :
    shapeCast S2x1024 (Host.reduceAdd a (constant S_ .f32 0x00000000#32) reducesTo_S8x2x1x1024_S2x1x1024_d0 h_S_ : FVec Ideal S2x1x1024 .f32) shapeCasts_S2x1x1024_S2x1024 = rows a := by
  funext y
  unfold rows
  clean_types
  idx_vars y
  pointwise

theorem ref_5 (a : FVec Ideal S8x2x1x3072 .f32) :
    shapeCast S2x3072 (Host.reduceAdd a (constant S_ .f32 0x00000000#32) reducesTo_S8x2x1x3072_S2x1x3072_d0 h_S_ : FVec Ideal S2x1x3072 .f32) shapeCasts_S2x1x3072_S2x3072 = rows a := by
  funext y
  unfold rows
  clean_types
  idx_vars y
  pointwise

theorem ref_6 (a : FVec Ideal S8x2x1x512 .f32) :
    shapeCast S2x512 (Host.reduceAdd a (constant S_ .f32 0x00000000#32) reducesTo_S8x2x1x512_S2x1x512_d0 h_S_ : FVec Ideal S2x1x512 .f32) shapeCasts_S2x1x512_S2x512 = rows a := by
  funext y
  unfold rows
  clean_types
  idx_vars y
  pointwise

theorem ref_7 (a : FVec Ideal S8x2x1x512 .f32) :
    shapeCast S2x512 (Host.reduceAdd a (constant S_ .f32 0x00000000#32) reducesTo_S8x2x1x512_S2x1x512_d0 h_S_ : FVec Ideal S2x1x512 .f32) shapeCasts_S2x1x512_S2x512 = rows a := by
  funext y
  unfold rows
  clean_types
  idx_vars y
  pointwise

theorem ref_8 (a : FVec Ideal S8x2x1x512 .f32) :
    shapeCast S2x512 (Host.reduceAdd a (constant S_ .f32 0x00000000#32) reducesTo_S8x2x1x512_S2x1x512_d0 h_S_ : FVec Ideal S2x1x512 .f32) shapeCasts_S2x1x512_S2x512 = rows a := by
  funext y
  unfold rows
  clean_types
  idx_vars y
  pointwise

theorem ref_9 (a : FVec Ideal S8x2x1x128 .f32) :
    shapeCast S2x128 (Host.reduceAdd a (constant S_ .f32 0x00000000#32) reducesTo_S8x2x1x128_S2x1x128_d0 h_S_ : FVec Ideal S2x1x128 .f32) shapeCasts_S2x1x128_S2x128 = rows a := by
  funext y
  unfold rows
  clean_types
  idx_vars y
  pointwise

theorem ref_10 (a : FVec Ideal S8x2x1x64 .f32) :
    shapeCast S2x64 (Host.reduceAdd a (constant S_ .f32 0x00000000#32) reducesTo_S8x2x1x64_S2x1x64_d0 h_S_ : FVec Ideal S2x1x64 .f32) shapeCasts_S2x1x64_S2x64 = rows a := by
  funext y
  unfold rows
  clean_types
  idx_vars y
  pointwise

theorem ref_11 (a : FVec Ideal S8x2x1x64 .f32) :
    shapeCast S2x64 (Host.reduceAdd a (constant S_ .f32 0x00000000#32) reducesTo_S8x2x1x64_S2x1x64_d0 h_S_ : FVec Ideal S2x1x64 .f32) shapeCasts_S2x1x64_S2x64 = rows a := by
  funext y
  unfold rows
  clean_types
  idx_vars y
  pointwise

theorem ref_12 (a : FVec Ideal S8x2x1x1024 .f32) :
    shapeCast S2x1024 (Host.reduceAdd a (constant S_ .f32 0x00000000#32) reducesTo_S8x2x1x1024_S2x1x1024_d0 h_S_ : FVec Ideal S2x1x1024 .f32) shapeCasts_S2x1x1024_S2x1024 = rows a := by
  funext y
  unfold rows
  clean_types
  idx_vars y
  pointwise

end

/-- The reference runs, keeps its arguments, and holds no semaphore. -/
theorem frameR : Cert.quiescent_SmallRefIdeal := fun m ρ _ =>
  (θ_run _ _ _).mono (fun r h => ⟨fun c => (h c).2.2.2.2.2.2.2.2.2.2.2.2.2, Idealize.ShloMosaic.sem_eq_zero_of_no_sems (by decide) r.2⟩)
    (Cert.SmallRefIdeal.Value.run m ρ)

section
open Cert.SmallIdeal Cert.SmallIdeal.Gen

/-- The kernel and the reference both end with the loss and the sums of the gradients. -/
theorem equal : Cert.algebraic_SmallIdeal_SmallRefIdeal := fun m ρ m' ρ' _ hag =>
  ⟨fun c => loss (m ((c : Thread nD τ).loc main_arg0)),
    fun c => rows (m ((c : Thread nD τ).loc main_arg1)),
    fun c => plain (m ((c : Thread nD τ).loc main_arg2)),
    fun c => taps (m ((c : Thread nD τ).loc main_arg3)),
    fun c => rows (m ((c : Thread nD τ).loc main_arg4)),
    fun c => rows (m ((c : Thread nD τ).loc main_arg5)),
    fun c => rows (m ((c : Thread nD τ).loc main_arg6)),
    fun c => rows (m ((c : Thread nD τ).loc main_arg7)),
    fun c => rows (m ((c : Thread nD τ).loc main_arg8)),
    fun c => rows (m ((c : Thread nD τ).loc main_arg9)),
    fun c => rows (m ((c : Thread nD τ).loc main_arg10)),
    fun c => rows (m ((c : Thread nD τ).loc main_arg11)),
    fun c => rows (m ((c : Thread nD τ).loc main_arg12)),
    (θ_run _ _ _).mono (fun _ h c => ⟨((h c).2 main_v21 (Pipeline.mem_restRefs_of main_v21 (by decide) (by decide))).trans (out_0 m c),
      ((h c).2 main_v67 (Pipeline.mem_restRefs_of main_v67 (by decide) (by decide))).trans (out_1 m c),
      ((h c).2 main_v24 (Pipeline.mem_restRefs_of main_v24 (by decide) (by decide))).trans (out_2 m c),
      ((h c).2 main_v27 (Pipeline.mem_restRefs_of main_v27 (by decide) (by decide))).trans (out_3 m c),
      ((h c).2 main_v55 (Pipeline.mem_restRefs_of main_v55 (by decide) (by decide))).trans (out_4 m c),
      ((h c).2 main_v56 (Pipeline.mem_restRefs_of main_v56 (by decide) (by decide))).trans (out_5 m c),
      ((h c).2 main_v57 (Pipeline.mem_restRefs_of main_v57 (by decide) (by decide))).trans (out_6 m c),
      ((h c).2 main_v58 (Pipeline.mem_restRefs_of main_v58 (by decide) (by decide))).trans (out_7 m c),
      ((h c).2 main_v59 (Pipeline.mem_restRefs_of main_v59 (by decide) (by decide))).trans (out_8 m c),
      ((h c).2 main_v60 (Pipeline.mem_restRefs_of main_v60 (by decide) (by decide))).trans (out_9 m c),
      ((h c).2 main_v61 (Pipeline.mem_restRefs_of main_v61 (by decide) (by decide))).trans (out_10 m c),
      ((h c).2 main_v62 (Pipeline.mem_restRefs_of main_v62 (by decide) (by decide))).trans (out_11 m c),
      ((h c).2 main_v63 (Pipeline.mem_restRefs_of main_v63 (by decide) (by decide))).trans (out_12 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩) (run_main m ρ),
    (θ_run _ _ _).mono (fun _ h c => ⟨(h c).1.trans ((ref_0 _).trans (congrArg loss (hag c).1)),
      (h c).2.1.trans ((ref_1 _).trans (congrArg rows (hag c).2.1)),
      (h c).2.2.1.trans ((ref_2 _).trans (congrArg plain (hag c).2.2.1)),
      (h c).2.2.2.1.trans ((ref_3 _).trans (congrArg taps (hag c).2.2.2.1)),
      (h c).2.2.2.2.1.trans ((ref_4 _).trans (congrArg rows (hag c).2.2.2.2.1)),
      (h c).2.2.2.2.2.1.trans ((ref_5 _).trans (congrArg rows (hag c).2.2.2.2.2.1)),
      (h c).2.2.2.2.2.2.1.trans ((ref_6 _).trans (congrArg rows (hag c).2.2.2.2.2.2.1)),
      (h c).2.2.2.2.2.2.2.1.trans ((ref_7 _).trans (congrArg rows (hag c).2.2.2.2.2.2.2.1)),
      (h c).2.2.2.2.2.2.2.2.1.trans ((ref_8 _).trans (congrArg rows (hag c).2.2.2.2.2.2.2.2.1)),
      (h c).2.2.2.2.2.2.2.2.2.1.trans ((ref_9 _).trans (congrArg rows (hag c).2.2.2.2.2.2.2.2.2.1)),
      (h c).2.2.2.2.2.2.2.2.2.2.1.trans ((ref_10 _).trans (congrArg rows (hag c).2.2.2.2.2.2.2.2.2.2.1)),
      (h c).2.2.2.2.2.2.2.2.2.2.2.1.trans ((ref_11 _).trans (congrArg rows (hag c).2.2.2.2.2.2.2.2.2.2.2.1)),
      (h c).2.2.2.2.2.2.2.2.2.2.2.2.1.trans ((ref_12 _).trans (congrArg rows (hag c).2.2.2.2.2.2.2.2.2.2.2.2)),
      (h c).2.2.2.2.2.2.2.2.2.2.2.2.2⟩) (Cert.SmallRefIdeal.Value.run m' ρ')⟩

end

end Cert.Proof.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.WInDx
public import proofs.«01_k».proof.Proof.Gen.WInDx.Skeleton
public import proofs.«01_k».proof.Proof.Gen.WInDx.Launch
public import proofs.«01_k».proof.Proof.Gen.WInDx.Points
public import proofs.«01_k».proof.Proof.Gen.WInDx.Frame
public import proofs.«01_k».proof.Proof.Gen.WInDxIdeal
public import proofs.«01_k».proof.Proof.Gen.WInDxIdeal.Skeleton
public import proofs.«01_k».proof.Proof.Gen.WInDxIdeal.Launch
public import proofs.«01_k».proof.Proof.Gen.WInDxIdeal.Points
public import proofs.«01_k».proof.Proof.Gen.WInDxIdeal.Frame
public import proofs.«01_k».proof.Proof.Gen.WInDxIdeal.Value
public import proofs.«01_k».proof.Proof.Gen.WInDxRefIdeal
public import proofs.«01_k».proof.Proof.Gen.WInDxRefIdeal.Run
public import proofs.«01_k».proof.Proof.Gen.WInDw
public import proofs.«01_k».proof.Proof.Gen.WInDw.Skeleton
public import proofs.«01_k».proof.Proof.Gen.WInDw.Launch
public import proofs.«01_k».proof.Proof.Gen.WInDw.Points
public import proofs.«01_k».proof.Proof.Gen.WInDw.Frame
public import proofs.«01_k».proof.Proof.Gen.WInDwIdeal
public import proofs.«01_k».proof.Proof.Gen.WInDwIdeal.Skeleton
public import proofs.«01_k».proof.Proof.Gen.WInDwIdeal.Launch
public import proofs.«01_k».proof.Proof.Gen.WInDwIdeal.Points
public import proofs.«01_k».proof.Proof.Gen.WInDwIdeal.Frame
public import proofs.«01_k».proof.Proof.Gen.WInDwIdeal.Value
public import proofs.«01_k».proof.Proof.Gen.WInDwRefIdeal
public import proofs.«01_k».proof.Proof.Gen.WInDwRefIdeal.Run
public import proofs.«01_k».proof.Proof.Gen.Mlp1Dx
public import proofs.«01_k».proof.Proof.Gen.Mlp1Dx.Skeleton
public import proofs.«01_k».proof.Proof.Gen.Mlp1Dx.Launch
public import proofs.«01_k».proof.Proof.Gen.Mlp1Dx.Points
public import proofs.«01_k».proof.Proof.Gen.Mlp1Dx.Frame
public import proofs.«01_k».proof.Proof.Gen.Mlp1DxIdeal
public import proofs.«01_k».proof.Proof.Gen.Mlp1DxIdeal.Skeleton
public import proofs.«01_k».proof.Proof.Gen.Mlp1DxIdeal.Launch
public import proofs.«01_k».proof.Proof.Gen.Mlp1DxIdeal.Points
public import proofs.«01_k».proof.Proof.Gen.Mlp1DxIdeal.Frame
public import proofs.«01_k».proof.Proof.Gen.Mlp1DxIdeal.Value
public import proofs.«01_k».proof.Proof.Gen.Mlp1DxRefIdeal
public import proofs.«01_k».proof.Proof.Gen.Mlp1DxRefIdeal.Run
public import proofs.«01_k».proof.Proof.Gen.Mlp1Dw
public import proofs.«01_k».proof.Proof.Gen.Mlp1Dw.Skeleton
public import proofs.«01_k».proof.Proof.Gen.Mlp1Dw.Launch
public import proofs.«01_k».proof.Proof.Gen.Mlp1Dw.Points
public import proofs.«01_k».proof.Proof.Gen.Mlp1Dw.Frame
public import proofs.«01_k».proof.Proof.Gen.Mlp1DwIdeal
public import proofs.«01_k».proof.Proof.Gen.Mlp1DwIdeal.Skeleton
public import proofs.«01_k».proof.Proof.Gen.Mlp1DwIdeal.Launch
public import proofs.«01_k».proof.Proof.Gen.Mlp1DwIdeal.Points
public import proofs.«01_k».proof.Proof.Gen.Mlp1DwIdeal.Frame
public import proofs.«01_k».proof.Proof.Gen.Mlp1DwIdeal.Value
public import proofs.«01_k».proof.Proof.Gen.Mlp1DwRefIdeal
public import proofs.«01_k».proof.Proof.Gen.Mlp1DwRefIdeal.Run
public import proofs.«01_k».proof.Proof.Gen.Mlp2Dx
public import proofs.«01_k».proof.Proof.Gen.Mlp2Dx.Skeleton
public import proofs.«01_k».proof.Proof.Gen.Mlp2Dx.Launch
public import proofs.«01_k».proof.Proof.Gen.Mlp2Dx.Points
public import proofs.«01_k».proof.Proof.Gen.Mlp2Dx.Frame
public import proofs.«01_k».proof.Proof.Gen.Mlp2DxIdeal
public import proofs.«01_k».proof.Proof.Gen.Mlp2DxIdeal.Skeleton
public import proofs.«01_k».proof.Proof.Gen.Mlp2DxIdeal.Launch
public import proofs.«01_k».proof.Proof.Gen.Mlp2DxIdeal.Points
public import proofs.«01_k».proof.Proof.Gen.Mlp2DxIdeal.Frame
public import proofs.«01_k».proof.Proof.Gen.Mlp2DxIdeal.Value
public import proofs.«01_k».proof.Proof.Gen.Mlp2DxRefIdeal
public import proofs.«01_k».proof.Proof.Gen.Mlp2DxRefIdeal.Run
public import proofs.«01_k».proof.Proof.Gen.Mlp2Dw
public import proofs.«01_k».proof.Proof.Gen.Mlp2Dw.Skeleton
public import proofs.«01_k».proof.Proof.Gen.Mlp2Dw.Launch
public import proofs.«01_k».proof.Proof.Gen.Mlp2Dw.Points
public import proofs.«01_k».proof.Proof.Gen.Mlp2Dw.Frame
public import proofs.«01_k».proof.Proof.Gen.Mlp2DwIdeal
public import proofs.«01_k».proof.Proof.Gen.Mlp2DwIdeal.Skeleton
public import proofs.«01_k».proof.Proof.Gen.Mlp2DwIdeal.Launch
public import proofs.«01_k».proof.Proof.Gen.Mlp2DwIdeal.Points
public import proofs.«01_k».proof.Proof.Gen.Mlp2DwIdeal.Frame
public import proofs.«01_k».proof.Proof.Gen.Mlp2DwIdeal.Value
public import proofs.«01_k».proof.Proof.Gen.Mlp2DwRefIdeal
public import proofs.«01_k».proof.Proof.Gen.Mlp2DwRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ConvProjDx
public import proofs.«01_k».proof.Proof.Gen.ConvProjDx.Skeleton
public import proofs.«01_k».proof.Proof.Gen.ConvProjDx.Launch
public import proofs.«01_k».proof.Proof.Gen.ConvProjDx.Points
public import proofs.«01_k».proof.Proof.Gen.ConvProjDx.Frame
public import proofs.«01_k».proof.Proof.Gen.ConvProjDxIdeal
public import proofs.«01_k».proof.Proof.Gen.ConvProjDxIdeal.Skeleton
public import proofs.«01_k».proof.Proof.Gen.ConvProjDxIdeal.Launch
public import proofs.«01_k».proof.Proof.Gen.ConvProjDxIdeal.Points
public import proofs.«01_k».proof.Proof.Gen.ConvProjDxIdeal.Frame
public import proofs.«01_k».proof.Proof.Gen.ConvProjDxIdeal.Value
public import proofs.«01_k».proof.Proof.Gen.ConvProjDxRefIdeal
public import proofs.«01_k».proof.Proof.Gen.ConvProjDxRefIdeal.Run
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInIdeal.Value
public import proofs.«01_k».proof.Proof.Gen.WInRefIdeal
public import proofs.«01_k».proof.Proof.Gen.WInRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.Mlp2Fwd
public import proofs.«01_k».proof.Proof.Gen.Mlp2Fwd.Skeleton
public import proofs.«01_k».proof.Proof.Gen.Mlp2Fwd.Launch
public import proofs.«01_k».proof.Proof.Gen.Mlp2Fwd.Points
public import proofs.«01_k».proof.Proof.Gen.Mlp2Fwd.Frame
public import proofs.«01_k».proof.Proof.Gen.Mlp2FwdIdeal
public import proofs.«01_k».proof.Proof.Gen.Mlp2FwdIdeal.Skeleton
public import proofs.«01_k».proof.Proof.Gen.Mlp2FwdIdeal.Launch
public import proofs.«01_k».proof.Proof.Gen.Mlp2FwdIdeal.Points
public import proofs.«01_k».proof.Proof.Gen.Mlp2FwdIdeal.Frame
public import proofs.«01_k».proof.Proof.Gen.Mlp2FwdIdeal.Value
public import proofs.«01_k».proof.Proof.Gen.Mlp2FwdRefIdeal
public import proofs.«01_k».proof.Proof.Gen.Mlp2FwdRefIdeal.Run
public import proofs.«01_k».proof.Proof.Gen.Mlp1Fwd
public import proofs.«01_k».proof.Proof.Gen.Mlp1Fwd.Skeleton
public import proofs.«01_k».proof.Proof.Gen.Mlp1Fwd.Launch
public import proofs.«01_k».proof.Proof.Gen.Mlp1Fwd.Points
public import proofs.«01_k».proof.Proof.Gen.Mlp1Fwd.Frame
public import proofs.«01_k».proof.Proof.Gen.Mlp1FwdIdeal
public import proofs.«01_k».proof.Proof.Gen.Mlp1FwdIdeal.Skeleton
public import proofs.«01_k».proof.Proof.Gen.Mlp1FwdIdeal.Launch
public import proofs.«01_k».proof.Proof.Gen.Mlp1FwdIdeal.Points
public import proofs.«01_k».proof.Proof.Gen.Mlp1FwdIdeal.Frame
public import proofs.«01_k».proof.Proof.Gen.Mlp1FwdIdeal.Value
public import proofs.«01_k».proof.Proof.Gen.Mlp1FwdRefIdeal
public import proofs.«01_k».proof.Proof.Gen.Mlp1FwdRefIdeal.Run
public import proofs.«01_k».proof.Proof.Gen.ModFwd
public import proofs.«01_k».proof.Proof.Gen.ModFwd.Skeleton
public import proofs.«01_k».proof.Proof.Gen.ModFwd.Launch
public import proofs.«01_k».proof.Proof.Gen.ModFwd.Points
public import proofs.«01_k».proof.Proof.Gen.ModFwd.Frame
public import proofs.«01_k».proof.Proof.Gen.ModFwdIdeal
public import proofs.«01_k».proof.Proof.Gen.ModFwdIdeal.Skeleton
public import proofs.«01_k».proof.Proof.Gen.ModFwdIdeal.Launch
public import proofs.«01_k».proof.Proof.Gen.ModFwdIdeal.Points
public import proofs.«01_k».proof.Proof.Gen.ModFwdIdeal.Frame
public import proofs.«01_k».proof.Proof.Gen.ModFwdIdeal.Value
public import proofs.«01_k».proof.Proof.Gen.ModFwdRefIdeal
public import proofs.«01_k».proof.Proof.Gen.ModFwdRefIdeal.Run
public import proofs.«01_k».proof.Proof.Gen.ModDw
public import proofs.«01_k».proof.Proof.Gen.ModDw.Skeleton
public import proofs.«01_k».proof.Proof.Gen.ModDw.Launch
public import proofs.«01_k».proof.Proof.Gen.ModDw.Points
public import proofs.«01_k».proof.Proof.Gen.ModDw.Frame
public import proofs.«01_k».proof.Proof.Gen.ModDwIdeal
public import proofs.«01_k».proof.Proof.Gen.ModDwIdeal.Skeleton
public import proofs.«01_k».proof.Proof.Gen.ModDwIdeal.Launch
public import proofs.«01_k».proof.Proof.Gen.ModDwIdeal.Points
public import proofs.«01_k».proof.Proof.Gen.ModDwIdeal.Frame
public import proofs.«01_k».proof.Proof.Gen.ModDwIdeal.Value
public import proofs.«01_k».proof.Proof.Gen.ModDwRefIdeal
public import proofs.«01_k».proof.Proof.Gen.ModDwRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjIdeal.Value
public import proofs.«01_k».proof.Proof.Gen.AdamProjRefIdeal
public import proofs.«01_k».proof.Proof.Gen.AdamProjRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamMlp
public import proofs.«01_k».proof.Proof.Gen.AdamMlp.Skeleton
public import proofs.«01_k».proof.Proof.Gen.AdamMlp.Launch
public import proofs.«01_k».proof.Proof.Gen.AdamMlp.Points
public import proofs.«01_k».proof.Proof.Gen.AdamMlp.Frame
public import proofs.«01_k».proof.Proof.Gen.AdamMlpIdeal
public import proofs.«01_k».proof.Proof.Gen.AdamMlpIdeal.Skeleton
public import proofs.«01_k».proof.Proof.Gen.AdamMlpIdeal.Launch
public import proofs.«01_k».proof.Proof.Gen.AdamMlpIdeal.Points
public import proofs.«01_k».proof.Proof.Gen.AdamMlpIdeal.Frame
public import proofs.«01_k».proof.Proof.Gen.AdamMlpIdeal.Value
public import proofs.«01_k».proof.Proof.Gen.AdamMlpRefIdeal
public import proofs.«01_k».proof.Proof.Gen.AdamMlpRefIdeal.Run
public import proofs.«01_k».proof.Proof.Gen.AdamMod
public import proofs.«01_k».proof.Proof.Gen.AdamMod.Skeleton
public import proofs.«01_k».proof.Proof.Gen.AdamMod.Launch
public import proofs.«01_k».proof.Proof.Gen.AdamMod.Points
public import proofs.«01_k».proof.Proof.Gen.AdamMod.Frame
public import proofs.«01_k».proof.Proof.Gen.AdamModIdeal
public import proofs.«01_k».proof.Proof.Gen.AdamModIdeal.Skeleton
public import proofs.«01_k».proof.Proof.Gen.AdamModIdeal.Launch
public import proofs.«01_k».proof.Proof.Gen.AdamModIdeal.Points
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.Resid2Bwd
public import proofs.«01_k».proof.Proof.Gen.Resid2Bwd.Skeleton
public import proofs.«01_k».proof.Proof.Gen.Resid2Bwd.Launch
public import proofs.«01_k».proof.Proof.Gen.Resid2Bwd.Points
public import proofs.«01_k».proof.Proof.Gen.Resid2Bwd.Frame
public import proofs.«01_k».proof.Proof.Gen.Resid2BwdIdeal
public import proofs.«01_k».proof.Proof.Gen.Resid2BwdIdeal.Skeleton
public import proofs.«01_k».proof.Proof.Gen.Resid2BwdIdeal.Launch
public import proofs.«01_k».proof.Proof.Gen.Resid2BwdIdeal.Points
public import proofs.«01_k».proof.Proof.Gen.Resid2BwdIdeal.Frame
public import proofs.«01_k».proof.Proof.Gen.Resid2BwdIdeal.Value
public import proofs.«01_k».proof.Proof.Gen.Resid2BwdRefIdeal
public import proofs.«01_k».proof.Proof.Gen.Resid2BwdRefIdeal.Run
public import proofs.«01_k».proof.Proof.Gen.Norm2Bwd
public import proofs.«01_k».proof.Proof.Gen.Norm2Bwd.Skeleton
public import proofs.«01_k».proof.Proof.Gen.Norm2Bwd.Launch
public import proofs.«01_k».proof.Proof.Gen.Norm2Bwd.Points
public import proofs.«01_k».proof.Proof.Gen.Norm2Bwd.Frame
public import proofs.«01_k».proof.Proof.Gen.Norm2BwdIdeal
public import proofs.«01_k».proof.Proof.Gen.Norm2BwdIdeal.Skeleton
public import proofs.«01_k».proof.Proof.Gen.Norm2BwdIdeal.Launch
public import proofs.«01_k».proof.Proof.Gen.Norm2BwdIdeal.Points
public import proofs.«01_k».proof.Proof.Gen.Norm2BwdIdeal.Frame
public import proofs.«01_k».proof.Proof.Gen.Norm2BwdIdeal.Value
public import proofs.«01_k».proof.Proof.Gen.Norm2BwdRefIdeal
public import proofs.«01_k».proof.Proof.Gen.Norm2BwdRefIdeal.Run
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.ConvLnBwd
public import proofs.«01_k».proof.Proof.Gen.ConvLnBwd.Skeleton
public import proofs.«01_k».proof.Proof.Gen.ConvLnBwd.Launch
public import proofs.«01_k».proof.Proof.Gen.ConvLnBwd.Points
public import proofs.«01_k».proof.Proof.Gen.ConvLnBwd.Frame
public import proofs.«01_k».proof.Proof.Gen.ConvLnBwdIdeal
public import proofs.«01_k».proof.Proof.Gen.ConvLnBwdIdeal.Skeleton
public import proofs.«01_k».proof.Proof.Gen.ConvLnBwdIdeal.Launch
public import proofs.«01_k».proof.Proof.Gen.ConvLnBwdIdeal.Points
public import proofs.«01_k».proof.Proof.Gen.ConvLnBwdIdeal.Frame
public import proofs.«01_k».proof.Proof.Gen.ConvLnBwdIdeal.Value
public import proofs.«01_k».proof.Proof.Gen.ConvLnBwdRefIdeal
public import proofs.«01_k».proof.Proof.Gen.ConvLnBwdRefIdeal.Run
public import proofs.«01_k».proof.Proof.Gen.Norm1Bwd
public import proofs.«01_k».proof.Proof.Gen.Norm1Bwd.Skeleton
public import proofs.«01_k».proof.Proof.Gen.Norm1Bwd.Launch
public import proofs.«01_k».proof.Proof.Gen.Norm1Bwd.Points
public import proofs.«01_k».proof.Proof.Gen.Norm1Bwd.Frame
public import proofs.«01_k».proof.Proof.Gen.Norm1BwdIdeal
public import proofs.«01_k».proof.Proof.Gen.Norm1BwdIdeal.Skeleton
public import proofs.«01_k».proof.Proof.Gen.Norm1BwdIdeal.Launch
public import proofs.«01_k».proof.Proof.Gen.Norm1BwdIdeal.Points
public import proofs.«01_k».proof.Proof.Gen.Norm1BwdIdeal.Frame
public import proofs.«01_k».proof.Proof.Gen.Norm1BwdIdeal.Value
public import proofs.«01_k».proof.Proof.Gen.Norm1BwdRefIdeal
public import proofs.«01_k».proof.Proof.Gen.Norm1BwdRefIdeal.Run
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.ConvLnFwd
public import proofs.«01_k».proof.Proof.Gen.ConvLnFwd.Skeleton
public import proofs.«01_k».proof.Proof.Gen.ConvLnFwd.Launch
public import proofs.«01_k».proof.Proof.Gen.ConvLnFwd.Points
public import proofs.«01_k».proof.Proof.Gen.ConvLnFwd.Frame
public import proofs.«01_k».proof.Proof.Gen.ConvLnFwdIdeal
public import proofs.«01_k».proof.Proof.Gen.ConvLnFwdIdeal.Skeleton
public import proofs.«01_k».proof.Proof.Gen.ConvLnFwdIdeal.Launch
public import proofs.«01_k».proof.Proof.Gen.ConvLnFwdIdeal.Points
public import proofs.«01_k».proof.Proof.Gen.ConvLnFwdIdeal.Frame
public import proofs.«01_k».proof.Proof.Gen.ConvLnFwdIdeal.Value
public import proofs.«01_k».proof.Proof.Gen.ConvLnFwdRefIdeal
public import proofs.«01_k».proof.Proof.Gen.ConvLnFwdRefIdeal.Run
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallRefIdeal.Run
public import proofs.«01_k».proof.Proof.Conv
public import proofs.«01_k».proof.Proof.WInDx
public import proofs.«01_k».proof.Proof.WInDw
public import proofs.«01_k».proof.Proof.Mlp1Dx
public import proofs.«01_k».proof.Proof.Mlp1Dw
public import proofs.«01_k».proof.Proof.Mlp2Dx
public import proofs.«01_k».proof.Proof.Mlp2Dw
public import proofs.«01_k».proof.Proof.OutDx
public import proofs.«01_k».proof.Proof.OutDw
public import proofs.«01_k».proof.Proof.ProjDw
public import proofs.«01_k».proof.Proof.ConvProjDx
public import proofs.«01_k».proof.Proof.ProjDx
public import proofs.«01_k».proof.Proof.WIn
public import proofs.«01_k».proof.Proof.Proj
public import proofs.«01_k».proof.Proof.OutFwd
public import proofs.«01_k».proof.Proof.Mlp2Fwd
public import proofs.«01_k».proof.Proof.Mlp1Fwd
public import proofs.«01_k».proof.Proof.ModFwd
public import proofs.«01_k».proof.Proof.ModDw
public import proofs.«01_k».proof.Proof.AdamIn
public import proofs.«01_k».proof.Proof.AdamProj
public import proofs.«01_k».proof.Proof.AdamOut
public import proofs.«01_k».proof.Proof.AdamMlp
public import proofs.«01_k».proof.Proof.AdamMod
public import proofs.«01_k».proof.Proof.AdamSmall
public import proofs.«01_k».proof.Proof.LossHead
public import proofs.«01_k».proof.Proof.Resid2Bwd
public import proofs.«01_k».proof.Proof.Norm2Bwd
public import proofs.«01_k».proof.Proof.MergeBwd
public import proofs.«01_k».proof.Proof.ConvLnBwd
public import proofs.«01_k».proof.Proof.Norm1Bwd
public import proofs.«01_k».proof.Proof.NormFwd
public import proofs.«01_k».proof.Proof.ConvLnFwd
public import proofs.«01_k».proof.Proof.MergeFwd
public import proofs.«01_k».proof.Proof.ConvFwd
public import proofs.«01_k».proof.Proof.SumSmall
public import proofs.«01_k».proof.Proof.Small

@[expose] public section

noncomputable section

namespace Cert.Proof

open Idealize.ShloMosaic Idealize.SL.Sem Cert.Kernel

/-- Every claim: the frames of all programs, then each call's ideal form and value. -/
theorem claim : Cert.Claim := ⟨
  Cert.Kernel.Gen.facts, Cert.KernelIdeal.Gen.facts, Cert.ReferenceIdeal.Gen.facts,
  Cert.WInDx.Gen.facts, Cert.WInDxIdeal.Gen.facts, Cert.WInDxRefIdeal.Gen.facts,
  Cert.WInDw.Gen.facts, Cert.WInDwIdeal.Gen.facts, Cert.WInDwRefIdeal.Gen.facts,
  Cert.Mlp1Dx.Gen.facts, Cert.Mlp1DxIdeal.Gen.facts, Cert.Mlp1DxRefIdeal.Gen.facts,
  Cert.Mlp1Dw.Gen.facts, Cert.Mlp1DwIdeal.Gen.facts, Cert.Mlp1DwRefIdeal.Gen.facts,
  Cert.Mlp2Dx.Gen.facts, Cert.Mlp2DxIdeal.Gen.facts, Cert.Mlp2DxRefIdeal.Gen.facts,
  Cert.Mlp2Dw.Gen.facts, Cert.Mlp2DwIdeal.Gen.facts, Cert.Mlp2DwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.ProjDw.Gen.facts, Cert.ProjDwIdeal.Gen.facts, Cert.ProjDwRefIdeal.Gen.facts,
  Cert.ConvProjDx.Gen.facts, Cert.ConvProjDxIdeal.Gen.facts, Cert.ConvProjDxRefIdeal.Gen.facts,
  Cert.ProjDx.Gen.facts, Cert.ProjDxIdeal.Gen.facts, Cert.ProjDxRefIdeal.Gen.facts,
  Cert.WIn.Gen.facts, Cert.WInIdeal.Gen.facts, Cert.WInRefIdeal.Gen.facts,
  Cert.Proj.Gen.facts, Cert.ProjIdeal.Gen.facts, Cert.ProjRefIdeal.Gen.facts,
  Cert.OutFwd.Gen.facts, Cert.OutFwdIdeal.Gen.facts, Cert.OutFwdRefIdeal.Gen.facts,
  Cert.Mlp2Fwd.Gen.facts, Cert.Mlp2FwdIdeal.Gen.facts, Cert.Mlp2FwdRefIdeal.Gen.facts,
  Cert.Mlp1Fwd.Gen.facts, Cert.Mlp1FwdIdeal.Gen.facts, Cert.Mlp1FwdRefIdeal.Gen.facts,
  Cert.ModFwd.Gen.facts, Cert.ModFwdIdeal.Gen.facts, Cert.ModFwdRefIdeal.Gen.facts,
  Cert.ModDw.Gen.facts, Cert.ModDwIdeal.Gen.facts, Cert.ModDwRefIdeal.Gen.facts,
  Cert.AdamIn.Gen.facts, Cert.AdamInIdeal.Gen.facts, Cert.AdamInRefIdeal.Gen.facts,
  Cert.AdamProj.Gen.facts, Cert.AdamProjIdeal.Gen.facts, Cert.AdamProjRefIdeal.Gen.facts,
  Cert.AdamOut.Gen.facts, Cert.AdamOutIdeal.Gen.facts, Cert.AdamOutRefIdeal.Gen.facts,
  Cert.AdamMlp.Gen.facts, Cert.AdamMlpIdeal.Gen.facts, Cert.AdamMlpRefIdeal.Gen.facts,
  Cert.AdamMod.Gen.facts, Cert.AdamModIdeal.Gen.facts, Cert.AdamModRefIdeal.Gen.facts,
  Cert.AdamSmall.Gen.facts, Cert.AdamSmallIdeal.Gen.facts, Cert.AdamSmallRefIdeal.Gen.facts,
  Cert.LossHead.Gen.facts, Cert.LossHeadIdeal.Gen.facts, Cert.LossHeadRefIdeal.Gen.facts,
  Cert.Resid2Bwd.Gen.facts, Cert.Resid2BwdIdeal.Gen.facts, Cert.Resid2BwdRefIdeal.Gen.facts,
  Cert.Norm2Bwd.Gen.facts, Cert.Norm2BwdIdeal.Gen.facts, Cert.Norm2BwdRefIdeal.Gen.facts,
  Cert.MergeBwd.Gen.facts, Cert.MergeBwdIdeal.Gen.facts, Cert.MergeBwdRefIdeal.Gen.facts,
  Cert.ConvLnBwd.Gen.facts, Cert.ConvLnBwdIdeal.Gen.facts, Cert.ConvLnBwdRefIdeal.Gen.facts,
  Cert.Norm1Bwd.Gen.facts, Cert.Norm1BwdIdeal.Gen.facts, Cert.Norm1BwdRefIdeal.Gen.facts,
  Cert.NormFwd.Gen.facts, Cert.NormFwdIdeal.Gen.facts, Cert.NormFwdRefIdeal.Gen.facts,
  Cert.ConvLnFwd.Gen.facts, Cert.ConvLnFwdIdeal.Gen.facts, Cert.ConvLnFwdRefIdeal.Gen.facts,
  Cert.MergeFwd.Gen.facts, Cert.MergeFwdIdeal.Gen.facts, Cert.MergeFwdRefIdeal.Gen.facts,
  Cert.ConvFwd.Gen.facts, Cert.ConvFwdIdeal.Gen.facts, Cert.ConvFwdRefIdeal.Gen.facts,
  Cert.SumSmall.Gen.facts, Cert.SumSmallIdeal.Gen.facts, Cert.SumSmallRefIdeal.Gen.facts,
  Cert.Small.Gen.facts, Cert.SmallIdeal.Gen.facts, Cert.SmallRefIdeal.Gen.facts,
  fun m ρ _ => Cert.Kernel.Gen.frame m ρ, fun m ρ _ => Cert.KernelIdeal.Gen.frame m ρ, Conv.frameR,
  fun m ρ _ => Cert.WInDx.Gen.frame m ρ, fun m ρ _ => Cert.WInDxIdeal.Gen.frame m ρ, WInDx.frameR,
  fun m ρ _ => Cert.WInDw.Gen.frame m ρ, fun m ρ _ => Cert.WInDwIdeal.Gen.frame m ρ, WInDw.frameR,
  fun m ρ _ => Cert.Mlp1Dx.Gen.frame m ρ, fun m ρ _ => Cert.Mlp1DxIdeal.Gen.frame m ρ, Mlp1Dx.frameR,
  fun m ρ _ => Cert.Mlp1Dw.Gen.frame m ρ, fun m ρ _ => Cert.Mlp1DwIdeal.Gen.frame m ρ, Mlp1Dw.frameR,
  fun m ρ _ => Cert.Mlp2Dx.Gen.frame m ρ, fun m ρ _ => Cert.Mlp2DxIdeal.Gen.frame m ρ, Mlp2Dx.frameR,
  fun m ρ _ => Cert.Mlp2Dw.Gen.frame m ρ, fun m ρ _ => Cert.Mlp2DwIdeal.Gen.frame m ρ, Mlp2Dw.frameR,
  fun m ρ _ => Cert.OutDx.Gen.frame m ρ, fun m ρ _ => Cert.OutDxIdeal.Gen.frame m ρ, OutDx.frameR,
  fun m ρ _ => Cert.OutDw.Gen.frame m ρ, fun m ρ _ => Cert.OutDwIdeal.Gen.frame m ρ, OutDw.frameR,
  fun m ρ _ => Cert.ProjDw.Gen.frame m ρ, fun m ρ _ => Cert.ProjDwIdeal.Gen.frame m ρ, ProjDw.frameR,
  fun m ρ _ => Cert.ConvProjDx.Gen.frame m ρ, fun m ρ _ => Cert.ConvProjDxIdeal.Gen.frame m ρ, ConvProjDx.frameR,
  fun m ρ _ => Cert.ProjDx.Gen.frame m ρ, fun m ρ _ => Cert.ProjDxIdeal.Gen.frame m ρ, ProjDx.frameR,
  fun m ρ _ => Cert.WIn.Gen.frame m ρ, fun m ρ _ => Cert.WInIdeal.Gen.frame m ρ, WIn.frameR,
  fun m ρ _ => Cert.Proj.Gen.frame m ρ, fun m ρ _ => Cert.ProjIdeal.Gen.frame m ρ, Proj.frameR,
  fun m ρ _ => Cert.OutFwd.Gen.frame m ρ, fun m ρ _ => Cert.OutFwdIdeal.Gen.frame m ρ, OutFwd.frameR,
  fun m ρ _ => Cert.Mlp2Fwd.Gen.frame m ρ, fun m ρ _ => Cert.Mlp2FwdIdeal.Gen.frame m ρ, Mlp2Fwd.frameR,
  fun m ρ _ => Cert.Mlp1Fwd.Gen.frame m ρ, fun m ρ _ => Cert.Mlp1FwdIdeal.Gen.frame m ρ, Mlp1Fwd.frameR,
  fun m ρ _ => Cert.ModFwd.Gen.frame m ρ, fun m ρ _ => Cert.ModFwdIdeal.Gen.frame m ρ, ModFwd.frameR,
  fun m ρ _ => Cert.ModDw.Gen.frame m ρ, fun m ρ _ => Cert.ModDwIdeal.Gen.frame m ρ, ModDw.frameR,
  fun m ρ _ => Cert.AdamIn.Gen.frame m ρ, fun m ρ _ => Cert.AdamInIdeal.Gen.frame m ρ, AdamIn.frameR,
  fun m ρ _ => Cert.AdamProj.Gen.frame m ρ, fun m ρ _ => Cert.AdamProjIdeal.Gen.frame m ρ, AdamProj.frameR,
  fun m ρ _ => Cert.AdamOut.Gen.frame m ρ, fun m ρ _ => Cert.AdamOutIdeal.Gen.frame m ρ, AdamOut.frameR,
  fun m ρ _ => Cert.AdamMlp.Gen.frame m ρ, fun m ρ _ => Cert.AdamMlpIdeal.Gen.frame m ρ, AdamMlp.frameR,
  fun m ρ _ => Cert.AdamMod.Gen.frame m ρ, fun m ρ _ => Cert.AdamModIdeal.Gen.frame m ρ, AdamMod.frameR,
  fun m ρ _ => Cert.AdamSmall.Gen.frame m ρ, fun m ρ _ => Cert.AdamSmallIdeal.Gen.frame m ρ, AdamSmall.frameR,
  fun m ρ _ => Cert.LossHead.Gen.frame m ρ, fun m ρ _ => Cert.LossHeadIdeal.Gen.frame m ρ, LossHead.frameR,
  fun m ρ _ => Cert.Resid2Bwd.Gen.frame m ρ, fun m ρ _ => Cert.Resid2BwdIdeal.Gen.frame m ρ, Resid2Bwd.frameR,
  fun m ρ _ => Cert.Norm2Bwd.Gen.frame m ρ, fun m ρ _ => Cert.Norm2BwdIdeal.Gen.frame m ρ, Norm2Bwd.frameR,
  fun m ρ _ => Cert.MergeBwd.Gen.frame m ρ, fun m ρ _ => Cert.MergeBwdIdeal.Gen.frame m ρ, MergeBwd.frameR,
  fun m ρ _ => Cert.ConvLnBwd.Gen.frame m ρ, fun m ρ _ => Cert.ConvLnBwdIdeal.Gen.frame m ρ, ConvLnBwd.frameR,
  fun m ρ _ => Cert.Norm1Bwd.Gen.frame m ρ, fun m ρ _ => Cert.Norm1BwdIdeal.Gen.frame m ρ, Norm1Bwd.frameR,
  fun m ρ _ => Cert.NormFwd.Gen.frame m ρ, fun m ρ _ => Cert.NormFwdIdeal.Gen.frame m ρ, NormFwd.frameR,
  fun m ρ _ => Cert.ConvLnFwd.Gen.frame m ρ, fun m ρ _ => Cert.ConvLnFwdIdeal.Gen.frame m ρ, ConvLnFwd.frameR,
  fun m ρ _ => Cert.MergeFwd.Gen.frame m ρ, fun m ρ _ => Cert.MergeFwdIdeal.Gen.frame m ρ, MergeFwd.frameR,
  fun m ρ _ => Cert.ConvFwd.Gen.frame m ρ, fun m ρ _ => Cert.ConvFwdIdeal.Gen.frame m ρ, ConvFwd.frameR,
  fun m ρ _ => Cert.SumSmall.Gen.frame m ρ, fun m ρ _ => Cert.SumSmallIdeal.Gen.frame m ρ, SumSmall.frameR,
  fun m ρ _ => Cert.Small.Gen.frame m ρ, fun m ρ _ => Cert.SmallIdeal.Gen.frame m ρ, Small.frameR,
  trivial, Conv.equal,
  trivial, WInDx.equal,
  trivial, WInDw.equal,
  trivial, Mlp1Dx.equal,
  trivial, Mlp1Dw.equal,
  trivial, Mlp2Dx.equal,
  trivial, Mlp2Dw.equal,
  trivial, OutDx.equal,
  trivial, OutDw.equal,
  trivial, ProjDw.equal,
  trivial, ConvProjDx.equal,
  trivial, ProjDx.equal,
  trivial, WIn.equal,
  trivial, Proj.equal,
  trivial, OutFwd.equal,
  trivial, Mlp2Fwd.equal,
  trivial, Mlp1Fwd.equal,
  trivial, ModFwd.equal,
  trivial, ModDw.equal,
  trivial, AdamIn.equal,
  trivial, AdamProj.equal,
  trivial, AdamOut.equal,
  trivial, AdamMlp.equal,
  trivial, AdamMod.equal,
  trivial, AdamSmall.equal,
  trivial, LossHead.equal,
  trivial, Resid2Bwd.equal,
  trivial, Norm2Bwd.equal,
  trivial, MergeBwd.equal,
  trivial, ConvLnBwd.equal,
  trivial, Norm1Bwd.equal,
  trivial, NormFwd.equal,
  trivial, ConvLnFwd.equal,
  trivial, MergeFwd.equal,
  trivial, ConvFwd.equal,
  trivial, SumSmall.equal,
  trivial, Small.equal⟩

end Cert.Proof

end
